-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_RefDwUpIdeal (m : (ℓ : Loc Cert.RefDwUpIdeal.nD Cert.RefDwUpIdeal.τ Cert.RefDwUpIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_RefDwDownIdeal (m : (ℓ : Loc Cert.RefDwDownIdeal.nD Cert.RefDwDownIdeal.τ Cert.RefDwDownIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_RefDwGateIdeal (m : (ℓ : Loc Cert.RefDwGateIdeal.nD Cert.RefDwGateIdeal.τ Cert.RefDwGateIdeal.sig) → Buf (Elt Ideal) ℓ) : Prop :=
  True

def Pre_DwMid (m : (ℓ : Loc Cert.DwMid.nD Cert.DwMid.τ Cert.DwMid.sig) → Buf (Elt Bits) ℓ) : Prop :=
  True

def Pre_DwMidIdeal (m : (ℓ : Loc Cert.DwMidIdeal.nD Cert.DwMidIdeal.τ Cert.DwMidIdeal.sig) → Buf (Elt Ideal) ℓ) : Prop :=
  True

def Pre_RefDwMidIdeal (m : (ℓ : Loc Cert.RefDwMidIdeal.nD Cert.RefDwMidIdeal.τ Cert.RefDwMidIdeal.sig) → Buf (Elt Ideal) ℓ) : Prop :=
  True

def Pre_DwMerge (m : (ℓ : Loc Cert.DwMerge.nD Cert.DwMerge.τ Cert.DwMerge.sig) → Buf (Elt Bits) ℓ) : Prop :=
  True

def Pre_DwMergeIdeal (m : (ℓ : Loc Cert.DwMergeIdeal.nD Cert.DwMergeIdeal.τ Cert.DwMergeIdeal.sig) → Buf (Elt Ideal) ℓ) : Prop :=
  True

def Pre_RefDwMergeIdeal (m : (ℓ : Loc Cert.RefDwMergeIdeal.nD Cert.RefDwMergeIdeal.τ Cert.RefDwMergeIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_RefDwOutIdeal (m : (ℓ : Loc Cert.RefDwOutIdeal.nD Cert.RefDwOutIdeal.τ Cert.RefDwOutIdeal.sig) → Buf (Elt Ideal) ℓ) : Prop :=
  True

def Pre_DwSmall (m : (ℓ : Loc Cert.DwSmall.nD Cert.DwSmall.τ Cert.DwSmall.sig) → Buf (Elt Bits) ℓ) : Prop :=
  True

def Pre_DwSmallIdeal (m : (ℓ : Loc Cert.DwSmallIdeal.nD Cert.DwSmallIdeal.τ Cert.DwSmallIdeal.sig) → Buf (Elt Ideal) ℓ) : Prop :=
  True

def Pre_RefDwSmallIdeal (m : (ℓ : Loc Cert.RefDwSmallIdeal.nD Cert.RefDwSmallIdeal.τ Cert.RefDwSmallIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_RefUpIdeal (m : (ℓ : Loc Cert.RefUpIdeal.nD Cert.RefUpIdeal.τ Cert.RefUpIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RefDownIdeal (m : (ℓ : Loc Cert.RefDownIdeal.nD Cert.RefDownIdeal.τ Cert.RefDownIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_RefMixInIdeal (m : (ℓ : Loc Cert.RefMixInIdeal.nD Cert.RefMixInIdeal.τ Cert.RefMixInIdeal.sig) → Buf (Elt Ideal) ℓ) : Prop :=
  True

def Pre_MixProj (m : (ℓ : Loc Cert.MixProj.nD Cert.MixProj.τ Cert.MixProj.sig) → Buf (Elt Bits) ℓ) : Prop :=
  True

def Pre_MixProjIdeal (m : (ℓ : Loc Cert.MixProjIdeal.nD Cert.MixProjIdeal.τ Cert.MixProjIdeal.sig) → Buf (Elt Ideal) ℓ) : Prop :=
  True

def Pre_RefMixProjIdeal (m : (ℓ : Loc Cert.RefMixProjIdeal.nD Cert.RefMixProjIdeal.τ Cert.RefMixProjIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_RefMixOutIdeal (m : (ℓ : Loc Cert.RefMixOutIdeal.nD Cert.RefMixOutIdeal.τ Cert.RefMixOutIdeal.sig) → Buf (Elt Ideal) ℓ) : Prop :=
  True

def Pre_BackProj (m : (ℓ : Loc Cert.BackProj.nD Cert.BackProj.τ Cert.BackProj.sig) → Buf (Elt Bits) ℓ) : Prop :=
  True

def Pre_BackProjIdeal (m : (ℓ : Loc Cert.BackProjIdeal.nD Cert.BackProjIdeal.τ Cert.BackProjIdeal.sig) → Buf (Elt Ideal) ℓ) : Prop :=
  True

def Pre_RefBackProjIdeal (m : (ℓ : Loc Cert.RefBackProjIdeal.nD Cert.RefBackProjIdeal.τ Cert.RefBackProjIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreIdeal_finite_pre [hPre_finite_pre : Cert.Pre_finite_pre.Facts] (m : (ℓ : Loc Cert.PreIdeal.nD Cert.PreIdeal.τ Cert.PreIdeal.sig) → Buf (Elt Ideal) ℓ) : Prop :=
  ∀ c : Dev Cert.PreIdeal.nD,
    (Cert.Pre_finite_pre.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6))).1 = (fun _ => 1#1)
    ∧ (Cert.Pre_finite_pre.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6))).2.1 = (fun _ => 1#1)
    ∧ (Cert.Pre_finite_pre.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6))).2.2.1 = (fun _ => 1#1)
    ∧ (Cert.Pre_finite_pre.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6))).2.2.2.1 = (fun _ => 1#1)
    ∧ (Cert.Pre_finite_pre.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6))).2.2.2.2.1 = (fun _ => 1#1)
    ∧ (Cert.Pre_finite_pre.fn (F := Ideal) (m ((c.tc : Thread Cert.PreIdeal.nD Cert.PreIdeal.τ).loc Cert.PreIdeal.main_arg0)) (m ((c.tc : Thread Cert.PreIdeal.nD Cert.PreIdeal.τ).loc Cert.PreIdeal.main_arg1)) (m ((c.tc : Thread Cert.PreIdeal.nD Cert.PreIdeal.τ).loc Cert.PreIdeal.main_arg2)) (m ((c.tc : Thread Cert.PreIdeal.nD Cert.PreIdeal.τ).loc Cert.PreIdeal.main_arg3)) (m ((c.tc : Thread Cert.PreIdeal.nD Cert.PreIdeal.τ).loc Cert.PreIdeal.main_arg4)) (m ((c.tc : Thread Cert.PreIdeal.nD Cert.PreIdeal.τ).loc Cert.PreIdeal.main_arg5)) (m ((c.tc : Thread Cert.PreIdeal.nD Cert.PreIdeal.τ).loc Cert.PreIdeal.main_arg6))).2.2.2.2.2 = (fun _ => 1#1)

def Pre_RefPreIdeal (m : (ℓ : Loc Cert.RefPreIdeal.nD Cert.RefPreIdeal.τ Cert.RefPreIdeal.sig) → Buf (Elt Ideal) ℓ) : Prop :=
  True

def Pre_RefPreIdeal_finite_pre [hPre_finite_pre : Cert.Pre_finite_pre.Facts] (m : (ℓ : Loc Cert.RefPreIdeal.nD Cert.RefPreIdeal.τ Cert.RefPreIdeal.sig) → Buf (Elt Ideal) ℓ) : Prop :=
  ∀ c : Dev Cert.RefPreIdeal.nD,
    (Cert.Pre_finite_pre.fn (F := Ideal) (m ((c.tc : Thread Cert.RefPreIdeal.nD Cert.RefPreIdeal.τ).loc Cert.RefPreIdeal.main_arg0)) (m ((c.tc : Thread Cert.RefPreIdeal.nD Cert.RefPreIdeal.τ).loc Cert.RefPreIdeal.main_arg1)) (m ((c.tc : Thread Cert.RefPreIdeal.nD Cert.RefPreIdeal.τ).loc Cert.RefPreIdeal.main_arg2)) (m ((c.tc : Thread Cert.RefPreIdeal.nD Cert.RefPreIdeal.τ).loc Cert.RefPreIdeal.main_arg3)) (m ((c.tc : Thread Cert.RefPreIdeal.nD Cert.RefPreIdeal.τ).loc Cert.RefPreIdeal.main_arg4)) (m ((c.tc : Thread Cert.RefPreIdeal.nD Cert.RefPreIdeal.τ).loc Cert.RefPreIdeal.main_arg5)) (m ((c.tc : Thread Cert.RefPreIdeal.nD Cert.RefPreIdeal.τ).loc Cert.RefPreIdeal.main_arg6))).1 = (fun _ => 1#1)
    ∧ (Cert.Pre_finite_pre.fn (F := Ideal) (m ((c.tc : Thread Cert.RefPreIdeal.nD Cert.RefPreIdeal.τ).loc Cert.RefPreIdeal.main_arg0)) (m ((c.tc : Thread Cert.RefPreIdeal.nD Cert.RefPreIdeal.τ).loc Cert.RefPreIdeal.main_arg1)) (m ((c.tc : Thread Cert.RefPreIdeal.nD Cert.RefPreIdeal.τ).loc Cert.RefPreIdeal.main_arg2)) (m ((c.tc : Thread Cert.RefPreIdeal.nD Cert.RefPreIdeal.τ).loc Cert.RefPreIdeal.main_arg3)) (m ((c.tc : Thread Cert.RefPreIdeal.nD Cert.RefPreIdeal.τ).loc Cert.RefPreIdeal.main_arg4)) (m ((c.tc : Thread Cert.RefPreIdeal.nD Cert.RefPreIdeal.τ).loc Cert.RefPreIdeal.main_arg5)) (m ((c.tc : Thread Cert.RefPreIdeal.nD Cert.RefPreIdeal.τ).loc Cert.RefPreIdeal.main_arg6))).2.1 = (fun _ => 1#1)
    ∧ (Cert.Pre_finite_pre.fn (F := Ideal) (m ((c.tc : Thread Cert.RefPreIdeal.nD Cert.RefPreIdeal.τ).loc Cert.RefPreIdeal.main_arg0)) (m ((c.tc : Thread Cert.RefPreIdeal.nD Cert.RefPreIdeal.τ).loc Cert.RefPreIdeal.main_arg1)) (m ((c.tc : Thread Cert.RefPreIdeal.nD Cert.RefPreIdeal.τ).loc Cert.RefPreIdeal.main_arg2)) (m ((c.tc : Thread Cert.RefPreIdeal.nD Cert.RefPreIdeal.τ).loc Cert.RefPreIdeal.main_arg3)) (m ((c.tc : Thread Cert.RefPreIdeal.nD Cert.RefPreIdeal.τ).loc Cert.RefPreIdeal.main_arg4)) (m ((c.tc : Thread Cert.RefPreIdeal.nD Cert.RefPreIdeal.τ).loc Cert.RefPreIdeal.main_arg5)) (m ((c.tc : Thread Cert.RefPreIdeal.nD Cert.RefPreIdeal.τ).loc Cert.RefPreIdeal.main_arg6))).2.2.1 = (fun _ => 1#1)
    ∧ (Cert.Pre_finite_pre.fn (F := Ideal) (m ((c.tc : Thread Cert.RefPreIdeal.nD Cert.RefPreIdeal.τ).loc Cert.RefPreIdeal.main_arg0)) (m ((c.tc : Thread Cert.RefPreIdeal.nD Cert.RefPreIdeal.τ).loc Cert.RefPreIdeal.main_arg1)) (m ((c.tc : Thread Cert.RefPreIdeal.nD Cert.RefPreIdeal.τ).loc Cert.RefPreIdeal.main_arg2)) (m ((c.tc : Thread Cert.RefPreIdeal.nD Cert.RefPreIdeal.τ).loc Cert.RefPreIdeal.main_arg3)) (m ((c.tc : Thread Cert.RefPreIdeal.nD Cert.RefPreIdeal.τ).loc Cert.RefPreIdeal.main_arg4)) (m ((c.tc : Thread Cert.RefPreIdeal.nD Cert.RefPreIdeal.τ).loc Cert.RefPreIdeal.main_arg5)) (m ((c.tc : Thread Cert.RefPreIdeal.nD Cert.RefPreIdeal.τ).loc Cert.RefPreIdeal.main_arg6))).2.2.2.1 = (fun _ => 1#1)
    ∧ (Cert.Pre_finite_pre.fn (F := Ideal) (m ((c.tc : Thread Cert.RefPreIdeal.nD Cert.RefPreIdeal.τ).loc Cert.RefPreIdeal.main_arg0)) (m ((c.tc : Thread Cert.RefPreIdeal.nD Cert.RefPreIdeal.τ).loc Cert.RefPreIdeal.main_arg1)) (m ((c.tc : Thread Cert.RefPreIdeal.nD Cert.RefPreIdeal.τ).loc Cert.RefPreIdeal.main_arg2)) (m ((c.tc : Thread Cert.RefPreIdeal.nD Cert.RefPreIdeal.τ).loc Cert.RefPreIdeal.main_arg3)) (m ((c.tc : Thread Cert.RefPreIdeal.nD Cert.RefPreIdeal.τ).loc Cert.RefPreIdeal.main_arg4)) (m ((c.tc : Thread Cert.RefPreIdeal.nD Cert.RefPreIdeal.τ).loc Cert.RefPreIdeal.main_arg5)) (m ((c.tc : Thread Cert.RefPreIdeal.nD Cert.RefPreIdeal.τ).loc Cert.RefPreIdeal.main_arg6))).2.2.2.2.1 = (fun _ => 1#1)
    ∧ (Cert.Pre_finite_pre.fn (F := Ideal) (m ((c.tc : Thread Cert.RefPreIdeal.nD Cert.RefPreIdeal.τ).loc Cert.RefPreIdeal.main_arg0)) (m ((c.tc : Thread Cert.RefPreIdeal.nD Cert.RefPreIdeal.τ).loc Cert.RefPreIdeal.main_arg1)) (m ((c.tc : Thread Cert.RefPreIdeal.nD Cert.RefPreIdeal.τ).loc Cert.RefPreIdeal.main_arg2)) (m ((c.tc : Thread Cert.RefPreIdeal.nD Cert.RefPreIdeal.τ).loc Cert.RefPreIdeal.main_arg3)) (m ((c.tc : Thread Cert.RefPreIdeal.nD Cert.RefPreIdeal.τ).loc Cert.RefPreIdeal.main_arg4)) (m ((c.tc : Thread Cert.RefPreIdeal.nD Cert.RefPreIdeal.τ).loc Cert.RefPreIdeal.main_arg5)) (m ((c.tc : Thread Cert.RefPreIdeal.nD Cert.RefPreIdeal.τ).loc Cert.RefPreIdeal.main_arg6))).2.2.2.2.2 = (fun _ => 1#1)

def Pre_BackIn (m : (ℓ : Loc Cert.BackIn.nD Cert.BackIn.τ Cert.BackIn.sig) → Buf (Elt Bits) ℓ) : Prop :=
  True

def Pre_BackInIdeal (m : (ℓ : Loc Cert.BackInIdeal.nD Cert.BackInIdeal.τ Cert.BackInIdeal.sig) → Buf (Elt Ideal) ℓ) : Prop :=
  True

def Pre_BackInIdeal_finite_backin [hPre_finite_backin : Cert.Pre_finite_backin.Facts] (m : (ℓ : Loc Cert.BackInIdeal.nD Cert.BackInIdeal.τ Cert.BackInIdeal.sig) → Buf (Elt Ideal) ℓ) : Prop :=
  ∀ c : Dev Cert.BackInIdeal.nD,
    (Cert.Pre_finite_backin.fn (F := Ideal) (m ((c.tc : Thread Cert.BackInIdeal.nD Cert.BackInIdeal.τ).loc Cert.BackInIdeal.main_arg0)) (m ((c.tc : Thread Cert.BackInIdeal.nD Cert.BackInIdeal.τ).loc Cert.BackInIdeal.main_arg1)) (m ((c.tc : Thread Cert.BackInIdeal.nD Cert.BackInIdeal.τ).loc Cert.BackInIdeal.main_arg2)) (m ((c.tc : Thread Cert.BackInIdeal.nD Cert.BackInIdeal.τ).loc Cert.BackInIdeal.main_arg3)) (m ((c.tc : Thread Cert.BackInIdeal.nD Cert.BackInIdeal.τ).loc Cert.BackInIdeal.main_arg4)) (m ((c.tc : Thread Cert.BackInIdeal.nD Cert.BackInIdeal.τ).loc Cert.BackInIdeal.main_arg5)) (m ((c.tc : Thread Cert.BackInIdeal.nD Cert.BackInIdeal.τ).loc Cert.BackInIdeal.main_arg6)) (m ((c.tc : Thread Cert.BackInIdeal.nD Cert.BackInIdeal.τ).loc Cert.BackInIdeal.main_arg7))).1 = (fun _ => 1#1)
    ∧ (Cert.Pre_finite_backin.fn (F := Ideal) (m ((c.tc : Thread Cert.BackInIdeal.nD Cert.BackInIdeal.τ).loc Cert.BackInIdeal.main_arg0)) (m ((c.tc : Thread Cert.BackInIdeal.nD Cert.BackInIdeal.τ).loc Cert.BackInIdeal.main_arg1)) (m ((c.tc : Thread Cert.BackInIdeal.nD Cert.BackInIdeal.τ).loc Cert.BackInIdeal.main_arg2)) (m ((c.tc : Thread Cert.BackInIdeal.nD Cert.BackInIdeal.τ).loc Cert.BackInIdeal.main_arg3)) (m ((c.tc : Thread Cert.BackInIdeal.nD Cert.BackInIdeal.τ).loc Cert.BackInIdeal.main_arg4)) (m ((c.tc : Thread Cert.BackInIdeal.nD Cert.BackInIdeal.τ).loc Cert.BackInIdeal.main_arg5)) (m ((c.tc : Thread Cert.BackInIdeal.nD Cert.BackInIdeal.τ).loc Cert.BackInIdeal.main_arg6)) (m ((c.tc : Thread Cert.BackInIdeal.nD Cert.BackInIdeal.τ).loc Cert.BackInIdeal.main_arg7))).2.1 = (fun _ => 1#1)
    ∧ (Cert.Pre_finite_backin.fn (F := Ideal) (m ((c.tc : Thread Cert.BackInIdeal.nD Cert.BackInIdeal.τ).loc Cert.BackInIdeal.main_arg0)) (m ((c.tc : Thread Cert.BackInIdeal.nD Cert.BackInIdeal.τ).loc Cert.BackInIdeal.main_arg1)) (m ((c.tc : Thread Cert.BackInIdeal.nD Cert.BackInIdeal.τ).loc Cert.BackInIdeal.main_arg2)) (m ((c.tc : Thread Cert.BackInIdeal.nD Cert.BackInIdeal.τ).loc Cert.BackInIdeal.main_arg3)) (m ((c.tc : Thread Cert.BackInIdeal.nD Cert.BackInIdeal.τ).loc Cert.BackInIdeal.main_arg4)) (m ((c.tc : Thread Cert.BackInIdeal.nD Cert.BackInIdeal.τ).loc Cert.BackInIdeal.main_arg5)) (m ((c.tc : Thread Cert.BackInIdeal.nD Cert.BackInIdeal.τ).loc Cert.BackInIdeal.main_arg6)) (m ((c.tc : Thread Cert.BackInIdeal.nD Cert.BackInIdeal.τ).loc Cert.BackInIdeal.main_arg7))).2.2.1 = (fun _ => 1#1)
    ∧ (Cert.Pre_finite_backin.fn (F := Ideal) (m ((c.tc : Thread Cert.BackInIdeal.nD Cert.BackInIdeal.τ).loc Cert.BackInIdeal.main_arg0)) (m ((c.tc : Thread Cert.BackInIdeal.nD Cert.BackInIdeal.τ).loc Cert.BackInIdeal.main_arg1)) (m ((c.tc : Thread Cert.BackInIdeal.nD Cert.BackInIdeal.τ).loc Cert.BackInIdeal.main_arg2)) (m ((c.tc : Thread Cert.BackInIdeal.nD Cert.BackInIdeal.τ).loc Cert.BackInIdeal.main_arg3)) (m ((c.tc : Thread Cert.BackInIdeal.nD Cert.BackInIdeal.τ).loc Cert.BackInIdeal.main_arg4)) (m ((c.tc : Thread Cert.BackInIdeal.nD Cert.BackInIdeal.τ).loc Cert.BackInIdeal.main_arg5)) (m ((c.tc : Thread Cert.BackInIdeal.nD Cert.BackInIdeal.τ).loc Cert.BackInIdeal.main_arg6)) (m ((c.tc : Thread Cert.BackInIdeal.nD Cert.BackInIdeal.τ).loc Cert.BackInIdeal.main_arg7))).2.2.2.1 = (fun _ => 1#1)
    ∧ (Cert.Pre_finite_backin.fn (F := Ideal) (m ((c.tc : Thread Cert.BackInIdeal.nD Cert.BackInIdeal.τ).loc Cert.BackInIdeal.main_arg0)) (m ((c.tc : Thread Cert.BackInIdeal.nD Cert.BackInIdeal.τ).loc Cert.BackInIdeal.main_arg1)) (m ((c.tc : Thread Cert.BackInIdeal.nD Cert.BackInIdeal.τ).loc Cert.BackInIdeal.main_arg2)) (m ((c.tc : Thread Cert.BackInIdeal.nD Cert.BackInIdeal.τ).loc Cert.BackInIdeal.main_arg3)) (m ((c.tc : Thread Cert.BackInIdeal.nD Cert.BackInIdeal.τ).loc Cert.BackInIdeal.main_arg4)) (m ((c.tc : Thread Cert.BackInIdeal.nD Cert.BackInIdeal.τ).loc Cert.BackInIdeal.main_arg5)) (m ((c.tc : Thread Cert.BackInIdeal.nD Cert.BackInIdeal.τ).loc Cert.BackInIdeal.main_arg6)) (m ((c.tc : Thread Cert.BackInIdeal.nD Cert.BackInIdeal.τ).loc Cert.BackInIdeal.main_arg7))).2.2.2.2.1 = (fun _ => 1#1)
    ∧ (Cert.Pre_finite_backin.fn (F := Ideal) (m ((c.tc : Thread Cert.BackInIdeal.nD Cert.BackInIdeal.τ).loc Cert.BackInIdeal.main_arg0)) (m ((c.tc : Thread Cert.BackInIdeal.nD Cert.BackInIdeal.τ).loc Cert.BackInIdeal.main_arg1)) (m ((c.tc : Thread Cert.BackInIdeal.nD Cert.BackInIdeal.τ).loc Cert.BackInIdeal.main_arg2)) (m ((c.tc : Thread Cert.BackInIdeal.nD Cert.BackInIdeal.τ).loc Cert.BackInIdeal.main_arg3)) (m ((c.tc : Thread Cert.BackInIdeal.nD Cert.BackInIdeal.τ).loc Cert.BackInIdeal.main_arg4)) (m ((c.tc : Thread Cert.BackInIdeal.nD Cert.BackInIdeal.τ).loc Cert.BackInIdeal.main_arg5)) (m ((c.tc : Thread Cert.BackInIdeal.nD Cert.BackInIdeal.τ).loc Cert.BackInIdeal.main_arg6)) (m ((c.tc : Thread Cert.BackInIdeal.nD Cert.BackInIdeal.τ).loc Cert.BackInIdeal.main_arg7))).2.2.2.2.2.1 = (fun _ => 1#1)
    ∧ (Cert.Pre_finite_backin.fn (F := Ideal) (m ((c.tc : Thread Cert.BackInIdeal.nD Cert.BackInIdeal.τ).loc Cert.BackInIdeal.main_arg0)) (m ((c.tc : Thread Cert.BackInIdeal.nD Cert.BackInIdeal.τ).loc Cert.BackInIdeal.main_arg1)) (m ((c.tc : Thread Cert.BackInIdeal.nD Cert.BackInIdeal.τ).loc Cert.BackInIdeal.main_arg2)) (m ((c.tc : Thread Cert.BackInIdeal.nD Cert.BackInIdeal.τ).loc Cert.BackInIdeal.main_arg3)) (m ((c.tc : Thread Cert.BackInIdeal.nD Cert.BackInIdeal.τ).loc Cert.BackInIdeal.main_arg4)) (m ((c.tc : Thread Cert.BackInIdeal.nD Cert.BackInIdeal.τ).loc Cert.BackInIdeal.main_arg5)) (m ((c.tc : Thread Cert.BackInIdeal.nD Cert.BackInIdeal.τ).loc Cert.BackInIdeal.main_arg6)) (m ((c.tc : Thread Cert.BackInIdeal.nD Cert.BackInIdeal.τ).loc Cert.BackInIdeal.main_arg7))).2.2.2.2.2.2 = (fun _ => 1#1)

def Pre_RefBackInIdeal (m : (ℓ : Loc Cert.RefBackInIdeal.nD Cert.RefBackInIdeal.τ Cert.RefBackInIdeal.sig) → Buf (Elt Ideal) ℓ) : Prop :=
  True

def Pre_RefBackInIdeal_finite_backin [hPre_finite_backin : Cert.Pre_finite_backin.Facts] (m : (ℓ : Loc Cert.RefBackInIdeal.nD Cert.RefBackInIdeal.τ Cert.RefBackInIdeal.sig) → Buf (Elt Ideal) ℓ) : Prop :=
  ∀ c : Dev Cert.RefBackInIdeal.nD,
    (Cert.Pre_finite_backin.fn (F := Ideal) (m ((c.tc : Thread Cert.RefBackInIdeal.nD Cert.RefBackInIdeal.τ).loc Cert.RefBackInIdeal.main_arg0)) (m ((c.tc : Thread Cert.RefBackInIdeal.nD Cert.RefBackInIdeal.τ).loc Cert.RefBackInIdeal.main_arg1)) (m ((c.tc : Thread Cert.RefBackInIdeal.nD Cert.RefBackInIdeal.τ).loc Cert.RefBackInIdeal.main_arg2)) (m ((c.tc : Thread Cert.RefBackInIdeal.nD Cert.RefBackInIdeal.τ).loc Cert.RefBackInIdeal.main_arg3)) (m ((c.tc : Thread Cert.RefBackInIdeal.nD Cert.RefBackInIdeal.τ).loc Cert.RefBackInIdeal.main_arg4)) (m ((c.tc : Thread Cert.RefBackInIdeal.nD Cert.RefBackInIdeal.τ).loc Cert.RefBackInIdeal.main_arg5)) (m ((c.tc : Thread Cert.RefBackInIdeal.nD Cert.RefBackInIdeal.τ).loc Cert.RefBackInIdeal.main_arg6)) (m ((c.tc : Thread Cert.RefBackInIdeal.nD Cert.RefBackInIdeal.τ).loc Cert.RefBackInIdeal.main_arg7))).1 = (fun _ => 1#1)
    ∧ (Cert.Pre_finite_backin.fn (F := Ideal) (m ((c.tc : Thread Cert.RefBackInIdeal.nD Cert.RefBackInIdeal.τ).loc Cert.RefBackInIdeal.main_arg0)) (m ((c.tc : Thread Cert.RefBackInIdeal.nD Cert.RefBackInIdeal.τ).loc Cert.RefBackInIdeal.main_arg1)) (m ((c.tc : Thread Cert.RefBackInIdeal.nD Cert.RefBackInIdeal.τ).loc Cert.RefBackInIdeal.main_arg2)) (m ((c.tc : Thread Cert.RefBackInIdeal.nD Cert.RefBackInIdeal.τ).loc Cert.RefBackInIdeal.main_arg3)) (m ((c.tc : Thread Cert.RefBackInIdeal.nD Cert.RefBackInIdeal.τ).loc Cert.RefBackInIdeal.main_arg4)) (m ((c.tc : Thread Cert.RefBackInIdeal.nD Cert.RefBackInIdeal.τ).loc Cert.RefBackInIdeal.main_arg5)) (m ((c.tc : Thread Cert.RefBackInIdeal.nD Cert.RefBackInIdeal.τ).loc Cert.RefBackInIdeal.main_arg6)) (m ((c.tc : Thread Cert.RefBackInIdeal.nD Cert.RefBackInIdeal.τ).loc Cert.RefBackInIdeal.main_arg7))).2.1 = (fun _ => 1#1)
    ∧ (Cert.Pre_finite_backin.fn (F := Ideal) (m ((c.tc : Thread Cert.RefBackInIdeal.nD Cert.RefBackInIdeal.τ).loc Cert.RefBackInIdeal.main_arg0)) (m ((c.tc : Thread Cert.RefBackInIdeal.nD Cert.RefBackInIdeal.τ).loc Cert.RefBackInIdeal.main_arg1)) (m ((c.tc : Thread Cert.RefBackInIdeal.nD Cert.RefBackInIdeal.τ).loc Cert.RefBackInIdeal.main_arg2)) (m ((c.tc : Thread Cert.RefBackInIdeal.nD Cert.RefBackInIdeal.τ).loc Cert.RefBackInIdeal.main_arg3)) (m ((c.tc : Thread Cert.RefBackInIdeal.nD Cert.RefBackInIdeal.τ).loc Cert.RefBackInIdeal.main_arg4)) (m ((c.tc : Thread Cert.RefBackInIdeal.nD Cert.RefBackInIdeal.τ).loc Cert.RefBackInIdeal.main_arg5)) (m ((c.tc : Thread Cert.RefBackInIdeal.nD Cert.RefBackInIdeal.τ).loc Cert.RefBackInIdeal.main_arg6)) (m ((c.tc : Thread Cert.RefBackInIdeal.nD Cert.RefBackInIdeal.τ).loc Cert.RefBackInIdeal.main_arg7))).2.2.1 = (fun _ => 1#1)
    ∧ (Cert.Pre_finite_backin.fn (F := Ideal) (m ((c.tc : Thread Cert.RefBackInIdeal.nD Cert.RefBackInIdeal.τ).loc Cert.RefBackInIdeal.main_arg0)) (m ((c.tc : Thread Cert.RefBackInIdeal.nD Cert.RefBackInIdeal.τ).loc Cert.RefBackInIdeal.main_arg1)) (m ((c.tc : Thread Cert.RefBackInIdeal.nD Cert.RefBackInIdeal.τ).loc Cert.RefBackInIdeal.main_arg2)) (m ((c.tc : Thread Cert.RefBackInIdeal.nD Cert.RefBackInIdeal.τ).loc Cert.RefBackInIdeal.main_arg3)) (m ((c.tc : Thread Cert.RefBackInIdeal.nD Cert.RefBackInIdeal.τ).loc Cert.RefBackInIdeal.main_arg4)) (m ((c.tc : Thread Cert.RefBackInIdeal.nD Cert.RefBackInIdeal.τ).loc Cert.RefBackInIdeal.main_arg5)) (m ((c.tc : Thread Cert.RefBackInIdeal.nD Cert.RefBackInIdeal.τ).loc Cert.RefBackInIdeal.main_arg6)) (m ((c.tc : Thread Cert.RefBackInIdeal.nD Cert.RefBackInIdeal.τ).loc Cert.RefBackInIdeal.main_arg7))).2.2.2.1 = (fun _ => 1#1)
    ∧ (Cert.Pre_finite_backin.fn (F := Ideal) (m ((c.tc : Thread Cert.RefBackInIdeal.nD Cert.RefBackInIdeal.τ).loc Cert.RefBackInIdeal.main_arg0)) (m ((c.tc : Thread Cert.RefBackInIdeal.nD Cert.RefBackInIdeal.τ).loc Cert.RefBackInIdeal.main_arg1)) (m ((c.tc : Thread Cert.RefBackInIdeal.nD Cert.RefBackInIdeal.τ).loc Cert.RefBackInIdeal.main_arg2)) (m ((c.tc : Thread Cert.RefBackInIdeal.nD Cert.RefBackInIdeal.τ).loc Cert.RefBackInIdeal.main_arg3)) (m ((c.tc : Thread Cert.RefBackInIdeal.nD Cert.RefBackInIdeal.τ).loc Cert.RefBackInIdeal.main_arg4)) (m ((c.tc : Thread Cert.RefBackInIdeal.nD Cert.RefBackInIdeal.τ).loc Cert.RefBackInIdeal.main_arg5)) (m ((c.tc : Thread Cert.RefBackInIdeal.nD Cert.RefBackInIdeal.τ).loc Cert.RefBackInIdeal.main_arg6)) (m ((c.tc : Thread Cert.RefBackInIdeal.nD Cert.RefBackInIdeal.τ).loc Cert.RefBackInIdeal.main_arg7))).2.2.2.2.1 = (fun _ => 1#1)
    ∧ (Cert.Pre_finite_backin.fn (F := Ideal) (m ((c.tc : Thread Cert.RefBackInIdeal.nD Cert.RefBackInIdeal.τ).loc Cert.RefBackInIdeal.main_arg0)) (m ((c.tc : Thread Cert.RefBackInIdeal.nD Cert.RefBackInIdeal.τ).loc Cert.RefBackInIdeal.main_arg1)) (m ((c.tc : Thread Cert.RefBackInIdeal.nD Cert.RefBackInIdeal.τ).loc Cert.RefBackInIdeal.main_arg2)) (m ((c.tc : Thread Cert.RefBackInIdeal.nD Cert.RefBackInIdeal.τ).loc Cert.RefBackInIdeal.main_arg3)) (m ((c.tc : Thread Cert.RefBackInIdeal.nD Cert.RefBackInIdeal.τ).loc Cert.RefBackInIdeal.main_arg4)) (m ((c.tc : Thread Cert.RefBackInIdeal.nD Cert.RefBackInIdeal.τ).loc Cert.RefBackInIdeal.main_arg5)) (m ((c.tc : Thread Cert.RefBackInIdeal.nD Cert.RefBackInIdeal.τ).loc Cert.RefBackInIdeal.main_arg6)) (m ((c.tc : Thread Cert.RefBackInIdeal.nD Cert.RefBackInIdeal.τ).loc Cert.RefBackInIdeal.main_arg7))).2.2.2.2.2.1 = (fun _ => 1#1)
    ∧ (Cert.Pre_finite_backin.fn (F := Ideal) (m ((c.tc : Thread Cert.RefBackInIdeal.nD Cert.RefBackInIdeal.τ).loc Cert.RefBackInIdeal.main_arg0)) (m ((c.tc : Thread Cert.RefBackInIdeal.nD Cert.RefBackInIdeal.τ).loc Cert.RefBackInIdeal.main_arg1)) (m ((c.tc : Thread Cert.RefBackInIdeal.nD Cert.RefBackInIdeal.τ).loc Cert.RefBackInIdeal.main_arg2)) (m ((c.tc : Thread Cert.RefBackInIdeal.nD Cert.RefBackInIdeal.τ).loc Cert.RefBackInIdeal.main_arg3)) (m ((c.tc : Thread Cert.RefBackInIdeal.nD Cert.RefBackInIdeal.τ).loc Cert.RefBackInIdeal.main_arg4)) (m ((c.tc : Thread Cert.RefBackInIdeal.nD Cert.RefBackInIdeal.τ).loc Cert.RefBackInIdeal.main_arg5)) (m ((c.tc : Thread Cert.RefBackInIdeal.nD Cert.RefBackInIdeal.τ).loc Cert.RefBackInIdeal.main_arg6)) (m ((c.tc : Thread Cert.RefBackInIdeal.nD Cert.RefBackInIdeal.τ).loc Cert.RefBackInIdeal.main_arg7))).2.2.2.2.2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_finite_post [hPre_finite_post : Cert.Pre_finite_post.Facts] (m : (ℓ : Loc Cert.PostIdeal.nD Cert.PostIdeal.τ Cert.PostIdeal.sig) → Buf (Elt Ideal) ℓ) : Prop :=
  ∀ c : Dev Cert.PostIdeal.nD,
    (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4))).1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4))).2.1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4))).2.2.1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4))).2.2.2.1 = (fun _ => 1#1)
    ∧ (Cert.Pre_finite_post.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4))).2.2.2.2 = (fun _ => 1#1)

def Pre_RefPostIdeal (m : (ℓ : Loc Cert.RefPostIdeal.nD Cert.RefPostIdeal.τ Cert.RefPostIdeal.sig) → Buf (Elt Ideal) ℓ) : Prop :=
  True

def Pre_RefPostIdeal_finite_post [hPre_finite_post : Cert.Pre_finite_post.Facts] (m : (ℓ : Loc Cert.RefPostIdeal.nD Cert.RefPostIdeal.τ Cert.RefPostIdeal.sig) → Buf (Elt Ideal) ℓ) : Prop :=
  ∀ c : Dev Cert.RefPostIdeal.nD,
    (Cert.Pre_finite_post.fn (F := Ideal) (m ((c.tc : Thread Cert.RefPostIdeal.nD Cert.RefPostIdeal.τ).loc Cert.RefPostIdeal.main_arg0)) (m ((c.tc : Thread Cert.RefPostIdeal.nD Cert.RefPostIdeal.τ).loc Cert.RefPostIdeal.main_arg1)) (m ((c.tc : Thread Cert.RefPostIdeal.nD Cert.RefPostIdeal.τ).loc Cert.RefPostIdeal.main_arg2)) (m ((c.tc : Thread Cert.RefPostIdeal.nD Cert.RefPostIdeal.τ).loc Cert.RefPostIdeal.main_arg3)) (m ((c.tc : Thread Cert.RefPostIdeal.nD Cert.RefPostIdeal.τ).loc Cert.RefPostIdeal.main_arg4))).1 = (fun _ => 1#1)
    ∧ (Cert.Pre_finite_post.fn (F := Ideal) (m ((c.tc : Thread Cert.RefPostIdeal.nD Cert.RefPostIdeal.τ).loc Cert.RefPostIdeal.main_arg0)) (m ((c.tc : Thread Cert.RefPostIdeal.nD Cert.RefPostIdeal.τ).loc Cert.RefPostIdeal.main_arg1)) (m ((c.tc : Thread Cert.RefPostIdeal.nD Cert.RefPostIdeal.τ).loc Cert.RefPostIdeal.main_arg2)) (m ((c.tc : Thread Cert.RefPostIdeal.nD Cert.RefPostIdeal.τ).loc Cert.RefPostIdeal.main_arg3)) (m ((c.tc : Thread Cert.RefPostIdeal.nD Cert.RefPostIdeal.τ).loc Cert.RefPostIdeal.main_arg4))).2.1 = (fun _ => 1#1)
    ∧ (Cert.Pre_finite_post.fn (F := Ideal) (m ((c.tc : Thread Cert.RefPostIdeal.nD Cert.RefPostIdeal.τ).loc Cert.RefPostIdeal.main_arg0)) (m ((c.tc : Thread Cert.RefPostIdeal.nD Cert.RefPostIdeal.τ).loc Cert.RefPostIdeal.main_arg1)) (m ((c.tc : Thread Cert.RefPostIdeal.nD Cert.RefPostIdeal.τ).loc Cert.RefPostIdeal.main_arg2)) (m ((c.tc : Thread Cert.RefPostIdeal.nD Cert.RefPostIdeal.τ).loc Cert.RefPostIdeal.main_arg3)) (m ((c.tc : Thread Cert.RefPostIdeal.nD Cert.RefPostIdeal.τ).loc Cert.RefPostIdeal.main_arg4))).2.2.1 = (fun _ => 1#1)
    ∧ (Cert.Pre_finite_post.fn (F := Ideal) (m ((c.tc : Thread Cert.RefPostIdeal.nD Cert.RefPostIdeal.τ).loc Cert.RefPostIdeal.main_arg0)) (m ((c.tc : Thread Cert.RefPostIdeal.nD Cert.RefPostIdeal.τ).loc Cert.RefPostIdeal.main_arg1)) (m ((c.tc : Thread Cert.RefPostIdeal.nD Cert.RefPostIdeal.τ).loc Cert.RefPostIdeal.main_arg2)) (m ((c.tc : Thread Cert.RefPostIdeal.nD Cert.RefPostIdeal.τ).loc Cert.RefPostIdeal.main_arg3)) (m ((c.tc : Thread Cert.RefPostIdeal.nD Cert.RefPostIdeal.τ).loc Cert.RefPostIdeal.main_arg4))).2.2.2.1 = (fun _ => 1#1)
    ∧ (Cert.Pre_finite_post.fn (F := Ideal) (m ((c.tc : Thread Cert.RefPostIdeal.nD Cert.RefPostIdeal.τ).loc Cert.RefPostIdeal.main_arg0)) (m ((c.tc : Thread Cert.RefPostIdeal.nD Cert.RefPostIdeal.τ).loc Cert.RefPostIdeal.main_arg1)) (m ((c.tc : Thread Cert.RefPostIdeal.nD Cert.RefPostIdeal.τ).loc Cert.RefPostIdeal.main_arg2)) (m ((c.tc : Thread Cert.RefPostIdeal.nD Cert.RefPostIdeal.τ).loc Cert.RefPostIdeal.main_arg3)) (m ((c.tc : Thread Cert.RefPostIdeal.nD Cert.RefPostIdeal.τ).loc Cert.RefPostIdeal.main_arg4))).2.2.2.2 = (fun _ => 1#1)

def Pre_MixBack (m : (ℓ : Loc Cert.MixBack.nD Cert.MixBack.τ Cert.MixBack.sig) → Buf (Elt Bits) ℓ) : Prop :=
  True

def Pre_MixBackIdeal (m : (ℓ : Loc Cert.MixBackIdeal.nD Cert.MixBackIdeal.τ Cert.MixBackIdeal.sig) → Buf (Elt Ideal) ℓ) : Prop :=
  True

def Pre_MixBackIdeal_finite_mixback [hPre_finite_mixback : Cert.Pre_finite_mixback.Facts] (m : (ℓ : Loc Cert.MixBackIdeal.nD Cert.MixBackIdeal.τ Cert.MixBackIdeal.sig) → Buf (Elt Ideal) ℓ) : Prop :=
  ∀ c : Dev Cert.MixBackIdeal.nD,
    (Cert.Pre_finite_mixback.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4)) (m ((c.tc : Thread Cert.MixBackIdeal.nD Cert.MixBackIdeal.τ).loc Cert.MixBackIdeal.main_arg5)) (m ((c.tc : Thread Cert.MixBackIdeal.nD Cert.MixBackIdeal.τ).loc Cert.MixBackIdeal.main_arg6)) (m ((c.tc : Thread Cert.MixBackIdeal.nD Cert.MixBackIdeal.τ).loc Cert.MixBackIdeal.main_arg7))).1 = (fun _ => 1#1)
    ∧ (Cert.Pre_finite_mixback.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4)) (m ((c.tc : Thread Cert.MixBackIdeal.nD Cert.MixBackIdeal.τ).loc Cert.MixBackIdeal.main_arg5)) (m ((c.tc : Thread Cert.MixBackIdeal.nD Cert.MixBackIdeal.τ).loc Cert.MixBackIdeal.main_arg6)) (m ((c.tc : Thread Cert.MixBackIdeal.nD Cert.MixBackIdeal.τ).loc Cert.MixBackIdeal.main_arg7))).2.1 = (fun _ => 1#1)
    ∧ (Cert.Pre_finite_mixback.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4)) (m ((c.tc : Thread Cert.MixBackIdeal.nD Cert.MixBackIdeal.τ).loc Cert.MixBackIdeal.main_arg5)) (m ((c.tc : Thread Cert.MixBackIdeal.nD Cert.MixBackIdeal.τ).loc Cert.MixBackIdeal.main_arg6)) (m ((c.tc : Thread Cert.MixBackIdeal.nD Cert.MixBackIdeal.τ).loc Cert.MixBackIdeal.main_arg7))).2.2 = (fun _ => 1#1)

def Pre_RefMixBackIdeal (m : (ℓ : Loc Cert.RefMixBackIdeal.nD Cert.RefMixBackIdeal.τ Cert.RefMixBackIdeal.sig) → Buf (Elt Ideal) ℓ) : Prop :=
  True

def Pre_RefMixBackIdeal_finite_mixback [hPre_finite_mixback : Cert.Pre_finite_mixback.Facts] (m : (ℓ : Loc Cert.RefMixBackIdeal.nD Cert.RefMixBackIdeal.τ Cert.RefMixBackIdeal.sig) → Buf (Elt Ideal) ℓ) : Prop :=
  ∀ c : Dev Cert.RefMixBackIdeal.nD,
    (Cert.Pre_finite_mixback.fn (F := Ideal) (m ((c.tc : Thread Cert.RefMixBackIdeal.nD Cert.RefMixBackIdeal.τ).loc Cert.RefMixBackIdeal.main_arg0)) (m ((c.tc : Thread Cert.RefMixBackIdeal.nD Cert.RefMixBackIdeal.τ).loc Cert.RefMixBackIdeal.main_arg1)) (m ((c.tc : Thread Cert.RefMixBackIdeal.nD Cert.RefMixBackIdeal.τ).loc Cert.RefMixBackIdeal.main_arg2)) (m ((c.tc : Thread Cert.RefMixBackIdeal.nD Cert.RefMixBackIdeal.τ).loc Cert.RefMixBackIdeal.main_arg3)) (m ((c.tc : Thread Cert.RefMixBackIdeal.nD Cert.RefMixBackIdeal.τ).loc Cert.RefMixBackIdeal.main_arg4)) (m ((c.tc : Thread Cert.RefMixBackIdeal.nD Cert.RefMixBackIdeal.τ).loc Cert.RefMixBackIdeal.main_arg5)) (m ((c.tc : Thread Cert.RefMixBackIdeal.nD Cert.RefMixBackIdeal.τ).loc Cert.RefMixBackIdeal.main_arg6)) (m ((c.tc : Thread Cert.RefMixBackIdeal.nD Cert.RefMixBackIdeal.τ).loc Cert.RefMixBackIdeal.main_arg7))).1 = (fun _ => 1#1)
    ∧ (Cert.Pre_finite_mixback.fn (F := Ideal) (m ((c.tc : Thread Cert.RefMixBackIdeal.nD Cert.RefMixBackIdeal.τ).loc Cert.RefMixBackIdeal.main_arg0)) (m ((c.tc : Thread Cert.RefMixBackIdeal.nD Cert.RefMixBackIdeal.τ).loc Cert.RefMixBackIdeal.main_arg1)) (m ((c.tc : Thread Cert.RefMixBackIdeal.nD Cert.RefMixBackIdeal.τ).loc Cert.RefMixBackIdeal.main_arg2)) (m ((c.tc : Thread Cert.RefMixBackIdeal.nD Cert.RefMixBackIdeal.τ).loc Cert.RefMixBackIdeal.main_arg3)) (m ((c.tc : Thread Cert.RefMixBackIdeal.nD Cert.RefMixBackIdeal.τ).loc Cert.RefMixBackIdeal.main_arg4)) (m ((c.tc : Thread Cert.RefMixBackIdeal.nD Cert.RefMixBackIdeal.τ).loc Cert.RefMixBackIdeal.main_arg5)) (m ((c.tc : Thread Cert.RefMixBackIdeal.nD Cert.RefMixBackIdeal.τ).loc Cert.RefMixBackIdeal.main_arg6)) (m ((c.tc : Thread Cert.RefMixBackIdeal.nD Cert.RefMixBackIdeal.τ).loc Cert.RefMixBackIdeal.main_arg7))).2.1 = (fun _ => 1#1)
    ∧ (Cert.Pre_finite_mixback.fn (F := Ideal) (m ((c.tc : Thread Cert.RefMixBackIdeal.nD Cert.RefMixBackIdeal.τ).loc Cert.RefMixBackIdeal.main_arg0)) (m ((c.tc : Thread Cert.RefMixBackIdeal.nD Cert.RefMixBackIdeal.τ).loc Cert.RefMixBackIdeal.main_arg1)) (m ((c.tc : Thread Cert.RefMixBackIdeal.nD Cert.RefMixBackIdeal.τ).loc Cert.RefMixBackIdeal.main_arg2)) (m ((c.tc : Thread Cert.RefMixBackIdeal.nD Cert.RefMixBackIdeal.τ).loc Cert.RefMixBackIdeal.main_arg3)) (m ((c.tc : Thread Cert.RefMixBackIdeal.nD Cert.RefMixBackIdeal.τ).loc Cert.RefMixBackIdeal.main_arg4)) (m ((c.tc : Thread Cert.RefMixBackIdeal.nD Cert.RefMixBackIdeal.τ).loc Cert.RefMixBackIdeal.main_arg5)) (m ((c.tc : Thread Cert.RefMixBackIdeal.nD Cert.RefMixBackIdeal.τ).loc Cert.RefMixBackIdeal.main_arg6)) (m ((c.tc : Thread Cert.RefMixBackIdeal.nD Cert.RefMixBackIdeal.τ).loc Cert.RefMixBackIdeal.main_arg7))).2.2 = (fun _ => 1#1)

def Pre_UpdUp (m : (ℓ : Loc Cert.UpdUp.nD Cert.UpdUp.τ Cert.UpdUp.sig) → Buf (Elt Bits) ℓ) : Prop :=
  True

def Pre_UpdUpIdeal (m : (ℓ : Loc Cert.UpdUpIdeal.nD Cert.UpdUpIdeal.τ Cert.UpdUpIdeal.sig) → Buf (Elt Ideal) ℓ) : Prop :=
  True

def Pre_RefUpdUpIdeal (m : (ℓ : Loc Cert.RefUpdUpIdeal.nD Cert.RefUpdUpIdeal.τ Cert.RefUpdUpIdeal.sig) → Buf (Elt Ideal) ℓ) : Prop :=
  True

def Pre_UpdDown (m : (ℓ : Loc Cert.UpdDown.nD Cert.UpdDown.τ Cert.UpdDown.sig) → Buf (Elt Bits) ℓ) : Prop :=
  True

def Pre_UpdDownIdeal (m : (ℓ : Loc Cert.UpdDownIdeal.nD Cert.UpdDownIdeal.τ Cert.UpdDownIdeal.sig) → Buf (Elt Ideal) ℓ) : Prop :=
  True

def Pre_RefUpdDownIdeal (m : (ℓ : Loc Cert.RefUpdDownIdeal.nD Cert.RefUpdDownIdeal.τ Cert.RefUpdDownIdeal.sig) → Buf (Elt Ideal) ℓ) : Prop :=
  True

def Pre_UpdIn (m : (ℓ : Loc Cert.UpdIn.nD Cert.UpdIn.τ Cert.UpdIn.sig) → Buf (Elt Bits) ℓ) : Prop :=
  True

def Pre_UpdInIdeal (m : (ℓ : Loc Cert.UpdInIdeal.nD Cert.UpdInIdeal.τ Cert.UpdInIdeal.sig) → Buf (Elt Ideal) ℓ) : Prop :=
  True

def Pre_RefUpdInIdeal (m : (ℓ : Loc Cert.RefUpdInIdeal.nD Cert.RefUpdInIdeal.τ Cert.RefUpdInIdeal.sig) → Buf (Elt Ideal) ℓ) : Prop :=
  True

def Pre_UpdGate (m : (ℓ : Loc Cert.UpdGate.nD Cert.UpdGate.τ Cert.UpdGate.sig) → Buf (Elt Bits) ℓ) : Prop :=
  True

def Pre_UpdGateIdeal (m : (ℓ : Loc Cert.UpdGateIdeal.nD Cert.UpdGateIdeal.τ Cert.UpdGateIdeal.sig) → Buf (Elt Ideal) ℓ) : Prop :=
  True

def Pre_RefUpdGateIdeal (m : (ℓ : Loc Cert.RefUpdGateIdeal.nD Cert.RefUpdGateIdeal.τ Cert.RefUpdGateIdeal.sig) → Buf (Elt Ideal) ℓ) : Prop :=
  True

def Pre_UpdOut (m : (ℓ : Loc Cert.UpdOut.nD Cert.UpdOut.τ Cert.UpdOut.sig) → Buf (Elt Bits) ℓ) : Prop :=
  True

def Pre_UpdOutIdeal (m : (ℓ : Loc Cert.UpdOutIdeal.nD Cert.UpdOutIdeal.τ Cert.UpdOutIdeal.sig) → Buf (Elt Ideal) ℓ) : Prop :=
  True

def Pre_RefUpdOutIdeal (m : (ℓ : Loc Cert.RefUpdOutIdeal.nD Cert.RefUpdOutIdeal.τ Cert.RefUpdOutIdeal.sig) → Buf (Elt Ideal) ℓ) : Prop :=
  True

def Pre_UpdBranch (m : (ℓ : Loc Cert.UpdBranch.nD Cert.UpdBranch.τ Cert.UpdBranch.sig) → Buf (Elt Bits) ℓ) : Prop :=
  True

def Pre_UpdBranchIdeal (m : (ℓ : Loc Cert.UpdBranchIdeal.nD Cert.UpdBranchIdeal.τ Cert.UpdBranchIdeal.sig) → Buf (Elt Ideal) ℓ) : Prop :=
  True

def Pre_RefUpdBranchIdeal (m : (ℓ : Loc Cert.RefUpdBranchIdeal.nD Cert.RefUpdBranchIdeal.τ Cert.RefUpdBranchIdeal.sig) → Buf (Elt Ideal) ℓ) : Prop :=
  True

def Pre_UpdVec (m : (ℓ : Loc Cert.UpdVec.nD Cert.UpdVec.τ Cert.UpdVec.sig) → Buf (Elt Bits) ℓ) : Prop :=
  True

def Pre_UpdVecIdeal (m : (ℓ : Loc Cert.UpdVecIdeal.nD Cert.UpdVecIdeal.τ Cert.UpdVecIdeal.sig) → Buf (Elt Ideal) ℓ) : Prop :=
  True

def Pre_RefUpdVecIdeal (m : (ℓ : Loc Cert.RefUpdVecIdeal.nD Cert.RefUpdVecIdeal.τ Cert.RefUpdVecIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def Pre_ConvBack (m : (ℓ : Loc Cert.ConvBack.nD Cert.ConvBack.τ Cert.ConvBack.sig) → Buf (Elt Bits) ℓ) : Prop :=
  True

def Pre_ConvBackIdeal (m : (ℓ : Loc Cert.ConvBackIdeal.nD Cert.ConvBackIdeal.τ Cert.ConvBackIdeal.sig) → Buf (Elt Ideal) ℓ) : Prop :=
  True

def Pre_RefConvBackIdeal (m : (ℓ : Loc Cert.RefConvBackIdeal.nD Cert.RefConvBackIdeal.τ Cert.RefConvBackIdeal.sig) → Buf (Elt Ideal) ℓ) : Prop :=
  True

def Pre_SumParts (m : (ℓ : Loc Cert.SumParts.nD Cert.SumParts.τ Cert.SumParts.sig) → Buf (Elt Bits) ℓ) : Prop :=
  True

def Pre_SumPartsIdeal (m : (ℓ : Loc Cert.SumPartsIdeal.nD Cert.SumPartsIdeal.τ Cert.SumPartsIdeal.sig) → Buf (Elt Ideal) ℓ) : Prop :=
  True

def Pre_RefSumPartsIdeal (m : (ℓ : Loc Cert.RefSumPartsIdeal.nD Cert.RefSumPartsIdeal.τ Cert.RefSumPartsIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_RefPairSumIdeal (m : (ℓ : Loc Cert.RefPairSumIdeal.nD Cert.RefPairSumIdeal.τ Cert.RefPairSumIdeal.sig) → Buf (Elt Ideal) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_RefChipSumIdeal (m : (ℓ : Loc Cert.RefChipSumIdeal.nD Cert.RefChipSumIdeal.τ Cert.RefChipSumIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2)
      ∧ r.2.mem ((c.tc : Thread Cert.DwUp.nD Cert.DwUp.τ).loc Cert.DwUp.main_arg3) = m ((c.tc : Thread Cert.DwUp.nD Cert.DwUp.τ).loc Cert.DwUp.main_arg3))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
      ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ r.2.sem = fun _ => 0)

def quiescent_RefDwUpIdeal [hRefDwUpIdeal : Cert.RefDwUpIdeal.Facts] : Prop :=
  ∀ (m : (ℓ : Loc Cert.RefDwUpIdeal.nD Cert.RefDwUpIdeal.τ Cert.RefDwUpIdeal.sig) → Buf (Elt Ideal) ℓ) (g : Dev Cert.RefDwUpIdeal.nD → PrngReg), Pre_RefDwUpIdeal m →
    θ_run (Cert.RefDwUpIdeal.defs (F := Ideal)) (onTc (τ := Cert.RefDwUpIdeal.τ) (Cert.RefDwUpIdeal.main (F := Ideal))) ⟨m, fun _ => 0, g⟩ (fun r => (∀ c : Dev Cert.RefDwUpIdeal.nD,
      r.2.mem ((c.tc : Thread Cert.RefDwUpIdeal.nD Cert.RefDwUpIdeal.τ).loc Cert.RefDwUpIdeal.main_arg0) = m ((c.tc : Thread Cert.RefDwUpIdeal.nD Cert.RefDwUpIdeal.τ).loc Cert.RefDwUpIdeal.main_arg0)
      ∧ r.2.mem ((c.tc : Thread Cert.RefDwUpIdeal.nD Cert.RefDwUpIdeal.τ).loc Cert.RefDwUpIdeal.main_arg1) = m ((c.tc : Thread Cert.RefDwUpIdeal.nD Cert.RefDwUpIdeal.τ).loc Cert.RefDwUpIdeal.main_arg1)
      ∧ r.2.mem ((c.tc : Thread Cert.RefDwUpIdeal.nD Cert.RefDwUpIdeal.τ).loc Cert.RefDwUpIdeal.main_arg2) = m ((c.tc : Thread Cert.RefDwUpIdeal.nD Cert.RefDwUpIdeal.τ).loc Cert.RefDwUpIdeal.main_arg2)
      ∧ r.2.mem ((c.tc : Thread Cert.RefDwUpIdeal.nD Cert.RefDwUpIdeal.τ).loc Cert.RefDwUpIdeal.main_arg3) = m ((c.tc : Thread Cert.RefDwUpIdeal.nD Cert.RefDwUpIdeal.τ).loc Cert.RefDwUpIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2)
      ∧ r.2.mem ((c.tc : Thread Cert.DwDown.nD Cert.DwDown.τ).loc Cert.DwDown.main_arg3) = m ((c.tc : Thread Cert.DwDown.nD Cert.DwDown.τ).loc Cert.DwDown.main_arg3))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
      ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ r.2.sem = fun _ => 0)

def quiescent_RefDwDownIdeal [hRefDwDownIdeal : Cert.RefDwDownIdeal.Facts] : Prop :=
  ∀ (m : (ℓ : Loc Cert.RefDwDownIdeal.nD Cert.RefDwDownIdeal.τ Cert.RefDwDownIdeal.sig) → Buf (Elt Ideal) ℓ) (g : Dev Cert.RefDwDownIdeal.nD → PrngReg), Pre_RefDwDownIdeal m →
    θ_run (Cert.RefDwDownIdeal.defs (F := Ideal)) (onTc (τ := Cert.RefDwDownIdeal.τ) (Cert.RefDwDownIdeal.main (F := Ideal))) ⟨m, fun _ => 0, g⟩ (fun r => (∀ c : Dev Cert.RefDwDownIdeal.nD,
      r.2.mem ((c.tc : Thread Cert.RefDwDownIdeal.nD Cert.RefDwDownIdeal.τ).loc Cert.RefDwDownIdeal.main_arg0) = m ((c.tc : Thread Cert.RefDwDownIdeal.nD Cert.RefDwDownIdeal.τ).loc Cert.RefDwDownIdeal.main_arg0)
      ∧ r.2.mem ((c.tc : Thread Cert.RefDwDownIdeal.nD Cert.RefDwDownIdeal.τ).loc Cert.RefDwDownIdeal.main_arg1) = m ((c.tc : Thread Cert.RefDwDownIdeal.nD Cert.RefDwDownIdeal.τ).loc Cert.RefDwDownIdeal.main_arg1)
      ∧ r.2.mem ((c.tc : Thread Cert.RefDwDownIdeal.nD Cert.RefDwDownIdeal.τ).loc Cert.RefDwDownIdeal.main_arg2) = m ((c.tc : Thread Cert.RefDwDownIdeal.nD Cert.RefDwDownIdeal.τ).loc Cert.RefDwDownIdeal.main_arg2)
      ∧ r.2.mem ((c.tc : Thread Cert.RefDwDownIdeal.nD Cert.RefDwDownIdeal.τ).loc Cert.RefDwDownIdeal.main_arg3) = m ((c.tc : Thread Cert.RefDwDownIdeal.nD Cert.RefDwDownIdeal.τ).loc Cert.RefDwDownIdeal.main_arg3))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1)
      ∧ r.2.mem ((c.tc : Thread Cert.DwGate.nD Cert.DwGate.τ).loc Cert.DwGate.main_arg2) = m ((c.tc : Thread Cert.DwGate.nD Cert.DwGate.τ).loc Cert.DwGate.main_arg2)
      ∧ r.2.mem ((c.tc : Thread Cert.DwGate.nD Cert.DwGate.τ).loc Cert.DwGate.main_arg3) = m ((c.tc : Thread Cert.DwGate.nD Cert.DwGate.τ).loc Cert.DwGate.main_arg3))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
      ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2)
      ∧ r.2.mem ((c.tc : Thread Cert.DwGateIdeal.nD Cert.DwGateIdeal.τ).loc Cert.DwGateIdeal.main_arg3) = m ((c.tc : Thread Cert.DwGateIdeal.nD Cert.DwGateIdeal.τ).loc Cert.DwGateIdeal.main_arg3))
      ∧ r.2.sem = fun _ => 0)

def quiescent_RefDwGateIdeal [hRefDwGateIdeal : Cert.RefDwGateIdeal.Facts] : Prop :=
  ∀ (m : (ℓ : Loc Cert.RefDwGateIdeal.nD Cert.RefDwGateIdeal.τ Cert.RefDwGateIdeal.sig) → Buf (Elt Ideal) ℓ) (g : Dev Cert.RefDwGateIdeal.nD → PrngReg), Pre_RefDwGateIdeal m →
    θ_run (Cert.RefDwGateIdeal.defs (F := Ideal)) (onTc (τ := Cert.RefDwGateIdeal.τ) (Cert.RefDwGateIdeal.main (F := Ideal))) ⟨m, fun _ => 0, g⟩ (fun r => (∀ c : Dev Cert.RefDwGateIdeal.nD,
      r.2.mem ((c.tc : Thread Cert.RefDwGateIdeal.nD Cert.RefDwGateIdeal.τ).loc Cert.RefDwGateIdeal.main_arg0) = m ((c.tc : Thread Cert.RefDwGateIdeal.nD Cert.RefDwGateIdeal.τ).loc Cert.RefDwGateIdeal.main_arg0)
      ∧ r.2.mem ((c.tc : Thread Cert.RefDwGateIdeal.nD Cert.RefDwGateIdeal.τ).loc Cert.RefDwGateIdeal.main_arg1) = m ((c.tc : Thread Cert.RefDwGateIdeal.nD Cert.RefDwGateIdeal.τ).loc Cert.RefDwGateIdeal.main_arg1)
      ∧ r.2.mem ((c.tc : Thread Cert.RefDwGateIdeal.nD Cert.RefDwGateIdeal.τ).loc Cert.RefDwGateIdeal.main_arg2) = m ((c.tc : Thread Cert.RefDwGateIdeal.nD Cert.RefDwGateIdeal.τ).loc Cert.RefDwGateIdeal.main_arg2)
      ∧ r.2.mem ((c.tc : Thread Cert.RefDwGateIdeal.nD Cert.RefDwGateIdeal.τ).loc Cert.RefDwGateIdeal.main_arg3) = m ((c.tc : Thread Cert.RefDwGateIdeal.nD Cert.RefDwGateIdeal.τ).loc Cert.RefDwGateIdeal.main_arg3))
      ∧ r.2.sem = fun _ => 0)

def quiescent_DwMid [hDwMid : Cert.DwMid.Facts] : Prop :=
  ∀ (m : (ℓ : Loc Cert.DwMid.nD Cert.DwMid.τ Cert.DwMid.sig) → Buf (Elt Bits) ℓ) (g : Dev Cert.DwMid.nD → PrngReg), Pre_DwMid m →
    θ_run (Cert.DwMid.defs (F := Bits)) (onTc (τ := Cert.DwMid.τ) (Cert.DwMid.main (F := Bits))) ⟨m, fun _ => 0, g⟩ (fun r => (∀ c : Dev Cert.DwMid.nD,
      r.2.mem ((c.tc : Thread Cert.DwMid.nD Cert.DwMid.τ).loc Cert.DwMid.main_arg0) = m ((c.tc : Thread Cert.DwMid.nD Cert.DwMid.τ).loc Cert.DwMid.main_arg0)
      ∧ r.2.mem ((c.tc : Thread Cert.DwMid.nD Cert.DwMid.τ).loc Cert.DwMid.main_arg1) = m ((c.tc : Thread Cert.DwMid.nD Cert.DwMid.τ).loc Cert.DwMid.main_arg1)
      ∧ r.2.mem ((c.tc : Thread Cert.DwMid.nD Cert.DwMid.τ).loc Cert.DwMid.main_arg2) = m ((c.tc : Thread Cert.DwMid.nD Cert.DwMid.τ).loc Cert.DwMid.main_arg2)
      ∧ r.2.mem ((c.tc : Thread Cert.DwMid.nD Cert.DwMid.τ).loc Cert.DwMid.main_arg3) = m ((c.tc : Thread Cert.DwMid.nD Cert.DwMid.τ).loc Cert.DwMid.main_arg3))
      ∧ r.2.sem = fun _ => 0)

def quiescent_DwMidIdeal [hDwMidIdeal : Cert.DwMidIdeal.Facts] : Prop :=
  ∀ (m : (ℓ : Loc Cert.DwMidIdeal.nD Cert.DwMidIdeal.τ Cert.DwMidIdeal.sig) → Buf (Elt Ideal) ℓ) (g : Dev Cert.DwMidIdeal.nD → PrngReg), Pre_DwMidIdeal m →
    θ_run (Cert.DwMidIdeal.defs (F := Ideal)) (onTc (τ := Cert.DwMidIdeal.τ) (Cert.DwMidIdeal.main (F := Ideal))) ⟨m, fun _ => 0, g⟩ (fun r => (∀ c : Dev Cert.DwMidIdeal.nD,
      r.2.mem ((c.tc : Thread Cert.DwMidIdeal.nD Cert.DwMidIdeal.τ).loc Cert.DwMidIdeal.main_arg0) = m ((c.tc : Thread Cert.DwMidIdeal.nD Cert.DwMidIdeal.τ).loc Cert.DwMidIdeal.main_arg0)
      ∧ r.2.mem ((c.tc : Thread Cert.DwMidIdeal.nD Cert.DwMidIdeal.τ).loc Cert.DwMidIdeal.main_arg1) = m ((c.tc : Thread Cert.DwMidIdeal.nD Cert.DwMidIdeal.τ).loc Cert.DwMidIdeal.main_arg1)
      ∧ r.2.mem ((c.tc : Thread Cert.DwMidIdeal.nD Cert.DwMidIdeal.τ).loc Cert.DwMidIdeal.main_arg2) = m ((c.tc : Thread Cert.DwMidIdeal.nD Cert.DwMidIdeal.τ).loc Cert.DwMidIdeal.main_arg2)
      ∧ r.2.mem ((c.tc : Thread Cert.DwMidIdeal.nD Cert.DwMidIdeal.τ).loc Cert.DwMidIdeal.main_arg3) = m ((c.tc : Thread Cert.DwMidIdeal.nD Cert.DwMidIdeal.τ).loc Cert.DwMidIdeal.main_arg3))
      ∧ r.2.sem = fun _ => 0)

def quiescent_RefDwMidIdeal [hRefDwMidIdeal : Cert.RefDwMidIdeal.Facts] : Prop :=
  ∀ (m : (ℓ : Loc Cert.RefDwMidIdeal.nD Cert.RefDwMidIdeal.τ Cert.RefDwMidIdeal.sig) → Buf (Elt Ideal) ℓ) (g : Dev Cert.RefDwMidIdeal.nD → PrngReg), Pre_RefDwMidIdeal m →
    θ_run (Cert.RefDwMidIdeal.defs (F := Ideal)) (onTc (τ := Cert.RefDwMidIdeal.τ) (Cert.RefDwMidIdeal.main (F := Ideal))) ⟨m, fun _ => 0, g⟩ (fun r => (∀ c : Dev Cert.RefDwMidIdeal.nD,
      r.2.mem ((c.tc : Thread Cert.RefDwMidIdeal.nD Cert.RefDwMidIdeal.τ).loc Cert.RefDwMidIdeal.main_arg0) = m ((c.tc : Thread Cert.RefDwMidIdeal.nD Cert.RefDwMidIdeal.τ).loc Cert.RefDwMidIdeal.main_arg0)
      ∧ r.2.mem ((c.tc : Thread Cert.RefDwMidIdeal.nD Cert.RefDwMidIdeal.τ).loc Cert.RefDwMidIdeal.main_arg1) = m ((c.tc : Thread Cert.RefDwMidIdeal.nD Cert.RefDwMidIdeal.τ).loc Cert.RefDwMidIdeal.main_arg1)
      ∧ r.2.mem ((c.tc : Thread Cert.RefDwMidIdeal.nD Cert.RefDwMidIdeal.τ).loc Cert.RefDwMidIdeal.main_arg2) = m ((c.tc : Thread Cert.RefDwMidIdeal.nD Cert.RefDwMidIdeal.τ).loc Cert.RefDwMidIdeal.main_arg2)
      ∧ r.2.mem ((c.tc : Thread Cert.RefDwMidIdeal.nD Cert.RefDwMidIdeal.τ).loc Cert.RefDwMidIdeal.main_arg3) = m ((c.tc : Thread Cert.RefDwMidIdeal.nD Cert.RefDwMidIdeal.τ).loc Cert.RefDwMidIdeal.main_arg3))
      ∧ r.2.sem = fun _ => 0)

def quiescent_DwMerge [hDwMerge : Cert.DwMerge.Facts] : Prop :=
  ∀ (m : (ℓ : Loc Cert.DwMerge.nD Cert.DwMerge.τ Cert.DwMerge.sig) → Buf (Elt Bits) ℓ) (g : Dev Cert.DwMerge.nD → PrngReg), Pre_DwMerge m →
    θ_run (Cert.DwMerge.defs (F := Bits)) (onTc (τ := Cert.DwMerge.τ) (Cert.DwMerge.main (F := Bits))) ⟨m, fun _ => 0, g⟩ (fun r => (∀ c : Dev Cert.DwMerge.nD,
      r.2.mem ((c.tc : Thread Cert.DwMerge.nD Cert.DwMerge.τ).loc Cert.DwMerge.main_arg0) = m ((c.tc : Thread Cert.DwMerge.nD Cert.DwMerge.τ).loc Cert.DwMerge.main_arg0)
      ∧ r.2.mem ((c.tc : Thread Cert.DwMerge.nD Cert.DwMerge.τ).loc Cert.DwMerge.main_arg1) = m ((c.tc : Thread Cert.DwMerge.nD Cert.DwMerge.τ).loc Cert.DwMerge.main_arg1)
      ∧ r.2.mem ((c.tc : Thread Cert.DwMerge.nD Cert.DwMerge.τ).loc Cert.DwMerge.main_arg2) = m ((c.tc : Thread Cert.DwMerge.nD Cert.DwMerge.τ).loc Cert.DwMerge.main_arg2)
      ∧ r.2.mem ((c.tc : Thread Cert.DwMerge.nD Cert.DwMerge.τ).loc Cert.DwMerge.main_arg3) = m ((c.tc : Thread Cert.DwMerge.nD Cert.DwMerge.τ).loc Cert.DwMerge.main_arg3))
      ∧ r.2.sem = fun _ => 0)

def quiescent_DwMergeIdeal [hDwMergeIdeal : Cert.DwMergeIdeal.Facts] : Prop :=
  ∀ (m : (ℓ : Loc Cert.DwMergeIdeal.nD Cert.DwMergeIdeal.τ Cert.DwMergeIdeal.sig) → Buf (Elt Ideal) ℓ) (g : Dev Cert.DwMergeIdeal.nD → PrngReg), Pre_DwMergeIdeal m →
    θ_run (Cert.DwMergeIdeal.defs (F := Ideal)) (onTc (τ := Cert.DwMergeIdeal.τ) (Cert.DwMergeIdeal.main (F := Ideal))) ⟨m, fun _ => 0, g⟩ (fun r => (∀ c : Dev Cert.DwMergeIdeal.nD,
      r.2.mem ((c.tc : Thread Cert.DwMergeIdeal.nD Cert.DwMergeIdeal.τ).loc Cert.DwMergeIdeal.main_arg0) = m ((c.tc : Thread Cert.DwMergeIdeal.nD Cert.DwMergeIdeal.τ).loc Cert.DwMergeIdeal.main_arg0)
      ∧ r.2.mem ((c.tc : Thread Cert.DwMergeIdeal.nD Cert.DwMergeIdeal.τ).loc Cert.DwMergeIdeal.main_arg1) = m ((c.tc : Thread Cert.DwMergeIdeal.nD Cert.DwMergeIdeal.τ).loc Cert.DwMergeIdeal.main_arg1)
      ∧ r.2.mem ((c.tc : Thread Cert.DwMergeIdeal.nD Cert.DwMergeIdeal.τ).loc Cert.DwMergeIdeal.main_arg2) = m ((c.tc : Thread Cert.DwMergeIdeal.nD Cert.DwMergeIdeal.τ).loc Cert.DwMergeIdeal.main_arg2)
      ∧ r.2.mem ((c.tc : Thread Cert.DwMergeIdeal.nD Cert.DwMergeIdeal.τ).loc Cert.DwMergeIdeal.main_arg3) = m ((c.tc : Thread Cert.DwMergeIdeal.nD Cert.DwMergeIdeal.τ).loc Cert.DwMergeIdeal.main_arg3))
      ∧ r.2.sem = fun _ => 0)

def quiescent_RefDwMergeIdeal [hRefDwMergeIdeal : Cert.RefDwMergeIdeal.Facts] : Prop :=
  ∀ (m : (ℓ : Loc Cert.RefDwMergeIdeal.nD Cert.RefDwMergeIdeal.τ Cert.RefDwMergeIdeal.sig) → Buf (Elt Ideal) ℓ) (g : Dev Cert.RefDwMergeIdeal.nD → PrngReg), Pre_RefDwMergeIdeal m →
    θ_run (Cert.RefDwMergeIdeal.defs (F := Ideal)) (onTc (τ := Cert.RefDwMergeIdeal.τ) (Cert.RefDwMergeIdeal.main (F := Ideal))) ⟨m, fun _ => 0, g⟩ (fun r => (∀ c : Dev Cert.RefDwMergeIdeal.nD,
      r.2.mem ((c.tc : Thread Cert.RefDwMergeIdeal.nD Cert.RefDwMergeIdeal.τ).loc Cert.RefDwMergeIdeal.main_arg0) = m ((c.tc : Thread Cert.RefDwMergeIdeal.nD Cert.RefDwMergeIdeal.τ).loc Cert.RefDwMergeIdeal.main_arg0)
      ∧ r.2.mem ((c.tc : Thread Cert.RefDwMergeIdeal.nD Cert.RefDwMergeIdeal.τ).loc Cert.RefDwMergeIdeal.main_arg1) = m ((c.tc : Thread Cert.RefDwMergeIdeal.nD Cert.RefDwMergeIdeal.τ).loc Cert.RefDwMergeIdeal.main_arg1)
      ∧ r.2.mem ((c.tc : Thread Cert.RefDwMergeIdeal.nD Cert.RefDwMergeIdeal.τ).loc Cert.RefDwMergeIdeal.main_arg2) = m ((c.tc : Thread Cert.RefDwMergeIdeal.nD Cert.RefDwMergeIdeal.τ).loc Cert.RefDwMergeIdeal.main_arg2)
      ∧ r.2.mem ((c.tc : Thread Cert.RefDwMergeIdeal.nD Cert.RefDwMergeIdeal.τ).loc Cert.RefDwMergeIdeal.main_arg3) = m ((c.tc : Thread Cert.RefDwMergeIdeal.nD Cert.RefDwMergeIdeal.τ).loc Cert.RefDwMergeIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_RefDwOutIdeal [hRefDwOutIdeal : Cert.RefDwOutIdeal.Facts] : Prop :=
  ∀ (m : (ℓ : Loc Cert.RefDwOutIdeal.nD Cert.RefDwOutIdeal.τ Cert.RefDwOutIdeal.sig) → Buf (Elt Ideal) ℓ) (g : Dev Cert.RefDwOutIdeal.nD → PrngReg), Pre_RefDwOutIdeal m →
    θ_run (Cert.RefDwOutIdeal.defs (F := Ideal)) (onTc (τ := Cert.RefDwOutIdeal.τ) (Cert.RefDwOutIdeal.main (F := Ideal))) ⟨m, fun _ => 0, g⟩ (fun r => (∀ c : Dev Cert.RefDwOutIdeal.nD,
      r.2.mem ((c.tc : Thread Cert.RefDwOutIdeal.nD Cert.RefDwOutIdeal.τ).loc Cert.RefDwOutIdeal.main_arg0) = m ((c.tc : Thread Cert.RefDwOutIdeal.nD Cert.RefDwOutIdeal.τ).loc Cert.RefDwOutIdeal.main_arg0)
      ∧ r.2.mem ((c.tc : Thread Cert.RefDwOutIdeal.nD Cert.RefDwOutIdeal.τ).loc Cert.RefDwOutIdeal.main_arg1) = m ((c.tc : Thread Cert.RefDwOutIdeal.nD Cert.RefDwOutIdeal.τ).loc Cert.RefDwOutIdeal.main_arg1)
      ∧ r.2.mem ((c.tc : Thread Cert.RefDwOutIdeal.nD Cert.RefDwOutIdeal.τ).loc Cert.RefDwOutIdeal.main_arg2) = m ((c.tc : Thread Cert.RefDwOutIdeal.nD Cert.RefDwOutIdeal.τ).loc Cert.RefDwOutIdeal.main_arg2))
      ∧ r.2.sem = fun _ => 0)

def quiescent_DwSmall [hDwSmall : Cert.DwSmall.Facts] : Prop :=
  ∀ (m : (ℓ : Loc Cert.DwSmall.nD Cert.DwSmall.τ Cert.DwSmall.sig) → Buf (Elt Bits) ℓ) (g : Dev Cert.DwSmall.nD → PrngReg), Pre_DwSmall m →
    θ_run (Cert.DwSmall.defs (F := Bits)) (onTc (τ := Cert.DwSmall.τ) (Cert.DwSmall.main (F := Bits))) ⟨m, fun _ => 0, g⟩ (fun r => (∀ c : Dev Cert.DwSmall.nD,
      r.2.mem ((c.tc : Thread Cert.DwSmall.nD Cert.DwSmall.τ).loc Cert.DwSmall.main_arg0) = m ((c.tc : Thread Cert.DwSmall.nD Cert.DwSmall.τ).loc Cert.DwSmall.main_arg0)
      ∧ r.2.mem ((c.tc : Thread Cert.DwSmall.nD Cert.DwSmall.τ).loc Cert.DwSmall.main_arg1) = m ((c.tc : Thread Cert.DwSmall.nD Cert.DwSmall.τ).loc Cert.DwSmall.main_arg1)
      ∧ r.2.mem ((c.tc : Thread Cert.DwSmall.nD Cert.DwSmall.τ).loc Cert.DwSmall.main_arg2) = m ((c.tc : Thread Cert.DwSmall.nD Cert.DwSmall.τ).loc Cert.DwSmall.main_arg2))
      ∧ r.2.sem = fun _ => 0)

def quiescent_DwSmallIdeal [hDwSmallIdeal : Cert.DwSmallIdeal.Facts] : Prop :=
  ∀ (m : (ℓ : Loc Cert.DwSmallIdeal.nD Cert.DwSmallIdeal.τ Cert.DwSmallIdeal.sig) → Buf (Elt Ideal) ℓ) (g : Dev Cert.DwSmallIdeal.nD → PrngReg), Pre_DwSmallIdeal m →
    θ_run (Cert.DwSmallIdeal.defs (F := Ideal)) (onTc (τ := Cert.DwSmallIdeal.τ) (Cert.DwSmallIdeal.main (F := Ideal))) ⟨m, fun _ => 0, g⟩ (fun r => (∀ c : Dev Cert.DwSmallIdeal.nD,
      r.2.mem ((c.tc : Thread Cert.DwSmallIdeal.nD Cert.DwSmallIdeal.τ).loc Cert.DwSmallIdeal.main_arg0) = m ((c.tc : Thread Cert.DwSmallIdeal.nD Cert.DwSmallIdeal.τ).loc Cert.DwSmallIdeal.main_arg0)
      ∧ r.2.mem ((c.tc : Thread Cert.DwSmallIdeal.nD Cert.DwSmallIdeal.τ).loc Cert.DwSmallIdeal.main_arg1) = m ((c.tc : Thread Cert.DwSmallIdeal.nD Cert.DwSmallIdeal.τ).loc Cert.DwSmallIdeal.main_arg1)
      ∧ r.2.mem ((c.tc : Thread Cert.DwSmallIdeal.nD Cert.DwSmallIdeal.τ).loc Cert.DwSmallIdeal.main_arg2) = m ((c.tc : Thread Cert.DwSmallIdeal.nD Cert.DwSmallIdeal.τ).loc Cert.DwSmallIdeal.main_arg2))
      ∧ r.2.sem = fun _ => 0)

def quiescent_RefDwSmallIdeal [hRefDwSmallIdeal : Cert.RefDwSmallIdeal.Facts] : Prop :=
  ∀ (m : (ℓ : Loc Cert.RefDwSmallIdeal.nD Cert.RefDwSmallIdeal.τ Cert.RefDwSmallIdeal.sig) → Buf (Elt Ideal) ℓ) (g : Dev Cert.RefDwSmallIdeal.nD → PrngReg), Pre_RefDwSmallIdeal m →
    θ_run (Cert.RefDwSmallIdeal.defs (F := Ideal)) (onTc (τ := Cert.RefDwSmallIdeal.τ) (Cert.RefDwSmallIdeal.main (F := Ideal))) ⟨m, fun _ => 0, g⟩ (fun r => (∀ c : Dev Cert.RefDwSmallIdeal.nD,
      r.2.mem ((c.tc : Thread Cert.RefDwSmallIdeal.nD Cert.RefDwSmallIdeal.τ).loc Cert.RefDwSmallIdeal.main_arg0) = m ((c.tc : Thread Cert.RefDwSmallIdeal.nD Cert.RefDwSmallIdeal.τ).loc Cert.RefDwSmallIdeal.main_arg0)
      ∧ r.2.mem ((c.tc : Thread Cert.RefDwSmallIdeal.nD Cert.RefDwSmallIdeal.τ).loc Cert.RefDwSmallIdeal.main_arg1) = m ((c.tc : Thread Cert.RefDwSmallIdeal.nD Cert.RefDwSmallIdeal.τ).loc Cert.RefDwSmallIdeal.main_arg1)
      ∧ r.2.mem ((c.tc : Thread Cert.RefDwSmallIdeal.nD Cert.RefDwSmallIdeal.τ).loc Cert.RefDwSmallIdeal.main_arg2) = m ((c.tc : Thread Cert.RefDwSmallIdeal.nD Cert.RefDwSmallIdeal.τ).loc Cert.RefDwSmallIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ r.2.sem = fun _ => 0)

def quiescent_RefUpIdeal [hRefUpIdeal : Cert.RefUpIdeal.Facts] : Prop :=
  ∀ (m : (ℓ : Loc Cert.RefUpIdeal.nD Cert.RefUpIdeal.τ Cert.RefUpIdeal.sig) → Buf (Elt Ideal) ℓ) (g : Dev Cert.RefUpIdeal.nD → PrngReg), Pre_RefUpIdeal m →
    θ_run (Cert.RefUpIdeal.defs (F := Ideal)) (onTc (τ := Cert.RefUpIdeal.τ) (Cert.RefUpIdeal.main (F := Ideal))) ⟨m, fun _ => 0, g⟩ (fun r => (∀ c : Dev Cert.RefUpIdeal.nD,
      r.2.mem ((c.tc : Thread Cert.RefUpIdeal.nD Cert.RefUpIdeal.τ).loc Cert.RefUpIdeal.main_arg0) = m ((c.tc : Thread Cert.RefUpIdeal.nD Cert.RefUpIdeal.τ).loc Cert.RefUpIdeal.main_arg0)
      ∧ r.2.mem ((c.tc : Thread Cert.RefUpIdeal.nD Cert.RefUpIdeal.τ).loc Cert.RefUpIdeal.main_arg1) = m ((c.tc : Thread Cert.RefUpIdeal.nD Cert.RefUpIdeal.τ).loc Cert.RefUpIdeal.main_arg1)
      ∧ r.2.mem ((c.tc : Thread Cert.RefUpIdeal.nD Cert.RefUpIdeal.τ).loc Cert.RefUpIdeal.main_arg2) = m ((c.tc : Thread Cert.RefUpIdeal.nD Cert.RefUpIdeal.τ).loc Cert.RefUpIdeal.main_arg2)
      ∧ r.2.mem ((c.tc : Thread Cert.RefUpIdeal.nD Cert.RefUpIdeal.τ).loc Cert.RefUpIdeal.main_arg3) = m ((c.tc : Thread Cert.RefUpIdeal.nD Cert.RefUpIdeal.τ).loc Cert.RefUpIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_RefDownIdeal [hRefDownIdeal : Cert.RefDownIdeal.Facts] : Prop :=
  ∀ (m : (ℓ : Loc Cert.RefDownIdeal.nD Cert.RefDownIdeal.τ Cert.RefDownIdeal.sig) → Buf (Elt Ideal) ℓ) (g : Dev Cert.RefDownIdeal.nD → PrngReg), Pre_RefDownIdeal m →
    θ_run (Cert.RefDownIdeal.defs (F := Ideal)) (onTc (τ := Cert.RefDownIdeal.τ) (Cert.RefDownIdeal.main (F := Ideal))) ⟨m, fun _ => 0, g⟩ (fun r => (∀ c : Dev Cert.RefDownIdeal.nD,
      r.2.mem ((c.tc : Thread Cert.RefDownIdeal.nD Cert.RefDownIdeal.τ).loc Cert.RefDownIdeal.main_arg0) = m ((c.tc : Thread Cert.RefDownIdeal.nD Cert.RefDownIdeal.τ).loc Cert.RefDownIdeal.main_arg0)
      ∧ r.2.mem ((c.tc : Thread Cert.RefDownIdeal.nD Cert.RefDownIdeal.τ).loc Cert.RefDownIdeal.main_arg1) = m ((c.tc : Thread Cert.RefDownIdeal.nD Cert.RefDownIdeal.τ).loc Cert.RefDownIdeal.main_arg1)
      ∧ r.2.mem ((c.tc : Thread Cert.RefDownIdeal.nD Cert.RefDownIdeal.τ).loc Cert.RefDownIdeal.main_arg2) = m ((c.tc : Thread Cert.RefDownIdeal.nD Cert.RefDownIdeal.τ).loc Cert.RefDownIdeal.main_arg2)
      ∧ r.2.mem ((c.tc : Thread Cert.RefDownIdeal.nD Cert.RefDownIdeal.τ).loc Cert.RefDownIdeal.main_arg3) = m ((c.tc : Thread Cert.RefDownIdeal.nD Cert.RefDownIdeal.τ).loc Cert.RefDownIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_RefMixInIdeal [hRefMixInIdeal : Cert.RefMixInIdeal.Facts] : Prop :=
  ∀ (m : (ℓ : Loc Cert.RefMixInIdeal.nD Cert.RefMixInIdeal.τ Cert.RefMixInIdeal.sig) → Buf (Elt Ideal) ℓ) (g : Dev Cert.RefMixInIdeal.nD → PrngReg), Pre_RefMixInIdeal m →
    θ_run (Cert.RefMixInIdeal.defs (F := Ideal)) (onTc (τ := Cert.RefMixInIdeal.τ) (Cert.RefMixInIdeal.main (F := Ideal))) ⟨m, fun _ => 0, g⟩ (fun r => (∀ c : Dev Cert.RefMixInIdeal.nD,
      r.2.mem ((c.tc : Thread Cert.RefMixInIdeal.nD Cert.RefMixInIdeal.τ).loc Cert.RefMixInIdeal.main_arg0) = m ((c.tc : Thread Cert.RefMixInIdeal.nD Cert.RefMixInIdeal.τ).loc Cert.RefMixInIdeal.main_arg0)
      ∧ r.2.mem ((c.tc : Thread Cert.RefMixInIdeal.nD Cert.RefMixInIdeal.τ).loc Cert.RefMixInIdeal.main_arg1) = m ((c.tc : Thread Cert.RefMixInIdeal.nD Cert.RefMixInIdeal.τ).loc Cert.RefMixInIdeal.main_arg1)
      ∧ r.2.mem ((c.tc : Thread Cert.RefMixInIdeal.nD Cert.RefMixInIdeal.τ).loc Cert.RefMixInIdeal.main_arg2) = m ((c.tc : Thread Cert.RefMixInIdeal.nD Cert.RefMixInIdeal.τ).loc Cert.RefMixInIdeal.main_arg2))
      ∧ r.2.sem = fun _ => 0)

def quiescent_MixProj [hMixProj : Cert.MixProj.Facts] : Prop :=
  ∀ (m : (ℓ : Loc Cert.MixProj.nD Cert.MixProj.τ Cert.MixProj.sig) → Buf (Elt Bits) ℓ) (g : Dev Cert.MixProj.nD → PrngReg), Pre_MixProj m →
    θ_run (Cert.MixProj.defs (F := Bits)) (onTc (τ := Cert.MixProj.τ) (Cert.MixProj.main (F := Bits))) ⟨m, fun _ => 0, g⟩ (fun r => (∀ c : Dev Cert.MixProj.nD,
      r.2.mem ((c.tc : Thread Cert.MixProj.nD Cert.MixProj.τ).loc Cert.MixProj.main_arg0) = m ((c.tc : Thread Cert.MixProj.nD Cert.MixProj.τ).loc Cert.MixProj.main_arg0)
      ∧ r.2.mem ((c.tc : Thread Cert.MixProj.nD Cert.MixProj.τ).loc Cert.MixProj.main_arg1) = m ((c.tc : Thread Cert.MixProj.nD Cert.MixProj.τ).loc Cert.MixProj.main_arg1)
      ∧ r.2.mem ((c.tc : Thread Cert.MixProj.nD Cert.MixProj.τ).loc Cert.MixProj.main_arg2) = m ((c.tc : Thread Cert.MixProj.nD Cert.MixProj.τ).loc Cert.MixProj.main_arg2)
      ∧ r.2.mem ((c.tc : Thread Cert.MixProj.nD Cert.MixProj.τ).loc Cert.MixProj.main_arg3) = m ((c.tc : Thread Cert.MixProj.nD Cert.MixProj.τ).loc Cert.MixProj.main_arg3)
      ∧ r.2.mem ((c.tc : Thread Cert.MixProj.nD Cert.MixProj.τ).loc Cert.MixProj.main_arg4) = m ((c.tc : Thread Cert.MixProj.nD Cert.MixProj.τ).loc Cert.MixProj.main_arg4)
      ∧ r.2.mem ((c.tc : Thread Cert.MixProj.nD Cert.MixProj.τ).loc Cert.MixProj.main_arg5) = m ((c.tc : Thread Cert.MixProj.nD Cert.MixProj.τ).loc Cert.MixProj.main_arg5)
      ∧ r.2.mem ((c.tc : Thread Cert.MixProj.nD Cert.MixProj.τ).loc Cert.MixProj.main_arg6) = m ((c.tc : Thread Cert.MixProj.nD Cert.MixProj.τ).loc Cert.MixProj.main_arg6))
      ∧ r.2.sem = fun _ => 0)

def quiescent_MixProjIdeal [hMixProjIdeal : Cert.MixProjIdeal.Facts] : Prop :=
  ∀ (m : (ℓ : Loc Cert.MixProjIdeal.nD Cert.MixProjIdeal.τ Cert.MixProjIdeal.sig) → Buf (Elt Ideal) ℓ) (g : Dev Cert.MixProjIdeal.nD → PrngReg), Pre_MixProjIdeal m →
    θ_run (Cert.MixProjIdeal.defs (F := Ideal)) (onTc (τ := Cert.MixProjIdeal.τ) (Cert.MixProjIdeal.main (F := Ideal))) ⟨m, fun _ => 0, g⟩ (fun r => (∀ c : Dev Cert.MixProjIdeal.nD,
      r.2.mem ((c.tc : Thread Cert.MixProjIdeal.nD Cert.MixProjIdeal.τ).loc Cert.MixProjIdeal.main_arg0) = m ((c.tc : Thread Cert.MixProjIdeal.nD Cert.MixProjIdeal.τ).loc Cert.MixProjIdeal.main_arg0)
      ∧ r.2.mem ((c.tc : Thread Cert.MixProjIdeal.nD Cert.MixProjIdeal.τ).loc Cert.MixProjIdeal.main_arg1) = m ((c.tc : Thread Cert.MixProjIdeal.nD Cert.MixProjIdeal.τ).loc Cert.MixProjIdeal.main_arg1)
      ∧ r.2.mem ((c.tc : Thread Cert.MixProjIdeal.nD Cert.MixProjIdeal.τ).loc Cert.MixProjIdeal.main_arg2) = m ((c.tc : Thread Cert.MixProjIdeal.nD Cert.MixProjIdeal.τ).loc Cert.MixProjIdeal.main_arg2)
      ∧ r.2.mem ((c.tc : Thread Cert.MixProjIdeal.nD Cert.MixProjIdeal.τ).loc Cert.MixProjIdeal.main_arg3) = m ((c.tc : Thread Cert.MixProjIdeal.nD Cert.MixProjIdeal.τ).loc Cert.MixProjIdeal.main_arg3)
      ∧ r.2.mem ((c.tc : Thread Cert.MixProjIdeal.nD Cert.MixProjIdeal.τ).loc Cert.MixProjIdeal.main_arg4) = m ((c.tc : Thread Cert.MixProjIdeal.nD Cert.MixProjIdeal.τ).loc Cert.MixProjIdeal.main_arg4)
      ∧ r.2.mem ((c.tc : Thread Cert.MixProjIdeal.nD Cert.MixProjIdeal.τ).loc Cert.MixProjIdeal.main_arg5) = m ((c.tc : Thread Cert.MixProjIdeal.nD Cert.MixProjIdeal.τ).loc Cert.MixProjIdeal.main_arg5)
      ∧ r.2.mem ((c.tc : Thread Cert.MixProjIdeal.nD Cert.MixProjIdeal.τ).loc Cert.MixProjIdeal.main_arg6) = m ((c.tc : Thread Cert.MixProjIdeal.nD Cert.MixProjIdeal.τ).loc Cert.MixProjIdeal.main_arg6))
      ∧ r.2.sem = fun _ => 0)

def quiescent_RefMixProjIdeal [hRefMixProjIdeal : Cert.RefMixProjIdeal.Facts] : Prop :=
  ∀ (m : (ℓ : Loc Cert.RefMixProjIdeal.nD Cert.RefMixProjIdeal.τ Cert.RefMixProjIdeal.sig) → Buf (Elt Ideal) ℓ) (g : Dev Cert.RefMixProjIdeal.nD → PrngReg), Pre_RefMixProjIdeal m →
    θ_run (Cert.RefMixProjIdeal.defs (F := Ideal)) (onTc (τ := Cert.RefMixProjIdeal.τ) (Cert.RefMixProjIdeal.main (F := Ideal))) ⟨m, fun _ => 0, g⟩ (fun r => (∀ c : Dev Cert.RefMixProjIdeal.nD,
      r.2.mem ((c.tc : Thread Cert.RefMixProjIdeal.nD Cert.RefMixProjIdeal.τ).loc Cert.RefMixProjIdeal.main_arg0) = m ((c.tc : Thread Cert.RefMixProjIdeal.nD Cert.RefMixProjIdeal.τ).loc Cert.RefMixProjIdeal.main_arg0)
      ∧ r.2.mem ((c.tc : Thread Cert.RefMixProjIdeal.nD Cert.RefMixProjIdeal.τ).loc Cert.RefMixProjIdeal.main_arg1) = m ((c.tc : Thread Cert.RefMixProjIdeal.nD Cert.RefMixProjIdeal.τ).loc Cert.RefMixProjIdeal.main_arg1)
      ∧ r.2.mem ((c.tc : Thread Cert.RefMixProjIdeal.nD Cert.RefMixProjIdeal.τ).loc Cert.RefMixProjIdeal.main_arg2) = m ((c.tc : Thread Cert.RefMixProjIdeal.nD Cert.RefMixProjIdeal.τ).loc Cert.RefMixProjIdeal.main_arg2)
      ∧ r.2.mem ((c.tc : Thread Cert.RefMixProjIdeal.nD Cert.RefMixProjIdeal.τ).loc Cert.RefMixProjIdeal.main_arg3) = m ((c.tc : Thread Cert.RefMixProjIdeal.nD Cert.RefMixProjIdeal.τ).loc Cert.RefMixProjIdeal.main_arg3)
      ∧ r.2.mem ((c.tc : Thread Cert.RefMixProjIdeal.nD Cert.RefMixProjIdeal.τ).loc Cert.RefMixProjIdeal.main_arg4) = m ((c.tc : Thread Cert.RefMixProjIdeal.nD Cert.RefMixProjIdeal.τ).loc Cert.RefMixProjIdeal.main_arg4)
      ∧ r.2.mem ((c.tc : Thread Cert.RefMixProjIdeal.nD Cert.RefMixProjIdeal.τ).loc Cert.RefMixProjIdeal.main_arg5) = m ((c.tc : Thread Cert.RefMixProjIdeal.nD Cert.RefMixProjIdeal.τ).loc Cert.RefMixProjIdeal.main_arg5)
      ∧ r.2.mem ((c.tc : Thread Cert.RefMixProjIdeal.nD Cert.RefMixProjIdeal.τ).loc Cert.RefMixProjIdeal.main_arg6) = m ((c.tc : Thread Cert.RefMixProjIdeal.nD Cert.RefMixProjIdeal.τ).loc Cert.RefMixProjIdeal.main_arg6))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_RefMixOutIdeal [hRefMixOutIdeal : Cert.RefMixOutIdeal.Facts] : Prop :=
  ∀ (m : (ℓ : Loc Cert.RefMixOutIdeal.nD Cert.RefMixOutIdeal.τ Cert.RefMixOutIdeal.sig) → Buf (Elt Ideal) ℓ) (g : Dev Cert.RefMixOutIdeal.nD → PrngReg), Pre_RefMixOutIdeal m →
    θ_run (Cert.RefMixOutIdeal.defs (F := Ideal)) (onTc (τ := Cert.RefMixOutIdeal.τ) (Cert.RefMixOutIdeal.main (F := Ideal))) ⟨m, fun _ => 0, g⟩ (fun r => (∀ c : Dev Cert.RefMixOutIdeal.nD,
      r.2.mem ((c.tc : Thread Cert.RefMixOutIdeal.nD Cert.RefMixOutIdeal.τ).loc Cert.RefMixOutIdeal.main_arg0) = m ((c.tc : Thread Cert.RefMixOutIdeal.nD Cert.RefMixOutIdeal.τ).loc Cert.RefMixOutIdeal.main_arg0)
      ∧ r.2.mem ((c.tc : Thread Cert.RefMixOutIdeal.nD Cert.RefMixOutIdeal.τ).loc Cert.RefMixOutIdeal.main_arg1) = m ((c.tc : Thread Cert.RefMixOutIdeal.nD Cert.RefMixOutIdeal.τ).loc Cert.RefMixOutIdeal.main_arg1)
      ∧ r.2.mem ((c.tc : Thread Cert.RefMixOutIdeal.nD Cert.RefMixOutIdeal.τ).loc Cert.RefMixOutIdeal.main_arg2) = m ((c.tc : Thread Cert.RefMixOutIdeal.nD Cert.RefMixOutIdeal.τ).loc Cert.RefMixOutIdeal.main_arg2)
      ∧ r.2.mem ((c.tc : Thread Cert.RefMixOutIdeal.nD Cert.RefMixOutIdeal.τ).loc Cert.RefMixOutIdeal.main_arg3) = m ((c.tc : Thread Cert.RefMixOutIdeal.nD Cert.RefMixOutIdeal.τ).loc Cert.RefMixOutIdeal.main_arg3))
      ∧ r.2.sem = fun _ => 0)

def quiescent_BackProj [hBackProj : Cert.BackProj.Facts] : Prop :=
  ∀ (m : (ℓ : Loc Cert.BackProj.nD Cert.BackProj.τ Cert.BackProj.sig) → Buf (Elt Bits) ℓ) (g : Dev Cert.BackProj.nD → PrngReg), Pre_BackProj m →
    θ_run (Cert.BackProj.defs (F := Bits)) (onTc (τ := Cert.BackProj.τ) (Cert.BackProj.main (F := Bits))) ⟨m, fun _ => 0, g⟩ (fun r => (∀ c : Dev Cert.BackProj.nD,
      r.2.mem ((c.tc : Thread Cert.BackProj.nD Cert.BackProj.τ).loc Cert.BackProj.main_arg0) = m ((c.tc : Thread Cert.BackProj.nD Cert.BackProj.τ).loc Cert.BackProj.main_arg0)
      ∧ r.2.mem ((c.tc : Thread Cert.BackProj.nD Cert.BackProj.τ).loc Cert.BackProj.main_arg1) = m ((c.tc : Thread Cert.BackProj.nD Cert.BackProj.τ).loc Cert.BackProj.main_arg1)
      ∧ r.2.mem ((c.tc : Thread Cert.BackProj.nD Cert.BackProj.τ).loc Cert.BackProj.main_arg2) = m ((c.tc : Thread Cert.BackProj.nD Cert.BackProj.τ).loc Cert.BackProj.main_arg2)
      ∧ r.2.mem ((c.tc : Thread Cert.BackProj.nD Cert.BackProj.τ).loc Cert.BackProj.main_arg3) = m ((c.tc : Thread Cert.BackProj.nD Cert.BackProj.τ).loc Cert.BackProj.main_arg3)
      ∧ r.2.mem ((c.tc : Thread Cert.BackProj.nD Cert.BackProj.τ).loc Cert.BackProj.main_arg4) = m ((c.tc : Thread Cert.BackProj.nD Cert.BackProj.τ).loc Cert.BackProj.main_arg4)
      ∧ r.2.mem ((c.tc : Thread Cert.BackProj.nD Cert.BackProj.τ).loc Cert.BackProj.main_arg5) = m ((c.tc : Thread Cert.BackProj.nD Cert.BackProj.τ).loc Cert.BackProj.main_arg5))
      ∧ r.2.sem = fun _ => 0)

def quiescent_BackProjIdeal [hBackProjIdeal : Cert.BackProjIdeal.Facts] : Prop :=
  ∀ (m : (ℓ : Loc Cert.BackProjIdeal.nD Cert.BackProjIdeal.τ Cert.BackProjIdeal.sig) → Buf (Elt Ideal) ℓ) (g : Dev Cert.BackProjIdeal.nD → PrngReg), Pre_BackProjIdeal m →
    θ_run (Cert.BackProjIdeal.defs (F := Ideal)) (onTc (τ := Cert.BackProjIdeal.τ) (Cert.BackProjIdeal.main (F := Ideal))) ⟨m, fun _ => 0, g⟩ (fun r => (∀ c : Dev Cert.BackProjIdeal.nD,
      r.2.mem ((c.tc : Thread Cert.BackProjIdeal.nD Cert.BackProjIdeal.τ).loc Cert.BackProjIdeal.main_arg0) = m ((c.tc : Thread Cert.BackProjIdeal.nD Cert.BackProjIdeal.τ).loc Cert.BackProjIdeal.main_arg0)
      ∧ r.2.mem ((c.tc : Thread Cert.BackProjIdeal.nD Cert.BackProjIdeal.τ).loc Cert.BackProjIdeal.main_arg1) = m ((c.tc : Thread Cert.BackProjIdeal.nD Cert.BackProjIdeal.τ).loc Cert.BackProjIdeal.main_arg1)
      ∧ r.2.mem ((c.tc : Thread Cert.BackProjIdeal.nD Cert.BackProjIdeal.τ).loc Cert.BackProjIdeal.main_arg2) = m ((c.tc : Thread Cert.BackProjIdeal.nD Cert.BackProjIdeal.τ).loc Cert.BackProjIdeal.main_arg2)
      ∧ r.2.mem ((c.tc : Thread Cert.BackProjIdeal.nD Cert.BackProjIdeal.τ).loc Cert.BackProjIdeal.main_arg3) = m ((c.tc : Thread Cert.BackProjIdeal.nD Cert.BackProjIdeal.τ).loc Cert.BackProjIdeal.main_arg3)
      ∧ r.2.mem ((c.tc : Thread Cert.BackProjIdeal.nD Cert.BackProjIdeal.τ).loc Cert.BackProjIdeal.main_arg4) = m ((c.tc : Thread Cert.BackProjIdeal.nD Cert.BackProjIdeal.τ).loc Cert.BackProjIdeal.main_arg4)
      ∧ r.2.mem ((c.tc : Thread Cert.BackProjIdeal.nD Cert.BackProjIdeal.τ).loc Cert.BackProjIdeal.main_arg5) = m ((c.tc : Thread Cert.BackProjIdeal.nD Cert.BackProjIdeal.τ).loc Cert.BackProjIdeal.main_arg5))
      ∧ r.2.sem = fun _ => 0)

def quiescent_RefBackProjIdeal [hRefBackProjIdeal : Cert.RefBackProjIdeal.Facts] : Prop :=
  ∀ (m : (ℓ : Loc Cert.RefBackProjIdeal.nD Cert.RefBackProjIdeal.τ Cert.RefBackProjIdeal.sig) → Buf (Elt Ideal) ℓ) (g : Dev Cert.RefBackProjIdeal.nD → PrngReg), Pre_RefBackProjIdeal m →
    θ_run (Cert.RefBackProjIdeal.defs (F := Ideal)) (onTc (τ := Cert.RefBackProjIdeal.τ) (Cert.RefBackProjIdeal.main (F := Ideal))) ⟨m, fun _ => 0, g⟩ (fun r => (∀ c : Dev Cert.RefBackProjIdeal.nD,
      r.2.mem ((c.tc : Thread Cert.RefBackProjIdeal.nD Cert.RefBackProjIdeal.τ).loc Cert.RefBackProjIdeal.main_arg0) = m ((c.tc : Thread Cert.RefBackProjIdeal.nD Cert.RefBackProjIdeal.τ).loc Cert.RefBackProjIdeal.main_arg0)
      ∧ r.2.mem ((c.tc : Thread Cert.RefBackProjIdeal.nD Cert.RefBackProjIdeal.τ).loc Cert.RefBackProjIdeal.main_arg1) = m ((c.tc : Thread Cert.RefBackProjIdeal.nD Cert.RefBackProjIdeal.τ).loc Cert.RefBackProjIdeal.main_arg1)
      ∧ r.2.mem ((c.tc : Thread Cert.RefBackProjIdeal.nD Cert.RefBackProjIdeal.τ).loc Cert.RefBackProjIdeal.main_arg2) = m ((c.tc : Thread Cert.RefBackProjIdeal.nD Cert.RefBackProjIdeal.τ).loc Cert.RefBackProjIdeal.main_arg2)
      ∧ r.2.mem ((c.tc : Thread Cert.RefBackProjIdeal.nD Cert.RefBackProjIdeal.τ).loc Cert.RefBackProjIdeal.main_arg3) = m ((c.tc : Thread Cert.RefBackProjIdeal.nD Cert.RefBackProjIdeal.τ).loc Cert.RefBackProjIdeal.main_arg3)
      ∧ r.2.mem ((c.tc : Thread Cert.RefBackProjIdeal.nD Cert.RefBackProjIdeal.τ).loc Cert.RefBackProjIdeal.main_arg4) = m ((c.tc : Thread Cert.RefBackProjIdeal.nD Cert.RefBackProjIdeal.τ).loc Cert.RefBackProjIdeal.main_arg4)
      ∧ r.2.mem ((c.tc : Thread Cert.RefBackProjIdeal.nD Cert.RefBackProjIdeal.τ).loc Cert.RefBackProjIdeal.main_arg5) = m ((c.tc : Thread Cert.RefBackProjIdeal.nD Cert.RefBackProjIdeal.τ).loc Cert.RefBackProjIdeal.main_arg5))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ r.2.sem = fun _ => 0)

def quiescent_PreIdeal_pre_finite_pre [hPreIdeal : Cert.PreIdeal.Facts] [hPre_finite_pre : Cert.Pre_finite_pre.Facts] : Prop :=
  ∀ (m : (ℓ : Loc Cert.PreIdeal.nD Cert.PreIdeal.τ Cert.PreIdeal.sig) → Buf (Elt Ideal) ℓ) (g : Dev Cert.PreIdeal.nD → PrngReg), Pre_PreIdeal_finite_pre m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ r.2.sem = fun _ => 0)

def quiescent_RefPreIdeal [hRefPreIdeal : Cert.RefPreIdeal.Facts] : Prop :=
  ∀ (m : (ℓ : Loc Cert.RefPreIdeal.nD Cert.RefPreIdeal.τ Cert.RefPreIdeal.sig) → Buf (Elt Ideal) ℓ) (g : Dev Cert.RefPreIdeal.nD → PrngReg), Pre_RefPreIdeal m →
    θ_run (Cert.RefPreIdeal.defs (F := Ideal)) (onTc (τ := Cert.RefPreIdeal.τ) (Cert.RefPreIdeal.main (F := Ideal))) ⟨m, fun _ => 0, g⟩ (fun r => (∀ c : Dev Cert.RefPreIdeal.nD,
      r.2.mem ((c.tc : Thread Cert.RefPreIdeal.nD Cert.RefPreIdeal.τ).loc Cert.RefPreIdeal.main_arg0) = m ((c.tc : Thread Cert.RefPreIdeal.nD Cert.RefPreIdeal.τ).loc Cert.RefPreIdeal.main_arg0)
      ∧ r.2.mem ((c.tc : Thread Cert.RefPreIdeal.nD Cert.RefPreIdeal.τ).loc Cert.RefPreIdeal.main_arg1) = m ((c.tc : Thread Cert.RefPreIdeal.nD Cert.RefPreIdeal.τ).loc Cert.RefPreIdeal.main_arg1)
      ∧ r.2.mem ((c.tc : Thread Cert.RefPreIdeal.nD Cert.RefPreIdeal.τ).loc Cert.RefPreIdeal.main_arg2) = m ((c.tc : Thread Cert.RefPreIdeal.nD Cert.RefPreIdeal.τ).loc Cert.RefPreIdeal.main_arg2)
      ∧ r.2.mem ((c.tc : Thread Cert.RefPreIdeal.nD Cert.RefPreIdeal.τ).loc Cert.RefPreIdeal.main_arg3) = m ((c.tc : Thread Cert.RefPreIdeal.nD Cert.RefPreIdeal.τ).loc Cert.RefPreIdeal.main_arg3)
      ∧ r.2.mem ((c.tc : Thread Cert.RefPreIdeal.nD Cert.RefPreIdeal.τ).loc Cert.RefPreIdeal.main_arg4) = m ((c.tc : Thread Cert.RefPreIdeal.nD Cert.RefPreIdeal.τ).loc Cert.RefPreIdeal.main_arg4)
      ∧ r.2.mem ((c.tc : Thread Cert.RefPreIdeal.nD Cert.RefPreIdeal.τ).loc Cert.RefPreIdeal.main_arg5) = m ((c.tc : Thread Cert.RefPreIdeal.nD Cert.RefPreIdeal.τ).loc Cert.RefPreIdeal.main_arg5)
      ∧ r.2.mem ((c.tc : Thread Cert.RefPreIdeal.nD Cert.RefPreIdeal.τ).loc Cert.RefPreIdeal.main_arg6) = m ((c.tc : Thread Cert.RefPreIdeal.nD Cert.RefPreIdeal.τ).loc Cert.RefPreIdeal.main_arg6))
      ∧ r.2.sem = fun _ => 0)

def quiescent_RefPreIdeal_pre_finite_pre [hRefPreIdeal : Cert.RefPreIdeal.Facts] [hPre_finite_pre : Cert.Pre_finite_pre.Facts] : Prop :=
  ∀ (m : (ℓ : Loc Cert.RefPreIdeal.nD Cert.RefPreIdeal.τ Cert.RefPreIdeal.sig) → Buf (Elt Ideal) ℓ) (g : Dev Cert.RefPreIdeal.nD → PrngReg), Pre_RefPreIdeal_finite_pre m →
    θ_run (Cert.RefPreIdeal.defs (F := Ideal)) (onTc (τ := Cert.RefPreIdeal.τ) (Cert.RefPreIdeal.main (F := Ideal))) ⟨m, fun _ => 0, g⟩ (fun r => (∀ c : Dev Cert.RefPreIdeal.nD,
      r.2.mem ((c.tc : Thread Cert.RefPreIdeal.nD Cert.RefPreIdeal.τ).loc Cert.RefPreIdeal.main_arg0) = m ((c.tc : Thread Cert.RefPreIdeal.nD Cert.RefPreIdeal.τ).loc Cert.RefPreIdeal.main_arg0)
      ∧ r.2.mem ((c.tc : Thread Cert.RefPreIdeal.nD Cert.RefPreIdeal.τ).loc Cert.RefPreIdeal.main_arg1) = m ((c.tc : Thread Cert.RefPreIdeal.nD Cert.RefPreIdeal.τ).loc Cert.RefPreIdeal.main_arg1)
      ∧ r.2.mem ((c.tc : Thread Cert.RefPreIdeal.nD Cert.RefPreIdeal.τ).loc Cert.RefPreIdeal.main_arg2) = m ((c.tc : Thread Cert.RefPreIdeal.nD Cert.RefPreIdeal.τ).loc Cert.RefPreIdeal.main_arg2)
      ∧ r.2.mem ((c.tc : Thread Cert.RefPreIdeal.nD Cert.RefPreIdeal.τ).loc Cert.RefPreIdeal.main_arg3) = m ((c.tc : Thread Cert.RefPreIdeal.nD Cert.RefPreIdeal.τ).loc Cert.RefPreIdeal.main_arg3)
      ∧ r.2.mem ((c.tc : Thread Cert.RefPreIdeal.nD Cert.RefPreIdeal.τ).loc Cert.RefPreIdeal.main_arg4) = m ((c.tc : Thread Cert.RefPreIdeal.nD Cert.RefPreIdeal.τ).loc Cert.RefPreIdeal.main_arg4)
      ∧ r.2.mem ((c.tc : Thread Cert.RefPreIdeal.nD Cert.RefPreIdeal.τ).loc Cert.RefPreIdeal.main_arg5) = m ((c.tc : Thread Cert.RefPreIdeal.nD Cert.RefPreIdeal.τ).loc Cert.RefPreIdeal.main_arg5)
      ∧ r.2.mem ((c.tc : Thread Cert.RefPreIdeal.nD Cert.RefPreIdeal.τ).loc Cert.RefPreIdeal.main_arg6) = m ((c.tc : Thread Cert.RefPreIdeal.nD Cert.RefPreIdeal.τ).loc Cert.RefPreIdeal.main_arg6))
      ∧ r.2.sem = fun _ => 0)

def quiescent_BackIn [hBackIn : Cert.BackIn.Facts] : Prop :=
  ∀ (m : (ℓ : Loc Cert.BackIn.nD Cert.BackIn.τ Cert.BackIn.sig) → Buf (Elt Bits) ℓ) (g : Dev Cert.BackIn.nD → PrngReg), Pre_BackIn m →
    θ_run (Cert.BackIn.defs (F := Bits)) (onTc (τ := Cert.BackIn.τ) (Cert.BackIn.main (F := Bits))) ⟨m, fun _ => 0, g⟩ (fun r => (∀ c : Dev Cert.BackIn.nD,
      r.2.mem ((c.tc : Thread Cert.BackIn.nD Cert.BackIn.τ).loc Cert.BackIn.main_arg0) = m ((c.tc : Thread Cert.BackIn.nD Cert.BackIn.τ).loc Cert.BackIn.main_arg0)
      ∧ r.2.mem ((c.tc : Thread Cert.BackIn.nD Cert.BackIn.τ).loc Cert.BackIn.main_arg1) = m ((c.tc : Thread Cert.BackIn.nD Cert.BackIn.τ).loc Cert.BackIn.main_arg1)
      ∧ r.2.mem ((c.tc : Thread Cert.BackIn.nD Cert.BackIn.τ).loc Cert.BackIn.main_arg2) = m ((c.tc : Thread Cert.BackIn.nD Cert.BackIn.τ).loc Cert.BackIn.main_arg2)
      ∧ r.2.mem ((c.tc : Thread Cert.BackIn.nD Cert.BackIn.τ).loc Cert.BackIn.main_arg3) = m ((c.tc : Thread Cert.BackIn.nD Cert.BackIn.τ).loc Cert.BackIn.main_arg3)
      ∧ r.2.mem ((c.tc : Thread Cert.BackIn.nD Cert.BackIn.τ).loc Cert.BackIn.main_arg4) = m ((c.tc : Thread Cert.BackIn.nD Cert.BackIn.τ).loc Cert.BackIn.main_arg4)
      ∧ r.2.mem ((c.tc : Thread Cert.BackIn.nD Cert.BackIn.τ).loc Cert.BackIn.main_arg5) = m ((c.tc : Thread Cert.BackIn.nD Cert.BackIn.τ).loc Cert.BackIn.main_arg5)
      ∧ r.2.mem ((c.tc : Thread Cert.BackIn.nD Cert.BackIn.τ).loc Cert.BackIn.main_arg6) = m ((c.tc : Thread Cert.BackIn.nD Cert.BackIn.τ).loc Cert.BackIn.main_arg6)
      ∧ r.2.mem ((c.tc : Thread Cert.BackIn.nD Cert.BackIn.τ).loc Cert.BackIn.main_arg7) = m ((c.tc : Thread Cert.BackIn.nD Cert.BackIn.τ).loc Cert.BackIn.main_arg7))
      ∧ r.2.sem = fun _ => 0)

def quiescent_BackInIdeal [hBackInIdeal : Cert.BackInIdeal.Facts] : Prop :=
  ∀ (m : (ℓ : Loc Cert.BackInIdeal.nD Cert.BackInIdeal.τ Cert.BackInIdeal.sig) → Buf (Elt Ideal) ℓ) (g : Dev Cert.BackInIdeal.nD → PrngReg), Pre_BackInIdeal m →
    θ_run (Cert.BackInIdeal.defs (F := Ideal)) (onTc (τ := Cert.BackInIdeal.τ) (Cert.BackInIdeal.main (F := Ideal))) ⟨m, fun _ => 0, g⟩ (fun r => (∀ c : Dev Cert.BackInIdeal.nD,
      r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
      ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1)
      ∧ r.2.mem ((c.tc : Thread Cert.BackInIdeal.nD Cert.BackInIdeal.τ).loc Cert.BackInIdeal.main_arg2) = m ((c.tc : Thread Cert.BackInIdeal.nD Cert.BackInIdeal.τ).loc Cert.BackInIdeal.main_arg2)
      ∧ r.2.mem ((c.tc : Thread Cert.BackInIdeal.nD Cert.BackInIdeal.τ).loc Cert.BackInIdeal.main_arg3) = m ((c.tc : Thread Cert.BackInIdeal.nD Cert.BackInIdeal.τ).loc Cert.BackInIdeal.main_arg3)
      ∧ r.2.mem ((c.tc : Thread Cert.BackInIdeal.nD Cert.BackInIdeal.τ).loc Cert.BackInIdeal.main_arg4) = m ((c.tc : Thread Cert.BackInIdeal.nD Cert.BackInIdeal.τ).loc Cert.BackInIdeal.main_arg4)
      ∧ r.2.mem ((c.tc : Thread Cert.BackInIdeal.nD Cert.BackInIdeal.τ).loc Cert.BackInIdeal.main_arg5) = m ((c.tc : Thread Cert.BackInIdeal.nD Cert.BackInIdeal.τ).loc Cert.BackInIdeal.main_arg5)
      ∧ r.2.mem ((c.tc : Thread Cert.BackInIdeal.nD Cert.BackInIdeal.τ).loc Cert.BackInIdeal.main_arg6) = m ((c.tc : Thread Cert.BackInIdeal.nD Cert.BackInIdeal.τ).loc Cert.BackInIdeal.main_arg6)
      ∧ r.2.mem ((c.tc : Thread Cert.BackInIdeal.nD Cert.BackInIdeal.τ).loc Cert.BackInIdeal.main_arg7) = m ((c.tc : Thread Cert.BackInIdeal.nD Cert.BackInIdeal.τ).loc Cert.BackInIdeal.main_arg7))
      ∧ r.2.sem = fun _ => 0)

def quiescent_BackInIdeal_pre_finite_backin [hBackInIdeal : Cert.BackInIdeal.Facts] [hPre_finite_backin : Cert.Pre_finite_backin.Facts] : Prop :=
  ∀ (m : (ℓ : Loc Cert.BackInIdeal.nD Cert.BackInIdeal.τ Cert.BackInIdeal.sig) → Buf (Elt Ideal) ℓ) (g : Dev Cert.BackInIdeal.nD → PrngReg), Pre_BackInIdeal_finite_backin m →
    θ_run (Cert.BackInIdeal.defs (F := Ideal)) (onTc (τ := Cert.BackInIdeal.τ) (Cert.BackInIdeal.main (F := Ideal))) ⟨m, fun _ => 0, g⟩ (fun r => (∀ c : Dev Cert.BackInIdeal.nD,
      r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
      ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1)
      ∧ r.2.mem ((c.tc : Thread Cert.BackInIdeal.nD Cert.BackInIdeal.τ).loc Cert.BackInIdeal.main_arg2) = m ((c.tc : Thread Cert.BackInIdeal.nD Cert.BackInIdeal.τ).loc Cert.BackInIdeal.main_arg2)
      ∧ r.2.mem ((c.tc : Thread Cert.BackInIdeal.nD Cert.BackInIdeal.τ).loc Cert.BackInIdeal.main_arg3) = m ((c.tc : Thread Cert.BackInIdeal.nD Cert.BackInIdeal.τ).loc Cert.BackInIdeal.main_arg3)
      ∧ r.2.mem ((c.tc : Thread Cert.BackInIdeal.nD Cert.BackInIdeal.τ).loc Cert.BackInIdeal.main_arg4) = m ((c.tc : Thread Cert.BackInIdeal.nD Cert.BackInIdeal.τ).loc Cert.BackInIdeal.main_arg4)
      ∧ r.2.mem ((c.tc : Thread Cert.BackInIdeal.nD Cert.BackInIdeal.τ).loc Cert.BackInIdeal.main_arg5) = m ((c.tc : Thread Cert.BackInIdeal.nD Cert.BackInIdeal.τ).loc Cert.BackInIdeal.main_arg5)
      ∧ r.2.mem ((c.tc : Thread Cert.BackInIdeal.nD Cert.BackInIdeal.τ).loc Cert.BackInIdeal.main_arg6) = m ((c.tc : Thread Cert.BackInIdeal.nD Cert.BackInIdeal.τ).loc Cert.BackInIdeal.main_arg6)
      ∧ r.2.mem ((c.tc : Thread Cert.BackInIdeal.nD Cert.BackInIdeal.τ).loc Cert.BackInIdeal.main_arg7) = m ((c.tc : Thread Cert.BackInIdeal.nD Cert.BackInIdeal.τ).loc Cert.BackInIdeal.main_arg7))
      ∧ r.2.sem = fun _ => 0)

def quiescent_RefBackInIdeal [hRefBackInIdeal : Cert.RefBackInIdeal.Facts] : Prop :=
  ∀ (m : (ℓ : Loc Cert.RefBackInIdeal.nD Cert.RefBackInIdeal.τ Cert.RefBackInIdeal.sig) → Buf (Elt Ideal) ℓ) (g : Dev Cert.RefBackInIdeal.nD → PrngReg), Pre_RefBackInIdeal m →
    θ_run (Cert.RefBackInIdeal.defs (F := Ideal)) (onTc (τ := Cert.RefBackInIdeal.τ) (Cert.RefBackInIdeal.main (F := Ideal))) ⟨m, fun _ => 0, g⟩ (fun r => (∀ c : Dev Cert.RefBackInIdeal.nD,
      r.2.mem ((c.tc : Thread Cert.RefBackInIdeal.nD Cert.RefBackInIdeal.τ).loc Cert.RefBackInIdeal.main_arg0) = m ((c.tc : Thread Cert.RefBackInIdeal.nD Cert.RefBackInIdeal.τ).loc Cert.RefBackInIdeal.main_arg0)
      ∧ r.2.mem ((c.tc : Thread Cert.RefBackInIdeal.nD Cert.RefBackInIdeal.τ).loc Cert.RefBackInIdeal.main_arg1) = m ((c.tc : Thread Cert.RefBackInIdeal.nD Cert.RefBackInIdeal.τ).loc Cert.RefBackInIdeal.main_arg1)
      ∧ r.2.mem ((c.tc : Thread Cert.RefBackInIdeal.nD Cert.RefBackInIdeal.τ).loc Cert.RefBackInIdeal.main_arg2) = m ((c.tc : Thread Cert.RefBackInIdeal.nD Cert.RefBackInIdeal.τ).loc Cert.RefBackInIdeal.main_arg2)
      ∧ r.2.mem ((c.tc : Thread Cert.RefBackInIdeal.nD Cert.RefBackInIdeal.τ).loc Cert.RefBackInIdeal.main_arg3) = m ((c.tc : Thread Cert.RefBackInIdeal.nD Cert.RefBackInIdeal.τ).loc Cert.RefBackInIdeal.main_arg3)
      ∧ r.2.mem ((c.tc : Thread Cert.RefBackInIdeal.nD Cert.RefBackInIdeal.τ).loc Cert.RefBackInIdeal.main_arg4) = m ((c.tc : Thread Cert.RefBackInIdeal.nD Cert.RefBackInIdeal.τ).loc Cert.RefBackInIdeal.main_arg4)
      ∧ r.2.mem ((c.tc : Thread Cert.RefBackInIdeal.nD Cert.RefBackInIdeal.τ).loc Cert.RefBackInIdeal.main_arg5) = m ((c.tc : Thread Cert.RefBackInIdeal.nD Cert.RefBackInIdeal.τ).loc Cert.RefBackInIdeal.main_arg5)
      ∧ r.2.mem ((c.tc : Thread Cert.RefBackInIdeal.nD Cert.RefBackInIdeal.τ).loc Cert.RefBackInIdeal.main_arg6) = m ((c.tc : Thread Cert.RefBackInIdeal.nD Cert.RefBackInIdeal.τ).loc Cert.RefBackInIdeal.main_arg6)
      ∧ r.2.mem ((c.tc : Thread Cert.RefBackInIdeal.nD Cert.RefBackInIdeal.τ).loc Cert.RefBackInIdeal.main_arg7) = m ((c.tc : Thread Cert.RefBackInIdeal.nD Cert.RefBackInIdeal.τ).loc Cert.RefBackInIdeal.main_arg7))
      ∧ r.2.sem = fun _ => 0)

def quiescent_RefBackInIdeal_pre_finite_backin [hRefBackInIdeal : Cert.RefBackInIdeal.Facts] [hPre_finite_backin : Cert.Pre_finite_backin.Facts] : Prop :=
  ∀ (m : (ℓ : Loc Cert.RefBackInIdeal.nD Cert.RefBackInIdeal.τ Cert.RefBackInIdeal.sig) → Buf (Elt Ideal) ℓ) (g : Dev Cert.RefBackInIdeal.nD → PrngReg), Pre_RefBackInIdeal_finite_backin m →
    θ_run (Cert.RefBackInIdeal.defs (F := Ideal)) (onTc (τ := Cert.RefBackInIdeal.τ) (Cert.RefBackInIdeal.main (F := Ideal))) ⟨m, fun _ => 0, g⟩ (fun r => (∀ c : Dev Cert.RefBackInIdeal.nD,
      r.2.mem ((c.tc : Thread Cert.RefBackInIdeal.nD Cert.RefBackInIdeal.τ).loc Cert.RefBackInIdeal.main_arg0) = m ((c.tc : Thread Cert.RefBackInIdeal.nD Cert.RefBackInIdeal.τ).loc Cert.RefBackInIdeal.main_arg0)
      ∧ r.2.mem ((c.tc : Thread Cert.RefBackInIdeal.nD Cert.RefBackInIdeal.τ).loc Cert.RefBackInIdeal.main_arg1) = m ((c.tc : Thread Cert.RefBackInIdeal.nD Cert.RefBackInIdeal.τ).loc Cert.RefBackInIdeal.main_arg1)
      ∧ r.2.mem ((c.tc : Thread Cert.RefBackInIdeal.nD Cert.RefBackInIdeal.τ).loc Cert.RefBackInIdeal.main_arg2) = m ((c.tc : Thread Cert.RefBackInIdeal.nD Cert.RefBackInIdeal.τ).loc Cert.RefBackInIdeal.main_arg2)
      ∧ r.2.mem ((c.tc : Thread Cert.RefBackInIdeal.nD Cert.RefBackInIdeal.τ).loc Cert.RefBackInIdeal.main_arg3) = m ((c.tc : Thread Cert.RefBackInIdeal.nD Cert.RefBackInIdeal.τ).loc Cert.RefBackInIdeal.main_arg3)
      ∧ r.2.mem ((c.tc : Thread Cert.RefBackInIdeal.nD Cert.RefBackInIdeal.τ).loc Cert.RefBackInIdeal.main_arg4) = m ((c.tc : Thread Cert.RefBackInIdeal.nD Cert.RefBackInIdeal.τ).loc Cert.RefBackInIdeal.main_arg4)
      ∧ r.2.mem ((c.tc : Thread Cert.RefBackInIdeal.nD Cert.RefBackInIdeal.τ).loc Cert.RefBackInIdeal.main_arg5) = m ((c.tc : Thread Cert.RefBackInIdeal.nD Cert.RefBackInIdeal.τ).loc Cert.RefBackInIdeal.main_arg5)
      ∧ r.2.mem ((c.tc : Thread Cert.RefBackInIdeal.nD Cert.RefBackInIdeal.τ).loc Cert.RefBackInIdeal.main_arg6) = m ((c.tc : Thread Cert.RefBackInIdeal.nD Cert.RefBackInIdeal.τ).loc Cert.RefBackInIdeal.main_arg6)
      ∧ r.2.mem ((c.tc : Thread Cert.RefBackInIdeal.nD Cert.RefBackInIdeal.τ).loc Cert.RefBackInIdeal.main_arg7) = m ((c.tc : Thread Cert.RefBackInIdeal.nD Cert.RefBackInIdeal.τ).loc Cert.RefBackInIdeal.main_arg7))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_PostIdeal_pre_finite_post [hPostIdeal : Cert.PostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg), Pre_PostIdeal_finite_post m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ r.2.sem = fun _ => 0)

def quiescent_RefPostIdeal [hRefPostIdeal : Cert.RefPostIdeal.Facts] : Prop :=
  ∀ (m : (ℓ : Loc Cert.RefPostIdeal.nD Cert.RefPostIdeal.τ Cert.RefPostIdeal.sig) → Buf (Elt Ideal) ℓ) (g : Dev Cert.RefPostIdeal.nD → PrngReg), Pre_RefPostIdeal m →
    θ_run (Cert.RefPostIdeal.defs (F := Ideal)) (onTc (τ := Cert.RefPostIdeal.τ) (Cert.RefPostIdeal.main (F := Ideal))) ⟨m, fun _ => 0, g⟩ (fun r => (∀ c : Dev Cert.RefPostIdeal.nD,
      r.2.mem ((c.tc : Thread Cert.RefPostIdeal.nD Cert.RefPostIdeal.τ).loc Cert.RefPostIdeal.main_arg0) = m ((c.tc : Thread Cert.RefPostIdeal.nD Cert.RefPostIdeal.τ).loc Cert.RefPostIdeal.main_arg0)
      ∧ r.2.mem ((c.tc : Thread Cert.RefPostIdeal.nD Cert.RefPostIdeal.τ).loc Cert.RefPostIdeal.main_arg1) = m ((c.tc : Thread Cert.RefPostIdeal.nD Cert.RefPostIdeal.τ).loc Cert.RefPostIdeal.main_arg1)
      ∧ r.2.mem ((c.tc : Thread Cert.RefPostIdeal.nD Cert.RefPostIdeal.τ).loc Cert.RefPostIdeal.main_arg2) = m ((c.tc : Thread Cert.RefPostIdeal.nD Cert.RefPostIdeal.τ).loc Cert.RefPostIdeal.main_arg2)
      ∧ r.2.mem ((c.tc : Thread Cert.RefPostIdeal.nD Cert.RefPostIdeal.τ).loc Cert.RefPostIdeal.main_arg3) = m ((c.tc : Thread Cert.RefPostIdeal.nD Cert.RefPostIdeal.τ).loc Cert.RefPostIdeal.main_arg3)
      ∧ r.2.mem ((c.tc : Thread Cert.RefPostIdeal.nD Cert.RefPostIdeal.τ).loc Cert.RefPostIdeal.main_arg4) = m ((c.tc : Thread Cert.RefPostIdeal.nD Cert.RefPostIdeal.τ).loc Cert.RefPostIdeal.main_arg4))
      ∧ r.2.sem = fun _ => 0)

def quiescent_RefPostIdeal_pre_finite_post [hRefPostIdeal : Cert.RefPostIdeal.Facts] [hPre_finite_post : Cert.Pre_finite_post.Facts] : Prop :=
  ∀ (m : (ℓ : Loc Cert.RefPostIdeal.nD Cert.RefPostIdeal.τ Cert.RefPostIdeal.sig) → Buf (Elt Ideal) ℓ) (g : Dev Cert.RefPostIdeal.nD → PrngReg), Pre_RefPostIdeal_finite_post m →
    θ_run (Cert.RefPostIdeal.defs (F := Ideal)) (onTc (τ := Cert.RefPostIdeal.τ) (Cert.RefPostIdeal.main (F := Ideal))) ⟨m, fun _ => 0, g⟩ (fun r => (∀ c : Dev Cert.RefPostIdeal.nD,
      r.2.mem ((c.tc : Thread Cert.RefPostIdeal.nD Cert.RefPostIdeal.τ).loc Cert.RefPostIdeal.main_arg0) = m ((c.tc : Thread Cert.RefPostIdeal.nD Cert.RefPostIdeal.τ).loc Cert.RefPostIdeal.main_arg0)
      ∧ r.2.mem ((c.tc : Thread Cert.RefPostIdeal.nD Cert.RefPostIdeal.τ).loc Cert.RefPostIdeal.main_arg1) = m ((c.tc : Thread Cert.RefPostIdeal.nD Cert.RefPostIdeal.τ).loc Cert.RefPostIdeal.main_arg1)
      ∧ r.2.mem ((c.tc : Thread Cert.RefPostIdeal.nD Cert.RefPostIdeal.τ).loc Cert.RefPostIdeal.main_arg2) = m ((c.tc : Thread Cert.RefPostIdeal.nD Cert.RefPostIdeal.τ).loc Cert.RefPostIdeal.main_arg2)
      ∧ r.2.mem ((c.tc : Thread Cert.RefPostIdeal.nD Cert.RefPostIdeal.τ).loc Cert.RefPostIdeal.main_arg3) = m ((c.tc : Thread Cert.RefPostIdeal.nD Cert.RefPostIdeal.τ).loc Cert.RefPostIdeal.main_arg3)
      ∧ r.2.mem ((c.tc : Thread Cert.RefPostIdeal.nD Cert.RefPostIdeal.τ).loc Cert.RefPostIdeal.main_arg4) = m ((c.tc : Thread Cert.RefPostIdeal.nD Cert.RefPostIdeal.τ).loc Cert.RefPostIdeal.main_arg4))
      ∧ r.2.sem = fun _ => 0)

def quiescent_MixBack [hMixBack : Cert.MixBack.Facts] : Prop :=
  ∀ (m : (ℓ : Loc Cert.MixBack.nD Cert.MixBack.τ Cert.MixBack.sig) → Buf (Elt Bits) ℓ) (g : Dev Cert.MixBack.nD → PrngReg), Pre_MixBack m →
    θ_run (Cert.MixBack.defs (F := Bits)) (onTc (τ := Cert.MixBack.τ) (Cert.MixBack.main (F := Bits))) ⟨m, fun _ => 0, g⟩ (fun r => (∀ c : Dev Cert.MixBack.nD,
      r.2.mem ((c.tc : Thread Cert.MixBack.nD Cert.MixBack.τ).loc Cert.MixBack.main_arg0) = m ((c.tc : Thread Cert.MixBack.nD Cert.MixBack.τ).loc Cert.MixBack.main_arg0)
      ∧ r.2.mem ((c.tc : Thread Cert.MixBack.nD Cert.MixBack.τ).loc Cert.MixBack.main_arg1) = m ((c.tc : Thread Cert.MixBack.nD Cert.MixBack.τ).loc Cert.MixBack.main_arg1)
      ∧ r.2.mem ((c.tc : Thread Cert.MixBack.nD Cert.MixBack.τ).loc Cert.MixBack.main_arg2) = m ((c.tc : Thread Cert.MixBack.nD Cert.MixBack.τ).loc Cert.MixBack.main_arg2)
      ∧ r.2.mem ((c.tc : Thread Cert.MixBack.nD Cert.MixBack.τ).loc Cert.MixBack.main_arg3) = m ((c.tc : Thread Cert.MixBack.nD Cert.MixBack.τ).loc Cert.MixBack.main_arg3)
      ∧ r.2.mem ((c.tc : Thread Cert.MixBack.nD Cert.MixBack.τ).loc Cert.MixBack.main_arg4) = m ((c.tc : Thread Cert.MixBack.nD Cert.MixBack.τ).loc Cert.MixBack.main_arg4)
      ∧ r.2.mem ((c.tc : Thread Cert.MixBack.nD Cert.MixBack.τ).loc Cert.MixBack.main_arg5) = m ((c.tc : Thread Cert.MixBack.nD Cert.MixBack.τ).loc Cert.MixBack.main_arg5)
      ∧ r.2.mem ((c.tc : Thread Cert.MixBack.nD Cert.MixBack.τ).loc Cert.MixBack.main_arg6) = m ((c.tc : Thread Cert.MixBack.nD Cert.MixBack.τ).loc Cert.MixBack.main_arg6)
      ∧ r.2.mem ((c.tc : Thread Cert.MixBack.nD Cert.MixBack.τ).loc Cert.MixBack.main_arg7) = m ((c.tc : Thread Cert.MixBack.nD Cert.MixBack.τ).loc Cert.MixBack.main_arg7))
      ∧ r.2.sem = fun _ => 0)

def quiescent_MixBackIdeal [hMixBackIdeal : Cert.MixBackIdeal.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
      ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5)
      ∧ r.2.mem ((c.tc : Thread Cert.MixBackIdeal.nD Cert.MixBackIdeal.τ).loc Cert.MixBackIdeal.main_arg6) = m ((c.tc : Thread Cert.MixBackIdeal.nD Cert.MixBackIdeal.τ).loc Cert.MixBackIdeal.main_arg6)
      ∧ r.2.mem ((c.tc : Thread Cert.MixBackIdeal.nD Cert.MixBackIdeal.τ).loc Cert.MixBackIdeal.main_arg7) = m ((c.tc : Thread Cert.MixBackIdeal.nD Cert.MixBackIdeal.τ).loc Cert.MixBackIdeal.main_arg7))
      ∧ r.2.sem = fun _ => 0)

def quiescent_MixBackIdeal_pre_finite_mixback [hMixBackIdeal : Cert.MixBackIdeal.Facts] [hPre_finite_mixback : Cert.Pre_finite_mixback.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal_finite_mixback m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
      ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5)
      ∧ r.2.mem ((c.tc : Thread Cert.MixBackIdeal.nD Cert.MixBackIdeal.τ).loc Cert.MixBackIdeal.main_arg6) = m ((c.tc : Thread Cert.MixBackIdeal.nD Cert.MixBackIdeal.τ).loc Cert.MixBackIdeal.main_arg6)
      ∧ r.2.mem ((c.tc : Thread Cert.MixBackIdeal.nD Cert.MixBackIdeal.τ).loc Cert.MixBackIdeal.main_arg7) = m ((c.tc : Thread Cert.MixBackIdeal.nD Cert.MixBackIdeal.τ).loc Cert.MixBackIdeal.main_arg7))
      ∧ r.2.sem = fun _ => 0)

def quiescent_RefMixBackIdeal [hRefMixBackIdeal : Cert.RefMixBackIdeal.Facts] : Prop :=
  ∀ (m : (ℓ : Loc Cert.RefMixBackIdeal.nD Cert.RefMixBackIdeal.τ Cert.RefMixBackIdeal.sig) → Buf (Elt Ideal) ℓ) (g : Dev Cert.RefMixBackIdeal.nD → PrngReg), Pre_RefMixBackIdeal m →
    θ_run (Cert.RefMixBackIdeal.defs (F := Ideal)) (onTc (τ := Cert.RefMixBackIdeal.τ) (Cert.RefMixBackIdeal.main (F := Ideal))) ⟨m, fun _ => 0, g⟩ (fun r => (∀ c : Dev Cert.RefMixBackIdeal.nD,
      r.2.mem ((c.tc : Thread Cert.RefMixBackIdeal.nD Cert.RefMixBackIdeal.τ).loc Cert.RefMixBackIdeal.main_arg0) = m ((c.tc : Thread Cert.RefMixBackIdeal.nD Cert.RefMixBackIdeal.τ).loc Cert.RefMixBackIdeal.main_arg0)
      ∧ r.2.mem ((c.tc : Thread Cert.RefMixBackIdeal.nD Cert.RefMixBackIdeal.τ).loc Cert.RefMixBackIdeal.main_arg1) = m ((c.tc : Thread Cert.RefMixBackIdeal.nD Cert.RefMixBackIdeal.τ).loc Cert.RefMixBackIdeal.main_arg1)
      ∧ r.2.mem ((c.tc : Thread Cert.RefMixBackIdeal.nD Cert.RefMixBackIdeal.τ).loc Cert.RefMixBackIdeal.main_arg2) = m ((c.tc : Thread Cert.RefMixBackIdeal.nD Cert.RefMixBackIdeal.τ).loc Cert.RefMixBackIdeal.main_arg2)
      ∧ r.2.mem ((c.tc : Thread Cert.RefMixBackIdeal.nD Cert.RefMixBackIdeal.τ).loc Cert.RefMixBackIdeal.main_arg3) = m ((c.tc : Thread Cert.RefMixBackIdeal.nD Cert.RefMixBackIdeal.τ).loc Cert.RefMixBackIdeal.main_arg3)
      ∧ r.2.mem ((c.tc : Thread Cert.RefMixBackIdeal.nD Cert.RefMixBackIdeal.τ).loc Cert.RefMixBackIdeal.main_arg4) = m ((c.tc : Thread Cert.RefMixBackIdeal.nD Cert.RefMixBackIdeal.τ).loc Cert.RefMixBackIdeal.main_arg4)
      ∧ r.2.mem ((c.tc : Thread Cert.RefMixBackIdeal.nD Cert.RefMixBackIdeal.τ).loc Cert.RefMixBackIdeal.main_arg5) = m ((c.tc : Thread Cert.RefMixBackIdeal.nD Cert.RefMixBackIdeal.τ).loc Cert.RefMixBackIdeal.main_arg5)
      ∧ r.2.mem ((c.tc : Thread Cert.RefMixBackIdeal.nD Cert.RefMixBackIdeal.τ).loc Cert.RefMixBackIdeal.main_arg6) = m ((c.tc : Thread Cert.RefMixBackIdeal.nD Cert.RefMixBackIdeal.τ).loc Cert.RefMixBackIdeal.main_arg6)
      ∧ r.2.mem ((c.tc : Thread Cert.RefMixBackIdeal.nD Cert.RefMixBackIdeal.τ).loc Cert.RefMixBackIdeal.main_arg7) = m ((c.tc : Thread Cert.RefMixBackIdeal.nD Cert.RefMixBackIdeal.τ).loc Cert.RefMixBackIdeal.main_arg7))
      ∧ r.2.sem = fun _ => 0)

def quiescent_RefMixBackIdeal_pre_finite_mixback [hRefMixBackIdeal : Cert.RefMixBackIdeal.Facts] [hPre_finite_mixback : Cert.Pre_finite_mixback.Facts] : Prop :=
  ∀ (m : (ℓ : Loc Cert.RefMixBackIdeal.nD Cert.RefMixBackIdeal.τ Cert.RefMixBackIdeal.sig) → Buf (Elt Ideal) ℓ) (g : Dev Cert.RefMixBackIdeal.nD → PrngReg), Pre_RefMixBackIdeal_finite_mixback m →
    θ_run (Cert.RefMixBackIdeal.defs (F := Ideal)) (onTc (τ := Cert.RefMixBackIdeal.τ) (Cert.RefMixBackIdeal.main (F := Ideal))) ⟨m, fun _ => 0, g⟩ (fun r => (∀ c : Dev Cert.RefMixBackIdeal.nD,
      r.2.mem ((c.tc : Thread Cert.RefMixBackIdeal.nD Cert.RefMixBackIdeal.τ).loc Cert.RefMixBackIdeal.main_arg0) = m ((c.tc : Thread Cert.RefMixBackIdeal.nD Cert.RefMixBackIdeal.τ).loc Cert.RefMixBackIdeal.main_arg0)
      ∧ r.2.mem ((c.tc : Thread Cert.RefMixBackIdeal.nD Cert.RefMixBackIdeal.τ).loc Cert.RefMixBackIdeal.main_arg1) = m ((c.tc : Thread Cert.RefMixBackIdeal.nD Cert.RefMixBackIdeal.τ).loc Cert.RefMixBackIdeal.main_arg1)
      ∧ r.2.mem ((c.tc : Thread Cert.RefMixBackIdeal.nD Cert.RefMixBackIdeal.τ).loc Cert.RefMixBackIdeal.main_arg2) = m ((c.tc : Thread Cert.RefMixBackIdeal.nD Cert.RefMixBackIdeal.τ).loc Cert.RefMixBackIdeal.main_arg2)
      ∧ r.2.mem ((c.tc : Thread Cert.RefMixBackIdeal.nD Cert.RefMixBackIdeal.τ).loc Cert.RefMixBackIdeal.main_arg3) = m ((c.tc : Thread Cert.RefMixBackIdeal.nD Cert.RefMixBackIdeal.τ).loc Cert.RefMixBackIdeal.main_arg3)
      ∧ r.2.mem ((c.tc : Thread Cert.RefMixBackIdeal.nD Cert.RefMixBackIdeal.τ).loc Cert.RefMixBackIdeal.main_arg4) = m ((c.tc : Thread Cert.RefMixBackIdeal.nD Cert.RefMixBackIdeal.τ).loc Cert.RefMixBackIdeal.main_arg4)
      ∧ r.2.mem ((c.tc : Thread Cert.RefMixBackIdeal.nD Cert.RefMixBackIdeal.τ).loc Cert.RefMixBackIdeal.main_arg5) = m ((c.tc : Thread Cert.RefMixBackIdeal.nD Cert.RefMixBackIdeal.τ).loc Cert.RefMixBackIdeal.main_arg5)
      ∧ r.2.mem ((c.tc : Thread Cert.RefMixBackIdeal.nD Cert.RefMixBackIdeal.τ).loc Cert.RefMixBackIdeal.main_arg6) = m ((c.tc : Thread Cert.RefMixBackIdeal.nD Cert.RefMixBackIdeal.τ).loc Cert.RefMixBackIdeal.main_arg6)
      ∧ r.2.mem ((c.tc : Thread Cert.RefMixBackIdeal.nD Cert.RefMixBackIdeal.τ).loc Cert.RefMixBackIdeal.main_arg7) = m ((c.tc : Thread Cert.RefMixBackIdeal.nD Cert.RefMixBackIdeal.τ).loc Cert.RefMixBackIdeal.main_arg7))
      ∧ r.2.sem = fun _ => 0)

def quiescent_UpdUp [hUpdUp : Cert.UpdUp.Facts] : Prop :=
  ∀ (m : (ℓ : Loc Cert.UpdUp.nD Cert.UpdUp.τ Cert.UpdUp.sig) → Buf (Elt Bits) ℓ) (g : Dev Cert.UpdUp.nD → PrngReg), Pre_UpdUp m →
    θ_run (Cert.UpdUp.defs (F := Bits)) (onTc (τ := Cert.UpdUp.τ) (Cert.UpdUp.main (F := Bits))) ⟨m, fun _ => 0, g⟩ (fun r => (∀ c : Dev Cert.UpdUp.nD,
      r.2.mem ((c.tc : Thread Cert.UpdUp.nD Cert.UpdUp.τ).loc Cert.UpdUp.main_arg0) = m ((c.tc : Thread Cert.UpdUp.nD Cert.UpdUp.τ).loc Cert.UpdUp.main_arg0)
      ∧ r.2.mem ((c.tc : Thread Cert.UpdUp.nD Cert.UpdUp.τ).loc Cert.UpdUp.main_arg1) = m ((c.tc : Thread Cert.UpdUp.nD Cert.UpdUp.τ).loc Cert.UpdUp.main_arg1)
      ∧ r.2.mem ((c.tc : Thread Cert.UpdUp.nD Cert.UpdUp.τ).loc Cert.UpdUp.main_arg2) = m ((c.tc : Thread Cert.UpdUp.nD Cert.UpdUp.τ).loc Cert.UpdUp.main_arg2)
      ∧ r.2.mem ((c.tc : Thread Cert.UpdUp.nD Cert.UpdUp.τ).loc Cert.UpdUp.main_arg3) = m ((c.tc : Thread Cert.UpdUp.nD Cert.UpdUp.τ).loc Cert.UpdUp.main_arg3))
      ∧ r.2.sem = fun _ => 0)

def quiescent_UpdUpIdeal [hUpdUpIdeal : Cert.UpdUpIdeal.Facts] : Prop :=
  ∀ (m : (ℓ : Loc Cert.UpdUpIdeal.nD Cert.UpdUpIdeal.τ Cert.UpdUpIdeal.sig) → Buf (Elt Ideal) ℓ) (g : Dev Cert.UpdUpIdeal.nD → PrngReg), Pre_UpdUpIdeal m →
    θ_run (Cert.UpdUpIdeal.defs (F := Ideal)) (onTc (τ := Cert.UpdUpIdeal.τ) (Cert.UpdUpIdeal.main (F := Ideal))) ⟨m, fun _ => 0, g⟩ (fun r => (∀ c : Dev Cert.UpdUpIdeal.nD,
      r.2.mem ((c.tc : Thread Cert.UpdUpIdeal.nD Cert.UpdUpIdeal.τ).loc Cert.UpdUpIdeal.main_arg0) = m ((c.tc : Thread Cert.UpdUpIdeal.nD Cert.UpdUpIdeal.τ).loc Cert.UpdUpIdeal.main_arg0)
      ∧ r.2.mem ((c.tc : Thread Cert.UpdUpIdeal.nD Cert.UpdUpIdeal.τ).loc Cert.UpdUpIdeal.main_arg1) = m ((c.tc : Thread Cert.UpdUpIdeal.nD Cert.UpdUpIdeal.τ).loc Cert.UpdUpIdeal.main_arg1)
      ∧ r.2.mem ((c.tc : Thread Cert.UpdUpIdeal.nD Cert.UpdUpIdeal.τ).loc Cert.UpdUpIdeal.main_arg2) = m ((c.tc : Thread Cert.UpdUpIdeal.nD Cert.UpdUpIdeal.τ).loc Cert.UpdUpIdeal.main_arg2)
      ∧ r.2.mem ((c.tc : Thread Cert.UpdUpIdeal.nD Cert.UpdUpIdeal.τ).loc Cert.UpdUpIdeal.main_arg3) = m ((c.tc : Thread Cert.UpdUpIdeal.nD Cert.UpdUpIdeal.τ).loc Cert.UpdUpIdeal.main_arg3))
      ∧ r.2.sem = fun _ => 0)

def quiescent_RefUpdUpIdeal [hRefUpdUpIdeal : Cert.RefUpdUpIdeal.Facts] : Prop :=
  ∀ (m : (ℓ : Loc Cert.RefUpdUpIdeal.nD Cert.RefUpdUpIdeal.τ Cert.RefUpdUpIdeal.sig) → Buf (Elt Ideal) ℓ) (g : Dev Cert.RefUpdUpIdeal.nD → PrngReg), Pre_RefUpdUpIdeal m →
    θ_run (Cert.RefUpdUpIdeal.defs (F := Ideal)) (onTc (τ := Cert.RefUpdUpIdeal.τ) (Cert.RefUpdUpIdeal.main (F := Ideal))) ⟨m, fun _ => 0, g⟩ (fun r => (∀ c : Dev Cert.RefUpdUpIdeal.nD,
      r.2.mem ((c.tc : Thread Cert.RefUpdUpIdeal.nD Cert.RefUpdUpIdeal.τ).loc Cert.RefUpdUpIdeal.main_arg0) = m ((c.tc : Thread Cert.RefUpdUpIdeal.nD Cert.RefUpdUpIdeal.τ).loc Cert.RefUpdUpIdeal.main_arg0)
      ∧ r.2.mem ((c.tc : Thread Cert.RefUpdUpIdeal.nD Cert.RefUpdUpIdeal.τ).loc Cert.RefUpdUpIdeal.main_arg1) = m ((c.tc : Thread Cert.RefUpdUpIdeal.nD Cert.RefUpdUpIdeal.τ).loc Cert.RefUpdUpIdeal.main_arg1)
      ∧ r.2.mem ((c.tc : Thread Cert.RefUpdUpIdeal.nD Cert.RefUpdUpIdeal.τ).loc Cert.RefUpdUpIdeal.main_arg2) = m ((c.tc : Thread Cert.RefUpdUpIdeal.nD Cert.RefUpdUpIdeal.τ).loc Cert.RefUpdUpIdeal.main_arg2)
      ∧ r.2.mem ((c.tc : Thread Cert.RefUpdUpIdeal.nD Cert.RefUpdUpIdeal.τ).loc Cert.RefUpdUpIdeal.main_arg3) = m ((c.tc : Thread Cert.RefUpdUpIdeal.nD Cert.RefUpdUpIdeal.τ).loc Cert.RefUpdUpIdeal.main_arg3))
      ∧ r.2.sem = fun _ => 0)

def quiescent_UpdDown [hUpdDown : Cert.UpdDown.Facts] : Prop :=
  ∀ (m : (ℓ : Loc Cert.UpdDown.nD Cert.UpdDown.τ Cert.UpdDown.sig) → Buf (Elt Bits) ℓ) (g : Dev Cert.UpdDown.nD → PrngReg), Pre_UpdDown m →
    θ_run (Cert.UpdDown.defs (F := Bits)) (onTc (τ := Cert.UpdDown.τ) (Cert.UpdDown.main (F := Bits))) ⟨m, fun _ => 0, g⟩ (fun r => (∀ c : Dev Cert.UpdDown.nD,
      r.2.mem ((c.tc : Thread Cert.UpdDown.nD Cert.UpdDown.τ).loc Cert.UpdDown.main_arg0) = m ((c.tc : Thread Cert.UpdDown.nD Cert.UpdDown.τ).loc Cert.UpdDown.main_arg0)
      ∧ r.2.mem ((c.tc : Thread Cert.UpdDown.nD Cert.UpdDown.τ).loc Cert.UpdDown.main_arg1) = m ((c.tc : Thread Cert.UpdDown.nD Cert.UpdDown.τ).loc Cert.UpdDown.main_arg1)
      ∧ r.2.mem ((c.tc : Thread Cert.UpdDown.nD Cert.UpdDown.τ).loc Cert.UpdDown.main_arg2) = m ((c.tc : Thread Cert.UpdDown.nD Cert.UpdDown.τ).loc Cert.UpdDown.main_arg2)
      ∧ r.2.mem ((c.tc : Thread Cert.UpdDown.nD Cert.UpdDown.τ).loc Cert.UpdDown.main_arg3) = m ((c.tc : Thread Cert.UpdDown.nD Cert.UpdDown.τ).loc Cert.UpdDown.main_arg3))
      ∧ r.2.sem = fun _ => 0)

def quiescent_UpdDownIdeal [hUpdDownIdeal : Cert.UpdDownIdeal.Facts] : Prop :=
  ∀ (m : (ℓ : Loc Cert.UpdDownIdeal.nD Cert.UpdDownIdeal.τ Cert.UpdDownIdeal.sig) → Buf (Elt Ideal) ℓ) (g : Dev Cert.UpdDownIdeal.nD → PrngReg), Pre_UpdDownIdeal m →
    θ_run (Cert.UpdDownIdeal.defs (F := Ideal)) (onTc (τ := Cert.UpdDownIdeal.τ) (Cert.UpdDownIdeal.main (F := Ideal))) ⟨m, fun _ => 0, g⟩ (fun r => (∀ c : Dev Cert.UpdDownIdeal.nD,
      r.2.mem ((c.tc : Thread Cert.UpdDownIdeal.nD Cert.UpdDownIdeal.τ).loc Cert.UpdDownIdeal.main_arg0) = m ((c.tc : Thread Cert.UpdDownIdeal.nD Cert.UpdDownIdeal.τ).loc Cert.UpdDownIdeal.main_arg0)
      ∧ r.2.mem ((c.tc : Thread Cert.UpdDownIdeal.nD Cert.UpdDownIdeal.τ).loc Cert.UpdDownIdeal.main_arg1) = m ((c.tc : Thread Cert.UpdDownIdeal.nD Cert.UpdDownIdeal.τ).loc Cert.UpdDownIdeal.main_arg1)
      ∧ r.2.mem ((c.tc : Thread Cert.UpdDownIdeal.nD Cert.UpdDownIdeal.τ).loc Cert.UpdDownIdeal.main_arg2) = m ((c.tc : Thread Cert.UpdDownIdeal.nD Cert.UpdDownIdeal.τ).loc Cert.UpdDownIdeal.main_arg2)
      ∧ r.2.mem ((c.tc : Thread Cert.UpdDownIdeal.nD Cert.UpdDownIdeal.τ).loc Cert.UpdDownIdeal.main_arg3) = m ((c.tc : Thread Cert.UpdDownIdeal.nD Cert.UpdDownIdeal.τ).loc Cert.UpdDownIdeal.main_arg3))
      ∧ r.2.sem = fun _ => 0)

def quiescent_RefUpdDownIdeal [hRefUpdDownIdeal : Cert.RefUpdDownIdeal.Facts] : Prop :=
  ∀ (m : (ℓ : Loc Cert.RefUpdDownIdeal.nD Cert.RefUpdDownIdeal.τ Cert.RefUpdDownIdeal.sig) → Buf (Elt Ideal) ℓ) (g : Dev Cert.RefUpdDownIdeal.nD → PrngReg), Pre_RefUpdDownIdeal m →
    θ_run (Cert.RefUpdDownIdeal.defs (F := Ideal)) (onTc (τ := Cert.RefUpdDownIdeal.τ) (Cert.RefUpdDownIdeal.main (F := Ideal))) ⟨m, fun _ => 0, g⟩ (fun r => (∀ c : Dev Cert.RefUpdDownIdeal.nD,
      r.2.mem ((c.tc : Thread Cert.RefUpdDownIdeal.nD Cert.RefUpdDownIdeal.τ).loc Cert.RefUpdDownIdeal.main_arg0) = m ((c.tc : Thread Cert.RefUpdDownIdeal.nD Cert.RefUpdDownIdeal.τ).loc Cert.RefUpdDownIdeal.main_arg0)
      ∧ r.2.mem ((c.tc : Thread Cert.RefUpdDownIdeal.nD Cert.RefUpdDownIdeal.τ).loc Cert.RefUpdDownIdeal.main_arg1) = m ((c.tc : Thread Cert.RefUpdDownIdeal.nD Cert.RefUpdDownIdeal.τ).loc Cert.RefUpdDownIdeal.main_arg1)
      ∧ r.2.mem ((c.tc : Thread Cert.RefUpdDownIdeal.nD Cert.RefUpdDownIdeal.τ).loc Cert.RefUpdDownIdeal.main_arg2) = m ((c.tc : Thread Cert.RefUpdDownIdeal.nD Cert.RefUpdDownIdeal.τ).loc Cert.RefUpdDownIdeal.main_arg2)
      ∧ r.2.mem ((c.tc : Thread Cert.RefUpdDownIdeal.nD Cert.RefUpdDownIdeal.τ).loc Cert.RefUpdDownIdeal.main_arg3) = m ((c.tc : Thread Cert.RefUpdDownIdeal.nD Cert.RefUpdDownIdeal.τ).loc Cert.RefUpdDownIdeal.main_arg3))
      ∧ r.2.sem = fun _ => 0)

def quiescent_UpdIn [hUpdIn : Cert.UpdIn.Facts] : Prop :=
  ∀ (m : (ℓ : Loc Cert.UpdIn.nD Cert.UpdIn.τ Cert.UpdIn.sig) → Buf (Elt Bits) ℓ) (g : Dev Cert.UpdIn.nD → PrngReg), Pre_UpdIn m →
    θ_run (Cert.UpdIn.defs (F := Bits)) (onTc (τ := Cert.UpdIn.τ) (Cert.UpdIn.main (F := Bits))) ⟨m, fun _ => 0, g⟩ (fun r => (∀ c : Dev Cert.UpdIn.nD,
      r.2.mem ((c.tc : Thread Cert.UpdIn.nD Cert.UpdIn.τ).loc Cert.UpdIn.main_arg0) = m ((c.tc : Thread Cert.UpdIn.nD Cert.UpdIn.τ).loc Cert.UpdIn.main_arg0)
      ∧ r.2.mem ((c.tc : Thread Cert.UpdIn.nD Cert.UpdIn.τ).loc Cert.UpdIn.main_arg1) = m ((c.tc : Thread Cert.UpdIn.nD Cert.UpdIn.τ).loc Cert.UpdIn.main_arg1)
      ∧ r.2.mem ((c.tc : Thread Cert.UpdIn.nD Cert.UpdIn.τ).loc Cert.UpdIn.main_arg2) = m ((c.tc : Thread Cert.UpdIn.nD Cert.UpdIn.τ).loc Cert.UpdIn.main_arg2)
      ∧ r.2.mem ((c.tc : Thread Cert.UpdIn.nD Cert.UpdIn.τ).loc Cert.UpdIn.main_arg3) = m ((c.tc : Thread Cert.UpdIn.nD Cert.UpdIn.τ).loc Cert.UpdIn.main_arg3))
      ∧ r.2.sem = fun _ => 0)

def quiescent_UpdInIdeal [hUpdInIdeal : Cert.UpdInIdeal.Facts] : Prop :=
  ∀ (m : (ℓ : Loc Cert.UpdInIdeal.nD Cert.UpdInIdeal.τ Cert.UpdInIdeal.sig) → Buf (Elt Ideal) ℓ) (g : Dev Cert.UpdInIdeal.nD → PrngReg), Pre_UpdInIdeal m →
    θ_run (Cert.UpdInIdeal.defs (F := Ideal)) (onTc (τ := Cert.UpdInIdeal.τ) (Cert.UpdInIdeal.main (F := Ideal))) ⟨m, fun _ => 0, g⟩ (fun r => (∀ c : Dev Cert.UpdInIdeal.nD,
      r.2.mem ((c.tc : Thread Cert.UpdInIdeal.nD Cert.UpdInIdeal.τ).loc Cert.UpdInIdeal.main_arg0) = m ((c.tc : Thread Cert.UpdInIdeal.nD Cert.UpdInIdeal.τ).loc Cert.UpdInIdeal.main_arg0)
      ∧ r.2.mem ((c.tc : Thread Cert.UpdInIdeal.nD Cert.UpdInIdeal.τ).loc Cert.UpdInIdeal.main_arg1) = m ((c.tc : Thread Cert.UpdInIdeal.nD Cert.UpdInIdeal.τ).loc Cert.UpdInIdeal.main_arg1)
      ∧ r.2.mem ((c.tc : Thread Cert.UpdInIdeal.nD Cert.UpdInIdeal.τ).loc Cert.UpdInIdeal.main_arg2) = m ((c.tc : Thread Cert.UpdInIdeal.nD Cert.UpdInIdeal.τ).loc Cert.UpdInIdeal.main_arg2)
      ∧ r.2.mem ((c.tc : Thread Cert.UpdInIdeal.nD Cert.UpdInIdeal.τ).loc Cert.UpdInIdeal.main_arg3) = m ((c.tc : Thread Cert.UpdInIdeal.nD Cert.UpdInIdeal.τ).loc Cert.UpdInIdeal.main_arg3))
      ∧ r.2.sem = fun _ => 0)

def quiescent_RefUpdInIdeal [hRefUpdInIdeal : Cert.RefUpdInIdeal.Facts] : Prop :=
  ∀ (m : (ℓ : Loc Cert.RefUpdInIdeal.nD Cert.RefUpdInIdeal.τ Cert.RefUpdInIdeal.sig) → Buf (Elt Ideal) ℓ) (g : Dev Cert.RefUpdInIdeal.nD → PrngReg), Pre_RefUpdInIdeal m →
    θ_run (Cert.RefUpdInIdeal.defs (F := Ideal)) (onTc (τ := Cert.RefUpdInIdeal.τ) (Cert.RefUpdInIdeal.main (F := Ideal))) ⟨m, fun _ => 0, g⟩ (fun r => (∀ c : Dev Cert.RefUpdInIdeal.nD,
      r.2.mem ((c.tc : Thread Cert.RefUpdInIdeal.nD Cert.RefUpdInIdeal.τ).loc Cert.RefUpdInIdeal.main_arg0) = m ((c.tc : Thread Cert.RefUpdInIdeal.nD Cert.RefUpdInIdeal.τ).loc Cert.RefUpdInIdeal.main_arg0)
      ∧ r.2.mem ((c.tc : Thread Cert.RefUpdInIdeal.nD Cert.RefUpdInIdeal.τ).loc Cert.RefUpdInIdeal.main_arg1) = m ((c.tc : Thread Cert.RefUpdInIdeal.nD Cert.RefUpdInIdeal.τ).loc Cert.RefUpdInIdeal.main_arg1)
      ∧ r.2.mem ((c.tc : Thread Cert.RefUpdInIdeal.nD Cert.RefUpdInIdeal.τ).loc Cert.RefUpdInIdeal.main_arg2) = m ((c.tc : Thread Cert.RefUpdInIdeal.nD Cert.RefUpdInIdeal.τ).loc Cert.RefUpdInIdeal.main_arg2)
      ∧ r.2.mem ((c.tc : Thread Cert.RefUpdInIdeal.nD Cert.RefUpdInIdeal.τ).loc Cert.RefUpdInIdeal.main_arg3) = m ((c.tc : Thread Cert.RefUpdInIdeal.nD Cert.RefUpdInIdeal.τ).loc Cert.RefUpdInIdeal.main_arg3))
      ∧ r.2.sem = fun _ => 0)

def quiescent_UpdGate [hUpdGate : Cert.UpdGate.Facts] : Prop :=
  ∀ (m : (ℓ : Loc Cert.UpdGate.nD Cert.UpdGate.τ Cert.UpdGate.sig) → Buf (Elt Bits) ℓ) (g : Dev Cert.UpdGate.nD → PrngReg), Pre_UpdGate m →
    θ_run (Cert.UpdGate.defs (F := Bits)) (onTc (τ := Cert.UpdGate.τ) (Cert.UpdGate.main (F := Bits))) ⟨m, fun _ => 0, g⟩ (fun r => (∀ c : Dev Cert.UpdGate.nD,
      r.2.mem ((c.tc : Thread Cert.UpdGate.nD Cert.UpdGate.τ).loc Cert.UpdGate.main_arg0) = m ((c.tc : Thread Cert.UpdGate.nD Cert.UpdGate.τ).loc Cert.UpdGate.main_arg0)
      ∧ r.2.mem ((c.tc : Thread Cert.UpdGate.nD Cert.UpdGate.τ).loc Cert.UpdGate.main_arg1) = m ((c.tc : Thread Cert.UpdGate.nD Cert.UpdGate.τ).loc Cert.UpdGate.main_arg1)
      ∧ r.2.mem ((c.tc : Thread Cert.UpdGate.nD Cert.UpdGate.τ).loc Cert.UpdGate.main_arg2) = m ((c.tc : Thread Cert.UpdGate.nD Cert.UpdGate.τ).loc Cert.UpdGate.main_arg2)
      ∧ r.2.mem ((c.tc : Thread Cert.UpdGate.nD Cert.UpdGate.τ).loc Cert.UpdGate.main_arg3) = m ((c.tc : Thread Cert.UpdGate.nD Cert.UpdGate.τ).loc Cert.UpdGate.main_arg3))
      ∧ r.2.sem = fun _ => 0)

def quiescent_UpdGateIdeal [hUpdGateIdeal : Cert.UpdGateIdeal.Facts] : Prop :=
  ∀ (m : (ℓ : Loc Cert.UpdGateIdeal.nD Cert.UpdGateIdeal.τ Cert.UpdGateIdeal.sig) → Buf (Elt Ideal) ℓ) (g : Dev Cert.UpdGateIdeal.nD → PrngReg), Pre_UpdGateIdeal m →
    θ_run (Cert.UpdGateIdeal.defs (F := Ideal)) (onTc (τ := Cert.UpdGateIdeal.τ) (Cert.UpdGateIdeal.main (F := Ideal))) ⟨m, fun _ => 0, g⟩ (fun r => (∀ c : Dev Cert.UpdGateIdeal.nD,
      r.2.mem ((c.tc : Thread Cert.UpdGateIdeal.nD Cert.UpdGateIdeal.τ).loc Cert.UpdGateIdeal.main_arg0) = m ((c.tc : Thread Cert.UpdGateIdeal.nD Cert.UpdGateIdeal.τ).loc Cert.UpdGateIdeal.main_arg0)
      ∧ r.2.mem ((c.tc : Thread Cert.UpdGateIdeal.nD Cert.UpdGateIdeal.τ).loc Cert.UpdGateIdeal.main_arg1) = m ((c.tc : Thread Cert.UpdGateIdeal.nD Cert.UpdGateIdeal.τ).loc Cert.UpdGateIdeal.main_arg1)
      ∧ r.2.mem ((c.tc : Thread Cert.UpdGateIdeal.nD Cert.UpdGateIdeal.τ).loc Cert.UpdGateIdeal.main_arg2) = m ((c.tc : Thread Cert.UpdGateIdeal.nD Cert.UpdGateIdeal.τ).loc Cert.UpdGateIdeal.main_arg2)
      ∧ r.2.mem ((c.tc : Thread Cert.UpdGateIdeal.nD Cert.UpdGateIdeal.τ).loc Cert.UpdGateIdeal.main_arg3) = m ((c.tc : Thread Cert.UpdGateIdeal.nD Cert.UpdGateIdeal.τ).loc Cert.UpdGateIdeal.main_arg3))
      ∧ r.2.sem = fun _ => 0)

def quiescent_RefUpdGateIdeal [hRefUpdGateIdeal : Cert.RefUpdGateIdeal.Facts] : Prop :=
  ∀ (m : (ℓ : Loc Cert.RefUpdGateIdeal.nD Cert.RefUpdGateIdeal.τ Cert.RefUpdGateIdeal.sig) → Buf (Elt Ideal) ℓ) (g : Dev Cert.RefUpdGateIdeal.nD → PrngReg), Pre_RefUpdGateIdeal m →
    θ_run (Cert.RefUpdGateIdeal.defs (F := Ideal)) (onTc (τ := Cert.RefUpdGateIdeal.τ) (Cert.RefUpdGateIdeal.main (F := Ideal))) ⟨m, fun _ => 0, g⟩ (fun r => (∀ c : Dev Cert.RefUpdGateIdeal.nD,
      r.2.mem ((c.tc : Thread Cert.RefUpdGateIdeal.nD Cert.RefUpdGateIdeal.τ).loc Cert.RefUpdGateIdeal.main_arg0) = m ((c.tc : Thread Cert.RefUpdGateIdeal.nD Cert.RefUpdGateIdeal.τ).loc Cert.RefUpdGateIdeal.main_arg0)
      ∧ r.2.mem ((c.tc : Thread Cert.RefUpdGateIdeal.nD Cert.RefUpdGateIdeal.τ).loc Cert.RefUpdGateIdeal.main_arg1) = m ((c.tc : Thread Cert.RefUpdGateIdeal.nD Cert.RefUpdGateIdeal.τ).loc Cert.RefUpdGateIdeal.main_arg1)
      ∧ r.2.mem ((c.tc : Thread Cert.RefUpdGateIdeal.nD Cert.RefUpdGateIdeal.τ).loc Cert.RefUpdGateIdeal.main_arg2) = m ((c.tc : Thread Cert.RefUpdGateIdeal.nD Cert.RefUpdGateIdeal.τ).loc Cert.RefUpdGateIdeal.main_arg2)
      ∧ r.2.mem ((c.tc : Thread Cert.RefUpdGateIdeal.nD Cert.RefUpdGateIdeal.τ).loc Cert.RefUpdGateIdeal.main_arg3) = m ((c.tc : Thread Cert.RefUpdGateIdeal.nD Cert.RefUpdGateIdeal.τ).loc Cert.RefUpdGateIdeal.main_arg3))
      ∧ r.2.sem = fun _ => 0)

def quiescent_UpdOut [hUpdOut : Cert.UpdOut.Facts] : Prop :=
  ∀ (m : (ℓ : Loc Cert.UpdOut.nD Cert.UpdOut.τ Cert.UpdOut.sig) → Buf (Elt Bits) ℓ) (g : Dev Cert.UpdOut.nD → PrngReg), Pre_UpdOut m →
    θ_run (Cert.UpdOut.defs (F := Bits)) (onTc (τ := Cert.UpdOut.τ) (Cert.UpdOut.main (F := Bits))) ⟨m, fun _ => 0, g⟩ (fun r => (∀ c : Dev Cert.UpdOut.nD,
      r.2.mem ((c.tc : Thread Cert.UpdOut.nD Cert.UpdOut.τ).loc Cert.UpdOut.main_arg0) = m ((c.tc : Thread Cert.UpdOut.nD Cert.UpdOut.τ).loc Cert.UpdOut.main_arg0)
      ∧ r.2.mem ((c.tc : Thread Cert.UpdOut.nD Cert.UpdOut.τ).loc Cert.UpdOut.main_arg1) = m ((c.tc : Thread Cert.UpdOut.nD Cert.UpdOut.τ).loc Cert.UpdOut.main_arg1)
      ∧ r.2.mem ((c.tc : Thread Cert.UpdOut.nD Cert.UpdOut.τ).loc Cert.UpdOut.main_arg2) = m ((c.tc : Thread Cert.UpdOut.nD Cert.UpdOut.τ).loc Cert.UpdOut.main_arg2)
      ∧ r.2.mem ((c.tc : Thread Cert.UpdOut.nD Cert.UpdOut.τ).loc Cert.UpdOut.main_arg3) = m ((c.tc : Thread Cert.UpdOut.nD Cert.UpdOut.τ).loc Cert.UpdOut.main_arg3))
      ∧ r.2.sem = fun _ => 0)

def quiescent_UpdOutIdeal [hUpdOutIdeal : Cert.UpdOutIdeal.Facts] : Prop :=
  ∀ (m : (ℓ : Loc Cert.UpdOutIdeal.nD Cert.UpdOutIdeal.τ Cert.UpdOutIdeal.sig) → Buf (Elt Ideal) ℓ) (g : Dev Cert.UpdOutIdeal.nD → PrngReg), Pre_UpdOutIdeal m →
    θ_run (Cert.UpdOutIdeal.defs (F := Ideal)) (onTc (τ := Cert.UpdOutIdeal.τ) (Cert.UpdOutIdeal.main (F := Ideal))) ⟨m, fun _ => 0, g⟩ (fun r => (∀ c : Dev Cert.UpdOutIdeal.nD,
      r.2.mem ((c.tc : Thread Cert.UpdOutIdeal.nD Cert.UpdOutIdeal.τ).loc Cert.UpdOutIdeal.main_arg0) = m ((c.tc : Thread Cert.UpdOutIdeal.nD Cert.UpdOutIdeal.τ).loc Cert.UpdOutIdeal.main_arg0)
      ∧ r.2.mem ((c.tc : Thread Cert.UpdOutIdeal.nD Cert.UpdOutIdeal.τ).loc Cert.UpdOutIdeal.main_arg1) = m ((c.tc : Thread Cert.UpdOutIdeal.nD Cert.UpdOutIdeal.τ).loc Cert.UpdOutIdeal.main_arg1)
      ∧ r.2.mem ((c.tc : Thread Cert.UpdOutIdeal.nD Cert.UpdOutIdeal.τ).loc Cert.UpdOutIdeal.main_arg2) = m ((c.tc : Thread Cert.UpdOutIdeal.nD Cert.UpdOutIdeal.τ).loc Cert.UpdOutIdeal.main_arg2)
      ∧ r.2.mem ((c.tc : Thread Cert.UpdOutIdeal.nD Cert.UpdOutIdeal.τ).loc Cert.UpdOutIdeal.main_arg3) = m ((c.tc : Thread Cert.UpdOutIdeal.nD Cert.UpdOutIdeal.τ).loc Cert.UpdOutIdeal.main_arg3))
      ∧ r.2.sem = fun _ => 0)

def quiescent_RefUpdOutIdeal [hRefUpdOutIdeal : Cert.RefUpdOutIdeal.Facts] : Prop :=
  ∀ (m : (ℓ : Loc Cert.RefUpdOutIdeal.nD Cert.RefUpdOutIdeal.τ Cert.RefUpdOutIdeal.sig) → Buf (Elt Ideal) ℓ) (g : Dev Cert.RefUpdOutIdeal.nD → PrngReg), Pre_RefUpdOutIdeal m →
    θ_run (Cert.RefUpdOutIdeal.defs (F := Ideal)) (onTc (τ := Cert.RefUpdOutIdeal.τ) (Cert.RefUpdOutIdeal.main (F := Ideal))) ⟨m, fun _ => 0, g⟩ (fun r => (∀ c : Dev Cert.RefUpdOutIdeal.nD,
      r.2.mem ((c.tc : Thread Cert.RefUpdOutIdeal.nD Cert.RefUpdOutIdeal.τ).loc Cert.RefUpdOutIdeal.main_arg0) = m ((c.tc : Thread Cert.RefUpdOutIdeal.nD Cert.RefUpdOutIdeal.τ).loc Cert.RefUpdOutIdeal.main_arg0)
      ∧ r.2.mem ((c.tc : Thread Cert.RefUpdOutIdeal.nD Cert.RefUpdOutIdeal.τ).loc Cert.RefUpdOutIdeal.main_arg1) = m ((c.tc : Thread Cert.RefUpdOutIdeal.nD Cert.RefUpdOutIdeal.τ).loc Cert.RefUpdOutIdeal.main_arg1)
      ∧ r.2.mem ((c.tc : Thread Cert.RefUpdOutIdeal.nD Cert.RefUpdOutIdeal.τ).loc Cert.RefUpdOutIdeal.main_arg2) = m ((c.tc : Thread Cert.RefUpdOutIdeal.nD Cert.RefUpdOutIdeal.τ).loc Cert.RefUpdOutIdeal.main_arg2)
      ∧ r.2.mem ((c.tc : Thread Cert.RefUpdOutIdeal.nD Cert.RefUpdOutIdeal.τ).loc Cert.RefUpdOutIdeal.main_arg3) = m ((c.tc : Thread Cert.RefUpdOutIdeal.nD Cert.RefUpdOutIdeal.τ).loc Cert.RefUpdOutIdeal.main_arg3))
      ∧ r.2.sem = fun _ => 0)

def quiescent_UpdBranch [hUpdBranch : Cert.UpdBranch.Facts] : Prop :=
  ∀ (m : (ℓ : Loc Cert.UpdBranch.nD Cert.UpdBranch.τ Cert.UpdBranch.sig) → Buf (Elt Bits) ℓ) (g : Dev Cert.UpdBranch.nD → PrngReg), Pre_UpdBranch m →
    θ_run (Cert.UpdBranch.defs (F := Bits)) (onTc (τ := Cert.UpdBranch.τ) (Cert.UpdBranch.main (F := Bits))) ⟨m, fun _ => 0, g⟩ (fun r => (∀ c : Dev Cert.UpdBranch.nD,
      r.2.mem ((c.tc : Thread Cert.UpdBranch.nD Cert.UpdBranch.τ).loc Cert.UpdBranch.main_arg0) = m ((c.tc : Thread Cert.UpdBranch.nD Cert.UpdBranch.τ).loc Cert.UpdBranch.main_arg0)
      ∧ r.2.mem ((c.tc : Thread Cert.UpdBranch.nD Cert.UpdBranch.τ).loc Cert.UpdBranch.main_arg1) = m ((c.tc : Thread Cert.UpdBranch.nD Cert.UpdBranch.τ).loc Cert.UpdBranch.main_arg1)
      ∧ r.2.mem ((c.tc : Thread Cert.UpdBranch.nD Cert.UpdBranch.τ).loc Cert.UpdBranch.main_arg2) = m ((c.tc : Thread Cert.UpdBranch.nD Cert.UpdBranch.τ).loc Cert.UpdBranch.main_arg2)
      ∧ r.2.mem ((c.tc : Thread Cert.UpdBranch.nD Cert.UpdBranch.τ).loc Cert.UpdBranch.main_arg3) = m ((c.tc : Thread Cert.UpdBranch.nD Cert.UpdBranch.τ).loc Cert.UpdBranch.main_arg3))
      ∧ r.2.sem = fun _ => 0)

def quiescent_UpdBranchIdeal [hUpdBranchIdeal : Cert.UpdBranchIdeal.Facts] : Prop :=
  ∀ (m : (ℓ : Loc Cert.UpdBranchIdeal.nD Cert.UpdBranchIdeal.τ Cert.UpdBranchIdeal.sig) → Buf (Elt Ideal) ℓ) (g : Dev Cert.UpdBranchIdeal.nD → PrngReg), Pre_UpdBranchIdeal m →
    θ_run (Cert.UpdBranchIdeal.defs (F := Ideal)) (onTc (τ := Cert.UpdBranchIdeal.τ) (Cert.UpdBranchIdeal.main (F := Ideal))) ⟨m, fun _ => 0, g⟩ (fun r => (∀ c : Dev Cert.UpdBranchIdeal.nD,
      r.2.mem ((c.tc : Thread Cert.UpdBranchIdeal.nD Cert.UpdBranchIdeal.τ).loc Cert.UpdBranchIdeal.main_arg0) = m ((c.tc : Thread Cert.UpdBranchIdeal.nD Cert.UpdBranchIdeal.τ).loc Cert.UpdBranchIdeal.main_arg0)
      ∧ r.2.mem ((c.tc : Thread Cert.UpdBranchIdeal.nD Cert.UpdBranchIdeal.τ).loc Cert.UpdBranchIdeal.main_arg1) = m ((c.tc : Thread Cert.UpdBranchIdeal.nD Cert.UpdBranchIdeal.τ).loc Cert.UpdBranchIdeal.main_arg1)
      ∧ r.2.mem ((c.tc : Thread Cert.UpdBranchIdeal.nD Cert.UpdBranchIdeal.τ).loc Cert.UpdBranchIdeal.main_arg2) = m ((c.tc : Thread Cert.UpdBranchIdeal.nD Cert.UpdBranchIdeal.τ).loc Cert.UpdBranchIdeal.main_arg2)
      ∧ r.2.mem ((c.tc : Thread Cert.UpdBranchIdeal.nD Cert.UpdBranchIdeal.τ).loc Cert.UpdBranchIdeal.main_arg3) = m ((c.tc : Thread Cert.UpdBranchIdeal.nD Cert.UpdBranchIdeal.τ).loc Cert.UpdBranchIdeal.main_arg3))
      ∧ r.2.sem = fun _ => 0)

def quiescent_RefUpdBranchIdeal [hRefUpdBranchIdeal : Cert.RefUpdBranchIdeal.Facts] : Prop :=
  ∀ (m : (ℓ : Loc Cert.RefUpdBranchIdeal.nD Cert.RefUpdBranchIdeal.τ Cert.RefUpdBranchIdeal.sig) → Buf (Elt Ideal) ℓ) (g : Dev Cert.RefUpdBranchIdeal.nD → PrngReg), Pre_RefUpdBranchIdeal m →
    θ_run (Cert.RefUpdBranchIdeal.defs (F := Ideal)) (onTc (τ := Cert.RefUpdBranchIdeal.τ) (Cert.RefUpdBranchIdeal.main (F := Ideal))) ⟨m, fun _ => 0, g⟩ (fun r => (∀ c : Dev Cert.RefUpdBranchIdeal.nD,
      r.2.mem ((c.tc : Thread Cert.RefUpdBranchIdeal.nD Cert.RefUpdBranchIdeal.τ).loc Cert.RefUpdBranchIdeal.main_arg0) = m ((c.tc : Thread Cert.RefUpdBranchIdeal.nD Cert.RefUpdBranchIdeal.τ).loc Cert.RefUpdBranchIdeal.main_arg0)
      ∧ r.2.mem ((c.tc : Thread Cert.RefUpdBranchIdeal.nD Cert.RefUpdBranchIdeal.τ).loc Cert.RefUpdBranchIdeal.main_arg1) = m ((c.tc : Thread Cert.RefUpdBranchIdeal.nD Cert.RefUpdBranchIdeal.τ).loc Cert.RefUpdBranchIdeal.main_arg1)
      ∧ r.2.mem ((c.tc : Thread Cert.RefUpdBranchIdeal.nD Cert.RefUpdBranchIdeal.τ).loc Cert.RefUpdBranchIdeal.main_arg2) = m ((c.tc : Thread Cert.RefUpdBranchIdeal.nD Cert.RefUpdBranchIdeal.τ).loc Cert.RefUpdBranchIdeal.main_arg2)
      ∧ r.2.mem ((c.tc : Thread Cert.RefUpdBranchIdeal.nD Cert.RefUpdBranchIdeal.τ).loc Cert.RefUpdBranchIdeal.main_arg3) = m ((c.tc : Thread Cert.RefUpdBranchIdeal.nD Cert.RefUpdBranchIdeal.τ).loc Cert.RefUpdBranchIdeal.main_arg3))
      ∧ r.2.sem = fun _ => 0)

def quiescent_UpdVec [hUpdVec : Cert.UpdVec.Facts] : Prop :=
  ∀ (m : (ℓ : Loc Cert.UpdVec.nD Cert.UpdVec.τ Cert.UpdVec.sig) → Buf (Elt Bits) ℓ) (g : Dev Cert.UpdVec.nD → PrngReg), Pre_UpdVec m →
    θ_run (Cert.UpdVec.defs (F := Bits)) (onTc (τ := Cert.UpdVec.τ) (Cert.UpdVec.main (F := Bits))) ⟨m, fun _ => 0, g⟩ (fun r => (∀ c : Dev Cert.UpdVec.nD,
      r.2.mem ((c.tc : Thread Cert.UpdVec.nD Cert.UpdVec.τ).loc Cert.UpdVec.main_arg0) = m ((c.tc : Thread Cert.UpdVec.nD Cert.UpdVec.τ).loc Cert.UpdVec.main_arg0)
      ∧ r.2.mem ((c.tc : Thread Cert.UpdVec.nD Cert.UpdVec.τ).loc Cert.UpdVec.main_arg1) = m ((c.tc : Thread Cert.UpdVec.nD Cert.UpdVec.τ).loc Cert.UpdVec.main_arg1)
      ∧ r.2.mem ((c.tc : Thread Cert.UpdVec.nD Cert.UpdVec.τ).loc Cert.UpdVec.main_arg2) = m ((c.tc : Thread Cert.UpdVec.nD Cert.UpdVec.τ).loc Cert.UpdVec.main_arg2)
      ∧ r.2.mem ((c.tc : Thread Cert.UpdVec.nD Cert.UpdVec.τ).loc Cert.UpdVec.main_arg3) = m ((c.tc : Thread Cert.UpdVec.nD Cert.UpdVec.τ).loc Cert.UpdVec.main_arg3))
      ∧ r.2.sem = fun _ => 0)

def quiescent_UpdVecIdeal [hUpdVecIdeal : Cert.UpdVecIdeal.Facts] : Prop :=
  ∀ (m : (ℓ : Loc Cert.UpdVecIdeal.nD Cert.UpdVecIdeal.τ Cert.UpdVecIdeal.sig) → Buf (Elt Ideal) ℓ) (g : Dev Cert.UpdVecIdeal.nD → PrngReg), Pre_UpdVecIdeal m →
    θ_run (Cert.UpdVecIdeal.defs (F := Ideal)) (onTc (τ := Cert.UpdVecIdeal.τ) (Cert.UpdVecIdeal.main (F := Ideal))) ⟨m, fun _ => 0, g⟩ (fun r => (∀ c : Dev Cert.UpdVecIdeal.nD,
      r.2.mem ((c.tc : Thread Cert.UpdVecIdeal.nD Cert.UpdVecIdeal.τ).loc Cert.UpdVecIdeal.main_arg0) = m ((c.tc : Thread Cert.UpdVecIdeal.nD Cert.UpdVecIdeal.τ).loc Cert.UpdVecIdeal.main_arg0)
      ∧ r.2.mem ((c.tc : Thread Cert.UpdVecIdeal.nD Cert.UpdVecIdeal.τ).loc Cert.UpdVecIdeal.main_arg1) = m ((c.tc : Thread Cert.UpdVecIdeal.nD Cert.UpdVecIdeal.τ).loc Cert.UpdVecIdeal.main_arg1)
      ∧ r.2.mem ((c.tc : Thread Cert.UpdVecIdeal.nD Cert.UpdVecIdeal.τ).loc Cert.UpdVecIdeal.main_arg2) = m ((c.tc : Thread Cert.UpdVecIdeal.nD Cert.UpdVecIdeal.τ).loc Cert.UpdVecIdeal.main_arg2)
      ∧ r.2.mem ((c.tc : Thread Cert.UpdVecIdeal.nD Cert.UpdVecIdeal.τ).loc Cert.UpdVecIdeal.main_arg3) = m ((c.tc : Thread Cert.UpdVecIdeal.nD Cert.UpdVecIdeal.τ).loc Cert.UpdVecIdeal.main_arg3))
      ∧ r.2.sem = fun _ => 0)

def quiescent_RefUpdVecIdeal [hRefUpdVecIdeal : Cert.RefUpdVecIdeal.Facts] : Prop :=
  ∀ (m : (ℓ : Loc Cert.RefUpdVecIdeal.nD Cert.RefUpdVecIdeal.τ Cert.RefUpdVecIdeal.sig) → Buf (Elt Ideal) ℓ) (g : Dev Cert.RefUpdVecIdeal.nD → PrngReg), Pre_RefUpdVecIdeal m →
    θ_run (Cert.RefUpdVecIdeal.defs (F := Ideal)) (onTc (τ := Cert.RefUpdVecIdeal.τ) (Cert.RefUpdVecIdeal.main (F := Ideal))) ⟨m, fun _ => 0, g⟩ (fun r => (∀ c : Dev Cert.RefUpdVecIdeal.nD,
      r.2.mem ((c.tc : Thread Cert.RefUpdVecIdeal.nD Cert.RefUpdVecIdeal.τ).loc Cert.RefUpdVecIdeal.main_arg0) = m ((c.tc : Thread Cert.RefUpdVecIdeal.nD Cert.RefUpdVecIdeal.τ).loc Cert.RefUpdVecIdeal.main_arg0)
      ∧ r.2.mem ((c.tc : Thread Cert.RefUpdVecIdeal.nD Cert.RefUpdVecIdeal.τ).loc Cert.RefUpdVecIdeal.main_arg1) = m ((c.tc : Thread Cert.RefUpdVecIdeal.nD Cert.RefUpdVecIdeal.τ).loc Cert.RefUpdVecIdeal.main_arg1)
      ∧ r.2.mem ((c.tc : Thread Cert.RefUpdVecIdeal.nD Cert.RefUpdVecIdeal.τ).loc Cert.RefUpdVecIdeal.main_arg2) = m ((c.tc : Thread Cert.RefUpdVecIdeal.nD Cert.RefUpdVecIdeal.τ).loc Cert.RefUpdVecIdeal.main_arg2)
      ∧ r.2.mem ((c.tc : Thread Cert.RefUpdVecIdeal.nD Cert.RefUpdVecIdeal.τ).loc Cert.RefUpdVecIdeal.main_arg3) = m ((c.tc : Thread Cert.RefUpdVecIdeal.nD Cert.RefUpdVecIdeal.τ).loc Cert.RefUpdVecIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1))
      ∧ r.2.sem = fun _ => 0)

def quiescent_ConvBack [hConvBack : Cert.ConvBack.Facts] : Prop :=
  ∀ (m : (ℓ : Loc Cert.ConvBack.nD Cert.ConvBack.τ Cert.ConvBack.sig) → Buf (Elt Bits) ℓ) (g : Dev Cert.ConvBack.nD → PrngReg), Pre_ConvBack m →
    θ_run (Cert.ConvBack.defs (F := Bits)) (onTc (τ := Cert.ConvBack.τ) (Cert.ConvBack.main (F := Bits))) ⟨m, fun _ => 0, g⟩ (fun r => (∀ c : Dev Cert.ConvBack.nD,
      r.2.mem ((c.tc : Thread Cert.ConvBack.nD Cert.ConvBack.τ).loc Cert.ConvBack.main_arg0) = m ((c.tc : Thread Cert.ConvBack.nD Cert.ConvBack.τ).loc Cert.ConvBack.main_arg0)
      ∧ r.2.mem ((c.tc : Thread Cert.ConvBack.nD Cert.ConvBack.τ).loc Cert.ConvBack.main_arg1) = m ((c.tc : Thread Cert.ConvBack.nD Cert.ConvBack.τ).loc Cert.ConvBack.main_arg1)
      ∧ r.2.mem ((c.tc : Thread Cert.ConvBack.nD Cert.ConvBack.τ).loc Cert.ConvBack.main_arg2) = m ((c.tc : Thread Cert.ConvBack.nD Cert.ConvBack.τ).loc Cert.ConvBack.main_arg2))
      ∧ r.2.sem = fun _ => 0)

def quiescent_ConvBackIdeal [hConvBackIdeal : Cert.ConvBackIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg), Pre_ConvBackIdeal m →
    θ_run (Cert.ConvBackIdeal.defs (F := Ideal)) (onTc (τ := Cert.ConvBackIdeal.τ) (Cert.ConvBackIdeal.main (F := Ideal))) ⟨m, fun _ => 0, g⟩ (fun r => (∀ c : Dev Cert.ConvBackIdeal.nD,
      r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
      ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
      ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2))
      ∧ r.2.sem = fun _ => 0)

def quiescent_RefConvBackIdeal [hRefConvBackIdeal : Cert.RefConvBackIdeal.Facts] : Prop :=
  ∀ (m : (ℓ : Loc Cert.RefConvBackIdeal.nD Cert.RefConvBackIdeal.τ Cert.RefConvBackIdeal.sig) → Buf (Elt Ideal) ℓ) (g : Dev Cert.RefConvBackIdeal.nD → PrngReg), Pre_RefConvBackIdeal m →
    θ_run (Cert.RefConvBackIdeal.defs (F := Ideal)) (onTc (τ := Cert.RefConvBackIdeal.τ) (Cert.RefConvBackIdeal.main (F := Ideal))) ⟨m, fun _ => 0, g⟩ (fun r => (∀ c : Dev Cert.RefConvBackIdeal.nD,
      r.2.mem ((c.tc : Thread Cert.RefConvBackIdeal.nD Cert.RefConvBackIdeal.τ).loc Cert.RefConvBackIdeal.main_arg0) = m ((c.tc : Thread Cert.RefConvBackIdeal.nD Cert.RefConvBackIdeal.τ).loc Cert.RefConvBackIdeal.main_arg0)
      ∧ r.2.mem ((c.tc : Thread Cert.RefConvBackIdeal.nD Cert.RefConvBackIdeal.τ).loc Cert.RefConvBackIdeal.main_arg1) = m ((c.tc : Thread Cert.RefConvBackIdeal.nD Cert.RefConvBackIdeal.τ).loc Cert.RefConvBackIdeal.main_arg1)
      ∧ r.2.mem ((c.tc : Thread Cert.RefConvBackIdeal.nD Cert.RefConvBackIdeal.τ).loc Cert.RefConvBackIdeal.main_arg2) = m ((c.tc : Thread Cert.RefConvBackIdeal.nD Cert.RefConvBackIdeal.τ).loc Cert.RefConvBackIdeal.main_arg2))
      ∧ r.2.sem = fun _ => 0)

def quiescent_SumParts [hSumParts : Cert.SumParts.Facts] : Prop :=
  ∀ (m : (ℓ : Loc Cert.SumParts.nD Cert.SumParts.τ Cert.SumParts.sig) → Buf (Elt Bits) ℓ) (g : Dev Cert.SumParts.nD → PrngReg), Pre_SumParts m →
    θ_run (Cert.SumParts.defs (F := Bits)) (onTc (τ := Cert.SumParts.τ) (Cert.SumParts.main (F := Bits))) ⟨m, fun _ => 0, g⟩ (fun r => (∀ c : Dev Cert.SumParts.nD,
      r.2.mem ((c.tc : Thread Cert.SumParts.nD Cert.SumParts.τ).loc Cert.SumParts.main_arg0) = m ((c.tc : Thread Cert.SumParts.nD Cert.SumParts.τ).loc Cert.SumParts.main_arg0))
      ∧ r.2.sem = fun _ => 0)

def quiescent_SumPartsIdeal [hSumPartsIdeal : Cert.SumPartsIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg), Pre_SumPartsIdeal m →
    θ_run (Cert.SumPartsIdeal.defs (F := Ideal)) (onTc (τ := Cert.SumPartsIdeal.τ) (Cert.SumPartsIdeal.main (F := Ideal))) ⟨m, fun _ => 0, g⟩ (fun r => (∀ c : Dev Cert.SumPartsIdeal.nD,
      r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ r.2.sem = fun _ => 0)

def quiescent_RefSumPartsIdeal [hRefSumPartsIdeal : Cert.RefSumPartsIdeal.Facts] : Prop :=
  ∀ (m : (ℓ : Loc Cert.RefSumPartsIdeal.nD Cert.RefSumPartsIdeal.τ Cert.RefSumPartsIdeal.sig) → Buf (Elt Ideal) ℓ) (g : Dev Cert.RefSumPartsIdeal.nD → PrngReg), Pre_RefSumPartsIdeal m →
    θ_run (Cert.RefSumPartsIdeal.defs (F := Ideal)) (onTc (τ := Cert.RefSumPartsIdeal.τ) (Cert.RefSumPartsIdeal.main (F := Ideal))) ⟨m, fun _ => 0, g⟩ (fun r => (∀ c : Dev Cert.RefSumPartsIdeal.nD,
      r.2.mem ((c.tc : Thread Cert.RefSumPartsIdeal.nD Cert.RefSumPartsIdeal.τ).loc Cert.RefSumPartsIdeal.main_arg0) = m ((c.tc : Thread Cert.RefSumPartsIdeal.nD Cert.RefSumPartsIdeal.τ).loc Cert.RefSumPartsIdeal.main_arg0))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1)
      ∧ r.2.mem ((c.tc : Thread Cert.PairSum.nD Cert.PairSum.τ).loc Cert.PairSum.main_arg2) = m ((c.tc : Thread Cert.PairSum.nD Cert.PairSum.τ).loc Cert.PairSum.main_arg2))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
      ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ r.2.sem = fun _ => 0)

def quiescent_RefPairSumIdeal [hRefPairSumIdeal : Cert.RefPairSumIdeal.Facts] : Prop :=
  ∀ (m : (ℓ : Loc Cert.RefPairSumIdeal.nD Cert.RefPairSumIdeal.τ Cert.RefPairSumIdeal.sig) → Buf (Elt Ideal) ℓ) (g : Dev Cert.RefPairSumIdeal.nD → PrngReg), Pre_RefPairSumIdeal m →
    θ_run (Cert.RefPairSumIdeal.defs (F := Ideal)) (onTc (τ := Cert.RefPairSumIdeal.τ) (Cert.RefPairSumIdeal.main (F := Ideal))) ⟨m, fun _ => 0, g⟩ (fun r => (∀ c : Dev Cert.RefPairSumIdeal.nD,
      r.2.mem ((c.tc : Thread Cert.RefPairSumIdeal.nD Cert.RefPairSumIdeal.τ).loc Cert.RefPairSumIdeal.main_arg0) = m ((c.tc : Thread Cert.RefPairSumIdeal.nD Cert.RefPairSumIdeal.τ).loc Cert.RefPairSumIdeal.main_arg0)
      ∧ r.2.mem ((c.tc : Thread Cert.RefPairSumIdeal.nD Cert.RefPairSumIdeal.τ).loc Cert.RefPairSumIdeal.main_arg1) = m ((c.tc : Thread Cert.RefPairSumIdeal.nD Cert.RefPairSumIdeal.τ).loc Cert.RefPairSumIdeal.main_arg1)
      ∧ r.2.mem ((c.tc : Thread Cert.RefPairSumIdeal.nD Cert.RefPairSumIdeal.τ).loc Cert.RefPairSumIdeal.main_arg2) = m ((c.tc : Thread Cert.RefPairSumIdeal.nD Cert.RefPairSumIdeal.τ).loc Cert.RefPairSumIdeal.main_arg2))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1)
      ∧ r.2.mem ((c.tc : Thread Cert.ChipSum.nD Cert.ChipSum.τ).loc Cert.ChipSum.main_arg2) = m ((c.tc : Thread Cert.ChipSum.nD Cert.ChipSum.τ).loc Cert.ChipSum.main_arg2))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
      ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2))
      ∧ r.2.sem = fun _ => 0)

def quiescent_RefChipSumIdeal [hRefChipSumIdeal : Cert.RefChipSumIdeal.Facts] : Prop :=
  ∀ (m : (ℓ : Loc Cert.RefChipSumIdeal.nD Cert.RefChipSumIdeal.τ Cert.RefChipSumIdeal.sig) → Buf (Elt Ideal) ℓ) (g : Dev Cert.RefChipSumIdeal.nD → PrngReg), Pre_RefChipSumIdeal m →
    θ_run (Cert.RefChipSumIdeal.defs (F := Ideal)) (onTc (τ := Cert.RefChipSumIdeal.τ) (Cert.RefChipSumIdeal.main (F := Ideal))) ⟨m, fun _ => 0, g⟩ (fun r => (∀ c : Dev Cert.RefChipSumIdeal.nD,
      r.2.mem ((c.tc : Thread Cert.RefChipSumIdeal.nD Cert.RefChipSumIdeal.τ).loc Cert.RefChipSumIdeal.main_arg0) = m ((c.tc : Thread Cert.RefChipSumIdeal.nD Cert.RefChipSumIdeal.τ).loc Cert.RefChipSumIdeal.main_arg0)
      ∧ r.2.mem ((c.tc : Thread Cert.RefChipSumIdeal.nD Cert.RefChipSumIdeal.τ).loc Cert.RefChipSumIdeal.main_arg1) = m ((c.tc : Thread Cert.RefChipSumIdeal.nD Cert.RefChipSumIdeal.τ).loc Cert.RefChipSumIdeal.main_arg1)
      ∧ r.2.mem ((c.tc : Thread Cert.RefChipSumIdeal.nD Cert.RefChipSumIdeal.τ).loc Cert.RefChipSumIdeal.main_arg2) = m ((c.tc : Thread Cert.RefChipSumIdeal.nD Cert.RefChipSumIdeal.τ).loc Cert.RefChipSumIdeal.main_arg2))
      ∧ r.2.sem = fun _ => 0)

def preserves_Kernel_KernelIdeal : Prop :=
  IdealRules.named_const.Statement Cert.KernelIdeal.κ "gelu_kc" .f32 0x3D122279#32 ((80338380498831 / 2251799813685248 : ℝ) : EReal)
  ∧ IdealRules.named_const.Statement Cert.KernelIdeal.κ "gelu_3kc" .f32 0x3DDB33B6#32 ((241015141496493 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_v216) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_v127) = v4 c
          ∧ r.2.mem ((c.tc : Thread Cert.ReferenceIdeal.nD Cert.ReferenceIdeal.τ).loc Cert.ReferenceIdeal.main_v125) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_DwUp_DwUpIdeal : Prop :=
  True

def algebraic_DwUpIdeal_RefDwUpIdeal [hDwUpIdeal : Cert.DwUpIdeal.Facts] [hRefDwUpIdeal : Cert.RefDwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.RefDwUpIdeal.nD Cert.RefDwUpIdeal.τ Cert.RefDwUpIdeal.sig) → Buf (Elt Ideal) ℓ) (g' : Dev Cert.RefDwUpIdeal.nD → PrngReg), Pre_DwUpIdeal m →
    (∀ c : Dev Cert.DwUpIdeal.nD,
      m' ((c.tc : Thread Cert.RefDwUpIdeal.nD Cert.RefDwUpIdeal.τ).loc Cert.RefDwUpIdeal.main_arg0) = m ((c.tc : Thread Cert.DwUpIdeal.nD Cert.DwUpIdeal.τ).loc Cert.DwUpIdeal.main_arg0)
      ∧ m' ((c.tc : Thread Cert.RefDwUpIdeal.nD Cert.RefDwUpIdeal.τ).loc Cert.RefDwUpIdeal.main_arg1) = m ((c.tc : Thread Cert.DwUpIdeal.nD Cert.DwUpIdeal.τ).loc Cert.DwUpIdeal.main_arg1)
      ∧ m' ((c.tc : Thread Cert.RefDwUpIdeal.nD Cert.RefDwUpIdeal.τ).loc Cert.RefDwUpIdeal.main_arg2) = m ((c.tc : Thread Cert.DwUpIdeal.nD Cert.DwUpIdeal.τ).loc Cert.DwUpIdeal.main_arg2)
      ∧ m' ((c.tc : Thread Cert.RefDwUpIdeal.nD Cert.RefDwUpIdeal.τ).loc Cert.RefDwUpIdeal.main_arg3) = m ((c.tc : Thread Cert.DwUpIdeal.nD Cert.DwUpIdeal.τ).loc Cert.DwUpIdeal.main_arg3)) →
    ∃ (v0 : (c : Dev Cert.DwUpIdeal.nD) → Buf (Elt Ideal) ((c.tc : Thread Cert.DwUpIdeal.nD Cert.DwUpIdeal.τ).loc Cert.DwUpIdeal.main_v14)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v14) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
          ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ θ_run (Cert.RefDwUpIdeal.defs (F := Ideal)) (onTc (τ := Cert.RefDwUpIdeal.τ) (Cert.RefDwUpIdeal.main (F := Ideal))) ⟨m', fun _ => 0, g'⟩ (fun r => ∀ c : Dev Cert.RefDwUpIdeal.nD,
          r.2.mem ((c.tc : Thread Cert.RefDwUpIdeal.nD Cert.RefDwUpIdeal.τ).loc Cert.RefDwUpIdeal.main_v16) = v0 c
          ∧ r.2.mem ((c.tc : Thread Cert.RefDwUpIdeal.nD Cert.RefDwUpIdeal.τ).loc Cert.RefDwUpIdeal.main_arg0) = m' ((c.tc : Thread Cert.RefDwUpIdeal.nD Cert.RefDwUpIdeal.τ).loc Cert.RefDwUpIdeal.main_arg0)
          ∧ r.2.mem ((c.tc : Thread Cert.RefDwUpIdeal.nD Cert.RefDwUpIdeal.τ).loc Cert.RefDwUpIdeal.main_arg1) = m' ((c.tc : Thread Cert.RefDwUpIdeal.nD Cert.RefDwUpIdeal.τ).loc Cert.RefDwUpIdeal.main_arg1)
          ∧ r.2.mem ((c.tc : Thread Cert.RefDwUpIdeal.nD Cert.RefDwUpIdeal.τ).loc Cert.RefDwUpIdeal.main_arg2) = m' ((c.tc : Thread Cert.RefDwUpIdeal.nD Cert.RefDwUpIdeal.τ).loc Cert.RefDwUpIdeal.main_arg2)
          ∧ r.2.mem ((c.tc : Thread Cert.RefDwUpIdeal.nD Cert.RefDwUpIdeal.τ).loc Cert.RefDwUpIdeal.main_arg3) = m' ((c.tc : Thread Cert.RefDwUpIdeal.nD Cert.RefDwUpIdeal.τ).loc Cert.RefDwUpIdeal.main_arg3))

def preserves_DwDown_DwDownIdeal : Prop :=
  True

def algebraic_DwDownIdeal_RefDwDownIdeal [hDwDownIdeal : Cert.DwDownIdeal.Facts] [hRefDwDownIdeal : Cert.RefDwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.RefDwDownIdeal.nD Cert.RefDwDownIdeal.τ Cert.RefDwDownIdeal.sig) → Buf (Elt Ideal) ℓ) (g' : Dev Cert.RefDwDownIdeal.nD → PrngReg), Pre_DwDownIdeal m →
    (∀ c : Dev Cert.DwDownIdeal.nD,
      m' ((c.tc : Thread Cert.RefDwDownIdeal.nD Cert.RefDwDownIdeal.τ).loc Cert.RefDwDownIdeal.main_arg0) = m ((c.tc : Thread Cert.DwDownIdeal.nD Cert.DwDownIdeal.τ).loc Cert.DwDownIdeal.main_arg0)
      ∧ m' ((c.tc : Thread Cert.RefDwDownIdeal.nD Cert.RefDwDownIdeal.τ).loc Cert.RefDwDownIdeal.main_arg1) = m ((c.tc : Thread Cert.DwDownIdeal.nD Cert.DwDownIdeal.τ).loc Cert.DwDownIdeal.main_arg1)
      ∧ m' ((c.tc : Thread Cert.RefDwDownIdeal.nD Cert.RefDwDownIdeal.τ).loc Cert.RefDwDownIdeal.main_arg2) = m ((c.tc : Thread Cert.DwDownIdeal.nD Cert.DwDownIdeal.τ).loc Cert.DwDownIdeal.main_arg2)
      ∧ m' ((c.tc : Thread Cert.RefDwDownIdeal.nD Cert.RefDwDownIdeal.τ).loc Cert.RefDwDownIdeal.main_arg3) = m ((c.tc : Thread Cert.DwDownIdeal.nD Cert.DwDownIdeal.τ).loc Cert.DwDownIdeal.main_arg3)) →
    ∃ (v0 : (c : Dev Cert.DwDownIdeal.nD) → Buf (Elt Ideal) ((c.tc : Thread Cert.DwDownIdeal.nD Cert.DwDownIdeal.τ).loc Cert.DwDownIdeal.main_v5)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v5) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
          ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ θ_run (Cert.RefDwDownIdeal.defs (F := Ideal)) (onTc (τ := Cert.RefDwDownIdeal.τ) (Cert.RefDwDownIdeal.main (F := Ideal))) ⟨m', fun _ => 0, g'⟩ (fun r => ∀ c : Dev Cert.RefDwDownIdeal.nD,
          r.2.mem ((c.tc : Thread Cert.RefDwDownIdeal.nD Cert.RefDwDownIdeal.τ).loc Cert.RefDwDownIdeal.main_v7) = v0 c
          ∧ r.2.mem ((c.tc : Thread Cert.RefDwDownIdeal.nD Cert.RefDwDownIdeal.τ).loc Cert.RefDwDownIdeal.main_arg0) = m' ((c.tc : Thread Cert.RefDwDownIdeal.nD Cert.RefDwDownIdeal.τ).loc Cert.RefDwDownIdeal.main_arg0)
          ∧ r.2.mem ((c.tc : Thread Cert.RefDwDownIdeal.nD Cert.RefDwDownIdeal.τ).loc Cert.RefDwDownIdeal.main_arg1) = m' ((c.tc : Thread Cert.RefDwDownIdeal.nD Cert.RefDwDownIdeal.τ).loc Cert.RefDwDownIdeal.main_arg1)
          ∧ r.2.mem ((c.tc : Thread Cert.RefDwDownIdeal.nD Cert.RefDwDownIdeal.τ).loc Cert.RefDwDownIdeal.main_arg2) = m' ((c.tc : Thread Cert.RefDwDownIdeal.nD Cert.RefDwDownIdeal.τ).loc Cert.RefDwDownIdeal.main_arg2)
          ∧ r.2.mem ((c.tc : Thread Cert.RefDwDownIdeal.nD Cert.RefDwDownIdeal.τ).loc Cert.RefDwDownIdeal.main_arg3) = m' ((c.tc : Thread Cert.RefDwDownIdeal.nD Cert.RefDwDownIdeal.τ).loc Cert.RefDwDownIdeal.main_arg3))

def preserves_DwGate_DwGateIdeal : Prop :=
  True

def algebraic_DwGateIdeal_RefDwGateIdeal [hDwGateIdeal : Cert.DwGateIdeal.Facts] [hRefDwGateIdeal : Cert.RefDwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.RefDwGateIdeal.nD Cert.RefDwGateIdeal.τ Cert.RefDwGateIdeal.sig) → Buf (Elt Ideal) ℓ) (g' : Dev Cert.RefDwGateIdeal.nD → PrngReg), Pre_DwGateIdeal m →
    (∀ c : Dev Cert.DwGateIdeal.nD,
      m' ((c.tc : Thread Cert.RefDwGateIdeal.nD Cert.RefDwGateIdeal.τ).loc Cert.RefDwGateIdeal.main_arg0) = m ((c.tc : Thread Cert.DwGateIdeal.nD Cert.DwGateIdeal.τ).loc Cert.DwGateIdeal.main_arg0)
      ∧ m' ((c.tc : Thread Cert.RefDwGateIdeal.nD Cert.RefDwGateIdeal.τ).loc Cert.RefDwGateIdeal.main_arg1) = m ((c.tc : Thread Cert.DwGateIdeal.nD Cert.DwGateIdeal.τ).loc Cert.DwGateIdeal.main_arg1)
      ∧ m' ((c.tc : Thread Cert.RefDwGateIdeal.nD Cert.RefDwGateIdeal.τ).loc Cert.RefDwGateIdeal.main_arg2) = m ((c.tc : Thread Cert.DwGateIdeal.nD Cert.DwGateIdeal.τ).loc Cert.DwGateIdeal.main_arg2)
      ∧ m' ((c.tc : Thread Cert.RefDwGateIdeal.nD Cert.RefDwGateIdeal.τ).loc Cert.RefDwGateIdeal.main_arg3) = m ((c.tc : Thread Cert.DwGateIdeal.nD Cert.DwGateIdeal.τ).loc Cert.DwGateIdeal.main_arg3)) →
    ∃ (v0 : (c : Dev Cert.DwGateIdeal.nD) → Buf (Elt Ideal) ((c.tc : Thread Cert.DwGateIdeal.nD Cert.DwGateIdeal.τ).loc Cert.DwGateIdeal.main_v14)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v14) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
          ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2)
          ∧ r.2.mem ((c.tc : Thread Cert.DwGateIdeal.nD Cert.DwGateIdeal.τ).loc Cert.DwGateIdeal.main_arg3) = m ((c.tc : Thread Cert.DwGateIdeal.nD Cert.DwGateIdeal.τ).loc Cert.DwGateIdeal.main_arg3))
      ∧ θ_run (Cert.RefDwGateIdeal.defs (F := Ideal)) (onTc (τ := Cert.RefDwGateIdeal.τ) (Cert.RefDwGateIdeal.main (F := Ideal))) ⟨m', fun _ => 0, g'⟩ (fun r => ∀ c : Dev Cert.RefDwGateIdeal.nD,
          r.2.mem ((c.tc : Thread Cert.RefDwGateIdeal.nD Cert.RefDwGateIdeal.τ).loc Cert.RefDwGateIdeal.main_v16) = v0 c
          ∧ r.2.mem ((c.tc : Thread Cert.RefDwGateIdeal.nD Cert.RefDwGateIdeal.τ).loc Cert.RefDwGateIdeal.main_arg0) = m' ((c.tc : Thread Cert.RefDwGateIdeal.nD Cert.RefDwGateIdeal.τ).loc Cert.RefDwGateIdeal.main_arg0)
          ∧ r.2.mem ((c.tc : Thread Cert.RefDwGateIdeal.nD Cert.RefDwGateIdeal.τ).loc Cert.RefDwGateIdeal.main_arg1) = m' ((c.tc : Thread Cert.RefDwGateIdeal.nD Cert.RefDwGateIdeal.τ).loc Cert.RefDwGateIdeal.main_arg1)
          ∧ r.2.mem ((c.tc : Thread Cert.RefDwGateIdeal.nD Cert.RefDwGateIdeal.τ).loc Cert.RefDwGateIdeal.main_arg2) = m' ((c.tc : Thread Cert.RefDwGateIdeal.nD Cert.RefDwGateIdeal.τ).loc Cert.RefDwGateIdeal.main_arg2)
          ∧ r.2.mem ((c.tc : Thread Cert.RefDwGateIdeal.nD Cert.RefDwGateIdeal.τ).loc Cert.RefDwGateIdeal.main_arg3) = m' ((c.tc : Thread Cert.RefDwGateIdeal.nD Cert.RefDwGateIdeal.τ).loc Cert.RefDwGateIdeal.main_arg3))

def preserves_DwMid_DwMidIdeal : Prop :=
  True

def algebraic_DwMidIdeal_RefDwMidIdeal [hDwMidIdeal : Cert.DwMidIdeal.Facts] [hRefDwMidIdeal : Cert.RefDwMidIdeal.Facts] : Prop :=
  ∀ (m : (ℓ : Loc Cert.DwMidIdeal.nD Cert.DwMidIdeal.τ Cert.DwMidIdeal.sig) → Buf (Elt Ideal) ℓ) (g : Dev Cert.DwMidIdeal.nD → PrngReg)
    (m' : (ℓ : Loc Cert.RefDwMidIdeal.nD Cert.RefDwMidIdeal.τ Cert.RefDwMidIdeal.sig) → Buf (Elt Ideal) ℓ) (g' : Dev Cert.RefDwMidIdeal.nD → PrngReg), Pre_DwMidIdeal m →
    (∀ c : Dev Cert.DwMidIdeal.nD,
      m' ((c.tc : Thread Cert.RefDwMidIdeal.nD Cert.RefDwMidIdeal.τ).loc Cert.RefDwMidIdeal.main_arg0) = m ((c.tc : Thread Cert.DwMidIdeal.nD Cert.DwMidIdeal.τ).loc Cert.DwMidIdeal.main_arg0)
      ∧ m' ((c.tc : Thread Cert.RefDwMidIdeal.nD Cert.RefDwMidIdeal.τ).loc Cert.RefDwMidIdeal.main_arg1) = m ((c.tc : Thread Cert.DwMidIdeal.nD Cert.DwMidIdeal.τ).loc Cert.DwMidIdeal.main_arg1)
      ∧ m' ((c.tc : Thread Cert.RefDwMidIdeal.nD Cert.RefDwMidIdeal.τ).loc Cert.RefDwMidIdeal.main_arg2) = m ((c.tc : Thread Cert.DwMidIdeal.nD Cert.DwMidIdeal.τ).loc Cert.DwMidIdeal.main_arg2)
      ∧ m' ((c.tc : Thread Cert.RefDwMidIdeal.nD Cert.RefDwMidIdeal.τ).loc Cert.RefDwMidIdeal.main_arg3) = m ((c.tc : Thread Cert.DwMidIdeal.nD Cert.DwMidIdeal.τ).loc Cert.DwMidIdeal.main_arg3)) →
    ∃ (v0 : (c : Dev Cert.DwMidIdeal.nD) → Buf (Elt Ideal) ((c.tc : Thread Cert.DwMidIdeal.nD Cert.DwMidIdeal.τ).loc Cert.DwMidIdeal.main_v14)),
      θ_run (Cert.DwMidIdeal.defs (F := Ideal)) (onTc (τ := Cert.DwMidIdeal.τ) (Cert.DwMidIdeal.main (F := Ideal))) ⟨m, fun _ => 0, g⟩ (fun r => ∀ c : Dev Cert.DwMidIdeal.nD,
          r.2.mem ((c.tc : Thread Cert.DwMidIdeal.nD Cert.DwMidIdeal.τ).loc Cert.DwMidIdeal.main_v14) = v0 c
          ∧ r.2.mem ((c.tc : Thread Cert.DwMidIdeal.nD Cert.DwMidIdeal.τ).loc Cert.DwMidIdeal.main_arg0) = m ((c.tc : Thread Cert.DwMidIdeal.nD Cert.DwMidIdeal.τ).loc Cert.DwMidIdeal.main_arg0)
          ∧ r.2.mem ((c.tc : Thread Cert.DwMidIdeal.nD Cert.DwMidIdeal.τ).loc Cert.DwMidIdeal.main_arg1) = m ((c.tc : Thread Cert.DwMidIdeal.nD Cert.DwMidIdeal.τ).loc Cert.DwMidIdeal.main_arg1)
          ∧ r.2.mem ((c.tc : Thread Cert.DwMidIdeal.nD Cert.DwMidIdeal.τ).loc Cert.DwMidIdeal.main_arg2) = m ((c.tc : Thread Cert.DwMidIdeal.nD Cert.DwMidIdeal.τ).loc Cert.DwMidIdeal.main_arg2)
          ∧ r.2.mem ((c.tc : Thread Cert.DwMidIdeal.nD Cert.DwMidIdeal.τ).loc Cert.DwMidIdeal.main_arg3) = m ((c.tc : Thread Cert.DwMidIdeal.nD Cert.DwMidIdeal.τ).loc Cert.DwMidIdeal.main_arg3))
      ∧ θ_run (Cert.RefDwMidIdeal.defs (F := Ideal)) (onTc (τ := Cert.RefDwMidIdeal.τ) (Cert.RefDwMidIdeal.main (F := Ideal))) ⟨m', fun _ => 0, g'⟩ (fun r => ∀ c : Dev Cert.RefDwMidIdeal.nD,
          r.2.mem ((c.tc : Thread Cert.RefDwMidIdeal.nD Cert.RefDwMidIdeal.τ).loc Cert.RefDwMidIdeal.main_v16) = v0 c
          ∧ r.2.mem ((c.tc : Thread Cert.RefDwMidIdeal.nD Cert.RefDwMidIdeal.τ).loc Cert.RefDwMidIdeal.main_arg0) = m' ((c.tc : Thread Cert.RefDwMidIdeal.nD Cert.RefDwMidIdeal.τ).loc Cert.RefDwMidIdeal.main_arg0)
          ∧ r.2.mem ((c.tc : Thread Cert.RefDwMidIdeal.nD Cert.RefDwMidIdeal.τ).loc Cert.RefDwMidIdeal.main_arg1) = m' ((c.tc : Thread Cert.RefDwMidIdeal.nD Cert.RefDwMidIdeal.τ).loc Cert.RefDwMidIdeal.main_arg1)
          ∧ r.2.mem ((c.tc : Thread Cert.RefDwMidIdeal.nD Cert.RefDwMidIdeal.τ).loc Cert.RefDwMidIdeal.main_arg2) = m' ((c.tc : Thread Cert.RefDwMidIdeal.nD Cert.RefDwMidIdeal.τ).loc Cert.RefDwMidIdeal.main_arg2)
          ∧ r.2.mem ((c.tc : Thread Cert.RefDwMidIdeal.nD Cert.RefDwMidIdeal.τ).loc Cert.RefDwMidIdeal.main_arg3) = m' ((c.tc : Thread Cert.RefDwMidIdeal.nD Cert.RefDwMidIdeal.τ).loc Cert.RefDwMidIdeal.main_arg3))

def preserves_DwMerge_DwMergeIdeal : Prop :=
  True

def algebraic_DwMergeIdeal_RefDwMergeIdeal [hDwMergeIdeal : Cert.DwMergeIdeal.Facts] [hRefDwMergeIdeal : Cert.RefDwMergeIdeal.Facts] : Prop :=
  ∀ (m : (ℓ : Loc Cert.DwMergeIdeal.nD Cert.DwMergeIdeal.τ Cert.DwMergeIdeal.sig) → Buf (Elt Ideal) ℓ) (g : Dev Cert.DwMergeIdeal.nD → PrngReg)
    (m' : (ℓ : Loc Cert.RefDwMergeIdeal.nD Cert.RefDwMergeIdeal.τ Cert.RefDwMergeIdeal.sig) → Buf (Elt Ideal) ℓ) (g' : Dev Cert.RefDwMergeIdeal.nD → PrngReg), Pre_DwMergeIdeal m →
    (∀ c : Dev Cert.DwMergeIdeal.nD,
      m' ((c.tc : Thread Cert.RefDwMergeIdeal.nD Cert.RefDwMergeIdeal.τ).loc Cert.RefDwMergeIdeal.main_arg0) = m ((c.tc : Thread Cert.DwMergeIdeal.nD Cert.DwMergeIdeal.τ).loc Cert.DwMergeIdeal.main_arg0)
      ∧ m' ((c.tc : Thread Cert.RefDwMergeIdeal.nD Cert.RefDwMergeIdeal.τ).loc Cert.RefDwMergeIdeal.main_arg1) = m ((c.tc : Thread Cert.DwMergeIdeal.nD Cert.DwMergeIdeal.τ).loc Cert.DwMergeIdeal.main_arg1)
      ∧ m' ((c.tc : Thread Cert.RefDwMergeIdeal.nD Cert.RefDwMergeIdeal.τ).loc Cert.RefDwMergeIdeal.main_arg2) = m ((c.tc : Thread Cert.DwMergeIdeal.nD Cert.DwMergeIdeal.τ).loc Cert.DwMergeIdeal.main_arg2)
      ∧ m' ((c.tc : Thread Cert.RefDwMergeIdeal.nD Cert.RefDwMergeIdeal.τ).loc Cert.RefDwMergeIdeal.main_arg3) = m ((c.tc : Thread Cert.DwMergeIdeal.nD Cert.DwMergeIdeal.τ).loc Cert.DwMergeIdeal.main_arg3)) →
    ∃ (v0 : (c : Dev Cert.DwMergeIdeal.nD) → Buf (Elt Ideal) ((c.tc : Thread Cert.DwMergeIdeal.nD Cert.DwMergeIdeal.τ).loc Cert.DwMergeIdeal.main_v14)),
      θ_run (Cert.DwMergeIdeal.defs (F := Ideal)) (onTc (τ := Cert.DwMergeIdeal.τ) (Cert.DwMergeIdeal.main (F := Ideal))) ⟨m, fun _ => 0, g⟩ (fun r => ∀ c : Dev Cert.DwMergeIdeal.nD,
          r.2.mem ((c.tc : Thread Cert.DwMergeIdeal.nD Cert.DwMergeIdeal.τ).loc Cert.DwMergeIdeal.main_v14) = v0 c
          ∧ r.2.mem ((c.tc : Thread Cert.DwMergeIdeal.nD Cert.DwMergeIdeal.τ).loc Cert.DwMergeIdeal.main_arg0) = m ((c.tc : Thread Cert.DwMergeIdeal.nD Cert.DwMergeIdeal.τ).loc Cert.DwMergeIdeal.main_arg0)
          ∧ r.2.mem ((c.tc : Thread Cert.DwMergeIdeal.nD Cert.DwMergeIdeal.τ).loc Cert.DwMergeIdeal.main_arg1) = m ((c.tc : Thread Cert.DwMergeIdeal.nD Cert.DwMergeIdeal.τ).loc Cert.DwMergeIdeal.main_arg1)
          ∧ r.2.mem ((c.tc : Thread Cert.DwMergeIdeal.nD Cert.DwMergeIdeal.τ).loc Cert.DwMergeIdeal.main_arg2) = m ((c.tc : Thread Cert.DwMergeIdeal.nD Cert.DwMergeIdeal.τ).loc Cert.DwMergeIdeal.main_arg2)
          ∧ r.2.mem ((c.tc : Thread Cert.DwMergeIdeal.nD Cert.DwMergeIdeal.τ).loc Cert.DwMergeIdeal.main_arg3) = m ((c.tc : Thread Cert.DwMergeIdeal.nD Cert.DwMergeIdeal.τ).loc Cert.DwMergeIdeal.main_arg3))
      ∧ θ_run (Cert.RefDwMergeIdeal.defs (F := Ideal)) (onTc (τ := Cert.RefDwMergeIdeal.τ) (Cert.RefDwMergeIdeal.main (F := Ideal))) ⟨m', fun _ => 0, g'⟩ (fun r => ∀ c : Dev Cert.RefDwMergeIdeal.nD,
          r.2.mem ((c.tc : Thread Cert.RefDwMergeIdeal.nD Cert.RefDwMergeIdeal.τ).loc Cert.RefDwMergeIdeal.main_v16) = v0 c
          ∧ r.2.mem ((c.tc : Thread Cert.RefDwMergeIdeal.nD Cert.RefDwMergeIdeal.τ).loc Cert.RefDwMergeIdeal.main_arg0) = m' ((c.tc : Thread Cert.RefDwMergeIdeal.nD Cert.RefDwMergeIdeal.τ).loc Cert.RefDwMergeIdeal.main_arg0)
          ∧ r.2.mem ((c.tc : Thread Cert.RefDwMergeIdeal.nD Cert.RefDwMergeIdeal.τ).loc Cert.RefDwMergeIdeal.main_arg1) = m' ((c.tc : Thread Cert.RefDwMergeIdeal.nD Cert.RefDwMergeIdeal.τ).loc Cert.RefDwMergeIdeal.main_arg1)
          ∧ r.2.mem ((c.tc : Thread Cert.RefDwMergeIdeal.nD Cert.RefDwMergeIdeal.τ).loc Cert.RefDwMergeIdeal.main_arg2) = m' ((c.tc : Thread Cert.RefDwMergeIdeal.nD Cert.RefDwMergeIdeal.τ).loc Cert.RefDwMergeIdeal.main_arg2)
          ∧ r.2.mem ((c.tc : Thread Cert.RefDwMergeIdeal.nD Cert.RefDwMergeIdeal.τ).loc Cert.RefDwMergeIdeal.main_arg3) = m' ((c.tc : Thread Cert.RefDwMergeIdeal.nD Cert.RefDwMergeIdeal.τ).loc Cert.RefDwMergeIdeal.main_arg3))

def preserves_DwOut_DwOutIdeal : Prop :=
  True

def algebraic_DwOutIdeal_RefDwOutIdeal [hDwOutIdeal : Cert.DwOutIdeal.Facts] [hRefDwOutIdeal : Cert.RefDwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.RefDwOutIdeal.nD Cert.RefDwOutIdeal.τ Cert.RefDwOutIdeal.sig) → Buf (Elt Ideal) ℓ) (g' : Dev Cert.RefDwOutIdeal.nD → PrngReg), Pre_DwOutIdeal m →
    (∀ c : Dev Cert.DwOutIdeal.nD,
      m' ((c.tc : Thread Cert.RefDwOutIdeal.nD Cert.RefDwOutIdeal.τ).loc Cert.RefDwOutIdeal.main_arg0) = m ((c.tc : Thread Cert.DwOutIdeal.nD Cert.DwOutIdeal.τ).loc Cert.DwOutIdeal.main_arg0)
      ∧ m' ((c.tc : Thread Cert.RefDwOutIdeal.nD Cert.RefDwOutIdeal.τ).loc Cert.RefDwOutIdeal.main_arg1) = m ((c.tc : Thread Cert.DwOutIdeal.nD Cert.DwOutIdeal.τ).loc Cert.DwOutIdeal.main_arg1)
      ∧ m' ((c.tc : Thread Cert.RefDwOutIdeal.nD Cert.RefDwOutIdeal.τ).loc Cert.RefDwOutIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.RefDwOutIdeal.defs (F := Ideal)) (onTc (τ := Cert.RefDwOutIdeal.τ) (Cert.RefDwOutIdeal.main (F := Ideal))) ⟨m', fun _ => 0, g'⟩ (fun r => ∀ c : Dev Cert.RefDwOutIdeal.nD,
          r.2.mem ((c.tc : Thread Cert.RefDwOutIdeal.nD Cert.RefDwOutIdeal.τ).loc Cert.RefDwOutIdeal.main_v4) = v0 c
          ∧ r.2.mem ((c.tc : Thread Cert.RefDwOutIdeal.nD Cert.RefDwOutIdeal.τ).loc Cert.RefDwOutIdeal.main_arg0) = m' ((c.tc : Thread Cert.RefDwOutIdeal.nD Cert.RefDwOutIdeal.τ).loc Cert.RefDwOutIdeal.main_arg0)
          ∧ r.2.mem ((c.tc : Thread Cert.RefDwOutIdeal.nD Cert.RefDwOutIdeal.τ).loc Cert.RefDwOutIdeal.main_arg1) = m' ((c.tc : Thread Cert.RefDwOutIdeal.nD Cert.RefDwOutIdeal.τ).loc Cert.RefDwOutIdeal.main_arg1)
          ∧ r.2.mem ((c.tc : Thread Cert.RefDwOutIdeal.nD Cert.RefDwOutIdeal.τ).loc Cert.RefDwOutIdeal.main_arg2) = m' ((c.tc : Thread Cert.RefDwOutIdeal.nD Cert.RefDwOutIdeal.τ).loc Cert.RefDwOutIdeal.main_arg2))

def preserves_DwSmall_DwSmallIdeal : Prop :=
  True

def algebraic_DwSmallIdeal_RefDwSmallIdeal [hDwSmallIdeal : Cert.DwSmallIdeal.Facts] [hRefDwSmallIdeal : Cert.RefDwSmallIdeal.Facts] : Prop :=
  ∀ (m : (ℓ : Loc Cert.DwSmallIdeal.nD Cert.DwSmallIdeal.τ Cert.DwSmallIdeal.sig) → Buf (Elt Ideal) ℓ) (g : Dev Cert.DwSmallIdeal.nD → PrngReg)
    (m' : (ℓ : Loc Cert.RefDwSmallIdeal.nD Cert.RefDwSmallIdeal.τ Cert.RefDwSmallIdeal.sig) → Buf (Elt Ideal) ℓ) (g' : Dev Cert.RefDwSmallIdeal.nD → PrngReg), Pre_DwSmallIdeal m →
    (∀ c : Dev Cert.DwSmallIdeal.nD,
      m' ((c.tc : Thread Cert.RefDwSmallIdeal.nD Cert.RefDwSmallIdeal.τ).loc Cert.RefDwSmallIdeal.main_arg0) = m ((c.tc : Thread Cert.DwSmallIdeal.nD Cert.DwSmallIdeal.τ).loc Cert.DwSmallIdeal.main_arg0)
      ∧ m' ((c.tc : Thread Cert.RefDwSmallIdeal.nD Cert.RefDwSmallIdeal.τ).loc Cert.RefDwSmallIdeal.main_arg1) = m ((c.tc : Thread Cert.DwSmallIdeal.nD Cert.DwSmallIdeal.τ).loc Cert.DwSmallIdeal.main_arg1)
      ∧ m' ((c.tc : Thread Cert.RefDwSmallIdeal.nD Cert.RefDwSmallIdeal.τ).loc Cert.RefDwSmallIdeal.main_arg2) = m ((c.tc : Thread Cert.DwSmallIdeal.nD Cert.DwSmallIdeal.τ).loc Cert.DwSmallIdeal.main_arg2)) →
    ∃ (v0 : (c : Dev Cert.DwSmallIdeal.nD) → Buf (Elt Ideal) ((c.tc : Thread Cert.DwSmallIdeal.nD Cert.DwSmallIdeal.τ).loc Cert.DwSmallIdeal.main_v0)),
      θ_run (Cert.DwSmallIdeal.defs (F := Ideal)) (onTc (τ := Cert.DwSmallIdeal.τ) (Cert.DwSmallIdeal.main (F := Ideal))) ⟨m, fun _ => 0, g⟩ (fun r => ∀ c : Dev Cert.DwSmallIdeal.nD,
          r.2.mem ((c.tc : Thread Cert.DwSmallIdeal.nD Cert.DwSmallIdeal.τ).loc Cert.DwSmallIdeal.main_v0) = v0 c
          ∧ r.2.mem ((c.tc : Thread Cert.DwSmallIdeal.nD Cert.DwSmallIdeal.τ).loc Cert.DwSmallIdeal.main_arg0) = m ((c.tc : Thread Cert.DwSmallIdeal.nD Cert.DwSmallIdeal.τ).loc Cert.DwSmallIdeal.main_arg0)
          ∧ r.2.mem ((c.tc : Thread Cert.DwSmallIdeal.nD Cert.DwSmallIdeal.τ).loc Cert.DwSmallIdeal.main_arg1) = m ((c.tc : Thread Cert.DwSmallIdeal.nD Cert.DwSmallIdeal.τ).loc Cert.DwSmallIdeal.main_arg1)
          ∧ r.2.mem ((c.tc : Thread Cert.DwSmallIdeal.nD Cert.DwSmallIdeal.τ).loc Cert.DwSmallIdeal.main_arg2) = m ((c.tc : Thread Cert.DwSmallIdeal.nD Cert.DwSmallIdeal.τ).loc Cert.DwSmallIdeal.main_arg2))
      ∧ θ_run (Cert.RefDwSmallIdeal.defs (F := Ideal)) (onTc (τ := Cert.RefDwSmallIdeal.τ) (Cert.RefDwSmallIdeal.main (F := Ideal))) ⟨m', fun _ => 0, g'⟩ (fun r => ∀ c : Dev Cert.RefDwSmallIdeal.nD,
          r.2.mem ((c.tc : Thread Cert.RefDwSmallIdeal.nD Cert.RefDwSmallIdeal.τ).loc Cert.RefDwSmallIdeal.main_v4) = v0 c
          ∧ r.2.mem ((c.tc : Thread Cert.RefDwSmallIdeal.nD Cert.RefDwSmallIdeal.τ).loc Cert.RefDwSmallIdeal.main_arg0) = m' ((c.tc : Thread Cert.RefDwSmallIdeal.nD Cert.RefDwSmallIdeal.τ).loc Cert.RefDwSmallIdeal.main_arg0)
          ∧ r.2.mem ((c.tc : Thread Cert.RefDwSmallIdeal.nD Cert.RefDwSmallIdeal.τ).loc Cert.RefDwSmallIdeal.main_arg1) = m' ((c.tc : Thread Cert.RefDwSmallIdeal.nD Cert.RefDwSmallIdeal.τ).loc Cert.RefDwSmallIdeal.main_arg1)
          ∧ r.2.mem ((c.tc : Thread Cert.RefDwSmallIdeal.nD Cert.RefDwSmallIdeal.τ).loc Cert.RefDwSmallIdeal.main_arg2) = m' ((c.tc : Thread Cert.RefDwSmallIdeal.nD Cert.RefDwSmallIdeal.τ).loc Cert.RefDwSmallIdeal.main_arg2))

def preserves_Up_UpIdeal : Prop :=
  True

def algebraic_UpIdeal_RefUpIdeal [hUpIdeal : Cert.UpIdeal.Facts] [hRefUpIdeal : Cert.RefUpIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RefUpIdeal.nD Cert.RefUpIdeal.τ Cert.RefUpIdeal.sig) → Buf (Elt Ideal) ℓ) (g' : Dev Cert.RefUpIdeal.nD → PrngReg), Pre_UpIdeal m →
    (∀ c : Dev Cert.UpIdeal.nD,
      m' ((c.tc : Thread Cert.RefUpIdeal.nD Cert.RefUpIdeal.τ).loc Cert.RefUpIdeal.main_arg0) = m ((c.tc : Thread Cert.UpIdeal.nD Cert.UpIdeal.τ).loc Cert.UpIdeal.main_arg0)
      ∧ m' ((c.tc : Thread Cert.RefUpIdeal.nD Cert.RefUpIdeal.τ).loc Cert.RefUpIdeal.main_arg1) = m ((c.tc : Thread Cert.UpIdeal.nD Cert.UpIdeal.τ).loc Cert.UpIdeal.main_arg1)
      ∧ m' ((c.tc : Thread Cert.RefUpIdeal.nD Cert.RefUpIdeal.τ).loc Cert.RefUpIdeal.main_arg2) = m ((c.tc : Thread Cert.UpIdeal.nD Cert.UpIdeal.τ).loc Cert.UpIdeal.main_arg2)
      ∧ m' ((c.tc : Thread Cert.RefUpIdeal.nD Cert.RefUpIdeal.τ).loc Cert.RefUpIdeal.main_arg3) = m ((c.tc : Thread Cert.UpIdeal.nD Cert.UpIdeal.τ).loc Cert.UpIdeal.main_arg3)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)) (v2 : (c : Dev Cert.UpIdeal.nD) → Buf (Elt Ideal) ((c.tc : Thread Cert.UpIdeal.nD Cert.UpIdeal.τ).loc Cert.UpIdeal.main_v1_2)) (v3 : (c : Dev Cert.UpIdeal.nD) → Buf (Elt Ideal) ((c.tc : Thread Cert.UpIdeal.nD Cert.UpIdeal.τ).loc Cert.UpIdeal.main_v1_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_v1_2) = v2 c
          ∧ r.2.mem ((c.tc : Thread Cert.UpIdeal.nD Cert.UpIdeal.τ).loc Cert.UpIdeal.main_v1_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3))
      ∧ θ_run (Cert.RefUpIdeal.defs (F := Ideal)) (onTc (τ := Cert.RefUpIdeal.τ) (Cert.RefUpIdeal.main (F := Ideal))) ⟨m', fun _ => 0, g'⟩ (fun r => ∀ c : Dev Cert.RefUpIdeal.nD,
          r.2.mem ((c.tc : Thread Cert.RefUpIdeal.nD Cert.RefUpIdeal.τ).loc Cert.RefUpIdeal.main_v19) = v0 c
          ∧ r.2.mem ((c.tc : Thread Cert.RefUpIdeal.nD Cert.RefUpIdeal.τ).loc Cert.RefUpIdeal.main_v20) = v1 c
          ∧ r.2.mem ((c.tc : Thread Cert.RefUpIdeal.nD Cert.RefUpIdeal.τ).loc Cert.RefUpIdeal.main_v21) = v2 c
          ∧ r.2.mem ((c.tc : Thread Cert.RefUpIdeal.nD Cert.RefUpIdeal.τ).loc Cert.RefUpIdeal.main_v22) = v3 c
          ∧ r.2.mem ((c.tc : Thread Cert.RefUpIdeal.nD Cert.RefUpIdeal.τ).loc Cert.RefUpIdeal.main_arg0) = m' ((c.tc : Thread Cert.RefUpIdeal.nD Cert.RefUpIdeal.τ).loc Cert.RefUpIdeal.main_arg0)
          ∧ r.2.mem ((c.tc : Thread Cert.RefUpIdeal.nD Cert.RefUpIdeal.τ).loc Cert.RefUpIdeal.main_arg1) = m' ((c.tc : Thread Cert.RefUpIdeal.nD Cert.RefUpIdeal.τ).loc Cert.RefUpIdeal.main_arg1)
          ∧ r.2.mem ((c.tc : Thread Cert.RefUpIdeal.nD Cert.RefUpIdeal.τ).loc Cert.RefUpIdeal.main_arg2) = m' ((c.tc : Thread Cert.RefUpIdeal.nD Cert.RefUpIdeal.τ).loc Cert.RefUpIdeal.main_arg2)
          ∧ r.2.mem ((c.tc : Thread Cert.RefUpIdeal.nD Cert.RefUpIdeal.τ).loc Cert.RefUpIdeal.main_arg3) = m' ((c.tc : Thread Cert.RefUpIdeal.nD Cert.RefUpIdeal.τ).loc Cert.RefUpIdeal.main_arg3))

def preserves_Down_DownIdeal : Prop :=
  True

def algebraic_DownIdeal_RefDownIdeal [hDownIdeal : Cert.DownIdeal.Facts] [hRefDownIdeal : Cert.RefDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RefDownIdeal.nD Cert.RefDownIdeal.τ Cert.RefDownIdeal.sig) → Buf (Elt Ideal) ℓ) (g' : Dev Cert.RefDownIdeal.nD → PrngReg), Pre_DownIdeal m →
    (∀ c : Dev Cert.DownIdeal.nD,
      m' ((c.tc : Thread Cert.RefDownIdeal.nD Cert.RefDownIdeal.τ).loc Cert.RefDownIdeal.main_arg0) = m ((c.tc : Thread Cert.DownIdeal.nD Cert.DownIdeal.τ).loc Cert.DownIdeal.main_arg0)
      ∧ m' ((c.tc : Thread Cert.RefDownIdeal.nD Cert.RefDownIdeal.τ).loc Cert.RefDownIdeal.main_arg1) = m ((c.tc : Thread Cert.DownIdeal.nD Cert.DownIdeal.τ).loc Cert.DownIdeal.main_arg1)
      ∧ m' ((c.tc : Thread Cert.RefDownIdeal.nD Cert.RefDownIdeal.τ).loc Cert.RefDownIdeal.main_arg2) = m ((c.tc : Thread Cert.DownIdeal.nD Cert.DownIdeal.τ).loc Cert.DownIdeal.main_arg2)
      ∧ m' ((c.tc : Thread Cert.RefDownIdeal.nD Cert.RefDownIdeal.τ).loc Cert.RefDownIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.RefDownIdeal.defs (F := Ideal)) (onTc (τ := Cert.RefDownIdeal.τ) (Cert.RefDownIdeal.main (F := Ideal))) ⟨m', fun _ => 0, g'⟩ (fun r => ∀ c : Dev Cert.RefDownIdeal.nD,
          r.2.mem ((c.tc : Thread Cert.RefDownIdeal.nD Cert.RefDownIdeal.τ).loc Cert.RefDownIdeal.main_v2) = v0 c
          ∧ r.2.mem ((c.tc : Thread Cert.RefDownIdeal.nD Cert.RefDownIdeal.τ).loc Cert.RefDownIdeal.main_v18) = v1 c
          ∧ r.2.mem ((c.tc : Thread Cert.RefDownIdeal.nD Cert.RefDownIdeal.τ).loc Cert.RefDownIdeal.main_arg0) = m' ((c.tc : Thread Cert.RefDownIdeal.nD Cert.RefDownIdeal.τ).loc Cert.RefDownIdeal.main_arg0)
          ∧ r.2.mem ((c.tc : Thread Cert.RefDownIdeal.nD Cert.RefDownIdeal.τ).loc Cert.RefDownIdeal.main_arg1) = m' ((c.tc : Thread Cert.RefDownIdeal.nD Cert.RefDownIdeal.τ).loc Cert.RefDownIdeal.main_arg1)
          ∧ r.2.mem ((c.tc : Thread Cert.RefDownIdeal.nD Cert.RefDownIdeal.τ).loc Cert.RefDownIdeal.main_arg2) = m' ((c.tc : Thread Cert.RefDownIdeal.nD Cert.RefDownIdeal.τ).loc Cert.RefDownIdeal.main_arg2)
          ∧ r.2.mem ((c.tc : Thread Cert.RefDownIdeal.nD Cert.RefDownIdeal.τ).loc Cert.RefDownIdeal.main_arg3) = m' ((c.tc : Thread Cert.RefDownIdeal.nD Cert.RefDownIdeal.τ).loc Cert.RefDownIdeal.main_arg3))

def preserves_MixIn_MixInIdeal : Prop :=
  True

def algebraic_MixInIdeal_RefMixInIdeal [hMixInIdeal : Cert.MixInIdeal.Facts] [hRefMixInIdeal : Cert.RefMixInIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.RefMixInIdeal.nD Cert.RefMixInIdeal.τ Cert.RefMixInIdeal.sig) → Buf (Elt Ideal) ℓ) (g' : Dev Cert.RefMixInIdeal.nD → PrngReg), Pre_MixInIdeal m →
    (∀ c : Dev Cert.MixInIdeal.nD,
      m' ((c.tc : Thread Cert.RefMixInIdeal.nD Cert.RefMixInIdeal.τ).loc Cert.RefMixInIdeal.main_arg0) = m ((c.tc : Thread Cert.MixInIdeal.nD Cert.MixInIdeal.τ).loc Cert.MixInIdeal.main_arg0)
      ∧ m' ((c.tc : Thread Cert.RefMixInIdeal.nD Cert.RefMixInIdeal.τ).loc Cert.RefMixInIdeal.main_arg1) = m ((c.tc : Thread Cert.MixInIdeal.nD Cert.MixInIdeal.τ).loc Cert.MixInIdeal.main_arg1)
      ∧ m' ((c.tc : Thread Cert.RefMixInIdeal.nD Cert.RefMixInIdeal.τ).loc Cert.RefMixInIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v5_0)) (v1 : (c : Dev Cert.MixInIdeal.nD) → Buf (Elt Ideal) ((c.tc : Thread Cert.MixInIdeal.nD Cert.MixInIdeal.τ).loc Cert.MixInIdeal.main_v5_1)) (v2 : (c : Dev Cert.MixInIdeal.nD) → Buf (Elt Ideal) ((c.tc : Thread Cert.MixInIdeal.nD Cert.MixInIdeal.τ).loc Cert.MixInIdeal.main_v5_2)) (v3 : (c : Dev Cert.MixInIdeal.nD) → Buf (Elt Ideal) ((c.tc : Thread Cert.MixInIdeal.nD Cert.MixInIdeal.τ).loc Cert.MixInIdeal.main_v5_3)) (v4 : (c : Dev Cert.MixInIdeal.nD) → Buf (Elt Ideal) ((c.tc : Thread Cert.MixInIdeal.nD Cert.MixInIdeal.τ).loc Cert.MixInIdeal.main_v5_4)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v5_0) = v0 c
          ∧ r.2.mem ((c.tc : Thread Cert.MixInIdeal.nD Cert.MixInIdeal.τ).loc Cert.MixInIdeal.main_v5_1) = v1 c
          ∧ r.2.mem ((c.tc : Thread Cert.MixInIdeal.nD Cert.MixInIdeal.τ).loc Cert.MixInIdeal.main_v5_2) = v2 c
          ∧ r.2.mem ((c.tc : Thread Cert.MixInIdeal.nD Cert.MixInIdeal.τ).loc Cert.MixInIdeal.main_v5_3) = v3 c
          ∧ r.2.mem ((c.tc : Thread Cert.MixInIdeal.nD Cert.MixInIdeal.τ).loc Cert.MixInIdeal.main_v5_4) = v4 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.RefMixInIdeal.defs (F := Ideal)) (onTc (τ := Cert.RefMixInIdeal.τ) (Cert.RefMixInIdeal.main (F := Ideal))) ⟨m', fun _ => 0, g'⟩ (fun r => ∀ c : Dev Cert.RefMixInIdeal.nD,
          r.2.mem ((c.tc : Thread Cert.RefMixInIdeal.nD Cert.RefMixInIdeal.τ).loc Cert.RefMixInIdeal.main_v19) = v0 c
          ∧ r.2.mem ((c.tc : Thread Cert.RefMixInIdeal.nD Cert.RefMixInIdeal.τ).loc Cert.RefMixInIdeal.main_v20) = v1 c
          ∧ r.2.mem ((c.tc : Thread Cert.RefMixInIdeal.nD Cert.RefMixInIdeal.τ).loc Cert.RefMixInIdeal.main_v21) = v2 c
          ∧ r.2.mem ((c.tc : Thread Cert.RefMixInIdeal.nD Cert.RefMixInIdeal.τ).loc Cert.RefMixInIdeal.main_v22) = v3 c
          ∧ r.2.mem ((c.tc : Thread Cert.RefMixInIdeal.nD Cert.RefMixInIdeal.τ).loc Cert.RefMixInIdeal.main_v23) = v4 c
          ∧ r.2.mem ((c.tc : Thread Cert.RefMixInIdeal.nD Cert.RefMixInIdeal.τ).loc Cert.RefMixInIdeal.main_arg0) = m' ((c.tc : Thread Cert.RefMixInIdeal.nD Cert.RefMixInIdeal.τ).loc Cert.RefMixInIdeal.main_arg0)
          ∧ r.2.mem ((c.tc : Thread Cert.RefMixInIdeal.nD Cert.RefMixInIdeal.τ).loc Cert.RefMixInIdeal.main_arg1) = m' ((c.tc : Thread Cert.RefMixInIdeal.nD Cert.RefMixInIdeal.τ).loc Cert.RefMixInIdeal.main_arg1)
          ∧ r.2.mem ((c.tc : Thread Cert.RefMixInIdeal.nD Cert.RefMixInIdeal.τ).loc Cert.RefMixInIdeal.main_arg2) = m' ((c.tc : Thread Cert.RefMixInIdeal.nD Cert.RefMixInIdeal.τ).loc Cert.RefMixInIdeal.main_arg2))

def preserves_MixProj_MixProjIdeal : Prop :=
  True

def algebraic_MixProjIdeal_RefMixProjIdeal [hMixProjIdeal : Cert.MixProjIdeal.Facts] [hRefMixProjIdeal : Cert.RefMixProjIdeal.Facts] : Prop :=
  ∀ (m : (ℓ : Loc Cert.MixProjIdeal.nD Cert.MixProjIdeal.τ Cert.MixProjIdeal.sig) → Buf (Elt Ideal) ℓ) (g : Dev Cert.MixProjIdeal.nD → PrngReg)
    (m' : (ℓ : Loc Cert.RefMixProjIdeal.nD Cert.RefMixProjIdeal.τ Cert.RefMixProjIdeal.sig) → Buf (Elt Ideal) ℓ) (g' : Dev Cert.RefMixProjIdeal.nD → PrngReg), Pre_MixProjIdeal m →
    (∀ c : Dev Cert.MixProjIdeal.nD,
      m' ((c.tc : Thread Cert.RefMixProjIdeal.nD Cert.RefMixProjIdeal.τ).loc Cert.RefMixProjIdeal.main_arg0) = m ((c.tc : Thread Cert.MixProjIdeal.nD Cert.MixProjIdeal.τ).loc Cert.MixProjIdeal.main_arg0)
      ∧ m' ((c.tc : Thread Cert.RefMixProjIdeal.nD Cert.RefMixProjIdeal.τ).loc Cert.RefMixProjIdeal.main_arg1) = m ((c.tc : Thread Cert.MixProjIdeal.nD Cert.MixProjIdeal.τ).loc Cert.MixProjIdeal.main_arg1)
      ∧ m' ((c.tc : Thread Cert.RefMixProjIdeal.nD Cert.RefMixProjIdeal.τ).loc Cert.RefMixProjIdeal.main_arg2) = m ((c.tc : Thread Cert.MixProjIdeal.nD Cert.MixProjIdeal.τ).loc Cert.MixProjIdeal.main_arg2)
      ∧ m' ((c.tc : Thread Cert.RefMixProjIdeal.nD Cert.RefMixProjIdeal.τ).loc Cert.RefMixProjIdeal.main_arg3) = m ((c.tc : Thread Cert.MixProjIdeal.nD Cert.MixProjIdeal.τ).loc Cert.MixProjIdeal.main_arg3)
      ∧ m' ((c.tc : Thread Cert.RefMixProjIdeal.nD Cert.RefMixProjIdeal.τ).loc Cert.RefMixProjIdeal.main_arg4) = m ((c.tc : Thread Cert.MixProjIdeal.nD Cert.MixProjIdeal.τ).loc Cert.MixProjIdeal.main_arg4)
      ∧ m' ((c.tc : Thread Cert.RefMixProjIdeal.nD Cert.RefMixProjIdeal.τ).loc Cert.RefMixProjIdeal.main_arg5) = m ((c.tc : Thread Cert.MixProjIdeal.nD Cert.MixProjIdeal.τ).loc Cert.MixProjIdeal.main_arg5)
      ∧ m' ((c.tc : Thread Cert.RefMixProjIdeal.nD Cert.RefMixProjIdeal.τ).loc Cert.RefMixProjIdeal.main_arg6) = m ((c.tc : Thread Cert.MixProjIdeal.nD Cert.MixProjIdeal.τ).loc Cert.MixProjIdeal.main_arg6)) →
    ∃ (v0 : (c : Dev Cert.MixProjIdeal.nD) → Buf (Elt Ideal) ((c.tc : Thread Cert.MixProjIdeal.nD Cert.MixProjIdeal.τ).loc Cert.MixProjIdeal.main_v0_0)) (v1 : (c : Dev Cert.MixProjIdeal.nD) → Buf (Elt Ideal) ((c.tc : Thread Cert.MixProjIdeal.nD Cert.MixProjIdeal.τ).loc Cert.MixProjIdeal.main_v0_1)) (v2 : (c : Dev Cert.MixProjIdeal.nD) → Buf (Elt Ideal) ((c.tc : Thread Cert.MixProjIdeal.nD Cert.MixProjIdeal.τ).loc Cert.MixProjIdeal.main_v0_2)) (v3 : (c : Dev Cert.MixProjIdeal.nD) → Buf (Elt Ideal) ((c.tc : Thread Cert.MixProjIdeal.nD Cert.MixProjIdeal.τ).loc Cert.MixProjIdeal.main_v0_3)),
      θ_run (Cert.MixProjIdeal.defs (F := Ideal)) (onTc (τ := Cert.MixProjIdeal.τ) (Cert.MixProjIdeal.main (F := Ideal))) ⟨m, fun _ => 0, g⟩ (fun r => ∀ c : Dev Cert.MixProjIdeal.nD,
          r.2.mem ((c.tc : Thread Cert.MixProjIdeal.nD Cert.MixProjIdeal.τ).loc Cert.MixProjIdeal.main_v0_0) = v0 c
          ∧ r.2.mem ((c.tc : Thread Cert.MixProjIdeal.nD Cert.MixProjIdeal.τ).loc Cert.MixProjIdeal.main_v0_1) = v1 c
          ∧ r.2.mem ((c.tc : Thread Cert.MixProjIdeal.nD Cert.MixProjIdeal.τ).loc Cert.MixProjIdeal.main_v0_2) = v2 c
          ∧ r.2.mem ((c.tc : Thread Cert.MixProjIdeal.nD Cert.MixProjIdeal.τ).loc Cert.MixProjIdeal.main_v0_3) = v3 c
          ∧ r.2.mem ((c.tc : Thread Cert.MixProjIdeal.nD Cert.MixProjIdeal.τ).loc Cert.MixProjIdeal.main_arg0) = m ((c.tc : Thread Cert.MixProjIdeal.nD Cert.MixProjIdeal.τ).loc Cert.MixProjIdeal.main_arg0)
          ∧ r.2.mem ((c.tc : Thread Cert.MixProjIdeal.nD Cert.MixProjIdeal.τ).loc Cert.MixProjIdeal.main_arg1) = m ((c.tc : Thread Cert.MixProjIdeal.nD Cert.MixProjIdeal.τ).loc Cert.MixProjIdeal.main_arg1)
          ∧ r.2.mem ((c.tc : Thread Cert.MixProjIdeal.nD Cert.MixProjIdeal.τ).loc Cert.MixProjIdeal.main_arg2) = m ((c.tc : Thread Cert.MixProjIdeal.nD Cert.MixProjIdeal.τ).loc Cert.MixProjIdeal.main_arg2)
          ∧ r.2.mem ((c.tc : Thread Cert.MixProjIdeal.nD Cert.MixProjIdeal.τ).loc Cert.MixProjIdeal.main_arg3) = m ((c.tc : Thread Cert.MixProjIdeal.nD Cert.MixProjIdeal.τ).loc Cert.MixProjIdeal.main_arg3)
          ∧ r.2.mem ((c.tc : Thread Cert.MixProjIdeal.nD Cert.MixProjIdeal.τ).loc Cert.MixProjIdeal.main_arg4) = m ((c.tc : Thread Cert.MixProjIdeal.nD Cert.MixProjIdeal.τ).loc Cert.MixProjIdeal.main_arg4)
          ∧ r.2.mem ((c.tc : Thread Cert.MixProjIdeal.nD Cert.MixProjIdeal.τ).loc Cert.MixProjIdeal.main_arg5) = m ((c.tc : Thread Cert.MixProjIdeal.nD Cert.MixProjIdeal.τ).loc Cert.MixProjIdeal.main_arg5)
          ∧ r.2.mem ((c.tc : Thread Cert.MixProjIdeal.nD Cert.MixProjIdeal.τ).loc Cert.MixProjIdeal.main_arg6) = m ((c.tc : Thread Cert.MixProjIdeal.nD Cert.MixProjIdeal.τ).loc Cert.MixProjIdeal.main_arg6))
      ∧ θ_run (Cert.RefMixProjIdeal.defs (F := Ideal)) (onTc (τ := Cert.RefMixProjIdeal.τ) (Cert.RefMixProjIdeal.main (F := Ideal))) ⟨m', fun _ => 0, g'⟩ (fun r => ∀ c : Dev Cert.RefMixProjIdeal.nD,
          r.2.mem ((c.tc : Thread Cert.RefMixProjIdeal.nD Cert.RefMixProjIdeal.τ).loc Cert.RefMixProjIdeal.main_v28) = v0 c
          ∧ r.2.mem ((c.tc : Thread Cert.RefMixProjIdeal.nD Cert.RefMixProjIdeal.τ).loc Cert.RefMixProjIdeal.main_v29) = v1 c
          ∧ r.2.mem ((c.tc : Thread Cert.RefMixProjIdeal.nD Cert.RefMixProjIdeal.τ).loc Cert.RefMixProjIdeal.main_v30) = v2 c
          ∧ r.2.mem ((c.tc : Thread Cert.RefMixProjIdeal.nD Cert.RefMixProjIdeal.τ).loc Cert.RefMixProjIdeal.main_v31) = v3 c
          ∧ r.2.mem ((c.tc : Thread Cert.RefMixProjIdeal.nD Cert.RefMixProjIdeal.τ).loc Cert.RefMixProjIdeal.main_arg0) = m' ((c.tc : Thread Cert.RefMixProjIdeal.nD Cert.RefMixProjIdeal.τ).loc Cert.RefMixProjIdeal.main_arg0)
          ∧ r.2.mem ((c.tc : Thread Cert.RefMixProjIdeal.nD Cert.RefMixProjIdeal.τ).loc Cert.RefMixProjIdeal.main_arg1) = m' ((c.tc : Thread Cert.RefMixProjIdeal.nD Cert.RefMixProjIdeal.τ).loc Cert.RefMixProjIdeal.main_arg1)
          ∧ r.2.mem ((c.tc : Thread Cert.RefMixProjIdeal.nD Cert.RefMixProjIdeal.τ).loc Cert.RefMixProjIdeal.main_arg2) = m' ((c.tc : Thread Cert.RefMixProjIdeal.nD Cert.RefMixProjIdeal.τ).loc Cert.RefMixProjIdeal.main_arg2)
          ∧ r.2.mem ((c.tc : Thread Cert.RefMixProjIdeal.nD Cert.RefMixProjIdeal.τ).loc Cert.RefMixProjIdeal.main_arg3) = m' ((c.tc : Thread Cert.RefMixProjIdeal.nD Cert.RefMixProjIdeal.τ).loc Cert.RefMixProjIdeal.main_arg3)
          ∧ r.2.mem ((c.tc : Thread Cert.RefMixProjIdeal.nD Cert.RefMixProjIdeal.τ).loc Cert.RefMixProjIdeal.main_arg4) = m' ((c.tc : Thread Cert.RefMixProjIdeal.nD Cert.RefMixProjIdeal.τ).loc Cert.RefMixProjIdeal.main_arg4)
          ∧ r.2.mem ((c.tc : Thread Cert.RefMixProjIdeal.nD Cert.RefMixProjIdeal.τ).loc Cert.RefMixProjIdeal.main_arg5) = m' ((c.tc : Thread Cert.RefMixProjIdeal.nD Cert.RefMixProjIdeal.τ).loc Cert.RefMixProjIdeal.main_arg5)
          ∧ r.2.mem ((c.tc : Thread Cert.RefMixProjIdeal.nD Cert.RefMixProjIdeal.τ).loc Cert.RefMixProjIdeal.main_arg6) = m' ((c.tc : Thread Cert.RefMixProjIdeal.nD Cert.RefMixProjIdeal.τ).loc Cert.RefMixProjIdeal.main_arg6))

def preserves_MixOut_MixOutIdeal : Prop :=
  True

def algebraic_MixOutIdeal_RefMixOutIdeal [hMixOutIdeal : Cert.MixOutIdeal.Facts] [hRefMixOutIdeal : Cert.RefMixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.RefMixOutIdeal.nD Cert.RefMixOutIdeal.τ Cert.RefMixOutIdeal.sig) → Buf (Elt Ideal) ℓ) (g' : Dev Cert.RefMixOutIdeal.nD → PrngReg), Pre_MixOutIdeal m →
    (∀ c : Dev Cert.MixOutIdeal.nD,
      m' ((c.tc : Thread Cert.RefMixOutIdeal.nD Cert.RefMixOutIdeal.τ).loc Cert.RefMixOutIdeal.main_arg0) = m ((c.tc : Thread Cert.MixOutIdeal.nD Cert.MixOutIdeal.τ).loc Cert.MixOutIdeal.main_arg0)
      ∧ m' ((c.tc : Thread Cert.RefMixOutIdeal.nD Cert.RefMixOutIdeal.τ).loc Cert.RefMixOutIdeal.main_arg1) = m ((c.tc : Thread Cert.MixOutIdeal.nD Cert.MixOutIdeal.τ).loc Cert.MixOutIdeal.main_arg1)
      ∧ m' ((c.tc : Thread Cert.RefMixOutIdeal.nD Cert.RefMixOutIdeal.τ).loc Cert.RefMixOutIdeal.main_arg2) = m ((c.tc : Thread Cert.MixOutIdeal.nD Cert.MixOutIdeal.τ).loc Cert.MixOutIdeal.main_arg2)
      ∧ m' ((c.tc : Thread Cert.RefMixOutIdeal.nD Cert.RefMixOutIdeal.τ).loc Cert.RefMixOutIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v1_0)) (v1 : (c : Dev Cert.MixOutIdeal.nD) → Buf (Elt Ideal) ((c.tc : Thread Cert.MixOutIdeal.nD Cert.MixOutIdeal.τ).loc Cert.MixOutIdeal.main_v1_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1_0) = v0 c
          ∧ r.2.mem ((c.tc : Thread Cert.MixOutIdeal.nD Cert.MixOutIdeal.τ).loc Cert.MixOutIdeal.main_v1_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.RefMixOutIdeal.defs (F := Ideal)) (onTc (τ := Cert.RefMixOutIdeal.τ) (Cert.RefMixOutIdeal.main (F := Ideal))) ⟨m', fun _ => 0, g'⟩ (fun r => ∀ c : Dev Cert.RefMixOutIdeal.nD,
          r.2.mem ((c.tc : Thread Cert.RefMixOutIdeal.nD Cert.RefMixOutIdeal.τ).loc Cert.RefMixOutIdeal.main_v2) = v0 c
          ∧ r.2.mem ((c.tc : Thread Cert.RefMixOutIdeal.nD Cert.RefMixOutIdeal.τ).loc Cert.RefMixOutIdeal.main_v16) = v1 c
          ∧ r.2.mem ((c.tc : Thread Cert.RefMixOutIdeal.nD Cert.RefMixOutIdeal.τ).loc Cert.RefMixOutIdeal.main_arg0) = m' ((c.tc : Thread Cert.RefMixOutIdeal.nD Cert.RefMixOutIdeal.τ).loc Cert.RefMixOutIdeal.main_arg0)
          ∧ r.2.mem ((c.tc : Thread Cert.RefMixOutIdeal.nD Cert.RefMixOutIdeal.τ).loc Cert.RefMixOutIdeal.main_arg1) = m' ((c.tc : Thread Cert.RefMixOutIdeal.nD Cert.RefMixOutIdeal.τ).loc Cert.RefMixOutIdeal.main_arg1)
          ∧ r.2.mem ((c.tc : Thread Cert.RefMixOutIdeal.nD Cert.RefMixOutIdeal.τ).loc Cert.RefMixOutIdeal.main_arg2) = m' ((c.tc : Thread Cert.RefMixOutIdeal.nD Cert.RefMixOutIdeal.τ).loc Cert.RefMixOutIdeal.main_arg2)
          ∧ r.2.mem ((c.tc : Thread Cert.RefMixOutIdeal.nD Cert.RefMixOutIdeal.τ).loc Cert.RefMixOutIdeal.main_arg3) = m' ((c.tc : Thread Cert.RefMixOutIdeal.nD Cert.RefMixOutIdeal.τ).loc Cert.RefMixOutIdeal.main_arg3))

def preserves_BackProj_BackProjIdeal : Prop :=
  True

def algebraic_BackProjIdeal_RefBackProjIdeal [hBackProjIdeal : Cert.BackProjIdeal.Facts] [hRefBackProjIdeal : Cert.RefBackProjIdeal.Facts] : Prop :=
  ∀ (m : (ℓ : Loc Cert.BackProjIdeal.nD Cert.BackProjIdeal.τ Cert.BackProjIdeal.sig) → Buf (Elt Ideal) ℓ) (g : Dev Cert.BackProjIdeal.nD → PrngReg)
    (m' : (ℓ : Loc Cert.RefBackProjIdeal.nD Cert.RefBackProjIdeal.τ Cert.RefBackProjIdeal.sig) → Buf (Elt Ideal) ℓ) (g' : Dev Cert.RefBackProjIdeal.nD → PrngReg), Pre_BackProjIdeal m →
    (∀ c : Dev Cert.BackProjIdeal.nD,
      m' ((c.tc : Thread Cert.RefBackProjIdeal.nD Cert.RefBackProjIdeal.τ).loc Cert.RefBackProjIdeal.main_arg0) = m ((c.tc : Thread Cert.BackProjIdeal.nD Cert.BackProjIdeal.τ).loc Cert.BackProjIdeal.main_arg0)
      ∧ m' ((c.tc : Thread Cert.RefBackProjIdeal.nD Cert.RefBackProjIdeal.τ).loc Cert.RefBackProjIdeal.main_arg1) = m ((c.tc : Thread Cert.BackProjIdeal.nD Cert.BackProjIdeal.τ).loc Cert.BackProjIdeal.main_arg1)
      ∧ m' ((c.tc : Thread Cert.RefBackProjIdeal.nD Cert.RefBackProjIdeal.τ).loc Cert.RefBackProjIdeal.main_arg2) = m ((c.tc : Thread Cert.BackProjIdeal.nD Cert.BackProjIdeal.τ).loc Cert.BackProjIdeal.main_arg2)
      ∧ m' ((c.tc : Thread Cert.RefBackProjIdeal.nD Cert.RefBackProjIdeal.τ).loc Cert.RefBackProjIdeal.main_arg3) = m ((c.tc : Thread Cert.BackProjIdeal.nD Cert.BackProjIdeal.τ).loc Cert.BackProjIdeal.main_arg3)
      ∧ m' ((c.tc : Thread Cert.RefBackProjIdeal.nD Cert.RefBackProjIdeal.τ).loc Cert.RefBackProjIdeal.main_arg4) = m ((c.tc : Thread Cert.BackProjIdeal.nD Cert.BackProjIdeal.τ).loc Cert.BackProjIdeal.main_arg4)
      ∧ m' ((c.tc : Thread Cert.RefBackProjIdeal.nD Cert.RefBackProjIdeal.τ).loc Cert.RefBackProjIdeal.main_arg5) = m ((c.tc : Thread Cert.BackProjIdeal.nD Cert.BackProjIdeal.τ).loc Cert.BackProjIdeal.main_arg5)) →
    ∃ (v0 : (c : Dev Cert.BackProjIdeal.nD) → Buf (Elt Ideal) ((c.tc : Thread Cert.BackProjIdeal.nD Cert.BackProjIdeal.τ).loc Cert.BackProjIdeal.main_v0_0)) (v1 : (c : Dev Cert.BackProjIdeal.nD) → Buf (Elt Ideal) ((c.tc : Thread Cert.BackProjIdeal.nD Cert.BackProjIdeal.τ).loc Cert.BackProjIdeal.main_v0_1)) (v2 : (c : Dev Cert.BackProjIdeal.nD) → Buf (Elt Ideal) ((c.tc : Thread Cert.BackProjIdeal.nD Cert.BackProjIdeal.τ).loc Cert.BackProjIdeal.main_v0_2)),
      θ_run (Cert.BackProjIdeal.defs (F := Ideal)) (onTc (τ := Cert.BackProjIdeal.τ) (Cert.BackProjIdeal.main (F := Ideal))) ⟨m, fun _ => 0, g⟩ (fun r => ∀ c : Dev Cert.BackProjIdeal.nD,
          r.2.mem ((c.tc : Thread Cert.BackProjIdeal.nD Cert.BackProjIdeal.τ).loc Cert.BackProjIdeal.main_v0_0) = v0 c
          ∧ r.2.mem ((c.tc : Thread Cert.BackProjIdeal.nD Cert.BackProjIdeal.τ).loc Cert.BackProjIdeal.main_v0_1) = v1 c
          ∧ r.2.mem ((c.tc : Thread Cert.BackProjIdeal.nD Cert.BackProjIdeal.τ).loc Cert.BackProjIdeal.main_v0_2) = v2 c
          ∧ r.2.mem ((c.tc : Thread Cert.BackProjIdeal.nD Cert.BackProjIdeal.τ).loc Cert.BackProjIdeal.main_arg0) = m ((c.tc : Thread Cert.BackProjIdeal.nD Cert.BackProjIdeal.τ).loc Cert.BackProjIdeal.main_arg0)
          ∧ r.2.mem ((c.tc : Thread Cert.BackProjIdeal.nD Cert.BackProjIdeal.τ).loc Cert.BackProjIdeal.main_arg1) = m ((c.tc : Thread Cert.BackProjIdeal.nD Cert.BackProjIdeal.τ).loc Cert.BackProjIdeal.main_arg1)
          ∧ r.2.mem ((c.tc : Thread Cert.BackProjIdeal.nD Cert.BackProjIdeal.τ).loc Cert.BackProjIdeal.main_arg2) = m ((c.tc : Thread Cert.BackProjIdeal.nD Cert.BackProjIdeal.τ).loc Cert.BackProjIdeal.main_arg2)
          ∧ r.2.mem ((c.tc : Thread Cert.BackProjIdeal.nD Cert.BackProjIdeal.τ).loc Cert.BackProjIdeal.main_arg3) = m ((c.tc : Thread Cert.BackProjIdeal.nD Cert.BackProjIdeal.τ).loc Cert.BackProjIdeal.main_arg3)
          ∧ r.2.mem ((c.tc : Thread Cert.BackProjIdeal.nD Cert.BackProjIdeal.τ).loc Cert.BackProjIdeal.main_arg4) = m ((c.tc : Thread Cert.BackProjIdeal.nD Cert.BackProjIdeal.τ).loc Cert.BackProjIdeal.main_arg4)
          ∧ r.2.mem ((c.tc : Thread Cert.BackProjIdeal.nD Cert.BackProjIdeal.τ).loc Cert.BackProjIdeal.main_arg5) = m ((c.tc : Thread Cert.BackProjIdeal.nD Cert.BackProjIdeal.τ).loc Cert.BackProjIdeal.main_arg5))
      ∧ θ_run (Cert.RefBackProjIdeal.defs (F := Ideal)) (onTc (τ := Cert.RefBackProjIdeal.τ) (Cert.RefBackProjIdeal.main (F := Ideal))) ⟨m', fun _ => 0, g'⟩ (fun r => ∀ c : Dev Cert.RefBackProjIdeal.nD,
          r.2.mem ((c.tc : Thread Cert.RefBackProjIdeal.nD Cert.RefBackProjIdeal.τ).loc Cert.RefBackProjIdeal.main_v14) = v0 c
          ∧ r.2.mem ((c.tc : Thread Cert.RefBackProjIdeal.nD Cert.RefBackProjIdeal.τ).loc Cert.RefBackProjIdeal.main_v13) = v1 c
          ∧ r.2.mem ((c.tc : Thread Cert.RefBackProjIdeal.nD Cert.RefBackProjIdeal.τ).loc Cert.RefBackProjIdeal.main_v12) = v2 c
          ∧ r.2.mem ((c.tc : Thread Cert.RefBackProjIdeal.nD Cert.RefBackProjIdeal.τ).loc Cert.RefBackProjIdeal.main_arg0) = m' ((c.tc : Thread Cert.RefBackProjIdeal.nD Cert.RefBackProjIdeal.τ).loc Cert.RefBackProjIdeal.main_arg0)
          ∧ r.2.mem ((c.tc : Thread Cert.RefBackProjIdeal.nD Cert.RefBackProjIdeal.τ).loc Cert.RefBackProjIdeal.main_arg1) = m' ((c.tc : Thread Cert.RefBackProjIdeal.nD Cert.RefBackProjIdeal.τ).loc Cert.RefBackProjIdeal.main_arg1)
          ∧ r.2.mem ((c.tc : Thread Cert.RefBackProjIdeal.nD Cert.RefBackProjIdeal.τ).loc Cert.RefBackProjIdeal.main_arg2) = m' ((c.tc : Thread Cert.RefBackProjIdeal.nD Cert.RefBackProjIdeal.τ).loc Cert.RefBackProjIdeal.main_arg2)
          ∧ r.2.mem ((c.tc : Thread Cert.RefBackProjIdeal.nD Cert.RefBackProjIdeal.τ).loc Cert.RefBackProjIdeal.main_arg3) = m' ((c.tc : Thread Cert.RefBackProjIdeal.nD Cert.RefBackProjIdeal.τ).loc Cert.RefBackProjIdeal.main_arg3)
          ∧ r.2.mem ((c.tc : Thread Cert.RefBackProjIdeal.nD Cert.RefBackProjIdeal.τ).loc Cert.RefBackProjIdeal.main_arg4) = m' ((c.tc : Thread Cert.RefBackProjIdeal.nD Cert.RefBackProjIdeal.τ).loc Cert.RefBackProjIdeal.main_arg4)
          ∧ r.2.mem ((c.tc : Thread Cert.RefBackProjIdeal.nD Cert.RefBackProjIdeal.τ).loc Cert.RefBackProjIdeal.main_arg5) = m' ((c.tc : Thread Cert.RefBackProjIdeal.nD Cert.RefBackProjIdeal.τ).loc Cert.RefBackProjIdeal.main_arg5))

def preserves_Pre_PreIdeal : Prop :=
  True

def algebraic_PreIdeal_RefPreIdeal_pre_finite_pre [hPreIdeal : Cert.PreIdeal.Facts] [hRefPreIdeal : Cert.RefPreIdeal.Facts] [hPre_finite_pre : Cert.Pre_finite_pre.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.RefPreIdeal.nD Cert.RefPreIdeal.τ Cert.RefPreIdeal.sig) → Buf (Elt Ideal) ℓ) (g' : Dev Cert.RefPreIdeal.nD → PrngReg), Pre_PreIdeal_finite_pre m →
    (∀ c : Dev Cert.PreIdeal.nD,
      m' ((c.tc : Thread Cert.RefPreIdeal.nD Cert.RefPreIdeal.τ).loc Cert.RefPreIdeal.main_arg0) = m ((c.tc : Thread Cert.PreIdeal.nD Cert.PreIdeal.τ).loc Cert.PreIdeal.main_arg0)
      ∧ m' ((c.tc : Thread Cert.RefPreIdeal.nD Cert.RefPreIdeal.τ).loc Cert.RefPreIdeal.main_arg1) = m ((c.tc : Thread Cert.PreIdeal.nD Cert.PreIdeal.τ).loc Cert.PreIdeal.main_arg1)
      ∧ m' ((c.tc : Thread Cert.RefPreIdeal.nD Cert.RefPreIdeal.τ).loc Cert.RefPreIdeal.main_arg2) = m ((c.tc : Thread Cert.PreIdeal.nD Cert.PreIdeal.τ).loc Cert.PreIdeal.main_arg2)
      ∧ m' ((c.tc : Thread Cert.RefPreIdeal.nD Cert.RefPreIdeal.τ).loc Cert.RefPreIdeal.main_arg3) = m ((c.tc : Thread Cert.PreIdeal.nD Cert.PreIdeal.τ).loc Cert.PreIdeal.main_arg3)
      ∧ m' ((c.tc : Thread Cert.RefPreIdeal.nD Cert.RefPreIdeal.τ).loc Cert.RefPreIdeal.main_arg4) = m ((c.tc : Thread Cert.PreIdeal.nD Cert.PreIdeal.τ).loc Cert.PreIdeal.main_arg4)
      ∧ m' ((c.tc : Thread Cert.RefPreIdeal.nD Cert.RefPreIdeal.τ).loc Cert.RefPreIdeal.main_arg5) = m ((c.tc : Thread Cert.PreIdeal.nD Cert.PreIdeal.τ).loc Cert.PreIdeal.main_arg5)
      ∧ m' ((c.tc : Thread Cert.RefPreIdeal.nD Cert.RefPreIdeal.τ).loc Cert.RefPreIdeal.main_arg6) = m ((c.tc : Thread Cert.PreIdeal.nD Cert.PreIdeal.τ).loc Cert.PreIdeal.main_arg6)) →
    ∃ (v0 : (c : Dev Cert.PreIdeal.nD) → Buf (Elt Ideal) ((c.tc : Thread Cert.PreIdeal.nD Cert.PreIdeal.τ).loc Cert.PreIdeal.main_v1_0)) (v1 : (c : Dev Cert.PreIdeal.nD) → Buf (Elt Ideal) ((c.tc : Thread Cert.PreIdeal.nD Cert.PreIdeal.τ).loc Cert.PreIdeal.main_v1_1)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v1_0) = v0 c
          ∧ r.2.mem ((c.tc : Thread Cert.PreIdeal.nD Cert.PreIdeal.τ).loc Cert.PreIdeal.main_v1_1) = v1 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6))
      ∧ θ_run (Cert.RefPreIdeal.defs (F := Ideal)) (onTc (τ := Cert.RefPreIdeal.τ) (Cert.RefPreIdeal.main (F := Ideal))) ⟨m', fun _ => 0, g'⟩ (fun r => ∀ c : Dev Cert.RefPreIdeal.nD,
          r.2.mem ((c.tc : Thread Cert.RefPreIdeal.nD Cert.RefPreIdeal.τ).loc Cert.RefPreIdeal.main_v44) = v0 c
          ∧ r.2.mem ((c.tc : Thread Cert.RefPreIdeal.nD Cert.RefPreIdeal.τ).loc Cert.RefPreIdeal.main_v27) = v1 c
          ∧ r.2.mem ((c.tc : Thread Cert.RefPreIdeal.nD Cert.RefPreIdeal.τ).loc Cert.RefPreIdeal.main_arg0) = m' ((c.tc : Thread Cert.RefPreIdeal.nD Cert.RefPreIdeal.τ).loc Cert.RefPreIdeal.main_arg0)
          ∧ r.2.mem ((c.tc : Thread Cert.RefPreIdeal.nD Cert.RefPreIdeal.τ).loc Cert.RefPreIdeal.main_arg1) = m' ((c.tc : Thread Cert.RefPreIdeal.nD Cert.RefPreIdeal.τ).loc Cert.RefPreIdeal.main_arg1)
          ∧ r.2.mem ((c.tc : Thread Cert.RefPreIdeal.nD Cert.RefPreIdeal.τ).loc Cert.RefPreIdeal.main_arg2) = m' ((c.tc : Thread Cert.RefPreIdeal.nD Cert.RefPreIdeal.τ).loc Cert.RefPreIdeal.main_arg2)
          ∧ r.2.mem ((c.tc : Thread Cert.RefPreIdeal.nD Cert.RefPreIdeal.τ).loc Cert.RefPreIdeal.main_arg3) = m' ((c.tc : Thread Cert.RefPreIdeal.nD Cert.RefPreIdeal.τ).loc Cert.RefPreIdeal.main_arg3)
          ∧ r.2.mem ((c.tc : Thread Cert.RefPreIdeal.nD Cert.RefPreIdeal.τ).loc Cert.RefPreIdeal.main_arg4) = m' ((c.tc : Thread Cert.RefPreIdeal.nD Cert.RefPreIdeal.τ).loc Cert.RefPreIdeal.main_arg4)
          ∧ r.2.mem ((c.tc : Thread Cert.RefPreIdeal.nD Cert.RefPreIdeal.τ).loc Cert.RefPreIdeal.main_arg5) = m' ((c.tc : Thread Cert.RefPreIdeal.nD Cert.RefPreIdeal.τ).loc Cert.RefPreIdeal.main_arg5)
          ∧ r.2.mem ((c.tc : Thread Cert.RefPreIdeal.nD Cert.RefPreIdeal.τ).loc Cert.RefPreIdeal.main_arg6) = m' ((c.tc : Thread Cert.RefPreIdeal.nD Cert.RefPreIdeal.τ).loc Cert.RefPreIdeal.main_arg6))

def preserves_BackIn_BackInIdeal : Prop :=
  True

def algebraic_BackInIdeal_RefBackInIdeal_pre_finite_backin [hBackInIdeal : Cert.BackInIdeal.Facts] [hRefBackInIdeal : Cert.RefBackInIdeal.Facts] [hPre_finite_backin : Cert.Pre_finite_backin.Facts] : Prop :=
  ∀ (m : (ℓ : Loc Cert.BackInIdeal.nD Cert.BackInIdeal.τ Cert.BackInIdeal.sig) → Buf (Elt Ideal) ℓ) (g : Dev Cert.BackInIdeal.nD → PrngReg)
    (m' : (ℓ : Loc Cert.RefBackInIdeal.nD Cert.RefBackInIdeal.τ Cert.RefBackInIdeal.sig) → Buf (Elt Ideal) ℓ) (g' : Dev Cert.RefBackInIdeal.nD → PrngReg), Pre_BackInIdeal_finite_backin m →
    (∀ c : Dev Cert.BackInIdeal.nD,
      m' ((c.tc : Thread Cert.RefBackInIdeal.nD Cert.RefBackInIdeal.τ).loc Cert.RefBackInIdeal.main_arg0) = m ((c.tc : Thread Cert.BackInIdeal.nD Cert.BackInIdeal.τ).loc Cert.BackInIdeal.main_arg0)
      ∧ m' ((c.tc : Thread Cert.RefBackInIdeal.nD Cert.RefBackInIdeal.τ).loc Cert.RefBackInIdeal.main_arg1) = m ((c.tc : Thread Cert.BackInIdeal.nD Cert.BackInIdeal.τ).loc Cert.BackInIdeal.main_arg1)
      ∧ m' ((c.tc : Thread Cert.RefBackInIdeal.nD Cert.RefBackInIdeal.τ).loc Cert.RefBackInIdeal.main_arg2) = m ((c.tc : Thread Cert.BackInIdeal.nD Cert.BackInIdeal.τ).loc Cert.BackInIdeal.main_arg2)
      ∧ m' ((c.tc : Thread Cert.RefBackInIdeal.nD Cert.RefBackInIdeal.τ).loc Cert.RefBackInIdeal.main_arg3) = m ((c.tc : Thread Cert.BackInIdeal.nD Cert.BackInIdeal.τ).loc Cert.BackInIdeal.main_arg3)
      ∧ m' ((c.tc : Thread Cert.RefBackInIdeal.nD Cert.RefBackInIdeal.τ).loc Cert.RefBackInIdeal.main_arg4) = m ((c.tc : Thread Cert.BackInIdeal.nD Cert.BackInIdeal.τ).loc Cert.BackInIdeal.main_arg4)
      ∧ m' ((c.tc : Thread Cert.RefBackInIdeal.nD Cert.RefBackInIdeal.τ).loc Cert.RefBackInIdeal.main_arg5) = m ((c.tc : Thread Cert.BackInIdeal.nD Cert.BackInIdeal.τ).loc Cert.BackInIdeal.main_arg5)
      ∧ m' ((c.tc : Thread Cert.RefBackInIdeal.nD Cert.RefBackInIdeal.τ).loc Cert.RefBackInIdeal.main_arg6) = m ((c.tc : Thread Cert.BackInIdeal.nD Cert.BackInIdeal.τ).loc Cert.BackInIdeal.main_arg6)
      ∧ m' ((c.tc : Thread Cert.RefBackInIdeal.nD Cert.RefBackInIdeal.τ).loc Cert.RefBackInIdeal.main_arg7) = m ((c.tc : Thread Cert.BackInIdeal.nD Cert.BackInIdeal.τ).loc Cert.BackInIdeal.main_arg7)) →
    ∃ (v0 : (c : Dev Cert.BackInIdeal.nD) → Buf (Elt Ideal) ((c.tc : Thread Cert.BackInIdeal.nD Cert.BackInIdeal.τ).loc Cert.BackInIdeal.main_v5_0)) (v1 : (c : Dev Cert.BackInIdeal.nD) → Buf (Elt Ideal) ((c.tc : Thread Cert.BackInIdeal.nD Cert.BackInIdeal.τ).loc Cert.BackInIdeal.main_v5_1)),
      θ_run (Cert.BackInIdeal.defs (F := Ideal)) (onTc (τ := Cert.BackInIdeal.τ) (Cert.BackInIdeal.main (F := Ideal))) ⟨m, fun _ => 0, g⟩ (fun r => ∀ c : Dev Cert.BackInIdeal.nD,
          r.2.mem ((c.tc : Thread Cert.BackInIdeal.nD Cert.BackInIdeal.τ).loc Cert.BackInIdeal.main_v5_0) = v0 c
          ∧ r.2.mem ((c.tc : Thread Cert.BackInIdeal.nD Cert.BackInIdeal.τ).loc Cert.BackInIdeal.main_v5_1) = v1 c
          ∧ r.2.mem ((c.tc : Thread Cert.BackInIdeal.nD Cert.BackInIdeal.τ).loc Cert.BackInIdeal.main_arg0) = m ((c.tc : Thread Cert.BackInIdeal.nD Cert.BackInIdeal.τ).loc Cert.BackInIdeal.main_arg0)
          ∧ r.2.mem ((c.tc : Thread Cert.BackInIdeal.nD Cert.BackInIdeal.τ).loc Cert.BackInIdeal.main_arg1) = m ((c.tc : Thread Cert.BackInIdeal.nD Cert.BackInIdeal.τ).loc Cert.BackInIdeal.main_arg1)
          ∧ r.2.mem ((c.tc : Thread Cert.BackInIdeal.nD Cert.BackInIdeal.τ).loc Cert.BackInIdeal.main_arg2) = m ((c.tc : Thread Cert.BackInIdeal.nD Cert.BackInIdeal.τ).loc Cert.BackInIdeal.main_arg2)
          ∧ r.2.mem ((c.tc : Thread Cert.BackInIdeal.nD Cert.BackInIdeal.τ).loc Cert.BackInIdeal.main_arg3) = m ((c.tc : Thread Cert.BackInIdeal.nD Cert.BackInIdeal.τ).loc Cert.BackInIdeal.main_arg3)
          ∧ r.2.mem ((c.tc : Thread Cert.BackInIdeal.nD Cert.BackInIdeal.τ).loc Cert.BackInIdeal.main_arg4) = m ((c.tc : Thread Cert.BackInIdeal.nD Cert.BackInIdeal.τ).loc Cert.BackInIdeal.main_arg4)
          ∧ r.2.mem ((c.tc : Thread Cert.BackInIdeal.nD Cert.BackInIdeal.τ).loc Cert.BackInIdeal.main_arg5) = m ((c.tc : Thread Cert.BackInIdeal.nD Cert.BackInIdeal.τ).loc Cert.BackInIdeal.main_arg5)
          ∧ r.2.mem ((c.tc : Thread Cert.BackInIdeal.nD Cert.BackInIdeal.τ).loc Cert.BackInIdeal.main_arg6) = m ((c.tc : Thread Cert.BackInIdeal.nD Cert.BackInIdeal.τ).loc Cert.BackInIdeal.main_arg6)
          ∧ r.2.mem ((c.tc : Thread Cert.BackInIdeal.nD Cert.BackInIdeal.τ).loc Cert.BackInIdeal.main_arg7) = m ((c.tc : Thread Cert.BackInIdeal.nD Cert.BackInIdeal.τ).loc Cert.BackInIdeal.main_arg7))
      ∧ θ_run (Cert.RefBackInIdeal.defs (F := Ideal)) (onTc (τ := Cert.RefBackInIdeal.τ) (Cert.RefBackInIdeal.main (F := Ideal))) ⟨m', fun _ => 0, g'⟩ (fun r => ∀ c : Dev Cert.RefBackInIdeal.nD,
          r.2.mem ((c.tc : Thread Cert.RefBackInIdeal.nD Cert.RefBackInIdeal.τ).loc Cert.RefBackInIdeal.main_v43) = v0 c
          ∧ r.2.mem ((c.tc : Thread Cert.RefBackInIdeal.nD Cert.RefBackInIdeal.τ).loc Cert.RefBackInIdeal.main_v26) = v1 c
          ∧ r.2.mem ((c.tc : Thread Cert.RefBackInIdeal.nD Cert.RefBackInIdeal.τ).loc Cert.RefBackInIdeal.main_arg0) = m' ((c.tc : Thread Cert.RefBackInIdeal.nD Cert.RefBackInIdeal.τ).loc Cert.RefBackInIdeal.main_arg0)
          ∧ r.2.mem ((c.tc : Thread Cert.RefBackInIdeal.nD Cert.RefBackInIdeal.τ).loc Cert.RefBackInIdeal.main_arg1) = m' ((c.tc : Thread Cert.RefBackInIdeal.nD Cert.RefBackInIdeal.τ).loc Cert.RefBackInIdeal.main_arg1)
          ∧ r.2.mem ((c.tc : Thread Cert.RefBackInIdeal.nD Cert.RefBackInIdeal.τ).loc Cert.RefBackInIdeal.main_arg2) = m' ((c.tc : Thread Cert.RefBackInIdeal.nD Cert.RefBackInIdeal.τ).loc Cert.RefBackInIdeal.main_arg2)
          ∧ r.2.mem ((c.tc : Thread Cert.RefBackInIdeal.nD Cert.RefBackInIdeal.τ).loc Cert.RefBackInIdeal.main_arg3) = m' ((c.tc : Thread Cert.RefBackInIdeal.nD Cert.RefBackInIdeal.τ).loc Cert.RefBackInIdeal.main_arg3)
          ∧ r.2.mem ((c.tc : Thread Cert.RefBackInIdeal.nD Cert.RefBackInIdeal.τ).loc Cert.RefBackInIdeal.main_arg4) = m' ((c.tc : Thread Cert.RefBackInIdeal.nD Cert.RefBackInIdeal.τ).loc Cert.RefBackInIdeal.main_arg4)
          ∧ r.2.mem ((c.tc : Thread Cert.RefBackInIdeal.nD Cert.RefBackInIdeal.τ).loc Cert.RefBackInIdeal.main_arg5) = m' ((c.tc : Thread Cert.RefBackInIdeal.nD Cert.RefBackInIdeal.τ).loc Cert.RefBackInIdeal.main_arg5)
          ∧ r.2.mem ((c.tc : Thread Cert.RefBackInIdeal.nD Cert.RefBackInIdeal.τ).loc Cert.RefBackInIdeal.main_arg6) = m' ((c.tc : Thread Cert.RefBackInIdeal.nD Cert.RefBackInIdeal.τ).loc Cert.RefBackInIdeal.main_arg6)
          ∧ r.2.mem ((c.tc : Thread Cert.RefBackInIdeal.nD Cert.RefBackInIdeal.τ).loc Cert.RefBackInIdeal.main_arg7) = m' ((c.tc : Thread Cert.RefBackInIdeal.nD Cert.RefBackInIdeal.τ).loc Cert.RefBackInIdeal.main_arg7))

def preserves_Post_PostIdeal : Prop :=
  True

def algebraic_PostIdeal_RefPostIdeal_pre_finite_post [hPostIdeal : Cert.PostIdeal.Facts] [hRefPostIdeal : Cert.RefPostIdeal.Facts] [hPre_finite_post : Cert.Pre_finite_post.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.RefPostIdeal.nD Cert.RefPostIdeal.τ Cert.RefPostIdeal.sig) → Buf (Elt Ideal) ℓ) (g' : Dev Cert.RefPostIdeal.nD → PrngReg), Pre_PostIdeal_finite_post m →
    (∀ c : Dev Cert.PostIdeal.nD,
      m' ((c.tc : Thread Cert.RefPostIdeal.nD Cert.RefPostIdeal.τ).loc Cert.RefPostIdeal.main_arg0) = m ((c.tc : Thread Cert.PostIdeal.nD Cert.PostIdeal.τ).loc Cert.PostIdeal.main_arg0)
      ∧ m' ((c.tc : Thread Cert.RefPostIdeal.nD Cert.RefPostIdeal.τ).loc Cert.RefPostIdeal.main_arg1) = m ((c.tc : Thread Cert.PostIdeal.nD Cert.PostIdeal.τ).loc Cert.PostIdeal.main_arg1)
      ∧ m' ((c.tc : Thread Cert.RefPostIdeal.nD Cert.RefPostIdeal.τ).loc Cert.RefPostIdeal.main_arg2) = m ((c.tc : Thread Cert.PostIdeal.nD Cert.PostIdeal.τ).loc Cert.PostIdeal.main_arg2)
      ∧ m' ((c.tc : Thread Cert.RefPostIdeal.nD Cert.RefPostIdeal.τ).loc Cert.RefPostIdeal.main_arg3) = m ((c.tc : Thread Cert.PostIdeal.nD Cert.PostIdeal.τ).loc Cert.PostIdeal.main_arg3)
      ∧ m' ((c.tc : Thread Cert.RefPostIdeal.nD Cert.RefPostIdeal.τ).loc Cert.RefPostIdeal.main_arg4) = m ((c.tc : Thread Cert.PostIdeal.nD Cert.PostIdeal.τ).loc Cert.PostIdeal.main_arg4)) →
    ∃ (v0 : (c : Dev Cert.PostIdeal.nD) → Buf (Elt Ideal) ((c.tc : Thread Cert.PostIdeal.nD Cert.PostIdeal.τ).loc Cert.PostIdeal.main_v7_0)) (v1 : (c : Dev Cert.PostIdeal.nD) → Buf (Elt Ideal) ((c.tc : Thread Cert.PostIdeal.nD Cert.PostIdeal.τ).loc Cert.PostIdeal.main_v7_1)) (v2 : (c : Dev Cert.PostIdeal.nD) → Buf (Elt Ideal) ((c.tc : Thread Cert.PostIdeal.nD Cert.PostIdeal.τ).loc Cert.PostIdeal.main_v7_2)) (v3 : (c : Dev Cert.PostIdeal.nD) → Buf (Elt Ideal) ((c.tc : Thread Cert.PostIdeal.nD Cert.PostIdeal.τ).loc Cert.PostIdeal.main_v7_3)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v7_0) = v0 c
          ∧ r.2.mem ((c.tc : Thread Cert.PostIdeal.nD Cert.PostIdeal.τ).loc Cert.PostIdeal.main_v7_1) = v1 c
          ∧ r.2.mem ((c.tc : Thread Cert.PostIdeal.nD Cert.PostIdeal.τ).loc Cert.PostIdeal.main_v7_2) = v2 c
          ∧ r.2.mem ((c.tc : Thread Cert.PostIdeal.nD Cert.PostIdeal.τ).loc Cert.PostIdeal.main_v7_3) = v3 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4))
      ∧ θ_run (Cert.RefPostIdeal.defs (F := Ideal)) (onTc (τ := Cert.RefPostIdeal.τ) (Cert.RefPostIdeal.main (F := Ideal))) ⟨m', fun _ => 0, g'⟩ (fun r => ∀ c : Dev Cert.RefPostIdeal.nD,
          r.2.mem ((c.tc : Thread Cert.RefPostIdeal.nD Cert.RefPostIdeal.τ).loc Cert.RefPostIdeal.main_v49) = v0 c
          ∧ r.2.mem ((c.tc : Thread Cert.RefPostIdeal.nD Cert.RefPostIdeal.τ).loc Cert.RefPostIdeal.main_v50) = v1 c
          ∧ r.2.mem ((c.tc : Thread Cert.RefPostIdeal.nD Cert.RefPostIdeal.τ).loc Cert.RefPostIdeal.main_v51) = v2 c
          ∧ r.2.mem ((c.tc : Thread Cert.RefPostIdeal.nD Cert.RefPostIdeal.τ).loc Cert.RefPostIdeal.main_v28) = v3 c
          ∧ r.2.mem ((c.tc : Thread Cert.RefPostIdeal.nD Cert.RefPostIdeal.τ).loc Cert.RefPostIdeal.main_arg0) = m' ((c.tc : Thread Cert.RefPostIdeal.nD Cert.RefPostIdeal.τ).loc Cert.RefPostIdeal.main_arg0)
          ∧ r.2.mem ((c.tc : Thread Cert.RefPostIdeal.nD Cert.RefPostIdeal.τ).loc Cert.RefPostIdeal.main_arg1) = m' ((c.tc : Thread Cert.RefPostIdeal.nD Cert.RefPostIdeal.τ).loc Cert.RefPostIdeal.main_arg1)
          ∧ r.2.mem ((c.tc : Thread Cert.RefPostIdeal.nD Cert.RefPostIdeal.τ).loc Cert.RefPostIdeal.main_arg2) = m' ((c.tc : Thread Cert.RefPostIdeal.nD Cert.RefPostIdeal.τ).loc Cert.RefPostIdeal.main_arg2)
          ∧ r.2.mem ((c.tc : Thread Cert.RefPostIdeal.nD Cert.RefPostIdeal.τ).loc Cert.RefPostIdeal.main_arg3) = m' ((c.tc : Thread Cert.RefPostIdeal.nD Cert.RefPostIdeal.τ).loc Cert.RefPostIdeal.main_arg3)
          ∧ r.2.mem ((c.tc : Thread Cert.RefPostIdeal.nD Cert.RefPostIdeal.τ).loc Cert.RefPostIdeal.main_arg4) = m' ((c.tc : Thread Cert.RefPostIdeal.nD Cert.RefPostIdeal.τ).loc Cert.RefPostIdeal.main_arg4))

def preserves_MixBack_MixBackIdeal : Prop :=
  True

def algebraic_MixBackIdeal_RefMixBackIdeal_pre_finite_mixback [hMixBackIdeal : Cert.MixBackIdeal.Facts] [hRefMixBackIdeal : Cert.RefMixBackIdeal.Facts] [hPre_finite_mixback : Cert.Pre_finite_mixback.Facts] : Prop :=
  ∀ (m : (ℓ : Loc Cert.MixBackIdeal.nD Cert.MixBackIdeal.τ Cert.MixBackIdeal.sig) → Buf (Elt Ideal) ℓ) (g : Dev Cert.MixBackIdeal.nD → PrngReg)
    (m' : (ℓ : Loc Cert.RefMixBackIdeal.nD Cert.RefMixBackIdeal.τ Cert.RefMixBackIdeal.sig) → Buf (Elt Ideal) ℓ) (g' : Dev Cert.RefMixBackIdeal.nD → PrngReg), Pre_MixBackIdeal_finite_mixback m →
    (∀ c : Dev Cert.MixBackIdeal.nD,
      m' ((c.tc : Thread Cert.RefMixBackIdeal.nD Cert.RefMixBackIdeal.τ).loc Cert.RefMixBackIdeal.main_arg0) = m ((c.tc : Thread Cert.MixBackIdeal.nD Cert.MixBackIdeal.τ).loc Cert.MixBackIdeal.main_arg0)
      ∧ m' ((c.tc : Thread Cert.RefMixBackIdeal.nD Cert.RefMixBackIdeal.τ).loc Cert.RefMixBackIdeal.main_arg1) = m ((c.tc : Thread Cert.MixBackIdeal.nD Cert.MixBackIdeal.τ).loc Cert.MixBackIdeal.main_arg1)
      ∧ m' ((c.tc : Thread Cert.RefMixBackIdeal.nD Cert.RefMixBackIdeal.τ).loc Cert.RefMixBackIdeal.main_arg2) = m ((c.tc : Thread Cert.MixBackIdeal.nD Cert.MixBackIdeal.τ).loc Cert.MixBackIdeal.main_arg2)
      ∧ m' ((c.tc : Thread Cert.RefMixBackIdeal.nD Cert.RefMixBackIdeal.τ).loc Cert.RefMixBackIdeal.main_arg3) = m ((c.tc : Thread Cert.MixBackIdeal.nD Cert.MixBackIdeal.τ).loc Cert.MixBackIdeal.main_arg3)
      ∧ m' ((c.tc : Thread Cert.RefMixBackIdeal.nD Cert.RefMixBackIdeal.τ).loc Cert.RefMixBackIdeal.main_arg4) = m ((c.tc : Thread Cert.MixBackIdeal.nD Cert.MixBackIdeal.τ).loc Cert.MixBackIdeal.main_arg4)
      ∧ m' ((c.tc : Thread Cert.RefMixBackIdeal.nD Cert.RefMixBackIdeal.τ).loc Cert.RefMixBackIdeal.main_arg5) = m ((c.tc : Thread Cert.MixBackIdeal.nD Cert.MixBackIdeal.τ).loc Cert.MixBackIdeal.main_arg5)
      ∧ m' ((c.tc : Thread Cert.RefMixBackIdeal.nD Cert.RefMixBackIdeal.τ).loc Cert.RefMixBackIdeal.main_arg6) = m ((c.tc : Thread Cert.MixBackIdeal.nD Cert.MixBackIdeal.τ).loc Cert.MixBackIdeal.main_arg6)
      ∧ m' ((c.tc : Thread Cert.RefMixBackIdeal.nD Cert.RefMixBackIdeal.τ).loc Cert.RefMixBackIdeal.main_arg7) = m ((c.tc : Thread Cert.MixBackIdeal.nD Cert.MixBackIdeal.τ).loc Cert.MixBackIdeal.main_arg7)) →
    ∃ (v0 : (c : Dev Cert.MixBackIdeal.nD) → Buf (Elt Ideal) ((c.tc : Thread Cert.MixBackIdeal.nD Cert.MixBackIdeal.τ).loc Cert.MixBackIdeal.main_v1_0)) (v1 : (c : Dev Cert.MixBackIdeal.nD) → Buf (Elt Ideal) ((c.tc : Thread Cert.MixBackIdeal.nD Cert.MixBackIdeal.τ).loc Cert.MixBackIdeal.main_v1_1)) (v2 : (c : Dev Cert.MixBackIdeal.nD) → Buf (Elt Ideal) ((c.tc : Thread Cert.MixBackIdeal.nD Cert.MixBackIdeal.τ).loc Cert.MixBackIdeal.main_v1_2)) (v3 : (c : Dev Cert.MixBackIdeal.nD) → Buf (Elt Ideal) ((c.tc : Thread Cert.MixBackIdeal.nD Cert.MixBackIdeal.τ).loc Cert.MixBackIdeal.main_v1_3)) (v4 : (c : Dev Cert.MixBackIdeal.nD) → Buf (Elt Ideal) ((c.tc : Thread Cert.MixBackIdeal.nD Cert.MixBackIdeal.τ).loc Cert.MixBackIdeal.main_v1_4)) (v5 : (c : Dev Cert.MixBackIdeal.nD) → Buf (Elt Ideal) ((c.tc : Thread Cert.MixBackIdeal.nD Cert.MixBackIdeal.τ).loc Cert.MixBackIdeal.main_v1_5)),
      θ_run (Cert.MixBackIdeal.defs (F := Ideal)) (onTc (τ := Cert.MixBackIdeal.τ) (Cert.MixBackIdeal.main (F := Ideal))) ⟨m, fun _ => 0, g⟩ (fun r => ∀ c : Dev Cert.MixBackIdeal.nD,
          r.2.mem ((c.tc : Thread Cert.MixBackIdeal.nD Cert.MixBackIdeal.τ).loc Cert.MixBackIdeal.main_v1_0) = v0 c
          ∧ r.2.mem ((c.tc : Thread Cert.MixBackIdeal.nD Cert.MixBackIdeal.τ).loc Cert.MixBackIdeal.main_v1_1) = v1 c
          ∧ r.2.mem ((c.tc : Thread Cert.MixBackIdeal.nD Cert.MixBackIdeal.τ).loc Cert.MixBackIdeal.main_v1_2) = v2 c
          ∧ r.2.mem ((c.tc : Thread Cert.MixBackIdeal.nD Cert.MixBackIdeal.τ).loc Cert.MixBackIdeal.main_v1_3) = v3 c
          ∧ r.2.mem ((c.tc : Thread Cert.MixBackIdeal.nD Cert.MixBackIdeal.τ).loc Cert.MixBackIdeal.main_v1_4) = v4 c
          ∧ r.2.mem ((c.tc : Thread Cert.MixBackIdeal.nD Cert.MixBackIdeal.τ).loc Cert.MixBackIdeal.main_v1_5) = v5 c
          ∧ r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
          ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
          ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
          ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
          ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
          ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5)
          ∧ r.2.mem ((c.tc : Thread Cert.MixBackIdeal.nD Cert.MixBackIdeal.τ).loc Cert.MixBackIdeal.main_arg6) = m ((c.tc : Thread Cert.MixBackIdeal.nD Cert.MixBackIdeal.τ).loc Cert.MixBackIdeal.main_arg6)
          ∧ r.2.mem ((c.tc : Thread Cert.MixBackIdeal.nD Cert.MixBackIdeal.τ).loc Cert.MixBackIdeal.main_arg7) = m ((c.tc : Thread Cert.MixBackIdeal.nD Cert.MixBackIdeal.τ).loc Cert.MixBackIdeal.main_arg7))
      ∧ θ_run (Cert.RefMixBackIdeal.defs (F := Ideal)) (onTc (τ := Cert.RefMixBackIdeal.τ) (Cert.RefMixBackIdeal.main (F := Ideal))) ⟨m', fun _ => 0, g'⟩ (fun r => ∀ c : Dev Cert.RefMixBackIdeal.nD,
          r.2.mem ((c.tc : Thread Cert.RefMixBackIdeal.nD Cert.RefMixBackIdeal.τ).loc Cert.RefMixBackIdeal.main_v79) = v0 c
          ∧ r.2.mem ((c.tc : Thread Cert.RefMixBackIdeal.nD Cert.RefMixBackIdeal.τ).loc Cert.RefMixBackIdeal.main_v80) = v1 c
          ∧ r.2.mem ((c.tc : Thread Cert.RefMixBackIdeal.nD Cert.RefMixBackIdeal.τ).loc Cert.RefMixBackIdeal.main_v81) = v2 c
          ∧ r.2.mem ((c.tc : Thread Cert.RefMixBackIdeal.nD Cert.RefMixBackIdeal.τ).loc Cert.RefMixBackIdeal.main_v82) = v3 c
          ∧ r.2.mem ((c.tc : Thread Cert.RefMixBackIdeal.nD Cert.RefMixBackIdeal.τ).loc Cert.RefMixBackIdeal.main_v83) = v4 c
          ∧ r.2.mem ((c.tc : Thread Cert.RefMixBackIdeal.nD Cert.RefMixBackIdeal.τ).loc Cert.RefMixBackIdeal.main_v23) = v5 c
          ∧ r.2.mem ((c.tc : Thread Cert.RefMixBackIdeal.nD Cert.RefMixBackIdeal.τ).loc Cert.RefMixBackIdeal.main_arg0) = m' ((c.tc : Thread Cert.RefMixBackIdeal.nD Cert.RefMixBackIdeal.τ).loc Cert.RefMixBackIdeal.main_arg0)
          ∧ r.2.mem ((c.tc : Thread Cert.RefMixBackIdeal.nD Cert.RefMixBackIdeal.τ).loc Cert.RefMixBackIdeal.main_arg1) = m' ((c.tc : Thread Cert.RefMixBackIdeal.nD Cert.RefMixBackIdeal.τ).loc Cert.RefMixBackIdeal.main_arg1)
          ∧ r.2.mem ((c.tc : Thread Cert.RefMixBackIdeal.nD Cert.RefMixBackIdeal.τ).loc Cert.RefMixBackIdeal.main_arg2) = m' ((c.tc : Thread Cert.RefMixBackIdeal.nD Cert.RefMixBackIdeal.τ).loc Cert.RefMixBackIdeal.main_arg2)
          ∧ r.2.mem ((c.tc : Thread Cert.RefMixBackIdeal.nD Cert.RefMixBackIdeal.τ).loc Cert.RefMixBackIdeal.main_arg3) = m' ((c.tc : Thread Cert.RefMixBackIdeal.nD Cert.RefMixBackIdeal.τ).loc Cert.RefMixBackIdeal.main_arg3)
          ∧ r.2.mem ((c.tc : Thread Cert.RefMixBackIdeal.nD Cert.RefMixBackIdeal.τ).loc Cert.RefMixBackIdeal.main_arg4) = m' ((c.tc : Thread Cert.RefMixBackIdeal.nD Cert.RefMixBackIdeal.τ).loc Cert.RefMixBackIdeal.main_arg4)
          ∧ r.2.mem ((c.tc : Thread Cert.RefMixBackIdeal.nD Cert.RefMixBackIdeal.τ).loc Cert.RefMixBackIdeal.main_arg5) = m' ((c.tc : Thread Cert.RefMixBackIdeal.nD Cert.RefMixBackIdeal.τ).loc Cert.RefMixBackIdeal.main_arg5)
          ∧ r.2.mem ((c.tc : Thread Cert.RefMixBackIdeal.nD Cert.RefMixBackIdeal.τ).loc Cert.RefMixBackIdeal.main_arg6) = m' ((c.tc : Thread Cert.RefMixBackIdeal.nD Cert.RefMixBackIdeal.τ).loc Cert.RefMixBackIdeal.main_arg6)
          ∧ r.2.mem ((c.tc : Thread Cert.RefMixBackIdeal.nD Cert.RefMixBackIdeal.τ).loc Cert.RefMixBackIdeal.main_arg7) = m' ((c.tc : Thread Cert.RefMixBackIdeal.nD Cert.RefMixBackIdeal.τ).loc Cert.RefMixBackIdeal.main_arg7))

def preserves_UpdUp_UpdUpIdeal : Prop :=
  True

def algebraic_UpdUpIdeal_RefUpdUpIdeal [hUpdUpIdeal : Cert.UpdUpIdeal.Facts] [hRefUpdUpIdeal : Cert.RefUpdUpIdeal.Facts] : Prop :=
  ∀ (m : (ℓ : Loc Cert.UpdUpIdeal.nD Cert.UpdUpIdeal.τ Cert.UpdUpIdeal.sig) → Buf (Elt Ideal) ℓ) (g : Dev Cert.UpdUpIdeal.nD → PrngReg)
    (m' : (ℓ : Loc Cert.RefUpdUpIdeal.nD Cert.RefUpdUpIdeal.τ Cert.RefUpdUpIdeal.sig) → Buf (Elt Ideal) ℓ) (g' : Dev Cert.RefUpdUpIdeal.nD → PrngReg), Pre_UpdUpIdeal m →
    (∀ c : Dev Cert.UpdUpIdeal.nD,
      m' ((c.tc : Thread Cert.RefUpdUpIdeal.nD Cert.RefUpdUpIdeal.τ).loc Cert.RefUpdUpIdeal.main_arg0) = m ((c.tc : Thread Cert.UpdUpIdeal.nD Cert.UpdUpIdeal.τ).loc Cert.UpdUpIdeal.main_arg0)
      ∧ m' ((c.tc : Thread Cert.RefUpdUpIdeal.nD Cert.RefUpdUpIdeal.τ).loc Cert.RefUpdUpIdeal.main_arg1) = m ((c.tc : Thread Cert.UpdUpIdeal.nD Cert.UpdUpIdeal.τ).loc Cert.UpdUpIdeal.main_arg1)
      ∧ m' ((c.tc : Thread Cert.RefUpdUpIdeal.nD Cert.RefUpdUpIdeal.τ).loc Cert.RefUpdUpIdeal.main_arg2) = m ((c.tc : Thread Cert.UpdUpIdeal.nD Cert.UpdUpIdeal.τ).loc Cert.UpdUpIdeal.main_arg2)
      ∧ m' ((c.tc : Thread Cert.RefUpdUpIdeal.nD Cert.RefUpdUpIdeal.τ).loc Cert.RefUpdUpIdeal.main_arg3) = m ((c.tc : Thread Cert.UpdUpIdeal.nD Cert.UpdUpIdeal.τ).loc Cert.UpdUpIdeal.main_arg3)) →
    ∃ (v0 : (c : Dev Cert.UpdUpIdeal.nD) → Buf (Elt Ideal) ((c.tc : Thread Cert.UpdUpIdeal.nD Cert.UpdUpIdeal.τ).loc Cert.UpdUpIdeal.main_v4_0)) (v1 : (c : Dev Cert.UpdUpIdeal.nD) → Buf (Elt Ideal) ((c.tc : Thread Cert.UpdUpIdeal.nD Cert.UpdUpIdeal.τ).loc Cert.UpdUpIdeal.main_v4_1)) (v2 : (c : Dev Cert.UpdUpIdeal.nD) → Buf (Elt Ideal) ((c.tc : Thread Cert.UpdUpIdeal.nD Cert.UpdUpIdeal.τ).loc Cert.UpdUpIdeal.main_v4_2)),
      θ_run (Cert.UpdUpIdeal.defs (F := Ideal)) (onTc (τ := Cert.UpdUpIdeal.τ) (Cert.UpdUpIdeal.main (F := Ideal))) ⟨m, fun _ => 0, g⟩ (fun r => ∀ c : Dev Cert.UpdUpIdeal.nD,
          r.2.mem ((c.tc : Thread Cert.UpdUpIdeal.nD Cert.UpdUpIdeal.τ).loc Cert.UpdUpIdeal.main_v4_0) = v0 c
          ∧ r.2.mem ((c.tc : Thread Cert.UpdUpIdeal.nD Cert.UpdUpIdeal.τ).loc Cert.UpdUpIdeal.main_v4_1) = v1 c
          ∧ r.2.mem ((c.tc : Thread Cert.UpdUpIdeal.nD Cert.UpdUpIdeal.τ).loc Cert.UpdUpIdeal.main_v4_2) = v2 c
          ∧ r.2.mem ((c.tc : Thread Cert.UpdUpIdeal.nD Cert.UpdUpIdeal.τ).loc Cert.UpdUpIdeal.main_arg0) = m ((c.tc : Thread Cert.UpdUpIdeal.nD Cert.UpdUpIdeal.τ).loc Cert.UpdUpIdeal.main_arg0)
          ∧ r.2.mem ((c.tc : Thread Cert.UpdUpIdeal.nD Cert.UpdUpIdeal.τ).loc Cert.UpdUpIdeal.main_arg1) = m ((c.tc : Thread Cert.UpdUpIdeal.nD Cert.UpdUpIdeal.τ).loc Cert.UpdUpIdeal.main_arg1)
          ∧ r.2.mem ((c.tc : Thread Cert.UpdUpIdeal.nD Cert.UpdUpIdeal.τ).loc Cert.UpdUpIdeal.main_arg2) = m ((c.tc : Thread Cert.UpdUpIdeal.nD Cert.UpdUpIdeal.τ).loc Cert.UpdUpIdeal.main_arg2)
          ∧ r.2.mem ((c.tc : Thread Cert.UpdUpIdeal.nD Cert.UpdUpIdeal.τ).loc Cert.UpdUpIdeal.main_arg3) = m ((c.tc : Thread Cert.UpdUpIdeal.nD Cert.UpdUpIdeal.τ).loc Cert.UpdUpIdeal.main_arg3))
      ∧ θ_run (Cert.RefUpdUpIdeal.defs (F := Ideal)) (onTc (τ := Cert.RefUpdUpIdeal.τ) (Cert.RefUpdUpIdeal.main (F := Ideal))) ⟨m', fun _ => 0, g'⟩ (fun r => ∀ c : Dev Cert.RefUpdUpIdeal.nD,
          r.2.mem ((c.tc : Thread Cert.RefUpdUpIdeal.nD Cert.RefUpdUpIdeal.τ).loc Cert.RefUpdUpIdeal.main_v24) = v0 c
          ∧ r.2.mem ((c.tc : Thread Cert.RefUpdUpIdeal.nD Cert.RefUpdUpIdeal.τ).loc Cert.RefUpdUpIdeal.main_v25) = v1 c
          ∧ r.2.mem ((c.tc : Thread Cert.RefUpdUpIdeal.nD Cert.RefUpdUpIdeal.τ).loc Cert.RefUpdUpIdeal.main_v26) = v2 c
          ∧ r.2.mem ((c.tc : Thread Cert.RefUpdUpIdeal.nD Cert.RefUpdUpIdeal.τ).loc Cert.RefUpdUpIdeal.main_arg0) = m' ((c.tc : Thread Cert.RefUpdUpIdeal.nD Cert.RefUpdUpIdeal.τ).loc Cert.RefUpdUpIdeal.main_arg0)
          ∧ r.2.mem ((c.tc : Thread Cert.RefUpdUpIdeal.nD Cert.RefUpdUpIdeal.τ).loc Cert.RefUpdUpIdeal.main_arg1) = m' ((c.tc : Thread Cert.RefUpdUpIdeal.nD Cert.RefUpdUpIdeal.τ).loc Cert.RefUpdUpIdeal.main_arg1)
          ∧ r.2.mem ((c.tc : Thread Cert.RefUpdUpIdeal.nD Cert.RefUpdUpIdeal.τ).loc Cert.RefUpdUpIdeal.main_arg2) = m' ((c.tc : Thread Cert.RefUpdUpIdeal.nD Cert.RefUpdUpIdeal.τ).loc Cert.RefUpdUpIdeal.main_arg2)
          ∧ r.2.mem ((c.tc : Thread Cert.RefUpdUpIdeal.nD Cert.RefUpdUpIdeal.τ).loc Cert.RefUpdUpIdeal.main_arg3) = m' ((c.tc : Thread Cert.RefUpdUpIdeal.nD Cert.RefUpdUpIdeal.τ).loc Cert.RefUpdUpIdeal.main_arg3))

def preserves_UpdDown_UpdDownIdeal : Prop :=
  True

def algebraic_UpdDownIdeal_RefUpdDownIdeal [hUpdDownIdeal : Cert.UpdDownIdeal.Facts] [hRefUpdDownIdeal : Cert.RefUpdDownIdeal.Facts] : Prop :=
  ∀ (m : (ℓ : Loc Cert.UpdDownIdeal.nD Cert.UpdDownIdeal.τ Cert.UpdDownIdeal.sig) → Buf (Elt Ideal) ℓ) (g : Dev Cert.UpdDownIdeal.nD → PrngReg)
    (m' : (ℓ : Loc Cert.RefUpdDownIdeal.nD Cert.RefUpdDownIdeal.τ Cert.RefUpdDownIdeal.sig) → Buf (Elt Ideal) ℓ) (g' : Dev Cert.RefUpdDownIdeal.nD → PrngReg), Pre_UpdDownIdeal m →
    (∀ c : Dev Cert.UpdDownIdeal.nD,
      m' ((c.tc : Thread Cert.RefUpdDownIdeal.nD Cert.RefUpdDownIdeal.τ).loc Cert.RefUpdDownIdeal.main_arg0) = m ((c.tc : Thread Cert.UpdDownIdeal.nD Cert.UpdDownIdeal.τ).loc Cert.UpdDownIdeal.main_arg0)
      ∧ m' ((c.tc : Thread Cert.RefUpdDownIdeal.nD Cert.RefUpdDownIdeal.τ).loc Cert.RefUpdDownIdeal.main_arg1) = m ((c.tc : Thread Cert.UpdDownIdeal.nD Cert.UpdDownIdeal.τ).loc Cert.UpdDownIdeal.main_arg1)
      ∧ m' ((c.tc : Thread Cert.RefUpdDownIdeal.nD Cert.RefUpdDownIdeal.τ).loc Cert.RefUpdDownIdeal.main_arg2) = m ((c.tc : Thread Cert.UpdDownIdeal.nD Cert.UpdDownIdeal.τ).loc Cert.UpdDownIdeal.main_arg2)
      ∧ m' ((c.tc : Thread Cert.RefUpdDownIdeal.nD Cert.RefUpdDownIdeal.τ).loc Cert.RefUpdDownIdeal.main_arg3) = m ((c.tc : Thread Cert.UpdDownIdeal.nD Cert.UpdDownIdeal.τ).loc Cert.UpdDownIdeal.main_arg3)) →
    ∃ (v0 : (c : Dev Cert.UpdDownIdeal.nD) → Buf (Elt Ideal) ((c.tc : Thread Cert.UpdDownIdeal.nD Cert.UpdDownIdeal.τ).loc Cert.UpdDownIdeal.main_v4_0)) (v1 : (c : Dev Cert.UpdDownIdeal.nD) → Buf (Elt Ideal) ((c.tc : Thread Cert.UpdDownIdeal.nD Cert.UpdDownIdeal.τ).loc Cert.UpdDownIdeal.main_v4_1)) (v2 : (c : Dev Cert.UpdDownIdeal.nD) → Buf (Elt Ideal) ((c.tc : Thread Cert.UpdDownIdeal.nD Cert.UpdDownIdeal.τ).loc Cert.UpdDownIdeal.main_v4_2)),
      θ_run (Cert.UpdDownIdeal.defs (F := Ideal)) (onTc (τ := Cert.UpdDownIdeal.τ) (Cert.UpdDownIdeal.main (F := Ideal))) ⟨m, fun _ => 0, g⟩ (fun r => ∀ c : Dev Cert.UpdDownIdeal.nD,
          r.2.mem ((c.tc : Thread Cert.UpdDownIdeal.nD Cert.UpdDownIdeal.τ).loc Cert.UpdDownIdeal.main_v4_0) = v0 c
          ∧ r.2.mem ((c.tc : Thread Cert.UpdDownIdeal.nD Cert.UpdDownIdeal.τ).loc Cert.UpdDownIdeal.main_v4_1) = v1 c
          ∧ r.2.mem ((c.tc : Thread Cert.UpdDownIdeal.nD Cert.UpdDownIdeal.τ).loc Cert.UpdDownIdeal.main_v4_2) = v2 c
          ∧ r.2.mem ((c.tc : Thread Cert.UpdDownIdeal.nD Cert.UpdDownIdeal.τ).loc Cert.UpdDownIdeal.main_arg0) = m ((c.tc : Thread Cert.UpdDownIdeal.nD Cert.UpdDownIdeal.τ).loc Cert.UpdDownIdeal.main_arg0)
          ∧ r.2.mem ((c.tc : Thread Cert.UpdDownIdeal.nD Cert.UpdDownIdeal.τ).loc Cert.UpdDownIdeal.main_arg1) = m ((c.tc : Thread Cert.UpdDownIdeal.nD Cert.UpdDownIdeal.τ).loc Cert.UpdDownIdeal.main_arg1)
          ∧ r.2.mem ((c.tc : Thread Cert.UpdDownIdeal.nD Cert.UpdDownIdeal.τ).loc Cert.UpdDownIdeal.main_arg2) = m ((c.tc : Thread Cert.UpdDownIdeal.nD Cert.UpdDownIdeal.τ).loc Cert.UpdDownIdeal.main_arg2)
          ∧ r.2.mem ((c.tc : Thread Cert.UpdDownIdeal.nD Cert.UpdDownIdeal.τ).loc Cert.UpdDownIdeal.main_arg3) = m ((c.tc : Thread Cert.UpdDownIdeal.nD Cert.UpdDownIdeal.τ).loc Cert.UpdDownIdeal.main_arg3))
      ∧ θ_run (Cert.RefUpdDownIdeal.defs (F := Ideal)) (onTc (τ := Cert.RefUpdDownIdeal.τ) (Cert.RefUpdDownIdeal.main (F := Ideal))) ⟨m', fun _ => 0, g'⟩ (fun r => ∀ c : Dev Cert.RefUpdDownIdeal.nD,
          r.2.mem ((c.tc : Thread Cert.RefUpdDownIdeal.nD Cert.RefUpdDownIdeal.τ).loc Cert.RefUpdDownIdeal.main_v24) = v0 c
          ∧ r.2.mem ((c.tc : Thread Cert.RefUpdDownIdeal.nD Cert.RefUpdDownIdeal.τ).loc Cert.RefUpdDownIdeal.main_v25) = v1 c
          ∧ r.2.mem ((c.tc : Thread Cert.RefUpdDownIdeal.nD Cert.RefUpdDownIdeal.τ).loc Cert.RefUpdDownIdeal.main_v26) = v2 c
          ∧ r.2.mem ((c.tc : Thread Cert.RefUpdDownIdeal.nD Cert.RefUpdDownIdeal.τ).loc Cert.RefUpdDownIdeal.main_arg0) = m' ((c.tc : Thread Cert.RefUpdDownIdeal.nD Cert.RefUpdDownIdeal.τ).loc Cert.RefUpdDownIdeal.main_arg0)
          ∧ r.2.mem ((c.tc : Thread Cert.RefUpdDownIdeal.nD Cert.RefUpdDownIdeal.τ).loc Cert.RefUpdDownIdeal.main_arg1) = m' ((c.tc : Thread Cert.RefUpdDownIdeal.nD Cert.RefUpdDownIdeal.τ).loc Cert.RefUpdDownIdeal.main_arg1)
          ∧ r.2.mem ((c.tc : Thread Cert.RefUpdDownIdeal.nD Cert.RefUpdDownIdeal.τ).loc Cert.RefUpdDownIdeal.main_arg2) = m' ((c.tc : Thread Cert.RefUpdDownIdeal.nD Cert.RefUpdDownIdeal.τ).loc Cert.RefUpdDownIdeal.main_arg2)
          ∧ r.2.mem ((c.tc : Thread Cert.RefUpdDownIdeal.nD Cert.RefUpdDownIdeal.τ).loc Cert.RefUpdDownIdeal.main_arg3) = m' ((c.tc : Thread Cert.RefUpdDownIdeal.nD Cert.RefUpdDownIdeal.τ).loc Cert.RefUpdDownIdeal.main_arg3))

def preserves_UpdIn_UpdInIdeal : Prop :=
  True

def algebraic_UpdInIdeal_RefUpdInIdeal [hUpdInIdeal : Cert.UpdInIdeal.Facts] [hRefUpdInIdeal : Cert.RefUpdInIdeal.Facts] : Prop :=
  ∀ (m : (ℓ : Loc Cert.UpdInIdeal.nD Cert.UpdInIdeal.τ Cert.UpdInIdeal.sig) → Buf (Elt Ideal) ℓ) (g : Dev Cert.UpdInIdeal.nD → PrngReg)
    (m' : (ℓ : Loc Cert.RefUpdInIdeal.nD Cert.RefUpdInIdeal.τ Cert.RefUpdInIdeal.sig) → Buf (Elt Ideal) ℓ) (g' : Dev Cert.RefUpdInIdeal.nD → PrngReg), Pre_UpdInIdeal m →
    (∀ c : Dev Cert.UpdInIdeal.nD,
      m' ((c.tc : Thread Cert.RefUpdInIdeal.nD Cert.RefUpdInIdeal.τ).loc Cert.RefUpdInIdeal.main_arg0) = m ((c.tc : Thread Cert.UpdInIdeal.nD Cert.UpdInIdeal.τ).loc Cert.UpdInIdeal.main_arg0)
      ∧ m' ((c.tc : Thread Cert.RefUpdInIdeal.nD Cert.RefUpdInIdeal.τ).loc Cert.RefUpdInIdeal.main_arg1) = m ((c.tc : Thread Cert.UpdInIdeal.nD Cert.UpdInIdeal.τ).loc Cert.UpdInIdeal.main_arg1)
      ∧ m' ((c.tc : Thread Cert.RefUpdInIdeal.nD Cert.RefUpdInIdeal.τ).loc Cert.RefUpdInIdeal.main_arg2) = m ((c.tc : Thread Cert.UpdInIdeal.nD Cert.UpdInIdeal.τ).loc Cert.UpdInIdeal.main_arg2)
      ∧ m' ((c.tc : Thread Cert.RefUpdInIdeal.nD Cert.RefUpdInIdeal.τ).loc Cert.RefUpdInIdeal.main_arg3) = m ((c.tc : Thread Cert.UpdInIdeal.nD Cert.UpdInIdeal.τ).loc Cert.UpdInIdeal.main_arg3)) →
    ∃ (v0 : (c : Dev Cert.UpdInIdeal.nD) → Buf (Elt Ideal) ((c.tc : Thread Cert.UpdInIdeal.nD Cert.UpdInIdeal.τ).loc Cert.UpdInIdeal.main_v4_0)) (v1 : (c : Dev Cert.UpdInIdeal.nD) → Buf (Elt Ideal) ((c.tc : Thread Cert.UpdInIdeal.nD Cert.UpdInIdeal.τ).loc Cert.UpdInIdeal.main_v4_1)) (v2 : (c : Dev Cert.UpdInIdeal.nD) → Buf (Elt Ideal) ((c.tc : Thread Cert.UpdInIdeal.nD Cert.UpdInIdeal.τ).loc Cert.UpdInIdeal.main_v4_2)),
      θ_run (Cert.UpdInIdeal.defs (F := Ideal)) (onTc (τ := Cert.UpdInIdeal.τ) (Cert.UpdInIdeal.main (F := Ideal))) ⟨m, fun _ => 0, g⟩ (fun r => ∀ c : Dev Cert.UpdInIdeal.nD,
          r.2.mem ((c.tc : Thread Cert.UpdInIdeal.nD Cert.UpdInIdeal.τ).loc Cert.UpdInIdeal.main_v4_0) = v0 c
          ∧ r.2.mem ((c.tc : Thread Cert.UpdInIdeal.nD Cert.UpdInIdeal.τ).loc Cert.UpdInIdeal.main_v4_1) = v1 c
          ∧ r.2.mem ((c.tc : Thread Cert.UpdInIdeal.nD Cert.UpdInIdeal.τ).loc Cert.UpdInIdeal.main_v4_2) = v2 c
          ∧ r.2.mem ((c.tc : Thread Cert.UpdInIdeal.nD Cert.UpdInIdeal.τ).loc Cert.UpdInIdeal.main_arg0) = m ((c.tc : Thread Cert.UpdInIdeal.nD Cert.UpdInIdeal.τ).loc Cert.UpdInIdeal.main_arg0)
          ∧ r.2.mem ((c.tc : Thread Cert.UpdInIdeal.nD Cert.UpdInIdeal.τ).loc Cert.UpdInIdeal.main_arg1) = m ((c.tc : Thread Cert.UpdInIdeal.nD Cert.UpdInIdeal.τ).loc Cert.UpdInIdeal.main_arg1)
          ∧ r.2.mem ((c.tc : Thread Cert.UpdInIdeal.nD Cert.UpdInIdeal.τ).loc Cert.UpdInIdeal.main_arg2) = m ((c.tc : Thread Cert.UpdInIdeal.nD Cert.UpdInIdeal.τ).loc Cert.UpdInIdeal.main_arg2)
          ∧ r.2.mem ((c.tc : Thread Cert.UpdInIdeal.nD Cert.UpdInIdeal.τ).loc Cert.UpdInIdeal.main_arg3) = m ((c.tc : Thread Cert.UpdInIdeal.nD Cert.UpdInIdeal.τ).loc Cert.UpdInIdeal.main_arg3))
      ∧ θ_run (Cert.RefUpdInIdeal.defs (F := Ideal)) (onTc (τ := Cert.RefUpdInIdeal.τ) (Cert.RefUpdInIdeal.main (F := Ideal))) ⟨m', fun _ => 0, g'⟩ (fun r => ∀ c : Dev Cert.RefUpdInIdeal.nD,
          r.2.mem ((c.tc : Thread Cert.RefUpdInIdeal.nD Cert.RefUpdInIdeal.τ).loc Cert.RefUpdInIdeal.main_v24) = v0 c
          ∧ r.2.mem ((c.tc : Thread Cert.RefUpdInIdeal.nD Cert.RefUpdInIdeal.τ).loc Cert.RefUpdInIdeal.main_v25) = v1 c
          ∧ r.2.mem ((c.tc : Thread Cert.RefUpdInIdeal.nD Cert.RefUpdInIdeal.τ).loc Cert.RefUpdInIdeal.main_v26) = v2 c
          ∧ r.2.mem ((c.tc : Thread Cert.RefUpdInIdeal.nD Cert.RefUpdInIdeal.τ).loc Cert.RefUpdInIdeal.main_arg0) = m' ((c.tc : Thread Cert.RefUpdInIdeal.nD Cert.RefUpdInIdeal.τ).loc Cert.RefUpdInIdeal.main_arg0)
          ∧ r.2.mem ((c.tc : Thread Cert.RefUpdInIdeal.nD Cert.RefUpdInIdeal.τ).loc Cert.RefUpdInIdeal.main_arg1) = m' ((c.tc : Thread Cert.RefUpdInIdeal.nD Cert.RefUpdInIdeal.τ).loc Cert.RefUpdInIdeal.main_arg1)
          ∧ r.2.mem ((c.tc : Thread Cert.RefUpdInIdeal.nD Cert.RefUpdInIdeal.τ).loc Cert.RefUpdInIdeal.main_arg2) = m' ((c.tc : Thread Cert.RefUpdInIdeal.nD Cert.RefUpdInIdeal.τ).loc Cert.RefUpdInIdeal.main_arg2)
          ∧ r.2.mem ((c.tc : Thread Cert.RefUpdInIdeal.nD Cert.RefUpdInIdeal.τ).loc Cert.RefUpdInIdeal.main_arg3) = m' ((c.tc : Thread Cert.RefUpdInIdeal.nD Cert.RefUpdInIdeal.τ).loc Cert.RefUpdInIdeal.main_arg3))

def preserves_UpdGate_UpdGateIdeal : Prop :=
  True

def algebraic_UpdGateIdeal_RefUpdGateIdeal [hUpdGateIdeal : Cert.UpdGateIdeal.Facts] [hRefUpdGateIdeal : Cert.RefUpdGateIdeal.Facts] : Prop :=
  ∀ (m : (ℓ : Loc Cert.UpdGateIdeal.nD Cert.UpdGateIdeal.τ Cert.UpdGateIdeal.sig) → Buf (Elt Ideal) ℓ) (g : Dev Cert.UpdGateIdeal.nD → PrngReg)
    (m' : (ℓ : Loc Cert.RefUpdGateIdeal.nD Cert.RefUpdGateIdeal.τ Cert.RefUpdGateIdeal.sig) → Buf (Elt Ideal) ℓ) (g' : Dev Cert.RefUpdGateIdeal.nD → PrngReg), Pre_UpdGateIdeal m →
    (∀ c : Dev Cert.UpdGateIdeal.nD,
      m' ((c.tc : Thread Cert.RefUpdGateIdeal.nD Cert.RefUpdGateIdeal.τ).loc Cert.RefUpdGateIdeal.main_arg0) = m ((c.tc : Thread Cert.UpdGateIdeal.nD Cert.UpdGateIdeal.τ).loc Cert.UpdGateIdeal.main_arg0)
      ∧ m' ((c.tc : Thread Cert.RefUpdGateIdeal.nD Cert.RefUpdGateIdeal.τ).loc Cert.RefUpdGateIdeal.main_arg1) = m ((c.tc : Thread Cert.UpdGateIdeal.nD Cert.UpdGateIdeal.τ).loc Cert.UpdGateIdeal.main_arg1)
      ∧ m' ((c.tc : Thread Cert.RefUpdGateIdeal.nD Cert.RefUpdGateIdeal.τ).loc Cert.RefUpdGateIdeal.main_arg2) = m ((c.tc : Thread Cert.UpdGateIdeal.nD Cert.UpdGateIdeal.τ).loc Cert.UpdGateIdeal.main_arg2)
      ∧ m' ((c.tc : Thread Cert.RefUpdGateIdeal.nD Cert.RefUpdGateIdeal.τ).loc Cert.RefUpdGateIdeal.main_arg3) = m ((c.tc : Thread Cert.UpdGateIdeal.nD Cert.UpdGateIdeal.τ).loc Cert.UpdGateIdeal.main_arg3)) →
    ∃ (v0 : (c : Dev Cert.UpdGateIdeal.nD) → Buf (Elt Ideal) ((c.tc : Thread Cert.UpdGateIdeal.nD Cert.UpdGateIdeal.τ).loc Cert.UpdGateIdeal.main_v4_0)) (v1 : (c : Dev Cert.UpdGateIdeal.nD) → Buf (Elt Ideal) ((c.tc : Thread Cert.UpdGateIdeal.nD Cert.UpdGateIdeal.τ).loc Cert.UpdGateIdeal.main_v4_1)) (v2 : (c : Dev Cert.UpdGateIdeal.nD) → Buf (Elt Ideal) ((c.tc : Thread Cert.UpdGateIdeal.nD Cert.UpdGateIdeal.τ).loc Cert.UpdGateIdeal.main_v4_2)),
      θ_run (Cert.UpdGateIdeal.defs (F := Ideal)) (onTc (τ := Cert.UpdGateIdeal.τ) (Cert.UpdGateIdeal.main (F := Ideal))) ⟨m, fun _ => 0, g⟩ (fun r => ∀ c : Dev Cert.UpdGateIdeal.nD,
          r.2.mem ((c.tc : Thread Cert.UpdGateIdeal.nD Cert.UpdGateIdeal.τ).loc Cert.UpdGateIdeal.main_v4_0) = v0 c
          ∧ r.2.mem ((c.tc : Thread Cert.UpdGateIdeal.nD Cert.UpdGateIdeal.τ).loc Cert.UpdGateIdeal.main_v4_1) = v1 c
          ∧ r.2.mem ((c.tc : Thread Cert.UpdGateIdeal.nD Cert.UpdGateIdeal.τ).loc Cert.UpdGateIdeal.main_v4_2) = v2 c
          ∧ r.2.mem ((c.tc : Thread Cert.UpdGateIdeal.nD Cert.UpdGateIdeal.τ).loc Cert.UpdGateIdeal.main_arg0) = m ((c.tc : Thread Cert.UpdGateIdeal.nD Cert.UpdGateIdeal.τ).loc Cert.UpdGateIdeal.main_arg0)
          ∧ r.2.mem ((c.tc : Thread Cert.UpdGateIdeal.nD Cert.UpdGateIdeal.τ).loc Cert.UpdGateIdeal.main_arg1) = m ((c.tc : Thread Cert.UpdGateIdeal.nD Cert.UpdGateIdeal.τ).loc Cert.UpdGateIdeal.main_arg1)
          ∧ r.2.mem ((c.tc : Thread Cert.UpdGateIdeal.nD Cert.UpdGateIdeal.τ).loc Cert.UpdGateIdeal.main_arg2) = m ((c.tc : Thread Cert.UpdGateIdeal.nD Cert.UpdGateIdeal.τ).loc Cert.UpdGateIdeal.main_arg2)
          ∧ r.2.mem ((c.tc : Thread Cert.UpdGateIdeal.nD Cert.UpdGateIdeal.τ).loc Cert.UpdGateIdeal.main_arg3) = m ((c.tc : Thread Cert.UpdGateIdeal.nD Cert.UpdGateIdeal.τ).loc Cert.UpdGateIdeal.main_arg3))
      ∧ θ_run (Cert.RefUpdGateIdeal.defs (F := Ideal)) (onTc (τ := Cert.RefUpdGateIdeal.τ) (Cert.RefUpdGateIdeal.main (F := Ideal))) ⟨m', fun _ => 0, g'⟩ (fun r => ∀ c : Dev Cert.RefUpdGateIdeal.nD,
          r.2.mem ((c.tc : Thread Cert.RefUpdGateIdeal.nD Cert.RefUpdGateIdeal.τ).loc Cert.RefUpdGateIdeal.main_v24) = v0 c
          ∧ r.2.mem ((c.tc : Thread Cert.RefUpdGateIdeal.nD Cert.RefUpdGateIdeal.τ).loc Cert.RefUpdGateIdeal.main_v25) = v1 c
          ∧ r.2.mem ((c.tc : Thread Cert.RefUpdGateIdeal.nD Cert.RefUpdGateIdeal.τ).loc Cert.RefUpdGateIdeal.main_v26) = v2 c
          ∧ r.2.mem ((c.tc : Thread Cert.RefUpdGateIdeal.nD Cert.RefUpdGateIdeal.τ).loc Cert.RefUpdGateIdeal.main_arg0) = m' ((c.tc : Thread Cert.RefUpdGateIdeal.nD Cert.RefUpdGateIdeal.τ).loc Cert.RefUpdGateIdeal.main_arg0)
          ∧ r.2.mem ((c.tc : Thread Cert.RefUpdGateIdeal.nD Cert.RefUpdGateIdeal.τ).loc Cert.RefUpdGateIdeal.main_arg1) = m' ((c.tc : Thread Cert.RefUpdGateIdeal.nD Cert.RefUpdGateIdeal.τ).loc Cert.RefUpdGateIdeal.main_arg1)
          ∧ r.2.mem ((c.tc : Thread Cert.RefUpdGateIdeal.nD Cert.RefUpdGateIdeal.τ).loc Cert.RefUpdGateIdeal.main_arg2) = m' ((c.tc : Thread Cert.RefUpdGateIdeal.nD Cert.RefUpdGateIdeal.τ).loc Cert.RefUpdGateIdeal.main_arg2)
          ∧ r.2.mem ((c.tc : Thread Cert.RefUpdGateIdeal.nD Cert.RefUpdGateIdeal.τ).loc Cert.RefUpdGateIdeal.main_arg3) = m' ((c.tc : Thread Cert.RefUpdGateIdeal.nD Cert.RefUpdGateIdeal.τ).loc Cert.RefUpdGateIdeal.main_arg3))

def preserves_UpdOut_UpdOutIdeal : Prop :=
  True

def algebraic_UpdOutIdeal_RefUpdOutIdeal [hUpdOutIdeal : Cert.UpdOutIdeal.Facts] [hRefUpdOutIdeal : Cert.RefUpdOutIdeal.Facts] : Prop :=
  ∀ (m : (ℓ : Loc Cert.UpdOutIdeal.nD Cert.UpdOutIdeal.τ Cert.UpdOutIdeal.sig) → Buf (Elt Ideal) ℓ) (g : Dev Cert.UpdOutIdeal.nD → PrngReg)
    (m' : (ℓ : Loc Cert.RefUpdOutIdeal.nD Cert.RefUpdOutIdeal.τ Cert.RefUpdOutIdeal.sig) → Buf (Elt Ideal) ℓ) (g' : Dev Cert.RefUpdOutIdeal.nD → PrngReg), Pre_UpdOutIdeal m →
    (∀ c : Dev Cert.UpdOutIdeal.nD,
      m' ((c.tc : Thread Cert.RefUpdOutIdeal.nD Cert.RefUpdOutIdeal.τ).loc Cert.RefUpdOutIdeal.main_arg0) = m ((c.tc : Thread Cert.UpdOutIdeal.nD Cert.UpdOutIdeal.τ).loc Cert.UpdOutIdeal.main_arg0)
      ∧ m' ((c.tc : Thread Cert.RefUpdOutIdeal.nD Cert.RefUpdOutIdeal.τ).loc Cert.RefUpdOutIdeal.main_arg1) = m ((c.tc : Thread Cert.UpdOutIdeal.nD Cert.UpdOutIdeal.τ).loc Cert.UpdOutIdeal.main_arg1)
      ∧ m' ((c.tc : Thread Cert.RefUpdOutIdeal.nD Cert.RefUpdOutIdeal.τ).loc Cert.RefUpdOutIdeal.main_arg2) = m ((c.tc : Thread Cert.UpdOutIdeal.nD Cert.UpdOutIdeal.τ).loc Cert.UpdOutIdeal.main_arg2)
      ∧ m' ((c.tc : Thread Cert.RefUpdOutIdeal.nD Cert.RefUpdOutIdeal.τ).loc Cert.RefUpdOutIdeal.main_arg3) = m ((c.tc : Thread Cert.UpdOutIdeal.nD Cert.UpdOutIdeal.τ).loc Cert.UpdOutIdeal.main_arg3)) →
    ∃ (v0 : (c : Dev Cert.UpdOutIdeal.nD) → Buf (Elt Ideal) ((c.tc : Thread Cert.UpdOutIdeal.nD Cert.UpdOutIdeal.τ).loc Cert.UpdOutIdeal.main_v4_0)) (v1 : (c : Dev Cert.UpdOutIdeal.nD) → Buf (Elt Ideal) ((c.tc : Thread Cert.UpdOutIdeal.nD Cert.UpdOutIdeal.τ).loc Cert.UpdOutIdeal.main_v4_1)) (v2 : (c : Dev Cert.UpdOutIdeal.nD) → Buf (Elt Ideal) ((c.tc : Thread Cert.UpdOutIdeal.nD Cert.UpdOutIdeal.τ).loc Cert.UpdOutIdeal.main_v4_2)),
      θ_run (Cert.UpdOutIdeal.defs (F := Ideal)) (onTc (τ := Cert.UpdOutIdeal.τ) (Cert.UpdOutIdeal.main (F := Ideal))) ⟨m, fun _ => 0, g⟩ (fun r => ∀ c : Dev Cert.UpdOutIdeal.nD,
          r.2.mem ((c.tc : Thread Cert.UpdOutIdeal.nD Cert.UpdOutIdeal.τ).loc Cert.UpdOutIdeal.main_v4_0) = v0 c
          ∧ r.2.mem ((c.tc : Thread Cert.UpdOutIdeal.nD Cert.UpdOutIdeal.τ).loc Cert.UpdOutIdeal.main_v4_1) = v1 c
          ∧ r.2.mem ((c.tc : Thread Cert.UpdOutIdeal.nD Cert.UpdOutIdeal.τ).loc Cert.UpdOutIdeal.main_v4_2) = v2 c
          ∧ r.2.mem ((c.tc : Thread Cert.UpdOutIdeal.nD Cert.UpdOutIdeal.τ).loc Cert.UpdOutIdeal.main_arg0) = m ((c.tc : Thread Cert.UpdOutIdeal.nD Cert.UpdOutIdeal.τ).loc Cert.UpdOutIdeal.main_arg0)
          ∧ r.2.mem ((c.tc : Thread Cert.UpdOutIdeal.nD Cert.UpdOutIdeal.τ).loc Cert.UpdOutIdeal.main_arg1) = m ((c.tc : Thread Cert.UpdOutIdeal.nD Cert.UpdOutIdeal.τ).loc Cert.UpdOutIdeal.main_arg1)
          ∧ r.2.mem ((c.tc : Thread Cert.UpdOutIdeal.nD Cert.UpdOutIdeal.τ).loc Cert.UpdOutIdeal.main_arg2) = m ((c.tc : Thread Cert.UpdOutIdeal.nD Cert.UpdOutIdeal.τ).loc Cert.UpdOutIdeal.main_arg2)
          ∧ r.2.mem ((c.tc : Thread Cert.UpdOutIdeal.nD Cert.UpdOutIdeal.τ).loc Cert.UpdOutIdeal.main_arg3) = m ((c.tc : Thread Cert.UpdOutIdeal.nD Cert.UpdOutIdeal.τ).loc Cert.UpdOutIdeal.main_arg3))
      ∧ θ_run (Cert.RefUpdOutIdeal.defs (F := Ideal)) (onTc (τ := Cert.RefUpdOutIdeal.τ) (Cert.RefUpdOutIdeal.main (F := Ideal))) ⟨m', fun _ => 0, g'⟩ (fun r => ∀ c : Dev Cert.RefUpdOutIdeal.nD,
          r.2.mem ((c.tc : Thread Cert.RefUpdOutIdeal.nD Cert.RefUpdOutIdeal.τ).loc Cert.RefUpdOutIdeal.main_v24) = v0 c
          ∧ r.2.mem ((c.tc : Thread Cert.RefUpdOutIdeal.nD Cert.RefUpdOutIdeal.τ).loc Cert.RefUpdOutIdeal.main_v25) = v1 c
          ∧ r.2.mem ((c.tc : Thread Cert.RefUpdOutIdeal.nD Cert.RefUpdOutIdeal.τ).loc Cert.RefUpdOutIdeal.main_v26) = v2 c
          ∧ r.2.mem ((c.tc : Thread Cert.RefUpdOutIdeal.nD Cert.RefUpdOutIdeal.τ).loc Cert.RefUpdOutIdeal.main_arg0) = m' ((c.tc : Thread Cert.RefUpdOutIdeal.nD Cert.RefUpdOutIdeal.τ).loc Cert.RefUpdOutIdeal.main_arg0)
          ∧ r.2.mem ((c.tc : Thread Cert.RefUpdOutIdeal.nD Cert.RefUpdOutIdeal.τ).loc Cert.RefUpdOutIdeal.main_arg1) = m' ((c.tc : Thread Cert.RefUpdOutIdeal.nD Cert.RefUpdOutIdeal.τ).loc Cert.RefUpdOutIdeal.main_arg1)
          ∧ r.2.mem ((c.tc : Thread Cert.RefUpdOutIdeal.nD Cert.RefUpdOutIdeal.τ).loc Cert.RefUpdOutIdeal.main_arg2) = m' ((c.tc : Thread Cert.RefUpdOutIdeal.nD Cert.RefUpdOutIdeal.τ).loc Cert.RefUpdOutIdeal.main_arg2)
          ∧ r.2.mem ((c.tc : Thread Cert.RefUpdOutIdeal.nD Cert.RefUpdOutIdeal.τ).loc Cert.RefUpdOutIdeal.main_arg3) = m' ((c.tc : Thread Cert.RefUpdOutIdeal.nD Cert.RefUpdOutIdeal.τ).loc Cert.RefUpdOutIdeal.main_arg3))

def preserves_UpdBranch_UpdBranchIdeal : Prop :=
  True

def algebraic_UpdBranchIdeal_RefUpdBranchIdeal [hUpdBranchIdeal : Cert.UpdBranchIdeal.Facts] [hRefUpdBranchIdeal : Cert.RefUpdBranchIdeal.Facts] : Prop :=
  ∀ (m : (ℓ : Loc Cert.UpdBranchIdeal.nD Cert.UpdBranchIdeal.τ Cert.UpdBranchIdeal.sig) → Buf (Elt Ideal) ℓ) (g : Dev Cert.UpdBranchIdeal.nD → PrngReg)
    (m' : (ℓ : Loc Cert.RefUpdBranchIdeal.nD Cert.RefUpdBranchIdeal.τ Cert.RefUpdBranchIdeal.sig) → Buf (Elt Ideal) ℓ) (g' : Dev Cert.RefUpdBranchIdeal.nD → PrngReg), Pre_UpdBranchIdeal m →
    (∀ c : Dev Cert.UpdBranchIdeal.nD,
      m' ((c.tc : Thread Cert.RefUpdBranchIdeal.nD Cert.RefUpdBranchIdeal.τ).loc Cert.RefUpdBranchIdeal.main_arg0) = m ((c.tc : Thread Cert.UpdBranchIdeal.nD Cert.UpdBranchIdeal.τ).loc Cert.UpdBranchIdeal.main_arg0)
      ∧ m' ((c.tc : Thread Cert.RefUpdBranchIdeal.nD Cert.RefUpdBranchIdeal.τ).loc Cert.RefUpdBranchIdeal.main_arg1) = m ((c.tc : Thread Cert.UpdBranchIdeal.nD Cert.UpdBranchIdeal.τ).loc Cert.UpdBranchIdeal.main_arg1)
      ∧ m' ((c.tc : Thread Cert.RefUpdBranchIdeal.nD Cert.RefUpdBranchIdeal.τ).loc Cert.RefUpdBranchIdeal.main_arg2) = m ((c.tc : Thread Cert.UpdBranchIdeal.nD Cert.UpdBranchIdeal.τ).loc Cert.UpdBranchIdeal.main_arg2)
      ∧ m' ((c.tc : Thread Cert.RefUpdBranchIdeal.nD Cert.RefUpdBranchIdeal.τ).loc Cert.RefUpdBranchIdeal.main_arg3) = m ((c.tc : Thread Cert.UpdBranchIdeal.nD Cert.UpdBranchIdeal.τ).loc Cert.UpdBranchIdeal.main_arg3)) →
    ∃ (v0 : (c : Dev Cert.UpdBranchIdeal.nD) → Buf (Elt Ideal) ((c.tc : Thread Cert.UpdBranchIdeal.nD Cert.UpdBranchIdeal.τ).loc Cert.UpdBranchIdeal.main_v4_0)) (v1 : (c : Dev Cert.UpdBranchIdeal.nD) → Buf (Elt Ideal) ((c.tc : Thread Cert.UpdBranchIdeal.nD Cert.UpdBranchIdeal.τ).loc Cert.UpdBranchIdeal.main_v4_1)) (v2 : (c : Dev Cert.UpdBranchIdeal.nD) → Buf (Elt Ideal) ((c.tc : Thread Cert.UpdBranchIdeal.nD Cert.UpdBranchIdeal.τ).loc Cert.UpdBranchIdeal.main_v4_2)),
      θ_run (Cert.UpdBranchIdeal.defs (F := Ideal)) (onTc (τ := Cert.UpdBranchIdeal.τ) (Cert.UpdBranchIdeal.main (F := Ideal))) ⟨m, fun _ => 0, g⟩ (fun r => ∀ c : Dev Cert.UpdBranchIdeal.nD,
          r.2.mem ((c.tc : Thread Cert.UpdBranchIdeal.nD Cert.UpdBranchIdeal.τ).loc Cert.UpdBranchIdeal.main_v4_0) = v0 c
          ∧ r.2.mem ((c.tc : Thread Cert.UpdBranchIdeal.nD Cert.UpdBranchIdeal.τ).loc Cert.UpdBranchIdeal.main_v4_1) = v1 c
          ∧ r.2.mem ((c.tc : Thread Cert.UpdBranchIdeal.nD Cert.UpdBranchIdeal.τ).loc Cert.UpdBranchIdeal.main_v4_2) = v2 c
          ∧ r.2.mem ((c.tc : Thread Cert.UpdBranchIdeal.nD Cert.UpdBranchIdeal.τ).loc Cert.UpdBranchIdeal.main_arg0) = m ((c.tc : Thread Cert.UpdBranchIdeal.nD Cert.UpdBranchIdeal.τ).loc Cert.UpdBranchIdeal.main_arg0)
          ∧ r.2.mem ((c.tc : Thread Cert.UpdBranchIdeal.nD Cert.UpdBranchIdeal.τ).loc Cert.UpdBranchIdeal.main_arg1) = m ((c.tc : Thread Cert.UpdBranchIdeal.nD Cert.UpdBranchIdeal.τ).loc Cert.UpdBranchIdeal.main_arg1)
          ∧ r.2.mem ((c.tc : Thread Cert.UpdBranchIdeal.nD Cert.UpdBranchIdeal.τ).loc Cert.UpdBranchIdeal.main_arg2) = m ((c.tc : Thread Cert.UpdBranchIdeal.nD Cert.UpdBranchIdeal.τ).loc Cert.UpdBranchIdeal.main_arg2)
          ∧ r.2.mem ((c.tc : Thread Cert.UpdBranchIdeal.nD Cert.UpdBranchIdeal.τ).loc Cert.UpdBranchIdeal.main_arg3) = m ((c.tc : Thread Cert.UpdBranchIdeal.nD Cert.UpdBranchIdeal.τ).loc Cert.UpdBranchIdeal.main_arg3))
      ∧ θ_run (Cert.RefUpdBranchIdeal.defs (F := Ideal)) (onTc (τ := Cert.RefUpdBranchIdeal.τ) (Cert.RefUpdBranchIdeal.main (F := Ideal))) ⟨m', fun _ => 0, g'⟩ (fun r => ∀ c : Dev Cert.RefUpdBranchIdeal.nD,
          r.2.mem ((c.tc : Thread Cert.RefUpdBranchIdeal.nD Cert.RefUpdBranchIdeal.τ).loc Cert.RefUpdBranchIdeal.main_v24) = v0 c
          ∧ r.2.mem ((c.tc : Thread Cert.RefUpdBranchIdeal.nD Cert.RefUpdBranchIdeal.τ).loc Cert.RefUpdBranchIdeal.main_v25) = v1 c
          ∧ r.2.mem ((c.tc : Thread Cert.RefUpdBranchIdeal.nD Cert.RefUpdBranchIdeal.τ).loc Cert.RefUpdBranchIdeal.main_v26) = v2 c
          ∧ r.2.mem ((c.tc : Thread Cert.RefUpdBranchIdeal.nD Cert.RefUpdBranchIdeal.τ).loc Cert.RefUpdBranchIdeal.main_arg0) = m' ((c.tc : Thread Cert.RefUpdBranchIdeal.nD Cert.RefUpdBranchIdeal.τ).loc Cert.RefUpdBranchIdeal.main_arg0)
          ∧ r.2.mem ((c.tc : Thread Cert.RefUpdBranchIdeal.nD Cert.RefUpdBranchIdeal.τ).loc Cert.RefUpdBranchIdeal.main_arg1) = m' ((c.tc : Thread Cert.RefUpdBranchIdeal.nD Cert.RefUpdBranchIdeal.τ).loc Cert.RefUpdBranchIdeal.main_arg1)
          ∧ r.2.mem ((c.tc : Thread Cert.RefUpdBranchIdeal.nD Cert.RefUpdBranchIdeal.τ).loc Cert.RefUpdBranchIdeal.main_arg2) = m' ((c.tc : Thread Cert.RefUpdBranchIdeal.nD Cert.RefUpdBranchIdeal.τ).loc Cert.RefUpdBranchIdeal.main_arg2)
          ∧ r.2.mem ((c.tc : Thread Cert.RefUpdBranchIdeal.nD Cert.RefUpdBranchIdeal.τ).loc Cert.RefUpdBranchIdeal.main_arg3) = m' ((c.tc : Thread Cert.RefUpdBranchIdeal.nD Cert.RefUpdBranchIdeal.τ).loc Cert.RefUpdBranchIdeal.main_arg3))

def preserves_UpdVec_UpdVecIdeal : Prop :=
  True

def algebraic_UpdVecIdeal_RefUpdVecIdeal [hUpdVecIdeal : Cert.UpdVecIdeal.Facts] [hRefUpdVecIdeal : Cert.RefUpdVecIdeal.Facts] : Prop :=
  ∀ (m : (ℓ : Loc Cert.UpdVecIdeal.nD Cert.UpdVecIdeal.τ Cert.UpdVecIdeal.sig) → Buf (Elt Ideal) ℓ) (g : Dev Cert.UpdVecIdeal.nD → PrngReg)
    (m' : (ℓ : Loc Cert.RefUpdVecIdeal.nD Cert.RefUpdVecIdeal.τ Cert.RefUpdVecIdeal.sig) → Buf (Elt Ideal) ℓ) (g' : Dev Cert.RefUpdVecIdeal.nD → PrngReg), Pre_UpdVecIdeal m →
    (∀ c : Dev Cert.UpdVecIdeal.nD,
      m' ((c.tc : Thread Cert.RefUpdVecIdeal.nD Cert.RefUpdVecIdeal.τ).loc Cert.RefUpdVecIdeal.main_arg0) = m ((c.tc : Thread Cert.UpdVecIdeal.nD Cert.UpdVecIdeal.τ).loc Cert.UpdVecIdeal.main_arg0)
      ∧ m' ((c.tc : Thread Cert.RefUpdVecIdeal.nD Cert.RefUpdVecIdeal.τ).loc Cert.RefUpdVecIdeal.main_arg1) = m ((c.tc : Thread Cert.UpdVecIdeal.nD Cert.UpdVecIdeal.τ).loc Cert.UpdVecIdeal.main_arg1)
      ∧ m' ((c.tc : Thread Cert.RefUpdVecIdeal.nD Cert.RefUpdVecIdeal.τ).loc Cert.RefUpdVecIdeal.main_arg2) = m ((c.tc : Thread Cert.UpdVecIdeal.nD Cert.UpdVecIdeal.τ).loc Cert.UpdVecIdeal.main_arg2)
      ∧ m' ((c.tc : Thread Cert.RefUpdVecIdeal.nD Cert.RefUpdVecIdeal.τ).loc Cert.RefUpdVecIdeal.main_arg3) = m ((c.tc : Thread Cert.UpdVecIdeal.nD Cert.UpdVecIdeal.τ).loc Cert.UpdVecIdeal.main_arg3)) →
    ∃ (v0 : (c : Dev Cert.UpdVecIdeal.nD) → Buf (Elt Ideal) ((c.tc : Thread Cert.UpdVecIdeal.nD Cert.UpdVecIdeal.τ).loc Cert.UpdVecIdeal.main_v0_1)) (v1 : (c : Dev Cert.UpdVecIdeal.nD) → Buf (Elt Ideal) ((c.tc : Thread Cert.UpdVecIdeal.nD Cert.UpdVecIdeal.τ).loc Cert.UpdVecIdeal.main_v0_2)) (v2 : (c : Dev Cert.UpdVecIdeal.nD) → Buf (Elt Ideal) ((c.tc : Thread Cert.UpdVecIdeal.nD Cert.UpdVecIdeal.τ).loc Cert.UpdVecIdeal.main_v0_3)),
      θ_run (Cert.UpdVecIdeal.defs (F := Ideal)) (onTc (τ := Cert.UpdVecIdeal.τ) (Cert.UpdVecIdeal.main (F := Ideal))) ⟨m, fun _ => 0, g⟩ (fun r => ∀ c : Dev Cert.UpdVecIdeal.nD,
          r.2.mem ((c.tc : Thread Cert.UpdVecIdeal.nD Cert.UpdVecIdeal.τ).loc Cert.UpdVecIdeal.main_v0_1) = v0 c
          ∧ r.2.mem ((c.tc : Thread Cert.UpdVecIdeal.nD Cert.UpdVecIdeal.τ).loc Cert.UpdVecIdeal.main_v0_2) = v1 c
          ∧ r.2.mem ((c.tc : Thread Cert.UpdVecIdeal.nD Cert.UpdVecIdeal.τ).loc Cert.UpdVecIdeal.main_v0_3) = v2 c
          ∧ r.2.mem ((c.tc : Thread Cert.UpdVecIdeal.nD Cert.UpdVecIdeal.τ).loc Cert.UpdVecIdeal.main_arg0) = m ((c.tc : Thread Cert.UpdVecIdeal.nD Cert.UpdVecIdeal.τ).loc Cert.UpdVecIdeal.main_arg0)
          ∧ r.2.mem ((c.tc : Thread Cert.UpdVecIdeal.nD Cert.UpdVecIdeal.τ).loc Cert.UpdVecIdeal.main_arg1) = m ((c.tc : Thread Cert.UpdVecIdeal.nD Cert.UpdVecIdeal.τ).loc Cert.UpdVecIdeal.main_arg1)
          ∧ r.2.mem ((c.tc : Thread Cert.UpdVecIdeal.nD Cert.UpdVecIdeal.τ).loc Cert.UpdVecIdeal.main_arg2) = m ((c.tc : Thread Cert.UpdVecIdeal.nD Cert.UpdVecIdeal.τ).loc Cert.UpdVecIdeal.main_arg2)
          ∧ r.2.mem ((c.tc : Thread Cert.UpdVecIdeal.nD Cert.UpdVecIdeal.τ).loc Cert.UpdVecIdeal.main_arg3) = m ((c.tc : Thread Cert.UpdVecIdeal.nD Cert.UpdVecIdeal.τ).loc Cert.UpdVecIdeal.main_arg3))
      ∧ θ_run (Cert.RefUpdVecIdeal.defs (F := Ideal)) (onTc (τ := Cert.RefUpdVecIdeal.τ) (Cert.RefUpdVecIdeal.main (F := Ideal))) ⟨m', fun _ => 0, g'⟩ (fun r => ∀ c : Dev Cert.RefUpdVecIdeal.nD,
          r.2.mem ((c.tc : Thread Cert.RefUpdVecIdeal.nD Cert.RefUpdVecIdeal.τ).loc Cert.RefUpdVecIdeal.main_v23) = v0 c
          ∧ r.2.mem ((c.tc : Thread Cert.RefUpdVecIdeal.nD Cert.RefUpdVecIdeal.τ).loc Cert.RefUpdVecIdeal.main_v4) = v1 c
          ∧ r.2.mem ((c.tc : Thread Cert.RefUpdVecIdeal.nD Cert.RefUpdVecIdeal.τ).loc Cert.RefUpdVecIdeal.main_v10) = v2 c
          ∧ r.2.mem ((c.tc : Thread Cert.RefUpdVecIdeal.nD Cert.RefUpdVecIdeal.τ).loc Cert.RefUpdVecIdeal.main_arg0) = m' ((c.tc : Thread Cert.RefUpdVecIdeal.nD Cert.RefUpdVecIdeal.τ).loc Cert.RefUpdVecIdeal.main_arg0)
          ∧ r.2.mem ((c.tc : Thread Cert.RefUpdVecIdeal.nD Cert.RefUpdVecIdeal.τ).loc Cert.RefUpdVecIdeal.main_arg1) = m' ((c.tc : Thread Cert.RefUpdVecIdeal.nD Cert.RefUpdVecIdeal.τ).loc Cert.RefUpdVecIdeal.main_arg1)
          ∧ r.2.mem ((c.tc : Thread Cert.RefUpdVecIdeal.nD Cert.RefUpdVecIdeal.τ).loc Cert.RefUpdVecIdeal.main_arg2) = m' ((c.tc : Thread Cert.RefUpdVecIdeal.nD Cert.RefUpdVecIdeal.τ).loc Cert.RefUpdVecIdeal.main_arg2)
          ∧ r.2.mem ((c.tc : Thread Cert.RefUpdVecIdeal.nD Cert.RefUpdVecIdeal.τ).loc Cert.RefUpdVecIdeal.main_arg3) = m' ((c.tc : Thread Cert.RefUpdVecIdeal.nD Cert.RefUpdVecIdeal.τ).loc Cert.RefUpdVecIdeal.main_arg3))

def preserves_Loss_LossIdeal : Prop :=
  True

def algebraic_LossIdeal_RefLossIdeal [hLossIdeal : Cert.LossIdeal.Facts] [hRefLossIdeal : Cert.RefLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v14) = v0 c
          ∧ r.2.mem ((c.tc : Thread Cert.RefLossIdeal.nD Cert.RefLossIdeal.τ).loc Cert.RefLossIdeal.main_v15) = v1 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1))

def preserves_ConvBack_ConvBackIdeal : Prop :=
  True

def algebraic_ConvBackIdeal_RefConvBackIdeal [hConvBackIdeal : Cert.ConvBackIdeal.Facts] [hRefConvBackIdeal : Cert.RefConvBackIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg)
    (m' : (ℓ : Loc Cert.RefConvBackIdeal.nD Cert.RefConvBackIdeal.τ Cert.RefConvBackIdeal.sig) → Buf (Elt Ideal) ℓ) (g' : Dev Cert.RefConvBackIdeal.nD → PrngReg), Pre_ConvBackIdeal m →
    (∀ c : Dev Cert.ConvBackIdeal.nD,
      m' ((c.tc : Thread Cert.RefConvBackIdeal.nD Cert.RefConvBackIdeal.τ).loc Cert.RefConvBackIdeal.main_arg0) = m ((c.tc : Thread Cert.ConvBackIdeal.nD Cert.ConvBackIdeal.τ).loc Cert.ConvBackIdeal.main_arg0)
      ∧ m' ((c.tc : Thread Cert.RefConvBackIdeal.nD Cert.RefConvBackIdeal.τ).loc Cert.RefConvBackIdeal.main_arg1) = m ((c.tc : Thread Cert.ConvBackIdeal.nD Cert.ConvBackIdeal.τ).loc Cert.ConvBackIdeal.main_arg1)
      ∧ m' ((c.tc : Thread Cert.RefConvBackIdeal.nD Cert.RefConvBackIdeal.τ).loc Cert.RefConvBackIdeal.main_arg2) = m ((c.tc : Thread Cert.ConvBackIdeal.nD Cert.ConvBackIdeal.τ).loc Cert.ConvBackIdeal.main_arg2)) →
    ∃ (v0 : (c : Dev Cert.ConvBackIdeal.nD) → Buf (Elt Ideal) ((c.tc : Thread Cert.ConvBackIdeal.nD Cert.ConvBackIdeal.τ).loc Cert.ConvBackIdeal.main_v0_0)) (v1 : (c : Dev Cert.ConvBackIdeal.nD) → Buf (Elt Ideal) ((c.tc : Thread Cert.ConvBackIdeal.nD Cert.ConvBackIdeal.τ).loc Cert.ConvBackIdeal.main_v0_1)) (v2 : (c : Dev Cert.ConvBackIdeal.nD) → Buf (Elt Ideal) ((c.tc : Thread Cert.ConvBackIdeal.nD Cert.ConvBackIdeal.τ).loc Cert.ConvBackIdeal.main_v0_2)),
      θ_run (Cert.ConvBackIdeal.defs (F := Ideal)) (onTc (τ := Cert.ConvBackIdeal.τ) (Cert.ConvBackIdeal.main (F := Ideal))) ⟨m, fun _ => 0, g⟩ (fun r => ∀ c : Dev Cert.ConvBackIdeal.nD,
          r.2.mem ((c.tc : Thread Cert.ConvBackIdeal.nD Cert.ConvBackIdeal.τ).loc Cert.ConvBackIdeal.main_v0_0) = v0 c
          ∧ r.2.mem ((c.tc : Thread Cert.ConvBackIdeal.nD Cert.ConvBackIdeal.τ).loc Cert.ConvBackIdeal.main_v0_1) = v1 c
          ∧ r.2.mem ((c.tc : Thread Cert.ConvBackIdeal.nD Cert.ConvBackIdeal.τ).loc Cert.ConvBackIdeal.main_v0_2) = v2 c
          ∧ r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
          ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
          ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2))
      ∧ θ_run (Cert.RefConvBackIdeal.defs (F := Ideal)) (onTc (τ := Cert.RefConvBackIdeal.τ) (Cert.RefConvBackIdeal.main (F := Ideal))) ⟨m', fun _ => 0, g'⟩ (fun r => ∀ c : Dev Cert.RefConvBackIdeal.nD,
          r.2.mem ((c.tc : Thread Cert.RefConvBackIdeal.nD Cert.RefConvBackIdeal.τ).loc Cert.RefConvBackIdeal.main_v90) = v0 c
          ∧ r.2.mem ((c.tc : Thread Cert.RefConvBackIdeal.nD Cert.RefConvBackIdeal.τ).loc Cert.RefConvBackIdeal.main_v84) = v1 c
          ∧ r.2.mem ((c.tc : Thread Cert.RefConvBackIdeal.nD Cert.RefConvBackIdeal.τ).loc Cert.RefConvBackIdeal.main_v44) = v2 c
          ∧ r.2.mem ((c.tc : Thread Cert.RefConvBackIdeal.nD Cert.RefConvBackIdeal.τ).loc Cert.RefConvBackIdeal.main_arg0) = m' ((c.tc : Thread Cert.RefConvBackIdeal.nD Cert.RefConvBackIdeal.τ).loc Cert.RefConvBackIdeal.main_arg0)
          ∧ r.2.mem ((c.tc : Thread Cert.RefConvBackIdeal.nD Cert.RefConvBackIdeal.τ).loc Cert.RefConvBackIdeal.main_arg1) = m' ((c.tc : Thread Cert.RefConvBackIdeal.nD Cert.RefConvBackIdeal.τ).loc Cert.RefConvBackIdeal.main_arg1)
          ∧ r.2.mem ((c.tc : Thread Cert.RefConvBackIdeal.nD Cert.RefConvBackIdeal.τ).loc Cert.RefConvBackIdeal.main_arg2) = m' ((c.tc : Thread Cert.RefConvBackIdeal.nD Cert.RefConvBackIdeal.τ).loc Cert.RefConvBackIdeal.main_arg2))

def preserves_SumParts_SumPartsIdeal : Prop :=
  True

def algebraic_SumPartsIdeal_RefSumPartsIdeal [hSumPartsIdeal : Cert.SumPartsIdeal.Facts] [hRefSumPartsIdeal : Cert.RefSumPartsIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg)
    (m' : (ℓ : Loc Cert.RefSumPartsIdeal.nD Cert.RefSumPartsIdeal.τ Cert.RefSumPartsIdeal.sig) → Buf (Elt Ideal) ℓ) (g' : Dev Cert.RefSumPartsIdeal.nD → PrngReg), Pre_SumPartsIdeal m →
    (∀ c : Dev Cert.SumPartsIdeal.nD,
      m' ((c.tc : Thread Cert.RefSumPartsIdeal.nD Cert.RefSumPartsIdeal.τ).loc Cert.RefSumPartsIdeal.main_arg0) = m ((c.tc : Thread Cert.SumPartsIdeal.nD Cert.SumPartsIdeal.τ).loc Cert.SumPartsIdeal.main_arg0)) →
    ∃ (v0 : (c : Dev Cert.SumPartsIdeal.nD) → Buf (Elt Ideal) ((c.tc : Thread Cert.SumPartsIdeal.nD Cert.SumPartsIdeal.τ).loc Cert.SumPartsIdeal.main_v0)),
      θ_run (Cert.SumPartsIdeal.defs (F := Ideal)) (onTc (τ := Cert.SumPartsIdeal.τ) (Cert.SumPartsIdeal.main (F := Ideal))) ⟨m, fun _ => 0, g⟩ (fun r => ∀ c : Dev Cert.SumPartsIdeal.nD,
          r.2.mem ((c.tc : Thread Cert.SumPartsIdeal.nD Cert.SumPartsIdeal.τ).loc Cert.SumPartsIdeal.main_v0) = v0 c
          ∧ r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ θ_run (Cert.RefSumPartsIdeal.defs (F := Ideal)) (onTc (τ := Cert.RefSumPartsIdeal.τ) (Cert.RefSumPartsIdeal.main (F := Ideal))) ⟨m', fun _ => 0, g'⟩ (fun r => ∀ c : Dev Cert.RefSumPartsIdeal.nD,
          r.2.mem ((c.tc : Thread Cert.RefSumPartsIdeal.nD Cert.RefSumPartsIdeal.τ).loc Cert.RefSumPartsIdeal.main_v0) = v0 c
          ∧ r.2.mem ((c.tc : Thread Cert.RefSumPartsIdeal.nD Cert.RefSumPartsIdeal.τ).loc Cert.RefSumPartsIdeal.main_arg0) = m' ((c.tc : Thread Cert.RefSumPartsIdeal.nD Cert.RefSumPartsIdeal.τ).loc Cert.RefSumPartsIdeal.main_arg0))

def preserves_PairSum_PairSumIdeal : Prop :=
  True

def algebraic_PairSumIdeal_RefPairSumIdeal [hPairSumIdeal : Cert.PairSumIdeal.Facts] [hRefPairSumIdeal : Cert.RefPairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.RefPairSumIdeal.nD Cert.RefPairSumIdeal.τ Cert.RefPairSumIdeal.sig) → Buf (Elt Ideal) ℓ) (g' : Dev Cert.RefPairSumIdeal.nD → PrngReg), Pre_PairSumIdeal m →
    (∀ c : Dev Cert.PairSumIdeal.nD,
      m' ((c.tc : Thread Cert.RefPairSumIdeal.nD Cert.RefPairSumIdeal.τ).loc Cert.RefPairSumIdeal.main_arg0) = m ((c.tc : Thread Cert.PairSumIdeal.nD Cert.PairSumIdeal.τ).loc Cert.PairSumIdeal.main_arg0)
      ∧ m' ((c.tc : Thread Cert.RefPairSumIdeal.nD Cert.RefPairSumIdeal.τ).loc Cert.RefPairSumIdeal.main_arg1) = m ((c.tc : Thread Cert.PairSumIdeal.nD Cert.PairSumIdeal.τ).loc Cert.PairSumIdeal.main_arg1)
      ∧ m' ((c.tc : Thread Cert.RefPairSumIdeal.nD Cert.RefPairSumIdeal.τ).loc Cert.RefPairSumIdeal.main_arg2) = m ((c.tc : Thread Cert.PairSumIdeal.nD Cert.PairSumIdeal.τ).loc Cert.PairSumIdeal.main_arg2)) →
    ∃ (v0 : (c : Dev Cert.PairSumIdeal.nD) → Buf (Elt Ideal) ((c.tc : Thread Cert.PairSumIdeal.nD Cert.PairSumIdeal.τ).loc Cert.PairSumIdeal.main_v1)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v1) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
          ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ θ_run (Cert.RefPairSumIdeal.defs (F := Ideal)) (onTc (τ := Cert.RefPairSumIdeal.τ) (Cert.RefPairSumIdeal.main (F := Ideal))) ⟨m', fun _ => 0, g'⟩ (fun r => ∀ c : Dev Cert.RefPairSumIdeal.nD,
          r.2.mem ((c.tc : Thread Cert.RefPairSumIdeal.nD Cert.RefPairSumIdeal.τ).loc Cert.RefPairSumIdeal.main_v3) = v0 c
          ∧ r.2.mem ((c.tc : Thread Cert.RefPairSumIdeal.nD Cert.RefPairSumIdeal.τ).loc Cert.RefPairSumIdeal.main_arg0) = m' ((c.tc : Thread Cert.RefPairSumIdeal.nD Cert.RefPairSumIdeal.τ).loc Cert.RefPairSumIdeal.main_arg0)
          ∧ r.2.mem ((c.tc : Thread Cert.RefPairSumIdeal.nD Cert.RefPairSumIdeal.τ).loc Cert.RefPairSumIdeal.main_arg1) = m' ((c.tc : Thread Cert.RefPairSumIdeal.nD Cert.RefPairSumIdeal.τ).loc Cert.RefPairSumIdeal.main_arg1)
          ∧ r.2.mem ((c.tc : Thread Cert.RefPairSumIdeal.nD Cert.RefPairSumIdeal.τ).loc Cert.RefPairSumIdeal.main_arg2) = m' ((c.tc : Thread Cert.RefPairSumIdeal.nD Cert.RefPairSumIdeal.τ).loc Cert.RefPairSumIdeal.main_arg2))

def preserves_ChipSum_ChipSumIdeal : Prop :=
  True

def algebraic_ChipSumIdeal_RefChipSumIdeal [hChipSumIdeal : Cert.ChipSumIdeal.Facts] [hRefChipSumIdeal : Cert.RefChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.RefChipSumIdeal.nD Cert.RefChipSumIdeal.τ Cert.RefChipSumIdeal.sig) → Buf (Elt Ideal) ℓ) (g' : Dev Cert.RefChipSumIdeal.nD → PrngReg), Pre_ChipSumIdeal m →
    (∀ c : Dev Cert.ChipSumIdeal.nD,
      m' ((c.tc : Thread Cert.RefChipSumIdeal.nD Cert.RefChipSumIdeal.τ).loc Cert.RefChipSumIdeal.main_arg0) = m ((c.tc : Thread Cert.ChipSumIdeal.nD Cert.ChipSumIdeal.τ).loc Cert.ChipSumIdeal.main_arg0)
      ∧ m' ((c.tc : Thread Cert.RefChipSumIdeal.nD Cert.RefChipSumIdeal.τ).loc Cert.RefChipSumIdeal.main_arg1) = m ((c.tc : Thread Cert.ChipSumIdeal.nD Cert.ChipSumIdeal.τ).loc Cert.ChipSumIdeal.main_arg1)
      ∧ m' ((c.tc : Thread Cert.RefChipSumIdeal.nD Cert.RefChipSumIdeal.τ).loc Cert.RefChipSumIdeal.main_arg2) = m ((c.tc : Thread Cert.ChipSumIdeal.nD Cert.ChipSumIdeal.τ).loc Cert.ChipSumIdeal.main_arg2)) →
    ∃ (v0 : (c : Dev Cert.ChipSumIdeal.nD) → Buf (Elt Ideal) ((c.tc : Thread Cert.ChipSumIdeal.nD Cert.ChipSumIdeal.τ).loc Cert.ChipSumIdeal.main_v1)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v1) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
          ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2))
      ∧ θ_run (Cert.RefChipSumIdeal.defs (F := Ideal)) (onTc (τ := Cert.RefChipSumIdeal.τ) (Cert.RefChipSumIdeal.main (F := Ideal))) ⟨m', fun _ => 0, g'⟩ (fun r => ∀ c : Dev Cert.RefChipSumIdeal.nD,
          r.2.mem ((c.tc : Thread Cert.RefChipSumIdeal.nD Cert.RefChipSumIdeal.τ).loc Cert.RefChipSumIdeal.main_v5) = v0 c
          ∧ r.2.mem ((c.tc : Thread Cert.RefChipSumIdeal.nD Cert.RefChipSumIdeal.τ).loc Cert.RefChipSumIdeal.main_arg0) = m' ((c.tc : Thread Cert.RefChipSumIdeal.nD Cert.RefChipSumIdeal.τ).loc Cert.RefChipSumIdeal.main_arg0)
          ∧ r.2.mem ((c.tc : Thread Cert.RefChipSumIdeal.nD Cert.RefChipSumIdeal.τ).loc Cert.RefChipSumIdeal.main_arg1) = m' ((c.tc : Thread Cert.RefChipSumIdeal.nD Cert.RefChipSumIdeal.τ).loc Cert.RefChipSumIdeal.main_arg1)
          ∧ r.2.mem ((c.tc : Thread Cert.RefChipSumIdeal.nD Cert.RefChipSumIdeal.τ).loc Cert.RefChipSumIdeal.main_arg2) = m' ((c.tc : Thread Cert.RefChipSumIdeal.nD Cert.RefChipSumIdeal.τ).loc Cert.RefChipSumIdeal.main_arg2))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hRefDwUpIdeal : Cert.RefDwUpIdeal.Facts) (hDwDown : Cert.DwDown.Facts) (hDwDownIdeal : Cert.DwDownIdeal.Facts) (hRefDwDownIdeal : Cert.RefDwDownIdeal.Facts) (hDwGate : Cert.DwGate.Facts) (hDwGateIdeal : Cert.DwGateIdeal.Facts) (hRefDwGateIdeal : Cert.RefDwGateIdeal.Facts) (hDwMid : Cert.DwMid.Facts) (hDwMidIdeal : Cert.DwMidIdeal.Facts) (hRefDwMidIdeal : Cert.RefDwMidIdeal.Facts) (hDwMerge : Cert.DwMerge.Facts) (hDwMergeIdeal : Cert.DwMergeIdeal.Facts) (hRefDwMergeIdeal : Cert.RefDwMergeIdeal.Facts) (hDwOut : Cert.DwOut.Facts) (hDwOutIdeal : Cert.DwOutIdeal.Facts) (hRefDwOutIdeal : Cert.RefDwOutIdeal.Facts) (hDwSmall : Cert.DwSmall.Facts) (hDwSmallIdeal : Cert.DwSmallIdeal.Facts) (hRefDwSmallIdeal : Cert.RefDwSmallIdeal.Facts) (hUp : Cert.Up.Facts) (hUpIdeal : Cert.UpIdeal.Facts) (hRefUpIdeal : Cert.RefUpIdeal.Facts) (hDown : Cert.Down.Facts) (hDownIdeal : Cert.DownIdeal.Facts) (hRefDownIdeal : Cert.RefDownIdeal.Facts) (hMixIn : Cert.MixIn.Facts) (hMixInIdeal : Cert.MixInIdeal.Facts) (hRefMixInIdeal : Cert.RefMixInIdeal.Facts) (hMixProj : Cert.MixProj.Facts) (hMixProjIdeal : Cert.MixProjIdeal.Facts) (hRefMixProjIdeal : Cert.RefMixProjIdeal.Facts) (hMixOut : Cert.MixOut.Facts) (hMixOutIdeal : Cert.MixOutIdeal.Facts) (hRefMixOutIdeal : Cert.RefMixOutIdeal.Facts) (hBackProj : Cert.BackProj.Facts) (hBackProjIdeal : Cert.BackProjIdeal.Facts) (hRefBackProjIdeal : Cert.RefBackProjIdeal.Facts) (hPre : Cert.Pre.Facts) (hPreIdeal : Cert.PreIdeal.Facts) (hRefPreIdeal : Cert.RefPreIdeal.Facts) (hBackIn : Cert.BackIn.Facts) (hBackInIdeal : Cert.BackInIdeal.Facts) (hRefBackInIdeal : Cert.RefBackInIdeal.Facts) (hPost : Cert.Post.Facts) (hPostIdeal : Cert.PostIdeal.Facts) (hRefPostIdeal : Cert.RefPostIdeal.Facts) (hMixBack : Cert.MixBack.Facts) (hMixBackIdeal : Cert.MixBackIdeal.Facts) (hRefMixBackIdeal : Cert.RefMixBackIdeal.Facts) (hUpdUp : Cert.UpdUp.Facts) (hUpdUpIdeal : Cert.UpdUpIdeal.Facts) (hRefUpdUpIdeal : Cert.RefUpdUpIdeal.Facts) (hUpdDown : Cert.UpdDown.Facts) (hUpdDownIdeal : Cert.UpdDownIdeal.Facts) (hRefUpdDownIdeal : Cert.RefUpdDownIdeal.Facts) (hUpdIn : Cert.UpdIn.Facts) (hUpdInIdeal : Cert.UpdInIdeal.Facts) (hRefUpdInIdeal : Cert.RefUpdInIdeal.Facts) (hUpdGate : Cert.UpdGate.Facts) (hUpdGateIdeal : Cert.UpdGateIdeal.Facts) (hRefUpdGateIdeal : Cert.RefUpdGateIdeal.Facts) (hUpdOut : Cert.UpdOut.Facts) (hUpdOutIdeal : Cert.UpdOutIdeal.Facts) (hRefUpdOutIdeal : Cert.RefUpdOutIdeal.Facts) (hUpdBranch : Cert.UpdBranch.Facts) (hUpdBranchIdeal : Cert.UpdBranchIdeal.Facts) (hRefUpdBranchIdeal : Cert.RefUpdBranchIdeal.Facts) (hUpdVec : Cert.UpdVec.Facts) (hUpdVecIdeal : Cert.UpdVecIdeal.Facts) (hRefUpdVecIdeal : Cert.RefUpdVecIdeal.Facts) (hLoss : Cert.Loss.Facts) (hLossIdeal : Cert.LossIdeal.Facts) (hRefLossIdeal : Cert.RefLossIdeal.Facts) (hConvBack : Cert.ConvBack.Facts) (hConvBackIdeal : Cert.ConvBackIdeal.Facts) (hRefConvBackIdeal : Cert.RefConvBackIdeal.Facts) (hSumParts : Cert.SumParts.Facts) (hSumPartsIdeal : Cert.SumPartsIdeal.Facts) (hRefSumPartsIdeal : Cert.RefSumPartsIdeal.Facts) (hPairSum : Cert.PairSum.Facts) (hPairSumIdeal : Cert.PairSumIdeal.Facts) (hRefPairSumIdeal : Cert.RefPairSumIdeal.Facts) (hChipSum : Cert.ChipSum.Facts) (hChipSumIdeal : Cert.ChipSumIdeal.Facts) (hRefChipSumIdeal : Cert.RefChipSumIdeal.Facts) (hPre_finite : Cert.Pre_finite.Facts) (hPre_finite_pre : Cert.Pre_finite_pre.Facts) (hPre_finite_backin : Cert.Pre_finite_backin.Facts) (hPre_finite_post : Cert.Pre_finite_post.Facts) (hPre_finite_mixback : Cert.Pre_finite_mixback.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwUp (hDwUp := hDwUp)
    ∧ quiescent_DwUpIdeal (hDwUpIdeal := hDwUpIdeal)
    ∧ quiescent_RefDwUpIdeal (hRefDwUpIdeal := hRefDwUpIdeal)
    ∧ quiescent_DwDown (hDwDown := hDwDown)
    ∧ quiescent_DwDownIdeal (hDwDownIdeal := hDwDownIdeal)
    ∧ quiescent_RefDwDownIdeal (hRefDwDownIdeal := hRefDwDownIdeal)
    ∧ quiescent_DwGate (hDwGate := hDwGate)
    ∧ quiescent_DwGateIdeal (hDwGateIdeal := hDwGateIdeal)
    ∧ quiescent_RefDwGateIdeal (hRefDwGateIdeal := hRefDwGateIdeal)
    ∧ quiescent_DwMid (hDwMid := hDwMid)
    ∧ quiescent_DwMidIdeal (hDwMidIdeal := hDwMidIdeal)
    ∧ quiescent_RefDwMidIdeal (hRefDwMidIdeal := hRefDwMidIdeal)
    ∧ quiescent_DwMerge (hDwMerge := hDwMerge)
    ∧ quiescent_DwMergeIdeal (hDwMergeIdeal := hDwMergeIdeal)
    ∧ quiescent_RefDwMergeIdeal (hRefDwMergeIdeal := hRefDwMergeIdeal)
    ∧ quiescent_DwOut (hDwOut := hDwOut)
    ∧ quiescent_DwOutIdeal (hDwOutIdeal := hDwOutIdeal)
    ∧ quiescent_RefDwOutIdeal (hRefDwOutIdeal := hRefDwOutIdeal)
    ∧ quiescent_DwSmall (hDwSmall := hDwSmall)
    ∧ quiescent_DwSmallIdeal (hDwSmallIdeal := hDwSmallIdeal)
    ∧ quiescent_RefDwSmallIdeal (hRefDwSmallIdeal := hRefDwSmallIdeal)
    ∧ quiescent_Up (hUp := hUp)
    ∧ quiescent_UpIdeal (hUpIdeal := hUpIdeal)
    ∧ quiescent_RefUpIdeal (hRefUpIdeal := hRefUpIdeal)
    ∧ quiescent_Down (hDown := hDown)
    ∧ quiescent_DownIdeal (hDownIdeal := hDownIdeal)
    ∧ quiescent_RefDownIdeal (hRefDownIdeal := hRefDownIdeal)
    ∧ quiescent_MixIn (hMixIn := hMixIn)
    ∧ quiescent_MixInIdeal (hMixInIdeal := hMixInIdeal)
    ∧ quiescent_RefMixInIdeal (hRefMixInIdeal := hRefMixInIdeal)
    ∧ quiescent_MixProj (hMixProj := hMixProj)
    ∧ quiescent_MixProjIdeal (hMixProjIdeal := hMixProjIdeal)
    ∧ quiescent_RefMixProjIdeal (hRefMixProjIdeal := hRefMixProjIdeal)
    ∧ quiescent_MixOut (hMixOut := hMixOut)
    ∧ quiescent_MixOutIdeal (hMixOutIdeal := hMixOutIdeal)
    ∧ quiescent_RefMixOutIdeal (hRefMixOutIdeal := hRefMixOutIdeal)
    ∧ quiescent_BackProj (hBackProj := hBackProj)
    ∧ quiescent_BackProjIdeal (hBackProjIdeal := hBackProjIdeal)
    ∧ quiescent_RefBackProjIdeal (hRefBackProjIdeal := hRefBackProjIdeal)
    ∧ quiescent_Pre (hPre := hPre)
    ∧ quiescent_PreIdeal (hPreIdeal := hPreIdeal)
    ∧ quiescent_PreIdeal_pre_finite_pre (hPreIdeal := hPreIdeal) (hPre_finite_pre := hPre_finite_pre)
    ∧ quiescent_RefPreIdeal (hRefPreIdeal := hRefPreIdeal)
    ∧ quiescent_RefPreIdeal_pre_finite_pre (hRefPreIdeal := hRefPreIdeal) (hPre_finite_pre := hPre_finite_pre)
    ∧ quiescent_BackIn (hBackIn := hBackIn)
    ∧ quiescent_BackInIdeal (hBackInIdeal := hBackInIdeal)
    ∧ quiescent_BackInIdeal_pre_finite_backin (hBackInIdeal := hBackInIdeal) (hPre_finite_backin := hPre_finite_backin)
    ∧ quiescent_RefBackInIdeal (hRefBackInIdeal := hRefBackInIdeal)
    ∧ quiescent_RefBackInIdeal_pre_finite_backin (hRefBackInIdeal := hRefBackInIdeal) (hPre_finite_backin := hPre_finite_backin)
    ∧ quiescent_Post (hPost := hPost)
    ∧ quiescent_PostIdeal (hPostIdeal := hPostIdeal)
    ∧ quiescent_PostIdeal_pre_finite_post (hPostIdeal := hPostIdeal) (hPre_finite_post := hPre_finite_post)
    ∧ quiescent_RefPostIdeal (hRefPostIdeal := hRefPostIdeal)
    ∧ quiescent_RefPostIdeal_pre_finite_post (hRefPostIdeal := hRefPostIdeal) (hPre_finite_post := hPre_finite_post)
    ∧ quiescent_MixBack (hMixBack := hMixBack)
    ∧ quiescent_MixBackIdeal (hMixBackIdeal := hMixBackIdeal)
    ∧ quiescent_MixBackIdeal_pre_finite_mixback (hMixBackIdeal := hMixBackIdeal) (hPre_finite_mixback := hPre_finite_mixback)
    ∧ quiescent_RefMixBackIdeal (hRefMixBackIdeal := hRefMixBackIdeal)
    ∧ quiescent_RefMixBackIdeal_pre_finite_mixback (hRefMixBackIdeal := hRefMixBackIdeal) (hPre_finite_mixback := hPre_finite_mixback)
    ∧ quiescent_UpdUp (hUpdUp := hUpdUp)
    ∧ quiescent_UpdUpIdeal (hUpdUpIdeal := hUpdUpIdeal)
    ∧ quiescent_RefUpdUpIdeal (hRefUpdUpIdeal := hRefUpdUpIdeal)
    ∧ quiescent_UpdDown (hUpdDown := hUpdDown)
    ∧ quiescent_UpdDownIdeal (hUpdDownIdeal := hUpdDownIdeal)
    ∧ quiescent_RefUpdDownIdeal (hRefUpdDownIdeal := hRefUpdDownIdeal)
    ∧ quiescent_UpdIn (hUpdIn := hUpdIn)
    ∧ quiescent_UpdInIdeal (hUpdInIdeal := hUpdInIdeal)
    ∧ quiescent_RefUpdInIdeal (hRefUpdInIdeal := hRefUpdInIdeal)
    ∧ quiescent_UpdGate (hUpdGate := hUpdGate)
    ∧ quiescent_UpdGateIdeal (hUpdGateIdeal := hUpdGateIdeal)
    ∧ quiescent_RefUpdGateIdeal (hRefUpdGateIdeal := hRefUpdGateIdeal)
    ∧ quiescent_UpdOut (hUpdOut := hUpdOut)
    ∧ quiescent_UpdOutIdeal (hUpdOutIdeal := hUpdOutIdeal)
    ∧ quiescent_RefUpdOutIdeal (hRefUpdOutIdeal := hRefUpdOutIdeal)
    ∧ quiescent_UpdBranch (hUpdBranch := hUpdBranch)
    ∧ quiescent_UpdBranchIdeal (hUpdBranchIdeal := hUpdBranchIdeal)
    ∧ quiescent_RefUpdBranchIdeal (hRefUpdBranchIdeal := hRefUpdBranchIdeal)
    ∧ quiescent_UpdVec (hUpdVec := hUpdVec)
    ∧ quiescent_UpdVecIdeal (hUpdVecIdeal := hUpdVecIdeal)
    ∧ quiescent_RefUpdVecIdeal (hRefUpdVecIdeal := hRefUpdVecIdeal)
    ∧ quiescent_Loss (hLoss := hLoss)
    ∧ quiescent_LossIdeal (hLossIdeal := hLossIdeal)
    ∧ quiescent_RefLossIdeal (hRefLossIdeal := hRefLossIdeal)
    ∧ quiescent_ConvBack (hConvBack := hConvBack)
    ∧ quiescent_ConvBackIdeal (hConvBackIdeal := hConvBackIdeal)
    ∧ quiescent_RefConvBackIdeal (hRefConvBackIdeal := hRefConvBackIdeal)
    ∧ quiescent_SumParts (hSumParts := hSumParts)
    ∧ quiescent_SumPartsIdeal (hSumPartsIdeal := hSumPartsIdeal)
    ∧ quiescent_RefSumPartsIdeal (hRefSumPartsIdeal := hRefSumPartsIdeal)
    ∧ quiescent_PairSum (hPairSum := hPairSum)
    ∧ quiescent_PairSumIdeal (hPairSumIdeal := hPairSumIdeal)
    ∧ quiescent_RefPairSumIdeal (hRefPairSumIdeal := hRefPairSumIdeal)
    ∧ quiescent_ChipSum (hChipSum := hChipSum)
    ∧ quiescent_ChipSumIdeal (hChipSumIdeal := hChipSumIdeal)
    ∧ quiescent_RefChipSumIdeal (hRefChipSumIdeal := hRefChipSumIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwUp_DwUpIdeal
    ∧ algebraic_DwUpIdeal_RefDwUpIdeal (hDwUpIdeal := hDwUpIdeal) (hRefDwUpIdeal := hRefDwUpIdeal)
    ∧ preserves_DwDown_DwDownIdeal
    ∧ algebraic_DwDownIdeal_RefDwDownIdeal (hDwDownIdeal := hDwDownIdeal) (hRefDwDownIdeal := hRefDwDownIdeal)
    ∧ preserves_DwGate_DwGateIdeal
    ∧ algebraic_DwGateIdeal_RefDwGateIdeal (hDwGateIdeal := hDwGateIdeal) (hRefDwGateIdeal := hRefDwGateIdeal)
    ∧ preserves_DwMid_DwMidIdeal
    ∧ algebraic_DwMidIdeal_RefDwMidIdeal (hDwMidIdeal := hDwMidIdeal) (hRefDwMidIdeal := hRefDwMidIdeal)
    ∧ preserves_DwMerge_DwMergeIdeal
    ∧ algebraic_DwMergeIdeal_RefDwMergeIdeal (hDwMergeIdeal := hDwMergeIdeal) (hRefDwMergeIdeal := hRefDwMergeIdeal)
    ∧ preserves_DwOut_DwOutIdeal
    ∧ algebraic_DwOutIdeal_RefDwOutIdeal (hDwOutIdeal := hDwOutIdeal) (hRefDwOutIdeal := hRefDwOutIdeal)
    ∧ preserves_DwSmall_DwSmallIdeal
    ∧ algebraic_DwSmallIdeal_RefDwSmallIdeal (hDwSmallIdeal := hDwSmallIdeal) (hRefDwSmallIdeal := hRefDwSmallIdeal)
    ∧ preserves_Up_UpIdeal
    ∧ algebraic_UpIdeal_RefUpIdeal (hUpIdeal := hUpIdeal) (hRefUpIdeal := hRefUpIdeal)
    ∧ preserves_Down_DownIdeal
    ∧ algebraic_DownIdeal_RefDownIdeal (hDownIdeal := hDownIdeal) (hRefDownIdeal := hRefDownIdeal)
    ∧ preserves_MixIn_MixInIdeal
    ∧ algebraic_MixInIdeal_RefMixInIdeal (hMixInIdeal := hMixInIdeal) (hRefMixInIdeal := hRefMixInIdeal)
    ∧ preserves_MixProj_MixProjIdeal
    ∧ algebraic_MixProjIdeal_RefMixProjIdeal (hMixProjIdeal := hMixProjIdeal) (hRefMixProjIdeal := hRefMixProjIdeal)
    ∧ preserves_MixOut_MixOutIdeal
    ∧ algebraic_MixOutIdeal_RefMixOutIdeal (hMixOutIdeal := hMixOutIdeal) (hRefMixOutIdeal := hRefMixOutIdeal)
    ∧ preserves_BackProj_BackProjIdeal
    ∧ algebraic_BackProjIdeal_RefBackProjIdeal (hBackProjIdeal := hBackProjIdeal) (hRefBackProjIdeal := hRefBackProjIdeal)
    ∧ preserves_Pre_PreIdeal
    ∧ algebraic_PreIdeal_RefPreIdeal_pre_finite_pre (hPreIdeal := hPreIdeal) (hRefPreIdeal := hRefPreIdeal) (hPre_finite_pre := hPre_finite_pre)
    ∧ preserves_BackIn_BackInIdeal
    ∧ algebraic_BackInIdeal_RefBackInIdeal_pre_finite_backin (hBackInIdeal := hBackInIdeal) (hRefBackInIdeal := hRefBackInIdeal) (hPre_finite_backin := hPre_finite_backin)
    ∧ preserves_Post_PostIdeal
    ∧ algebraic_PostIdeal_RefPostIdeal_pre_finite_post (hPostIdeal := hPostIdeal) (hRefPostIdeal := hRefPostIdeal) (hPre_finite_post := hPre_finite_post)
    ∧ preserves_MixBack_MixBackIdeal
    ∧ algebraic_MixBackIdeal_RefMixBackIdeal_pre_finite_mixback (hMixBackIdeal := hMixBackIdeal) (hRefMixBackIdeal := hRefMixBackIdeal) (hPre_finite_mixback := hPre_finite_mixback)
    ∧ preserves_UpdUp_UpdUpIdeal
    ∧ algebraic_UpdUpIdeal_RefUpdUpIdeal (hUpdUpIdeal := hUpdUpIdeal) (hRefUpdUpIdeal := hRefUpdUpIdeal)
    ∧ preserves_UpdDown_UpdDownIdeal
    ∧ algebraic_UpdDownIdeal_RefUpdDownIdeal (hUpdDownIdeal := hUpdDownIdeal) (hRefUpdDownIdeal := hRefUpdDownIdeal)
    ∧ preserves_UpdIn_UpdInIdeal
    ∧ algebraic_UpdInIdeal_RefUpdInIdeal (hUpdInIdeal := hUpdInIdeal) (hRefUpdInIdeal := hRefUpdInIdeal)
    ∧ preserves_UpdGate_UpdGateIdeal
    ∧ algebraic_UpdGateIdeal_RefUpdGateIdeal (hUpdGateIdeal := hUpdGateIdeal) (hRefUpdGateIdeal := hRefUpdGateIdeal)
    ∧ preserves_UpdOut_UpdOutIdeal
    ∧ algebraic_UpdOutIdeal_RefUpdOutIdeal (hUpdOutIdeal := hUpdOutIdeal) (hRefUpdOutIdeal := hRefUpdOutIdeal)
    ∧ preserves_UpdBranch_UpdBranchIdeal
    ∧ algebraic_UpdBranchIdeal_RefUpdBranchIdeal (hUpdBranchIdeal := hUpdBranchIdeal) (hRefUpdBranchIdeal := hRefUpdBranchIdeal)
    ∧ preserves_UpdVec_UpdVecIdeal
    ∧ algebraic_UpdVecIdeal_RefUpdVecIdeal (hUpdVecIdeal := hUpdVecIdeal) (hRefUpdVecIdeal := hRefUpdVecIdeal)
    ∧ preserves_Loss_LossIdeal
    ∧ algebraic_LossIdeal_RefLossIdeal (hLossIdeal := hLossIdeal) (hRefLossIdeal := hRefLossIdeal)
    ∧ preserves_ConvBack_ConvBackIdeal
    ∧ algebraic_ConvBackIdeal_RefConvBackIdeal (hConvBackIdeal := hConvBackIdeal) (hRefConvBackIdeal := hRefConvBackIdeal)
    ∧ preserves_SumParts_SumPartsIdeal
    ∧ algebraic_SumPartsIdeal_RefSumPartsIdeal (hSumPartsIdeal := hSumPartsIdeal) (hRefSumPartsIdeal := hRefSumPartsIdeal)
    ∧ preserves_PairSum_PairSumIdeal
    ∧ algebraic_PairSumIdeal_RefPairSumIdeal (hPairSumIdeal := hPairSumIdeal) (hRefPairSumIdeal := hRefPairSumIdeal)
    ∧ preserves_ChipSum_ChipSumIdeal
    ∧ algebraic_ChipSumIdeal_RefChipSumIdeal (hChipSumIdeal := hChipSumIdeal) (hRefChipSumIdeal := hRefChipSumIdeal)
-- ==== Pre_finite.lean ====
abbrev S16384x2560 : Shape := ⟨2, ![16384, 2560]⟩
abbrev S16384x512 : Shape := ⟨2, ![16384, 512]⟩
abbrev S3x512 : Shape := ⟨2, ![3, 512]⟩
abbrev S512 : Shape := ⟨1, ![512]⟩
abbrev S4x128x128 : Shape := ⟨3, ![4, 128, 128]⟩
abbrev S4x128 : Shape := ⟨2, ![4, 128]⟩
abbrev S_ : Shape := ⟨0, ![]⟩

class Facts : Prop where
  bitsLt_bf16_f32 : FTy.bits .bf16 < FTy.bits .f32
  bcast_S_S16384x2560 : S_.BroadcastsInDim S16384x2560 (![] : Fin 0 → Fin S16384x2560.rank)
  bcast_S_S16384x512 : S_.BroadcastsInDim S16384x512 (![] : Fin 0 → Fin S16384x512.rank)
  bcast_S_S3x512 : S_.BroadcastsInDim S3x512 (![] : Fin 0 → Fin S3x512.rank)
  bcast_S_S512 : S_.BroadcastsInDim S512 (![] : Fin 0 → Fin S512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn_part1 {F : FTy → Type} [FloatOps F] (main_arg6 : FVec F S4x128x128 .f32) (main_arg7 : FVec F S4x128 .f32) (main_v3 : IVec S16384x2560 1) (main_v6 : IVec S16384x512 1) (main_v9 : IVec S16384x512 1) (main_v12 : IVec S3x512 1) (main_v15 : IVec S512 1) (main_v16 : FVec F S512 .f32) (main_v17 : FVec F S512 .f32) : IVec S16384x2560 1 × IVec S16384x512 1 × IVec S16384x512 1 × IVec S3x512 1 × IVec S512 1 × IVec S512 1 × IVec S4x128x128 1 × IVec S4x128 1 :=
  let main_v18 : IVec S512 1 := cmpf .olt main_v16 main_v17
  let main_v19 : FVec F S4x128x128 .f32 := Host.absf main_arg6
  let main_cst_5 : FVec F S_ .f32 := constant S_ .f32 0x7F800000#32
  let main_v20 : FVec F S4x128x128 .f32 := broadcastInDim S4x128x128 ![] bcast_S_S4x128x128 main_cst_5
  let main_v21 : IVec S4x128x128 1 := cmpf .olt main_v19 main_v20
  let main_v22 : FVec F S4x128 .f32 := Host.absf main_arg7
  let main_cst_6 : FVec F S_ .f32 := constant S_ .f32 0x7F800000#32
  let main_v23 : FVec F S4x128 .f32 := broadcastInDim S4x128 ![] bcast_S_S4x128 main_cst_6
  let main_v24 : IVec S4x128 1 := cmpf .olt main_v22 main_v23
  (main_v3, main_v6, main_v9, main_v12, main_v15, main_v18, main_v21, main_v24)

def fn {F : FTy → Type} [FloatOps F] (main_arg0 : FVec F S16384x2560 .bf16) (main_arg1 : FVec F S16384x512 .f32) (main_arg2 : FVec F S16384x512 .f32) (main_arg3 : FVec F S3x512 .f32) (main_arg4 : FVec F S512 .f32) (main_arg5 : FVec F S512 .f32) (main_arg6 : FVec F S4x128x128 .f32) (main_arg7 : FVec F S4x128 .f32) : IVec S16384x2560 1 × IVec S16384x512 1 × IVec S16384x512 1 × IVec S3x512 1 × IVec S512 1 × IVec S512 1 × IVec S4x128x128 1 × IVec S4x128 1 :=
  let main_v0 : FVec F S16384x2560 .f32 := (extf .f32 · bitsLt_bf16_f32) main_arg0
  let main_v1 : FVec F S16384x2560 .f32 := Host.absf main_v0
  let main_cst : FVec F S_ .f32 := constant S_ .f32 0x7F800000#32
  let main_v2 : FVec F S16384x2560 .f32 := broadcastInDim S16384x2560 ![] bcast_S_S16384x2560 main_cst
  let main_v3 : IVec S16384x2560 1 := cmpf .olt main_v1 main_v2
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_v7 : FVec F S16384x512 .f32 := Host.absf main_arg2
  let main_cst_1 : FVec F S_ .f32 := constant S_ .f32 0x7F800000#32
  let main_v8 : FVec F S16384x512 .f32 := broadcastInDim S16384x512 ![] bcast_S_S16384x512 main_cst_1
  let main_v9 : IVec S16384x512 1 := cmpf .olt main_v7 main_v8
  let main_v10 : FVec F S3x512 .f32 := Host.absf main_arg3
  let main_cst_2 : FVec F S_ .f32 := constant S_ .f32 0x7F800000#32
  let main_v11 : FVec F S3x512 .f32 := broadcastInDim S3x512 ![] bcast_S_S3x512 main_cst_2
  let main_v12 : IVec S3x512 1 := cmpf .olt main_v10 main_v11
  let main_v13 : FVec F S512 .f32 := Host.absf main_arg4
  let main_cst_3 : FVec F S_ .f32 := constant S_ .f32 0x7F800000#32
  let main_v14 : FVec F S512 .f32 := broadcastInDim S512 ![] bcast_S_S512 main_cst_3
  let main_v15 : IVec S512 1 := cmpf .olt main_v13 main_v14
  let main_v16 : FVec F S512 .f32 := Host.absf main_arg5
  let main_cst_4 : FVec F S_ .f32 := constant S_ .f32 0x7F800000#32
  let main_v17 : FVec F S512 .f32 := broadcastInDim S512 ![] bcast_S_S512 main_cst_4
  fn_part1 (F := F) main_arg6 main_arg7 main_v3 main_v6 main_v9 main_v12 main_v15 main_v16 main_v17
-- ==== Pre_finite_backin.lean ====
abbrev S16384x1024 : Shape := ⟨2, ![16384, 1024]⟩
abbrev S16384x2560 : Shape := ⟨2, ![16384, 2560]⟩
abbrev S16384x3072 : Shape := ⟨2, ![16384, 3072]⟩
abbrev S1024x7680 : Shape := ⟨2, ![1024, 7680]⟩
abbrev S1024 : Shape := ⟨1, ![1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S16384x2560 : S_.BroadcastsInDim S16384x2560 (![] : Fin 0 → Fin S16384x2560.rank)
  bcast_S_S16384x3072 : S_.BroadcastsInDim S16384x3072 (![] : Fin 0 → Fin S16384x3072.rank)
  bcast_S_S1024x7680 : S_.BroadcastsInDim S1024x7680 (![] : Fin 0 → Fin S1024x7680.rank)
  bcast_S_S1024 : S_.BroadcastsInDim S1024 (![] : Fin 0 → Fin S1024.rank)

variable [Facts]

def fn_part1 {F : FTy → Type} [FloatOps F] (main_arg5 : FVec F S16384x1024 .f32) (main_arg7 : FVec F S1024 .f32) (main_v3 : IVec S16384x1024 1) (main_v7 : IVec S16384x1024 1) (main_v11 : IVec S16384x2560 1) (main_v15 : IVec S16384x3072 1) (main_v17 : FVec F S1024x7680 .f32) (main_v18 : FVec F S1024x7680 .f32) : IVec S16384x1024 1 × IVec S16384x1024 1 × IVec S16384x2560 1 × IVec S16384x3072 1 × IVec S1024x7680 1 × IVec S16384x1024 1 × IVec S1024 1 :=
  let main_v19 : IVec S1024x7680 1 := cmpf .olt main_v17 main_v18
  let main_v20 : FVec F S16384x1024 .f32 := Host.absf main_arg5
  let main_cst_4 : FVec F S_ .f32 := constant S_ .f32 0x7F800000#32
  let main_v21 : FVec F S16384x1024 .f32 := broadcastInDim S16384x1024 ![] bcast_S_S16384x1024 main_cst_4
  let main_v22 : IVec S16384x1024 1 := cmpf .olt main_v20 main_v21
  let main_v23 : FVec F S1024 .f32 := Host.absf main_arg7
  let main_cst_5 : FVec F S_ .f32 := constant S_ .f32 0x7F800000#32
  let main_v24 : FVec F S1024 .f32 := broadcastInDim S1024 ![] bcast_S_S1024 main_cst_5
  let main_v25 : IVec S1024 1 := cmpf .olt main_v23 main_v24
  (main_v3, main_v7, main_v11, main_v15, main_v19, main_v22, main_v25)

def fn {F : FTy → Type} [FloatOps F] (main_arg0 : FVec F S16384x1024 .bf16) (main_arg1 : FVec F S16384x1024 .bf16) (main_arg2 : FVec F S16384x2560 .bf16) (main_arg3 : FVec F S16384x3072 .bf16) (main_arg4 : FVec F S1024x7680 .bf16) (main_arg5 : FVec F S16384x1024 .f32) (main_arg6 : FVec F S16384x1024 .f32) (main_arg7 : FVec F S1024 .f32) : IVec S16384x1024 1 × IVec S16384x1024 1 × IVec S16384x2560 1 × IVec S16384x3072 1 × IVec S1024x7680 1 × IVec S16384x1024 1 × IVec S1024 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S16384x1024 .f32 := (extf .f32 · bitsLt_bf16_f32) main_arg1
  let main_v5 : FVec F S16384x1024 .f32 := Host.absf main_v4
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_v8 : FVec F S16384x2560 .f32 := (extf .f32 · bitsLt_bf16_f32) main_arg2
  let main_v9 : FVec F S16384x2560 .f32 := Host.absf main_v8
  let main_cst_1 : FVec F S_ .f32 := constant S_ .f32 0x7F800000#32
  let main_v10 : FVec F S16384x2560 .f32 := broadcastInDim S16384x2560 ![] bcast_S_S16384x2560 main_cst_1
  let main_v11 : IVec S16384x2560 1 := cmpf .olt main_v9 main_v10
  let main_v12 : FVec F S16384x3072 .f32 := (extf .f32 · bitsLt_bf16_f32) main_arg3
  let main_v13 : FVec F S16384x3072 .f32 := Host.absf main_v12
  let main_cst_2 : FVec F S_ .f32 := constant S_ .f32 0x7F800000#32
  let main_v14 : FVec F S16384x3072 .f32 := broadcastInDim S16384x3072 ![] bcast_S_S16384x3072 main_cst_2
  let main_v15 : IVec S16384x3072 1 := cmpf .olt main_v13 main_v14
  let main_v16 : FVec F S1024x7680 .f32 := (extf .f32 · bitsLt_bf16_f32) main_arg4
  let main_v17 : FVec F S1024x7680 .f32 := Host.absf main_v16
  let main_cst_3 : FVec F S_ .f32 := constant S_ .f32 0x7F800000#32
  let main_v18 : FVec F S1024x7680 .f32 := broadcastInDim S1024x7680 ![] bcast_S_S1024x7680 main_cst_3
  fn_part1 (F := F) main_arg5 main_arg7 main_v3 main_v7 main_v11 main_v15 main_v17 main_v18
-- ==== Pre_finite_mixback.lean ====
abbrev S16384x1024 : Shape := ⟨2, ![16384, 1024]⟩
abbrev S16384x3072 : Shape := ⟨2, ![16384, 3072]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  bcast_S_S1024 : S_.BroadcastsInDim S1024 (![] : Fin 0 → Fin S1024.rank)

variable [Facts]

def fn {F : FTy → Type} [FloatOps F] (main_arg0 : FVec F S16384x1024 .f32) (main_arg1 : FVec F S16384x1024 .f32) (main_arg2 : FVec F S16384x1024 .bf16) (main_arg3 : FVec F S16384x1024 .bf16) (main_arg4 : FVec F S16384x1024 .bf16) (main_arg5 : FVec F S16384x3072 .bf16) (main_arg6 : FVec F S1024 .f32) (main_arg7 : FVec F S1024x1024 .bf16) : IVec S16384x1024 1 × IVec S16384x1024 1 × IVec S1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x1024 .f32 := Host.absf main_arg1
  let main_cst_0 : FVec F S_ .f32 := constant S_ .f32 0x7F800000#32
  let main_v4 : FVec F S16384x1024 .f32 := broadcastInDim S16384x1024 ![] bcast_S_S16384x1024 main_cst_0
  let main_v5 : IVec S16384x1024 1 := cmpf .olt main_v3 main_v4
  let main_v6 : FVec F S1024 .f32 := Host.absf main_arg6
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_finite_post.lean ====
abbrev S16384x1024 : Shape := ⟨2, ![16384, 1024]⟩
abbrev S16384x2816 : Shape := ⟨2, ![16384, 2816]⟩
abbrev S1024 : Shape := ⟨1, ![1024]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bitsLt_bf16_f32 : FTy.bits .bf16 < FTy.bits .f32
  bcast_S_S16384x2816 : S_.BroadcastsInDim S16384x2816 (![] : Fin 0 → Fin S16384x2816.rank)
  bcast_S_S1024 : S_.BroadcastsInDim S1024 (![] : Fin 0 → Fin S1024.rank)
  bcast_S_S2816x1024 : S_.BroadcastsInDim S2816x1024 (![] : Fin 0 → Fin S2816x1024.rank)

variable [Facts]

def fn {F : FTy → Type} [FloatOps F] (main_arg0 : FVec F S16384x1024 .f32) (main_arg1 : FVec F S16384x2816 .bf16) (main_arg2 : FVec F S16384x2816 .bf16) (main_arg3 : FVec F S1024 .f32) (main_arg4 : FVec F S2816x1024 .bf16) : IVec S16384x1024 1 × IVec S16384x2816 1 × IVec S16384x2816 1 × IVec S1024 1 × IVec S2816x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S16384x2816 .f32 := (extf .f32 · bitsLt_bf16_f32) main_arg1
  let main_v4 : FVec F S16384x2816 .f32 := Host.absf main_v3
  let main_cst_0 : FVec F S_ .f32 := constant S_ .f32 0x7F800000#32
  let main_v5 : FVec F S16384x2816 .f32 := broadcastInDim S16384x2816 ![] bcast_S_S16384x2816 main_cst_0
  let main_v6 : IVec S16384x2816 1 := cmpf .olt main_v4 main_v5
  let main_v7 : FVec F S16384x2816 .f32 := (extf .f32 · bitsLt_bf16_f32) main_arg2
  let main_v8 : FVec F S16384x2816 .f32 := Host.absf main_v7
  let main_cst_1 : FVec F S_ .f32 := constant S_ .f32 0x7F800000#32
  let main_v9 : FVec F S16384x2816 .f32 := broadcastInDim S16384x2816 ![] bcast_S_S16384x2816 main_cst_1
  let main_v10 : IVec S16384x2816 1 := cmpf .olt main_v8 main_v9
  let main_v11 : FVec F S1024 .f32 := Host.absf main_arg3
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S2816x1024 .f32 := (extf .f32 · bitsLt_bf16_f32) main_arg4
  let main_v15 : FVec F S2816x1024 .f32 := Host.absf main_v14
  let main_cst_3 : FVec F S_ .f32 := constant S_ .f32 0x7F800000#32
  let main_v16 : FVec F S2816x1024 .f32 := broadcastInDim S2816x1024 ![] bcast_S_S2816x1024 main_cst_3
  let main_v17 : IVec S2816x1024 1 := cmpf .olt main_v15 main_v16
  (main_v2, main_v6, main_v10, main_v13, main_v17)
-- ==== Pre_finite_pre.lean ====
abbrev S16384x2816 : Shape := ⟨2, ![16384, 2816]⟩
abbrev S1024x2816 : Shape := ⟨2, ![1024, 2816]⟩
abbrev S16384x1024 : Shape := ⟨2, ![16384, 1024]⟩
abbrev S1024 : Shape := ⟨1, ![1024]⟩
abbrev S_ : Shape := ⟨0, ![]⟩

class Facts : Prop where
  bitsLt_bf16_f32 : FTy.bits .bf16 < FTy.bits .f32
  bcast_S_S16384x2816 : S_.BroadcastsInDim S16384x2816 (![] : Fin 0 → Fin S16384x2816.rank)
  bcast_S_S1024x2816 : S_.BroadcastsInDim S1024x2816 (![] : Fin 0 → Fin S1024x2816.rank)
  bcast_S_S16384x1024 : S_.BroadcastsInDim S16384x1024 (![] : Fin 0 → Fin S16384x1024.rank)
  bcast_S_S1024 : S_.BroadcastsInDim S1024 (![] : Fin 0 → Fin S1024.rank)

variable [Facts]

def fn_part1 {F : FTy → Type} [FloatOps F] (main_arg6 : FVec F S1024 .f32) (main_v3 : IVec S16384x2816 1) (main_v7 : IVec S16384x2816 1) (main_v11 : IVec S1024x2816 1) (main_v15 : IVec S1024x2816 1) (main_v18 : IVec S16384x1024 1) : IVec S16384x2816 1 × IVec S16384x2816 1 × IVec S1024x2816 1 × IVec S1024x2816 1 × IVec S16384x1024 1 × IVec S1024 1 :=
  let main_v19 : FVec F S1024 .f32 := Host.absf main_arg6
  let main_cst_4 : FVec F S_ .f32 := constant S_ .f32 0x7F800000#32
  let main_v20 : FVec F S1024 .f32 := broadcastInDim S1024 ![] bcast_S_S1024 main_cst_4
  let main_v21 : IVec S1024 1 := cmpf .olt main_v19 main_v20
  (main_v3, main_v7, main_v11, main_v15, main_v18, main_v21)

def fn {F : FTy → Type} [FloatOps F] (main_arg0 : FVec F S16384x2816 .bf16) (main_arg1 : FVec F S16384x2816 .bf16) (main_arg2 : FVec F S1024x2816 .bf16) (main_arg3 : FVec F S1024x2816 .bf16) (main_arg4 : FVec F S16384x1024 .f32) (main_arg5 : FVec F S16384x1024 .f32) (main_arg6 : FVec F S1024 .f32) : IVec S16384x2816 1 × IVec S16384x2816 1 × IVec S1024x2816 1 × IVec S1024x2816 1 × IVec S16384x1024 1 × IVec S1024 1 :=
  let main_v0 : FVec F S16384x2816 .f32 := (extf .f32 · bitsLt_bf16_f32) main_arg0
  let main_v1 : FVec F S16384x2816 .f32 := Host.absf main_v0
  let main_cst : FVec F S_ .f32 := constant S_ .f32 0x7F800000#32
  let main_v2 : FVec F S16384x2816 .f32 := broadcastInDim S16384x2816 ![] bcast_S_S16384x2816 main_cst
  let main_v3 : IVec S16384x2816 1 := cmpf .olt main_v1 main_v2
  let main_v4 : FVec F S16384x2816 .f32 := (extf .f32 · bitsLt_bf16_f32) main_arg1
  let main_v5 : FVec F S16384x2816 .f32 := Host.absf main_v4
  let main_cst_0 : FVec F S_ .f32 := constant S_ .f32 0x7F800000#32
  let main_v6 : FVec F S16384x2816 .f32 := broadcastInDim S16384x2816 ![] bcast_S_S16384x2816 main_cst_0
  let main_v7 : IVec S16384x2816 1 := cmpf .olt main_v5 main_v6
  let main_v8 : FVec F S1024x2816 .f32 := (extf .f32 · bitsLt_bf16_f32) main_arg2
  let main_v9 : FVec F S1024x2816 .f32 := Host.absf main_v8
  let main_cst_1 : FVec F S_ .f32 := constant S_ .f32 0x7F800000#32
  let main_v10 : FVec F S1024x2816 .f32 := broadcastInDim S1024x2816 ![] bcast_S_S1024x2816 main_cst_1
  let main_v11 : IVec S1024x2816 1 := cmpf .olt main_v9 main_v10
  let main_v12 : FVec F S1024x2816 .f32 := (extf .f32 · bitsLt_bf16_f32) main_arg3
  let main_v13 : FVec F S1024x2816 .f32 := Host.absf main_v12
  let main_cst_2 : FVec F S_ .f32 := constant S_ .f32 0x7F800000#32
  let main_v14 : FVec F S1024x2816 .f32 := broadcastInDim S1024x2816 ![] bcast_S_S1024x2816 main_cst_2
  let main_v15 : IVec S1024x2816 1 := cmpf .olt main_v13 main_v14
  let main_v16 : FVec F S16384x1024 .f32 := Host.absf main_arg4
  let main_cst_3 : FVec F S_ .f32 := constant S_ .f32 0x7F800000#32
  let main_v17 : FVec F S16384x1024 .f32 := broadcastInDim S16384x1024 ![] bcast_S_S16384x1024 main_cst_3
  let main_v18 : IVec S16384x1024 1 := cmpf .olt main_v16 main_v17
  fn_part1 (F := F) main_arg6 main_v3 main_v7 main_v11 main_v15 main_v18
-- ==== Kernel.lean ====
abbrev S16384x2560 : Shape := ⟨2, ![16384, 2560]⟩
abbrev S16384x512 : Shape := ⟨2, ![16384, 512]⟩
abbrev S3x512 : Shape := ⟨2, ![3, 512]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S256x2560 : Shape := ⟨2, ![256, 2560]⟩
abbrev S16x2560 : Shape := ⟨2, ![16, 2560]⟩
abbrev S256x512 : Shape := ⟨2, ![256, 512]⟩
abbrev S16x512 : Shape := ⟨2, ![16, 512]⟩
abbrev S288x512 : Shape := ⟨2, ![288, 512]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 22
  | .vmem => 29
  | .smem => 0
  | _ => 0

abbrev bufTy : (tb : Table) → Fin (tcTables nBuf tb) → BufTy
  | .hbm, ⟨0, _⟩ => ⟨S16384x2560, .bf16⟩
  | .hbm, ⟨1, _⟩ => ⟨S16384x512, .f32⟩
  | .hbm, ⟨2, _⟩ => ⟨S16384x512, .f32⟩
  | .hbm, ⟨3, _⟩ => ⟨S3x512, .f32⟩
  | .hbm, ⟨4, _⟩ => ⟨S512, .f32⟩
  | .hbm, ⟨5, _⟩ => ⟨S512, .f32⟩
  | .hbm, ⟨6, _⟩ => ⟨S4x128x128, .f32⟩
  | .hbm, ⟨7, _⟩ => ⟨S4x128, .f32⟩
  | .hbm, ⟨8, _⟩ => ⟨S4x128x128, .bf16⟩
  | .hbm, ⟨9, _⟩ => ⟨S4x128x128, .f32⟩
  | .hbm, ⟨10, _⟩ => ⟨S4x128x128, .bf16⟩
  | .hbm, ⟨11, _⟩ => ⟨S128x4, .f32⟩
  | .hbm, ⟨12, _⟩ => ⟨S128x4x128, .f32⟩
  | .hbm, ⟨13, _⟩ => ⟨S128x512, .f32⟩
  | .hbm, ⟨14, _⟩ => ⟨S1x512, .f32⟩
  | .hbm, ⟨15, _⟩ => ⟨S1x512, .f32⟩
  | .hbm, ⟨16, _⟩ => ⟨S16384x2560, .bf16⟩
  | .hbm, ⟨17, _⟩ => ⟨S3x512, .f32⟩
  | .hbm, ⟨18, _⟩ => ⟨S1x512, .f32⟩
  | .hbm, ⟨19, _⟩ => ⟨S1x512, .f32⟩
  | .hbm, ⟨20, _⟩ => ⟨S4x128x128, .f32⟩
  | .hbm, ⟨21, _⟩ => ⟨S128x512, .f32⟩
  | .local _ .vmem, ⟨0, _⟩ => ⟨S256x2560, .bf16⟩
  | .local _ .vmem, ⟨1, _⟩ => ⟨S256x2560, .bf16⟩
  | .local _ .vmem, ⟨2, _⟩ => ⟨S16x2560, .bf16⟩
  | .local _ .vmem, ⟨3, _⟩ => ⟨S16x2560, .bf16⟩
  | .local _ .vmem, ⟨4, _⟩ => ⟨S16x2560, .bf16⟩
  | .local _ .vmem, ⟨5, _⟩ => ⟨S16x2560, .bf16⟩
  | .local _ .vmem, ⟨6, _⟩ => ⟨S256x512, .f32⟩
  | .local _ .vmem, ⟨7, _⟩ => ⟨S256x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S256x512, .f32⟩
  | .local _ .vmem, ⟨13, _⟩ => ⟨S256x512, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S4x128x128, .bf16⟩
  | .local _ .vmem, ⟨18, _⟩ => ⟨S4x128x128, .bf16⟩
  | .local _ .vmem, ⟨19, _⟩ => ⟨S128x512, .f32⟩
  | .local _ .vmem, ⟨20, _⟩ => ⟨S256x2560, .bf16⟩
  | .local _ .vmem, ⟨21, _⟩ => ⟨S256x2560, .bf16⟩
  | .local _ .vmem, ⟨22, _⟩ => ⟨S3x512, .f32⟩
  | .local _ .vmem, ⟨23, _⟩ => ⟨S1x512, .f32⟩
  | .local _ .vmem, ⟨24, _⟩ => ⟨S1x512, .f32⟩
  | .local _ .vmem, ⟨25, _⟩ => ⟨S4x128x128, .f32⟩
  | .local _ .vmem, ⟨26, _⟩ => ⟨S128x512, .f32⟩
  | .local _ .vmem, ⟨27, _⟩ => ⟨S256x512, .f32⟩
  | .local _ .vmem, ⟨28, _⟩ => ⟨S256x512, .f32⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "gelu_3kc" => some ((241015141496493 / 2251799813685248 : ℝ) : EReal)
  | "gelu_kc" => some ((80338380498831 / 2251799813685248 : ℝ) : EReal)
  | _ => none
-- ==== ReferenceIdeal.lean ====
abbrev S16384x2560 : Shape := ⟨2, ![16384, 2560]⟩
abbrev S16384x512 : Shape := ⟨2, ![16384, 512]⟩
abbrev S3x512 : Shape := ⟨2, ![3, 512]⟩
abbrev S512 : Shape := ⟨1, ![512]⟩
abbrev S4x128x128 : Shape := ⟨3, ![4, 128, 128]⟩
abbrev S4x128 : Shape := ⟨2, ![4, 128]⟩
abbrev S128x4 : Shape := ⟨2, ![128, 4]⟩
abbrev S128x4x1 : Shape := ⟨3, ![128, 4, 1]⟩
abbrev S128x4x128 : Shape := ⟨3, ![128, 4, 128]⟩
abbrev S128x512 : Shape := ⟨2, ![128, 512]⟩
abbrev S1x512 : Shape := ⟨2, ![1, 512]⟩
abbrev S_ : Shape := ⟨0, ![]⟩
abbrev S16386x512 : Shape := ⟨2, ![16386, 512]⟩
abbrev S16384 : Shape := ⟨1, ![16384]⟩
abbrev S16384x1 : Shape := ⟨2, ![16384, 1]⟩
abbrev S128x128x4x128 : Shape := ⟨4, ![128, 128, 4, 128]⟩
abbrev S4x128x128x128 : Shape := ⟨4, ![4, 128, 128, 128]⟩
abbrev S1x128x4x128 : Shape := ⟨4, ![1, 128, 4, 128]⟩

abbrev nBuf : Space → Nat
  | .hbm => 288
  | .vmem => 0
  | .smem => 0
  | _ => 0

abbrev hbmTy0_0 (i : Nat) : BufTy := match i % 128 with
  | 0 => ⟨S16384x2560, .bf16⟩
  | 1 => ⟨S16384x512, .f32⟩
  | 2 => ⟨S16384x512, .f32⟩
  | 3 => ⟨S3x512, .f32⟩
  | 4 => ⟨S512, .f32⟩
  | 5 => ⟨S512, .f32⟩
  | 6 => ⟨S4x128x128, .f32⟩
  | 7 => ⟨S4x128, .f32⟩
  | 8 => ⟨S128x4, .f32⟩
  | 9 => ⟨S128x4x1, .f32⟩
  | 10 => ⟨S128x4, .f32⟩
  | 11 => ⟨S128x4x128, .f32⟩
  | 12 => ⟨S128x512, .f32⟩
  | 13 => ⟨S1x512, .f32⟩
  | 14 => ⟨S1x512, .f32⟩
  | 15 => ⟨S16384x2560, .f32⟩
  | 16 => ⟨S16384x512, .f32⟩
  | 17 => ⟨S16384x512, .f32⟩
  | 18 => ⟨S16384x512, .f32⟩
  | 19 => ⟨S16384x512, .f32⟩
  | 20 => ⟨S16384x512, .f32⟩
  | 21 => ⟨S16384x512, .f32⟩
  | 22 => ⟨S_, .f32⟩
  | 23 => ⟨S1x512, .f32⟩
  | 24 => ⟨S16386x512, .f32⟩
  | 25 => ⟨S_, .f32⟩
  | 26 => ⟨S1x512, .f32⟩
  | 27 => ⟨S_, .f32⟩
  | 28 => ⟨S1x512, .f32⟩
  | 29 => ⟨S16384x512, .f32⟩
  | 30 => ⟨S1x512, .f32⟩
  | 31 => ⟨S512, .f32⟩
  | 32 => ⟨S1x512, .f32⟩
  | 33 => ⟨S16384x512, .f32⟩
  | 34 => ⟨S16384x512, .f32⟩
  | 35 => ⟨S_, .f32⟩
  | 36 => ⟨S16384x512, .f32⟩
  | 37 => ⟨S16384x512, .f32⟩
  | 38 => ⟨S16384x512, .f32⟩
  | 39 => ⟨S1x512, .f32⟩
  | 40 => ⟨S512, .f32⟩
  | 41 => ⟨S1x512, .f32⟩
  | 42 => ⟨S16384x512, .f32⟩
  | 43 => ⟨S16384x512, .f32⟩
  | 44 => ⟨S16384x512, .f32⟩
  | 45 => ⟨S16384x512, .f32⟩
  | 46 => ⟨S1x512, .f32⟩
  | 47 => ⟨S512, .f32⟩
  | 48 => ⟨S1x512, .f32⟩
  | 49 => ⟨S16384x512, .f32⟩
  | 50 => ⟨S16384x512, .f32⟩
  | 51 => ⟨S16384x512, .f32⟩
  | 52 => ⟨S16384x512, .f32⟩
  | 53 => ⟨S16384x512, .f32⟩
  | 54 => ⟨S16384x512, .f32⟩
  | 55 => ⟨S16384x512, .f32⟩
  | 56 => ⟨S_, .f32⟩
  | 57 => ⟨S16384x512, .f32⟩
  | 58 => ⟨S16384x512, .f32⟩
  | 59 => ⟨S_, .f32⟩
  | 60 => ⟨S16384x512, .f32⟩
  | 61 => ⟨S16384x512, .f32⟩
  | 62 => ⟨S16384x512, .f32⟩
  | 63 => ⟨S_, .f32⟩
  | 64 => ⟨S16384x512, .f32⟩
  | 65 => ⟨S16384x512, .f32⟩
  | 66 => ⟨S16384x512, .f32⟩
  | 67 => ⟨S_, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S16384x512, .f32⟩
  | 74 => ⟨S_, .f32⟩
  | 75 => ⟨S16384x512, .f32⟩
  | 76 => ⟨S16384x512, .f32⟩
  | 77 => ⟨S_, .f32⟩
  | 78 => ⟨S16384x512, .f32⟩
  | 79 => ⟨S16384x512, .f32⟩
  | 80 => ⟨S16384x512, .f32⟩
  | 81 => ⟨S16384x512, .f32⟩
  | 82 => ⟨S16384x512, .f32⟩
  | 83 => ⟨S16384x512, .f32⟩
  | 84 => ⟨S_, .f32⟩
  | 85 => ⟨S16384x512, .f32⟩
  | 86 => ⟨S16384x512, .f32⟩
  | 87 => ⟨S_, .f32⟩
  | 88 => ⟨S16384x512, .f32⟩
  | 89 => ⟨S16384x512, .f32⟩
  | 90 => ⟨S16384x512, .f32⟩
  | 91 => ⟨S_, .f32⟩
  | 92 => ⟨S16384x512, .f32⟩
  | 93 => ⟨S16384x512, .f32⟩
  | 94 => ⟨S16384x512, .f32⟩
  | 95 => ⟨S_, .f32⟩
  | 96 => ⟨S16384x512, .f32⟩
  | 97 => ⟨S16384x512, .f32⟩
  | 98 => ⟨S_, .f32⟩
  | 99 => ⟨S16384x512, .f32⟩
  | 100 => ⟨S16384x512, .f32⟩
  | 101 => ⟨S16384x512, .f32⟩
  | 102 => ⟨S_, .f32⟩
  | 103 => ⟨S16384x512, .f32⟩
  | 104 => ⟨S16384x512, .f32⟩
  | 105 => ⟨S_, .f32⟩
  | 106 => ⟨S16384x512, .f32⟩
  | 107 => ⟨S16384x512, .f32⟩
  | 108 => ⟨S16384x512, .f32⟩
  | 109 => ⟨S_, .f32⟩
  | 110 => ⟨S16384, .f32⟩
  | 111 => ⟨S16384x1, .f32⟩
  | 112 => ⟨S_, .f32⟩
  | 113 => ⟨S16384x1, .f32⟩
  | 114 => ⟨S16384x1, .f32⟩
  | 115 => ⟨S16384x512, .f32⟩
  | 116 => ⟨S16384x512, .f32⟩
  | 117 => ⟨S16384x512, .f32⟩
  | 118 => ⟨S_, .f32⟩
  | 119 => ⟨S16384x512, .f32⟩
  | 120 => ⟨S16384x512, .f32⟩
  | 121 => ⟨S_, .f32⟩
  | 122 => ⟨S16384, .f32⟩
  | 123 => ⟨S16384x1, .f32⟩
  | 124 => ⟨S_, .f32⟩
  | 125 => ⟨S16384x1, .f32⟩
  | 126 => ⟨S16384x1, .f32⟩
  | 127 => ⟨S16384x512, .f32⟩
  | _ => ⟨S16384x2560, .bf16⟩

abbrev hbmTy0_1 (i : Nat) : BufTy := match i % 128 with
  | 0 => ⟨S16384x512, .f32⟩
  | 1 => ⟨S_, .f32⟩
  | 2 => ⟨S16384x1, .f32⟩
  | 3 => ⟨S16384x1, .f32⟩
  | 4 => ⟨S16384x1, .f32⟩
  | 5 => ⟨S16384x1, .f32⟩
  | 6 => ⟨S_, .f32⟩
  | 7 => ⟨S16384x1, .f32⟩
  | 8 => ⟨S16384x1, .f32⟩
  | 9 => ⟨S16384x512, .f32⟩
  | 10 => ⟨S16384x512, .f32⟩
  | 11 => ⟨S16384x512, .f32⟩
  | 12 => ⟨S16384x512, .f32⟩
  | 13 => ⟨S16384x512, .f32⟩
  | 14 => ⟨S16384x512, .f32⟩
  | 15 => ⟨S128x128x4x128, .f32⟩
  | 16 => ⟨S4x128x128x128, .f32⟩
  | 17 => ⟨S128x128x4x128, .f32⟩
  | 18 => ⟨S128x4x128, .f32⟩
  | 19 => ⟨S1x128x4x128, .f32⟩
  | 20 => ⟨S128x128x4x128, .f32⟩
  | 21 => ⟨S128x128x4x128, .f32⟩
  | 22 => ⟨S16384x512, .f32⟩
  | 23 => ⟨S16384x512, .f32⟩
  | 24 => ⟨S16384x512, .f32⟩
  | 25 => ⟨S16384x512, .f32⟩
  | 26 => ⟨S128x128x4x128, .f32⟩
  | 27 => ⟨S_, .f32⟩
  | 28 => ⟨S128x4x128, .f32⟩
  | 29 => ⟨S1x128x4x128, .f32⟩
  | 30 => ⟨S_, .f32⟩
  | 31 => ⟨S128x4x128, .f32⟩
  | 32 => ⟨S128x512, .f32⟩
  | 33 => ⟨S4x128x128x128, .f32⟩
  | 34 => ⟨S4x128x128, .f32⟩
  | 35 => ⟨S4x128x128x128, .f32⟩
  | 36 => ⟨S128x128x4x128, .f32⟩
  | 37 => ⟨S16384x512, .f32⟩
  | 38 => ⟨S_, .f32⟩
  | 39 => ⟨S512, .f32⟩
  | 40 => ⟨S1x512, .f32⟩
  | 41 => ⟨S16384x512, .f32⟩
  | 42 => ⟨S_, .f32⟩
  | 43 => ⟨S512, .f32⟩
  | 44 => ⟨S1x512, .f32⟩
  | 45 => ⟨S16384x512, .f32⟩
  | 46 => ⟨S16384x512, .f32⟩
  | 47 => ⟨S16384x512, .f32⟩
  | 48 => ⟨S_, .f32⟩
  | 49 => ⟨S16384, .f32⟩
  | 50 => ⟨S16384x1, .f32⟩
  | 51 => ⟨S16384x512, .f32⟩
  | 52 => ⟨S16384x512, .f32⟩
  | 53 => ⟨S16384x1, .f32⟩
  | 54 => ⟨S16384x512, .f32⟩
  | 55 => ⟨S_, .f32⟩
  | 56 => ⟨S16384, .f32⟩
  | 57 => ⟨S16384x1, .f32⟩
  | 58 => ⟨S_, .f32⟩
  | 59 => ⟨S16384x1, .f32⟩
  | 60 => ⟨S16384x1, .f32⟩
  | 61 => ⟨S_, .f32⟩
  | 62 => ⟨S16384, .f32⟩
  | 63 => ⟨S16384x512, .f32⟩
  | 64 => ⟨S16384x512, .f32⟩
  | 65 => ⟨S16384x512, .f32⟩
  | 66 => ⟨S_, .f32⟩
  | 67 => ⟨S16384, .f32⟩
  | 68 => ⟨S16384x1, .f32⟩
  | 69 => ⟨S16384x512, .f32⟩
  | 70 => ⟨S16384x1, .f32⟩
  | 71 => ⟨S_, .f32⟩
  | 72 => ⟨S16384x1, .f32⟩
  | 73 => ⟨S16384x1, .f32⟩
  | 74 => ⟨S_, .f32⟩
  | 75 => ⟨S16384, .f32⟩
  | 76 => ⟨S16384x512, .f32⟩
  | 77 => ⟨S16384x512, .f32⟩
  | 78 => ⟨S16384x512, .f32⟩
  | 79 => ⟨S16384x512, .f32⟩
  | 80 => ⟨S_, .f32⟩
  | 81 => ⟨S16384x512, .f32⟩
  | 82 => ⟨S16384x512, .f32⟩
  | 83 => ⟨S16384x512, .f32⟩
  | 84 => ⟨S_, .f32⟩
  | 85 => ⟨S16384x512, .f32⟩
  | 86 => ⟨S16384x512, .f32⟩
  | 87 => ⟨S16384x512, .f32⟩
  | 88 => ⟨S_, .f32⟩
  | 89 => ⟨S16384x512, .f32⟩
  | 90 => ⟨S16384x512, .f32⟩
  | 91 => ⟨S16384x512, .f32⟩
  | 92 => ⟨S16384x512, .f32⟩
  | 93 => ⟨S16384x512, .f32⟩
  | 94 => ⟨S16384x512, .f32⟩
  | 95 => ⟨S_, .f32⟩
  | 96 => ⟨S16384x512, .f32⟩
  | 97 => ⟨S16384x512, .f32⟩
  | 98 => ⟨S16384x512, .f32⟩
  | 99 => ⟨S_, .f32⟩
  | 100 => ⟨S16384x512, .f32⟩
  | 101 => ⟨S16384x512, .f32⟩
  | 102 => ⟨S16384x512, .f32⟩
  | 103 => ⟨S_, .f32⟩
  | 104 => ⟨S16384x512, .f32⟩
  | 105 => ⟨S16384x512, .f32⟩
  | 106 => ⟨S16384x512, .f32⟩
  | 107 => ⟨S16384x512, .f32⟩
  | 108 => ⟨S16384x512, .f32⟩
  | 109 => ⟨S16384x512, .f32⟩
  | 110 => ⟨S16384x512, .f32⟩
  | 111 => ⟨S_, .f32⟩
  | 112 => ⟨S512, .f32⟩
  | 113 => ⟨S1x512, .f32⟩
  | 114 => ⟨S16384x512, .f32⟩
  | 115 => ⟨S16384x512, .f32⟩
  | 116 => ⟨S_, .f32⟩
  | 117 => ⟨S512, .f32⟩
  | 118 => ⟨S1x512, .f32⟩
  | 119 => ⟨S_, .f32⟩
  | 120 => ⟨S3x512, .f32⟩
  | 121 => ⟨S_, .f32⟩
  | 122 => ⟨S16386x512, .f32⟩
  | 123 => ⟨S16384x512, .f32⟩
  | 124 => ⟨S_, .f32⟩
  | 125 => ⟨S512, .f32⟩
  | 126 => ⟨S1x512, .f32⟩
  | 127 => ⟨S16384x512, .f32⟩
  | _ => ⟨S16384x2560, .bf16⟩

abbrev hbmTy0_2 (i : Nat) : BufTy := match i % 128 with
  | 0 => ⟨S16384x512, .f32⟩
  | 1 => ⟨S_, .f32⟩
  | 2 => ⟨S512, .f32⟩
  | 3 => ⟨S1x512, .f32⟩
  | 4 => ⟨S_, .f32⟩
  | 5 => ⟨S3x512, .f32⟩
  | 6 => ⟨S3x512, .f32⟩
  | 7 => ⟨S_, .f32⟩
  | 8 => ⟨S16386x512, .f32⟩
  | 9 => ⟨S16386x512, .f32⟩
  | 10 => ⟨S16384x512, .f32⟩
  | 11 => ⟨S_, .f32⟩
  | 12 => ⟨S512, .f32⟩
  | 13 => ⟨S1x512, .f32⟩
  | 14 => ⟨S16384x512, .f32⟩
  | 15 => ⟨S16384x512, .f32⟩
  | 16 => ⟨S_, .f32⟩
  | 17 => ⟨S512, .f32⟩
  | 18 => ⟨S1x512, .f32⟩
  | 19 => ⟨S_, .f32⟩
  | 20 => ⟨S3x512, .f32⟩
  | 21 => ⟨S3x512, .f32⟩
  | 22 => ⟨S_, .f32⟩
  | 23 => ⟨S16386x512, .f32⟩
  | 24 => ⟨S16386x512, .f32⟩
  | 25 => ⟨S1x512, .f32⟩
  | 26 => ⟨S16384x512, .f32⟩
  | 27 => ⟨S1x512, .f32⟩
  | 28 => ⟨S16384x512, .f32⟩
  | 29 => ⟨S16384x512, .f32⟩
  | 30 => ⟨S16384x2560, .f32⟩
  | 31 => ⟨S16384x2560, .bf16⟩
  | _ => ⟨S16384x2560, .bf16⟩

abbrev hbmTy (i : Nat) : BufTy := match i / 128 with
  | 0 => hbmTy0_0 i
  | 1 => hbmTy0_1 i
  | 2 => hbmTy0_2 i
  | _ => ⟨S16384x2560, .bf16⟩

abbrev bufTy : (tb : Table) → Fin (tcTables nBuf tb) → BufTy
  | .hbm, ⟨i, _⟩ => hbmTy i
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_10 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_13 : Ref sig .tc := ⟨.hbm, 95, rfl⟩
abbrev main_v73 : Ref sig .tc := ⟨.hbm, 96, rfl⟩
abbrev main_v74 : Ref sig .tc := ⟨.hbm, 97, rfl⟩
abbrev main_cst_14 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_15 : Ref sig .tc := ⟨.hbm, 102, rfl⟩
abbrev main_v78 : Ref sig .tc := ⟨.hbm, 103, rfl⟩
abbrev main_v79 : Ref sig .tc := ⟨.hbm, 104, rfl⟩
abbrev main_cst_16 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_cst_18 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_19 : Ref sig .tc := ⟨.hbm, 118, rfl⟩
abbrev main_v90 : Ref sig .tc := ⟨.hbm, 119, rfl⟩
abbrev main_v91 : Ref sig .tc := ⟨.hbm, 120, rfl⟩
abbrev main_cst_20 : Ref sig .tc := ⟨.hbm, 121, rfl⟩
abbrev main_v92 : Ref sig .tc := ⟨.hbm, 122, rfl⟩
abbrev main_v93 : Ref sig .tc := ⟨.hbm, 123, rfl⟩
abbrev main_cst_21 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_22 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_23 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_24 : Ref sig .tc := ⟨.hbm, 155, rfl⟩
abbrev main_v122 : Ref sig .tc := ⟨.hbm, 156, rfl⟩
abbrev main_v123 : Ref sig .tc := ⟨.hbm, 157, rfl⟩
abbrev main_cst_25 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_26 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_cst_27 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_cst_28 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_cst_29 : Ref sig .tc := ⟨.hbm, 183, rfl⟩
abbrev main_v145 : Ref sig .tc := ⟨.hbm, 184, rfl⟩
abbrev main_v146 : Ref sig .tc := ⟨.hbm, 185, rfl⟩
abbrev main_cst_30 : Ref sig .tc := ⟨.hbm, 186, rfl⟩
abbrev main_v147 : Ref sig .tc := ⟨.hbm, 187, rfl⟩
abbrev main_v148 : Ref sig .tc := ⟨.hbm, 188, rfl⟩
abbrev main_cst_31 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_32 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_33 : Ref sig .tc := ⟨.hbm, 199, rfl⟩
abbrev main_v157 : Ref sig .tc := ⟨.hbm, 200, rfl⟩
abbrev main_v158 : Ref sig .tc := ⟨.hbm, 201, rfl⟩
abbrev main_cst_34 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_35 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_36 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_cst_37 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_cst_38 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_cst_39 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_cst_40 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_cst_41 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_cst_42 : Ref sig .tc := ⟨.hbm, 244, rfl⟩
abbrev main_v193 : Ref sig .tc := ⟨.hbm, 245, rfl⟩
abbrev main_v194 : Ref sig .tc := ⟨.hbm, 246, rfl⟩
abbrev main_cst_43 : Ref sig .tc := ⟨.hbm, 247, rfl⟩
abbrev main_v195 : Ref sig .tc := ⟨.hbm, 248, rfl⟩
abbrev main_cst_44 : Ref sig .tc := ⟨.hbm, 249, rfl⟩
abbrev main_v196 : Ref sig .tc := ⟨.hbm, 250, rfl⟩
abbrev main_v197 : Ref sig .tc := ⟨.hbm, 251, rfl⟩
abbrev main_cst_45 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_cst_46 : Ref sig .tc := ⟨.hbm, 257, rfl⟩
abbrev main_v202 : Ref sig .tc := ⟨.hbm, 258, rfl⟩
abbrev main_v203 : Ref sig .tc := ⟨.hbm, 259, rfl⟩
abbrev main_cst_47 : Ref sig .tc := ⟨.hbm, 260, rfl⟩
abbrev main_v204 : Ref sig .tc := ⟨.hbm, 261, rfl⟩
abbrev main_v205 : Ref sig .tc := ⟨.hbm, 262, rfl⟩
abbrev main_cst_48 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_cst_49 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_cst_50 : Ref sig .tc := ⟨.hbm, 272, rfl⟩
abbrev main_v213 : Ref sig .tc := ⟨.hbm, 273, rfl⟩
abbrev main_v214 : Ref sig .tc := ⟨.hbm, 274, rfl⟩
abbrev main_cst_51 : Ref sig .tc := ⟨.hbm, 275, rfl⟩
abbrev main_v215 : Ref sig .tc := ⟨.hbm, 276, rfl⟩
abbrev main_v216 : Ref sig .tc := ⟨.hbm, 277, rfl⟩
abbrev main_cst_52 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩
abbrev main_v221 : Ref sig .tc := ⟨.hbm, 283, rfl⟩
abbrev main_v222 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩

abbrev nD : Nat := 1
abbrev τ : Topo := Topo.v7x

variable {F : FTy → Type} [FloatOps F]
-- ==== DwUp.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1024 : Shape := ⟨2, ![1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S16384x2816, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefDwUpIdeal.lean ====
abbrev S16384x1024 : Shape := ⟨2, ![16384, 1024]⟩
abbrev S1024 : Shape := ⟨1, ![1024]⟩
abbrev S1024x2816 : Shape := ⟨2, ![1024, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2816x1024 : Shape := ⟨2, ![2816, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S16384x2816, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2816, .f32⟩
  | .hbm, ⟨21, _⟩ => ⟨S16384x2816, .f32⟩
  | .hbm, ⟨22, _⟩ => ⟨S2816x1024, .f32⟩
  | .hbm, ⟨23, _⟩ => ⟨S1024x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DwDown.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S1024x2816 : Shape := ⟨2, ![1024, 2816]⟩
abbrev S1024x1024 : Shape := ⟨2, ![1024, 1024]⟩

abbrev nBuf : Space → Nat
  | .hbm => 18
  | .vmem => 5
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S2816x1024, .f32⟩
  | .hbm, ⟨3, _⟩ => ⟨S16384x1024, .bf16⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .bf16⟩
  | .hbm, ⟨17, _⟩ => ⟨S2816x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefDwDownIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩
abbrev S1024x2816 : Shape := ⟨2, ![1024, 2816]⟩

abbrev nBuf : Space → Nat
  | .hbm => 20
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S2816x1024, .f32⟩
  | .hbm, ⟨3, _⟩ => ⟨S16384x1024, .bf16⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x1024, .f32⟩
  | .hbm, ⟨17, _⟩ => ⟨S16384x1024, .f32⟩
  | .hbm, ⟨18, _⟩ => ⟨S1024x2816, .f32⟩
  | .hbm, ⟨19, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== DwGate.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 22
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefDwGateIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S16384x1024, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1024x1024, .f32⟩
  | .hbm, ⟨23, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DwMid.lean ====
abbrev S16384x1024 : Shape := ⟨2, ![16384, 1024]⟩
abbrev S1024 : Shape := ⟨1, ![1024]⟩
abbrev S1024x2560 : Shape := ⟨2, ![1024, 2560]⟩
abbrev S16384x2560 : Shape := ⟨2, ![16384, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1024 : Shape := ⟨2, ![1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x2560, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S1024x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x2560, .bf16⟩
  | .local _ .vmem, ⟨3, _⟩ => ⟨S1024x2560, .bf16⟩
  | .local _ .vmem, ⟨4, _⟩ => ⟨S1024x2560, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefDwMidIdeal.lean ====
abbrev S16384x1024 : Shape := ⟨2, ![16384, 1024]⟩
abbrev S1024 : Shape := ⟨1, ![1024]⟩
abbrev S1024x2560 : Shape := ⟨2, ![1024, 2560]⟩
abbrev S16384x2560 : Shape := ⟨2, ![16384, 2560]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2560x1024 : Shape := ⟨2, ![2560, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2560, .f32⟩
  | .hbm, ⟨3, _⟩ => ⟨S16384x2560, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x2560, .f32⟩
  | .hbm, ⟨21, _⟩ => ⟨S16384x2560, .f32⟩
  | .hbm, ⟨22, _⟩ => ⟨S2560x1024, .f32⟩
  | .hbm, ⟨23, _⟩ => ⟨S1024x2560, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DwMerge.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x1024 : Shape := ⟨2, ![1024, 1024]⟩

abbrev nBuf : Space → Nat
  | .hbm => 22
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x3072, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S1024x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefDwMergeIdeal.lean ====
abbrev S16384x1024 : Shape := ⟨2, ![16384, 1024]⟩
abbrev S1024 : Shape := ⟨1, ![1024]⟩
abbrev S1024x3072 : Shape := ⟨2, ![1024, 3072]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S3072x1024 : Shape := ⟨2, ![3072, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x3072, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x3072, .f32⟩
  | .hbm, ⟨21, _⟩ => ⟨S16384x3072, .f32⟩
  | .hbm, ⟨22, _⟩ => ⟨S3072x1024, .f32⟩
  | .hbm, ⟨23, _⟩ => ⟨S1024x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DwOut.lean ====
abbrev S16384x1024 : Shape := ⟨2, ![16384, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefDwOutIdeal.lean ====
abbrev S16384x1024 : Shape := ⟨2, ![16384, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwSmall.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S16384x1024, .bf16⟩
  | .hbm, ⟨3, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RefDwSmallIdeal.lean ====
abbrev S16384x512 : Shape := ⟨2, ![16384, 512]⟩
abbrev S512x1024 : Shape := ⟨2, ![512, 1024]⟩
abbrev S16384x1024 : Shape := ⟨2, ![16384, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x1024, .f32⟩
  | .hbm, ⟨2, _⟩ => ⟨S16384x1024, .bf16⟩
  | .hbm, ⟨3, _⟩ => ⟨S16384x512, .f32⟩
  | .hbm, ⟨4, _⟩ => ⟨S16384x1024, .f32⟩
  | .hbm, ⟨5, _⟩ => ⟨S16384x1024, .f32⟩
  | .hbm, ⟨6, _⟩ => ⟨S1024x512, .f32⟩
  | .hbm, ⟨7, _⟩ => ⟨S512x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Up.lean ====
abbrev S16384x1024 : Shape := ⟨2, ![16384, 1024]⟩
abbrev S1024 : Shape := ⟨1, ![1024]⟩
abbrev S1024x2816 : Shape := ⟨2, ![1024, 2816]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S_ : Shape := ⟨0, ![]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S1x1024, .f32⟩
  | .hbm, ⟨5, _⟩ => ⟨S16384x1024, .bf16⟩
  | .hbm, ⟨6, _⟩ => ⟨S16384x2816, .bf16⟩
  | .hbm, ⟨7, _⟩ => ⟨S16384x2816, .bf16⟩
  | .hbm, ⟨8, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S1024x2816, .bf16⟩
  | .local _ .vmem, ⟨12, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefUpIdeal.lean ====
abbrev S16384x1024 : Shape := ⟨2, ![16384, 1024]⟩
abbrev S1024 : Shape := ⟨1, ![1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S1024x2816, .f32⟩
  | .hbm, ⟨5, _⟩ => ⟨S1024x2816, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .bf16⟩
  | .hbm, ⟨35, _⟩ => ⟨S16384x2816, .bf16⟩
  | .hbm, ⟨36, _⟩ => ⟨S16384x2816, .bf16⟩
  | .hbm, ⟨37, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Down.lean ====
abbrev S16384x2816 : Shape := ⟨2, ![16384, 2816]⟩
abbrev S16384x1024 : Shape := ⟨2, ![16384, 1024]⟩
abbrev S1024 : Shape := ⟨1, ![1024]⟩
abbrev S2816x1024 : Shape := ⟨2, ![2816, 1024]⟩
abbrev S1x1024 : Shape := ⟨2, ![1, 1024]⟩
abbrev S512x2816 : Shape := ⟨2, ![512, 2816]⟩
abbrev S512x1024 : Shape := ⟨2, ![512, 1024]⟩
abbrev S_ : Shape := ⟨0, ![]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S1024, .f32⟩
  | .hbm, ⟨3, _⟩ => ⟨S2816x1024, .bf16⟩
  | .hbm, ⟨4, _⟩ => ⟨S1x1024, .f32⟩
  | .hbm, ⟨5, _⟩ => ⟨S16384x1024, .f32⟩
  | .hbm, ⟨6, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S2816x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefDownIdeal.lean ====
abbrev S16384x2816 : Shape := ⟨2, ![16384, 2816]⟩
abbrev S16384x1024 : Shape := ⟨2, ![16384, 1024]⟩
abbrev S1024 : Shape := ⟨1, ![1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S1024, .f32⟩
  | .hbm, ⟨3, _⟩ => ⟨S2816x1024, .bf16⟩
  | .hbm, ⟨4, _⟩ => ⟨S16384x2816, .f32⟩
  | .hbm, ⟨5, _⟩ => ⟨S2816x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MixIn.lean ====
abbrev S16384x1024 : Shape := ⟨2, ![16384, 1024]⟩
abbrev S1024 : Shape := ⟨1, ![1024]⟩
abbrev S1024x7680 : Shape := ⟨2, ![1024, 7680]⟩
abbrev S1024x1024 : Shape := ⟨2, ![1024, 1024]⟩
abbrev S1024x2560 : Shape := ⟨2, ![1024, 2560]⟩
abbrev S1024x3072 : Shape := ⟨2, ![1024, 3072]⟩
abbrev S1x1024 : Shape := ⟨2, ![1, 1024]⟩
abbrev S16384x2560 : Shape := ⟨2, ![16384, 2560]⟩
abbrev S16384x3072 : Shape := ⟨2, ![16384, 3072]⟩
abbrev S512x1024 : Shape := ⟨2, ![512, 1024]⟩
abbrev S512x2560 : Shape := ⟨2, ![512, 2560]⟩
abbrev S512x3072 : Shape := ⟨2, ![512, 3072]⟩
abbrev S_ : Shape := ⟨0, ![]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7680, .bf16⟩
  | .hbm, ⟨3, _⟩ => ⟨S1024x1024, .bf16⟩
  | .hbm, ⟨4, _⟩ => ⟨S1024x1024, .bf16⟩
  | .hbm, ⟨5, _⟩ => ⟨S1024x2560, .bf16⟩
  | .hbm, ⟨6, _⟩ => ⟨S1024x3072, .bf16⟩
  | .hbm, ⟨7, _⟩ => ⟨S1x1024, .f32⟩
  | .hbm, ⟨8, _⟩ => ⟨S16384x1024, .bf16⟩
  | .hbm, ⟨9, _⟩ => ⟨S16384x1024, .bf16⟩
  | .hbm, ⟨10, _⟩ => ⟨S16384x1024, .bf16⟩
  | .hbm, ⟨11, _⟩ => ⟨S16384x2560, .bf16⟩
  | .hbm, ⟨12, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x2560, .bf16⟩
  | .local _ .vmem, ⟨10, _⟩ => ⟨S512x2560, .bf16⟩
  | .local _ .vmem, ⟨11, _⟩ => ⟨S512x3072, .bf16⟩
  | .local _ .vmem, ⟨12, _⟩ => ⟨S512x3072, .bf16⟩
  | .local _ .vmem, ⟨13, _⟩ => ⟨S1024x1024, .bf16⟩
  | .local _ .vmem, ⟨14, _⟩ => ⟨S1024x1024, .bf16⟩
  | .local _ .vmem, ⟨15, _⟩ => ⟨S1024x2560, .bf16⟩
  | .local _ .vmem, ⟨16, _⟩ => ⟨S1024x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefMixInIdeal.lean ====
abbrev S16384x1024 : Shape := ⟨2, ![16384, 1024]⟩
abbrev S1024 : Shape := ⟨1, ![1024]⟩
abbrev S1024x7680 : Shape := ⟨2, ![1024, 7680]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7680 : Shape := ⟨2, ![16384, 7680]⟩
abbrev S16384x2560 : Shape := ⟨2, ![16384, 2560]⟩
abbrev S16384x3072 : Shape := ⟨2, ![16384, 3072]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7680, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x7680, .f32⟩
  | .hbm, ⟨20, _⟩ => ⟨S16384x7680, .f32⟩
  | .hbm, ⟨21, _⟩ => ⟨S16384x1024, .f32⟩
  | .hbm, ⟨22, _⟩ => ⟨S16384x1024, .f32⟩
  | .hbm, ⟨23, _⟩ => ⟨S16384x2560, .f32⟩
  | .hbm, ⟨24, _⟩ => ⟨S16384x3072, .f32⟩
  | .hbm, ⟨25, _⟩ => ⟨S16384x1024, .bf16⟩
  | .hbm, ⟨26, _⟩ => ⟨S16384x1024, .bf16⟩
  | .hbm, ⟨27, _⟩ => ⟨S16384x1024, .bf16⟩
  | .hbm, ⟨28, _⟩ => ⟨S16384x2560, .bf16⟩
  | .hbm, ⟨29, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== MixProj.lean ====
abbrev S16384x1024 : Shape := ⟨2, ![16384, 1024]⟩
abbrev S16384x512 : Shape := ⟨2, ![16384, 512]⟩
abbrev S16384x3072 : Shape := ⟨2, ![16384, 3072]⟩
abbrev S1024x1024 : Shape := ⟨2, ![1024, 1024]⟩
abbrev S512x1024 : Shape := ⟨2, ![512, 1024]⟩
abbrev S512x512 : Shape := ⟨2, ![512, 512]⟩
abbrev S512x3072 : Shape := ⟨2, ![512, 3072]⟩
abbrev S_ : Shape := ⟨0, ![]⟩

abbrev nBuf : Space → Nat
  | .hbm => 11
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x3072, .bf16⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefMixProjIdeal.lean ====
abbrev S16384x1024 : Shape := ⟨2, ![16384, 1024]⟩
abbrev S16384x512 : Shape := ⟨2, ![16384, 512]⟩
abbrev S16384x3072 : Shape := ⟨2, ![16384, 3072]⟩
abbrev S1024x1024 : Shape := ⟨2, ![1024, 1024]⟩
abbrev S512x1024 : Shape := ⟨2, ![512, 1024]⟩
abbrev S_ : Shape := ⟨0, ![]⟩
abbrev S16384x3x1024 : Shape := ⟨3, ![16384, 3, 1024]⟩
abbrev S16384x1x1024 : Shape := ⟨3, ![16384, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x3072, .bf16⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S16384x1024, .f32⟩
  | .hbm, ⟨8, _⟩ => ⟨S16384x512, .f32⟩
  | .hbm, ⟨9, _⟩ => ⟨S16384x512, .f32⟩
  | .hbm, ⟨10, _⟩ => ⟨S16384x3072, .f32⟩
  | .hbm, ⟨11, _⟩ => ⟨S1024x1024, .f32⟩
  | .hbm, ⟨12, _⟩ => ⟨S512x1024, .f32⟩
  | .hbm, ⟨13, _⟩ => ⟨S512x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x3072, .f32⟩
  | .hbm, ⟨18, _⟩ => ⟨S16384x3072, .f32⟩
  | .hbm, ⟨19, _⟩ => ⟨S_, .f32⟩
  | .hbm, ⟨20, _⟩ => ⟨S16384x3072, .f32⟩
  | .hbm, ⟨21, _⟩ => ⟨S16384x3072, .f32⟩
  | .hbm, ⟨22, _⟩ => ⟨S_, .f32⟩
  | .hbm, ⟨23, _⟩ => ⟨S16384x3072, .f32⟩
  | .hbm, ⟨24, _⟩ => ⟨S16384x3072, .f32⟩
  | .hbm, ⟨25, _⟩ => ⟨S16384x3x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .bf16⟩
  | .hbm, ⟨38, _⟩ => ⟨S16384x1024, .bf16⟩
  | .hbm, ⟨39, _⟩ => ⟨S16384x1024, .bf16⟩
  | .hbm, ⟨40, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== MixOut.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S_ : Shape := ⟨0, ![]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024, .f32⟩
  | .hbm, ⟨3, _⟩ => ⟨S1024x1024, .bf16⟩
  | .hbm, ⟨4, _⟩ => ⟨S1x1024, .f32⟩
  | .hbm, ⟨5, _⟩ => ⟨S16384x1024, .f32⟩
  | .hbm, ⟨6, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefMixOutIdeal.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024, .f32⟩
  | .hbm, ⟨3, _⟩ => ⟨S1024x1024, .bf16⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== BackProj.lean ====
abbrev S16384x1024 : Shape := ⟨2, ![16384, 1024]⟩
abbrev S1024x1024 : Shape := ⟨2, ![1024, 1024]⟩
abbrev S512x1024 : Shape := ⟨2, ![512, 1024]⟩
abbrev S16384x512 : Shape := ⟨2, ![16384, 512]⟩
abbrev S512x512 : Shape := ⟨2, ![512, 512]⟩
abbrev S_ : Shape := ⟨0, ![]⟩

abbrev nBuf : Space → Nat
  | .hbm => 9
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1024x1024, .bf16⟩
  | .hbm, ⟨4, _⟩ => ⟨S512x1024, .bf16⟩
  | .hbm, ⟨5, _⟩ => ⟨S512x1024, .bf16⟩
  | .hbm, ⟨6, _⟩ => ⟨S16384x1024, .f32⟩
  | .hbm, ⟨7, _⟩ => ⟨S16384x512, .f32⟩
  | .hbm, ⟨8, _⟩ => ⟨S16384x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefBackProjIdeal.lean ====
abbrev S16384x1024 : Shape := ⟨2, ![16384, 1024]⟩
abbrev S1024x1024 : Shape := ⟨2, ![1024, 1024]⟩
abbrev S512x1024 : Shape := ⟨2, ![512, 1024]⟩
abbrev S_ : Shape := ⟨0, ![]⟩
abbrev S16384x512 : Shape := ⟨2, ![16384, 512]⟩

abbrev nBuf : Space → Nat
  | .hbm => 24
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S1024x1024, .bf16⟩
  | .hbm, ⟨4, _⟩ => ⟨S512x1024, .bf16⟩
  | .hbm, ⟨5, _⟩ => ⟨S512x1024, .bf16⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S1024x1024, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S16384x1024, .f32⟩
  | .hbm, ⟨14, _⟩ => ⟨S_, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x512, .f32⟩
  | .hbm, ⟨22, _⟩ => ⟨S16384x512, .f32⟩
  | .hbm, ⟨23, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Pre.lean ====
abbrev S16384x2816 : Shape := ⟨2, ![16384, 2816]⟩
abbrev S1024x2816 : Shape := ⟨2, ![1024, 2816]⟩
abbrev S16384x1024 : Shape := ⟨2, ![16384, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S_ : Shape := ⟨0, ![]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x2816, .bf16⟩
  | .hbm, ⟨3, _⟩ => ⟨S1024x2816, .bf16⟩
  | .hbm, ⟨4, _⟩ => ⟨S16384x1024, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S16384x1024, .f32⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RefPreIdeal.lean ====
abbrev S16384x2816 : Shape := ⟨2, ![16384, 2816]⟩
abbrev S1024x2816 : Shape := ⟨2, ![1024, 2816]⟩
abbrev S16384x1024 : Shape := ⟨2, ![16384, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 60
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x2816, .bf16⟩
  | .hbm, ⟨3, _⟩ => ⟨S1024x2816, .bf16⟩
  | .hbm, ⟨4, _⟩ => ⟨S16384x1024, .f32⟩
  | .hbm, ⟨5, _⟩ => ⟨S16384x1024, .f32⟩
  | .hbm, ⟨6, _⟩ => ⟨S1024, .f32⟩
  | .hbm, ⟨7, _⟩ => ⟨S16384x2816, .f32⟩
  | .hbm, ⟨8, _⟩ => ⟨S16384x2816, .f32⟩
  | .hbm, ⟨9, _⟩ => ⟨S1024x2816, .f32⟩
  | .hbm, ⟨10, _⟩ => ⟨S1024x2816, .f32⟩
  | .hbm, ⟨11, _⟩ => ⟨S1x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== BackIn.lean ====
abbrev S16384x1024 : Shape := ⟨2, ![16384, 1024]⟩
abbrev S16384x2560 : Shape := ⟨2, ![16384, 2560]⟩
abbrev S16384x3072 : Shape := ⟨2, ![16384, 3072]⟩
abbrev S1024x7680 : Shape := ⟨2, ![1024, 7680]⟩
abbrev S1024 : Shape := ⟨1, ![1024]⟩
abbrev S1024x1024 : Shape := ⟨2, ![1024, 1024]⟩
abbrev S1024x2560 : Shape := ⟨2, ![1024, 2560]⟩
abbrev S1024x3072 : Shape := ⟨2, ![1024, 3072]⟩
abbrev S1x1024 : Shape := ⟨2, ![1, 1024]⟩
abbrev S512x1024 : Shape := ⟨2, ![512, 1024]⟩
abbrev S512x2560 : Shape := ⟨2, ![512, 2560]⟩
abbrev S512x3072 : Shape := ⟨2, ![512, 3072]⟩
abbrev S_ : Shape := ⟨0, ![]⟩
abbrev S512 : Shape := ⟨1, ![512]⟩
abbrev S512x1 : Shape := ⟨2, ![512, 1]⟩

abbrev nBuf : Space → Nat
  | .hbm => 15
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2560, .bf16⟩
  | .hbm, ⟨3, _⟩ => ⟨S16384x3072, .bf16⟩
  | .hbm, ⟨4, _⟩ => ⟨S1024x7680, .bf16⟩
  | .hbm, ⟨5, _⟩ => ⟨S16384x1024, .f32⟩
  | .hbm, ⟨6, _⟩ => ⟨S16384x1024, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1024x2560, .bf16⟩
  | .hbm, ⟨11, _⟩ => ⟨S1024x3072, .bf16⟩
  | .hbm, ⟨12, _⟩ => ⟨S1x1024, .f32⟩
  | .hbm, ⟨13, _⟩ => ⟨S16384x1024, .f32⟩
  | .hbm, ⟨14, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2560, .bf16⟩
  | .local _ .vmem, ⟨5, _⟩ => ⟨S512x2560, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x2560, .bf16⟩
  | .local _ .vmem, ⟨19, _⟩ => ⟨S1024x3072, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RefBackInIdeal.lean ====
abbrev S16384x1024 : Shape := ⟨2, ![16384, 1024]⟩
abbrev S16384x2560 : Shape := ⟨2, ![16384, 2560]⟩
abbrev S16384x3072 : Shape := ⟨2, ![16384, 3072]⟩
abbrev S1024x7680 : Shape := ⟨2, ![1024, 7680]⟩
abbrev S1024 : Shape := ⟨1, ![1024]⟩
abbrev S16384x7680 : Shape := ⟨2, ![16384, 7680]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2560, .bf16⟩
  | .hbm, ⟨3, _⟩ => ⟨S16384x3072, .bf16⟩
  | .hbm, ⟨4, _⟩ => ⟨S1024x7680, .bf16⟩
  | .hbm, ⟨5, _⟩ => ⟨S16384x1024, .f32⟩
  | .hbm, ⟨6, _⟩ => ⟨S16384x1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x2560, .f32⟩
  | .hbm, ⟨11, _⟩ => ⟨S16384x3072, .f32⟩
  | .hbm, ⟨12, _⟩ => ⟨S16384x7680, .f32⟩
  | .hbm, ⟨13, _⟩ => ⟨S1024x7680, .f32⟩
  | .hbm, ⟨14, _⟩ => ⟨S1x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x7680, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Post.lean ====
abbrev S16384x1024 : Shape := ⟨2, ![16384, 1024]⟩
abbrev S16384x2816 : Shape := ⟨2, ![16384, 2816]⟩
abbrev S1024 : Shape := ⟨1, ![1024]⟩
abbrev S2816x1024 : Shape := ⟨2, ![2816, 1024]⟩
abbrev S_ : Shape := ⟨0, ![]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 24
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S16384x2816, .bf16⟩
  | .hbm, ⟨3, _⟩ => ⟨S1024, .f32⟩
  | .hbm, ⟨4, _⟩ => ⟨S2816x1024, .bf16⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S1x1024, .f32⟩
  | .hbm, ⟨20, _⟩ => ⟨S16384x2816, .bf16⟩
  | .hbm, ⟨21, _⟩ => ⟨S16384x2816, .bf16⟩
  | .hbm, ⟨22, _⟩ => ⟨S16384x1024, .bf16⟩
  | .hbm, ⟨23, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RefPostIdeal.lean ====
abbrev S16384x1024 : Shape := ⟨2, ![16384, 1024]⟩
abbrev S16384x2816 : Shape := ⟨2, ![16384, 2816]⟩
abbrev S1024 : Shape := ⟨1, ![1024]⟩
abbrev S2816x1024 : Shape := ⟨2, ![2816, 1024]⟩
abbrev S_ : Shape := ⟨0, ![]⟩
abbrev S1x1024 : Shape := ⟨2, ![1, 1024]⟩
abbrev S16384 : Shape := ⟨1, ![16384]⟩
abbrev S16384x1 : Shape := ⟨2, ![16384, 1]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S16384x2816, .bf16⟩
  | .hbm, ⟨3, _⟩ => ⟨S1024, .f32⟩
  | .hbm, ⟨4, _⟩ => ⟨S2816x1024, .bf16⟩
  | .hbm, ⟨5, _⟩ => ⟨S16384x2816, .f32⟩
  | .hbm, ⟨6, _⟩ => ⟨S16384x2816, .f32⟩
  | .hbm, ⟨7, _⟩ => ⟨S2816x1024, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S16384x2816, .f32⟩
  | .hbm, ⟨73, _⟩ => ⟨S16384x2816, .f32⟩
  | .hbm, ⟨74, _⟩ => ⟨S16384x2816, .f32⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S16384x2816, .f32⟩
  | .hbm, ⟨79, _⟩ => ⟨S16384x2816, .bf16⟩
  | .hbm, ⟨80, _⟩ => ⟨S16384x2816, .bf16⟩
  | .hbm, ⟨81, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_cst_8 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]
-- ==== MixBack.lean ====
abbrev S16384x1024 : Shape := ⟨2, ![16384, 1024]⟩
abbrev S16384x3072 : Shape := ⟨2, ![16384, 3072]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512x3072 : Shape := ⟨2, ![512, 3072]⟩
abbrev S_ : Shape := ⟨0, ![]⟩
abbrev S512 : Shape := ⟨1, ![512]⟩
abbrev S512x1 : Shape := ⟨2, ![512, 1]⟩

abbrev nBuf : Space → Nat
  | .hbm => 15
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x3072, .bf16⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S16384x1024, .bf16⟩
  | .hbm, ⟨10, _⟩ => ⟨S16384x1024, .bf16⟩
  | .hbm, ⟨11, _⟩ => ⟨S16384x1024, .bf16⟩
  | .hbm, ⟨12, _⟩ => ⟨S16384x1024, .bf16⟩
  | .hbm, ⟨13, _⟩ => ⟨S16384x3072, .bf16⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x3072, .bf16⟩
  | .local _ .vmem, ⟨11, _⟩ => ⟨S512x3072, .bf16⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x3072, .bf16⟩
  | .local _ .vmem, ⟨22, _⟩ => ⟨S512x3072, .bf16⟩
  | .local _ .vmem, ⟨23, _⟩ => ⟨S1x1024, .f32⟩
  | .local _ .vmem, ⟨24, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RefMixBackIdeal.lean ====
abbrev S16384x1024 : Shape := ⟨2, ![16384, 1024]⟩
abbrev S16384x3072 : Shape := ⟨2, ![16384, 3072]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x3x1024 : Shape := ⟨3, ![16384, 3, 1024]⟩
abbrev S16384x1x1024 : Shape := ⟨3, ![16384, 1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x3072, .bf16⟩
  | .hbm, ⟨6, _⟩ => ⟨S1024, .f32⟩
  | .hbm, ⟨7, _⟩ => ⟨S1024x1024, .bf16⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x3072, .f32⟩
  | .hbm, ⟨12, _⟩ => ⟨S1024x1024, .f32⟩
  | .hbm, ⟨13, _⟩ => ⟨S1x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x3072, .f32⟩
  | .hbm, ⟨57, _⟩ => ⟨S16384x3072, .f32⟩
  | .hbm, ⟨58, _⟩ => ⟨S_, .f32⟩
  | .hbm, ⟨59, _⟩ => ⟨S16384x3072, .f32⟩
  | .hbm, ⟨60, _⟩ => ⟨S16384x3072, .f32⟩
  | .hbm, ⟨61, _⟩ => ⟨S_, .f32⟩
  | .hbm, ⟨62, _⟩ => ⟨S16384x3072, .f32⟩
  | .hbm, ⟨63, _⟩ => ⟨S16384x3072, .f32⟩
  | .hbm, ⟨64, _⟩ => ⟨S_, .f32⟩
  | .hbm, ⟨65, _⟩ => ⟨S16384x3072, .f32⟩
  | .hbm, ⟨66, _⟩ => ⟨S16384x3072, .f32⟩
  | .hbm, ⟨67, _⟩ => ⟨S16384x3072, .f32⟩
  | .hbm, ⟨68, _⟩ => ⟨S16384x3x1024, .f32⟩
  | .hbm, ⟨69, _⟩ => ⟨S16384x1x1024, .f32⟩
  | .hbm, ⟨70, _⟩ => ⟨S16384x1024, .f32⟩
  | .hbm, ⟨71, _⟩ => ⟨S16384x1024, .f32⟩
  | .hbm, ⟨72, _⟩ => ⟨S16384x1x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1x1024, .f32⟩
  | .hbm, ⟨85, _⟩ => ⟨S_, .f32⟩
  | .hbm, ⟨86, _⟩ => ⟨S16384x3x1024, .f32⟩
  | .hbm, ⟨87, _⟩ => ⟨S16384x1024, .f32⟩
  | .hbm, ⟨88, _⟩ => ⟨S16384x1024, .f32⟩
  | .hbm, ⟨89, _⟩ => ⟨S16384x1x1024, .f32⟩
  | .hbm, ⟨90, _⟩ => ⟨S_, .f32⟩
  | .hbm, ⟨91, _⟩ => ⟨S16384x3x1024, .f32⟩
  | .hbm, ⟨92, _⟩ => ⟨S16384x3x1024, .f32⟩
  | .hbm, ⟨93, _⟩ => ⟨S16384x1024, .f32⟩
  | .hbm, ⟨94, _⟩ => ⟨S16384x1024, .f32⟩
  | .hbm, ⟨95, _⟩ => ⟨S16384x1x1024, .f32⟩
  | .hbm, ⟨96, _⟩ => ⟨S_, .f32⟩
  | .hbm, ⟨97, _⟩ => ⟨S16384x3x1024, .f32⟩
  | .hbm, ⟨98, _⟩ => ⟨S16384x3x1024, .f32⟩
  | .hbm, ⟨99, _⟩ => ⟨S16384x3072, .f32⟩
  | .hbm, ⟨100, _⟩ => ⟨S16384x3072, .f32⟩
  | .hbm, ⟨101, _⟩ => ⟨S16384x1024, .bf16⟩
  | .hbm, ⟨102, _⟩ => ⟨S16384x1024, .bf16⟩
  | .hbm, ⟨103, _⟩ => ⟨S16384x1024, .bf16⟩
  | .hbm, ⟨104, _⟩ => ⟨S16384x1024, .bf16⟩
  | .hbm, ⟨105, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_10 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]
-- ==== UpdUp.lean ====
abbrev S4x1024x352 : Shape := ⟨3, ![4, 1024, 352]⟩
abbrev S4096x352 : Shape := ⟨2, ![4096, 352]⟩
abbrev S512x352 : Shape := ⟨2, ![512, 352]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S4096x352, .f32⟩
  | .hbm, ⟨5, _⟩ => ⟨S4096x352, .f32⟩
  | .hbm, ⟨6, _⟩ => ⟨S4096x352, .f32⟩
  | .hbm, ⟨7, _⟩ => ⟨S4096x352, .f32⟩
  | .hbm, ⟨8, _⟩ => ⟨S4096x352, .f32⟩
  | .hbm, ⟨9, _⟩ => ⟨S4096x352, .f32⟩
  | .hbm, ⟨10, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefUpdUpIdeal.lean ====
abbrev S4x1024x352 : Shape := ⟨3, ![4, 1024, 352]⟩
abbrev S_ : Shape := ⟨0, ![]⟩
abbrev S4096x352 : Shape := ⟨2, ![4096, 352]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x352, .f32⟩
  | .hbm, ⟨1, _⟩ => ⟨S4x1024x352, .f32⟩
  | .hbm, ⟨2, _⟩ => ⟨S4x1024x352, .f32⟩
  | .hbm, ⟨3, _⟩ => ⟨S4x1024x352, .f32⟩
  | .hbm, ⟨4, _⟩ => ⟨S_, .f32⟩
  | .hbm, ⟨5, _⟩ => ⟨S4x1024x352, .f32⟩
  | .hbm, ⟨6, _⟩ => ⟨S4x1024x352, .f32⟩
  | .hbm, ⟨7, _⟩ => ⟨S_, .f32⟩
  | .hbm, ⟨8, _⟩ => ⟨S4x1024x352, .f32⟩
  | .hbm, ⟨9, _⟩ => ⟨S4x1024x352, .f32⟩
  | .hbm, ⟨10, _⟩ => ⟨S4x1024x352, .f32⟩
  | .hbm, ⟨11, _⟩ => ⟨S_, .f32⟩
  | .hbm, ⟨12, _⟩ => ⟨S4x1024x352, .f32⟩
  | .hbm, ⟨13, _⟩ => ⟨S4x1024x352, .f32⟩
  | .hbm, ⟨14, _⟩ => ⟨S4x1024x352, .f32⟩
  | .hbm, ⟨15, _⟩ => ⟨S_, .f32⟩
  | .hbm, ⟨16, _⟩ => ⟨S4x1024x352, .f32⟩
  | .hbm, ⟨17, _⟩ => ⟨S4x1024x352, .f32⟩
  | .hbm, ⟨18, _⟩ => ⟨S4x1024x352, .f32⟩
  | .hbm, ⟨19, _⟩ => ⟨S_, .f32⟩
  | .hbm, ⟨20, _⟩ => ⟨S4x1024x352, .f32⟩
  | .hbm, ⟨21, _⟩ => ⟨S4x1024x352, .f32⟩
  | .hbm, ⟨22, _⟩ => ⟨S_, .f32⟩
  | .hbm, ⟨23, _⟩ => ⟨S4x1024x352, .f32⟩
  | .hbm, ⟨24, _⟩ => ⟨S4x1024x352, .f32⟩
  | .hbm, ⟨25, _⟩ => ⟨S4x1024x352, .f32⟩
  | .hbm, ⟨26, _⟩ => ⟨S_, .f32⟩
  | .hbm, ⟨27, _⟩ => ⟨S4x1024x352, .f32⟩
  | .hbm, ⟨28, _⟩ => ⟨S4x1024x352, .f32⟩
  | .hbm, ⟨29, _⟩ => ⟨S4x1024x352, .f32⟩
  | .hbm, ⟨30, _⟩ => ⟨S_, .f32⟩
  | .hbm, ⟨31, _⟩ => ⟨S4x1024x352, .f32⟩
  | .hbm, ⟨32, _⟩ => ⟨S4x1024x352, .f32⟩
  | .hbm, ⟨33, _⟩ => ⟨S4x1024x352, .f32⟩
  | .hbm, ⟨34, _⟩ => ⟨S_, .f32⟩
  | .hbm, ⟨35, _⟩ => ⟨S4x1024x352, .f32⟩
  | .hbm, ⟨36, _⟩ => ⟨S4x1024x352, .f32⟩
  | .hbm, ⟨37, _⟩ => ⟨S4096x352, .f32⟩
  | .hbm, ⟨38, _⟩ => ⟨S4096x352, .f32⟩
  | .hbm, ⟨39, _⟩ => ⟨S4096x352, .f32⟩
  | _, _ => ⟨S4x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== UpdDown.lean ====
abbrev S4x352x1024 : Shape := ⟨3, ![4, 352, 1024]⟩
abbrev S1408x1024 : Shape := ⟨2, ![1408, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefUpdDownIdeal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== UpdIn.lean ====
abbrev S4x1024x960 : Shape := ⟨3, ![4, 1024, 960]⟩
abbrev S4096x960 : Shape := ⟨2, ![4096, 960]⟩
abbrev S256x960 : Shape := ⟨2, ![256, 960]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x960, .f32⟩
  | .hbm, ⟨1, _⟩ => ⟨S4x1024x960, .f32⟩
  | .hbm, ⟨2, _⟩ => ⟨S4x1024x960, .f32⟩
  | .hbm, ⟨3, _⟩ => ⟨S4x1024x960, .f32⟩
  | .hbm, ⟨4, _⟩ => ⟨S4096x960, .f32⟩
  | .hbm, ⟨5, _⟩ => ⟨S4096x960, .f32⟩
  | .hbm, ⟨6, _⟩ => ⟨S4096x960, .f32⟩
  | .hbm, ⟨7, _⟩ => ⟨S4096x960, .f32⟩
  | .hbm, ⟨8, _⟩ => ⟨S4096x960, .f32⟩
  | .hbm, ⟨9, _⟩ => ⟨S4096x960, .f32⟩
  | .hbm, ⟨10, _⟩ => ⟨S4096x960, .f32⟩
  | .local _ .vmem, ⟨0, _⟩ => ⟨S256x960, .f32⟩
  | .local _ .vmem, ⟨1, _⟩ => ⟨S256x960, .f32⟩
  | .local _ .vmem, ⟨2, _⟩ => ⟨S256x960, .f32⟩
  | .local _ .vmem, ⟨3, _⟩ => ⟨S256x960, .f32⟩
  | .local _ .vmem, ⟨4, _⟩ => ⟨S256x960, .f32⟩
  | .local _ .vmem, ⟨5, _⟩ => ⟨S256x960, .f32⟩
  | .local _ .vmem, ⟨6, _⟩ => ⟨S256x960, .f32⟩
  | .local _ .vmem, ⟨7, _⟩ => ⟨S256x960, .f32⟩
  | .local _ .vmem, ⟨8, _⟩ => ⟨S256x960, .f32⟩
  | .local _ .vmem, ⟨9, _⟩ => ⟨S256x960, .f32⟩
  | .local _ .vmem, ⟨10, _⟩ => ⟨S256x960, .f32⟩
  | .local _ .vmem, ⟨11, _⟩ => ⟨S256x960, .f32⟩
  | .local _ .vmem, ⟨12, _⟩ => ⟨S256x960, .f32⟩
  | .local _ .vmem, ⟨13, _⟩ => ⟨S256x960, .f32⟩
  | _, _ => ⟨S4x1024x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x960 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x960 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefUpdInIdeal.lean ====
abbrev S4x1024x960 : Shape := ⟨3, ![4, 1024, 960]⟩
abbrev S_ : Shape := ⟨0, ![]⟩
abbrev S4096x960 : Shape := ⟨2, ![4096, 960]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x960, .f32⟩
  | .hbm, ⟨1, _⟩ => ⟨S4x1024x960, .f32⟩
  | .hbm, ⟨2, _⟩ => ⟨S4x1024x960, .f32⟩
  | .hbm, ⟨3, _⟩ => ⟨S4x1024x960, .f32⟩
  | .hbm, ⟨4, _⟩ => ⟨S_, .f32⟩
  | .hbm, ⟨5, _⟩ => ⟨S4x1024x960, .f32⟩
  | .hbm, ⟨6, _⟩ => ⟨S4x1024x960, .f32⟩
  | .hbm, ⟨7, _⟩ => ⟨S_, .f32⟩
  | .hbm, ⟨8, _⟩ => ⟨S4x1024x960, .f32⟩
  | .hbm, ⟨9, _⟩ => ⟨S4x1024x960, .f32⟩
  | .hbm, ⟨10, _⟩ => ⟨S4x1024x960, .f32⟩
  | .hbm, ⟨11, _⟩ => ⟨S_, .f32⟩
  | .hbm, ⟨12, _⟩ => ⟨S4x1024x960, .f32⟩
  | .hbm, ⟨13, _⟩ => ⟨S4x1024x960, .f32⟩
  | .hbm, ⟨14, _⟩ => ⟨S4x1024x960, .f32⟩
  | .hbm, ⟨15, _⟩ => ⟨S_, .f32⟩
  | .hbm, ⟨16, _⟩ => ⟨S4x1024x960, .f32⟩
  | .hbm, ⟨17, _⟩ => ⟨S4x1024x960, .f32⟩
  | .hbm, ⟨18, _⟩ => ⟨S4x1024x960, .f32⟩
  | .hbm, ⟨19, _⟩ => ⟨S_, .f32⟩
  | .hbm, ⟨20, _⟩ => ⟨S4x1024x960, .f32⟩
  | .hbm, ⟨21, _⟩ => ⟨S4x1024x960, .f32⟩
  | .hbm, ⟨22, _⟩ => ⟨S_, .f32⟩
  | .hbm, ⟨23, _⟩ => ⟨S4x1024x960, .f32⟩
  | .hbm, ⟨24, _⟩ => ⟨S4x1024x960, .f32⟩
  | .hbm, ⟨25, _⟩ => ⟨S4x1024x960, .f32⟩
  | .hbm, ⟨26, _⟩ => ⟨S_, .f32⟩
  | .hbm, ⟨27, _⟩ => ⟨S4x1024x960, .f32⟩
  | .hbm, ⟨28, _⟩ => ⟨S4x1024x960, .f32⟩
  | .hbm, ⟨29, _⟩ => ⟨S4x1024x960, .f32⟩
  | .hbm, ⟨30, _⟩ => ⟨S_, .f32⟩
  | .hbm, ⟨31, _⟩ => ⟨S4x1024x960, .f32⟩
  | .hbm, ⟨32, _⟩ => ⟨S4x1024x960, .f32⟩
  | .hbm, ⟨33, _⟩ => ⟨S4x1024x960, .f32⟩
  | .hbm, ⟨34, _⟩ => ⟨S_, .f32⟩
  | .hbm, ⟨35, _⟩ => ⟨S4x1024x960, .f32⟩
  | .hbm, ⟨36, _⟩ => ⟨S4x1024x960, .f32⟩
  | .hbm, ⟨37, _⟩ => ⟨S4096x960, .f32⟩
  | .hbm, ⟨38, _⟩ => ⟨S4096x960, .f32⟩
  | .hbm, ⟨39, _⟩ => ⟨S4096x960, .f32⟩
  | _, _ => ⟨S4x1024x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== UpdGate.lean ====
abbrev S4x2x4x32x256 : Shape := ⟨5, ![4, 2, 4, 32, 256]⟩
abbrev S1024x256 : Shape := ⟨2, ![1024, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x2x4x32x256, .f32⟩
  | .hbm, ⟨1, _⟩ => ⟨S4x2x4x32x256, .f32⟩
  | .hbm, ⟨2, _⟩ => ⟨S4x2x4x32x256, .f32⟩
  | .hbm, ⟨3, _⟩ => ⟨S4x2x4x32x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4x2x4x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefUpdGateIdeal.lean ====
abbrev S4x2x4x32x256 : Shape := ⟨5, ![4, 2, 4, 32, 256]⟩
abbrev S_ : Shape := ⟨0, ![]⟩
abbrev S1024x256 : Shape := ⟨2, ![1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x2x4x32x256, .f32⟩
  | .hbm, ⟨1, _⟩ => ⟨S4x2x4x32x256, .f32⟩
  | .hbm, ⟨2, _⟩ => ⟨S4x2x4x32x256, .f32⟩
  | .hbm, ⟨3, _⟩ => ⟨S4x2x4x32x256, .f32⟩
  | .hbm, ⟨4, _⟩ => ⟨S_, .f32⟩
  | .hbm, ⟨5, _⟩ => ⟨S4x2x4x32x256, .f32⟩
  | .hbm, ⟨6, _⟩ => ⟨S4x2x4x32x256, .f32⟩
  | .hbm, ⟨7, _⟩ => ⟨S_, .f32⟩
  | .hbm, ⟨8, _⟩ => ⟨S4x2x4x32x256, .f32⟩
  | .hbm, ⟨9, _⟩ => ⟨S4x2x4x32x256, .f32⟩
  | .hbm, ⟨10, _⟩ => ⟨S4x2x4x32x256, .f32⟩
  | .hbm, ⟨11, _⟩ => ⟨S_, .f32⟩
  | .hbm, ⟨12, _⟩ => ⟨S4x2x4x32x256, .f32⟩
  | .hbm, ⟨13, _⟩ => ⟨S4x2x4x32x256, .f32⟩
  | .hbm, ⟨14, _⟩ => ⟨S4x2x4x32x256, .f32⟩
  | .hbm, ⟨15, _⟩ => ⟨S_, .f32⟩
  | .hbm, ⟨16, _⟩ => ⟨S4x2x4x32x256, .f32⟩
  | .hbm, ⟨17, _⟩ => ⟨S4x2x4x32x256, .f32⟩
  | .hbm, ⟨18, _⟩ => ⟨S4x2x4x32x256, .f32⟩
  | .hbm, ⟨19, _⟩ => ⟨S_, .f32⟩
  | .hbm, ⟨20, _⟩ => ⟨S4x2x4x32x256, .f32⟩
  | .hbm, ⟨21, _⟩ => ⟨S4x2x4x32x256, .f32⟩
  | .hbm, ⟨22, _⟩ => ⟨S_, .f32⟩
  | .hbm, ⟨23, _⟩ => ⟨S4x2x4x32x256, .f32⟩
  | .hbm, ⟨24, _⟩ => ⟨S4x2x4x32x256, .f32⟩
  | .hbm, ⟨25, _⟩ => ⟨S4x2x4x32x256, .f32⟩
  | .hbm, ⟨26, _⟩ => ⟨S_, .f32⟩
  | .hbm, ⟨27, _⟩ => ⟨S4x2x4x32x256, .f32⟩
  | .hbm, ⟨28, _⟩ => ⟨S4x2x4x32x256, .f32⟩
  | .hbm, ⟨29, _⟩ => ⟨S4x2x4x32x256, .f32⟩
  | .hbm, ⟨30, _⟩ => ⟨S_, .f32⟩
  | .hbm, ⟨31, _⟩ => ⟨S4x2x4x32x256, .f32⟩
  | .hbm, ⟨32, _⟩ => ⟨S4x2x4x32x256, .f32⟩
  | .hbm, ⟨33, _⟩ => ⟨S4x2x4x32x256, .f32⟩
  | .hbm, ⟨34, _⟩ => ⟨S_, .f32⟩
  | .hbm, ⟨35, _⟩ => ⟨S4x2x4x32x256, .f32⟩
  | .hbm, ⟨36, _⟩ => ⟨S4x2x4x32x256, .f32⟩
  | .hbm, ⟨37, _⟩ => ⟨S1024x256, .f32⟩
  | .hbm, ⟨38, _⟩ => ⟨S1024x256, .f32⟩
  | .hbm, ⟨39, _⟩ => ⟨S1024x256, .f32⟩
  | _, _ => ⟨S4x2x4x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== UpdOut.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefUpdOutIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== UpdBranch.lean ====
abbrev S4x512x128 : Shape := ⟨3, ![4, 512, 128]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefUpdBranchIdeal.lean ====
abbrev S4x512x128 : Shape := ⟨3, ![4, 512, 128]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S4x512x128, .f32⟩
  | .hbm, ⟨3, _⟩ => ⟨S4x512x128, .f32⟩
  | .hbm, ⟨4, _⟩ => ⟨S_, .f32⟩
  | .hbm, ⟨5, _⟩ => ⟨S4x512x128, .f32⟩
  | .hbm, ⟨6, _⟩ => ⟨S4x512x128, .f32⟩
  | .hbm, ⟨7, _⟩ => ⟨S_, .f32⟩
  | .hbm, ⟨8, _⟩ => ⟨S4x512x128, .f32⟩
  | .hbm, ⟨9, _⟩ => ⟨S4x512x128, .f32⟩
  | .hbm, ⟨10, _⟩ => ⟨S4x512x128, .f32⟩
  | .hbm, ⟨11, _⟩ => ⟨S_, .f32⟩
  | .hbm, ⟨12, _⟩ => ⟨S4x512x128, .f32⟩
  | .hbm, ⟨13, _⟩ => ⟨S4x512x128, .f32⟩
  | .hbm, ⟨14, _⟩ => ⟨S4x512x128, .f32⟩
  | .hbm, ⟨15, _⟩ => ⟨S_, .f32⟩
  | .hbm, ⟨16, _⟩ => ⟨S4x512x128, .f32⟩
  | .hbm, ⟨17, _⟩ => ⟨S4x512x128, .f32⟩
  | .hbm, ⟨18, _⟩ => ⟨S4x512x128, .f32⟩
  | .hbm, ⟨19, _⟩ => ⟨S_, .f32⟩
  | .hbm, ⟨20, _⟩ => ⟨S4x512x128, .f32⟩
  | .hbm, ⟨21, _⟩ => ⟨S4x512x128, .f32⟩
  | .hbm, ⟨22, _⟩ => ⟨S_, .f32⟩
  | .hbm, ⟨23, _⟩ => ⟨S4x512x128, .f32⟩
  | .hbm, ⟨24, _⟩ => ⟨S4x512x128, .f32⟩
  | .hbm, ⟨25, _⟩ => ⟨S4x512x128, .f32⟩
  | .hbm, ⟨26, _⟩ => ⟨S_, .f32⟩
  | .hbm, ⟨27, _⟩ => ⟨S4x512x128, .f32⟩
  | .hbm, ⟨28, _⟩ => ⟨S4x512x128, .f32⟩
  | .hbm, ⟨29, _⟩ => ⟨S4x512x128, .f32⟩
  | .hbm, ⟨30, _⟩ => ⟨S_, .f32⟩
  | .hbm, ⟨31, _⟩ => ⟨S4x512x128, .f32⟩
  | .hbm, ⟨32, _⟩ => ⟨S4x512x128, .f32⟩
  | .hbm, ⟨33, _⟩ => ⟨S4x512x128, .f32⟩
  | .hbm, ⟨34, _⟩ => ⟨S_, .f32⟩
  | .hbm, ⟨35, _⟩ => ⟨S4x512x128, .f32⟩
  | .hbm, ⟨36, _⟩ => ⟨S4x512x128, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== UpdVec.lean ====
abbrev S304x1024 : Shape := ⟨2, ![304, 1024]⟩

abbrev nBuf : Space → Nat
  | .hbm => 8
  | .vmem => 8
  | .smem => 0
  | _ => 0

abbrev bufTy : (tb : Table) → Fin (tcTables nBuf tb) → BufTy
  | .hbm, ⟨0, _⟩ => ⟨S304x1024, .f32⟩
  | .hbm, ⟨1, _⟩ => ⟨S304x1024, .f32⟩
  | .hbm, ⟨2, _⟩ => ⟨S304x1024, .f32⟩
  | .hbm, ⟨3, _⟩ => ⟨S304x1024, .f32⟩
  | .hbm, ⟨4, _⟩ => ⟨S304x1024, .f32⟩
  | .hbm, ⟨5, _⟩ => ⟨S304x1024, .f32⟩
  | .hbm, ⟨6, _⟩ => ⟨S304x1024, .f32⟩
  | .hbm, ⟨7, _⟩ => ⟨S304x1024, .f32⟩
  | .local _ .vmem, ⟨0, _⟩ => ⟨S304x1024, .f32⟩
  | .local _ .vmem, ⟨1, _⟩ => ⟨S304x1024, .f32⟩
  | .local _ .vmem, ⟨2, _⟩ => ⟨S304x1024, .f32⟩
  | .local _ .vmem, ⟨3, _⟩ => ⟨S304x1024, .f32⟩
  | .local _ .vmem, ⟨4, _⟩ => ⟨S304x1024, .f32⟩
  | .local _ .vmem, ⟨5, _⟩ => ⟨S304x1024, .f32⟩
  | .local _ .vmem, ⟨6, _⟩ => ⟨S304x1024, .f32⟩
  | .local _ .vmem, ⟨7, _⟩ => ⟨S304x1024, .f32⟩
  | _, _ => ⟨S304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S304x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S304x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S304x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S304x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S304x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S304x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S304x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S304x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== RefUpdVecIdeal.lean ====
abbrev S304x1024 : Shape := ⟨2, ![304, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S304x1024, .f32⟩
  | .hbm, ⟨1, _⟩ => ⟨S304x1024, .f32⟩
  | .hbm, ⟨2, _⟩ => ⟨S304x1024, .f32⟩
  | .hbm, ⟨3, _⟩ => ⟨S304x1024, .f32⟩
  | .hbm, ⟨4, _⟩ => ⟨S_, .f32⟩
  | .hbm, ⟨5, _⟩ => ⟨S304x1024, .f32⟩
  | .hbm, ⟨6, _⟩ => ⟨S304x1024, .f32⟩
  | .hbm, ⟨7, _⟩ => ⟨S_, .f32⟩
  | .hbm, ⟨8, _⟩ => ⟨S304x1024, .f32⟩
  | .hbm, ⟨9, _⟩ => ⟨S304x1024, .f32⟩
  | .hbm, ⟨10, _⟩ => ⟨S304x1024, .f32⟩
  | .hbm, ⟨11, _⟩ => ⟨S_, .f32⟩
  | .hbm, ⟨12, _⟩ => ⟨S304x1024, .f32⟩
  | .hbm, ⟨13, _⟩ => ⟨S304x1024, .f32⟩
  | .hbm, ⟨14, _⟩ => ⟨S304x1024, .f32⟩
  | .hbm, ⟨15, _⟩ => ⟨S_, .f32⟩
  | .hbm, ⟨16, _⟩ => ⟨S304x1024, .f32⟩
  | .hbm, ⟨17, _⟩ => ⟨S304x1024, .f32⟩
  | .hbm, ⟨18, _⟩ => ⟨S304x1024, .f32⟩
  | .hbm, ⟨19, _⟩ => ⟨S_, .f32⟩
  | .hbm, ⟨20, _⟩ => ⟨S304x1024, .f32⟩
  | .hbm, ⟨21, _⟩ => ⟨S304x1024, .f32⟩
  | .hbm, ⟨22, _⟩ => ⟨S_, .f32⟩
  | .hbm, ⟨23, _⟩ => ⟨S304x1024, .f32⟩
  | .hbm, ⟨24, _⟩ => ⟨S304x1024, .f32⟩
  | .hbm, ⟨25, _⟩ => ⟨S304x1024, .f32⟩
  | .hbm, ⟨26, _⟩ => ⟨S_, .f32⟩
  | .hbm, ⟨27, _⟩ => ⟨S304x1024, .f32⟩
  | .hbm, ⟨28, _⟩ => ⟨S304x1024, .f32⟩
  | .hbm, ⟨29, _⟩ => ⟨S304x1024, .f32⟩
  | .hbm, ⟨30, _⟩ => ⟨S_, .f32⟩
  | .hbm, ⟨31, _⟩ => ⟨S304x1024, .f32⟩
  | .hbm, ⟨32, _⟩ => ⟨S304x1024, .f32⟩
  | .hbm, ⟨33, _⟩ => ⟨S304x1024, .f32⟩
  | .hbm, ⟨34, _⟩ => ⟨S_, .f32⟩
  | .hbm, ⟨35, _⟩ => ⟨S304x1024, .f32⟩
  | .hbm, ⟨36, _⟩ => ⟨S304x1024, .f32⟩
  | _, _ => ⟨S304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Loss.lean ====
abbrev S16384x1024 : Shape := ⟨2, ![16384, 1024]⟩
abbrev S1x128 : Shape := ⟨2, ![1, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RefLossIdeal.lean ====
abbrev S16384x1024 : Shape := ⟨2, ![16384, 1024]⟩
abbrev S_ : Shape := ⟨0, ![]⟩
abbrev S16384 : Shape := ⟨1, ![16384]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | .hbm, ⟨25, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== ConvBack.lean ====
abbrev S16384x1024 : Shape := ⟨2, ![16384, 1024]⟩
abbrev S4x1024 : Shape := ⟨2, ![4, 1024]⟩
abbrev S1x1024 : Shape := ⟨2, ![1, 1024]⟩
abbrev S512x1024 : Shape := ⟨2, ![512, 1024]⟩
abbrev S16x1024 : Shape := ⟨2, ![16, 1024]⟩
abbrev S544x1024 : Shape := ⟨2, ![544, 1024]⟩
abbrev S1024 : Shape := ⟨1, ![1024]⟩

abbrev nBuf : Space → Nat
  | .hbm => 6
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S4x1024, .f32⟩
  | .hbm, ⟨3, _⟩ => ⟨S16384x1024, .bf16⟩
  | .hbm, ⟨4, _⟩ => ⟨S4x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S4x1024, .f32⟩
  | .local _ .vmem, ⟨13, _⟩ => ⟨S512x1024, .bf16⟩
  | .local _ .vmem, ⟨14, _⟩ => ⟨S512x1024, .bf16⟩
  | .local _ .vmem, ⟨15, _⟩ => ⟨S4x1024, .f32⟩
  | .local _ .vmem, ⟨16, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefConvBackIdeal.lean ====
abbrev S16384x1024 : Shape := ⟨2, ![16384, 1024]⟩
abbrev S4x1024 : Shape := ⟨2, ![4, 1024]⟩
abbrev S_ : Shape := ⟨0, ![]⟩
abbrev S1x1024 : Shape := ⟨2, ![1, 1024]⟩
abbrev S2x1024 : Shape := ⟨2, ![2, 1024]⟩
abbrev S16387x1024 : Shape := ⟨2, ![16387, 1024]⟩
abbrev S1024 : Shape := ⟨1, ![1024]⟩

abbrev nBuf : Space → Nat
  | .hbm => 118
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S4x1024, .f32⟩
  | .hbm, ⟨3, _⟩ => ⟨S16384x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S2x1024, .f32⟩
  | .hbm, ⟨8, _⟩ => ⟨S_, .f32⟩
  | .hbm, ⟨9, _⟩ => ⟨S1x1024, .f32⟩
  | .hbm, ⟨10, _⟩ => ⟨S16387x1024, .f32⟩
  | .hbm, ⟨11, _⟩ => ⟨S_, .f32⟩
  | .hbm, ⟨12, _⟩ => ⟨S2x1024, .f32⟩
  | .hbm, ⟨13, _⟩ => ⟨S_, .f32⟩
  | .hbm, ⟨14, _⟩ => ⟨S1x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S4x1024, .f32⟩
  | .hbm, ⟨67, _⟩ => ⟨S_, .f32⟩
  | .hbm, ⟨68, _⟩ => ⟨S16387x1024, .f32⟩
  | .hbm, ⟨69, _⟩ => ⟨S16384x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S4x1024, .f32⟩
  | .hbm, ⟨80, _⟩ => ⟨S4x1024, .f32⟩
  | .hbm, ⟨81, _⟩ => ⟨S_, .f32⟩
  | .hbm, ⟨82, _⟩ => ⟨S16387x1024, .f32⟩
  | .hbm, ⟨83, _⟩ => ⟨S16387x1024, .f32⟩
  | .hbm, ⟨84, _⟩ => ⟨S16384x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S16384x1024, .f32⟩
  | .hbm, ⟨89, _⟩ => ⟨S16384x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S_, .f32⟩
  | .hbm, ⟨94, _⟩ => ⟨S4x1024, .f32⟩
  | .hbm, ⟨95, _⟩ => ⟨S4x1024, .f32⟩
  | .hbm, ⟨96, _⟩ => ⟨S_, .f32⟩
  | .hbm, ⟨97, _⟩ => ⟨S16387x1024, .f32⟩
  | .hbm, ⟨98, _⟩ => ⟨S16387x1024, .f32⟩
  | .hbm, ⟨99, _⟩ => ⟨S16384x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S16384x1024, .f32⟩
  | .hbm, ⟨104, _⟩ => ⟨S16384x1024, .f32⟩
  | .hbm, ⟨105, _⟩ => ⟨S_, .f32⟩
  | .hbm, ⟨106, _⟩ => ⟨S1024, .f32⟩
  | .hbm, ⟨107, _⟩ => ⟨S1x1024, .f32⟩
  | .hbm, ⟨108, _⟩ => ⟨S_, .f32⟩
  | .hbm, ⟨109, _⟩ => ⟨S4x1024, .f32⟩
  | .hbm, ⟨110, _⟩ => ⟨S4x1024, .f32⟩
  | .hbm, ⟨111, _⟩ => ⟨S_, .f32⟩
  | .hbm, ⟨112, _⟩ => ⟨S16387x1024, .f32⟩
  | .hbm, ⟨113, _⟩ => ⟨S16387x1024, .f32⟩
  | .hbm, ⟨114, _⟩ => ⟨S2x1024, .f32⟩
  | .hbm, ⟨115, _⟩ => ⟨S16384x1024, .f32⟩
  | .hbm, ⟨116, _⟩ => ⟨S1x1024, .f32⟩
  | .hbm, ⟨117, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_cst_14 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_15 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_16 : Ref sig .tc := ⟨.hbm, 90, rfl⟩
abbrev main_v70 : Ref sig .tc := ⟨.hbm, 91, rfl⟩
abbrev main_v71 : Ref sig .tc := ⟨.hbm, 92, rfl⟩
abbrev main_cst_17 : Ref sig .tc := ⟨.hbm, 93, rfl⟩
abbrev main_v72 : Ref sig .tc := ⟨.hbm, 94, rfl⟩
abbrev main_v73 : Ref sig .tc := ⟨.hbm, 95, rfl⟩
abbrev main_cst_18 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_19 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_20 : Ref sig .tc := ⟨.hbm, 105, rfl⟩
abbrev main_v81 : Ref sig .tc := ⟨.hbm, 106, rfl⟩
abbrev main_v82 : Ref sig .tc := ⟨.hbm, 107, rfl⟩
abbrev main_cst_21 : Ref sig .tc := ⟨.hbm, 108, rfl⟩
abbrev main_v83 : Ref sig .tc := ⟨.hbm, 109, rfl⟩
abbrev main_v84 : Ref sig .tc := ⟨.hbm, 110, rfl⟩
abbrev main_cst_22 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩

abbrev nD : Nat := 1
abbrev τ : Topo := Topo.v7x

variable {F : FTy → Type} [FloatOps F]
-- ==== SumParts.lean ====
abbrev S8x336x1024 : Shape := ⟨3, ![8, 336, 1024]⟩
abbrev S336x1024 : Shape := ⟨2, ![336, 1024]⟩
abbrev S1x336x1024 : Shape := ⟨3, ![1, 336, 1024]⟩

abbrev nBuf : Space → Nat
  | .hbm => 2
  | .vmem => 9
  | .smem => 0
  | _ => 0

abbrev bufTy : (tb : Table) → Fin (tcTables nBuf tb) → BufTy
  | .hbm, ⟨0, _⟩ => ⟨S8x336x1024, .f32⟩
  | .hbm, ⟨1, _⟩ => ⟨S336x1024, .f32⟩
  | .local _ .vmem, ⟨0, _⟩ => ⟨S1x336x1024, .f32⟩
  | .local _ .vmem, ⟨1, _⟩ => ⟨S1x336x1024, .f32⟩
  | .local _ .vmem, ⟨2, _⟩ => ⟨S1x336x1024, .f32⟩
  | .local _ .vmem, ⟨3, _⟩ => ⟨S1x336x1024, .f32⟩
  | .local _ .vmem, ⟨4, _⟩ => ⟨S1x336x1024, .f32⟩
  | .local _ .vmem, ⟨5, _⟩ => ⟨S1x336x1024, .f32⟩
  | .local _ .vmem, ⟨6, _⟩ => ⟨S1x336x1024, .f32⟩
  | .local _ .vmem, ⟨7, _⟩ => ⟨S1x336x1024, .f32⟩
  | .local _ .vmem, ⟨8, _⟩ => ⟨S336x1024, .f32⟩
  | _, _ => ⟨S8x336x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x336x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x336x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x336x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x336x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x336x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x336x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x336x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x336x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S336x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== RefSumPartsIdeal.lean ====
abbrev S8x336x1024 : Shape := ⟨3, ![8, 336, 1024]⟩
abbrev S_ : Shape := ⟨0, ![]⟩
abbrev S336x1024 : Shape := ⟨2, ![336, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x336x1024, .f32⟩
  | .hbm, ⟨1, _⟩ => ⟨S_, .f32⟩
  | .hbm, ⟨2, _⟩ => ⟨S336x1024, .f32⟩
  | _, _ => ⟨S8x336x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairSum.lean ====
abbrev S4x2x3584x1024 : Shape := ⟨4, ![4, 2, 3584, 1024]⟩
abbrev S4x3584x1024 : Shape := ⟨3, ![4, 3584, 1024]⟩
abbrev S1 : Shape := ⟨1, ![1]⟩
abbrev S1x1 : Shape := ⟨2, ![1, 1]⟩
abbrev S4x1x3584x1024 : Shape := ⟨4, ![4, 1, 3584, 1024]⟩
abbrev S1x1x512x1024 : Shape := ⟨4, ![1, 1, 512, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x2x3584x1024, .f32⟩
  | .hbm, ⟨1, _⟩ => ⟨S4x3584x1024, .f32⟩
  | .hbm, ⟨2, _⟩ => ⟨S1, .i32⟩
  | .hbm, ⟨3, _⟩ => ⟨S1x1, .i32⟩
  | .hbm, ⟨4, _⟩ => ⟨S4x1x3584x1024, .f32⟩
  | .hbm, ⟨5, _⟩ => ⟨S4x3584x1024, .bf16⟩
  | .local _ .vmem, ⟨0, _⟩ => ⟨S1x1x512x1024, .f32⟩
  | .local _ .vmem, ⟨1, _⟩ => ⟨S1x1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .bf16⟩
  | .local _ .vmem, ⟨5, _⟩ => ⟨S1x512x1024, .bf16⟩
  | _, _ => ⟨S4x2x3584x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefPairSumIdeal.lean ====
abbrev S4x2x3584x1024 : Shape := ⟨4, ![4, 2, 3584, 1024]⟩
abbrev S4x3584x1024 : Shape := ⟨3, ![4, 3584, 1024]⟩
abbrev S1 : Shape := ⟨1, ![1]⟩
abbrev S1x1 : Shape := ⟨2, ![1, 1]⟩
abbrev S4x1x3584x1024 : Shape := ⟨4, ![4, 1, 3584, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2x3584x1024, .f32⟩
  | .hbm, ⟨1, _⟩ => ⟨S4x3584x1024, .f32⟩
  | .hbm, ⟨2, _⟩ => ⟨S1, .i32⟩
  | .hbm, ⟨3, _⟩ => ⟨S1x1, .i32⟩
  | .hbm, ⟨4, _⟩ => ⟨S4x1x3584x1024, .f32⟩
  | .hbm, ⟨5, _⟩ => ⟨S4x3584x1024, .f32⟩
  | .hbm, ⟨6, _⟩ => ⟨S4x3584x1024, .f32⟩
  | .hbm, ⟨7, _⟩ => ⟨S4x3584x1024, .bf16⟩
  | _, _ => ⟨S4x2x3584x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== ChipSum.lean ====
abbrev S4x3584x1024 : Shape := ⟨3, ![4, 3584, 1024]⟩
abbrev S3x3584x1024 : Shape := ⟨3, ![3, 3584, 1024]⟩
abbrev S1 : Shape := ⟨1, ![1]⟩
abbrev S1x1 : Shape := ⟨2, ![1, 1]⟩
abbrev S1x3584x1024 : Shape := ⟨3, ![1, 3584, 1024]⟩
abbrev S3584x1024 : Shape := ⟨2, ![3584, 1024]⟩
abbrev S1x512x1024 : Shape := ⟨3, ![1, 512, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4x3584x1024, .bf16⟩
  | .hbm, ⟨1, _⟩ => ⟨S3x3584x1024, .bf16⟩
  | .hbm, ⟨2, _⟩ => ⟨S1, .i32⟩
  | .hbm, ⟨3, _⟩ => ⟨S1x1, .i32⟩
  | .hbm, ⟨4, _⟩ => ⟨S1x3584x1024, .bf16⟩
  | .hbm, ⟨5, _⟩ => ⟨S3584x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | _, _ => ⟨S4x3584x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![7], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefChipSumIdeal.lean ====
abbrev S4x3584x1024 : Shape := ⟨3, ![4, 3584, 1024]⟩
abbrev S3x3584x1024 : Shape := ⟨3, ![3, 3584, 1024]⟩
abbrev S1 : Shape := ⟨1, ![1]⟩
abbrev S1x1 : Shape := ⟨2, ![1, 1]⟩
abbrev S1x3584x1024 : Shape := ⟨3, ![1, 3584, 1024]⟩
abbrev S3584x1024 : Shape := ⟨2, ![3584, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x3584x1024, .bf16⟩
  | .hbm, ⟨1, _⟩ => ⟨S3x3584x1024, .bf16⟩
  | .hbm, ⟨2, _⟩ => ⟨S1, .i32⟩
  | .hbm, ⟨3, _⟩ => ⟨S1x1, .i32⟩
  | .hbm, ⟨4, _⟩ => ⟨S1x3584x1024, .bf16⟩
  | .hbm, ⟨5, _⟩ => ⟨S3584x1024, .bf16⟩
  | .hbm, ⟨6, _⟩ => ⟨S3584x1024, .f32⟩
  | .hbm, ⟨7, _⟩ => ⟨S3x3584x1024, .f32⟩
  | .hbm, ⟨8, _⟩ => ⟨S_, .f32⟩
  | .hbm, ⟨9, _⟩ => ⟨S3584x1024, .f32⟩
  | .hbm, ⟨10, _⟩ => ⟨S3584x1024, .f32⟩
  | _, _ => ⟨S4x3584x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Rows.lean ====
/- Tables read at pairs of natural numbers, and sums over all rows taken tile by tile. -/
module

public import Idealize.ShloMosaic.Lib.Pointwise
public import Idealize.ShloMosaic.Lib.Pipeline.ValueKit
public import Idealize.ShloMosaic.Lib.Pipeline.ReadBack
public import Idealize.ShloMosaic.Lib.KernelVsHost

@[expose] public section

noncomputable section

namespace Cert.Rows

open Idealize.ShloMosaic

/-- The entry of a table at a pair of positions, zero outside the table. -/
def ent {R C : ℕ} (x : (⟨2, ![R, C]⟩ : Shape).Idx → EReal) (r c : ℕ) : EReal :=
  if h : r < R ∧ c < C then x (fun a => match a with | ⟨0, _⟩ => ⟨r, h.1⟩ | ⟨1, _⟩ => ⟨c, h.2⟩) else 0

/-- Inside the table it is the table's own entry. -/
theorem ent_of {R C : ℕ} (x : (⟨2, ![R, C]⟩ : Shape).Idx → EReal) (j : (⟨2, ![R, C]⟩ : Shape).Idx) (r c : ℕ)
    (hr : (j 0).val = r) (hc : (j 1).val = c) : x j = ent x r c := by
  subst hr hc
  have h : (j 0).val < R ∧ (j 1).val < C := ⟨(j 0).isLt, (j 1).isLt⟩
  rw [ent, dif_pos h]
  exact congrArg x (funext fun a => by fin_cases a <;> rfl)

/-- A sum over `n` tiles of `k` rows is the sum over all the rows. -/
theorem sum_tiles (n k : ℕ) (a : ℕ → EReal) :
    ∑ s ∈ Finset.range n, ∑ r : Fin k, a (k * s + r) = ∑ r : Fin (n * k), a r := by
  rw [Finset.sum_range, ← Fintype.sum_prod_type', ← finProdFinEquiv.sum_comp]
  refine Fintype.sum_congr _ _ fun x => ?_
  simp [finProdFinEquiv, add_comm]

/-- A load of the whole buffer after stores is what the stores left. -/
theorem readCov_whole {F : FTy → Type} [FloatOps F] {sig : RefSig} {κ : Kind} {sp : Space} {s : Shape} {e : EltTy} (v : View sig κ sp s e)
    {off : Fin s.rank → ℕ} (inb : ∀ a, off a + s.size a ≤ s.size a) (L : List (View.Piece (Elt F) s e)) (h : ∀ a, off a = 0) :
    v.readCov L (Rect.unit off (no_index s.size) inb).toLoadRect = View.canon L := by
  rw [View.readCov_eq_canon']
  exact View.ld_unit_lit inb (View.canon L) h

/-- What a transfer of a whole array leaves. -/
theorem canon_whole {F : FTy → Type} [FloatOps F] {s : Shape} {e : EltTy} (f : s.Idx → Elt F e) :
    View.canon [(⟨Rect.whole s, f⟩ : View.Piece (Elt F) s e)] = f :=
  View.canon_cons_unit_lit (off := fun _ => 0) (fun a => by simp) f [] (fun _ => rfl)
/-- A load of the whole buffer after a transfer of a whole array reads that array. -/
theorem readCov_landed {F : FTy → Type} [FloatOps F] {sig : RefSig} {κ : Kind} {sp : Space} {s : Shape} {e : EltTy} (v : View sig κ sp s e)
    {off : Fin s.rank → ℕ} (inb : ∀ a, off a + s.size a ≤ s.size a) (f : s.Idx → Elt F e) (h : ∀ a, off a = 0) :
    v.readCov [(⟨Rect.whole s, f⟩ : View.Piece (Elt F) s e)] (Rect.unit off (no_index s.size) inb).toLoadRect = f := by
  rw [readCov_whole v inb _ h, canon_whole]

/-- Row `r` of tile `n` of 512 rows. -/
def row (n : ℕ) (h : n < 32) (r : Fin 512) : Fin 16384 := ⟨512 * n + r.val, by omega⟩
/-- Tile `n` of a table of 16384 rows. -/
def tile {C : ℕ} (n : ℕ) (h : n < 32) (x : (⟨2, ![16384, C]⟩ : Shape).Idx → EReal) : (⟨2, ![512, C]⟩ : Shape).Idx → EReal :=
  fun y => x (ix2 (row n h (y 0)) (y 1))
theorem tile_ix2 {C : ℕ} (n : ℕ) (h : n < 32) (x : (⟨2, ![16384, C]⟩ : Shape).Idx → EReal) (a : Fin 512) (b : Fin C) :
    tile n h x (ix2 a b) = x (ix2 (row n h a) b) := rfl
/-- An entry at a position of the tile's rows is the tile's entry. -/
theorem tile_of {C : ℕ} (n : ℕ) (h : n < 32) (x : (⟨2, ![16384, C]⟩ : Shape).Idx → EReal) (y : (⟨2, ![512, C]⟩ : Shape).Idx)
    (j : (⟨2, ![16384, C]⟩ : Shape).Idx) (h0 : (j 0).val = 512 * n + (y 0).val) (h1 : (j 1).val = (y 1).val) : x j = tile n h x y :=
  congrArg x (funext fun a => by fin_cases a <;> exact Fin.ext (by first | exact h0 | exact h1))
/-- A vector as a table of one row. -/
def gain {C : ℕ} (g : (⟨1, ![C]⟩ : Shape).Idx → EReal) : (⟨2, ![1, C]⟩ : Shape).Idx → EReal := fun y => g (ix1 (y 1))
theorem gain_ix2 {C : ℕ} (g : (⟨1, ![C]⟩ : Shape).Idx → EReal) (a : Fin 1) (b : Fin C) : gain g (ix2 a b) = g (ix1 b) := rfl
/-- The `C` columns of a table from column `o` on. -/
def cols {R D : ℕ} (o C : ℕ) (h : o + C ≤ D) (x : (⟨2, ![R, D]⟩ : Shape).Idx → EReal) : (⟨2, ![R, C]⟩ : Shape).Idx → EReal :=
  fun y => x (ix2 (y 0) ⟨o + (y 1).val, Nat.lt_of_lt_of_le (Nat.add_lt_add_left (y 1).isLt o) h⟩)

end Cert.Rows

end
-- ==== Proof.DwUpEq.lean ====
/- The weight gradient of the gate and up products: the kernel accumulates it over tiles of 1024 rows, and it is the reference's gradient. -/
module

public import proofs.«01_k».proof.Proof.Rows
public import proofs.«01_k».proof.Proof.Gen.DwUpIdeal.Value
public import proofs.«01_k».proof.Proof.Gen.RefDwUpIdeal.Run
public import proofs.«01_k».proof.Proof.Gen.RefDwUpIdeal.Read
public import proofs.«01_k».proof.Defs

@[expose] public section

set_option maxRecDepth 16384

noncomputable section

namespace Cert.DwUpEq

open Idealize.ShloMosaic Idealize.ShloMosaic.TcCoe Idealize.ShloMosaic.StableHlo Idealize.SL.Sem Cert.Rows
open Idealize.ShloMosaic.Pipeline (Dat)
open Finset (range)
open Cert.RefDwUpIdeal.Read

section kernel
open Cert.DwUpIdeal Cert.DwUpIdeal.Gen Cert.DwUpIdeal.Value

section
variable (c : Dev nD) (i : grid0.Coords) (a1 : Memref sig .tc .vmem S1024x1024 .bf16) (h1 : a1.IsWhole)
  (a2 : Memref sig .tc .vmem S1024x2816 .bf16) (h2 : a2.IsWhole) (a3 : Memref sig .tc .vmem S1024x2816 .f32) (h3 : a3.IsWhole)
  (x0 : Vec Ideal S1024x1024 .bf16) (x1 : Vec Ideal S1024x2816 .bf16) (y : Vec Ideal S1024x2816 .f32)

/-- The first point adds its product to zeros. -/
theorem outA (hc : cond0_0 i) : out0_A_2 c i a1 h1 a2 h2 a3 h3 hc x0 x1 = k0_pay2 k0_pay1 x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- A later point adds its product to what the block held. -/
theorem outB (hc : ¬cond0_0 i) : out0_B_2 c i a1 h1 a2 h2 a3 h3 hc x0 x1 y = k0_pay2 y x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- What one point leaves, entry by entry. -/
theorem pay (j : S1024x2816.Idx) : (k0_pay2 (F := Ideal) y x0 x1 j : EReal) = y j + ∑ k : Fin 1024, x0 (ix2 k (j 0)) * x1 (ix2 k (j 1)) := by
  pointwise [k0_pay2]
end

theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel

variable (m : (ℓ : Loc nD τ sig) → Buf (Elt Ideal) ℓ) (c : Dev nD)

/-- The activations that the region reads. -/
abbrev X : S16384x1024.Idx → EReal := V m c main_v13
/-- The cotangent that the region reads. -/
abbrev Y : S16384x2816.Idx → EReal := V m c main_arg3

theorem blk0 (t : Fin cfg0.N) (y : S1024x1024.Idx) : (iblk m c 0 t y : EReal) = ent (X m c) (1024 * t.val + (y 0).val) (y 1).val := by
  blk_simp [iblk]
  refine ent_of _ _ _ _ ?_ ?_ <;> blk_simp [ix_0 t] <;> simp only [Nat.zero_mul, Nat.zero_add, Nat.mul_comm _ 1024]
theorem blk1 (t : Fin cfg0.N) (y : S1024x2816.Idx) : (iblk m c 1 t y : EReal) = ent (Y m c) (1024 * t.val + (y 0).val) (y 1).val := by
  blk_simp [iblk]
  refine ent_of _ _ _ _ ?_ ?_ <;> blk_simp [ix_1 t] <;> simp only [Nat.zero_mul, Nat.zero_add, Nat.mul_comm _ 1024]

/-- A point's term of the sum. -/
def term (s : ℕ) (j : S1024x2816.Idx) : EReal :=
  ∑ r : Fin 1024, ent (X m c) (1024 * s + r.val) (j 0).val * ent (Y m c) (1024 * s + r.val) (j 1).val

/-- After a point the block holds the sum of the terms so far. -/
theorem holds (j : S1024x2816.Idx) : ∀ (n : ℕ) (h : n < cfg0.N),
    (outsAt0 m c n h j : EReal) = ∑ s ∈ range (n + 1), term m c s j
  | 0, h => by
    refine (congrFun (outsAt0_A m c ⟨0, h⟩ rfl) j).trans ?_
    rw [outA, pay, Finset.sum_range_one]
    simp only [blk0, blk1, ix2_0, ix2_1]
    rw [show (k0_pay1 (F := Ideal) j : EReal) = 0 by pointwise [k0_pay1], zero_add]
    rfl
  | n + 1, h => by
    have hN : n + 1 < 16 := lt_of_lt_of_eq h N_0
    refine (congrFun (outsAt0_B m c ⟨n + 1, h⟩ (by dsimp only; omega)) j).trans ?_
    rw [outB, pay, Finset.sum_range_succ]
    simp only [blk0, blk1, ix2_0, ix2_1]
    exact congrArg (· + _) (holds j n (Nat.lt_of_succ_lt h))

/-- The last grid point. -/
def tLast : Fin cfg0.N := ⟨15, lt_of_lt_of_eq (by decide) N_0.symm⟩

/-- The activations' transpose times the cotangent. -/
def out : S1024x2816.Idx → EReal := fun j => ∑ r : Fin 16384, ent (X m c) r.val (j 0).val * ent (Y m c) r.val (j 1).val
/-- The result is that product. -/
theorem arr : (dats m 0 c).arrAt 2 cfg0.N = out m c := by
  refine (dats m 0 c).arrAt_eq_of_after_last 2 tLast (by decide +kernel) _ fun j => ?_
  blk_simp
  rw [after0_2, holds]
  exact sum_tiles 16 1024 (fun r => ent (X m c) r (j 0).val * ent (Y m c) r (j 1).val)

/-- The activations that the region reads are the reference's. -/
theorem host : X m c = val_main_v12 (F := Ideal) (m ((c : Thread nD τ).loc main_arg0)) (m ((c : Thread nD τ).loc main_arg1)) := by
  funext j
  show V m c main_v13 j = _
  unfold_abbrev_sides
  after_results
  rfl
end kernel

/-- The reference's gradient, entry by entry. -/
theorem ref (x0 : Cert.RefDwUpIdeal.S16384x1024.Idx → EReal) (x1 : Cert.RefDwUpIdeal.S1024.Idx → EReal) (x3 : Cert.RefDwUpIdeal.S16384x2816.Idx → EReal) :
    val_main_v16 (F := Ideal) x0 x1 x3 = fun j => ∑ r : Fin 16384, ent (val_main_v12 (F := Ideal) x0 x1) r.val (j 0).val * ent x3 r.val (j 1).val := by
  funext j
  refine Eq.trans ?_ (Finset.sum_congr rfl fun r _ => congrArg₂ (· * ·) (ent_of _ (ix2 r (j 0)) _ _ rfl rfl) (ent_of _ (ix2 r (j 1)) _ _ rfl rfl))
  rw [val_main_v16_apply, val_main_v15_apply]
  refine Finset.sum_congr rfl fun r _ => (mul_comm _ _).trans (congrArg₂ (· * ·) (congrArg _ ?_) (congrArg x3 ?_)) <;>
    exact funext fun a => by fin_cases a <;> rfl

theorem algebraic : Cert.algebraic_DwUpIdeal_RefDwUpIdeal (hDwUpIdeal := Cert.DwUpIdeal.Gen.facts) (hRefDwUpIdeal := Cert.RefDwUpIdeal.Gen.facts) := by
  intro m ρ m' ρ' _ hag
  refine ⟨fun c => out m c, ?_, ?_⟩
  · exact (θ_run Cert.DwUpIdeal.defs _ _).mono (fun r h c => ⟨(h c).1.trans (arr m c), (h c).2⟩) (Cert.DwUpIdeal.Value.run_blocks m ρ)
  · refine (θ_run Cert.RefDwUpIdeal.defs _ _).mono (fun r h c => ?_) (Cert.RefDwUpIdeal.Value.run (F := Ideal) m' ρ')
    obtain ⟨k0, hk⟩ := h c
    obtain ⟨a0, a1, a2, a3⟩ := hag c
    refine ⟨k0.trans ((val_main_v16_eq (F := Ideal) _ _ _).trans ?_), hk⟩
    rw [a0, a1, a3, ref]
    have hx : out m c = fun j => ∑ r : Fin 16384, ent (val_main_v12 (F := Ideal) (m ((c.tc : Thread Cert.DwUpIdeal.nD Cert.DwUpIdeal.τ).loc Cert.DwUpIdeal.main_arg0)) (m ((c.tc : Thread Cert.DwUpIdeal.nD Cert.DwUpIdeal.τ).loc Cert.DwUpIdeal.main_arg1))) r.val (j 0).val * ent (Y m c) r.val (j 1).val := by
      rw [← host]; rfl
    refine Eq.trans ?_ hx.symm
    exact congrArg (fun y : Cert.DwUpIdeal.S16384x2816.Idx → EReal => fun j : Cert.DwUpIdeal.S1024x2816.Idx => ∑ r : Fin 16384, ent (val_main_v12 (F := Ideal) (m ((c.tc : Thread Cert.DwUpIdeal.nD Cert.DwUpIdeal.τ).loc Cert.DwUpIdeal.main_arg0)) (m ((c.tc : Thread Cert.DwUpIdeal.nD Cert.DwUpIdeal.τ).loc Cert.DwUpIdeal.main_arg1))) r.val (j 0).val * ent y r.val (j 1).val)
      (Cert.DwUpIdeal.Gen.V_main_arg3 m c).symm

/-- The reference leaves its arguments as they were, and no counter behind. -/
theorem frame_reference : Cert.quiescent_RefDwUpIdeal (hRefDwUpIdeal := Cert.RefDwUpIdeal.Gen.facts) := fun m ρ _ =>
  (θ_run Cert.RefDwUpIdeal.defs _ _).mono (fun r h => ⟨fun c => (h c).2,
      Idealize.ShloMosaic.sem_eq_zero_of_no_sems (by decide) r.2⟩)
    (Cert.RefDwUpIdeal.Value.run (F := Ideal) m ρ)

end Cert.DwUpEq

end
-- ==== Proof.DwDownEq.lean ====
/- The weight gradient of the down product: the kernel accumulates it over tiles of 1024 rows, and it is the reference's gradient. -/
module

public import proofs.«01_k».proof.Proof.Rows
public import proofs.«01_k».proof.Proof.Gen.DwDownIdeal.Value
public import proofs.«01_k».proof.Proof.Gen.RefDwDownIdeal.Run
public import proofs.«01_k».proof.Proof.Gen.RefDwDownIdeal.Read
public import proofs.«01_k».proof.Defs

@[expose] public section

set_option maxRecDepth 16384

noncomputable section

namespace Cert.DwDownEq

open Idealize.ShloMosaic Idealize.ShloMosaic.TcCoe Idealize.ShloMosaic.StableHlo Idealize.SL.Sem Cert.Rows
open Idealize.ShloMosaic.Pipeline (Dat)
open Finset (range)
open Cert.RefDwDownIdeal.Read

section kernel
open Cert.DwDownIdeal Cert.DwDownIdeal.Gen Cert.DwDownIdeal.Value

section
variable (c : Dev nD) (i : grid0.Coords) (a1 : Memref sig .tc .vmem S1024x2816 .bf16) (h1 : a1.IsWhole)
  (a2 : Memref sig .tc .vmem S1024x1024 .bf16) (h2 : a2.IsWhole) (a3 : Memref sig .tc .vmem S2816x1024 .f32) (h3 : a3.IsWhole)
  (x0 : Vec Ideal S1024x2816 .bf16) (x1 : Vec Ideal S1024x1024 .bf16) (y : Vec Ideal S2816x1024 .f32)

/-- The first point adds its product to zeros. -/
theorem outA (hc : cond0_0 i) : out0_A_2 c i a1 h1 a2 h2 a3 h3 hc x0 x1 = k0_pay2 k0_pay1 x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- A later point adds its product to what the block held. -/
theorem outB (hc : ¬cond0_0 i) : out0_B_2 c i a1 h1 a2 h2 a3 h3 hc x0 x1 y = k0_pay2 y x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- What one point leaves, entry by entry. -/
theorem pay (j : S2816x1024.Idx) : (k0_pay2 (F := Ideal) y x0 x1 j : EReal) = y j + ∑ k : Fin 1024, x0 (ix2 k (j 0)) * x1 (ix2 k (j 1)) := by
  pointwise [k0_pay2]
end

theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel

variable (m : (ℓ : Loc nD τ sig) → Buf (Elt Ideal) ℓ) (c : Dev nD)

/-- The activations that the region reads. -/
abbrev X : S16384x2816.Idx → EReal := V m c main_v4
/-- The cotangent that the region reads. -/
abbrev Y : S16384x1024.Idx → EReal := V m c main_arg3

theorem blk0 (t : Fin cfg0.N) (y : S1024x2816.Idx) : (iblk m c 0 t y : EReal) = ent (X m c) (1024 * t.val + (y 0).val) (y 1).val := by
  blk_simp [iblk]
  refine ent_of _ _ _ _ ?_ ?_ <;> blk_simp [ix_0 t] <;> simp only [Nat.zero_mul, Nat.zero_add, Nat.mul_comm _ 1024]
theorem blk1 (t : Fin cfg0.N) (y : S1024x1024.Idx) : (iblk m c 1 t y : EReal) = ent (Y m c) (1024 * t.val + (y 0).val) (y 1).val := by
  blk_simp [iblk]
  refine ent_of _ _ _ _ ?_ ?_ <;> blk_simp [ix_1 t] <;> simp only [Nat.zero_mul, Nat.zero_add, Nat.mul_comm _ 1024]

/-- A point's term of the sum. -/
def term (s : ℕ) (j : S2816x1024.Idx) : EReal :=
  ∑ r : Fin 1024, ent (X m c) (1024 * s + r.val) (j 0).val * ent (Y m c) (1024 * s + r.val) (j 1).val

/-- After a point the block holds the sum of the terms so far. -/
theorem holds (j : S2816x1024.Idx) : ∀ (n : ℕ) (h : n < cfg0.N),
    (outsAt0 m c n h j : EReal) = ∑ s ∈ range (n + 1), term m c s j
  | 0, h => by
    refine (congrFun (outsAt0_A m c ⟨0, h⟩ rfl) j).trans ?_
    rw [outA, pay, Finset.sum_range_one]
    simp only [blk0, blk1, ix2_0, ix2_1]
    rw [show (k0_pay1 (F := Ideal) j : EReal) = 0 by pointwise [k0_pay1], zero_add]
    rfl
  | n + 1, h => by
    have hN : n + 1 < 16 := lt_of_lt_of_eq h N_0
    refine (congrFun (outsAt0_B m c ⟨n + 1, h⟩ (by dsimp only; omega)) j).trans ?_
    rw [outB, pay, Finset.sum_range_succ]
    simp only [blk0, blk1, ix2_0, ix2_1]
    exact congrArg (· + _) (holds j n (Nat.lt_of_succ_lt h))

/-- The last grid point. -/
def tLast : Fin cfg0.N := ⟨15, lt_of_lt_of_eq (by decide) N_0.symm⟩

/-- The activations' transpose times the cotangent. -/
def out : S2816x1024.Idx → EReal := fun j => ∑ r : Fin 16384, ent (X m c) r.val (j 0).val * ent (Y m c) r.val (j 1).val
/-- The result is that product. -/
theorem arr : (dats m 0 c).arrAt 2 cfg0.N = out m c := by
  refine (dats m 0 c).arrAt_eq_of_after_last 2 tLast (by decide +kernel) _ fun j => ?_
  blk_simp
  rw [after0_2, holds]
  exact sum_tiles 16 1024 (fun r => ent (X m c) r (j 0).val * ent (Y m c) r (j 1).val)

/-- The activations that the region reads are the reference's. -/
theorem host : X m c = val_main_v3 (F := Ideal) (m ((c : Thread nD τ).loc main_arg0)) (m ((c : Thread nD τ).loc main_arg1)) := by
  funext j
  show V m c main_v4 j = _
  unfold_abbrev_sides
  simp only [List.flatten_cons, List.flatten_nil, List.append_nil, List.cons_append, List.nil_append, TRef.binary, TRef.nullary, TRef.unary, TRef.toBuf, TRef.ofBuf, cast_eq]
  after_results
  rfl
end kernel

/-- The reference's gradient, entry by entry. -/
theorem ref (x0 : Cert.RefDwDownIdeal.S16384x2816.Idx → EReal) (x1 : Cert.RefDwDownIdeal.S16384x2816.Idx → EReal) (x3 : Cert.RefDwDownIdeal.S16384x1024.Idx → EReal) :
    val_main_v7 (F := Ideal) x0 x1 x3 = fun j => ∑ r : Fin 16384, ent (val_main_v3 (F := Ideal) x0 x1) r.val (j 0).val * ent x3 r.val (j 1).val := by
  funext j
  refine Eq.trans ?_ (Finset.sum_congr rfl fun r _ => congrArg₂ (· * ·) (ent_of _ (ix2 r (j 0)) _ _ rfl rfl) (ent_of _ (ix2 r (j 1)) _ _ rfl rfl))
  rw [val_main_v7_apply, val_main_v6_apply]
  refine Finset.sum_congr rfl fun r _ => (mul_comm _ _).trans (congrArg₂ (· * ·) (congrArg _ ?_) (congrArg x3 ?_)) <;>
    exact funext fun a => by fin_cases a <;> rfl

theorem algebraic : Cert.algebraic_DwDownIdeal_RefDwDownIdeal (hDwDownIdeal := Cert.DwDownIdeal.Gen.facts) (hRefDwDownIdeal := Cert.RefDwDownIdeal.Gen.facts) := by
  intro m ρ m' ρ' _ hag
  refine ⟨fun c => out m c, ?_, ?_⟩
  · exact (θ_run Cert.DwDownIdeal.defs _ _).mono (fun r h c => ⟨(h c).1.trans (arr m c), (h c).2⟩) (Cert.DwDownIdeal.Value.run_blocks m ρ)
  · refine (θ_run Cert.RefDwDownIdeal.defs _ _).mono (fun r h c => ?_) (Cert.RefDwDownIdeal.Value.run (F := Ideal) m' ρ')
    obtain ⟨k0, hk⟩ := h c
    obtain ⟨a0, a1, a2, a3⟩ := hag c
    refine ⟨k0.trans ((val_main_v7_eq (F := Ideal) _ _ _).trans ?_), hk⟩
    rw [a0, a1, a3, ref]
    have hx : out m c = fun j => ∑ r : Fin 16384, ent (val_main_v3 (F := Ideal) (m ((c.tc : Thread Cert.DwDownIdeal.nD Cert.DwDownIdeal.τ).loc Cert.DwDownIdeal.main_arg0)) (m ((c.tc : Thread Cert.DwDownIdeal.nD Cert.DwDownIdeal.τ).loc Cert.DwDownIdeal.main_arg1))) r.val (j 0).val * ent (Y m c) r.val (j 1).val := by
      rw [← host]; rfl
    refine Eq.trans ?_ hx.symm
    exact congrArg (fun y : Cert.DwDownIdeal.S16384x1024.Idx → EReal => fun j : Cert.DwDownIdeal.S2816x1024.Idx => ∑ r : Fin 16384, ent (val_main_v3 (F := Ideal) (m ((c.tc : Thread Cert.DwDownIdeal.nD Cert.DwDownIdeal.τ).loc Cert.DwDownIdeal.main_arg0)) (m ((c.tc : Thread Cert.DwDownIdeal.nD Cert.DwDownIdeal.τ).loc Cert.DwDownIdeal.main_arg1))) r.val (j 0).val * ent y r.val (j 1).val)
      (Cert.DwDownIdeal.Gen.V_main_arg3 m c).symm

/-- The reference leaves its arguments as they were, and no counter behind. -/
theorem frame_reference : Cert.quiescent_RefDwDownIdeal (hRefDwDownIdeal := Cert.RefDwDownIdeal.Gen.facts) := fun m ρ _ =>
  (θ_run Cert.RefDwDownIdeal.defs _ _).mono (fun r h => ⟨fun c => (h c).2,
      Idealize.ShloMosaic.sem_eq_zero_of_no_sems (by decide) r.2⟩)
    (Cert.RefDwDownIdeal.Value.run (F := Ideal) m ρ)

end Cert.DwDownEq

end
-- ==== Proof.DwGateEq.lean ====
/- The weight gradient of the lru columns of the mixer input: the kernel accumulates it over tiles of 1024 rows, and it is the reference's gradient. -/
module

public import proofs.«01_k».proof.Proof.Rows
public import proofs.«01_k».proof.Proof.Gen.DwGateIdeal.Value
public import proofs.«01_k».proof.Proof.Gen.RefDwGateIdeal.Run
public import proofs.«01_k».proof.Proof.Gen.RefDwGateIdeal.Read
public import proofs.«01_k».proof.Defs

@[expose] public section

set_option maxRecDepth 16384

noncomputable section

namespace Cert.DwGateEq

open Idealize.ShloMosaic Idealize.ShloMosaic.TcCoe Idealize.ShloMosaic.StableHlo Idealize.SL.Sem Cert.Rows
open Idealize.ShloMosaic.Pipeline (Dat)
open Finset (range)
open Cert.RefDwGateIdeal.Read

section kernel
open Cert.DwGateIdeal Cert.DwGateIdeal.Gen Cert.DwGateIdeal.Value

section
variable (c : Dev nD) (i : grid0.Coords) (a1 : Memref sig .tc .vmem S1024x1024 .bf16) (h1 : a1.IsWhole)
  (a2 : Memref sig .tc .vmem S1024x1024 .bf16) (h2 : a2.IsWhole) (a3 : Memref sig .tc .vmem S1024x1024 .f32) (h3 : a3.IsWhole)
  (x0 : Vec Ideal S1024x1024 .bf16) (x1 : Vec Ideal S1024x1024 .bf16) (y : Vec Ideal S1024x1024 .f32)

/-- The first point adds its product to zeros. -/
theorem outA (hc : cond0_0 i) : out0_A_2 c i a1 h1 a2 h2 a3 h3 hc x0 x1 = k0_pay2 k0_pay1 x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- A later point adds its product to what the block held. -/
theorem outB (hc : ¬cond0_0 i) : out0_B_2 c i a1 h1 a2 h2 a3 h3 hc x0 x1 y = k0_pay2 y x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- What one point leaves, entry by entry. -/
theorem pay (j : S1024x1024.Idx) : (k0_pay2 (F := Ideal) y x0 x1 j : EReal) = y j + ∑ k : Fin 1024, x0 (ix2 k (j 0)) * x1 (ix2 k (j 1)) := by
  pointwise [k0_pay2]
end

theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel

variable (m : (ℓ : Loc nD τ sig) → Buf (Elt Ideal) ℓ) (c : Dev nD)

/-- The activations that the region reads. -/
abbrev X : S16384x1024.Idx → EReal := V m c main_v13
/-- The cotangent that the region reads. -/
abbrev Y : S16384x1024.Idx → EReal := V m c main_arg3

theorem blk0 (t : Fin cfg0.N) (y : S1024x1024.Idx) : (iblk m c 0 t y : EReal) = ent (X m c) (1024 * t.val + (y 0).val) (y 1).val := by
  blk_simp [iblk]
  refine ent_of _ _ _ _ ?_ ?_ <;> blk_simp [ix_0 t] <;> simp only [Nat.zero_mul, Nat.zero_add, Nat.mul_comm _ 1024]
theorem blk1 (t : Fin cfg0.N) (y : S1024x1024.Idx) : (iblk m c 1 t y : EReal) = ent (Y m c) (1024 * t.val + (y 0).val) (y 1).val := by
  blk_simp [iblk]
  refine ent_of _ _ _ _ ?_ ?_ <;> blk_simp [ix_1 t] <;> simp only [Nat.zero_mul, Nat.zero_add, Nat.mul_comm _ 1024]

/-- A point's term of the sum. -/
def term (s : ℕ) (j : S1024x1024.Idx) : EReal :=
  ∑ r : Fin 1024, ent (X m c) (1024 * s + r.val) (j 0).val * ent (Y m c) (1024 * s + r.val) (j 1).val

/-- After a point the block holds the sum of the terms so far. -/
theorem holds (j : S1024x1024.Idx) : ∀ (n : ℕ) (h : n < cfg0.N),
    (outsAt0 m c n h j : EReal) = ∑ s ∈ range (n + 1), term m c s j
  | 0, h => by
    refine (congrFun (outsAt0_A m c ⟨0, h⟩ rfl) j).trans ?_
    rw [outA, pay, Finset.sum_range_one]
    simp only [blk0, blk1, ix2_0, ix2_1]
    rw [show (k0_pay1 (F := Ideal) j : EReal) = 0 by pointwise [k0_pay1], zero_add]
    rfl
  | n + 1, h => by
    have hN : n + 1 < 16 := lt_of_lt_of_eq h N_0
    refine (congrFun (outsAt0_B m c ⟨n + 1, h⟩ (by dsimp only; omega)) j).trans ?_
    rw [outB, pay, Finset.sum_range_succ]
    simp only [blk0, blk1, ix2_0, ix2_1]
    exact congrArg (· + _) (holds j n (Nat.lt_of_succ_lt h))

/-- The last grid point. -/
def tLast : Fin cfg0.N := ⟨15, lt_of_lt_of_eq (by decide) N_0.symm⟩

/-- The activations' transpose times the cotangent. -/
def out : S1024x1024.Idx → EReal := fun j => ∑ r : Fin 16384, ent (X m c) r.val (j 0).val * ent (Y m c) r.val (j 1).val
/-- The result is that product. -/
theorem arr : (dats m 0 c).arrAt 2 cfg0.N = out m c := by
  refine (dats m 0 c).arrAt_eq_of_after_last 2 tLast (by decide +kernel) _ fun j => ?_
  blk_simp
  rw [after0_2, holds]
  exact sum_tiles 16 1024 (fun r => ent (X m c) r (j 0).val * ent (Y m c) r (j 1).val)

/-- The activations that the region reads are the reference's. -/
theorem host : X m c = val_main_v12 (F := Ideal) (m ((c : Thread nD τ).loc main_arg0)) (m ((c : Thread nD τ).loc main_arg1)) := by
  funext j
  show V m c main_v13 j = _
  unfold_abbrev_sides
  after_results
  rfl
end kernel

/-- The reference's gradient, entry by entry. -/
theorem ref (x0 : Cert.RefDwGateIdeal.S16384x1024.Idx → EReal) (x1 : Cert.RefDwGateIdeal.S1024.Idx → EReal) (x3 : Cert.RefDwGateIdeal.S16384x1024.Idx → EReal) :
    val_main_v16 (F := Ideal) x0 x1 x3 = fun j => ∑ r : Fin 16384, ent (val_main_v12 (F := Ideal) x0 x1) r.val (j 0).val * ent x3 r.val (j 1).val := by
  funext j
  refine Eq.trans ?_ (Finset.sum_congr rfl fun r _ => congrArg₂ (· * ·) (ent_of _ (ix2 r (j 0)) _ _ rfl rfl) (ent_of _ (ix2 r (j 1)) _ _ rfl rfl))
  rw [val_main_v16_apply, val_main_v15_apply]
  refine Finset.sum_congr rfl fun r _ => (mul_comm _ _).trans (congrArg₂ (· * ·) (congrArg _ ?_) (congrArg x3 ?_)) <;>
    exact funext fun a => by fin_cases a <;> rfl

theorem algebraic : Cert.algebraic_DwGateIdeal_RefDwGateIdeal (hDwGateIdeal := Cert.DwGateIdeal.Gen.facts) (hRefDwGateIdeal := Cert.RefDwGateIdeal.Gen.facts) := by
  intro m ρ m' ρ' _ hag
  refine ⟨fun c => out m c, ?_, ?_⟩
  · exact (θ_run Cert.DwGateIdeal.defs _ _).mono (fun r h c => ⟨(h c).1.trans (arr m c), (h c).2⟩) (Cert.DwGateIdeal.Value.run_blocks m ρ)
  · refine (θ_run Cert.RefDwGateIdeal.defs _ _).mono (fun r h c => ?_) (Cert.RefDwGateIdeal.Value.run (F := Ideal) m' ρ')
    obtain ⟨k0, hk⟩ := h c
    obtain ⟨a0, a1, a2, a3⟩ := hag c
    refine ⟨k0.trans ((val_main_v16_eq (F := Ideal) _ _ _).trans ?_), hk⟩
    rw [a0, a1, a3, ref]
    have hx : out m c = fun j => ∑ r : Fin 16384, ent (val_main_v12 (F := Ideal) (m ((c.tc : Thread Cert.DwGateIdeal.nD Cert.DwGateIdeal.τ).loc Cert.DwGateIdeal.main_arg0)) (m ((c.tc : Thread Cert.DwGateIdeal.nD Cert.DwGateIdeal.τ).loc Cert.DwGateIdeal.main_arg1))) r.val (j 0).val * ent (Y m c) r.val (j 1).val := by
      rw [← host]; rfl
    refine Eq.trans ?_ hx.symm
    exact congrArg (fun y : Cert.DwGateIdeal.S16384x1024.Idx → EReal => fun j : Cert.DwGateIdeal.S1024x1024.Idx => ∑ r : Fin 16384, ent (val_main_v12 (F := Ideal) (m ((c.tc : Thread Cert.DwGateIdeal.nD Cert.DwGateIdeal.τ).loc Cert.DwGateIdeal.main_arg0)) (m ((c.tc : Thread Cert.DwGateIdeal.nD Cert.DwGateIdeal.τ).loc Cert.DwGateIdeal.main_arg1))) r.val (j 0).val * ent y r.val (j 1).val)
      (Cert.DwGateIdeal.Gen.V_main_arg3 m c).symm

/-- The reference leaves its arguments as they were, and no counter behind. -/
theorem frame_reference : Cert.quiescent_RefDwGateIdeal (hRefDwGateIdeal := Cert.RefDwGateIdeal.Gen.facts) := fun m ρ _ =>
  (θ_run Cert.RefDwGateIdeal.defs _ _).mono (fun r h => ⟨fun c => (h c).2,
      Idealize.ShloMosaic.sem_eq_zero_of_no_sems (by decide) r.2⟩)
    (Cert.RefDwGateIdeal.Value.run (F := Ideal) m ρ)

end Cert.DwGateEq

end
-- ==== Proof.DwMidEq.lean ====
/- The weight gradient of the middle columns of the mixer input: the kernel accumulates it over tiles of 1024 rows, and it is the reference's gradient. -/
module

public import proofs.«01_k».proof.Proof.Rows
public import proofs.«01_k».proof.Proof.Gen.DwMidIdeal.Value
public import proofs.«01_k».proof.Proof.Gen.RefDwMidIdeal.Run
public import proofs.«01_k».proof.Proof.Gen.RefDwMidIdeal.Read
public import proofs.«01_k».proof.Defs

@[expose] public section

set_option maxRecDepth 16384

noncomputable section

namespace Cert.DwMidEq

open Idealize.ShloMosaic Idealize.ShloMosaic.TcCoe Idealize.ShloMosaic.StableHlo Idealize.SL.Sem Cert.Rows
open Idealize.ShloMosaic.Pipeline (Dat)
open Finset (range)
open Cert.RefDwMidIdeal.Read

section kernel
open Cert.DwMidIdeal Cert.DwMidIdeal.Gen Cert.DwMidIdeal.Value

section
variable (c : Dev nD) (i : grid0.Coords) (a1 : Memref sig .tc .vmem S1024x1024 .bf16) (h1 : a1.IsWhole)
  (a2 : Memref sig .tc .vmem S1024x2560 .bf16) (h2 : a2.IsWhole) (a3 : Memref sig .tc .vmem S1024x2560 .f32) (h3 : a3.IsWhole)
  (x0 : Vec Ideal S1024x1024 .bf16) (x1 : Vec Ideal S1024x2560 .bf16) (y : Vec Ideal S1024x2560 .f32)

/-- The first point adds its product to zeros. -/
theorem outA (hc : cond0_0 i) : out0_A_2 c i a1 h1 a2 h2 a3 h3 hc x0 x1 = k0_pay2 k0_pay1 x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- A later point adds its product to what the block held. -/
theorem outB (hc : ¬cond0_0 i) : out0_B_2 c i a1 h1 a2 h2 a3 h3 hc x0 x1 y = k0_pay2 y x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- What one point leaves, entry by entry. -/
theorem pay (j : S1024x2560.Idx) : (k0_pay2 (F := Ideal) y x0 x1 j : EReal) = y j + ∑ k : Fin 1024, x0 (ix2 k (j 0)) * x1 (ix2 k (j 1)) := by
  pointwise [k0_pay2]
end

theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel

variable (m : (ℓ : Loc nD τ sig) → Buf (Elt Ideal) ℓ) (c : Dev nD)

/-- The activations that the region reads. -/
abbrev X : S16384x1024.Idx → EReal := V m c main_v13
/-- The cotangent that the region reads. -/
abbrev Y : S16384x2560.Idx → EReal := V m c main_arg3

theorem blk0 (t : Fin cfg0.N) (y : S1024x1024.Idx) : (iblk m c 0 t y : EReal) = ent (X m c) (1024 * t.val + (y 0).val) (y 1).val := by
  blk_simp [iblk]
  refine ent_of _ _ _ _ ?_ ?_ <;> blk_simp [ix_0 t] <;> simp only [Nat.zero_mul, Nat.zero_add, Nat.mul_comm _ 1024]
theorem blk1 (t : Fin cfg0.N) (y : S1024x2560.Idx) : (iblk m c 1 t y : EReal) = ent (Y m c) (1024 * t.val + (y 0).val) (y 1).val := by
  blk_simp [iblk]
  refine ent_of _ _ _ _ ?_ ?_ <;> blk_simp [ix_1 t] <;> simp only [Nat.zero_mul, Nat.zero_add, Nat.mul_comm _ 1024]

/-- A point's term of the sum. -/
def term (s : ℕ) (j : S1024x2560.Idx) : EReal :=
  ∑ r : Fin 1024, ent (X m c) (1024 * s + r.val) (j 0).val * ent (Y m c) (1024 * s + r.val) (j 1).val

/-- After a point the block holds the sum of the terms so far. -/
theorem holds (j : S1024x2560.Idx) : ∀ (n : ℕ) (h : n < cfg0.N),
    (outsAt0 m c n h j : EReal) = ∑ s ∈ range (n + 1), term m c s j
  | 0, h => by
    refine (congrFun (outsAt0_A m c ⟨0, h⟩ rfl) j).trans ?_
    rw [outA, pay, Finset.sum_range_one]
    simp only [blk0, blk1, ix2_0, ix2_1]
    rw [show (k0_pay1 (F := Ideal) j : EReal) = 0 by pointwise [k0_pay1], zero_add]
    rfl
  | n + 1, h => by
    have hN : n + 1 < 16 := lt_of_lt_of_eq h N_0
    refine (congrFun (outsAt0_B m c ⟨n + 1, h⟩ (by dsimp only; omega)) j).trans ?_
    rw [outB, pay, Finset.sum_range_succ]
    simp only [blk0, blk1, ix2_0, ix2_1]
    exact congrArg (· + _) (holds j n (Nat.lt_of_succ_lt h))

/-- The last grid point. -/
def tLast : Fin cfg0.N := ⟨15, lt_of_lt_of_eq (by decide) N_0.symm⟩

/-- The activations' transpose times the cotangent. -/
def out : S1024x2560.Idx → EReal := fun j => ∑ r : Fin 16384, ent (X m c) r.val (j 0).val * ent (Y m c) r.val (j 1).val
/-- The result is that product. -/
theorem arr : (dats m 0 c).arrAt 2 cfg0.N = out m c := by
  refine (dats m 0 c).arrAt_eq_of_after_last 2 tLast (by decide +kernel) _ fun j => ?_
  blk_simp
  rw [after0_2, holds]
  exact sum_tiles 16 1024 (fun r => ent (X m c) r (j 0).val * ent (Y m c) r (j 1).val)

/-- The activations that the region reads are the reference's. -/
theorem host : X m c = val_main_v12 (F := Ideal) (m ((c : Thread nD τ).loc main_arg0)) (m ((c : Thread nD τ).loc main_arg1)) := by
  funext j
  show V m c main_v13 j = _
  unfold_abbrev_sides
  after_results
  rfl
end kernel

/-- The reference's gradient, entry by entry. -/
theorem ref (x0 : Cert.RefDwMidIdeal.S16384x1024.Idx → EReal) (x1 : Cert.RefDwMidIdeal.S1024.Idx → EReal) (x3 : Cert.RefDwMidIdeal.S16384x2560.Idx → EReal) :
    val_main_v16 (F := Ideal) x0 x1 x3 = fun j => ∑ r : Fin 16384, ent (val_main_v12 (F := Ideal) x0 x1) r.val (j 0).val * ent x3 r.val (j 1).val := by
  funext j
  refine Eq.trans ?_ (Finset.sum_congr rfl fun r _ => congrArg₂ (· * ·) (ent_of _ (ix2 r (j 0)) _ _ rfl rfl) (ent_of _ (ix2 r (j 1)) _ _ rfl rfl))
  rw [val_main_v16_apply, val_main_v15_apply]
  refine Finset.sum_congr rfl fun r _ => (mul_comm _ _).trans (congrArg₂ (· * ·) (congrArg _ ?_) (congrArg x3 ?_)) <;>
    exact funext fun a => by fin_cases a <;> rfl

theorem algebraic : Cert.algebraic_DwMidIdeal_RefDwMidIdeal (hDwMidIdeal := Cert.DwMidIdeal.Gen.facts) (hRefDwMidIdeal := Cert.RefDwMidIdeal.Gen.facts) := by
  intro m ρ m' ρ' _ hag
  refine ⟨fun c => out m c, ?_, ?_⟩
  · exact (θ_run Cert.DwMidIdeal.defs _ _).mono (fun r h c => ⟨(h c).1.trans (arr m c), (h c).2⟩) (Cert.DwMidIdeal.Value.run_blocks m ρ)
  · refine (θ_run Cert.RefDwMidIdeal.defs _ _).mono (fun r h c => ?_) (Cert.RefDwMidIdeal.Value.run (F := Ideal) m' ρ')
    obtain ⟨k0, hk⟩ := h c
    obtain ⟨a0, a1, a2, a3⟩ := hag c
    refine ⟨k0.trans ((val_main_v16_eq (F := Ideal) _ _ _).trans ?_), hk⟩
    rw [a0, a1, a3, ref]
    have hx : out m c = fun j => ∑ r : Fin 16384, ent (val_main_v12 (F := Ideal) (m ((c.tc : Thread Cert.DwMidIdeal.nD Cert.DwMidIdeal.τ).loc Cert.DwMidIdeal.main_arg0)) (m ((c.tc : Thread Cert.DwMidIdeal.nD Cert.DwMidIdeal.τ).loc Cert.DwMidIdeal.main_arg1))) r.val (j 0).val * ent (Y m c) r.val (j 1).val := by
      rw [← host]; rfl
    refine Eq.trans ?_ hx.symm
    exact congrArg (fun y : Cert.DwMidIdeal.S16384x2560.Idx → EReal => fun j : Cert.DwMidIdeal.S1024x2560.Idx => ∑ r : Fin 16384, ent (val_main_v12 (F := Ideal) (m ((c.tc : Thread Cert.DwMidIdeal.nD Cert.DwMidIdeal.τ).loc Cert.DwMidIdeal.main_arg0)) (m ((c.tc : Thread Cert.DwMidIdeal.nD Cert.DwMidIdeal.τ).loc Cert.DwMidIdeal.main_arg1))) r.val (j 0).val * ent y r.val (j 1).val)
      (Cert.DwMidIdeal.Gen.V_main_arg3 m c).symm

/-- The reference leaves its arguments as they were, and no counter behind. -/
theorem frame_reference : Cert.quiescent_RefDwMidIdeal (hRefDwMidIdeal := Cert.RefDwMidIdeal.Gen.facts) := fun m ρ _ =>
  (θ_run Cert.RefDwMidIdeal.defs _ _).mono (fun r h => ⟨fun c => (h c).2,
      Idealize.ShloMosaic.sem_eq_zero_of_no_sems (by decide) r.2⟩)
    (Cert.RefDwMidIdeal.Value.run (F := Ideal) m ρ)

end Cert.DwMidEq

end
-- ==== Proof.DwMergeEq.lean ====
/- The weight gradient of the merge columns of the mixer input: the kernel accumulates it over tiles of 1024 rows, and it is the reference's gradient. -/
module

public import proofs.«01_k».proof.Proof.Rows
public import proofs.«01_k».proof.Proof.Gen.DwMergeIdeal.Value
public import proofs.«01_k».proof.Proof.Gen.RefDwMergeIdeal.Run
public import proofs.«01_k».proof.Proof.Gen.RefDwMergeIdeal.Read
public import proofs.«01_k».proof.Defs

@[expose] public section

set_option maxRecDepth 16384

noncomputable section

namespace Cert.DwMergeEq

open Idealize.ShloMosaic Idealize.ShloMosaic.TcCoe Idealize.ShloMosaic.StableHlo Idealize.SL.Sem Cert.Rows
open Idealize.ShloMosaic.Pipeline (Dat)
open Finset (range)
open Cert.RefDwMergeIdeal.Read

section kernel
open Cert.DwMergeIdeal Cert.DwMergeIdeal.Gen Cert.DwMergeIdeal.Value

section
variable (c : Dev nD) (i : grid0.Coords) (a1 : Memref sig .tc .vmem S1024x1024 .bf16) (h1 : a1.IsWhole)
  (a2 : Memref sig .tc .vmem S1024x3072 .bf16) (h2 : a2.IsWhole) (a3 : Memref sig .tc .vmem S1024x3072 .f32) (h3 : a3.IsWhole)
  (x0 : Vec Ideal S1024x1024 .bf16) (x1 : Vec Ideal S1024x3072 .bf16) (y : Vec Ideal S1024x3072 .f32)

/-- The first point adds its product to zeros. -/
theorem outA (hc : cond0_0 i) : out0_A_2 c i a1 h1 a2 h2 a3 h3 hc x0 x1 = k0_pay2 k0_pay1 x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- A later point adds its product to what the block held. -/
theorem outB (hc : ¬cond0_0 i) : out0_B_2 c i a1 h1 a2 h2 a3 h3 hc x0 x1 y = k0_pay2 y x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- What one point leaves, entry by entry. -/
theorem pay (j : S1024x3072.Idx) : (k0_pay2 (F := Ideal) y x0 x1 j : EReal) = y j + ∑ k : Fin 1024, x0 (ix2 k (j 0)) * x1 (ix2 k (j 1)) := by
  pointwise [k0_pay2]
end

theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel

variable (m : (ℓ : Loc nD τ sig) → Buf (Elt Ideal) ℓ) (c : Dev nD)

/-- The activations that the region reads. -/
abbrev X : S16384x1024.Idx → EReal := V m c main_v13
/-- The cotangent that the region reads. -/
abbrev Y : S16384x3072.Idx → EReal := V m c main_arg3

theorem blk0 (t : Fin cfg0.N) (y : S1024x1024.Idx) : (iblk m c 0 t y : EReal) = ent (X m c) (1024 * t.val + (y 0).val) (y 1).val := by
  blk_simp [iblk]
  refine ent_of _ _ _ _ ?_ ?_ <;> blk_simp [ix_0 t] <;> simp only [Nat.zero_mul, Nat.zero_add, Nat.mul_comm _ 1024]
theorem blk1 (t : Fin cfg0.N) (y : S1024x3072.Idx) : (iblk m c 1 t y : EReal) = ent (Y m c) (1024 * t.val + (y 0).val) (y 1).val := by
  blk_simp [iblk]
  refine ent_of _ _ _ _ ?_ ?_ <;> blk_simp [ix_1 t] <;> simp only [Nat.zero_mul, Nat.zero_add, Nat.mul_comm _ 1024]

/-- A point's term of the sum. -/
def term (s : ℕ) (j : S1024x3072.Idx) : EReal :=
  ∑ r : Fin 1024, ent (X m c) (1024 * s + r.val) (j 0).val * ent (Y m c) (1024 * s + r.val) (j 1).val

/-- After a point the block holds the sum of the terms so far. -/
theorem holds (j : S1024x3072.Idx) : ∀ (n : ℕ) (h : n < cfg0.N),
    (outsAt0 m c n h j : EReal) = ∑ s ∈ range (n + 1), term m c s j
  | 0, h => by
    refine (congrFun (outsAt0_A m c ⟨0, h⟩ rfl) j).trans ?_
    rw [outA, pay, Finset.sum_range_one]
    simp only [blk0, blk1, ix2_0, ix2_1]
    rw [show (k0_pay1 (F := Ideal) j : EReal) = 0 by pointwise [k0_pay1], zero_add]
    rfl
  | n + 1, h => by
    have hN : n + 1 < 16 := lt_of_lt_of_eq h N_0
    refine (congrFun (outsAt0_B m c ⟨n + 1, h⟩ (by dsimp only; omega)) j).trans ?_
    rw [outB, pay, Finset.sum_range_succ]
    simp only [blk0, blk1, ix2_0, ix2_1]
    exact congrArg (· + _) (holds j n (Nat.lt_of_succ_lt h))

/-- The last grid point. -/
def tLast : Fin cfg0.N := ⟨15, lt_of_lt_of_eq (by decide) N_0.symm⟩

/-- The activations' transpose times the cotangent. -/
def out : S1024x3072.Idx → EReal := fun j => ∑ r : Fin 16384, ent (X m c) r.val (j 0).val * ent (Y m c) r.val (j 1).val
/-- The result is that product. -/
theorem arr : (dats m 0 c).arrAt 2 cfg0.N = out m c := by
  refine (dats m 0 c).arrAt_eq_of_after_last 2 tLast (by decide +kernel) _ fun j => ?_
  blk_simp
  rw [after0_2, holds]
  exact sum_tiles 16 1024 (fun r => ent (X m c) r (j 0).val * ent (Y m c) r (j 1).val)

/-- The activations that the region reads are the reference's. -/
theorem host : X m c = val_main_v12 (F := Ideal) (m ((c : Thread nD τ).loc main_arg0)) (m ((c : Thread nD τ).loc main_arg1)) := by
  funext j
  show V m c main_v13 j = _
  unfold_abbrev_sides
  after_results
  rfl
end kernel

/-- The reference's gradient, entry by entry. -/
theorem ref (x0 : Cert.RefDwMergeIdeal.S16384x1024.Idx → EReal) (x1 : Cert.RefDwMergeIdeal.S1024.Idx → EReal) (x3 : Cert.RefDwMergeIdeal.S16384x3072.Idx → EReal) :
    val_main_v16 (F := Ideal) x0 x1 x3 = fun j => ∑ r : Fin 16384, ent (val_main_v12 (F := Ideal) x0 x1) r.val (j 0).val * ent x3 r.val (j 1).val := by
  funext j
  refine Eq.trans ?_ (Finset.sum_congr rfl fun r _ => congrArg₂ (· * ·) (ent_of _ (ix2 r (j 0)) _ _ rfl rfl) (ent_of _ (ix2 r (j 1)) _ _ rfl rfl))
  rw [val_main_v16_apply, val_main_v15_apply]
  refine Finset.sum_congr rfl fun r _ => (mul_comm _ _).trans (congrArg₂ (· * ·) (congrArg _ ?_) (congrArg x3 ?_)) <;>
    exact funext fun a => by fin_cases a <;> rfl

theorem algebraic : Cert.algebraic_DwMergeIdeal_RefDwMergeIdeal (hDwMergeIdeal := Cert.DwMergeIdeal.Gen.facts) (hRefDwMergeIdeal := Cert.RefDwMergeIdeal.Gen.facts) := by
  intro m ρ m' ρ' _ hag
  refine ⟨fun c => out m c, ?_, ?_⟩
  · exact (θ_run Cert.DwMergeIdeal.defs _ _).mono (fun r h c => ⟨(h c).1.trans (arr m c), (h c).2⟩) (Cert.DwMergeIdeal.Value.run_blocks m ρ)
  · refine (θ_run Cert.RefDwMergeIdeal.defs _ _).mono (fun r h c => ?_) (Cert.RefDwMergeIdeal.Value.run (F := Ideal) m' ρ')
    obtain ⟨k0, hk⟩ := h c
    obtain ⟨a0, a1, a2, a3⟩ := hag c
    refine ⟨k0.trans ((val_main_v16_eq (F := Ideal) _ _ _).trans ?_), hk⟩
    rw [a0, a1, a3, ref]
    have hx : out m c = fun j => ∑ r : Fin 16384, ent (val_main_v12 (F := Ideal) (m ((c.tc : Thread Cert.DwMergeIdeal.nD Cert.DwMergeIdeal.τ).loc Cert.DwMergeIdeal.main_arg0)) (m ((c.tc : Thread Cert.DwMergeIdeal.nD Cert.DwMergeIdeal.τ).loc Cert.DwMergeIdeal.main_arg1))) r.val (j 0).val * ent (Y m c) r.val (j 1).val := by
      rw [← host]; rfl
    refine Eq.trans ?_ hx.symm
    exact congrArg (fun y : Cert.DwMergeIdeal.S16384x3072.Idx → EReal => fun j : Cert.DwMergeIdeal.S1024x3072.Idx => ∑ r : Fin 16384, ent (val_main_v12 (F := Ideal) (m ((c.tc : Thread Cert.DwMergeIdeal.nD Cert.DwMergeIdeal.τ).loc Cert.DwMergeIdeal.main_arg0)) (m ((c.tc : Thread Cert.DwMergeIdeal.nD Cert.DwMergeIdeal.τ).loc Cert.DwMergeIdeal.main_arg1))) r.val (j 0).val * ent y r.val (j 1).val)
      (Cert.DwMergeIdeal.Gen.V_main_arg3 m c).symm

/-- The reference leaves its arguments as they were, and no counter behind. -/
theorem frame_reference : Cert.quiescent_RefDwMergeIdeal (hRefDwMergeIdeal := Cert.RefDwMergeIdeal.Gen.facts) := fun m ρ _ =>
  (θ_run Cert.RefDwMergeIdeal.defs _ _).mono (fun r h => ⟨fun c => (h c).2,
      Idealize.ShloMosaic.sem_eq_zero_of_no_sems (by decide) r.2⟩)
    (Cert.RefDwMergeIdeal.Value.run (F := Ideal) m ρ)

end Cert.DwMergeEq

end
-- ==== Proof.DwOutEq.lean ====
/- The weight gradient of the mixer output product: the kernel accumulates it over tiles of 1024 rows, and it is the reference's gradient. -/
module

public import proofs.«01_k».proof.Proof.Rows
public import proofs.«01_k».proof.Proof.Gen.DwOutIdeal.Value
public import proofs.«01_k».proof.Proof.Gen.RefDwOutIdeal.Run
public import proofs.«01_k».proof.Proof.Gen.RefDwOutIdeal.Read
public import proofs.«01_k».proof.Defs

@[expose] public section

set_option maxRecDepth 16384

noncomputable section

namespace Cert.DwOutEq

open Idealize.ShloMosaic Idealize.ShloMosaic.TcCoe Idealize.ShloMosaic.StableHlo Idealize.SL.Sem Cert.Rows
open Idealize.ShloMosaic.Pipeline (Dat)
open Finset (range)
open Cert.RefDwOutIdeal.Read

section kernel
open Cert.DwOutIdeal Cert.DwOutIdeal.Gen Cert.DwOutIdeal.Value

section
variable (c : Dev nD) (i : grid0.Coords) (a1 : Memref sig .tc .vmem S1024x1024 .bf16) (h1 : a1.IsWhole)
  (a2 : Memref sig .tc .vmem S1024x1024 .bf16) (h2 : a2.IsWhole) (a3 : Memref sig .tc .vmem S1024x1024 .f32) (h3 : a3.IsWhole)
  (x0 : Vec Ideal S1024x1024 .bf16) (x1 : Vec Ideal S1024x1024 .bf16) (y : Vec Ideal S1024x1024 .f32)

/-- The first point adds its product to zeros. -/
theorem outA (hc : cond0_0 i) : out0_A_2 c i a1 h1 a2 h2 a3 h3 hc x0 x1 = k0_pay2 k0_pay1 x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- A later point adds its product to what the block held. -/
theorem outB (hc : ¬cond0_0 i) : out0_B_2 c i a1 h1 a2 h2 a3 h3 hc x0 x1 y = k0_pay2 y x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- What one point leaves, entry by entry. -/
theorem pay (j : S1024x1024.Idx) : (k0_pay2 (F := Ideal) y x0 x1 j : EReal) = y j + ∑ k : Fin 1024, x0 (ix2 k (j 0)) * x1 (ix2 k (j 1)) := by
  pointwise [k0_pay2]
end

theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel

variable (m : (ℓ : Loc nD τ sig) → Buf (Elt Ideal) ℓ) (c : Dev nD)

/-- The activations that the region reads. -/
abbrev X : S16384x1024.Idx → EReal := V m c main_arg0
/-- The cotangent that the region reads. -/
abbrev Y : S16384x1024.Idx → EReal := V m c main_arg2

theorem blk0 (t : Fin cfg0.N) (y : S1024x1024.Idx) : (iblk m c 0 t y : EReal) = ent (X m c) (1024 * t.val + (y 0).val) (y 1).val := by
  blk_simp [iblk]
  refine ent_of _ _ _ _ ?_ ?_ <;> blk_simp [ix_0 t] <;> simp only [Nat.zero_mul, Nat.zero_add, Nat.mul_comm _ 1024]
theorem blk1 (t : Fin cfg0.N) (y : S1024x1024.Idx) : (iblk m c 1 t y : EReal) = ent (Y m c) (1024 * t.val + (y 0).val) (y 1).val := by
  blk_simp [iblk]
  refine ent_of _ _ _ _ ?_ ?_ <;> blk_simp [ix_1 t] <;> simp only [Nat.zero_mul, Nat.zero_add, Nat.mul_comm _ 1024]

/-- A point's term of the sum. -/
def term (s : ℕ) (j : S1024x1024.Idx) : EReal :=
  ∑ r : Fin 1024, ent (X m c) (1024 * s + r.val) (j 0).val * ent (Y m c) (1024 * s + r.val) (j 1).val

/-- After a point the block holds the sum of the terms so far. -/
theorem holds (j : S1024x1024.Idx) : ∀ (n : ℕ) (h : n < cfg0.N),
    (outsAt0 m c n h j : EReal) = ∑ s ∈ range (n + 1), term m c s j
  | 0, h => by
    refine (congrFun (outsAt0_A m c ⟨0, h⟩ rfl) j).trans ?_
    rw [outA, pay, Finset.sum_range_one]
    simp only [blk0, blk1, ix2_0, ix2_1]
    rw [show (k0_pay1 (F := Ideal) j : EReal) = 0 by pointwise [k0_pay1], zero_add]
    rfl
  | n + 1, h => by
    have hN : n + 1 < 16 := lt_of_lt_of_eq h N_0
    refine (congrFun (outsAt0_B m c ⟨n + 1, h⟩ (by dsimp only; omega)) j).trans ?_
    rw [outB, pay, Finset.sum_range_succ]
    simp only [blk0, blk1, ix2_0, ix2_1]
    exact congrArg (· + _) (holds j n (Nat.lt_of_succ_lt h))

/-- The last grid point. -/
def tLast : Fin cfg0.N := ⟨15, lt_of_lt_of_eq (by decide) N_0.symm⟩

/-- The activations' transpose times the cotangent. -/
def out : S1024x1024.Idx → EReal := fun j => ∑ r : Fin 16384, ent (X m c) r.val (j 0).val * ent (Y m c) r.val (j 1).val
/-- The result is that product. -/
theorem arr : (dats m 0 c).arrAt 2 cfg0.N = out m c := by
  refine (dats m 0 c).arrAt_eq_of_after_last 2 tLast (by decide +kernel) _ fun j => ?_
  blk_simp
  rw [after0_2, holds]
  exact sum_tiles 16 1024 (fun r => ent (X m c) r (j 0).val * ent (Y m c) r (j 1).val)

/-- The activations that the region reads are the reference's. -/
theorem host : X m c = val_main_v0 (F := Ideal) (m ((c : Thread nD τ).loc main_arg0)) := by
  show V m c main_arg0 = _
  rw [V_main_arg0]
  rfl
end kernel

/-- The reference's gradient, entry by entry. -/
theorem ref (x0 : Cert.RefDwOutIdeal.S16384x1024.Idx → EReal) (x2 : Cert.RefDwOutIdeal.S16384x1024.Idx → EReal) :
    val_main_v4 (F := Ideal) x0 x2 = fun j => ∑ r : Fin 16384, ent (val_main_v0 (F := Ideal) x0) r.val (j 0).val * ent x2 r.val (j 1).val := by
  funext j
  refine Eq.trans ?_ (Finset.sum_congr rfl fun r _ => congrArg₂ (· * ·) (ent_of _ (ix2 r (j 0)) _ _ rfl rfl) (ent_of _ (ix2 r (j 1)) _ _ rfl rfl))
  rw [val_main_v4_apply, val_main_v3_apply]
  refine Finset.sum_congr rfl fun r _ => (mul_comm _ _).trans (congrArg₂ (· * ·) (congrArg _ ?_) (congrArg x2 ?_)) <;>
    exact funext fun a => by fin_cases a <;> rfl

theorem algebraic : Cert.algebraic_DwOutIdeal_RefDwOutIdeal (hDwOutIdeal := Cert.DwOutIdeal.Gen.facts) (hRefDwOutIdeal := Cert.RefDwOutIdeal.Gen.facts) := by
  intro m ρ m' ρ' _ hag
  refine ⟨fun c => out m c, ?_, ?_⟩
  · exact (θ_run Cert.DwOutIdeal.defs _ _).mono (fun r h c => ⟨(h c).1.trans (arr m c), (h c).2⟩) (Cert.DwOutIdeal.Value.run_blocks m ρ)
  · refine (θ_run Cert.RefDwOutIdeal.defs _ _).mono (fun r h c => ?_) (Cert.RefDwOutIdeal.Value.run (F := Ideal) m' ρ')
    obtain ⟨k0, hk⟩ := h c
    obtain ⟨a0, a1, a2⟩ := hag c
    refine ⟨k0.trans ((val_main_v4_eq (F := Ideal) _ _).trans ?_), hk⟩
    rw [a0, a2, ref]
    have hx : out m c = fun j => ∑ r : Fin 16384, ent (val_main_v0 (F := Ideal) (m ((c.tc : Thread Cert.DwOutIdeal.nD Cert.DwOutIdeal.τ).loc Cert.DwOutIdeal.main_arg0))) r.val (j 0).val * ent (Y m c) r.val (j 1).val := by
      rw [← host]; rfl
    refine Eq.trans ?_ hx.symm
    exact congrArg (fun y : Cert.DwOutIdeal.S16384x1024.Idx → EReal => fun j : Cert.DwOutIdeal.S1024x1024.Idx => ∑ r : Fin 16384, ent (val_main_v0 (F := Ideal) (m ((c.tc : Thread Cert.DwOutIdeal.nD Cert.DwOutIdeal.τ).loc Cert.DwOutIdeal.main_arg0))) r.val (j 0).val * ent y r.val (j 1).val)
      (Cert.DwOutIdeal.Gen.V_main_arg2 m c).symm

/-- The reference leaves its arguments as they were, and no counter behind. -/
theorem frame_reference : Cert.quiescent_RefDwOutIdeal (hRefDwOutIdeal := Cert.RefDwOutIdeal.Gen.facts) := fun m ρ _ =>
  (θ_run Cert.RefDwOutIdeal.defs _ _).mono (fun r h => ⟨fun c => (h c).2,
      Idealize.ShloMosaic.sem_eq_zero_of_no_sems (by decide) r.2⟩)
    (Cert.RefDwOutIdeal.Value.run (F := Ideal) m ρ)

end Cert.DwOutEq

end
-- ==== Proof.DwSmallEq.lean ====
/- The weight gradient of a branch output product: the kernel accumulates it over tiles of 1024 rows, and it is the reference's gradient. -/
module

public import proofs.«01_k».proof.Proof.Rows
public import proofs.«01_k».proof.Proof.Gen.DwSmallIdeal.Value
public import proofs.«01_k».proof.Proof.Gen.RefDwSmallIdeal.Run
public import proofs.«01_k».proof.Proof.Gen.RefDwSmallIdeal.Read
public import proofs.«01_k».proof.Defs

@[expose] public section

set_option maxRecDepth 16384

noncomputable section

namespace Cert.DwSmallEq

open Idealize.ShloMosaic Idealize.ShloMosaic.TcCoe Idealize.ShloMosaic.StableHlo Idealize.SL.Sem Cert.Rows
open Idealize.ShloMosaic.Pipeline (Dat)
open Finset (range)
open Cert.RefDwSmallIdeal.Read

section kernel
open Cert.DwSmallIdeal Cert.DwSmallIdeal.Gen Cert.DwSmallIdeal.Value

section
variable (c : Dev nD) (i : grid0.Coords) (a1 : Memref sig .tc .vmem S1024x512 .bf16) (h1 : a1.IsWhole)
  (a2 : Memref sig .tc .vmem S1024x1024 .bf16) (h2 : a2.IsWhole) (a3 : Memref sig .tc .vmem S512x1024 .f32) (h3 : a3.IsWhole)
  (x0 : Vec Ideal S1024x512 .bf16) (x1 : Vec Ideal S1024x1024 .bf16) (y : Vec Ideal S512x1024 .f32)

/-- The first point adds its product to zeros. -/
theorem outA (hc : cond0_0 i) : out0_A_2 c i a1 h1 a2 h2 a3 h3 hc x0 x1 = k0_pay2 k0_pay1 x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- A later point adds its product to what the block held. -/
theorem outB (hc : ¬cond0_0 i) : out0_B_2 c i a1 h1 a2 h2 a3 h3 hc x0 x1 y = k0_pay2 y x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
/-- What one point leaves, entry by entry. -/
theorem pay (j : S512x1024.Idx) : (k0_pay2 (F := Ideal) y x0 x1 j : EReal) = y j + ∑ k : Fin 1024, x0 (ix2 k (j 0)) * x1 (ix2 k (j 1)) := by
  pointwise [k0_pay2]
end

theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel

variable (m : (ℓ : Loc nD τ sig) → Buf (Elt Ideal) ℓ) (c : Dev nD)

/-- The activations that the region reads. -/
abbrev X : S16384x512.Idx → EReal := V m c main_arg0
/-- The cotangent that the region reads. -/
abbrev Y : S16384x1024.Idx → EReal := V m c main_arg2

theorem blk0 (t : Fin cfg0.N) (y : S1024x512.Idx) : (iblk m c 0 t y : EReal) = ent (X m c) (1024 * t.val + (y 0).val) (y 1).val := by
  blk_simp [iblk]
  refine ent_of _ _ _ _ ?_ ?_ <;> blk_simp [ix_0 t] <;> simp only [Nat.zero_mul, Nat.zero_add, Nat.mul_comm _ 1024]
theorem blk1 (t : Fin cfg0.N) (y : S1024x1024.Idx) : (iblk m c 1 t y : EReal) = ent (Y m c) (1024 * t.val + (y 0).val) (y 1).val := by
  blk_simp [iblk]
  refine ent_of _ _ _ _ ?_ ?_ <;> blk_simp [ix_1 t] <;> simp only [Nat.zero_mul, Nat.zero_add, Nat.mul_comm _ 1024]

/-- A point's term of the sum. -/
def term (s : ℕ) (j : S512x1024.Idx) : EReal :=
  ∑ r : Fin 1024, ent (X m c) (1024 * s + r.val) (j 0).val * ent (Y m c) (1024 * s + r.val) (j 1).val

/-- After a point the block holds the sum of the terms so far. -/
theorem holds (j : S512x1024.Idx) : ∀ (n : ℕ) (h : n < cfg0.N),
    (outsAt0 m c n h j : EReal) = ∑ s ∈ range (n + 1), term m c s j
  | 0, h => by
    refine (congrFun (outsAt0_A m c ⟨0, h⟩ rfl) j).trans ?_
    rw [outA, pay, Finset.sum_range_one]
    simp only [blk0, blk1, ix2_0, ix2_1]
    rw [show (k0_pay1 (F := Ideal) j : EReal) = 0 by pointwise [k0_pay1], zero_add]
    rfl
  | n + 1, h => by
    have hN : n + 1 < 16 := lt_of_lt_of_eq h N_0
    refine (congrFun (outsAt0_B m c ⟨n + 1, h⟩ (by dsimp only; omega)) j).trans ?_
    rw [outB, pay, Finset.sum_range_succ]
    simp only [blk0, blk1, ix2_0, ix2_1]
    exact congrArg (· + _) (holds j n (Nat.lt_of_succ_lt h))

/-- The last grid point. -/
def tLast : Fin cfg0.N := ⟨15, lt_of_lt_of_eq (by decide) N_0.symm⟩

/-- The activations' transpose times the cotangent. -/
def out : S512x1024.Idx → EReal := fun j => ∑ r : Fin 16384, ent (X m c) r.val (j 0).val * ent (Y m c) r.val (j 1).val
/-- The result is that product. -/
theorem arr : (dats m 0 c).arrAt 2 cfg0.N = out m c := by
  refine (dats m 0 c).arrAt_eq_of_after_last 2 tLast (by decide +kernel) _ fun j => ?_
  blk_simp
  rw [after0_2, holds]
  exact sum_tiles 16 1024 (fun r => ent (X m c) r (j 0).val * ent (Y m c) r (j 1).val)

/-- The activations that the region reads are the reference's. -/
theorem host : X m c = val_main_v0 (F := Ideal) (m ((c : Thread nD τ).loc main_arg0)) := by
  show V m c main_arg0 = _
  rw [V_main_arg0]
  rfl
end kernel

/-- The reference's gradient, entry by entry. -/
theorem ref (x0 : Cert.RefDwSmallIdeal.S16384x512.Idx → EReal) (x2 : Cert.RefDwSmallIdeal.S16384x1024.Idx → EReal) :
    val_main_v4 (F := Ideal) x0 x2 = fun j => ∑ r : Fin 16384, ent (val_main_v0 (F := Ideal) x0) r.val (j 0).val * ent x2 r.val (j 1).val := by
  funext j
  refine Eq.trans ?_ (Finset.sum_congr rfl fun r _ => congrArg₂ (· * ·) (ent_of _ (ix2 r (j 0)) _ _ rfl rfl) (ent_of _ (ix2 r (j 1)) _ _ rfl rfl))
  rw [val_main_v4_apply, val_main_v3_apply]
  refine Finset.sum_congr rfl fun r _ => (mul_comm _ _).trans (congrArg₂ (· * ·) (congrArg _ ?_) (congrArg x2 ?_)) <;>
    exact funext fun a => by fin_cases a <;> rfl

theorem algebraic : Cert.algebraic_DwSmallIdeal_RefDwSmallIdeal (hDwSmallIdeal := Cert.DwSmallIdeal.Gen.facts) (hRefDwSmallIdeal := Cert.RefDwSmallIdeal.Gen.facts) := by
  intro m ρ m' ρ' _ hag
  refine ⟨fun c => out m c, ?_, ?_⟩
  · exact (θ_run Cert.DwSmallIdeal.defs _ _).mono (fun r h c => ⟨(h c).1.trans (arr m c), (h c).2⟩) (Cert.DwSmallIdeal.Value.run_blocks m ρ)
  · refine (θ_run Cert.RefDwSmallIdeal.defs _ _).mono (fun r h c => ?_) (Cert.RefDwSmallIdeal.Value.run (F := Ideal) m' ρ')
    obtain ⟨k0, hk⟩ := h c
    obtain ⟨a0, a1, a2⟩ := hag c
    refine ⟨k0.trans ((val_main_v4_eq (F := Ideal) _ _).trans ?_), hk⟩
    rw [a0, a2, ref]
    have hx : out m c = fun j => ∑ r : Fin 16384, ent (val_main_v0 (F := Ideal) (m ((c.tc : Thread Cert.DwSmallIdeal.nD Cert.DwSmallIdeal.τ).loc Cert.DwSmallIdeal.main_arg0))) r.val (j 0).val * ent (Y m c) r.val (j 1).val := by
      rw [← host]; rfl
    refine Eq.trans ?_ hx.symm
    exact congrArg (fun y : Cert.DwSmallIdeal.S16384x1024.Idx → EReal => fun j : Cert.DwSmallIdeal.S512x1024.Idx => ∑ r : Fin 16384, ent (val_main_v0 (F := Ideal) (m ((c.tc : Thread Cert.DwSmallIdeal.nD Cert.DwSmallIdeal.τ).loc Cert.DwSmallIdeal.main_arg0))) r.val (j 0).val * ent y r.val (j 1).val)
      (Cert.DwSmallIdeal.Gen.V_main_arg2 m c).symm

/-- The reference leaves its arguments as they were, and no counter behind. -/
theorem frame_reference : Cert.quiescent_RefDwSmallIdeal (hRefDwSmallIdeal := Cert.RefDwSmallIdeal.Gen.facts) := fun m ρ _ =>
  (θ_run Cert.RefDwSmallIdeal.defs _ _).mono (fun r h => ⟨fun c => (h c).2,
      Idealize.ShloMosaic.sem_eq_zero_of_no_sems (by decide) r.2⟩)
    (Cert.RefDwSmallIdeal.Value.run (F := Ideal) m ρ)

end Cert.DwSmallEq

end
-- ==== Proof.UpOut.lean ====
/- What each case of the body leaves in each output block: the gate and up products of a feed-forward sublayer. -/
module

public import proofs.«01_k».proof.Proof.Rows
public import proofs.«01_k».proof.Proof.Gen.UpIdeal.Value

@[expose] public section

set_option maxRecDepth 16384

noncomputable section

namespace Cert.UpEq

open Idealize.ShloMosaic Idealize.ShloMosaic.TcCoe Idealize.ShloMosaic.StableHlo Idealize.SL.Sem Cert.Rows
open Idealize.ShloMosaic.Pipeline (Dat)
open Cert.UpIdeal Cert.UpIdeal.Gen Cert.UpIdeal.Value

section
variable (c : Dev nD) (i : grid0.Coords)
  (a1 : Memref sig .tc .vmem S512x1024 .f32) (h1 : a1.IsWhole)
  (a2 : Memref sig .tc .vmem S1x1024 .f32) (h2 : a2.IsWhole)
  (a5 : Memref sig .tc .vmem S512x1024 .bf16) (h5 : a5.IsWhole)
  (a6 : Memref sig .tc .vmem S512x2816 .bf16) (h6 : a6.IsWhole)
  (a7 : Memref sig .tc .vmem S512x2816 .bf16) (h7 : a7.IsWhole)
  (a8 : Memref sig .tc .vmem S512x2816 .bf16) (h8 : a8.IsWhole)
  (a9 : Memref sig .tc .vmem S1024x2816 .bf16) (h9 : a9.IsWhole)
  (a10 : Memref sig .tc .vmem S1024x2816 .bf16) (h10 : a10.IsWhole)
  (x0 : Vec Ideal S512x1024 .f32)
  (x1 : Vec Ideal S1x1024 .f32)
  (fh0 : HbBuf0 (F := Ideal) c hbM0_0)
  (fh1 : HbBuf0 (F := Ideal) c hbM0_1)
  (xs0 : Vec Ideal S1024x2816 .bf16)
  (xs1 : Vec Ideal S1024x2816 .bf16)
theorem outA2 (hc : cond0_0 i) : out0_A_2 c i a1 h1 a2 h2 a5 h5 a6 h6 a7 h7 a8 h8 a9 h9 a10 h10 hc x0 x1 fh0 fh1 = k0_pay2 x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA3 (hc : cond0_0 i) : out0_A_3 c i a1 h1 a2 h2 a5 h5 a6 h6 a7 h7 a8 h8 a9 h9 a10 h10 hc x0 x1 fh0 fh1 = k0_pay5 x0 x1 (fh0) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA4 (hc : cond0_0 i) : out0_A_4 c i a1 h1 a2 h2 a5 h5 a6 h6 a7 h7 a8 h8 a9 h9 a10 h10 hc x0 x1 fh0 fh1 = k0_pay6 x0 x1 (fh1) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA5 (hc : cond0_0 i) : out0_A_5 c i a1 h1 a2 h2 a5 h5 a6 h6 a7 h7 a8 h8 a9 h9 a10 h10 hc x0 x1 fh0 fh1 = k0_pay1 (k0_pay3 x0 x1 (fh0)) (k0_pay4 x0 x1 (fh1)) (k0_pay7 x0 x1 (fh0)) k0_pay8 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB2 (hc : ¬cond0_0 i) : out0_B_2 c i a1 h1 a2 h2 a5 h5 a6 h6 a7 h7 a8 h8 a9 h9 a10 h10 hc x0 x1 xs0 xs1 fh0 fh1 = k0_pay2 x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB3 (hc : ¬cond0_0 i) : out0_B_3 c i a1 h1 a2 h2 a5 h5 a6 h6 a7 h7 a8 h8 a9 h9 a10 h10 hc x0 x1 xs0 xs1 fh0 fh1 = k0_pay5 x0 x1 xs0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB4 (hc : ¬cond0_0 i) : out0_B_4 c i a1 h1 a2 h2 a5 h5 a6 h6 a7 h7 a8 h8 a9 h9 a10 h10 hc x0 x1 xs0 xs1 fh0 fh1 = k0_pay6 x0 x1 xs1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB5 (hc : ¬cond0_0 i) : out0_B_5 c i a1 h1 a2 h2 a5 h5 a6 h6 a7 h7 a8 h8 a9 h9 a10 h10 hc x0 x1 xs0 xs1 fh0 fh1 = k0_pay1 (k0_pay3 x0 x1 xs0) (k0_pay4 x0 x1 xs1) (k0_pay7 x0 x1 xs0) k0_pay8 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA0 (hc : cond0_0 i) : sout0_A_0 c i a1 h1 a2 h2 a5 h5 a6 h6 a7 h7 a8 h8 a9 h9 a10 h10 hc x0 x1 fh0 fh1 = fh0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA1 (hc : cond0_0 i) : sout0_A_1 c i a1 h1 a2 h2 a5 h5 a6 h6 a7 h7 a8 h8 a9 h9 a10 h10 hc x0 x1 fh0 fh1 = fh1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
end

end Cert.UpEq

end
-- ==== Proof.Sig.lean ====
/- The two ways of writing the logistic function, on all extended reals. -/
module

public import Idealize.ShloMosaic.Lib.Pointwise
public import Idealize.ShloMosaic.Lib.KernelVsHost

@[expose] public section

noncomputable section

namespace Cert.Rows

open Idealize.ShloMosaic

theorem half_word : Idealize.ShloMosaic.Ideal.ofBits .f32 0x3F000000#32 = ((1 / 2 : ℝ) : EReal) := by
  simp [Ideal.ofBits, Ideal.ieee, -EReal.coe_mul]; norm_num

/-- `½ tanh(a/2) + ½ = 1 / (1 + exp(−a))` for a real `a`. -/
theorem sig_real (a : ℝ) : 1 / 2 * Real.tanh (1 / 2 * a) + 1 / 2 = 1 / (1 + Real.exp (-a)) := by
  have h1 : Real.exp (-(1/2*a)) = (Real.exp (1/2*a))⁻¹ := Real.exp_neg _
  have h2 : Real.exp (-a) = ((Real.exp (1/2*a)) * Real.exp (1/2*a))⁻¹ := by
    rw [← Real.exp_add, ← Real.exp_neg]; congr 1; ring
  have hp := Real.exp_pos (1/2*a)
  rw [Real.tanh_eq_sinh_div_cosh, Real.sinh_eq, Real.cosh_eq, h1, h2]
  field_simp
  ring

/-- The same on the extended reals. -/
theorem sigmoid_eq (a : EReal) : ((1 / 2 : ℝ) : EReal) * Idealize.ShloMosaic.Ideal.tanh (((1 / 2 : ℝ) : EReal) * a) + ((1 / 2 : ℝ) : EReal)
    = Idealize.ShloMosaic.Ideal.div 1 (1 + Idealize.ShloMosaic.Ideal.exp (-a)) := by
  induction a using EReal.rec with
  | bot =>
    rw [EReal.coe_mul_bot_of_pos (by norm_num), Ideal.tanh_bot, EReal.neg_bot, Ideal.exp_top]
    rw [show ((1 / 2 : ℝ) : EReal) * -1 + ((1 / 2 : ℝ) : EReal) = 0 by
      rw [← EReal.coe_one, ← EReal.coe_neg, ← EReal.coe_mul, ← EReal.coe_add, ← EReal.coe_zero]; congr 1; norm_num]
    rw [show (1 : EReal) + ⊤ = ⊤ from by norm_cast]
    simp [Idealize.ShloMosaic.Ideal.div]
  | top =>
    rw [EReal.coe_mul_top_of_pos (by norm_num), Ideal.tanh_top, EReal.neg_top, Ideal.exp_bot]
    rw [show ((1 / 2 : ℝ) : EReal) * 1 + ((1 / 2 : ℝ) : EReal) = 1 by norm_cast; norm_num]
    simp [Idealize.ShloMosaic.Ideal.div]
  | coe a =>
    have hp := Real.exp_pos (-a)
    rw [← EReal.coe_mul, Ideal.tanh_coe, ← EReal.coe_mul, ← EReal.coe_add, sig_real, ← EReal.coe_neg, Ideal.exp_coe,
      ← EReal.coe_one, ← EReal.coe_add, Ideal.div_coe (by positivity), ← EReal.coe_mul]
    congr 1
    ring

end Cert.Rows

end
-- ==== Proof.UpEq.lean ====
/- The gate and up products of a feed-forward sublayer: what the kernel leaves tile by tile is what the reference computes. -/
module

public import proofs.«01_k».proof.Proof.UpOut
public import proofs.«01_k».proof.Proof.Sig
public import proofs.«01_k».proof.Proof.Gen.RefUpIdeal.Run
public import proofs.«01_k».proof.Proof.Gen.RefUpIdeal.Read
public import proofs.«01_k».proof.Defs

@[expose] public section

set_option maxRecDepth 16384

noncomputable section

namespace Cert.UpEq

open Idealize.ShloMosaic Idealize.ShloMosaic.TcCoe Idealize.ShloMosaic.StableHlo Idealize.SL.Sem Cert.Rows
open Idealize.ShloMosaic.Pipeline (Dat)
open Cert.RefUpIdeal.Read

/-! One tile: each payload on a tile of the arguments is the tile of the reference's stage. -/

section pay
open Cert.UpIdeal Cert.UpIdeal.Gen
variable (n : ℕ) (h : n < 32) (x0 : S16384x1024.Idx → EReal) (x1 : S1024.Idx → EReal) (x2 : S1024x2816.Idx → EReal) (x3 : S1024x2816.Idx → EReal)

theorem pay2 : (k0_pay2 (F := Ideal) (tile n h x0) (gain x1) : S512x1024.Idx → EReal) = tile n h (val_main_v19 (F := Ideal) x0 x1) := by
  funext y
  rw [tile]
  pointwise [k0_pay2, val_main_v19, val_main_v14, val_main_v13, val_main_v12, val_main_v11, val_main_v10, val_main_v9, val_main_v8, val_main_v7, val_main_v6, val_main_v5, val_main_v4, val_main_v3, val_main_v2, val_main_cst, val_main_cst_0, val_main_cst_1]
  rfl
theorem pay3 : (k0_pay3 (F := Ideal) (tile n h x0) (gain x1) x2 : S512x2816.Idx → EReal) = tile n h (val_main_v15 (F := Ideal) x0 x1 x2) := by
  funext y
  rw [tile]
  pointwise [k0_pay3, val_main_v15, val_main_v0]
  rw [pay2]
  rfl
theorem pay4 : (k0_pay4 (F := Ideal) (tile n h x0) (gain x1) x3 : S512x2816.Idx → EReal) = tile n h (val_main_v16 (F := Ideal) x0 x1 x3) := by
  funext y
  rw [tile]
  pointwise [k0_pay4, val_main_v16, val_main_v1]
  rw [pay2]
  rfl
theorem pay5 : (k0_pay5 (F := Ideal) (tile n h x0) (gain x1) x2 : S512x2816.Idx → EReal) = tile n h (val_main_v20 (F := Ideal) x0 x1 x2) := by
  funext y
  rw [tile]
  pointwise [k0_pay5, val_main_v20]
  rw [pay3]
  rfl
theorem pay6 : (k0_pay6 (F := Ideal) (tile n h x0) (gain x1) x3 : S512x2816.Idx → EReal) = tile n h (val_main_v21 (F := Ideal) x0 x1 x3) := by
  funext y
  rw [tile]
  pointwise [k0_pay6, val_main_v21]
  rw [pay4]
  rfl
theorem pay1 : (k0_pay1 (F := Ideal) (k0_pay3 (tile n h x0) (gain x1) x2) (k0_pay4 (tile n h x0) (gain x1) x3) (k0_pay7 (tile n h x0) (gain x1) x2) k0_pay8 : S512x2816.Idx → EReal) = tile n h (val_main_v22 (F := Ideal) x0 x1 x2 x3) := by
  funext y
  rw [tile]
  pointwise [k0_pay1, k0_pay7, k0_pay8, val_main_v22, val_main_v18, val_main_v17, val_main_call0_v5, val_main_call0_v4, val_main_call0_v3, val_main_call0_v2, val_main_call0_v1, val_main_call0_v0, val_main_call0_cst, val_main_call0_cst_0]
  rw [pay3, pay4, half_word, sigmoid_eq]
  rfl
end pay

section kernel
open Cert.UpIdeal Cert.UpIdeal.Gen Cert.UpIdeal.Value
variable (m : (ℓ : Loc nD τ sig) → Buf (Elt Ideal) ℓ) (c : Dev nD)

/-- Argument 0. -/
abbrev A0 : S16384x1024.Idx → EReal := m ((c : Thread nD τ).loc main_arg0)
/-- Argument 1. -/
abbrev A1 : S1024.Idx → EReal := m ((c : Thread nD τ).loc main_arg1)
/-- Argument 2. -/
abbrev A2 : S1024x2816.Idx → EReal := m ((c : Thread nD τ).loc main_arg2)
/-- Argument 3. -/
abbrev A3 : S1024x2816.Idx → EReal := m ((c : Thread nD τ).loc main_arg3)

theorem lt (t : Fin cfg0.N) : t.val < 32 := lt_of_lt_of_eq t.isLt N_0
theorem ix_0 : ∀ t : Fin grid0.N, win0_0.index t 0 = t.val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel

theorem blk0 (t : Fin cfg0.N) : (iblk m c 0 t : S512x1024.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
theorem blk1 (t : Fin cfg0.N) : (iblk m c 1 t : S1x1024.Idx → EReal) = gain (A1 m c) := by
  funext y
  blk_simp [iblk]
  show V m c main_v0 _ = _
  unfold_abbrev_sides
  after_results
  pointwise []
  refine congrArg (fun z => A1 m c (ix1 z)) (Fin.ext ?_)
  blk_simp [ix_1 t]

/-- What a point leaves in the outputs and in the copies of the weights. -/
theorem holds : ∀ (n : ℕ) (h : n < cfg0.N), outsAt0 m c n h =
    (tile n (lt ⟨n, h⟩) (val_main_v19 (F := Ideal) (A0 m c) (A1 m c)),
      tile n (lt ⟨n, h⟩) (val_main_v20 (F := Ideal) (A0 m c) (A1 m c) (A2 m c)),
      tile n (lt ⟨n, h⟩) (val_main_v21 (F := Ideal) (A0 m c) (A1 m c) (A3 m c)),
      tile n (lt ⟨n, h⟩) (val_main_v22 (F := Ideal) (A0 m c) (A1 m c) (A2 m c) (A3 m c)),
      (A2 m c),
      (A3 m c))
  | 0, h => (outsAt0_A m c ⟨0, h⟩ rfl).trans (by
    rw [outA2, outA3, outA4, outA5, soutA0, soutA1, blk0, blk1, V_main_arg2, V_main_arg3]
    exact congrArg₂ Prod.mk (pay2 _ _ _ _) (congrArg₂ Prod.mk (pay5 _ _ _ _ _) (congrArg₂ Prod.mk (pay6 _ _ _ _ _) (congrArg₂ Prod.mk (pay1 _ _ _ _ _ _) (rfl)))))
  | n + 1, h => by
    have hN : n + 1 < 32 := lt_of_lt_of_eq h N_0
    refine (outsAt0_B m c ⟨n + 1, h⟩ (by dsimp only; omega)).trans ?_
    rw [outB2, outB3, outB4, outB5, blk0, blk1]
    have w0 : (outsAt0 m c (n + 1 - 1) (Nat.lt_of_le_of_lt (Nat.sub_le _ _) h)).2.2.2.2.1 = (A2 m c) :=
      congrArg (·.2.2.2.2.1) (holds n (Nat.lt_of_succ_lt h))
    have w1 : (outsAt0 m c (n + 1 - 1) (Nat.lt_of_le_of_lt (Nat.sub_le _ _) h)).2.2.2.2.2 = (A3 m c) :=
      congrArg (·.2.2.2.2.2) (holds n (Nat.lt_of_succ_lt h))
    rw [w0, w1]
    exact congrArg₂ Prod.mk (pay2 _ _ _ _) (congrArg₂ Prod.mk (pay5 _ _ _ _ _) (congrArg₂ Prod.mk (pay6 _ _ _ _ _) (congrArg₂ Prod.mk (pay1 _ _ _ _ _ _) (rfl))))

/-- The result of window 2 is the reference's. -/
theorem arr2 : (dats m 0 c).arrAt 2 cfg0.N = val_main_v19 (F := Ideal) (A0 m c) (A1 m c) := by
  refine (dats m 0 c).arrAt_eq_of_covers 2 _ (by decide +kernel) fun t hf y => ?_
  blk_simp
  rw [after0_2, holds]
  refine (tile_of t.val (lt t) (val_main_v19 (F := Ideal) (A0 m c) (A1 m c)) y _ ?_ ?_).symm <;> blk_simp [ix_2 t] <;> simp only [Nat.zero_mul, Nat.zero_add, Nat.mul_comm _ 512]
/-- The result of window 3 is the reference's. -/
theorem arr3 : (dats m 0 c).arrAt 3 cfg0.N = val_main_v20 (F := Ideal) (A0 m c) (A1 m c) (A2 m c) := by
  refine (dats m 0 c).arrAt_eq_of_covers 3 _ (by decide +kernel) fun t hf y => ?_
  blk_simp
  rw [after0_3, holds]
  refine (tile_of t.val (lt t) (val_main_v20 (F := Ideal) (A0 m c) (A1 m c) (A2 m c)) y _ ?_ ?_).symm <;> blk_simp [ix_3 t] <;> simp only [Nat.zero_mul, Nat.zero_add, Nat.mul_comm _ 512]
/-- The result of window 4 is the reference's. -/
theorem arr4 : (dats m 0 c).arrAt 4 cfg0.N = val_main_v21 (F := Ideal) (A0 m c) (A1 m c) (A3 m c) := by
  refine (dats m 0 c).arrAt_eq_of_covers 4 _ (by decide +kernel) fun t hf y => ?_
  blk_simp
  rw [after0_4, holds]
  refine (tile_of t.val (lt t) (val_main_v21 (F := Ideal) (A0 m c) (A1 m c) (A3 m c)) y _ ?_ ?_).symm <;> blk_simp [ix_4 t] <;> simp only [Nat.zero_mul, Nat.zero_add, Nat.mul_comm _ 512]
/-- The result of window 5 is the reference's. -/
theorem arr5 : (dats m 0 c).arrAt 5 cfg0.N = val_main_v22 (F := Ideal) (A0 m c) (A1 m c) (A2 m c) (A3 m c) := by
  refine (dats m 0 c).arrAt_eq_of_covers 5 _ (by decide +kernel) fun t hf y => ?_
  blk_simp
  rw [after0_5, holds]
  refine (tile_of t.val (lt t) (val_main_v22 (F := Ideal) (A0 m c) (A1 m c) (A2 m c) (A3 m c)) y _ ?_ ?_).symm <;> blk_simp [ix_5 t] <;> simp only [Nat.zero_mul, Nat.zero_add, Nat.mul_comm _ 512]
end kernel

section claims
open Cert.UpIdeal

theorem algebraic : Cert.algebraic_UpIdeal_RefUpIdeal (hUpIdeal := Cert.UpIdeal.Gen.facts) (hRefUpIdeal := Cert.RefUpIdeal.Gen.facts) := by
  intro m ρ m' ρ' _ hag
  refine ⟨fun c => val_main_v19 (F := Ideal) (A0 m c) (A1 m c), fun c => val_main_v20 (F := Ideal) (A0 m c) (A1 m c) (A2 m c), fun c => val_main_v21 (F := Ideal) (A0 m c) (A1 m c) (A3 m c), fun c => val_main_v22 (F := Ideal) (A0 m c) (A1 m c) (A2 m c) (A3 m c), ?_, ?_⟩
  · refine (θ_run Cert.UpIdeal.defs _ _).mono (fun r h c => ?_) (Cert.UpIdeal.Value.run_blocks m ρ)
    obtain ⟨k0, k1, k2, k3, hk⟩ := h c
    exact ⟨k0.trans (arr2 m c), k1.trans (arr3 m c), k2.trans (arr4 m c), k3.trans (arr5 m c), hk⟩
  · refine (θ_run Cert.RefUpIdeal.defs _ _).mono (fun r h c => ?_) (Cert.RefUpIdeal.Value.run (F := Ideal) m' ρ')
    obtain ⟨k0, k1, k2, k3, hk⟩ := h c
    obtain ⟨a0, a1, a2, a3⟩ := hag c
    exact ⟨k0.trans ((val_main_v19_eq (F := Ideal) _ _).trans (by rw [a0, a1])),
      k1.trans ((val_main_v20_eq (F := Ideal) _ _ _).trans (by rw [a0, a1, a2])),
      k2.trans ((val_main_v21_eq (F := Ideal) _ _ _).trans (by rw [a0, a1, a3])),
      k3.trans ((val_main_v22_eq (F := Ideal) _ _ _ _).trans (by rw [a0, a1, a2, a3])), hk⟩
end claims

/-- The reference leaves its arguments as they were, and no counter behind. -/
theorem frame_reference : Cert.quiescent_RefUpIdeal (hRefUpIdeal := Cert.RefUpIdeal.Gen.facts) := fun m ρ _ =>
  (θ_run Cert.RefUpIdeal.defs _ _).mono (fun r h => ⟨fun c => (h c).2.2.2.2,
      Idealize.ShloMosaic.sem_eq_zero_of_no_sems (by decide) r.2⟩)
    (Cert.RefUpIdeal.Value.run (F := Ideal) m ρ)

end Cert.UpEq

end
-- ==== Proof.DownOut.lean ====
/- What each case of the body leaves in each output block: the down product of a feed-forward sublayer, its norm and its residual. -/
module

public import proofs.«01_k».proof.Proof.Rows
public import proofs.«01_k».proof.Proof.Gen.DownIdeal.Value

@[expose] public section

set_option maxRecDepth 16384

noncomputable section

namespace Cert.DownEq

open Idealize.ShloMosaic Idealize.ShloMosaic.TcCoe Idealize.ShloMosaic.StableHlo Idealize.SL.Sem Cert.Rows
open Idealize.ShloMosaic.Pipeline (Dat)
open Cert.DownIdeal Cert.DownIdeal.Gen Cert.DownIdeal.Value

section
variable (c : Dev nD) (i : grid0.Coords)
  (a1 : Memref sig .tc .vmem S512x2816 .bf16) (h1 : a1.IsWhole)
  (a2 : Memref sig .tc .vmem S512x1024 .f32) (h2 : a2.IsWhole)
  (a3 : Memref sig .tc .vmem S1x1024 .f32) (h3 : a3.IsWhole)
  (a5 : Memref sig .tc .vmem S512x1024 .f32) (h5 : a5.IsWhole)
  (a6 : Memref sig .tc .vmem S512x1024 .f32) (h6 : a6.IsWhole)
  (a7 : Memref sig .tc .vmem S2816x1024 .bf16) (h7 : a7.IsWhole)
  (x0 : Vec Ideal S512x2816 .bf16)
  (x1 : Vec Ideal S512x1024 .f32)
  (x2 : Vec Ideal S1x1024 .f32)
  (fh0 : HbBuf0 (F := Ideal) c hbM0_0)
  (xs0 : Vec Ideal S2816x1024 .bf16)
theorem outA3 (hc : cond0_0 i) : out0_A_3 c i a1 h1 a2 h2 a3 h3 a5 h5 a6 h6 a7 h7 hc x0 x1 x2 fh0 = k0_pay1 x0 (fh0) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA4 (hc : cond0_0 i) : out0_A_4 c i a1 h1 a2 h2 a3 h3 a5 h5 a6 h6 a7 h7 hc x0 x1 x2 fh0 = k0_pay2 x0 (fh0) x1 x2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB3 (hc : ¬cond0_0 i) : out0_B_3 c i a1 h1 a2 h2 a3 h3 a5 h5 a6 h6 a7 h7 hc x0 x1 x2 xs0 fh0 = k0_pay1 x0 xs0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB4 (hc : ¬cond0_0 i) : out0_B_4 c i a1 h1 a2 h2 a3 h3 a5 h5 a6 h6 a7 h7 hc x0 x1 x2 xs0 fh0 = k0_pay2 x0 xs0 x1 x2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA0 (hc : cond0_0 i) : sout0_A_0 c i a1 h1 a2 h2 a3 h3 a5 h5 a6 h6 a7 h7 hc x0 x1 x2 fh0 = fh0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
end

end Cert.DownEq

end
-- ==== Proof.DownEq.lean ====
/- The down product of a feed-forward sublayer, its norm and its residual: what the kernel leaves tile by tile is what the reference computes. -/
module

public import proofs.«01_k».proof.Proof.DownOut
public import proofs.«01_k».proof.Proof.Sig
public import proofs.«01_k».proof.Proof.Gen.RefDownIdeal.Run
public import proofs.«01_k».proof.Proof.Gen.RefDownIdeal.Read
public import proofs.«01_k».proof.Defs

@[expose] public section

set_option maxRecDepth 16384

noncomputable section

namespace Cert.DownEq

open Idealize.ShloMosaic Idealize.ShloMosaic.TcCoe Idealize.ShloMosaic.StableHlo Idealize.SL.Sem Cert.Rows
open Idealize.ShloMosaic.Pipeline (Dat)
open Cert.RefDownIdeal.Read

/-! One tile: each payload on a tile of the arguments is the tile of the reference's stage. -/

section pay
open Cert.DownIdeal Cert.DownIdeal.Gen
variable (n : ℕ) (h : n < 32) (x0 : S16384x2816.Idx → EReal) (x1 : S16384x1024.Idx → EReal) (x2 : S1024.Idx → EReal) (x3 : S2816x1024.Idx → EReal)

theorem pay1 : (k0_pay1 (F := Ideal) (tile n h x0) x3 : S512x1024.Idx → EReal) = tile n h (val_main_v2 (F := Ideal) x0 x3) := by
  funext y
  rw [tile]
  pointwise [k0_pay1, val_main_v2, val_main_v1, val_main_v0]
  rfl
theorem pay2 : (k0_pay2 (F := Ideal) (tile n h x0) x3 (tile n h x1) (gain x2) : S512x1024.Idx → EReal) = tile n h (val_main_v18 (F := Ideal) x0 x1 x2 x3) := by
  funext y
  rw [tile]
  pointwise [k0_pay2, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2]
  rw [pay1]
  rfl
end pay

section kernel
open Cert.DownIdeal Cert.DownIdeal.Gen Cert.DownIdeal.Value
variable (m : (ℓ : Loc nD τ sig) → Buf (Elt Ideal) ℓ) (c : Dev nD)

/-- Argument 0. -/
abbrev A0 : S16384x2816.Idx → EReal := m ((c : Thread nD τ).loc main_arg0)
/-- Argument 1. -/
abbrev A1 : S16384x1024.Idx → EReal := m ((c : Thread nD τ).loc main_arg1)
/-- Argument 2. -/
abbrev A2 : S1024.Idx → EReal := m ((c : Thread nD τ).loc main_arg2)
/-- Argument 3. -/
abbrev A3 : S2816x1024.Idx → EReal := m ((c : Thread nD τ).loc main_arg3)

theorem lt (t : Fin cfg0.N) : t.val < 32 := lt_of_lt_of_eq t.isLt N_0
theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel

theorem blk0 (t : Fin cfg0.N) : (iblk m c 0 t : S512x2816.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
theorem blk1 (t : Fin cfg0.N) : (iblk m c 1 t : S512x1024.Idx → EReal) = tile t.val (lt t) (A1 m c) := by
  funext y
  blk_simp [iblk]
  rw [V_main_arg1]
  refine tile_of _ _ _ _ _ ?_ ?_ <;> blk_simp [ix_1 t] <;> simp only [Nat.zero_mul, Nat.zero_add, Nat.mul_comm _ 512]
theorem blk2 (t : Fin cfg0.N) : (iblk m c 2 t : S1x1024.Idx → EReal) = gain (A2 m c) := by
  funext y
  blk_simp [iblk]
  show V m c main_v0 _ = _
  unfold_abbrev_sides
  after_results
  pointwise []
  refine congrArg (fun z => A2 m c (ix1 z)) (Fin.ext ?_)
  blk_simp [ix_2 t]

/-- What a point leaves in the outputs and in the copies of the weights. -/
theorem holds : ∀ (n : ℕ) (h : n < cfg0.N), outsAt0 m c n h =
    (tile n (lt ⟨n, h⟩) (val_main_v2 (F := Ideal) (A0 m c) (A3 m c)),
      tile n (lt ⟨n, h⟩) (val_main_v18 (F := Ideal) (A0 m c) (A1 m c) (A2 m c) (A3 m c)),
      (A3 m c))
  | 0, h => (outsAt0_A m c ⟨0, h⟩ rfl).trans (by
    rw [outA3, outA4, soutA0, blk0, blk1, blk2, V_main_arg3]
    exact congrArg₂ Prod.mk (pay1 _ _ _ _) (congrArg₂ Prod.mk (pay2 _ _ _ _ _ _) (rfl)))
  | n + 1, h => by
    have hN : n + 1 < 32 := lt_of_lt_of_eq h N_0
    refine (outsAt0_B m c ⟨n + 1, h⟩ (by dsimp only; omega)).trans ?_
    rw [outB3, outB4, blk0, blk1, blk2]
    have w0 : (outsAt0 m c (n + 1 - 1) (Nat.lt_of_le_of_lt (Nat.sub_le _ _) h)).2.2 = (A3 m c) :=
      congrArg (·.2.2) (holds n (Nat.lt_of_succ_lt h))
    rw [w0]
    exact congrArg₂ Prod.mk (pay1 _ _ _ _) (congrArg₂ Prod.mk (pay2 _ _ _ _ _ _) (rfl))

/-- The result of window 3 is the reference's. -/
theorem arr3 : (dats m 0 c).arrAt 3 cfg0.N = val_main_v2 (F := Ideal) (A0 m c) (A3 m c) := by
  refine (dats m 0 c).arrAt_eq_of_covers 3 _ (by decide +kernel) fun t hf y => ?_
  blk_simp
  rw [after0_3, holds]
  refine (tile_of t.val (lt t) (val_main_v2 (F := Ideal) (A0 m c) (A3 m c)) y _ ?_ ?_).symm <;> blk_simp [ix_3 t] <;> simp only [Nat.zero_mul, Nat.zero_add, Nat.mul_comm _ 512]
/-- The result of window 4 is the reference's. -/
theorem arr4 : (dats m 0 c).arrAt 4 cfg0.N = val_main_v18 (F := Ideal) (A0 m c) (A1 m c) (A2 m c) (A3 m c) := by
  refine (dats m 0 c).arrAt_eq_of_covers 4 _ (by decide +kernel) fun t hf y => ?_
  blk_simp
  rw [after0_4, holds]
  refine (tile_of t.val (lt t) (val_main_v18 (F := Ideal) (A0 m c) (A1 m c) (A2 m c) (A3 m c)) y _ ?_ ?_).symm <;> blk_simp [ix_4 t] <;> simp only [Nat.zero_mul, Nat.zero_add, Nat.mul_comm _ 512]
end kernel

section claims
open Cert.DownIdeal

theorem algebraic : Cert.algebraic_DownIdeal_RefDownIdeal (hDownIdeal := Cert.DownIdeal.Gen.facts) (hRefDownIdeal := Cert.RefDownIdeal.Gen.facts) := by
  intro m ρ m' ρ' _ hag
  refine ⟨fun c => val_main_v2 (F := Ideal) (A0 m c) (A3 m c), fun c => val_main_v18 (F := Ideal) (A0 m c) (A1 m c) (A2 m c) (A3 m c), ?_, ?_⟩
  · refine (θ_run Cert.DownIdeal.defs _ _).mono (fun r h c => ?_) (Cert.DownIdeal.Value.run_blocks m ρ)
    obtain ⟨k0, k1, hk⟩ := h c
    exact ⟨k0.trans (arr3 m c), k1.trans (arr4 m c), hk⟩
  · refine (θ_run Cert.RefDownIdeal.defs _ _).mono (fun r h c => ?_) (Cert.RefDownIdeal.Value.run (F := Ideal) m' ρ')
    obtain ⟨k0, k1, hk⟩ := h c
    obtain ⟨a0, a1, a2, a3⟩ := hag c
    exact ⟨k0.trans ((val_main_v2_eq (F := Ideal) _ _).trans (by rw [a0, a3])),
      k1.trans ((val_main_v18_eq (F := Ideal) _ _ _ _).trans (by rw [a0, a1, a2, a3])), hk⟩
end claims

/-- The reference leaves its arguments as they were, and no counter behind. -/
theorem frame_reference : Cert.quiescent_RefDownIdeal (hRefDownIdeal := Cert.RefDownIdeal.Gen.facts) := fun m ρ _ =>
  (θ_run Cert.RefDownIdeal.defs _ _).mono (fun r h => ⟨fun c => (h c).2.2,
      Idealize.ShloMosaic.sem_eq_zero_of_no_sems (by decide) r.2⟩)
    (Cert.RefDownIdeal.Value.run (F := Ideal) m ρ)

end Cert.DownEq

end
-- ==== Proof.MixInOut.lean ====
/- What each case of the body leaves in each output block: the input product of the mixer. -/
module

public import proofs.«01_k».proof.Proof.Rows
public import proofs.«01_k».proof.Proof.Gen.MixInIdeal.Value

@[expose] public section

set_option maxRecDepth 16384

noncomputable section

namespace Cert.MixInEq

open Idealize.ShloMosaic Idealize.ShloMosaic.TcCoe Idealize.ShloMosaic.StableHlo Idealize.SL.Sem Cert.Rows
open Idealize.ShloMosaic.Pipeline (Dat)
open Cert.MixInIdeal Cert.MixInIdeal.Gen Cert.MixInIdeal.Value

section
variable (c : Dev nD) (i : grid0.Coords)
  (a1 : Memref sig .tc .vmem S512x1024 .f32) (h1 : a1.IsWhole)
  (a2 : Memref sig .tc .vmem S1x1024 .f32) (h2 : a2.IsWhole)
  (a7 : Memref sig .tc .vmem S512x1024 .bf16) (h7 : a7.IsWhole)
  (a8 : Memref sig .tc .vmem S512x1024 .bf16) (h8 : a8.IsWhole)
  (a9 : Memref sig .tc .vmem S512x1024 .bf16) (h9 : a9.IsWhole)
  (a10 : Memref sig .tc .vmem S512x2560 .bf16) (h10 : a10.IsWhole)
  (a11 : Memref sig .tc .vmem S512x3072 .bf16) (h11 : a11.IsWhole)
  (a12 : Memref sig .tc .vmem S1024x1024 .bf16) (h12 : a12.IsWhole)
  (a13 : Memref sig .tc .vmem S1024x1024 .bf16) (h13 : a13.IsWhole)
  (a14 : Memref sig .tc .vmem S1024x2560 .bf16) (h14 : a14.IsWhole)
  (a15 : Memref sig .tc .vmem S1024x3072 .bf16) (h15 : a15.IsWhole)
  (x0 : Vec Ideal S512x1024 .f32)
  (x1 : Vec Ideal S1x1024 .f32)
  (fh0 : HbBuf0 (F := Ideal) c hbM0_0)
  (fh1 : HbBuf0 (F := Ideal) c hbM0_1)
  (fh2 : HbBuf0 (F := Ideal) c hbM0_2)
  (fh3 : HbBuf0 (F := Ideal) c hbM0_3)
  (xs0 : Vec Ideal S1024x1024 .bf16)
  (xs1 : Vec Ideal S1024x1024 .bf16)
  (xs2 : Vec Ideal S1024x2560 .bf16)
  (xs3 : Vec Ideal S1024x3072 .bf16)
theorem outA2 (hc : cond0_0 i) : out0_A_2 c i a1 h1 a2 h2 a7 h7 a8 h8 a9 h9 a10 h10 a11 h11 a12 h12 a13 h13 a14 h14 a15 h15 hc x0 x1 fh0 fh1 fh2 fh3 = k0_pay2 x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA3 (hc : cond0_0 i) : out0_A_3 c i a1 h1 a2 h2 a7 h7 a8 h8 a9 h9 a10 h10 a11 h11 a12 h12 a13 h13 a14 h14 a15 h15 hc x0 x1 fh0 fh1 fh2 fh3 = k0_pay3 x0 x1 (fh0) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA4 (hc : cond0_0 i) : out0_A_4 c i a1 h1 a2 h2 a7 h7 a8 h8 a9 h9 a10 h10 a11 h11 a12 h12 a13 h13 a14 h14 a15 h15 hc x0 x1 fh0 fh1 fh2 fh3 = k0_pay4 x0 x1 (fh1) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA5 (hc : cond0_0 i) : out0_A_5 c i a1 h1 a2 h2 a7 h7 a8 h8 a9 h9 a10 h10 a11 h11 a12 h12 a13 h13 a14 h14 a15 h15 hc x0 x1 fh0 fh1 fh2 fh3 = k0_pay5 x0 x1 (fh2) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA6 (hc : cond0_0 i) : out0_A_6 c i a1 h1 a2 h2 a7 h7 a8 h8 a9 h9 a10 h10 a11 h11 a12 h12 a13 h13 a14 h14 a15 h15 hc x0 x1 fh0 fh1 fh2 fh3 = k0_pay1 (k0_pay2 x0 x1) (fh3) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB2 (hc : ¬cond0_0 i) : out0_B_2 c i a1 h1 a2 h2 a7 h7 a8 h8 a9 h9 a10 h10 a11 h11 a12 h12 a13 h13 a14 h14 a15 h15 hc x0 x1 xs0 xs1 xs2 xs3 fh0 fh1 fh2 fh3 = k0_pay2 x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB3 (hc : ¬cond0_0 i) : out0_B_3 c i a1 h1 a2 h2 a7 h7 a8 h8 a9 h9 a10 h10 a11 h11 a12 h12 a13 h13 a14 h14 a15 h15 hc x0 x1 xs0 xs1 xs2 xs3 fh0 fh1 fh2 fh3 = k0_pay3 x0 x1 xs0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB4 (hc : ¬cond0_0 i) : out0_B_4 c i a1 h1 a2 h2 a7 h7 a8 h8 a9 h9 a10 h10 a11 h11 a12 h12 a13 h13 a14 h14 a15 h15 hc x0 x1 xs0 xs1 xs2 xs3 fh0 fh1 fh2 fh3 = k0_pay4 x0 x1 xs1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB5 (hc : ¬cond0_0 i) : out0_B_5 c i a1 h1 a2 h2 a7 h7 a8 h8 a9 h9 a10 h10 a11 h11 a12 h12 a13 h13 a14 h14 a15 h15 hc x0 x1 xs0 xs1 xs2 xs3 fh0 fh1 fh2 fh3 = k0_pay5 x0 x1 xs2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB6 (hc : ¬cond0_0 i) : out0_B_6 c i a1 h1 a2 h2 a7 h7 a8 h8 a9 h9 a10 h10 a11 h11 a12 h12 a13 h13 a14 h14 a15 h15 hc x0 x1 xs0 xs1 xs2 xs3 fh0 fh1 fh2 fh3 = k0_pay1 (k0_pay2 x0 x1) xs3 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA0 (hc : cond0_0 i) : sout0_A_0 c i a1 h1 a2 h2 a7 h7 a8 h8 a9 h9 a10 h10 a11 h11 a12 h12 a13 h13 a14 h14 a15 h15 hc x0 x1 fh0 fh1 fh2 fh3 = fh0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA1 (hc : cond0_0 i) : sout0_A_1 c i a1 h1 a2 h2 a7 h7 a8 h8 a9 h9 a10 h10 a11 h11 a12 h12 a13 h13 a14 h14 a15 h15 hc x0 x1 fh0 fh1 fh2 fh3 = fh1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA2 (hc : cond0_0 i) : sout0_A_2 c i a1 h1 a2 h2 a7 h7 a8 h8 a9 h9 a10 h10 a11 h11 a12 h12 a13 h13 a14 h14 a15 h15 hc x0 x1 fh0 fh1 fh2 fh3 = fh2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA3 (hc : cond0_0 i) : sout0_A_3 c i a1 h1 a2 h2 a7 h7 a8 h8 a9 h9 a10 h10 a11 h11 a12 h12 a13 h13 a14 h14 a15 h15 hc x0 x1 fh0 fh1 fh2 fh3 = fh3 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
end

end Cert.MixInEq

end
-- ==== Proof.MixInEq.lean ====
/- The input product of the mixer: what the kernel leaves tile by tile is what the reference computes. -/
module

public import proofs.«01_k».proof.Proof.MixInOut
public import proofs.«01_k».proof.Proof.Sig
public import proofs.«01_k».proof.Proof.Gen.RefMixInIdeal.Run
public import proofs.«01_k».proof.Proof.Gen.RefMixInIdeal.Read
public import proofs.«01_k».proof.Defs

@[expose] public section

set_option maxRecDepth 16384

noncomputable section

namespace Cert.MixInEq

open Idealize.ShloMosaic Idealize.ShloMosaic.TcCoe Idealize.ShloMosaic.StableHlo Idealize.SL.Sem Cert.Rows
open Idealize.ShloMosaic.Pipeline (Dat)
open Cert.RefMixInIdeal.Read

/-! One tile: each payload on a tile of the arguments is the tile of the reference's stage. -/

section pay
open Cert.MixInIdeal Cert.MixInIdeal.Gen
variable (n : ℕ) (h : n < 32) (x0 : S16384x1024.Idx → EReal) (x1 : S1024.Idx → EReal) (x2 : S1024x7680.Idx → EReal)

theorem pay2 : (k0_pay2 (F := Ideal) (tile n h x0) (gain x1) : S512x1024.Idx → EReal) = tile n h (val_main_v19 (F := Ideal) x0 x1) := by
  funext y
  rw [tile]
  pointwise [k0_pay2, val_main_v19, val_main_v12, val_main_v11, val_main_v10, val_main_v9, val_main_v8, val_main_v7, val_main_v6, val_main_v5, val_main_v4, val_main_v3, val_main_v2, val_main_v1, val_main_v0, val_main_cst, val_main_cst_0, val_main_cst_1]
  rfl
theorem pay3 : (k0_pay3 (F := Ideal) (tile n h x0) (gain x1) (cols 0 1024 (by decide) x2) : S512x1024.Idx → EReal) = tile n h (val_main_v20 (F := Ideal) x0 x1 x2) := by
  funext y
  rw [tile]
  pointwise [k0_pay3, val_main_v20, val_main_v15, val_main_v14, val_main_v13]
  rw [pay2]
  simp only [cols, Nat.zero_add]
  rfl
theorem pay4 : (k0_pay4 (F := Ideal) (tile n h x0) (gain x1) (cols 1024 1024 (by decide) x2) : S512x1024.Idx → EReal) = tile n h (val_main_v21 (F := Ideal) x0 x1 x2) := by
  funext y
  rw [tile]
  pointwise [k0_pay4, val_main_v21, val_main_v16, val_main_v14, val_main_v13]
  rw [pay2]
  rfl
theorem pay5 : (k0_pay5 (F := Ideal) (tile n h x0) (gain x1) (cols 2048 2560 (by decide) x2) : S512x2560.Idx → EReal) = tile n h (val_main_v22 (F := Ideal) x0 x1 x2) := by
  funext y
  rw [tile]
  pointwise [k0_pay5, val_main_v22, val_main_v17, val_main_v14, val_main_v13]
  rw [pay2]
  rfl
theorem pay6 : (k0_pay1 (F := Ideal) (k0_pay2 (tile n h x0) (gain x1)) (cols 4608 3072 (by decide) x2) : S512x3072.Idx → EReal) = tile n h (val_main_v23 (F := Ideal) x0 x1 x2) := by
  funext y
  rw [tile]
  pointwise [k0_pay1, val_main_v23, val_main_v18, val_main_v14, val_main_v13]
  rw [pay2]
  rfl
end pay

section kernel
open Cert.MixInIdeal Cert.MixInIdeal.Gen Cert.MixInIdeal.Value
variable (m : (ℓ : Loc nD τ sig) → Buf (Elt Ideal) ℓ) (c : Dev nD)

/-- Argument 0. -/
abbrev A0 : S16384x1024.Idx → EReal := m ((c : Thread nD τ).loc main_arg0)
/-- Argument 1. -/
abbrev A1 : S1024.Idx → EReal := m ((c : Thread nD τ).loc main_arg1)
/-- Argument 2. -/
abbrev A2 : S1024x7680.Idx → EReal := m ((c : Thread nD τ).loc main_arg2)

theorem lt (t : Fin cfg0.N) : t.val < 32 := lt_of_lt_of_eq t.isLt N_0
theorem ix_0 : ∀ t : Fin grid0.N, win0_0.index t 0 = t.val ∧ win0_0.index t 1 = 0 := by decide +kernel
theorem ix_1 : ∀ t : Fin grid0.N, win0_1.index t 0 = 0 ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = t.val ∧ win0_6.index t 1 = 0 := by decide +kernel

theorem blk0 (t : Fin cfg0.N) : (iblk m c 0 t : S512x1024.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
theorem blk1 (t : Fin cfg0.N) : (iblk m c 1 t : S1x1024.Idx → EReal) = gain (A1 m c) := by
  funext y
  blk_simp [iblk]
  show V m c main_v4 _ = _
  unfold_abbrev_sides
  after_results
  pointwise []
  refine congrArg (fun z => A1 m c (ix1 z)) (Fin.ext ?_)
  blk_simp [ix_1 t]
theorem host0 : (V m c main_v0 : S1024x1024.Idx → EReal) = (cols 0 1024 (by decide) (A2 m c)) := by
  funext y
  unfold_abbrev_sides
  after_results
  pointwise []
  simp only [cols, Nat.zero_add]
theorem host1 : (V m c main_v1 : S1024x1024.Idx → EReal) = (cols 1024 1024 (by decide) (A2 m c)) := by
  funext y
  unfold_abbrev_sides
  after_results
  pointwise []
  rfl
theorem host2 : (V m c main_v2 : S1024x2560.Idx → EReal) = (cols 2048 2560 (by decide) (A2 m c)) := by
  funext y
  unfold_abbrev_sides
  after_results
  pointwise []
  rfl
theorem host3 : (V m c main_v3 : S1024x3072.Idx → EReal) = (cols 4608 3072 (by decide) (A2 m c)) := by
  funext y
  unfold_abbrev_sides
  after_results
  pointwise []
  rfl

/-- What a point leaves in the outputs and in the copies of the weights. -/
theorem holds : ∀ (n : ℕ) (h : n < cfg0.N), outsAt0 m c n h =
    (tile n (lt ⟨n, h⟩) (val_main_v19 (F := Ideal) (A0 m c) (A1 m c)),
      tile n (lt ⟨n, h⟩) (val_main_v20 (F := Ideal) (A0 m c) (A1 m c) (A2 m c)),
      tile n (lt ⟨n, h⟩) (val_main_v21 (F := Ideal) (A0 m c) (A1 m c) (A2 m c)),
      tile n (lt ⟨n, h⟩) (val_main_v22 (F := Ideal) (A0 m c) (A1 m c) (A2 m c)),
      tile n (lt ⟨n, h⟩) (val_main_v23 (F := Ideal) (A0 m c) (A1 m c) (A2 m c)),
      (cols 0 1024 (by decide) (A2 m c)),
      (cols 1024 1024 (by decide) (A2 m c)),
      (cols 2048 2560 (by decide) (A2 m c)),
      (cols 4608 3072 (by decide) (A2 m c)))
  | 0, h => (outsAt0_A m c ⟨0, h⟩ rfl).trans (by
    rw [outA2, outA3, outA4, outA5, outA6, soutA0, soutA1, soutA2, soutA3, blk0, blk1, host0, host1, host2, host3]
    exact congrArg₂ Prod.mk (pay2 _ _ _ _) (congrArg₂ Prod.mk (pay3 _ _ _ _ _) (congrArg₂ Prod.mk (pay4 _ _ _ _ _) (congrArg₂ Prod.mk (pay5 _ _ _ _ _) (congrArg₂ Prod.mk (pay6 _ _ _ _ _) (rfl))))))
  | n + 1, h => by
    have hN : n + 1 < 32 := lt_of_lt_of_eq h N_0
    refine (outsAt0_B m c ⟨n + 1, h⟩ (by dsimp only; omega)).trans ?_
    rw [outB2, outB3, outB4, outB5, outB6, blk0, blk1]
    have w0 : (outsAt0 m c (n + 1 - 1) (Nat.lt_of_le_of_lt (Nat.sub_le _ _) h)).2.2.2.2.2.1 = (cols 0 1024 (by decide) (A2 m c)) :=
      congrArg (·.2.2.2.2.2.1) (holds n (Nat.lt_of_succ_lt h))
    have w1 : (outsAt0 m c (n + 1 - 1) (Nat.lt_of_le_of_lt (Nat.sub_le _ _) h)).2.2.2.2.2.2.1 = (cols 1024 1024 (by decide) (A2 m c)) :=
      congrArg (·.2.2.2.2.2.2.1) (holds n (Nat.lt_of_succ_lt h))
    have w2 : (outsAt0 m c (n + 1 - 1) (Nat.lt_of_le_of_lt (Nat.sub_le _ _) h)).2.2.2.2.2.2.2.1 = (cols 2048 2560 (by decide) (A2 m c)) :=
      congrArg (·.2.2.2.2.2.2.2.1) (holds n (Nat.lt_of_succ_lt h))
    have w3 : (outsAt0 m c (n + 1 - 1) (Nat.lt_of_le_of_lt (Nat.sub_le _ _) h)).2.2.2.2.2.2.2.2 = (cols 4608 3072 (by decide) (A2 m c)) :=
      congrArg (·.2.2.2.2.2.2.2.2) (holds n (Nat.lt_of_succ_lt h))
    rw [w0, w1, w2, w3]
    exact congrArg₂ Prod.mk (pay2 _ _ _ _) (congrArg₂ Prod.mk (pay3 _ _ _ _ _) (congrArg₂ Prod.mk (pay4 _ _ _ _ _) (congrArg₂ Prod.mk (pay5 _ _ _ _ _) (congrArg₂ Prod.mk (pay6 _ _ _ _ _) (rfl)))))

/-- The result of window 2 is the reference's. -/
theorem arr2 : (dats m 0 c).arrAt 2 cfg0.N = val_main_v19 (F := Ideal) (A0 m c) (A1 m c) := by
  refine (dats m 0 c).arrAt_eq_of_covers 2 _ (by decide +kernel) fun t hf y => ?_
  blk_simp
  rw [after0_2, holds]
  refine (tile_of t.val (lt t) (val_main_v19 (F := Ideal) (A0 m c) (A1 m c)) y _ ?_ ?_).symm <;> blk_simp [ix_2 t] <;> simp only [Nat.zero_mul, Nat.zero_add, Nat.mul_comm _ 512]
/-- The result of window 3 is the reference's. -/
theorem arr3 : (dats m 0 c).arrAt 3 cfg0.N = val_main_v20 (F := Ideal) (A0 m c) (A1 m c) (A2 m c) := by
  refine (dats m 0 c).arrAt_eq_of_covers 3 _ (by decide +kernel) fun t hf y => ?_
  blk_simp
  rw [after0_3, holds]
  refine (tile_of t.val (lt t) (val_main_v20 (F := Ideal) (A0 m c) (A1 m c) (A2 m c)) y _ ?_ ?_).symm <;> blk_simp [ix_3 t] <;> simp only [Nat.zero_mul, Nat.zero_add, Nat.mul_comm _ 512]
/-- The result of window 4 is the reference's. -/
theorem arr4 : (dats m 0 c).arrAt 4 cfg0.N = val_main_v21 (F := Ideal) (A0 m c) (A1 m c) (A2 m c) := by
  refine (dats m 0 c).arrAt_eq_of_covers 4 _ (by decide +kernel) fun t hf y => ?_
  blk_simp
  rw [after0_4, holds]
  refine (tile_of t.val (lt t) (val_main_v21 (F := Ideal) (A0 m c) (A1 m c) (A2 m c)) y _ ?_ ?_).symm <;> blk_simp [ix_4 t] <;> simp only [Nat.zero_mul, Nat.zero_add, Nat.mul_comm _ 512]
/-- The result of window 5 is the reference's. -/
theorem arr5 : (dats m 0 c).arrAt 5 cfg0.N = val_main_v22 (F := Ideal) (A0 m c) (A1 m c) (A2 m c) := by
  refine (dats m 0 c).arrAt_eq_of_covers 5 _ (by decide +kernel) fun t hf y => ?_
  blk_simp
  rw [after0_5, holds]
  refine (tile_of t.val (lt t) (val_main_v22 (F := Ideal) (A0 m c) (A1 m c) (A2 m c)) y _ ?_ ?_).symm <;> blk_simp [ix_5 t] <;> simp only [Nat.zero_mul, Nat.zero_add, Nat.mul_comm _ 512]
/-- The result of window 6 is the reference's. -/
theorem arr6 : (dats m 0 c).arrAt 6 cfg0.N = val_main_v23 (F := Ideal) (A0 m c) (A1 m c) (A2 m c) := by
  refine (dats m 0 c).arrAt_eq_of_covers 6 _ (by decide +kernel) fun t hf y => ?_
  blk_simp
  rw [after0_6, holds]
  refine (tile_of t.val (lt t) (val_main_v23 (F := Ideal) (A0 m c) (A1 m c) (A2 m c)) y _ ?_ ?_).symm <;> blk_simp [ix_6 t] <;> simp only [Nat.zero_mul, Nat.zero_add, Nat.mul_comm _ 512]
end kernel

section claims
open Cert.MixInIdeal

theorem algebraic : Cert.algebraic_MixInIdeal_RefMixInIdeal (hMixInIdeal := Cert.MixInIdeal.Gen.facts) (hRefMixInIdeal := Cert.RefMixInIdeal.Gen.facts) := by
  intro m ρ m' ρ' _ hag
  refine ⟨fun c => val_main_v19 (F := Ideal) (A0 m c) (A1 m c), fun c => val_main_v20 (F := Ideal) (A0 m c) (A1 m c) (A2 m c), fun c => val_main_v21 (F := Ideal) (A0 m c) (A1 m c) (A2 m c), fun c => val_main_v22 (F := Ideal) (A0 m c) (A1 m c) (A2 m c), fun c => val_main_v23 (F := Ideal) (A0 m c) (A1 m c) (A2 m c), ?_, ?_⟩
  · refine (θ_run Cert.MixInIdeal.defs _ _).mono (fun r h c => ?_) (Cert.MixInIdeal.Value.run_blocks m ρ)
    obtain ⟨k0, k1, k2, k3, k4, hk⟩ := h c
    exact ⟨k0.trans (arr2 m c), k1.trans (arr3 m c), k2.trans (arr4 m c), k3.trans (arr5 m c), k4.trans (arr6 m c), hk⟩
  · refine (θ_run Cert.RefMixInIdeal.defs _ _).mono (fun r h c => ?_) (Cert.RefMixInIdeal.Value.run (F := Ideal) m' ρ')
    obtain ⟨k0, k1, k2, k3, k4, hk⟩ := h c
    obtain ⟨a0, a1, a2⟩ := hag c
    exact ⟨k0.trans ((val_main_v19_eq (F := Ideal) _ _).trans (by rw [a0, a1])),
      k1.trans ((val_main_v20_eq (F := Ideal) _ _ _).trans (by rw [a0, a1, a2])),
      k2.trans ((val_main_v21_eq (F := Ideal) _ _ _).trans (by rw [a0, a1, a2])),
      k3.trans ((val_main_v22_eq (F := Ideal) _ _ _).trans (by rw [a0, a1, a2])),
      k4.trans ((val_main_v23_eq (F := Ideal) _ _ _).trans (by rw [a0, a1, a2])), hk⟩
end claims

/-- The reference leaves its arguments as they were, and no counter behind. -/
theorem frame_reference : Cert.quiescent_RefMixInIdeal (hRefMixInIdeal := Cert.RefMixInIdeal.Gen.facts) := fun m ρ _ =>
  (θ_run Cert.RefMixInIdeal.defs _ _).mono (fun r h => ⟨fun c => (h c).2.2.2.2.2,
      Idealize.ShloMosaic.sem_eq_zero_of_no_sems (by decide) r.2⟩)
    (Cert.RefMixInIdeal.Value.run (F := Ideal) m ρ)

end Cert.MixInEq

end
-- ==== Proof.MixProjOut.lean ====
/- What each case of the body leaves in each output block: the three branch products of the mixer and their gated merge. -/
module

public import proofs.«01_k».proof.Proof.Rows
public import proofs.«01_k».proof.Proof.Gen.MixProjIdeal.Value

@[expose] public section

set_option maxRecDepth 16384

noncomputable section

namespace Cert.MixProjEq

open Idealize.ShloMosaic Idealize.ShloMosaic.TcCoe Idealize.ShloMosaic.StableHlo Idealize.SL.Sem Cert.Rows
open Idealize.ShloMosaic.Pipeline (Dat)
open Cert.MixProjIdeal Cert.MixProjIdeal.Gen Cert.MixProjIdeal.Value

section
variable (c : Dev nD) (i : grid0.Coords)
  (a1 : Memref sig .tc .vmem S512x1024 .bf16) (h1 : a1.IsWhole)
  (a2 : Memref sig .tc .vmem S512x512 .bf16) (h2 : a2.IsWhole)
  (a3 : Memref sig .tc .vmem S512x512 .bf16) (h3 : a3.IsWhole)
  (a4 : Memref sig .tc .vmem S512x3072 .bf16) (h4 : a4.IsWhole)
  (a8 : Memref sig .tc .vmem S512x1024 .bf16) (h8 : a8.IsWhole)
  (a9 : Memref sig .tc .vmem S512x1024 .bf16) (h9 : a9.IsWhole)
  (a10 : Memref sig .tc .vmem S512x1024 .bf16) (h10 : a10.IsWhole)
  (a11 : Memref sig .tc .vmem S512x1024 .bf16) (h11 : a11.IsWhole)
  (a12 : Memref sig .tc .vmem S1024x1024 .bf16) (h12 : a12.IsWhole)
  (a13 : Memref sig .tc .vmem S512x1024 .bf16) (h13 : a13.IsWhole)
  (a14 : Memref sig .tc .vmem S512x1024 .bf16) (h14 : a14.IsWhole)
  (x0 : Vec Ideal S512x1024 .bf16)
  (x1 : Vec Ideal S512x512 .bf16)
  (x2 : Vec Ideal S512x512 .bf16)
  (x3 : Vec Ideal S512x3072 .bf16)
  (fh0 : HbBuf0 (F := Ideal) c hbM0_0)
  (fh1 : HbBuf0 (F := Ideal) c hbM0_1)
  (fh2 : HbBuf0 (F := Ideal) c hbM0_2)
  (xs0 : Vec Ideal S1024x1024 .bf16)
  (xs1 : Vec Ideal S512x1024 .bf16)
  (xs2 : Vec Ideal S512x1024 .bf16)
theorem outA4 (hc : cond0_0 i) : out0_A_4 c i a1 h1 a2 h2 a3 h3 a4 h4 a8 h8 a9 h9 a10 h10 a11 h11 a12 h12 a13 h13 a14 h14 hc x0 x1 x2 x3 fh0 fh1 fh2 = k0_pay7 x0 (fh0) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA5 (hc : cond0_0 i) : out0_A_5 c i a1 h1 a2 h2 a3 h3 a4 h4 a8 h8 a9 h9 a10 h10 a11 h11 a12 h12 a13 h13 a14 h14 hc x0 x1 x2 x3 fh0 fh1 fh2 = k0_pay8 x1 (fh1) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA6 (hc : cond0_0 i) : out0_A_6 c i a1 h1 a2 h2 a3 h3 a4 h4 a8 h8 a9 h9 a10 h10 a11 h11 a12 h12 a13 h13 a14 h14 hc x0 x1 x2 x3 fh0 fh1 fh2 = k0_pay1 (k0_pay5 x2 (fh2)) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA7 (hc : cond0_0 i) : out0_A_7 c i a1 h1 a2 h2 a3 h3 a4 h4 a8 h8 a9 h9 a10 h10 a11 h11 a12 h12 a13 h13 a14 h14 hc x0 x1 x2 x3 fh0 fh1 fh2 = k0_pay2 (k0_pay5 x2 (fh2)) (k0_pay6 x3) (k0_pay9 x0 (fh0) x1 (fh1) x3) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB4 (hc : ¬cond0_0 i) : out0_B_4 c i a1 h1 a2 h2 a3 h3 a4 h4 a8 h8 a9 h9 a10 h10 a11 h11 a12 h12 a13 h13 a14 h14 hc x0 x1 x2 x3 xs0 xs1 xs2 fh0 fh1 fh2 = k0_pay7 x0 xs0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB5 (hc : ¬cond0_0 i) : out0_B_5 c i a1 h1 a2 h2 a3 h3 a4 h4 a8 h8 a9 h9 a10 h10 a11 h11 a12 h12 a13 h13 a14 h14 hc x0 x1 x2 x3 xs0 xs1 xs2 fh0 fh1 fh2 = k0_pay8 x1 xs1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB6 (hc : ¬cond0_0 i) : out0_B_6 c i a1 h1 a2 h2 a3 h3 a4 h4 a8 h8 a9 h9 a10 h10 a11 h11 a12 h12 a13 h13 a14 h14 hc x0 x1 x2 x3 xs0 xs1 xs2 fh0 fh1 fh2 = k0_pay1 (k0_pay5 x2 xs2) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB7 (hc : ¬cond0_0 i) : out0_B_7 c i a1 h1 a2 h2 a3 h3 a4 h4 a8 h8 a9 h9 a10 h10 a11 h11 a12 h12 a13 h13 a14 h14 hc x0 x1 x2 x3 xs0 xs1 xs2 fh0 fh1 fh2 = k0_pay2 (k0_pay5 x2 xs2) (k0_pay6 x3) (k0_pay9 x0 xs0 x1 xs1 x3) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA0 (hc : cond0_0 i) : sout0_A_0 c i a1 h1 a2 h2 a3 h3 a4 h4 a8 h8 a9 h9 a10 h10 a11 h11 a12 h12 a13 h13 a14 h14 hc x0 x1 x2 x3 fh0 fh1 fh2 = fh0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA1 (hc : cond0_0 i) : sout0_A_1 c i a1 h1 a2 h2 a3 h3 a4 h4 a8 h8 a9 h9 a10 h10 a11 h11 a12 h12 a13 h13 a14 h14 hc x0 x1 x2 x3 fh0 fh1 fh2 = fh1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA2 (hc : cond0_0 i) : sout0_A_2 c i a1 h1 a2 h2 a3 h3 a4 h4 a8 h8 a9 h9 a10 h10 a11 h11 a12 h12 a13 h13 a14 h14 hc x0 x1 x2 x3 fh0 fh1 fh2 = fh2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
end

end Cert.MixProjEq

end
-- ==== Proof.MixProjEq.lean ====
/- The three branch products of the mixer and their gated merge: what the kernel leaves tile by tile is what the reference computes. -/
module

public import proofs.«01_k».proof.Proof.MixProjOut
public import proofs.«01_k».proof.Proof.Sig
public import proofs.«01_k».proof.Proof.Gen.RefMixProjIdeal.Run
public import proofs.«01_k».proof.Proof.Gen.RefMixProjIdeal.Read
public import proofs.«01_k».proof.Defs

@[expose] public section

set_option maxRecDepth 16384

noncomputable section

namespace Cert.MixProjEq

open Idealize.ShloMosaic Idealize.ShloMosaic.TcCoe Idealize.ShloMosaic.StableHlo Idealize.SL.Sem Cert.Rows
open Idealize.ShloMosaic.Pipeline (Dat)
open Cert.RefMixProjIdeal.Read

/-! One tile: each payload on a tile of the arguments is the tile of the reference's stage. -/

section pay
open Cert.MixProjIdeal Cert.MixProjIdeal.Gen
variable (n : ℕ) (h : n < 32) (x0 : S16384x1024.Idx → EReal) (x1 : S16384x512.Idx → EReal) (x2 : S16384x512.Idx → EReal) (x3 : S16384x3072.Idx → EReal) (x4 : S1024x1024.Idx → EReal) (x5 : S512x1024.Idx → EReal) (x6 : S512x1024.Idx → EReal)

theorem pay3 : (k0_pay3 (F := Ideal) (tile n h x0) x4 : S512x1024.Idx → EReal) = tile n h (val_main_v7 (F := Ideal) x0 x4) := by
  funext y
  rw [tile]
  pointwise [k0_pay3, val_main_v7, val_main_v4, val_main_v0]
  rfl
theorem pay4 : (k0_pay4 (F := Ideal) (tile n h x1) x5 : S512x1024.Idx → EReal) = tile n h (val_main_v8 (F := Ideal) x1 x5) := by
  funext y
  rw [tile]
  pointwise [k0_pay4, val_main_v8, val_main_v5, val_main_v1]
  rfl
theorem pay5 : (k0_pay5 (F := Ideal) (tile n h x2) x6 : S512x1024.Idx → EReal) = tile n h (val_main_v9 (F := Ideal) x2 x6) := by
  funext y
  rw [tile]
  pointwise [k0_pay5, val_main_v9, val_main_v6, val_main_v2]
  rfl
theorem pay6 : (k0_pay6 (F := Ideal) (tile n h x3) : S512x3072.Idx → EReal) = tile n h (val_main_v15 (F := Ideal) x3) := by
  funext y
  rw [tile]
  pointwise [k0_pay6, val_main_v15, val_main_v14, val_main_v13, val_main_v12, val_main_v11, val_main_v10, val_main_v3, val_main_cst, val_main_cst_0]
  rw [half_word, sigmoid_eq]
  rfl
theorem pay7 : (k0_pay7 (F := Ideal) (tile n h x0) x4 : S512x1024.Idx → EReal) = tile n h (val_main_v28 (F := Ideal) x0 x4) := by
  funext y
  rw [tile]
  pointwise [k0_pay7, val_main_v28]
  rw [pay3]
  rfl
theorem pay8 : (k0_pay8 (F := Ideal) (tile n h x1) x5 : S512x1024.Idx → EReal) = tile n h (val_main_v29 (F := Ideal) x1 x5) := by
  funext y
  rw [tile]
  pointwise [k0_pay8, val_main_v29]
  rw [pay4]
  rfl
theorem pay1 : (k0_pay1 (F := Ideal) (k0_pay5 (tile n h x2) x6) : S512x1024.Idx → EReal) = tile n h (val_main_v30 (F := Ideal) x2 x6) := by
  funext y
  rw [tile]
  pointwise [k0_pay1, val_main_v30]
  rw [pay5]
  rfl
theorem pay2 : (k0_pay2 (F := Ideal) (k0_pay5 (tile n h x2) x6) (k0_pay6 (tile n h x3)) (k0_pay9 (tile n h x0) x4 (tile n h x1) x5 (tile n h x3)) : S512x1024.Idx → EReal) = tile n h (val_main_v31 (F := Ideal) x0 x1 x2 x3 x4 x5 x6) := by
  funext y
  rw [tile]
  pointwise [k0_pay2, k0_pay9, val_main_v31, val_main_v27, val_main_v26, val_main_v25, val_main_v24, val_main_v23, val_main_v22, val_main_v21, val_main_v20, val_main_v19, val_main_v18, val_main_v17, val_main_v16]
  rw [pay3, pay4, pay5, pay6]
  rfl
end pay

section kernel
open Cert.MixProjIdeal Cert.MixProjIdeal.Gen Cert.MixProjIdeal.Value
variable (m : (ℓ : Loc nD τ sig) → Buf (Elt Ideal) ℓ) (c : Dev nD)

/-- Argument 0. -/
abbrev A0 : S16384x1024.Idx → EReal := m ((c : Thread nD τ).loc main_arg0)
/-- Argument 1. -/
abbrev A1 : S16384x512.Idx → EReal := m ((c : Thread nD τ).loc main_arg1)
/-- Argument 2. -/
abbrev A2 : S16384x512.Idx → EReal := m ((c : Thread nD τ).loc main_arg2)
/-- Argument 3. -/
abbrev A3 : S16384x3072.Idx → EReal := m ((c : Thread nD τ).loc main_arg3)
/-- Argument 4. -/
abbrev A4 : S1024x1024.Idx → EReal := m ((c : Thread nD τ).loc main_arg4)
/-- Argument 5. -/
abbrev A5 : S512x1024.Idx → EReal := m ((c : Thread nD τ).loc main_arg5)
/-- Argument 6. -/
abbrev A6 : S512x1024.Idx → EReal := m ((c : Thread nD τ).loc main_arg6)

theorem lt (t : Fin cfg0.N) : t.val < 32 := lt_of_lt_of_eq t.isLt N_0
theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = t.val ∧ win0_6.index t 1 = 0 := by decide +kernel
theorem ix_7 : ∀ t : Fin grid0.N, win0_7.index t 0 = t.val ∧ win0_7.index t 1 = 0 := by decide +kernel

theorem blk0 (t : Fin cfg0.N) : (iblk m c 0 t : S512x1024.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
theorem blk1 (t : Fin cfg0.N) : (iblk m c 1 t : S512x512.Idx → EReal) = tile t.val (lt t) (A1 m c) := by
  funext y
  blk_simp [iblk]
  rw [V_main_arg1]
  refine tile_of _ _ _ _ _ ?_ ?_ <;> blk_simp [ix_1 t] <;> simp only [Nat.zero_mul, Nat.zero_add, Nat.mul_comm _ 512]
theorem blk2 (t : Fin cfg0.N) : (iblk m c 2 t : S512x512.Idx → EReal) = tile t.val (lt t) (A2 m c) := by
  funext y
  blk_simp [iblk]
  rw [V_main_arg2]
  refine tile_of _ _ _ _ _ ?_ ?_ <;> blk_simp [ix_2 t] <;> simp only [Nat.zero_mul, Nat.zero_add, Nat.mul_comm _ 512]
theorem blk3 (t : Fin cfg0.N) : (iblk m c 3 t : S512x3072.Idx → EReal) = tile t.val (lt t) (A3 m c) := by
  funext y
  blk_simp [iblk]
  rw [V_main_arg3]
  refine tile_of _ _ _ _ _ ?_ ?_ <;> blk_simp [ix_3 t] <;> simp only [Nat.zero_mul, Nat.zero_add, Nat.mul_comm _ 512]

/-- What a point leaves in the outputs and in the copies of the weights. -/
theorem holds : ∀ (n : ℕ) (h : n < cfg0.N), outsAt0 m c n h =
    (tile n (lt ⟨n, h⟩) (val_main_v28 (F := Ideal) (A0 m c) (A4 m c)),
      tile n (lt ⟨n, h⟩) (val_main_v29 (F := Ideal) (A1 m c) (A5 m c)),
      tile n (lt ⟨n, h⟩) (val_main_v30 (F := Ideal) (A2 m c) (A6 m c)),
      tile n (lt ⟨n, h⟩) (val_main_v31 (F := Ideal) (A0 m c) (A1 m c) (A2 m c) (A3 m c) (A4 m c) (A5 m c) (A6 m c)),
      (A4 m c),
      (A5 m c),
      (A6 m c))
  | 0, h => (outsAt0_A m c ⟨0, h⟩ rfl).trans (by
    rw [outA4, outA5, outA6, outA7, soutA0, soutA1, soutA2, blk0, blk1, blk2, blk3, V_main_arg4, V_main_arg5, V_main_arg6]
    exact congrArg₂ Prod.mk (pay7 _ _ _ _) (congrArg₂ Prod.mk (pay8 _ _ _ _) (congrArg₂ Prod.mk (pay1 _ _ _ _) (congrArg₂ Prod.mk (pay2 _ _ _ _ _ _ _ _ _) (rfl)))))
  | n + 1, h => by
    have hN : n + 1 < 32 := lt_of_lt_of_eq h N_0
    refine (outsAt0_B m c ⟨n + 1, h⟩ (by dsimp only; omega)).trans ?_
    rw [outB4, outB5, outB6, outB7, blk0, blk1, blk2, blk3]
    have w0 : (outsAt0 m c (n + 1 - 1) (Nat.lt_of_le_of_lt (Nat.sub_le _ _) h)).2.2.2.2.1 = (A4 m c) :=
      congrArg (·.2.2.2.2.1) (holds n (Nat.lt_of_succ_lt h))
    have w1 : (outsAt0 m c (n + 1 - 1) (Nat.lt_of_le_of_lt (Nat.sub_le _ _) h)).2.2.2.2.2.1 = (A5 m c) :=
      congrArg (·.2.2.2.2.2.1) (holds n (Nat.lt_of_succ_lt h))
    have w2 : (outsAt0 m c (n + 1 - 1) (Nat.lt_of_le_of_lt (Nat.sub_le _ _) h)).2.2.2.2.2.2 = (A6 m c) :=
      congrArg (·.2.2.2.2.2.2) (holds n (Nat.lt_of_succ_lt h))
    rw [w0, w1, w2]
    exact congrArg₂ Prod.mk (pay7 _ _ _ _) (congrArg₂ Prod.mk (pay8 _ _ _ _) (congrArg₂ Prod.mk (pay1 _ _ _ _) (congrArg₂ Prod.mk (pay2 _ _ _ _ _ _ _ _ _) (rfl))))

/-- The result of window 4 is the reference's. -/
theorem arr4 : (dats m 0 c).arrAt 4 cfg0.N = val_main_v28 (F := Ideal) (A0 m c) (A4 m c) := by
  refine (dats m 0 c).arrAt_eq_of_covers 4 _ (by decide +kernel) fun t hf y => ?_
  blk_simp
  rw [after0_4, holds]
  refine (tile_of t.val (lt t) (val_main_v28 (F := Ideal) (A0 m c) (A4 m c)) y _ ?_ ?_).symm <;> blk_simp [ix_4 t] <;> simp only [Nat.zero_mul, Nat.zero_add, Nat.mul_comm _ 512]
/-- The result of window 5 is the reference's. -/
theorem arr5 : (dats m 0 c).arrAt 5 cfg0.N = val_main_v29 (F := Ideal) (A1 m c) (A5 m c) := by
  refine (dats m 0 c).arrAt_eq_of_covers 5 _ (by decide +kernel) fun t hf y => ?_
  blk_simp
  rw [after0_5, holds]
  refine (tile_of t.val (lt t) (val_main_v29 (F := Ideal) (A1 m c) (A5 m c)) y _ ?_ ?_).symm <;> blk_simp [ix_5 t] <;> simp only [Nat.zero_mul, Nat.zero_add, Nat.mul_comm _ 512]
/-- The result of window 6 is the reference's. -/
theorem arr6 : (dats m 0 c).arrAt 6 cfg0.N = val_main_v30 (F := Ideal) (A2 m c) (A6 m c) := by
  refine (dats m 0 c).arrAt_eq_of_covers 6 _ (by decide +kernel) fun t hf y => ?_
  blk_simp
  rw [after0_6, holds]
  refine (tile_of t.val (lt t) (val_main_v30 (F := Ideal) (A2 m c) (A6 m c)) y _ ?_ ?_).symm <;> blk_simp [ix_6 t] <;> simp only [Nat.zero_mul, Nat.zero_add, Nat.mul_comm _ 512]
/-- The result of window 7 is the reference's. -/
theorem arr7 : (dats m 0 c).arrAt 7 cfg0.N = val_main_v31 (F := Ideal) (A0 m c) (A1 m c) (A2 m c) (A3 m c) (A4 m c) (A5 m c) (A6 m c) := by
  refine (dats m 0 c).arrAt_eq_of_covers 7 _ (by decide +kernel) fun t hf y => ?_
  blk_simp
  rw [after0_7, holds]
  refine (tile_of t.val (lt t) (val_main_v31 (F := Ideal) (A0 m c) (A1 m c) (A2 m c) (A3 m c) (A4 m c) (A5 m c) (A6 m c)) y _ ?_ ?_).symm <;> blk_simp [ix_7 t] <;> simp only [Nat.zero_mul, Nat.zero_add, Nat.mul_comm _ 512]
end kernel

section claims
open Cert.MixProjIdeal

theorem algebraic : Cert.algebraic_MixProjIdeal_RefMixProjIdeal (hMixProjIdeal := Cert.MixProjIdeal.Gen.facts) (hRefMixProjIdeal := Cert.RefMixProjIdeal.Gen.facts) := by
  intro m ρ m' ρ' _ hag
  refine ⟨fun c => val_main_v28 (F := Ideal) (A0 m c) (A4 m c), fun c => val_main_v29 (F := Ideal) (A1 m c) (A5 m c), fun c => val_main_v30 (F := Ideal) (A2 m c) (A6 m c), fun c => val_main_v31 (F := Ideal) (A0 m c) (A1 m c) (A2 m c) (A3 m c) (A4 m c) (A5 m c) (A6 m c), ?_, ?_⟩
  · refine (θ_run Cert.MixProjIdeal.defs _ _).mono (fun r h c => ?_) (Cert.MixProjIdeal.Value.run_blocks m ρ)
    obtain ⟨k0, k1, k2, k3, hk⟩ := h c
    exact ⟨k0.trans (arr4 m c), k1.trans (arr5 m c), k2.trans (arr6 m c), k3.trans (arr7 m c), hk⟩
  · refine (θ_run Cert.RefMixProjIdeal.defs _ _).mono (fun r h c => ?_) (Cert.RefMixProjIdeal.Value.run (F := Ideal) m' ρ')
    obtain ⟨k0, k1, k2, k3, hk⟩ := h c
    obtain ⟨a0, a1, a2, a3, a4, a5, a6⟩ := hag c
    exact ⟨k0.trans ((val_main_v28_eq (F := Ideal) _ _).trans (by rw [a0, a4])),
      k1.trans ((val_main_v29_eq (F := Ideal) _ _).trans (by rw [a1, a5])),
      k2.trans ((val_main_v30_eq (F := Ideal) _ _).trans (by rw [a2, a6])),
      k3.trans ((val_main_v31_eq (F := Ideal) _ _ _ _ _ _ _).trans (by rw [a0, a1, a2, a3, a4, a5, a6])), hk⟩
end claims

/-- The reference leaves its arguments as they were, and no counter behind. -/
theorem frame_reference : Cert.quiescent_RefMixProjIdeal (hRefMixProjIdeal := Cert.RefMixProjIdeal.Gen.facts) := fun m ρ _ =>
  (θ_run Cert.RefMixProjIdeal.defs _ _).mono (fun r h => ⟨fun c => (h c).2.2.2.2,
      Idealize.ShloMosaic.sem_eq_zero_of_no_sems (by decide) r.2⟩)
    (Cert.RefMixProjIdeal.Value.run (F := Ideal) m ρ)

end Cert.MixProjEq

end
-- ==== Proof.MixOutOut.lean ====
/- What each case of the body leaves in each output block: the output product of the mixer, its norm and its residual. -/
module

public import proofs.«01_k».proof.Proof.Rows
public import proofs.«01_k».proof.Proof.Gen.MixOutIdeal.Value

@[expose] public section

set_option maxRecDepth 16384

noncomputable section

namespace Cert.MixOutEq

open Idealize.ShloMosaic Idealize.ShloMosaic.TcCoe Idealize.ShloMosaic.StableHlo Idealize.SL.Sem Cert.Rows
open Idealize.ShloMosaic.Pipeline (Dat)
open Cert.MixOutIdeal Cert.MixOutIdeal.Gen Cert.MixOutIdeal.Value

section
variable (c : Dev nD) (i : grid0.Coords)
  (a1 : Memref sig .tc .vmem S512x1024 .bf16) (h1 : a1.IsWhole)
  (a2 : Memref sig .tc .vmem S512x1024 .f32) (h2 : a2.IsWhole)
  (a3 : Memref sig .tc .vmem S1x1024 .f32) (h3 : a3.IsWhole)
  (a5 : Memref sig .tc .vmem S512x1024 .f32) (h5 : a5.IsWhole)
  (a6 : Memref sig .tc .vmem S512x1024 .f32) (h6 : a6.IsWhole)
  (a7 : Memref sig .tc .vmem S1024x1024 .bf16) (h7 : a7.IsWhole)
  (x0 : Vec Ideal S512x1024 .bf16)
  (x1 : Vec Ideal S512x1024 .f32)
  (x2 : Vec Ideal S1x1024 .f32)
  (fh0 : HbBuf0 (F := Ideal) c hbM0_0)
  (xs0 : Vec Ideal S1024x1024 .bf16)
theorem outA3 (hc : cond0_0 i) : out0_A_3 c i a1 h1 a2 h2 a3 h3 a5 h5 a6 h6 a7 h7 hc x0 x1 x2 fh0 = k0_pay1 x0 (fh0) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA4 (hc : cond0_0 i) : out0_A_4 c i a1 h1 a2 h2 a3 h3 a5 h5 a6 h6 a7 h7 hc x0 x1 x2 fh0 = k0_pay2 x0 (fh0) x1 x2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB3 (hc : ¬cond0_0 i) : out0_B_3 c i a1 h1 a2 h2 a3 h3 a5 h5 a6 h6 a7 h7 hc x0 x1 x2 xs0 fh0 = k0_pay1 x0 xs0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB4 (hc : ¬cond0_0 i) : out0_B_4 c i a1 h1 a2 h2 a3 h3 a5 h5 a6 h6 a7 h7 hc x0 x1 x2 xs0 fh0 = k0_pay2 x0 xs0 x1 x2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA0 (hc : cond0_0 i) : sout0_A_0 c i a1 h1 a2 h2 a3 h3 a5 h5 a6 h6 a7 h7 hc x0 x1 x2 fh0 = fh0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
end

end Cert.MixOutEq

end
-- ==== Proof.MixOutEq.lean ====
/- The output product of the mixer, its norm and its residual: what the kernel leaves tile by tile is what the reference computes. -/
module

public import proofs.«01_k».proof.Proof.MixOutOut
public import proofs.«01_k».proof.Proof.Sig
public import proofs.«01_k».proof.Proof.Gen.RefMixOutIdeal.Run
public import proofs.«01_k».proof.Proof.Gen.RefMixOutIdeal.Read
public import proofs.«01_k».proof.Defs

@[expose] public section

set_option maxRecDepth 16384

noncomputable section

namespace Cert.MixOutEq

open Idealize.ShloMosaic Idealize.ShloMosaic.TcCoe Idealize.ShloMosaic.StableHlo Idealize.SL.Sem Cert.Rows
open Idealize.ShloMosaic.Pipeline (Dat)
open Cert.RefMixOutIdeal.Read

/-! One tile: each payload on a tile of the arguments is the tile of the reference's stage. -/

section pay
open Cert.MixOutIdeal Cert.MixOutIdeal.Gen
variable (n : ℕ) (h : n < 32) (x0 : S16384x1024.Idx → EReal) (x1 : S16384x1024.Idx → EReal) (x2 : S1024.Idx → EReal) (x3 : S1024x1024.Idx → EReal)

theorem pay1 : (k0_pay1 (F := Ideal) (tile n h x0) x3 : S512x1024.Idx → EReal) = tile n h (val_main_v2 (F := Ideal) x0 x3) := by
  funext y
  rw [tile]
  pointwise [k0_pay1, val_main_v2, val_main_v1, val_main_v0]
  rfl
theorem pay2 : (k0_pay2 (F := Ideal) (tile n h x0) x3 (tile n h x1) (gain x2) : S512x1024.Idx → EReal) = tile n h (val_main_v16 (F := Ideal) x0 x1 x2 x3) := by
  funext y
  rw [tile]
  pointwise [k0_pay2, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rw [pay1]
  rfl
end pay

section kernel
open Cert.MixOutIdeal Cert.MixOutIdeal.Gen Cert.MixOutIdeal.Value
variable (m : (ℓ : Loc nD τ sig) → Buf (Elt Ideal) ℓ) (c : Dev nD)

/-- Argument 0. -/
abbrev A0 : S16384x1024.Idx → EReal := m ((c : Thread nD τ).loc main_arg0)
/-- Argument 1. -/
abbrev A1 : S16384x1024.Idx → EReal := m ((c : Thread nD τ).loc main_arg1)
/-- Argument 2. -/
abbrev A2 : S1024.Idx → EReal := m ((c : Thread nD τ).loc main_arg2)
/-- Argument 3. -/
abbrev A3 : S1024x1024.Idx → EReal := m ((c : Thread nD τ).loc main_arg3)

theorem lt (t : Fin cfg0.N) : t.val < 32 := lt_of_lt_of_eq t.isLt N_0
theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel
theorem ix_2 : ∀ t : Fin grid0.N, win0_2.index t 0 = 0 ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel

theorem blk0 (t : Fin cfg0.N) : (iblk m c 0 t : S512x1024.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
theorem blk1 (t : Fin cfg0.N) : (iblk m c 1 t : S512x1024.Idx → EReal) = tile t.val (lt t) (A1 m c) := by
  funext y
  blk_simp [iblk]
  rw [V_main_arg1]
  refine tile_of _ _ _ _ _ ?_ ?_ <;> blk_simp [ix_1 t] <;> simp only [Nat.zero_mul, Nat.zero_add, Nat.mul_comm _ 512]
theorem blk2 (t : Fin cfg0.N) : (iblk m c 2 t : S1x1024.Idx → EReal) = gain (A2 m c) := by
  funext y
  blk_simp [iblk]
  show V m c main_v0 _ = _
  unfold_abbrev_sides
  after_results
  pointwise []
  refine congrArg (fun z => A2 m c (ix1 z)) (Fin.ext ?_)
  blk_simp [ix_2 t]

/-- What a point leaves in the outputs and in the copies of the weights. -/
theorem holds : ∀ (n : ℕ) (h : n < cfg0.N), outsAt0 m c n h =
    (tile n (lt ⟨n, h⟩) (val_main_v2 (F := Ideal) (A0 m c) (A3 m c)),
      tile n (lt ⟨n, h⟩) (val_main_v16 (F := Ideal) (A0 m c) (A1 m c) (A2 m c) (A3 m c)),
      (A3 m c))
  | 0, h => (outsAt0_A m c ⟨0, h⟩ rfl).trans (by
    rw [outA3, outA4, soutA0, blk0, blk1, blk2, V_main_arg3]
    exact congrArg₂ Prod.mk (pay1 _ _ _ _) (congrArg₂ Prod.mk (pay2 _ _ _ _ _ _) (rfl)))
  | n + 1, h => by
    have hN : n + 1 < 32 := lt_of_lt_of_eq h N_0
    refine (outsAt0_B m c ⟨n + 1, h⟩ (by dsimp only; omega)).trans ?_
    rw [outB3, outB4, blk0, blk1, blk2]
    have w0 : (outsAt0 m c (n + 1 - 1) (Nat.lt_of_le_of_lt (Nat.sub_le _ _) h)).2.2 = (A3 m c) :=
      congrArg (·.2.2) (holds n (Nat.lt_of_succ_lt h))
    rw [w0]
    exact congrArg₂ Prod.mk (pay1 _ _ _ _) (congrArg₂ Prod.mk (pay2 _ _ _ _ _ _) (rfl))

/-- The result of window 3 is the reference's. -/
theorem arr3 : (dats m 0 c).arrAt 3 cfg0.N = val_main_v2 (F := Ideal) (A0 m c) (A3 m c) := by
  refine (dats m 0 c).arrAt_eq_of_covers 3 _ (by decide +kernel) fun t hf y => ?_
  blk_simp
  rw [after0_3, holds]
  refine (tile_of t.val (lt t) (val_main_v2 (F := Ideal) (A0 m c) (A3 m c)) y _ ?_ ?_).symm <;> blk_simp [ix_3 t] <;> simp only [Nat.zero_mul, Nat.zero_add, Nat.mul_comm _ 512]
/-- The result of window 4 is the reference's. -/
theorem arr4 : (dats m 0 c).arrAt 4 cfg0.N = val_main_v16 (F := Ideal) (A0 m c) (A1 m c) (A2 m c) (A3 m c) := by
  refine (dats m 0 c).arrAt_eq_of_covers 4 _ (by decide +kernel) fun t hf y => ?_
  blk_simp
  rw [after0_4, holds]
  refine (tile_of t.val (lt t) (val_main_v16 (F := Ideal) (A0 m c) (A1 m c) (A2 m c) (A3 m c)) y _ ?_ ?_).symm <;> blk_simp [ix_4 t] <;> simp only [Nat.zero_mul, Nat.zero_add, Nat.mul_comm _ 512]
end kernel

section claims
open Cert.MixOutIdeal

theorem algebraic : Cert.algebraic_MixOutIdeal_RefMixOutIdeal (hMixOutIdeal := Cert.MixOutIdeal.Gen.facts) (hRefMixOutIdeal := Cert.RefMixOutIdeal.Gen.facts) := by
  intro m ρ m' ρ' _ hag
  refine ⟨fun c => val_main_v2 (F := Ideal) (A0 m c) (A3 m c), fun c => val_main_v16 (F := Ideal) (A0 m c) (A1 m c) (A2 m c) (A3 m c), ?_, ?_⟩
  · refine (θ_run Cert.MixOutIdeal.defs _ _).mono (fun r h c => ?_) (Cert.MixOutIdeal.Value.run_blocks m ρ)
    obtain ⟨k0, k1, hk⟩ := h c
    exact ⟨k0.trans (arr3 m c), k1.trans (arr4 m c), hk⟩
  · refine (θ_run Cert.RefMixOutIdeal.defs _ _).mono (fun r h c => ?_) (Cert.RefMixOutIdeal.Value.run (F := Ideal) m' ρ')
    obtain ⟨k0, k1, hk⟩ := h c
    obtain ⟨a0, a1, a2, a3⟩ := hag c
    exact ⟨k0.trans ((val_main_v2_eq (F := Ideal) _ _).trans (by rw [a0, a3])),
      k1.trans ((val_main_v16_eq (F := Ideal) _ _ _ _).trans (by rw [a0, a1, a2, a3])), hk⟩
end claims

/-- The reference leaves its arguments as they were, and no counter behind. -/
theorem frame_reference : Cert.quiescent_RefMixOutIdeal (hRefMixOutIdeal := Cert.RefMixOutIdeal.Gen.facts) := fun m ρ _ =>
  (θ_run Cert.RefMixOutIdeal.defs _ _).mono (fun r h => ⟨fun c => (h c).2.2,
      Idealize.ShloMosaic.sem_eq_zero_of_no_sems (by decide) r.2⟩)
    (Cert.RefMixOutIdeal.Value.run (F := Ideal) m ρ)

end Cert.MixOutEq

end
-- ==== Proof.BackProjOut.lean ====
/- What each case of the body leaves in each output block: the backward pass of the three branch products of the mixer. -/
module

public import proofs.«01_k».proof.Proof.Rows
public import proofs.«01_k».proof.Proof.Gen.BackProjIdeal.Value

@[expose] public section

set_option maxRecDepth 16384

noncomputable section

namespace Cert.BackProjEq

open Idealize.ShloMosaic Idealize.ShloMosaic.TcCoe Idealize.ShloMosaic.StableHlo Idealize.SL.Sem Cert.Rows
open Idealize.ShloMosaic.Pipeline (Dat)
open Cert.BackProjIdeal Cert.BackProjIdeal.Gen Cert.BackProjIdeal.Value

section
variable (c : Dev nD) (i : grid0.Coords)
  (a1 : Memref sig .tc .vmem S512x1024 .bf16) (h1 : a1.IsWhole)
  (a2 : Memref sig .tc .vmem S512x1024 .bf16) (h2 : a2.IsWhole)
  (a3 : Memref sig .tc .vmem S512x1024 .bf16) (h3 : a3.IsWhole)
  (a7 : Memref sig .tc .vmem S512x1024 .f32) (h7 : a7.IsWhole)
  (a8 : Memref sig .tc .vmem S512x512 .f32) (h8 : a8.IsWhole)
  (a9 : Memref sig .tc .vmem S512x512 .f32) (h9 : a9.IsWhole)
  (a10 : Memref sig .tc .vmem S1024x1024 .bf16) (h10 : a10.IsWhole)
  (a11 : Memref sig .tc .vmem S512x1024 .bf16) (h11 : a11.IsWhole)
  (a12 : Memref sig .tc .vmem S512x1024 .bf16) (h12 : a12.IsWhole)
  (x0 : Vec Ideal S512x1024 .bf16)
  (x1 : Vec Ideal S512x1024 .bf16)
  (x2 : Vec Ideal S512x1024 .bf16)
  (fh0 : HbBuf0 (F := Ideal) c hbM0_0)
  (fh1 : HbBuf0 (F := Ideal) c hbM0_1)
  (fh2 : HbBuf0 (F := Ideal) c hbM0_2)
  (xs0 : Vec Ideal S1024x1024 .bf16)
  (xs1 : Vec Ideal S512x1024 .bf16)
  (xs2 : Vec Ideal S512x1024 .bf16)
theorem outA3 (hc : cond0_0 i) : out0_A_3 c i a1 h1 a2 h2 a3 h3 a7 h7 a8 h8 a9 h9 a10 h10 a11 h11 a12 h12 hc x0 x1 x2 fh0 fh1 fh2 = k0_pay1 x0 (fh0) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA4 (hc : cond0_0 i) : out0_A_4 c i a1 h1 a2 h2 a3 h3 a7 h7 a8 h8 a9 h9 a10 h10 a11 h11 a12 h12 hc x0 x1 x2 fh0 fh1 fh2 = k0_pay2 x1 (fh1) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA5 (hc : cond0_0 i) : out0_A_5 c i a1 h1 a2 h2 a3 h3 a7 h7 a8 h8 a9 h9 a10 h10 a11 h11 a12 h12 hc x0 x1 x2 fh0 fh1 fh2 = k0_pay3 x2 (fh2) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB3 (hc : ¬cond0_0 i) : out0_B_3 c i a1 h1 a2 h2 a3 h3 a7 h7 a8 h8 a9 h9 a10 h10 a11 h11 a12 h12 hc x0 x1 x2 xs0 xs1 xs2 fh0 fh1 fh2 = k0_pay1 x0 xs0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB4 (hc : ¬cond0_0 i) : out0_B_4 c i a1 h1 a2 h2 a3 h3 a7 h7 a8 h8 a9 h9 a10 h10 a11 h11 a12 h12 hc x0 x1 x2 xs0 xs1 xs2 fh0 fh1 fh2 = k0_pay2 x1 xs1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB5 (hc : ¬cond0_0 i) : out0_B_5 c i a1 h1 a2 h2 a3 h3 a7 h7 a8 h8 a9 h9 a10 h10 a11 h11 a12 h12 hc x0 x1 x2 xs0 xs1 xs2 fh0 fh1 fh2 = k0_pay3 x2 xs2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA0 (hc : cond0_0 i) : sout0_A_0 c i a1 h1 a2 h2 a3 h3 a7 h7 a8 h8 a9 h9 a10 h10 a11 h11 a12 h12 hc x0 x1 x2 fh0 fh1 fh2 = fh0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA1 (hc : cond0_0 i) : sout0_A_1 c i a1 h1 a2 h2 a3 h3 a7 h7 a8 h8 a9 h9 a10 h10 a11 h11 a12 h12 hc x0 x1 x2 fh0 fh1 fh2 = fh1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA2 (hc : cond0_0 i) : sout0_A_2 c i a1 h1 a2 h2 a3 h3 a7 h7 a8 h8 a9 h9 a10 h10 a11 h11 a12 h12 hc x0 x1 x2 fh0 fh1 fh2 = fh2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
end

end Cert.BackProjEq

end
-- ==== Proof.BackProjEq.lean ====
/- The backward pass of the three branch products of the mixer: what the kernel leaves tile by tile is what the reference computes. -/
module

public import proofs.«01_k».proof.Proof.BackProjOut
public import proofs.«01_k».proof.Proof.Sig
public import proofs.«01_k».proof.Proof.Gen.RefBackProjIdeal.Run
public import proofs.«01_k».proof.Proof.Gen.RefBackProjIdeal.Read
public import proofs.«01_k».proof.Defs

@[expose] public section

set_option maxRecDepth 16384

noncomputable section

namespace Cert.BackProjEq

open Idealize.ShloMosaic Idealize.ShloMosaic.TcCoe Idealize.ShloMosaic.StableHlo Idealize.SL.Sem Cert.Rows
open Idealize.ShloMosaic.Pipeline (Dat)
open Cert.RefBackProjIdeal.Read

/-! One tile: each payload on a tile of the arguments is the tile of the reference's stage. -/

section pay
open Cert.BackProjIdeal Cert.BackProjIdeal.Gen
variable (n : ℕ) (h : n < 32) (x0 : S16384x1024.Idx → EReal) (x1 : S16384x1024.Idx → EReal) (x2 : S16384x1024.Idx → EReal) (x3 : S1024x1024.Idx → EReal) (x4 : S512x1024.Idx → EReal) (x5 : S512x1024.Idx → EReal)

theorem pay1 : (k0_pay1 (F := Ideal) (tile n h x0) x3 : S512x1024.Idx → EReal) = tile n h (val_main_v14 (F := Ideal) x0 x3) := by
  funext y
  rw [tile]
  pointwise [k0_pay1, val_main_v14, val_main_v3, val_main_v0]
  rfl
theorem pay2 : (k0_pay2 (F := Ideal) (tile n h x1) x4 : S512x512.Idx → EReal) = tile n h (val_main_v13 (F := Ideal) x1 x4) := by
  funext y
  rw [tile]
  pointwise [k0_pay2, val_main_v13, val_main_v4, val_main_v1]
  rfl
theorem pay3 : (k0_pay3 (F := Ideal) (tile n h x2) x5 : S512x512.Idx → EReal) = tile n h (val_main_v12 (F := Ideal) x2 x5) := by
  funext y
  rw [tile]
  pointwise [k0_pay3, val_main_v12, val_main_v5, val_main_v2]
  rfl
end pay

section kernel
open Cert.BackProjIdeal Cert.BackProjIdeal.Gen Cert.BackProjIdeal.Value
variable (m : (ℓ : Loc nD τ sig) → Buf (Elt Ideal) ℓ) (c : Dev nD)

/-- Argument 0. -/
abbrev A0 : S16384x1024.Idx → EReal := m ((c : Thread nD τ).loc main_arg0)
/-- Argument 1. -/
abbrev A1 : S16384x1024.Idx → EReal := m ((c : Thread nD τ).loc main_arg1)
/-- Argument 2. -/
abbrev A2 : S16384x1024.Idx → EReal := m ((c : Thread nD τ).loc main_arg2)
/-- Argument 3. -/
abbrev A3 : S1024x1024.Idx → EReal := m ((c : Thread nD τ).loc main_arg3)
/-- Argument 4. -/
abbrev A4 : S512x1024.Idx → EReal := m ((c : Thread nD τ).loc main_arg4)
/-- Argument 5. -/
abbrev A5 : S512x1024.Idx → EReal := m ((c : Thread nD τ).loc main_arg5)

theorem lt (t : Fin cfg0.N) : t.val < 32 := lt_of_lt_of_eq t.isLt N_0
theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel

theorem blk0 (t : Fin cfg0.N) : (iblk m c 0 t : S512x1024.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
theorem blk1 (t : Fin cfg0.N) : (iblk m c 1 t : S512x1024.Idx → EReal) = tile t.val (lt t) (A1 m c) := by
  funext y
  blk_simp [iblk]
  rw [V_main_arg1]
  refine tile_of _ _ _ _ _ ?_ ?_ <;> blk_simp [ix_1 t] <;> simp only [Nat.zero_mul, Nat.zero_add, Nat.mul_comm _ 512]
theorem blk2 (t : Fin cfg0.N) : (iblk m c 2 t : S512x1024.Idx → EReal) = tile t.val (lt t) (A2 m c) := by
  funext y
  blk_simp [iblk]
  rw [V_main_arg2]
  refine tile_of _ _ _ _ _ ?_ ?_ <;> blk_simp [ix_2 t] <;> simp only [Nat.zero_mul, Nat.zero_add, Nat.mul_comm _ 512]

/-- What a point leaves in the outputs and in the copies of the weights. -/
theorem holds : ∀ (n : ℕ) (h : n < cfg0.N), outsAt0 m c n h =
    (tile n (lt ⟨n, h⟩) (val_main_v14 (F := Ideal) (A0 m c) (A3 m c)),
      tile n (lt ⟨n, h⟩) (val_main_v13 (F := Ideal) (A1 m c) (A4 m c)),
      tile n (lt ⟨n, h⟩) (val_main_v12 (F := Ideal) (A2 m c) (A5 m c)),
      (A3 m c),
      (A4 m c),
      (A5 m c))
  | 0, h => (outsAt0_A m c ⟨0, h⟩ rfl).trans (by
    rw [outA3, outA4, outA5, soutA0, soutA1, soutA2, blk0, blk1, blk2, V_main_arg3, V_main_arg4, V_main_arg5]
    exact congrArg₂ Prod.mk (pay1 _ _ _ _) (congrArg₂ Prod.mk (pay2 _ _ _ _) (congrArg₂ Prod.mk (pay3 _ _ _ _) (rfl))))
  | n + 1, h => by
    have hN : n + 1 < 32 := lt_of_lt_of_eq h N_0
    refine (outsAt0_B m c ⟨n + 1, h⟩ (by dsimp only; omega)).trans ?_
    rw [outB3, outB4, outB5, blk0, blk1, blk2]
    have w0 : (outsAt0 m c (n + 1 - 1) (Nat.lt_of_le_of_lt (Nat.sub_le _ _) h)).2.2.2.1 = (A3 m c) :=
      congrArg (·.2.2.2.1) (holds n (Nat.lt_of_succ_lt h))
    have w1 : (outsAt0 m c (n + 1 - 1) (Nat.lt_of_le_of_lt (Nat.sub_le _ _) h)).2.2.2.2.1 = (A4 m c) :=
      congrArg (·.2.2.2.2.1) (holds n (Nat.lt_of_succ_lt h))
    have w2 : (outsAt0 m c (n + 1 - 1) (Nat.lt_of_le_of_lt (Nat.sub_le _ _) h)).2.2.2.2.2 = (A5 m c) :=
      congrArg (·.2.2.2.2.2) (holds n (Nat.lt_of_succ_lt h))
    rw [w0, w1, w2]
    exact congrArg₂ Prod.mk (pay1 _ _ _ _) (congrArg₂ Prod.mk (pay2 _ _ _ _) (congrArg₂ Prod.mk (pay3 _ _ _ _) (rfl)))

/-- The result of window 3 is the reference's. -/
theorem arr3 : (dats m 0 c).arrAt 3 cfg0.N = val_main_v14 (F := Ideal) (A0 m c) (A3 m c) := by
  refine (dats m 0 c).arrAt_eq_of_covers 3 _ (by decide +kernel) fun t hf y => ?_
  blk_simp
  rw [after0_3, holds]
  refine (tile_of t.val (lt t) (val_main_v14 (F := Ideal) (A0 m c) (A3 m c)) y _ ?_ ?_).symm <;> blk_simp [ix_3 t] <;> simp only [Nat.zero_mul, Nat.zero_add, Nat.mul_comm _ 512]
/-- The result of window 4 is the reference's. -/
theorem arr4 : (dats m 0 c).arrAt 4 cfg0.N = val_main_v13 (F := Ideal) (A1 m c) (A4 m c) := by
  refine (dats m 0 c).arrAt_eq_of_covers 4 _ (by decide +kernel) fun t hf y => ?_
  blk_simp
  rw [after0_4, holds]
  refine (tile_of t.val (lt t) (val_main_v13 (F := Ideal) (A1 m c) (A4 m c)) y _ ?_ ?_).symm <;> blk_simp [ix_4 t] <;> simp only [Nat.zero_mul, Nat.zero_add, Nat.mul_comm _ 512]
/-- The result of window 5 is the reference's. -/
theorem arr5 : (dats m 0 c).arrAt 5 cfg0.N = val_main_v12 (F := Ideal) (A2 m c) (A5 m c) := by
  refine (dats m 0 c).arrAt_eq_of_covers 5 _ (by decide +kernel) fun t hf y => ?_
  blk_simp
  rw [after0_5, holds]
  refine (tile_of t.val (lt t) (val_main_v12 (F := Ideal) (A2 m c) (A5 m c)) y _ ?_ ?_).symm <;> blk_simp [ix_5 t] <;> simp only [Nat.zero_mul, Nat.zero_add, Nat.mul_comm _ 512]
end kernel

section claims
open Cert.BackProjIdeal

theorem algebraic : Cert.algebraic_BackProjIdeal_RefBackProjIdeal (hBackProjIdeal := Cert.BackProjIdeal.Gen.facts) (hRefBackProjIdeal := Cert.RefBackProjIdeal.Gen.facts) := by
  intro m ρ m' ρ' _ hag
  refine ⟨fun c => val_main_v14 (F := Ideal) (A0 m c) (A3 m c), fun c => val_main_v13 (F := Ideal) (A1 m c) (A4 m c), fun c => val_main_v12 (F := Ideal) (A2 m c) (A5 m c), ?_, ?_⟩
  · refine (θ_run Cert.BackProjIdeal.defs _ _).mono (fun r h c => ?_) (Cert.BackProjIdeal.Value.run_blocks m ρ)
    obtain ⟨k0, k1, k2, hk⟩ := h c
    exact ⟨k0.trans (arr3 m c), k1.trans (arr4 m c), k2.trans (arr5 m c), hk⟩
  · refine (θ_run Cert.RefBackProjIdeal.defs _ _).mono (fun r h c => ?_) (Cert.RefBackProjIdeal.Value.run (F := Ideal) m' ρ')
    obtain ⟨k0, k1, k2, hk⟩ := h c
    obtain ⟨a0, a1, a2, a3, a4, a5⟩ := hag c
    exact ⟨k0.trans ((val_main_v14_eq (F := Ideal) _ _).trans (by rw [a0, a3])),
      k1.trans ((val_main_v13_eq (F := Ideal) _ _).trans (by rw [a1, a4])),
      k2.trans ((val_main_v12_eq (F := Ideal) _ _).trans (by rw [a2, a5])), hk⟩
end claims

/-- The reference leaves its arguments as they were, and no counter behind. -/
theorem frame_reference : Cert.quiescent_RefBackProjIdeal (hRefBackProjIdeal := Cert.RefBackProjIdeal.Gen.facts) := fun m ρ _ =>
  (θ_run Cert.RefBackProjIdeal.defs _ _).mono (fun r h => ⟨fun c => (h c).2.2.2,
      Idealize.ShloMosaic.sem_eq_zero_of_no_sems (by decide) r.2⟩)
    (Cert.RefBackProjIdeal.Value.run (F := Ideal) m ρ)

end Cert.BackProjEq

end
-- ==== Proof.PreOut.lean ====
/- What each case of the body leaves in each output block: the gradient of the norm and of the gate and up products of a feed-forward sublayer. -/
module

public import proofs.«01_k».proof.Proof.Rows
public import proofs.«01_k».proof.Proof.Gen.PreIdeal.Value

@[expose] public section

set_option maxRecDepth 16384

noncomputable section

namespace Cert.PreEq

open Idealize.ShloMosaic Idealize.ShloMosaic.TcCoe Idealize.ShloMosaic.StableHlo Idealize.SL.Sem Cert.Rows
open Idealize.ShloMosaic.Pipeline (Dat)
open Cert.PreIdeal Cert.PreIdeal.Gen Cert.PreIdeal.Value

section
variable (c : Dev nD) (i : grid0.Coords)
  (a1 : Memref sig .tc .vmem S512x2816 .bf16) (h1 : a1.IsWhole)
  (a2 : Memref sig .tc .vmem S512x2816 .bf16) (h2 : a2.IsWhole)
  (a3 : Memref sig .tc .vmem S512x1024 .f32) (h3 : a3.IsWhole)
  (a4 : Memref sig .tc .vmem S512x1024 .f32) (h4 : a4.IsWhole)
  (a5 : Memref sig .tc .vmem S1x1024 .f32) (h5 : a5.IsWhole)
  (a8 : Memref sig .tc .vmem S512x1024 .f32) (h8 : a8.IsWhole)
  (a9 : Memref sig .tc .vmem S1x1024 .f32) (h9 : a9.IsWhole)
  (a10 : Memref sig .tc .vmem S1024x2816 .bf16) (h10 : a10.IsWhole)
  (a11 : Memref sig .tc .vmem S1024x2816 .bf16) (h11 : a11.IsWhole)
  (x0 : Vec Ideal S512x2816 .bf16)
  (x1 : Vec Ideal S512x2816 .bf16)
  (x2 : Vec Ideal S512x1024 .f32)
  (x3 : Vec Ideal S512x1024 .f32)
  (x4 : Vec Ideal S1x1024 .f32)
  (fh0 : HbBuf0 (F := Ideal) c hbM0_0)
  (fh1 : HbBuf0 (F := Ideal) c hbM0_1)
  (xo6 : Vec Ideal S1x1024 .f32)
  (xs0 : Vec Ideal S1024x2816 .bf16)
  (xs1 : Vec Ideal S1024x2816 .bf16)
theorem outA5 (hc : cond0_0 i) : out0_A_5 c i a1 h1 a2 h2 a3 h3 a4 h4 a5 h5 a8 h8 a9 h9 a10 h10 a11 h11 hc x0 x1 x2 x3 x4 fh0 fh1 = k0_pay2 (k0_pay7 x0 (fh0) x1 (fh1) x2 x4) x3 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA6 (hc : cond0_0 i) : out0_A_6 c i a1 h1 a2 h2 a3 h3 a4 h4 a5 h5 a8 h8 a9 h9 a10 h10 a11 h11 hc x0 x1 x2 x3 x4 fh0 fh1 = k0_pay1 (F := Ideal) (k0_pay8 x0 (fh0) x1 (fh1) x2) (k0_pay3 (F := Ideal)) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB5 (hc : ¬cond0_0 i) : out0_B_5 c i a1 h1 a2 h2 a3 h3 a4 h4 a5 h5 a8 h8 a9 h9 a10 h10 a11 h11 hc x0 x1 x2 x3 x4 xo6 xs0 xs1 fh0 fh1 = k0_pay2 (k0_pay7 x0 xs0 x1 xs1 x2 x4) x3 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB6 (hc : ¬cond0_0 i) : out0_B_6 c i a1 h1 a2 h2 a3 h3 a4 h4 a5 h5 a8 h8 a9 h9 a10 h10 a11 h11 hc x0 x1 x2 x3 x4 xo6 xs0 xs1 fh0 fh1 = k0_pay1 (F := Ideal) (k0_pay8 x0 xs0 x1 xs1 x2) xo6 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA0 (hc : cond0_0 i) : sout0_A_0 c i a1 h1 a2 h2 a3 h3 a4 h4 a5 h5 a8 h8 a9 h9 a10 h10 a11 h11 hc x0 x1 x2 x3 x4 fh0 fh1 = fh0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA1 (hc : cond0_0 i) : sout0_A_1 c i a1 h1 a2 h2 a3 h3 a4 h4 a5 h5 a8 h8 a9 h9 a10 h10 a11 h11 hc x0 x1 x2 x3 x4 fh0 fh1 = fh1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
end

end Cert.PreEq

end
-- ==== Proof.BcMath.lean ====
/- The gradient of the step's gated short convolution and spatial gating unit as functions of real numbers:
   what both the kernel and the reference are shown to compute. Rows and columns are natural numbers, and every
   array is zero outside its bounds. -/
module

public import Idealize.ShloMosaic.PureOps.Ideal
public import Mathlib.Analysis.SpecialFunctions.Trigonometric.DerivHyp
public import Mathlib.Data.EReal.Operations

@[expose] public section

noncomputable section

namespace Bc

open Finset

/-- A finite sum of reals, as an extended real, is the sum of the terms as extended reals. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The slope of the tanh approximation of gelu: the rational of the float √(2/π). -/
def K : ℝ := 13386282 / 16777216
/-- The slope times the cubic coefficient. -/
def KC : ℝ := 80338380498831 / 2251799813685248
/-- The layernorm's ε, the rational of its float. -/
def eps : ℝ := 8796093 / 8796093022208

theorem eps_pos : 0 < eps := by norm_num [eps]

/-- The tanh of the gelu approximation. -/
def th (x : ℝ) : ℝ := Real.tanh (x * (K + KC * (x * x)))
/-- gelu, in its tanh approximation. -/
def gelu (x : ℝ) : ℝ := 1 / 2 * x * (1 + th x)
/-- The derivative of gelu. -/
def dgelu (x : ℝ) : ℝ := 1 / 2 * (1 + th x) + 1 / 2 * x * (1 - th x * th x) * (K + 3 * KC * (x * x))

/-- The arguments: activations `z` (five groups of 512 columns), the two cotangents, the convolution's taps, the
    layernorm's scale and shift, the mixing matrices and the mixing bias spread over the columns. -/
structure In where
  z : ℕ → ℕ → ℝ
  pb : ℕ → ℕ → ℝ
  pc : ℕ → ℕ → ℝ
  w : ℕ → ℕ → ℝ
  g : ℕ → ℝ
  b : ℕ → ℝ
  s : ℕ → ℕ → ℕ → ℝ
  bias : ℕ → ℕ → ℝ
  z_out : ∀ r c, 16384 ≤ r → z r c = 0
  bias_head : ∀ p j, bias p (128 * (j / 128)) = bias p j

variable (I : In)

/-- The convolution's input. -/
def q (r j : ℕ) : ℝ := I.z r (512 + j) * I.z r (1024 + j)
/-- The convolution's input shifted down by one row, a zero row first. -/
def qp : ℕ → ℕ → ℝ
  | 0, _ => 0
  | r + 1, j => q I r j
/-- The cotangent of the convolution. -/
def dc (r j : ℕ) : ℝ := I.pb r j * I.z r j
/-- The cotangent of the convolution shifted down by one row, a zero row first. -/
def dcp : ℕ → ℕ → ℝ
  | 0, _ => 0
  | r + 1, j => dc I r j
/-- The three-tap convolution. -/
def conv (r j : ℕ) : ℝ := qp I r j * I.w 0 j + qp I (r + 1) j * I.w 1 j + qp I (r + 2) j * I.w 2 j
/-- The cotangent of the convolution's input. -/
def dq (r j : ℕ) : ℝ := dcp I (r + 2) j * I.w 0 j + dcp I (r + 1) j * I.w 1 j + dcp I r j * I.w 2 j
/-- The gating value after gelu. -/
def gv (r j : ℕ) : ℝ := gelu (I.z r (2048 + j))
/-- Mean of a row of the gating values. -/
def mu (r : ℕ) : ℝ := (∑ j : Fin 512, gv I r j) / 512
/-- Centred gating values. -/
def vc (r j : ℕ) : ℝ := gv I r j - mu I r
/-- Variance of a row plus ε. -/
def var (r : ℕ) : ℝ := (∑ j : Fin 512, vc I r j * vc I r j) / 512 + eps
/-- One over the standard deviation of a row. -/
def rs (r : ℕ) : ℝ := (√(var I r))⁻¹
/-- Normalised gating values. -/
def vn (r j : ℕ) : ℝ := vc I r j * rs I r
/-- Layernorm's result. -/
def v2 (r j : ℕ) : ℝ := vn I r j * I.g j + I.b j
/-- The spatially mixed gate: within a chunk of 128 rows, by the head's matrix, plus the bias. -/
def mixed (r j : ℕ) : ℝ := (∑ p : Fin 128, I.s (j / 128) (r % 128) p * v2 I (128 * (r / 128) + p) j) + I.bias (r % 128) j
/-- The cotangent of the mixed gate. -/
def dmix (r j : ℕ) : ℝ := gelu (I.z r (1536 + j)) * I.pc r j
/-- The cotangent of the gated operand. -/
def du (r j : ℕ) : ℝ := I.pc r j * mixed I r j * dgelu (I.z r (1536 + j))
/-- The cotangent of the layernorm's result. -/
def dv2 (r j : ℕ) : ℝ := ∑ p : Fin 128, I.s (j / 128) p (r % 128) * dmix I (128 * (r / 128) + p) j
/-- The cotangent of the normalised values. -/
def dvn (r j : ℕ) : ℝ := dv2 I r j * I.g j
/-- The cotangent of the gating values after gelu. -/
def dv1 (r j : ℕ) : ℝ := rs I r * (dvn I r j - (∑ k : Fin 512, dvn I r k) / 512
    - vn I r j * ((∑ k : Fin 512, dvn I r k * vn I r k) / 512))
/-- The cotangent of the gating operand. -/
def dv (r j : ℕ) : ℝ := dv1 I r j * dgelu (I.z r (2048 + j))
/-- The cotangent of the activations, its five groups of columns side by side. -/
def dz (r j : ℕ) : ℝ :=
  if j < 512 then I.pb r j * conv I r j
  else if j < 1024 then dq I r (j - 512) * I.z r (j + 512)
  else if j < 1536 then dq I r (j - 1024) * I.z r (j - 512)
  else if j < 2048 then du I r (j - 1536)
  else dv I r (j - 2048)
/-- The gradient of the convolution's taps. -/
def dw (k j : ℕ) : ℝ := ∑ r : Fin 16384, dc I r j * qp I (r + k) j
/-- The gradient of the layernorm's scale. -/
def dg (j : ℕ) : ℝ := ∑ r : Fin 16384, dv2 I r j * vn I r j
/-- The gradient of the layernorm's shift. -/
def db (j : ℕ) : ℝ := ∑ r : Fin 16384, dv2 I r j
/-- The gradient of the mixing matrices. -/
def ds (h p k : ℕ) : ℝ := ∑ n : Fin 128, ∑ c : Fin 128, dmix I (128 * n + p) (128 * h + c) * v2 I (128 * n + k) (128 * h + c)
/-- The gradient of the mixing bias at every column. -/
def dbias (p j : ℕ) : ℝ := ∑ n : Fin 128, dmix I (128 * n + p) j

theorem var_pos (r : ℕ) : 0 < var I r :=
  add_pos_of_nonneg_of_pos (div_nonneg (Finset.sum_nonneg fun _ _ => mul_self_nonneg _) (by norm_num)) eps_pos

/-- The centred values of a row sum to zero. -/
theorem vc_sum (r : ℕ) : ∑ j : Fin 512, vc I r j = 0 := by
  simp only [vc, Finset.sum_sub_distrib, Finset.sum_const, Finset.card_univ, Fintype.card_fin, nsmul_eq_mul, mu]
  push_cast
  ring
theorem rs_sq (r : ℕ) : rs I r * rs I r = (var I r)⁻¹ := by
  rw [rs, ← mul_inv, Real.mul_self_sqrt (var_pos I r).le]

theorem q_out (r j : ℕ) (h : 16384 ≤ r) : q I r j = 0 := by simp [q, I.z_out r _ h]
theorem dc_out (r j : ℕ) (h : 16384 ≤ r) : dc I r j = 0 := by simp [dc, I.z_out r _ h]

end Bc

end
end
-- ==== Proof.Rms.lean ====
/- The gradient of the root-mean-square norm, in the form of the kernels and in the form of the reference, on rows of
   real numbers. -/
module

public import proofs.«01_k».proof.Proof.Rows
public import proofs.«01_k».proof.Proof.BcMath

@[expose] public section

noncomputable section

namespace Cert.Rows

open Idealize.ShloMosaic

/-- A number whose absolute value compares below infinity is a real number. -/
theorem coe_of_finite (x : Ideal .f32)
    (h : FloatOps.cmpf .olt (FloatOps.hostAbsf x) (FloatOps.ofBits (F := Ideal) .f32 0x7F800000#32) = 1#1) :
    (((x : EReal).toReal : ℝ) : EReal) = x := by
  rw [← Idealize.ShloMosaic.Ideal.xori_weird_eq_hostAbsf_olt_inf] at h
  have hn : ¬ ((x : EReal) = ⊤ ∨ (x : EReal) = ⊥) := by
    intro hx
    have h' : IntOp.xori (BitVec.ofBool (decide ((x : EReal) = ⊤ ∨ (x : EReal) = ⊥))) 1#1 = 1#1 := h
    simp [hx, IntOp.xori] at h'
  exact EReal.coe_toReal (fun hx => hn (.inl hx)) fun hx => hn (.inr hx)

/-- The extended real is a real number. -/
def Re (z : EReal) : Prop := ∃ r : ℝ, z = (r : EReal)

theorem re_coe (r : ℝ) : Re (r : EReal) := ⟨r, rfl⟩
theorem re_of_finite (x : Ideal .f32)
    (h : FloatOps.cmpf .olt (FloatOps.hostAbsf x) (FloatOps.ofBits (F := Ideal) .f32 0x7F800000#32) = 1#1) : Re x :=
  ⟨_, (coe_of_finite x h).symm⟩
theorem Re.of_eq {a b : EReal} (e : a = b) : Re b → Re a
  | ⟨x, hx⟩ => ⟨x, e.trans hx⟩
theorem Re.mul {a b : EReal} : Re a → Re b → Re (a * b)
  | ⟨x, hx⟩, ⟨y, hy⟩ => ⟨x * y, by rw [hx, hy, EReal.coe_mul]⟩
theorem Re.add {a b : EReal} : Re a → Re b → Re (a + b)
  | ⟨x, hx⟩, ⟨y, hy⟩ => ⟨x + y, by rw [hx, hy, EReal.coe_add]⟩
theorem re_sum {ι : Type*} (s : Finset ι) (f : ι → EReal) (h : ∀ i, Re (f i)) : Re (∑ i ∈ s, f i) := by
  choose g hg using h
  exact ⟨∑ i ∈ s, g i, by rw [← Bc.coe_sum]; exact Finset.sum_congr rfl fun i _ => hg i⟩
/-- The logistic function of a real number is a real number. -/
theorem re_sigmoid {a : EReal} : Re a → Re (Idealize.ShloMosaic.Ideal.div 1 (1 + Idealize.ShloMosaic.Ideal.exp (-a)))
  | ⟨x, hx⟩ => by
    have hp := Real.exp_pos (-x)
    refine ⟨1 / (1 + Real.exp (-x)), ?_⟩
    rw [hx, ← EReal.coe_neg, Ideal.exp_coe, ← EReal.coe_one, ← EReal.coe_add, Ideal.div_coe (by positivity), ← EReal.coe_mul, one_mul]

theorem word_one_f32 : Idealize.ShloMosaic.Ideal.ofBits .f32 0x3F800000#32 = ((1 : ℝ) : EReal) := by
  simp [Ideal.ofBits, Ideal.ieee, -EReal.coe_mul]; norm_num
theorem word_width : Idealize.ShloMosaic.Ideal.ofBits .f32 0x44800000#32 = ((1024 : ℝ) : EReal) := by
  simp [Ideal.ofBits, Ideal.ieee, -EReal.coe_mul]; norm_num
theorem word_neg_half : Idealize.ShloMosaic.Ideal.ofBits .f32 0xBF000000#32 = ((-1 / 2 : ℝ) : EReal) := by
  simp [Ideal.ofBits, Ideal.ieee, -EReal.coe_mul]; norm_num
theorem word_eps : Idealize.ShloMosaic.Ideal.ofBits .f32 0x358637BD#32 = ((Bc.eps : ℝ) : EReal) := by
  simp [Ideal.ofBits, Ideal.ieee, -EReal.coe_mul, Bc.eps]; norm_num

/-- The mean of the squares of a row plus ε. -/
def msq (x : Fin 1024 → EReal) : EReal :=
  Idealize.ShloMosaic.Ideal.div (∑ q, x q * x q) (Idealize.ShloMosaic.Ideal.ofBits .f32 0x44800000#32) + Idealize.ShloMosaic.Ideal.ofBits .f32 0x358637BD#32
/-- One over the root mean square of a row. -/
def rrms (x : Fin 1024 → EReal) : EReal := Idealize.ShloMosaic.Ideal.rsqrt (msq x)
/-- What both terms of the reference's gradient multiply the row by. -/
def coeff (x u : Fin 1024 → EReal) : EReal :=
  Idealize.ShloMosaic.Ideal.div ((∑ q, x q * u q) * (Idealize.ShloMosaic.Ideal.ofBits .f32 0xBF000000#32 * Idealize.ShloMosaic.Ideal.div (rrms x) (msq x)))
    (Idealize.ShloMosaic.Ideal.ofBits .f32 0x44800000#32)

/-- The mean square of a real row plus ε is a positive real number, and its reciprocal root is real. -/
theorem msq_coe (X : Fin 1024 → ℝ) : ∃ s : ℝ, 0 < s ∧ msq (fun q => (X q : EReal)) = (s : EReal) ∧ rrms (fun q => (X q : EReal)) = (((√s)⁻¹ : ℝ) : EReal) := by
  have hs : 0 < (∑ q, X q * X q) * (1 / 1024) + Bc.eps :=
    add_pos_of_nonneg_of_pos (mul_nonneg (Finset.sum_nonneg fun _ _ => mul_self_nonneg _) (by norm_num)) Bc.eps_pos
  have h1 : msq (fun q => (X q : EReal)) = (((∑ q, X q * X q) * (1 / 1024) + Bc.eps : ℝ) : EReal) := by
    simp only [msq, word_width, word_eps, ← EReal.coe_mul, Bc.coe_sum]
    rw [Ideal.div_coe (by norm_num), ← EReal.coe_mul, ← EReal.coe_add]
  exact ⟨_, hs, h1, by rw [rrms, h1, Ideal.rsqrt_coe, if_neg hs.not_gt, if_neg hs.ne']⟩

/-- The norm's scale of a real row is a real number. -/
theorem re_rrms (x : Fin 1024 → EReal) (hx : ∀ q, Re (x q)) : Re (rrms x) := by
  choose X hX using hx
  obtain ⟨s, -, -, h⟩ := msq_coe X
  exact ⟨_, by rw [show x = fun q => (X q : EReal) from funext hX]; exact h⟩

/-- The gradient of the norm: the kernels' form is the reference's. -/
theorem rms_bwd (x u : Fin 1024 → EReal) (hx : ∀ q, Re (x q)) (hu : ∀ q, Re (u q)) (k : Fin 1024) :
    rrms x * (u k - x k * rrms x * Idealize.ShloMosaic.Ideal.div (∑ q, u q * (x q * rrms x)) (Idealize.ShloMosaic.Ideal.ofBits .f32 0x44800000#32))
      = u k * rrms x + x k * coeff x u + coeff x u * x k := by
  choose X hX using hx
  choose U hU using hu
  obtain rfl : x = fun q => (X q : EReal) := funext hX
  obtain rfl : u = fun q => (U q : EReal) := funext hU
  obtain ⟨s, hs, h1, h2⟩ := msq_coe X
  simp only [coeff, h1, h2, word_width, word_neg_half, ← EReal.coe_mul, Bc.coe_sum]
  rw [Ideal.div_coe (x := ((∑ q, U q * (X q * (√s)⁻¹) : ℝ) : EReal)) (by norm_num), Ideal.div_coe (y := s) hs.ne']
  simp only [← EReal.coe_mul]
  rw [Ideal.div_coe (by norm_num)]
  simp only [← EReal.coe_mul, ← EReal.coe_sub, ← EReal.coe_add]
  congr 1
  have hr : (√s)⁻¹ * (√s)⁻¹ = 1 / s := by rw [← mul_inv, Real.mul_self_sqrt hs.le, one_div]
  have hA : ∑ q, U q * (X q * (√s)⁻¹) = (∑ q, X q * U q) * (√s)⁻¹ := by
    rw [Finset.sum_mul]; exact Finset.sum_congr rfl fun q _ => by ring
  rw [hA]
  linear_combination (-(X k * (∑ q, X q * U q) * (√s)⁻¹ / 1024)) * hr

/-- The common factor is real. -/
theorem re_coeff (x u : Fin 1024 → EReal) (hx : ∀ q, Re (x q)) (hu : ∀ q, Re (u q)) : Re (coeff x u) := by
  choose X hX using hx
  choose U hU using hu
  obtain rfl : x = fun q => (X q : EReal) := funext hX
  obtain rfl : u = fun q => (U q : EReal) := funext hU
  obtain ⟨s, hs, h1, h2⟩ := msq_coe X
  simp only [coeff, h1, h2, word_width, word_neg_half, ← EReal.coe_mul, Bc.coe_sum]
  rw [Ideal.div_coe hs.ne']
  simp only [← EReal.coe_mul]
  rw [Ideal.div_coe (by norm_num)]
  exact ⟨_, (EReal.coe_mul _ _).symm⟩

/-- The derivative of `a ↦ a σ(a)`: the kernel's form is the reference's. -/
theorem silu_bwd {t a s : EReal} : Re t → Re a → Re s → t * (s * (1 + a * (1 - s))) = t * s + a * t * (s * (1 - s))
  | ⟨x, hx⟩, ⟨y, hy⟩, ⟨z, hz⟩ => by
    subst hx hy hz
    simp only [← EReal.coe_one, ← EReal.coe_mul, ← EReal.coe_sub, ← EReal.coe_add]
    congr 1
    ring

/-- The same with a residual's cotangent added. -/
theorem rms_bwd_add (b : EReal) (x u : Fin 1024 → EReal) (hx : ∀ q, Re (x q)) (hu : ∀ q, Re (u q)) (k : Fin 1024) :
    b + rrms x * (u k - x k * rrms x * Idealize.ShloMosaic.Ideal.div (∑ q, u q * (x q * rrms x)) (Idealize.ShloMosaic.Ideal.ofBits .f32 0x44800000#32))
      = b + u k * rrms x + x k * coeff x u + coeff x u * x k := by
  rw [rms_bwd x u hx hu, add_assoc, add_assoc, add_assoc]

end Cert.Rows

end
-- ==== Proof.PreEq.lean ====
/- The gradient of the norm and of the gate and up products of a feed-forward sublayer: what the kernel leaves tile by tile is what the reference computes. -/
module

public import proofs.«01_k».proof.Proof.PreOut
public import proofs.«01_k».proof.Proof.Sig
public import proofs.«01_k».proof.Proof.Rms
public import proofs.«01_k».proof.Proof.Gen.Pre_finite_pre
public import proofs.«01_k».proof.Proof.Gen.RefPreIdeal.Run
public import proofs.«01_k».proof.Proof.Gen.RefPreIdeal.Read
public import proofs.«01_k».proof.Defs

@[expose] public section

set_option maxRecDepth 16384

noncomputable section

namespace Cert.PreEq

open Idealize.ShloMosaic Idealize.ShloMosaic.TcCoe Idealize.ShloMosaic.StableHlo Idealize.SL.Sem Cert.Rows
open Idealize.ShloMosaic.Pipeline (Dat)
open Finset (range)
open Cert.RefPreIdeal.Read

/-! One tile: each payload on a tile of the arguments is the tile of the reference's stage. -/

section pay
open Cert.PreIdeal Cert.PreIdeal.Gen
variable (n : ℕ) (h : n < 32) (x0 : S16384x2816.Idx → EReal) (x1 : S16384x2816.Idx → EReal) (x2 : S1024x2816.Idx → EReal) (x3 : S1024x2816.Idx → EReal) (x4 : S16384x1024.Idx → EReal) (x5 : S16384x1024.Idx → EReal) (x6 : S1024.Idx → EReal)

/-- The cotangent of the normed rows: both products with the transposed weights. -/
theorem pay4 : (k0_pay4 (F := Ideal) (tile n h x0) x2 (tile n h x1) x3 : S512x1024.Idx → EReal) = tile n h (val_main_v24 (F := Ideal) x0 x1 x2 x3) := by
  funext y
  rw [tile]
  pointwise [k0_pay4, val_main_v24, val_main_v23, val_main_v22, val_main_v0, val_main_v1, val_main_v2, val_main_v3]
  exact add_comm _ _
/-- The norm's scale of each row. -/
theorem pay5 (y : S512x1.Idx) : (k0_pay5 (F := Ideal) (tile n h x4) y : EReal) = rrms fun q => x4 (ix2 (row n h (y 0)) q) := by
  pointwise [k0_pay5]
  rfl
/-- The reference's scale of each row. -/
theorem ref_scale (i : Fin 16384) : (val_main_v12 (F := Ideal) x4 (ix2 i 0) : EReal) = rrms fun q => x4 (ix2 i q) := by
  pointwise [val_main_v12, val_main_v11, val_main_v10, val_main_v9, val_main_v8, val_main_v7, val_main_v6, val_main_v5, val_main_cst, val_main_cst_0, val_main_cst_1]
  rfl
/-- The normed rows. -/
theorem pay6 (y : S512x1024.Idx) : (k0_pay6 (F := Ideal) (tile n h x4) y : EReal) = x4 (ix2 (row n h (y 0)) (y 1)) * rrms fun q => x4 (ix2 (row n h (y 0)) q) := by
  pointwise [k0_pay6]
  rw [pay5]
  rfl
/-- The reference's gradient of the rows, with the cotangent of the scaled rows as it stands. -/
theorem ref_dx (i : Fin 16384) (k : Fin 1024) : (val_main_v44 (F := Ideal) x0 x1 x2 x3 x4 x5 x6 (ix2 i k) : EReal)
    = x5 (ix2 i k) + val_main_v29 (F := Ideal) x0 x1 x2 x3 x6 (ix2 i k) * rrms (fun q => x4 (ix2 i q))
      + x4 (ix2 i k) * coeff (fun q => x4 (ix2 i q)) (fun q => val_main_v29 (F := Ideal) x0 x1 x2 x3 x6 (ix2 i q))
      + coeff (fun q => x4 (ix2 i q)) (fun q => val_main_v29 (F := Ideal) x0 x1 x2 x3 x6 (ix2 i q)) * x4 (ix2 i k) := by
  pointwise [val_main_v44, val_main_v43, val_main_v42, val_main_v41, val_main_v40, val_main_v39, val_main_v38, val_main_v37, val_main_v36, val_main_v35, val_main_v34, val_main_v33, val_main_v32, val_main_v31, val_main_v30, val_main_v15, val_main_v14, val_main_v13, val_main_v12, val_main_v11, val_main_v10, val_main_v9, val_main_v8, val_main_v7, val_main_v6, val_main_v5, val_main_cst, val_main_cst_0, val_main_cst_1, val_main_cst_2, val_main_cst_4, val_main_cst_5, val_main_cst_6]
  simp only [Finset.sum_const, Finset.card_univ, Fintype.card_fin, one_smul]
  rfl
/-- The gradient of the rows. -/
theorem pay2 (hx : ∀ j, Re (x4 j)) (hu : ∀ j, Re (val_main_v29 (F := Ideal) x0 x1 x2 x3 x6 j)) :
    (k0_pay2 (F := Ideal) (k0_pay7 (tile n h x0) x2 (tile n h x1) x3 (tile n h x4) (gain x6)) (tile n h x5) : S512x1024.Idx → EReal) = tile n h (val_main_v44 (F := Ideal) x0 x1 x2 x3 x4 x5 x6) := by
  funext y
  refine Eq.trans ?_ ((rms_bwd_add (x5 _) (fun q => x4 (ix2 (row n h (y 0)) q)) (fun q => val_main_v29 (F := Ideal) x0 x1 x2 x3 x6 (ix2 (row n h (y 0)) q))
    (fun q => hx _) (fun q => hu _) (y 1)).trans (ref_dx x0 x1 x2 x3 x4 x5 x6 (row n h (y 0)) (y 1)).symm)
  pointwise [k0_pay2, k0_pay7, val_main_v29, val_main_v28, val_main_v4]
  simp only [pay4, pay5, pay6]
  rfl
/-- The summand of the gain's gradient. -/
theorem pay8 : (k0_pay8 (F := Ideal) (tile n h x0) x2 (tile n h x1) x3 (tile n h x4) : S512x1024.Idx → EReal) = tile n h (val_main_v25 (F := Ideal) x0 x1 x2 x3 x4) := by
  funext y
  rw [tile]
  pointwise [k0_pay8, val_main_v25, val_main_v17, val_main_v16]
  rw [pay4, pay6, ref_scale]
  exact mul_comm _ _
/-- One tile's part of the gain's gradient. -/
theorem acc (a : S1x1024.Idx → EReal) (y : S1x1024.Idx) : (k0_pay1 (F := Ideal) (k0_pay8 (tile n h x0) x2 (tile n h x1) x3 (tile n h x4)) a y : EReal)
    = a y + ∑ r : Fin 512, ent (val_main_v25 (F := Ideal) x0 x1 x2 x3 x4) (512 * n + r.val) (y 1).val := by
  pointwise [k0_pay1]
  rw [pay8]
  exact congrArg₂ (· + ·) (by rfl) (Finset.sum_congr rfl fun r _ => (tile_ix2 ..).trans (ent_of _ (ix2 (row n h r) (y 1)) _ _ rfl rfl))
/-- The cotangent of the scaled rows is real. -/
theorem re_u (h0 : ∀ j, Re (x0 j)) (h1 : ∀ j, Re (x1 j)) (h2 : ∀ j, Re (x2 j)) (h3 : ∀ j, Re (x3 j)) (h6 : ∀ j, Re (x6 j)) (j : S16384x1024.Idx) : Re (val_main_v29 (F := Ideal) x0 x1 x2 x3 x6 j) := by
  pointwise [val_main_v29, val_main_v28, val_main_v4, val_main_v24, val_main_v23, val_main_v22, val_main_v0, val_main_v1, val_main_v2, val_main_v3]
  exact ((re_sum _ _ fun k => (h1 _).mul (h3 _)).add (re_sum _ _ fun k => (h0 _).mul (h2 _))).mul (h6 _)

/-- The sum over the rows of the first `n + 1` tiles. -/
def accv (n : ℕ) : S1x1024.Idx → EReal := fun j => ∑ s ∈ range (n + 1), ∑ r : Fin 512, ent (val_main_v25 (F := Ideal) x0 x1 x2 x3 x4) (512 * s + r.val) (j 1).val
theorem accA (h : 0 < 32) : (k0_pay1 (F := Ideal) (k0_pay8 (tile 0 h x0) x2 (tile 0 h x1) x3 (tile 0 h x4)) (k0_pay3 (F := Ideal)) : S1x1024.Idx → EReal) = accv x0 x1 x2 x3 x4 0 := by
  funext y
  rw [acc, show (k0_pay3 (F := Ideal) y : EReal) = 0 by pointwise [k0_pay3], zero_add, accv, Finset.sum_range_one]
theorem accB (h : n + 1 < 32) : (k0_pay1 (F := Ideal) (k0_pay8 (tile (n + 1) h x0) x2 (tile (n + 1) h x1) x3 (tile (n + 1) h x4)) (accv x0 x1 x2 x3 x4 n) : S1x1024.Idx → EReal) = accv x0 x1 x2 x3 x4 (n + 1) := by
  funext y
  rw [acc]
  exact (Finset.sum_range_succ _ _).symm
theorem acc_all (y : S1x1024.Idx) : accv x0 x1 x2 x3 x4 31 y = val_main_v27 (F := Ideal) x0 x1 x2 x3 x4 y := by
  refine (sum_tiles 32 512 (fun r => ent (val_main_v25 (F := Ideal) x0 x1 x2 x3 x4) r (y 1).val)).trans ?_
  pointwise [val_main_v27, val_main_v26, val_main_cst_3]
  exact Finset.sum_congr rfl fun r _ => (ent_of _ (ix2 r (y 1)) _ _ rfl rfl).symm
end pay

section kernel
open Cert.PreIdeal Cert.PreIdeal.Gen Cert.PreIdeal.Value
variable (m : (ℓ : Loc nD τ sig) → Buf (Elt Ideal) ℓ) (c : Dev nD)

/-- Argument 0. -/
abbrev A0 : S16384x2816.Idx → EReal := m ((c : Thread nD τ).loc main_arg0)
/-- Argument 1. -/
abbrev A1 : S16384x2816.Idx → EReal := m ((c : Thread nD τ).loc main_arg1)
/-- Argument 2. -/
abbrev A2 : S1024x2816.Idx → EReal := m ((c : Thread nD τ).loc main_arg2)
/-- Argument 3. -/
abbrev A3 : S1024x2816.Idx → EReal := m ((c : Thread nD τ).loc main_arg3)
/-- Argument 4. -/
abbrev A4 : S16384x1024.Idx → EReal := m ((c : Thread nD τ).loc main_arg4)
/-- Argument 5. -/
abbrev A5 : S16384x1024.Idx → EReal := m ((c : Thread nD τ).loc main_arg5)
/-- Argument 6. -/
abbrev A6 : S1024.Idx → EReal := m ((c : Thread nD τ).loc main_arg6)

theorem lt (t : Fin cfg0.N) : t.val < 32 := lt_of_lt_of_eq t.isLt N_0
theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = t.val ∧ win0_5.index t 1 = 0 := by decide +kernel

theorem blk0 (t : Fin cfg0.N) : (iblk m c 0 t : S512x2816.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
theorem blk1 (t : Fin cfg0.N) : (iblk m c 1 t : S512x2816.Idx → EReal) = tile t.val (lt t) (A1 m c) := by
  funext y
  blk_simp [iblk]
  rw [V_main_arg1]
  refine tile_of _ _ _ _ _ ?_ ?_ <;> blk_simp [ix_1 t] <;> simp only [Nat.zero_mul, Nat.zero_add, Nat.mul_comm _ 512]
theorem blk2 (t : Fin cfg0.N) : (iblk m c 2 t : S512x1024.Idx → EReal) = tile t.val (lt t) (A4 m c) := by
  funext y
  blk_simp [iblk]
  rw [V_main_arg4]
  refine tile_of _ _ _ _ _ ?_ ?_ <;> blk_simp [ix_2 t] <;> simp only [Nat.zero_mul, Nat.zero_add, Nat.mul_comm _ 512]
theorem blk3 (t : Fin cfg0.N) : (iblk m c 3 t : S512x1024.Idx → EReal) = tile t.val (lt t) (A5 m c) := by
  funext y
  blk_simp [iblk]
  rw [V_main_arg5]
  refine tile_of _ _ _ _ _ ?_ ?_ <;> blk_simp [ix_3 t] <;> simp only [Nat.zero_mul, Nat.zero_add, Nat.mul_comm _ 512]
theorem blk4 (t : Fin cfg0.N) : (iblk m c 4 t : S1x1024.Idx → EReal) = gain (A6 m c) := by
  funext y
  blk_simp [iblk]
  show V m c main_v0 _ = _
  unfold_abbrev_sides
  after_results
  pointwise []
  refine congrArg (fun z => A6 m c (ix1 z)) (Fin.ext ?_)
  blk_simp [ix_4 t]

/-- What a point leaves in the outputs and in the copies of the weights. -/
theorem holds
    (hx : ∀ j, Re (A4 m c j)) (hu : ∀ j, Re (val_main_v29 (F := Ideal) (A0 m c) (A1 m c) (A2 m c) (A3 m c) (A6 m c) j)) : ∀ (n : ℕ) (h : n < cfg0.N), outsAt0 m c n h =
    (tile n (lt ⟨n, h⟩) (val_main_v44 (F := Ideal) (A0 m c) (A1 m c) (A2 m c) (A3 m c) (A4 m c) (A5 m c) (A6 m c)),
      accv (A0 m c) (A1 m c) (A2 m c) (A3 m c) (A4 m c) n,
      (A2 m c),
      (A3 m c))
  | 0, h => (outsAt0_A m c ⟨0, h⟩ rfl).trans (by
    rw [outA5, outA6, soutA0, soutA1, blk0, blk1, blk2, blk3, blk4, V_main_arg2, V_main_arg3]
    exact congrArg₂ Prod.mk (pay2 (hx := hx) (hu := hu) ..) (congrArg₂ Prod.mk (accA ..) (rfl)))
  | n + 1, h => by
    have hN : n + 1 < 32 := lt_of_lt_of_eq h N_0
    refine (outsAt0_B m c ⟨n + 1, h⟩ (by dsimp only; omega)).trans ?_
    rw [outB5, outB6, blk0, blk1, blk2, blk3, blk4]
    have a0 : (outsAt0 m c (n + 1 - 1) (Nat.lt_of_le_of_lt (Nat.sub_le _ _) h)).2.1 = accv (A0 m c) (A1 m c) (A2 m c) (A3 m c) (A4 m c) n :=
      congrArg (·.2.1) (holds hx hu n (Nat.lt_of_succ_lt h))
    have w0 : (outsAt0 m c (n + 1 - 1) (Nat.lt_of_le_of_lt (Nat.sub_le _ _) h)).2.2.1 = (A2 m c) :=
      congrArg (·.2.2.1) (holds hx hu n (Nat.lt_of_succ_lt h))
    have w1 : (outsAt0 m c (n + 1 - 1) (Nat.lt_of_le_of_lt (Nat.sub_le _ _) h)).2.2.2 = (A3 m c) :=
      congrArg (·.2.2.2) (holds hx hu n (Nat.lt_of_succ_lt h))
    rw [a0, w0, w1]
    exact congrArg₂ Prod.mk (pay2 (hx := hx) (hu := hu) ..) (congrArg₂ Prod.mk (accB ..) (rfl))

/-- The last grid point. -/
def tLast : Fin cfg0.N := ⟨31, lt_of_lt_of_eq (by decide) N_0.symm⟩
/-- The result of window 5 is the reference's. -/
theorem arr5
    (hx : ∀ j, Re (A4 m c j)) (hu : ∀ j, Re (val_main_v29 (F := Ideal) (A0 m c) (A1 m c) (A2 m c) (A3 m c) (A6 m c) j)) : (dats m 0 c).arrAt 5 cfg0.N = val_main_v44 (F := Ideal) (A0 m c) (A1 m c) (A2 m c) (A3 m c) (A4 m c) (A5 m c) (A6 m c) := by
  refine (dats m 0 c).arrAt_eq_of_covers 5 _ (by decide +kernel) fun t hf y => ?_
  blk_simp
  rw [after0_5, holds m c hx hu]
  refine (tile_of t.val (lt t) (val_main_v44 (F := Ideal) (A0 m c) (A1 m c) (A2 m c) (A3 m c) (A4 m c) (A5 m c) (A6 m c)) y _ ?_ ?_).symm <;> blk_simp [ix_5 t] <;> simp only [Nat.zero_mul, Nat.zero_add, Nat.mul_comm _ 512]
/-- The result of window 6 is the reference's. -/
theorem arr6
    (hx : ∀ j, Re (A4 m c j)) (hu : ∀ j, Re (val_main_v29 (F := Ideal) (A0 m c) (A1 m c) (A2 m c) (A3 m c) (A6 m c) j)) : (dats m 0 c).arrAt 6 cfg0.N = val_main_v27 (F := Ideal) (A0 m c) (A1 m c) (A2 m c) (A3 m c) (A4 m c) := by
  refine (dats m 0 c).arrAt_eq_of_after_last 6 tLast (by decide +kernel) _ fun j => ?_
  blk_simp
  rw [after0_6, holds m c hx hu]
  exact acc_all ..
end kernel

section claims
open Cert.PreIdeal

theorem algebraic : Cert.algebraic_PreIdeal_RefPreIdeal_pre_finite_pre (hPreIdeal := Cert.PreIdeal.Gen.facts) (hRefPreIdeal := Cert.RefPreIdeal.Gen.facts) (hPre_finite_pre := Cert.Pre_finite_pre.Gen.facts) := by
  intro m ρ m' ρ' hpre hag
  have f0 (c : Dev nD) (j) : Re (A0 m c j) := re_of_finite _ (congrFun (hpre c).1 j)
  have f1 (c : Dev nD) (j) : Re (A1 m c j) := re_of_finite _ (congrFun (hpre c).2.1 j)
  have f2 (c : Dev nD) (j) : Re (A2 m c j) := re_of_finite _ (congrFun (hpre c).2.2.1 j)
  have f3 (c : Dev nD) (j) : Re (A3 m c j) := re_of_finite _ (congrFun (hpre c).2.2.2.1 j)
  have f4 (c : Dev nD) (j) : Re (A4 m c j) := re_of_finite _ (congrFun (hpre c).2.2.2.2.1 j)
  have f6 (c : Dev nD) (j) : Re (A6 m c j) := re_of_finite _ (congrFun (hpre c).2.2.2.2.2 j)
  refine ⟨fun c => val_main_v44 (F := Ideal) (A0 m c) (A1 m c) (A2 m c) (A3 m c) (A4 m c) (A5 m c) (A6 m c), fun c => val_main_v27 (F := Ideal) (A0 m c) (A1 m c) (A2 m c) (A3 m c) (A4 m c), ?_, ?_⟩
  · refine (θ_run Cert.PreIdeal.defs _ _).mono (fun r h c => ?_) (Cert.PreIdeal.Value.run_blocks m ρ)
    obtain ⟨k0, k1, hk⟩ := h c
    have hx := (f4 c)
    have hu := (fun j => re_u (A0 m c) (A1 m c) (A2 m c) (A3 m c) (A6 m c) (f0 c) (f1 c) (f2 c) (f3 c) (f6 c) j)
    exact ⟨k0.trans (arr5 m c hx hu), k1.trans (arr6 m c hx hu), hk⟩
  · refine (θ_run Cert.RefPreIdeal.defs _ _).mono (fun r h c => ?_) (Cert.RefPreIdeal.Value.run (F := Ideal) m' ρ')
    obtain ⟨k0, k1, hk⟩ := h c
    obtain ⟨a0, a1, a2, a3, a4, a5, a6⟩ := hag c
    exact ⟨k0.trans ((val_main_v44_eq (F := Ideal) ..).trans (by rw [a0, a1, a2, a3, a4, a5, a6])),
      k1.trans ((val_main_v27_eq (F := Ideal) ..).trans (by rw [a0, a1, a2, a3, a4])), hk⟩
end claims

/-- The reference leaves its arguments as they were, and no counter behind. -/
theorem frame_reference : Cert.quiescent_RefPreIdeal (hRefPreIdeal := Cert.RefPreIdeal.Gen.facts) := fun m ρ _ =>
  (θ_run Cert.RefPreIdeal.defs _ _).mono (fun r h => ⟨fun c => (h c).2.2,
      Idealize.ShloMosaic.sem_eq_zero_of_no_sems (by decide) r.2⟩)
    (Cert.RefPreIdeal.Value.run (F := Ideal) m ρ)

end Cert.PreEq

end
-- ==== Proof.BackInOut.lean ====
/- What each case of the body leaves in each output block: the gradient of the norm and of the input product of the mixer. -/
module

public import proofs.«01_k».proof.Proof.Rows
public import proofs.«01_k».proof.Proof.Gen.BackInIdeal.Value

@[expose] public section

set_option maxRecDepth 16384

noncomputable section

namespace Cert.BackInEq

open Idealize.ShloMosaic Idealize.ShloMosaic.TcCoe Idealize.ShloMosaic.StableHlo Idealize.SL.Sem Cert.Rows
open Idealize.ShloMosaic.Pipeline (Dat)
open Cert.BackInIdeal Cert.BackInIdeal.Gen Cert.BackInIdeal.Value

section
variable (c : Dev nD) (i : grid0.Coords)
  (a1 : Memref sig .tc .vmem S512x1024 .bf16) (h1 : a1.IsWhole)
  (a2 : Memref sig .tc .vmem S512x1024 .bf16) (h2 : a2.IsWhole)
  (a3 : Memref sig .tc .vmem S512x2560 .bf16) (h3 : a3.IsWhole)
  (a4 : Memref sig .tc .vmem S512x3072 .bf16) (h4 : a4.IsWhole)
  (a5 : Memref sig .tc .vmem S512x1024 .f32) (h5 : a5.IsWhole)
  (a6 : Memref sig .tc .vmem S512x1024 .f32) (h6 : a6.IsWhole)
  (a7 : Memref sig .tc .vmem S1x1024 .f32) (h7 : a7.IsWhole)
  (a12 : Memref sig .tc .vmem S512x1024 .f32) (h12 : a12.IsWhole)
  (a13 : Memref sig .tc .vmem S1x1024 .f32) (h13 : a13.IsWhole)
  (a14 : Memref sig .tc .vmem S1024x1024 .bf16) (h14 : a14.IsWhole)
  (a15 : Memref sig .tc .vmem S1024x1024 .bf16) (h15 : a15.IsWhole)
  (a16 : Memref sig .tc .vmem S1024x2560 .bf16) (h16 : a16.IsWhole)
  (a17 : Memref sig .tc .vmem S1024x3072 .bf16) (h17 : a17.IsWhole)
  (x0 : Vec Ideal S512x1024 .bf16)
  (x1 : Vec Ideal S512x1024 .bf16)
  (x2 : Vec Ideal S512x2560 .bf16)
  (x3 : Vec Ideal S512x3072 .bf16)
  (x4 : Vec Ideal S512x1024 .f32)
  (x5 : Vec Ideal S512x1024 .f32)
  (x6 : Vec Ideal S1x1024 .f32)
  (fh0 : HbBuf0 (F := Ideal) c hbM0_0)
  (fh1 : HbBuf0 (F := Ideal) c hbM0_1)
  (fh2 : HbBuf0 (F := Ideal) c hbM0_2)
  (fh3 : HbBuf0 (F := Ideal) c hbM0_3)
  (xo8 : Vec Ideal S1x1024 .f32)
  (xs0 : Vec Ideal S1024x1024 .bf16)
  (xs1 : Vec Ideal S1024x1024 .bf16)
  (xs2 : Vec Ideal S1024x2560 .bf16)
  (xs3 : Vec Ideal S1024x3072 .bf16)
theorem outA7 (hc : cond0_0 i) : out0_A_7 c i a1 h1 a2 h2 a3 h3 a4 h4 a5 h5 a6 h6 a7 h7 a12 h12 a13 h13 a14 h14 a15 h15 a16 h16 a17 h17 hc x0 x1 x2 x3 x4 x5 x6 fh0 fh1 fh2 fh3 = k0_pay3 (F := Ideal) (k0_pay5 (F := Ideal) x0 (fh0) x1 (fh1) x2 (fh2) x3 (fh3)) x4 (k0_pay6 x6) (k0_pay7 x4) x5 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA8 (hc : cond0_0 i) : out0_A_8 c i a1 h1 a2 h2 a3 h3 a4 h4 a5 h5 a6 h6 a7 h7 a12 h12 a13 h13 a14 h14 a15 h15 a16 h16 a17 h17 hc x0 x1 x2 x3 x4 x5 x6 fh0 fh1 fh2 fh3 = k0_pay2 (F := Ideal) (k0_pay5 (F := Ideal) x0 (fh0) x1 (fh1) x2 (fh2) x3 (fh3)) x4 (k0_pay7 x4) (k0_pay4 (F := Ideal)) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB7 (hc : ¬cond0_0 i) : out0_B_7 c i a1 h1 a2 h2 a3 h3 a4 h4 a5 h5 a6 h6 a7 h7 a12 h12 a13 h13 a14 h14 a15 h15 a16 h16 a17 h17 hc x0 x1 x2 x3 x4 x5 x6 xo8 xs0 xs1 xs2 xs3 fh0 fh1 fh2 fh3 = k0_pay3 (F := Ideal) (k0_pay5 (F := Ideal) x0 xs0 x1 xs1 x2 xs2 x3 xs3) x4 (k0_pay6 x6) (k0_pay7 x4) x5 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB8 (hc : ¬cond0_0 i) : out0_B_8 c i a1 h1 a2 h2 a3 h3 a4 h4 a5 h5 a6 h6 a7 h7 a12 h12 a13 h13 a14 h14 a15 h15 a16 h16 a17 h17 hc x0 x1 x2 x3 x4 x5 x6 xo8 xs0 xs1 xs2 xs3 fh0 fh1 fh2 fh3 = k0_pay2 (F := Ideal) (k0_pay5 (F := Ideal) x0 xs0 x1 xs1 x2 xs2 x3 xs3) x4 (k0_pay7 x4) xo8 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA0 (hc : cond0_0 i) : sout0_A_0 c i a1 h1 a2 h2 a3 h3 a4 h4 a5 h5 a6 h6 a7 h7 a12 h12 a13 h13 a14 h14 a15 h15 a16 h16 a17 h17 hc x0 x1 x2 x3 x4 x5 x6 fh0 fh1 fh2 fh3 = fh0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA1 (hc : cond0_0 i) : sout0_A_1 c i a1 h1 a2 h2 a3 h3 a4 h4 a5 h5 a6 h6 a7 h7 a12 h12 a13 h13 a14 h14 a15 h15 a16 h16 a17 h17 hc x0 x1 x2 x3 x4 x5 x6 fh0 fh1 fh2 fh3 = fh1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA2 (hc : cond0_0 i) : sout0_A_2 c i a1 h1 a2 h2 a3 h3 a4 h4 a5 h5 a6 h6 a7 h7 a12 h12 a13 h13 a14 h14 a15 h15 a16 h16 a17 h17 hc x0 x1 x2 x3 x4 x5 x6 fh0 fh1 fh2 fh3 = fh2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA3 (hc : cond0_0 i) : sout0_A_3 c i a1 h1 a2 h2 a3 h3 a4 h4 a5 h5 a6 h6 a7 h7 a12 h12 a13 h13 a14 h14 a15 h15 a16 h16 a17 h17 hc x0 x1 x2 x3 x4 x5 x6 fh0 fh1 fh2 fh3 = fh3 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
end

end Cert.BackInEq

end
-- ==== Proof.BackInEq.lean ====
/- The gradient of the norm and of the input product of the mixer: what the kernel leaves tile by tile is what the reference computes. -/
module

public import proofs.«01_k».proof.Proof.BackInOut
public import proofs.«01_k».proof.Proof.Sig
public import proofs.«01_k».proof.Proof.Rms
public import proofs.«01_k».proof.Proof.Gen.Pre_finite_backin
public import proofs.«01_k».proof.Proof.Gen.RefBackInIdeal.Run
public import proofs.«01_k».proof.Proof.Gen.RefBackInIdeal.Read
public import proofs.«01_k».proof.Defs

@[expose] public section

set_option maxRecDepth 16384

noncomputable section

namespace Cert.BackInEq

open Idealize.ShloMosaic Idealize.ShloMosaic.TcCoe Idealize.ShloMosaic.StableHlo Idealize.SL.Sem Cert.Rows
open Idealize.ShloMosaic.Pipeline (Dat)
open Finset (range)
open Cert.RefBackInIdeal.Read

/-! One tile: each payload on a tile of the arguments is the tile of the reference's stage. -/

section pay
open Cert.BackInIdeal Cert.BackInIdeal.Gen
variable (n : ℕ) (h : n < 32) (x0 : S16384x1024.Idx → EReal) (x1 : S16384x1024.Idx → EReal) (x2 : S16384x2560.Idx → EReal) (x3 : S16384x3072.Idx → EReal) (x4 : S1024x7680.Idx → EReal) (x5 : S16384x1024.Idx → EReal) (x6 : S16384x1024.Idx → EReal) (x7 : S1024.Idx → EReal)

/-- A sum over all columns, one group of columns after the other. -/
theorem sum_groups (f : Fin 7680 → EReal) : ∑ k, f k = ∑ k : Fin 1024, f ⟨0 + k.val, Nat.lt_of_lt_of_le (Nat.add_lt_add_left k.isLt _) (by decide)⟩ + ∑ k : Fin 1024, f ⟨1024 + k.val, Nat.lt_of_lt_of_le (Nat.add_lt_add_left k.isLt _) (by decide)⟩
    + ∑ k : Fin 2560, f ⟨2048 + k.val, Nat.lt_of_lt_of_le (Nat.add_lt_add_left k.isLt _) (by decide)⟩ + ∑ k : Fin 3072, f ⟨4608 + k.val, Nat.lt_of_lt_of_le (Nat.add_lt_add_left k.isLt _) (by decide)⟩ := by
  refine (Fin.sum_univ_add (a := 4608) (b := 3072) f).trans (congrArg₂ (· + ·) ?_ rfl)
  refine (Fin.sum_univ_add (a := 2048) (b := 2560) _).trans (congrArg₂ (· + ·) ?_ rfl)
  refine (Fin.sum_univ_add (a := 1024) (b := 1024) _).trans (congrArg₂ (· + ·) ?_ rfl)
  exact Finset.sum_congr rfl fun k _ => congrArg f (Fin.ext (Nat.zero_add _).symm)
/-! The groups of columns of the joined cotangent. -/
theorem cat0 (i : Fin 16384) (k : Fin 1024) : (val_main_v4 (F := Ideal) x0 x1 x2 x3 (ix2 i ⟨0 + k.val, Nat.lt_of_lt_of_le (Nat.add_lt_add_left k.isLt _) (by decide)⟩) : EReal) = x0 (ix2 i k) := by
  pointwise [val_main_v4, val_main_v0]
theorem cat1 (i : Fin 16384) (k : Fin 1024) : (val_main_v4 (F := Ideal) x0 x1 x2 x3 (ix2 i ⟨1024 + k.val, Nat.lt_of_lt_of_le (Nat.add_lt_add_left k.isLt _) (by decide)⟩) : EReal) = x1 (ix2 i k) := by
  pointwise [val_main_v4, val_main_v1]
theorem cat2 (i : Fin 16384) (k : Fin 2560) : (val_main_v4 (F := Ideal) x0 x1 x2 x3 (ix2 i ⟨2048 + k.val, Nat.lt_of_lt_of_le (Nat.add_lt_add_left k.isLt _) (by decide)⟩) : EReal) = x2 (ix2 i k) := by
  pointwise [val_main_v4, val_main_v2]
  rw [dif_neg (by omega), dif_neg (by omega), dif_pos (by omega)]
  exact congrArg (fun z => x2 (ix2 i z)) (Fin.ext (by simp only []; omega))
theorem cat3 (i : Fin 16384) (k : Fin 3072) : (val_main_v4 (F := Ideal) x0 x1 x2 x3 (ix2 i ⟨4608 + k.val, Nat.lt_of_lt_of_le (Nat.add_lt_add_left k.isLt _) (by decide)⟩) : EReal) = x3 (ix2 i k) := by
  pointwise [val_main_v4, val_main_v3]
  rw [dif_neg (by omega), dif_neg (by omega), dif_neg (by omega)]
  exact congrArg (fun z => x3 (ix2 i z)) (Fin.ext (by simp only []; omega))
/-- The cotangent of the normed rows: the products of the four groups with the transposed weights. -/
theorem pay5 : ((k0_pay5 (F := Ideal) (tile n h x0) (cols 0 1024 (by decide) x4) (tile n h x1) (cols 1024 1024 (by decide) x4) (tile n h x2) (cols 2048 2560 (by decide) x4) (tile n h x3) (cols 4608 3072 (by decide) x4)) : S512x1024.Idx → EReal) = tile n h (val_main_v23 (F := Ideal) x0 x1 x2 x3 x4) := by
  funext y
  rw [tile]
  pointwise [k0_pay5, val_main_v23, val_main_v5]
  rw [sum_groups]
  exact congrArg₂ (· + ·) (congrArg₂ (· + ·) (congrArg₂ (· + ·)
    (Finset.sum_congr rfl fun k _ => congrArg₂ (· * ·) (cat0 x0 x1 x2 x3 _ k).symm rfl)
    (Finset.sum_congr rfl fun k _ => congrArg₂ (· * ·) (cat1 x0 x1 x2 x3 _ k).symm rfl))
    (Finset.sum_congr rfl fun k _ => congrArg₂ (· * ·) (cat2 x0 x1 x2 x3 _ k).symm rfl))
    (Finset.sum_congr rfl fun k _ => congrArg₂ (· * ·) (cat3 x0 x1 x2 x3 _ k).symm rfl)
/-- The norm's scale of each row. -/
theorem pay7 (y : S512x1.Idx) : (k0_pay7 (F := Ideal) (tile n h x5) y : EReal) = rrms fun q => x5 (ix2 (row n h (y 0)) q) := by
  pointwise [k0_pay7]
  rfl
/-- The reference's scale of each row. -/
theorem ref_scale (i : Fin 16384) : (val_main_v14 (F := Ideal) x5 (ix2 i 0) : EReal) = rrms fun q => x5 (ix2 i q) := by
  pointwise [val_main_v14, val_main_v13, val_main_v12, val_main_v11, val_main_v10, val_main_v9, val_main_v8, val_main_v7, val_main_cst, val_main_cst_0, val_main_cst_1]
  rfl
/-- The reference's gradient of the rows, with the cotangent of the scaled rows as it stands. -/
theorem ref_dx (i : Fin 16384) (k : Fin 1024) : (val_main_v43 (F := Ideal) x0 x1 x2 x3 x4 x5 x6 x7 (ix2 i k) : EReal)
    = x6 (ix2 i k) + val_main_v28 (F := Ideal) x0 x1 x2 x3 x4 x7 (ix2 i k) * rrms (fun q => x5 (ix2 i q))
      + x5 (ix2 i k) * coeff (fun q => x5 (ix2 i q)) (fun q => val_main_v28 (F := Ideal) x0 x1 x2 x3 x4 x7 (ix2 i q))
      + coeff (fun q => x5 (ix2 i q)) (fun q => val_main_v28 (F := Ideal) x0 x1 x2 x3 x4 x7 (ix2 i q)) * x5 (ix2 i k) := by
  pointwise [val_main_v43, val_main_v42, val_main_v41, val_main_v40, val_main_v39, val_main_v38, val_main_v37, val_main_v36, val_main_v35, val_main_v34, val_main_v33, val_main_v32, val_main_v31, val_main_v30, val_main_v29, val_main_v17, val_main_v16, val_main_v15, val_main_v14, val_main_v13, val_main_v12, val_main_v11, val_main_v10, val_main_v9, val_main_v8, val_main_v7, val_main_cst, val_main_cst_0, val_main_cst_1, val_main_cst_2, val_main_cst_4, val_main_cst_5, val_main_cst_6]
  simp only [Finset.sum_const, Finset.card_univ, Fintype.card_fin, one_smul]
  rfl
/-- The gradient of the rows. -/
theorem pay3 (hx : ∀ j, Re (x5 j)) (hu : ∀ j, Re (val_main_v28 (F := Ideal) x0 x1 x2 x3 x4 x7 j)) :
    (k0_pay3 (F := Ideal) (k0_pay5 (F := Ideal) (tile n h x0) (cols 0 1024 (by decide) x4) (tile n h x1) (cols 1024 1024 (by decide) x4) (tile n h x2) (cols 2048 2560 (by decide) x4) (tile n h x3) (cols 4608 3072 (by decide) x4)) (tile n h x5) (k0_pay6 (gain x7)) (k0_pay7 (tile n h x5)) (tile n h x6) : S512x1024.Idx → EReal) = tile n h (val_main_v43 (F := Ideal) x0 x1 x2 x3 x4 x5 x6 x7) := by
  funext y
  refine Eq.trans ?_ ((rms_bwd_add (x6 _) (fun q => x5 (ix2 (row n h (y 0)) q)) (fun q => val_main_v28 (F := Ideal) x0 x1 x2 x3 x4 x7 (ix2 (row n h (y 0)) q))
    (fun q => hx _) (fun q => hu _) (y 1)).trans (ref_dx x0 x1 x2 x3 x4 x5 x6 x7 (row n h (y 0)) (y 1)).symm)
  pointwise [k0_pay3, k0_pay1, k0_pay6, val_main_v28, val_main_v27, val_main_v6]
  simp only [pay5, pay7]
  rfl
/-- One tile's part of the gain's gradient. -/
theorem acc (a : S1x1024.Idx → EReal) (y : S1x1024.Idx) : (k0_pay2 (F := Ideal) (k0_pay5 (F := Ideal) (tile n h x0) (cols 0 1024 (by decide) x4) (tile n h x1) (cols 1024 1024 (by decide) x4) (tile n h x2) (cols 2048 2560 (by decide) x4) (tile n h x3) (cols 4608 3072 (by decide) x4)) (tile n h x5) (k0_pay7 (tile n h x5)) a y : EReal)
    = a y + ∑ r : Fin 512, ent (val_main_v24 (F := Ideal) x0 x1 x2 x3 x4 x5) (512 * n + r.val) (y 1).val := by
  pointwise [k0_pay2, k0_pay1]
  simp only [pay5, pay7]
  refine congrArg₂ (· + ·) (by rfl) (Finset.sum_congr rfl fun r _ => Eq.trans ?_ (ent_of _ (ix2 (row n h r) (y 1)) _ _ rfl rfl))
  pointwise [val_main_v24, val_main_v19, val_main_v18]
  rw [ref_scale]
  exact mul_comm _ _
/-- The cotangent of the scaled rows is real. -/
theorem re_u (h0 : ∀ j, Re (x0 j)) (h1 : ∀ j, Re (x1 j)) (h2 : ∀ j, Re (x2 j)) (h3 : ∀ j, Re (x3 j)) (h4 : ∀ j, Re (x4 j)) (h7 : ∀ j, Re (x7 j)) (j : S16384x1024.Idx) : Re (val_main_v28 (F := Ideal) x0 x1 x2 x3 x4 x7 j) := by
  pointwise [val_main_v28, val_main_v27, val_main_v6, val_main_v23, val_main_v5]
  rw [sum_groups]
  exact ((((re_sum _ _ fun k => (Re.of_eq (cat0 x0 x1 x2 x3 _ k) (h0 _)).mul (h4 _)).add (re_sum _ _ fun k => (Re.of_eq (cat1 x0 x1 x2 x3 _ k) (h1 _)).mul (h4 _))).add (re_sum _ _ fun k => (Re.of_eq (cat2 x0 x1 x2 x3 _ k) (h2 _)).mul (h4 _))).add
    (re_sum _ _ fun k => (Re.of_eq (cat3 x0 x1 x2 x3 _ k) (h3 _)).mul (h4 _))).mul (h7 _)

/-- The sum over the rows of the first `n + 1` tiles. -/
def accv (n : ℕ) : S1x1024.Idx → EReal := fun j => ∑ s ∈ range (n + 1), ∑ r : Fin 512, ent (val_main_v24 (F := Ideal) x0 x1 x2 x3 x4 x5) (512 * s + r.val) (j 1).val
theorem accA (h : 0 < 32) : (k0_pay2 (F := Ideal) (k0_pay5 (F := Ideal) (tile 0 h x0) (cols 0 1024 (by decide) x4) (tile 0 h x1) (cols 1024 1024 (by decide) x4) (tile 0 h x2) (cols 2048 2560 (by decide) x4) (tile 0 h x3) (cols 4608 3072 (by decide) x4)) (tile 0 h x5) (k0_pay7 (tile 0 h x5)) (k0_pay4 (F := Ideal)) : S1x1024.Idx → EReal) = accv x0 x1 x2 x3 x4 x5 0 := by
  funext y
  rw [acc, show (k0_pay4 (F := Ideal) y : EReal) = 0 by pointwise [k0_pay4], zero_add, accv, Finset.sum_range_one]
theorem accB (h : n + 1 < 32) : (k0_pay2 (F := Ideal) (k0_pay5 (F := Ideal) (tile (n + 1) h x0) (cols 0 1024 (by decide) x4) (tile (n + 1) h x1) (cols 1024 1024 (by decide) x4) (tile (n + 1) h x2) (cols 2048 2560 (by decide) x4) (tile (n + 1) h x3) (cols 4608 3072 (by decide) x4)) (tile (n + 1) h x5) (k0_pay7 (tile (n + 1) h x5)) (accv x0 x1 x2 x3 x4 x5 n) : S1x1024.Idx → EReal) = accv x0 x1 x2 x3 x4 x5 (n + 1) := by
  funext y
  rw [acc]
  exact (Finset.sum_range_succ _ _).symm
theorem acc_all (y : S1x1024.Idx) : accv x0 x1 x2 x3 x4 x5 31 y = val_main_v26 (F := Ideal) x0 x1 x2 x3 x4 x5 y := by
  refine (sum_tiles 32 512 (fun r => ent (val_main_v24 (F := Ideal) x0 x1 x2 x3 x4 x5) r (y 1).val)).trans ?_
  pointwise [val_main_v26, val_main_v25, val_main_cst_3]
  exact Finset.sum_congr rfl fun r _ => (ent_of _ (ix2 r (y 1)) _ _ rfl rfl).symm
end pay

section kernel
open Cert.BackInIdeal Cert.BackInIdeal.Gen Cert.BackInIdeal.Value
variable (m : (ℓ : Loc nD τ sig) → Buf (Elt Ideal) ℓ) (c : Dev nD)

/-- Argument 0. -/
abbrev A0 : S16384x1024.Idx → EReal := m ((c : Thread nD τ).loc main_arg0)
/-- Argument 1. -/
abbrev A1 : S16384x1024.Idx → EReal := m ((c : Thread nD τ).loc main_arg1)
/-- Argument 2. -/
abbrev A2 : S16384x2560.Idx → EReal := m ((c : Thread nD τ).loc main_arg2)
/-- Argument 3. -/
abbrev A3 : S16384x3072.Idx → EReal := m ((c : Thread nD τ).loc main_arg3)
/-- Argument 4. -/
abbrev A4 : S1024x7680.Idx → EReal := m ((c : Thread nD τ).loc main_arg4)
/-- Argument 5. -/
abbrev A5 : S16384x1024.Idx → EReal := m ((c : Thread nD τ).loc main_arg5)
/-- Argument 6. -/
abbrev A6 : S16384x1024.Idx → EReal := m ((c : Thread nD τ).loc main_arg6)
/-- Argument 7. -/
abbrev A7 : S1024.Idx → EReal := m ((c : Thread nD τ).loc main_arg7)

theorem lt (t : Fin cfg0.N) : t.val < 32 := lt_of_lt_of_eq t.isLt N_0
theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = t.val ∧ win0_7.index t 1 = 0 := by decide +kernel

theorem blk0 (t : Fin cfg0.N) : (iblk m c 0 t : S512x1024.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
theorem blk1 (t : Fin cfg0.N) : (iblk m c 1 t : S512x1024.Idx → EReal) = tile t.val (lt t) (A1 m c) := by
  funext y
  blk_simp [iblk]
  rw [V_main_arg1]
  refine tile_of _ _ _ _ _ ?_ ?_ <;> blk_simp [ix_1 t] <;> simp only [Nat.zero_mul, Nat.zero_add, Nat.mul_comm _ 512]
theorem blk2 (t : Fin cfg0.N) : (iblk m c 2 t : S512x2560.Idx → EReal) = tile t.val (lt t) (A2 m c) := by
  funext y
  blk_simp [iblk]
  rw [V_main_arg2]
  refine tile_of _ _ _ _ _ ?_ ?_ <;> blk_simp [ix_2 t] <;> simp only [Nat.zero_mul, Nat.zero_add, Nat.mul_comm _ 512]
theorem blk3 (t : Fin cfg0.N) : (iblk m c 3 t : S512x3072.Idx → EReal) = tile t.val (lt t) (A3 m c) := by
  funext y
  blk_simp [iblk]
  rw [V_main_arg3]
  refine tile_of _ _ _ _ _ ?_ ?_ <;> blk_simp [ix_3 t] <;> simp only [Nat.zero_mul, Nat.zero_add, Nat.mul_comm _ 512]
theorem blk4 (t : Fin cfg0.N) : (iblk m c 4 t : S512x1024.Idx → EReal) = tile t.val (lt t) (A5 m c) := by
  funext y
  blk_simp [iblk]
  rw [V_main_arg5]
  refine tile_of _ _ _ _ _ ?_ ?_ <;> blk_simp [ix_4 t] <;> simp only [Nat.zero_mul, Nat.zero_add, Nat.mul_comm _ 512]
theorem blk5 (t : Fin cfg0.N) : (iblk m c 5 t : S512x1024.Idx → EReal) = tile t.val (lt t) (A6 m c) := by
  funext y
  blk_simp [iblk]
  rw [V_main_arg6]
  refine tile_of _ _ _ _ _ ?_ ?_ <;> blk_simp [ix_5 t] <;> simp only [Nat.zero_mul, Nat.zero_add, Nat.mul_comm _ 512]
theorem blk6 (t : Fin cfg0.N) : (iblk m c 6 t : S1x1024.Idx → EReal) = gain (A7 m c) := by
  funext y
  blk_simp [iblk]
  show V m c main_v4 _ = _
  unfold_abbrev_sides
  after_results
  pointwise []
  refine congrArg (fun z => A7 m c (ix1 z)) (Fin.ext ?_)
  blk_simp [ix_6 t]
theorem host0 : (V m c main_v0 : S1024x1024.Idx → EReal) = (cols 0 1024 (by decide) (A4 m c)) := by
  funext y
  unfold_abbrev_sides
  after_results
  pointwise []
  simp only [cols, Nat.zero_add]
theorem host1 : (V m c main_v1 : S1024x1024.Idx → EReal) = (cols 1024 1024 (by decide) (A4 m c)) := by
  funext y
  unfold_abbrev_sides
  after_results
  pointwise []
  rfl
theorem host2 : (V m c main_v2 : S1024x2560.Idx → EReal) = (cols 2048 2560 (by decide) (A4 m c)) := by
  funext y
  unfold_abbrev_sides
  after_results
  pointwise []
  rfl
theorem host3 : (V m c main_v3 : S1024x3072.Idx → EReal) = (cols 4608 3072 (by decide) (A4 m c)) := by
  funext y
  unfold_abbrev_sides
  after_results
  pointwise []
  rfl

/-- What a point leaves in the outputs and in the copies of the weights. -/
theorem holds
    (hx : ∀ j, Re (A5 m c j)) (hu : ∀ j, Re (val_main_v28 (F := Ideal) (A0 m c) (A1 m c) (A2 m c) (A3 m c) (A4 m c) (A7 m c) j)) : ∀ (n : ℕ) (h : n < cfg0.N), outsAt0 m c n h =
    (tile n (lt ⟨n, h⟩) (val_main_v43 (F := Ideal) (A0 m c) (A1 m c) (A2 m c) (A3 m c) (A4 m c) (A5 m c) (A6 m c) (A7 m c)),
      accv (A0 m c) (A1 m c) (A2 m c) (A3 m c) (A4 m c) (A5 m c) n,
      (cols 0 1024 (by decide) (A4 m c)),
      (cols 1024 1024 (by decide) (A4 m c)),
      (cols 2048 2560 (by decide) (A4 m c)),
      (cols 4608 3072 (by decide) (A4 m c)))
  | 0, h => (outsAt0_A m c ⟨0, h⟩ rfl).trans (by
    rw [outA7, outA8, soutA0, soutA1, soutA2, soutA3, blk0, blk1, blk2, blk3, blk4, blk5, blk6, host0, host1, host2, host3]
    exact congrArg₂ Prod.mk (pay3 (hx := hx) (hu := hu) ..) (congrArg₂ Prod.mk (accA ..) (rfl)))
  | n + 1, h => by
    have hN : n + 1 < 32 := lt_of_lt_of_eq h N_0
    refine (outsAt0_B m c ⟨n + 1, h⟩ (by dsimp only; omega)).trans ?_
    rw [outB7, outB8, blk0, blk1, blk2, blk3, blk4, blk5, blk6]
    have a0 : (outsAt0 m c (n + 1 - 1) (Nat.lt_of_le_of_lt (Nat.sub_le _ _) h)).2.1 = accv (A0 m c) (A1 m c) (A2 m c) (A3 m c) (A4 m c) (A5 m c) n :=
      congrArg (·.2.1) (holds hx hu n (Nat.lt_of_succ_lt h))
    have w0 : (outsAt0 m c (n + 1 - 1) (Nat.lt_of_le_of_lt (Nat.sub_le _ _) h)).2.2.1 = (cols 0 1024 (by decide) (A4 m c)) :=
      congrArg (·.2.2.1) (holds hx hu n (Nat.lt_of_succ_lt h))
    have w1 : (outsAt0 m c (n + 1 - 1) (Nat.lt_of_le_of_lt (Nat.sub_le _ _) h)).2.2.2.1 = (cols 1024 1024 (by decide) (A4 m c)) :=
      congrArg (·.2.2.2.1) (holds hx hu n (Nat.lt_of_succ_lt h))
    have w2 : (outsAt0 m c (n + 1 - 1) (Nat.lt_of_le_of_lt (Nat.sub_le _ _) h)).2.2.2.2.1 = (cols 2048 2560 (by decide) (A4 m c)) :=
      congrArg (·.2.2.2.2.1) (holds hx hu n (Nat.lt_of_succ_lt h))
    have w3 : (outsAt0 m c (n + 1 - 1) (Nat.lt_of_le_of_lt (Nat.sub_le _ _) h)).2.2.2.2.2 = (cols 4608 3072 (by decide) (A4 m c)) :=
      congrArg (·.2.2.2.2.2) (holds hx hu n (Nat.lt_of_succ_lt h))
    rw [a0, w0, w1, w2, w3]
    exact congrArg₂ Prod.mk (pay3 (hx := hx) (hu := hu) ..) (congrArg₂ Prod.mk (accB ..) (rfl))

/-- The last grid point. -/
def tLast : Fin cfg0.N := ⟨31, lt_of_lt_of_eq (by decide) N_0.symm⟩
/-- The result of window 7 is the reference's. -/
theorem arr7
    (hx : ∀ j, Re (A5 m c j)) (hu : ∀ j, Re (val_main_v28 (F := Ideal) (A0 m c) (A1 m c) (A2 m c) (A3 m c) (A4 m c) (A7 m c) j)) : (dats m 0 c).arrAt 7 cfg0.N = val_main_v43 (F := Ideal) (A0 m c) (A1 m c) (A2 m c) (A3 m c) (A4 m c) (A5 m c) (A6 m c) (A7 m c) := by
  refine (dats m 0 c).arrAt_eq_of_covers 7 _ (by decide +kernel) fun t hf y => ?_
  blk_simp
  rw [after0_7, holds m c hx hu]
  refine (tile_of t.val (lt t) (val_main_v43 (F := Ideal) (A0 m c) (A1 m c) (A2 m c) (A3 m c) (A4 m c) (A5 m c) (A6 m c) (A7 m c)) y _ ?_ ?_).symm <;> blk_simp [ix_7 t] <;> simp only [Nat.zero_mul, Nat.zero_add, Nat.mul_comm _ 512]
/-- The result of window 8 is the reference's. -/
theorem arr8
    (hx : ∀ j, Re (A5 m c j)) (hu : ∀ j, Re (val_main_v28 (F := Ideal) (A0 m c) (A1 m c) (A2 m c) (A3 m c) (A4 m c) (A7 m c) j)) : (dats m 0 c).arrAt 8 cfg0.N = val_main_v26 (F := Ideal) (A0 m c) (A1 m c) (A2 m c) (A3 m c) (A4 m c) (A5 m c) := by
  refine (dats m 0 c).arrAt_eq_of_after_last 8 tLast (by decide +kernel) _ fun j => ?_
  blk_simp
  rw [after0_8, holds m c hx hu]
  exact acc_all ..
end kernel

section claims
open Cert.BackInIdeal

theorem algebraic : Cert.algebraic_BackInIdeal_RefBackInIdeal_pre_finite_backin (hBackInIdeal := Cert.BackInIdeal.Gen.facts) (hRefBackInIdeal := Cert.RefBackInIdeal.Gen.facts) (hPre_finite_backin := Cert.Pre_finite_backin.Gen.facts) := by
  intro m ρ m' ρ' hpre hag
  have f0 (c : Dev nD) (j) : Re (A0 m c j) := re_of_finite _ (congrFun (hpre c).1 j)
  have f1 (c : Dev nD) (j) : Re (A1 m c j) := re_of_finite _ (congrFun (hpre c).2.1 j)
  have f2 (c : Dev nD) (j) : Re (A2 m c j) := re_of_finite _ (congrFun (hpre c).2.2.1 j)
  have f3 (c : Dev nD) (j) : Re (A3 m c j) := re_of_finite _ (congrFun (hpre c).2.2.2.1 j)
  have f4 (c : Dev nD) (j) : Re (A4 m c j) := re_of_finite _ (congrFun (hpre c).2.2.2.2.1 j)
  have f5 (c : Dev nD) (j) : Re (A5 m c j) := re_of_finite _ (congrFun (hpre c).2.2.2.2.2.1 j)
  have f7 (c : Dev nD) (j) : Re (A7 m c j) := re_of_finite _ (congrFun (hpre c).2.2.2.2.2.2 j)
  refine ⟨fun c => val_main_v43 (F := Ideal) (A0 m c) (A1 m c) (A2 m c) (A3 m c) (A4 m c) (A5 m c) (A6 m c) (A7 m c), fun c => val_main_v26 (F := Ideal) (A0 m c) (A1 m c) (A2 m c) (A3 m c) (A4 m c) (A5 m c), ?_, ?_⟩
  · refine (θ_run Cert.BackInIdeal.defs _ _).mono (fun r h c => ?_) (Cert.BackInIdeal.Value.run_blocks m ρ)
    obtain ⟨k0, k1, hk⟩ := h c
    have hx := (f5 c)
    have hu := (fun j => re_u (A0 m c) (A1 m c) (A2 m c) (A3 m c) (A4 m c) (A7 m c) (f0 c) (f1 c) (f2 c) (f3 c) (f4 c) (f7 c) j)
    exact ⟨k0.trans (arr7 m c hx hu), k1.trans (arr8 m c hx hu), hk⟩
  · refine (θ_run Cert.RefBackInIdeal.defs _ _).mono (fun r h c => ?_) (Cert.RefBackInIdeal.Value.run (F := Ideal) m' ρ')
    obtain ⟨k0, k1, hk⟩ := h c
    obtain ⟨a0, a1, a2, a3, a4, a5, a6, a7⟩ := hag c
    exact ⟨k0.trans ((val_main_v43_eq (F := Ideal) ..).trans (by rw [a0, a1, a2, a3, a4, a5, a6, a7])),
      k1.trans ((val_main_v26_eq (F := Ideal) ..).trans (by rw [a0, a1, a2, a3, a4, a5])), hk⟩
end claims

/-- The reference leaves its arguments as they were, and no counter behind. -/
theorem frame_reference : Cert.quiescent_RefBackInIdeal (hRefBackInIdeal := Cert.RefBackInIdeal.Gen.facts) := fun m ρ _ =>
  (θ_run Cert.RefBackInIdeal.defs _ _).mono (fun r h => ⟨fun c => (h c).2.2,
      Idealize.ShloMosaic.sem_eq_zero_of_no_sems (by decide) r.2⟩)
    (Cert.RefBackInIdeal.Value.run (F := Ideal) m ρ)

end Cert.BackInEq

end
-- ==== Proof.PostOut.lean ====
/- What each case of the body leaves in each output block: the gradient of the down product and of its norm in a feed-forward sublayer. -/
module

public import proofs.«01_k».proof.Proof.Rows
public import proofs.«01_k».proof.Proof.Gen.PostIdeal.Value

@[expose] public section

set_option maxRecDepth 16384

noncomputable section

namespace Cert.PostEq

open Idealize.ShloMosaic Idealize.ShloMosaic.TcCoe Idealize.ShloMosaic.StableHlo Idealize.SL.Sem Cert.Rows
open Idealize.ShloMosaic.Pipeline (Dat)
open Cert.PostIdeal Cert.PostIdeal.Gen Cert.PostIdeal.Value

section
variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S512x2816 .bf16) (h3 : a3.IsWhole)
  (a4 : Memref sig .tc .vmem S512x2816 .bf16) (h4 : a4.IsWhole)
  (a5 : Memref sig .tc .vmem S1x1024 .f32) (h5 : a5.IsWhole)
  (a7 : Memref sig .tc .vmem S512x2816 .bf16) (h7 : a7.IsWhole)
  (a8 : Memref sig .tc .vmem S512x2816 .bf16) (h8 : a8.IsWhole)
  (a9 : Memref sig .tc .vmem S512x1024 .bf16) (h9 : a9.IsWhole)
  (a10 : Memref sig .tc .vmem S1x1024 .f32) (h10 : a10.IsWhole)
  (a11 : Memref sig .tc .vmem S2816x1024 .bf16) (h11 : a11.IsWhole)
  (x0 : Vec Ideal S512x1024 .f32)
  (x1 : Vec Ideal S512x1024 .f32)
  (x2 : Vec Ideal S512x2816 .bf16)
  (x3 : Vec Ideal S512x2816 .bf16)
  (x4 : Vec Ideal S1x1024 .f32)
  (fh0 : HbBuf0 (F := Ideal) c hbM0_0)
  (xo8 : Vec Ideal S1x1024 .f32)
  (xs0 : Vec Ideal S2816x1024 .bf16)
theorem outA5 (hc : cond0_0 i) : out0_A_5 c i a1 h1 a2 h2 a3 h3 a4 h4 a5 h5 a7 h7 a8 h8 a9 h9 a10 h10 a11 h11 hc x0 x1 x2 x3 x4 fh0 = k0_pay5 (F := Ideal) (k0_pay12 (F := Ideal) x0 x1 x4) (fh0) x2 x3 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA6 (hc : cond0_0 i) : out0_A_6 c i a1 h1 a2 h2 a3 h3 a4 h4 a5 h5 a7 h7 a8 h8 a9 h9 a10 h10 a11 h11 hc x0 x1 x2 x3 x4 fh0 = k0_pay6 (F := Ideal) (k0_pay12 (F := Ideal) x0 x1 x4) (fh0) x2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA7 (hc : cond0_0 i) : out0_A_7 c i a1 h1 a2 h2 a3 h3 a4 h4 a5 h5 a7 h7 a8 h8 a9 h9 a10 h10 a11 h11 hc x0 x1 x2 x3 x4 fh0 = k0_pay1 (F := Ideal) (k0_pay12 (F := Ideal) x0 x1 x4) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA8 (hc : cond0_0 i) : out0_A_8 c i a1 h1 a2 h2 a3 h3 a4 h4 a5 h5 a7 h7 a8 h8 a9 h9 a10 h10 a11 h11 hc x0 x1 x2 x3 x4 fh0 = k0_pay13 (F := Ideal) x0 x1 (k0_pay7 (F := Ideal)) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB5 (hc : ¬cond0_0 i) : out0_B_5 c i a1 h1 a2 h2 a3 h3 a4 h4 a5 h5 a7 h7 a8 h8 a9 h9 a10 h10 a11 h11 hc x0 x1 x2 x3 x4 xo8 xs0 fh0 = k0_pay5 (F := Ideal) (k0_pay12 (F := Ideal) x0 x1 x4) xs0 x2 x3 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB6 (hc : ¬cond0_0 i) : out0_B_6 c i a1 h1 a2 h2 a3 h3 a4 h4 a5 h5 a7 h7 a8 h8 a9 h9 a10 h10 a11 h11 hc x0 x1 x2 x3 x4 xo8 xs0 fh0 = k0_pay6 (F := Ideal) (k0_pay12 (F := Ideal) x0 x1 x4) xs0 x2 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB7 (hc : ¬cond0_0 i) : out0_B_7 c i a1 h1 a2 h2 a3 h3 a4 h4 a5 h5 a7 h7 a8 h8 a9 h9 a10 h10 a11 h11 hc x0 x1 x2 x3 x4 xo8 xs0 fh0 = k0_pay1 (F := Ideal) (k0_pay12 (F := Ideal) x0 x1 x4) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB8 (hc : ¬cond0_0 i) : out0_B_8 c i a1 h1 a2 h2 a3 h3 a4 h4 a5 h5 a7 h7 a8 h8 a9 h9 a10 h10 a11 h11 hc x0 x1 x2 x3 x4 xo8 xs0 fh0 = k0_pay13 (F := Ideal) x0 x1 xo8 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA0 (hc : cond0_0 i) : sout0_A_0 c i a1 h1 a2 h2 a3 h3 a4 h4 a5 h5 a7 h7 a8 h8 a9 h9 a10 h10 a11 h11 hc x0 x1 x2 x3 x4 fh0 = fh0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
end

end Cert.PostEq

end
-- ==== Proof.PostEq.lean ====
/- The gradient of the down product and of its norm in a feed-forward sublayer: what the kernel leaves tile by tile is what the reference computes. -/
module

public import proofs.«01_k».proof.Proof.PostOut
public import proofs.«01_k».proof.Proof.Sig
public import proofs.«01_k».proof.Proof.Rms
public import proofs.«01_k».proof.Proof.Gen.Pre_finite_post
public import proofs.«01_k».proof.Proof.Gen.RefPostIdeal.Run
public import proofs.«01_k».proof.Proof.Gen.RefPostIdeal.Read
public import proofs.«01_k».proof.Defs

@[expose] public section

set_option maxRecDepth 16384

noncomputable section

namespace Cert.PostEq

open Idealize.ShloMosaic Idealize.ShloMosaic.TcCoe Idealize.ShloMosaic.StableHlo Idealize.SL.Sem Cert.Rows
open Idealize.ShloMosaic.Pipeline (Dat)
open Finset (range)
open Cert.RefPostIdeal.Read

/-! One tile: each payload on a tile of the arguments is the tile of the reference's stage. -/

section pay
open Cert.PostIdeal Cert.PostIdeal.Gen
variable (n : ℕ) (h : n < 32) (x0 : S16384x1024.Idx → EReal) (x1 : S16384x2816.Idx → EReal) (x2 : S16384x2816.Idx → EReal) (x3 : S1024.Idx → EReal) (x4 : S2816x1024.Idx → EReal)

/-- The norm's scale of each row. -/
theorem pay10 (y : S512x1.Idx) : (k0_pay10 (F := Ideal) (tile n h (val_main_v5 (F := Ideal) x1 x2 x4)) y : EReal) = rrms fun q => val_main_v5 (F := Ideal) x1 x2 x4 (ix2 (row n h (y 0)) q) := by
  pointwise [k0_pay10, k0_pay9]
  rfl
/-- The normed rows. -/
theorem pay11 (y : S512x1024.Idx) : (k0_pay11 (F := Ideal) (tile n h (val_main_v5 (F := Ideal) x1 x2 x4)) y : EReal) = val_main_v5 (F := Ideal) x1 x2 x4 (ix2 (row n h (y 0)) (y 1)) * rrms fun q => val_main_v5 (F := Ideal) x1 x2 x4 (ix2 (row n h (y 0)) q) := by
  pointwise [k0_pay11, k0_pay9]
  rw [pay10]
  rfl
/-- The reference's scale of each row. -/
theorem ref_scale (i : Fin 16384) : (val_main_v14 (F := Ideal) x1 x2 x4 (ix2 i 0) : EReal) = rrms fun q => val_main_v5 (F := Ideal) x1 x2 x4 (ix2 i q) := by
  pointwise [val_main_v14, val_main_v13, val_main_v12, val_main_v11, val_main_v10, val_main_v9, val_main_v8, val_main_v7, val_main_cst, val_main_cst_0, val_main_cst_1]
  rfl
/-- The reference's gradient of the normed rows, with the cotangent of the scaled rows as it stands. -/
theorem ref_dx (i : Fin 16384) (k : Fin 1024) : (val_main_v44 (F := Ideal) x0 x1 x2 x3 x4 (ix2 i k) : EReal)
    = val_main_v30 (F := Ideal) x0 x3 (ix2 i k) * rrms (fun q => val_main_v5 (F := Ideal) x1 x2 x4 (ix2 i q))
      + val_main_v5 (F := Ideal) x1 x2 x4 (ix2 i k) * coeff (fun q => val_main_v5 (F := Ideal) x1 x2 x4 (ix2 i q)) (fun q => val_main_v30 (F := Ideal) x0 x3 (ix2 i q))
      + coeff (fun q => val_main_v5 (F := Ideal) x1 x2 x4 (ix2 i q)) (fun q => val_main_v30 (F := Ideal) x0 x3 (ix2 i q)) * val_main_v5 (F := Ideal) x1 x2 x4 (ix2 i k) := by
  pointwise [val_main_v44, val_main_v43, val_main_v42, val_main_v41, val_main_v40, val_main_v39, val_main_v38, val_main_v37, val_main_v36, val_main_v35, val_main_v34, val_main_v33, val_main_v32, val_main_v31, val_main_v17, val_main_v16, val_main_v15, val_main_v14, val_main_v13, val_main_v12, val_main_v11, val_main_v10, val_main_v9, val_main_v8, val_main_v7, val_main_cst, val_main_cst_0, val_main_cst_1, val_main_cst_2, val_main_cst_6, val_main_cst_7, val_main_cst_8]
  simp only [Finset.sum_const, Finset.card_univ, Fintype.card_fin, one_smul]
  rfl
/-- The gradient of the normed rows. -/
theorem pay12 (hx : ∀ j, Re (val_main_v5 (F := Ideal) x1 x2 x4 j)) (hu : ∀ j, Re (val_main_v30 (F := Ideal) x0 x3 j)) : ((k0_pay12 (F := Ideal) (tile n h x0) (tile n h (val_main_v5 (F := Ideal) x1 x2 x4)) (gain x3)) : S512x1024.Idx → EReal) = tile n h (val_main_v44 (F := Ideal) x0 x1 x2 x3 x4) := by
  funext y
  refine Eq.trans ?_ ((rms_bwd (fun q => val_main_v5 (F := Ideal) x1 x2 x4 (ix2 (row n h (y 0)) q)) (fun q => val_main_v30 (F := Ideal) x0 x3 (ix2 (row n h (y 0)) q))
    (fun q => hx _) (fun q => hu _) (y 1)).trans (ref_dx x0 x1 x2 x3 x4 (row n h (y 0)) (y 1)).symm)
  pointwise [k0_pay12, k0_pay8, val_main_v30, val_main_v29, val_main_v25, val_main_v24, val_main_v6, val_main_cst_4]
  simp only [pay10, pay11]
  rfl
/-- The gradient of the normed rows is real. -/
theorem re_df (hx : ∀ j, Re (val_main_v5 (F := Ideal) x1 x2 x4 j)) (hu : ∀ j, Re (val_main_v30 (F := Ideal) x0 x3 j)) (j : S16384x1024.Idx) : Re (val_main_v44 (F := Ideal) x0 x1 x2 x3 x4 j) := by
  have hj : j = ix2 (j 0) (j 1) := funext fun a => by fin_cases a <;> rfl
  rw [hj]
  refine Re.of_eq (ref_dx x0 x1 x2 x3 x4 (j 0) (j 1)) ?_
  have hc := re_coeff (fun q => val_main_v5 (F := Ideal) x1 x2 x4 (ix2 (j 0) q)) (fun q => val_main_v30 (F := Ideal) x0 x3 (ix2 (j 0) q)) (fun q => hx _) (fun q => hu _)
  exact (((hu _).mul (re_rrms _ fun q => hx _)).add ((hx _).mul hc)).add (hc.mul (hx _))
/-- The gradient of the normed rows, in the narrow format. -/
theorem pay1 (hx : ∀ j, Re (val_main_v5 (F := Ideal) x1 x2 x4 j)) (hu : ∀ j, Re (val_main_v30 (F := Ideal) x0 x3 j)) : (k0_pay1 (F := Ideal) (k0_pay12 (F := Ideal) (tile n h x0) (tile n h (val_main_v5 (F := Ideal) x1 x2 x4)) (gain x3)) : S512x1024.Idx → EReal) = tile n h (val_main_v51 (F := Ideal) x0 x1 x2 x3 x4) := by
  funext y
  rw [tile]
  pointwise [k0_pay1, val_main_v51]
  rw [pay12 (hx := hx) (hu := hu)]
  rfl
/-- Its product with the transposed weights. -/
theorem pay2 (hx : ∀ j, Re (val_main_v5 (F := Ideal) x1 x2 x4 j)) (hu : ∀ j, Re (val_main_v30 (F := Ideal) x0 x3 j)) : (k0_pay2 (F := Ideal) (k0_pay12 (F := Ideal) (tile n h x0) (tile n h (val_main_v5 (F := Ideal) x1 x2 x4)) (gain x3)) x4 : S512x2816.Idx → EReal) = tile n h (val_main_v45 (F := Ideal) x0 x1 x2 x3 x4) := by
  funext y
  rw [tile]
  pointwise [k0_pay2, k0_pay1, val_main_v45, val_main_v2]
  rw [pay12 (hx := hx) (hu := hu)]
  rfl
/-- The logistic function of the gate. -/
theorem pay4  : (k0_pay4 (F := Ideal) (tile n h x1) : S512x2816.Idx → EReal) = tile n h (val_main_v3_2 (F := Ideal) x1) := by
  funext y
  rw [tile]
  pointwise [k0_pay4, k0_pay3, val_main_v3_2, val_main_call0_v4, val_main_call0_v3, val_main_call0_v2, val_main_call0_v1, val_main_call0_v0, val_main_call0_cst, val_main_call0_cst_0, val_main_v0]
  rw [half_word, sigmoid_eq]
  rfl
/-- The logistic function of a real gate is real. -/
theorem re_gate (ha : ∀ j, Re (x1 j)) (j : S16384x2816.Idx) : Re (val_main_v3_2 (F := Ideal) x1 j) := by
  pointwise [val_main_v3_2, val_main_call0_v4, val_main_call0_v3, val_main_call0_v2, val_main_call0_v1, val_main_call0_v0, val_main_call0_cst, val_main_call0_cst_0, val_main_v0]
  exact re_sigmoid (ha _)
/-- The product with the transposed weights is real. -/
theorem re_ds (hx : ∀ j, Re (val_main_v5 (F := Ideal) x1 x2 x4 j)) (hu : ∀ j, Re (val_main_v30 (F := Ideal) x0 x3 j)) (hw : ∀ j, Re (x4 j)) (j : S16384x2816.Idx) : Re (val_main_v45 (F := Ideal) x0 x1 x2 x3 x4 j) := by
  pointwise [val_main_v45, val_main_v2]
  exact re_sum _ _ fun k => (re_df x0 x1 x2 x3 x4 hx hu _).mul (hw _)
/-- The cotangent of the gate. -/
theorem pay5 (hx : ∀ j, Re (val_main_v5 (F := Ideal) x1 x2 x4 j)) (hu : ∀ j, Re (val_main_v30 (F := Ideal) x0 x3 j)) (ha : ∀ j, Re (x1 j)) (hb : ∀ j, Re (x2 j)) (hw : ∀ j, Re (x4 j)) : (k0_pay5 (F := Ideal) (k0_pay12 (F := Ideal) (tile n h x0) (tile n h (val_main_v5 (F := Ideal) x1 x2 x4)) (gain x3)) x4 (tile n h x1) (tile n h x2) : S512x2816.Idx → EReal) = tile n h (val_main_v49 (F := Ideal) x0 x1 x2 x3 x4) := by
  funext y
  rw [tile]
  pointwise [k0_pay5, k0_pay3, val_main_v49, val_main_v48, val_main_call1_v2, val_main_call1_v1, val_main_call1_v0, val_main_v47, val_main_v3_1, val_main_call0_v7, val_main_call0_v6, val_main_call0_cst_1, val_main_v1, val_main_v0]
  rw [pay2 (hx := hx) (hu := hu), pay4]
  exact silu_bwd ((re_ds x0 x1 x2 x3 x4 hx hu hw _).mul (hb _)) (ha _) (re_gate x1 ha _)
/-- The cotangent of the up product. -/
theorem pay6 (hx : ∀ j, Re (val_main_v5 (F := Ideal) x1 x2 x4 j)) (hu : ∀ j, Re (val_main_v30 (F := Ideal) x0 x3 j)) : (k0_pay6 (F := Ideal) (k0_pay12 (F := Ideal) (tile n h x0) (tile n h (val_main_v5 (F := Ideal) x1 x2 x4)) (gain x3)) x4 (tile n h x1) : S512x2816.Idx → EReal) = tile n h (val_main_v50 (F := Ideal) x0 x1 x2 x3 x4) := by
  funext y
  rw [tile]
  pointwise [k0_pay6, k0_pay3, val_main_v50, val_main_v46, val_main_v3_0, val_main_v0]
  rw [pay2 (hx := hx) (hu := hu), pay4]
  exact mul_comm _ _
/-- One tile's part of the gain's gradient. -/
theorem acc (a : S1x1024.Idx → EReal) (y : S1x1024.Idx) : (k0_pay13 (F := Ideal) (tile n h x0) (tile n h (val_main_v5 (F := Ideal) x1 x2 x4)) a y : EReal)
    = a y + ∑ r : Fin 512, ent (val_main_v26 (F := Ideal) x0 x1 x2 x4) (512 * n + r.val) (y 1).val := by
  pointwise [k0_pay13, k0_pay8]
  simp only [pay11]
  refine congrArg₂ (· + ·) (by rfl) (Finset.sum_congr rfl fun r _ => Eq.trans ?_ (ent_of _ (ix2 (row n h r) (y 1)) _ _ rfl rfl))
  pointwise [val_main_v26, val_main_v25, val_main_v24, val_main_cst_4, val_main_v19, val_main_v18]
  rw [ref_scale]
  exact mul_comm _ _
/-- The down product is real. -/
theorem re_x (ha : ∀ j, Re (x1 j)) (hb : ∀ j, Re (x2 j)) (hw : ∀ j, Re (x4 j)) (j : S16384x1024.Idx) : Re (val_main_v5 (F := Ideal) x1 x2 x4 j) := by
  pointwise [val_main_v5, val_main_v4, val_main_v3_0, val_main_v2, val_main_v1, val_main_v0]
  exact re_sum _ _ fun k => (((ha _).mul (re_gate x1 ha _)).mul (hb _)).mul (hw _)
/-- The cotangent of the scaled rows is real. -/
theorem re_u (h0 : ∀ j, Re (x0 j)) (h3 : ∀ j, Re (x3 j)) (j : S16384x1024.Idx) : Re (val_main_v30 (F := Ideal) x0 x3 j) := by
  pointwise [val_main_v30, val_main_v29, val_main_v25, val_main_v24, val_main_v6, val_main_cst_4]
  exact (Re.mul ⟨_, half_word⟩ (h0 _)).mul (h3 _)

/-- The sum over the rows of the first `n + 1` tiles. -/
def accv (n : ℕ) : S1x1024.Idx → EReal := fun j => ∑ s ∈ range (n + 1), ∑ r : Fin 512, ent (val_main_v26 (F := Ideal) x0 x1 x2 x4) (512 * s + r.val) (j 1).val
theorem accA (h : 0 < 32) : (k0_pay13 (F := Ideal) (tile 0 h x0) (tile 0 h (val_main_v5 (F := Ideal) x1 x2 x4)) (k0_pay7 (F := Ideal)) : S1x1024.Idx → EReal) = accv x0 x1 x2 x4 0 := by
  funext y
  rw [acc, show (k0_pay7 (F := Ideal) y : EReal) = 0 by pointwise [k0_pay7], zero_add, accv, Finset.sum_range_one]
theorem accB (h : n + 1 < 32) : (k0_pay13 (F := Ideal) (tile (n + 1) h x0) (tile (n + 1) h (val_main_v5 (F := Ideal) x1 x2 x4)) (accv x0 x1 x2 x4 n) : S1x1024.Idx → EReal) = accv x0 x1 x2 x4 (n + 1) := by
  funext y
  rw [acc]
  exact (Finset.sum_range_succ _ _).symm
theorem acc_all (y : S1x1024.Idx) : accv x0 x1 x2 x4 31 y = val_main_v28 (F := Ideal) x0 x1 x2 x4 y := by
  refine (sum_tiles 32 512 (fun r => ent (val_main_v26 (F := Ideal) x0 x1 x2 x4) r (y 1).val)).trans ?_
  pointwise [val_main_v28, val_main_v27, val_main_cst_5]
  exact Finset.sum_congr rfl fun r _ => (ent_of _ (ix2 r (y 1)) _ _ rfl rfl).symm
end pay

section kernel
open Cert.PostIdeal Cert.PostIdeal.Gen Cert.PostIdeal.Value
variable (m : (ℓ : Loc nD τ sig) → Buf (Elt Ideal) ℓ) (c : Dev nD)

/-- Argument 0. -/
abbrev A0 : S16384x1024.Idx → EReal := m ((c : Thread nD τ).loc main_arg0)
/-- Argument 1. -/
abbrev A1 : S16384x2816.Idx → EReal := m ((c : Thread nD τ).loc main_arg1)
/-- Argument 2. -/
abbrev A2 : S16384x2816.Idx → EReal := m ((c : Thread nD τ).loc main_arg2)
/-- Argument 3. -/
abbrev A3 : S1024.Idx → EReal := m ((c : Thread nD τ).loc main_arg3)
/-- Argument 4. -/
abbrev A4 : S2816x1024.Idx → EReal := m ((c : Thread nD τ).loc main_arg4)

theorem lt (t : Fin cfg0.N) : t.val < 32 := lt_of_lt_of_eq t.isLt N_0
theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = 0 ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = t.val ∧ win0_6.index t 1 = 0 := by decide +kernel
theorem ix_7 : ∀ t : Fin grid0.N, win0_7.index t 0 = t.val ∧ win0_7.index t 1 = 0 := by decide +kernel

theorem blk0 (t : Fin cfg0.N) : (iblk m c 0 t : S512x1024.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
/-- The product that the region reads is the reference's. -/
theorem host_f : (V m c main_v5 : S16384x1024.Idx → EReal) = val_main_v5 (F := Ideal) (A1 m c) (A2 m c) (A4 m c) := by
  funext j
  unfold_abbrev_sides
  simp only [List.flatten_cons, List.flatten_nil, List.append_nil, List.cons_append, List.nil_append, TRef.binary, TRef.nullary, TRef.unary, TRef.toBuf, TRef.ofBuf, cast_eq]
  after_results
  rfl
theorem blk1 (t : Fin cfg0.N) : (iblk m c 1 t : S512x1024.Idx → EReal) = tile t.val (lt t) (val_main_v5 (F := Ideal) (A1 m c) (A2 m c) (A4 m c)) := by
  funext y
  blk_simp [iblk]
  show V m c main_v5 _ = _
  rw [host_f]
  refine tile_of _ _ _ _ _ ?_ ?_ <;> blk_simp [ix_1 t] <;> simp only [Nat.zero_mul, Nat.zero_add, Nat.mul_comm _ 512]
theorem blk2 (t : Fin cfg0.N) : (iblk m c 2 t : S512x2816.Idx → EReal) = tile t.val (lt t) (A1 m c) := by
  funext y
  blk_simp [iblk]
  rw [V_main_arg1]
  refine tile_of _ _ _ _ _ ?_ ?_ <;> blk_simp [ix_2 t] <;> simp only [Nat.zero_mul, Nat.zero_add, Nat.mul_comm _ 512]
theorem blk3 (t : Fin cfg0.N) : (iblk m c 3 t : S512x2816.Idx → EReal) = tile t.val (lt t) (A2 m c) := by
  funext y
  blk_simp [iblk]
  rw [V_main_arg2]
  refine tile_of _ _ _ _ _ ?_ ?_ <;> blk_simp [ix_3 t] <;> simp only [Nat.zero_mul, Nat.zero_add, Nat.mul_comm _ 512]
theorem blk4 (t : Fin cfg0.N) : (iblk m c 4 t : S1x1024.Idx → EReal) = gain (A3 m c) := by
  funext y
  blk_simp [iblk]
  show V m c main_v6 _ = _
  unfold_abbrev_sides
  simp only [List.flatten_cons, List.flatten_nil, List.append_nil, List.cons_append, List.nil_append, TRef.binary, TRef.nullary, TRef.unary, TRef.toBuf, TRef.ofBuf, cast_eq]
  after_results
  pointwise []
  refine congrArg (fun z => A3 m c (ix1 z)) (Fin.ext ?_)
  blk_simp [ix_4 t]

/-- What a point leaves in the outputs and in the copies of the weights. -/
theorem holds
    (hx : ∀ j, Re (val_main_v5 (F := Ideal) (A1 m c) (A2 m c) (A4 m c) j)) (hu : ∀ j, Re (val_main_v30 (F := Ideal) (A0 m c) (A3 m c) j)) (ha : ∀ j, Re (A1 m c j)) (hb : ∀ j, Re (A2 m c j)) (hw : ∀ j, Re (A4 m c j)) : ∀ (n : ℕ) (h : n < cfg0.N), outsAt0 m c n h =
    (tile n (lt ⟨n, h⟩) (val_main_v49 (F := Ideal) (A0 m c) (A1 m c) (A2 m c) (A3 m c) (A4 m c)),
      tile n (lt ⟨n, h⟩) (val_main_v50 (F := Ideal) (A0 m c) (A1 m c) (A2 m c) (A3 m c) (A4 m c)),
      tile n (lt ⟨n, h⟩) (val_main_v51 (F := Ideal) (A0 m c) (A1 m c) (A2 m c) (A3 m c) (A4 m c)),
      accv (A0 m c) (A1 m c) (A2 m c) (A4 m c) n,
      (A4 m c))
  | 0, h => (outsAt0_A m c ⟨0, h⟩ rfl).trans (by
    rw [outA5, outA6, outA7, outA8, soutA0, blk0, blk1, blk2, blk3, blk4, V_main_arg4]
    exact congrArg₂ Prod.mk (pay5 (hx := hx) (hu := hu) (ha := ha) (hb := hb) (hw := hw) ..) (congrArg₂ Prod.mk (pay6 (hx := hx) (hu := hu) ..) (congrArg₂ Prod.mk (pay1 (hx := hx) (hu := hu) ..) (congrArg₂ Prod.mk (accA ..) (rfl)))))
  | n + 1, h => by
    have hN : n + 1 < 32 := lt_of_lt_of_eq h N_0
    refine (outsAt0_B m c ⟨n + 1, h⟩ (by dsimp only; omega)).trans ?_
    rw [outB5, outB6, outB7, outB8, blk0, blk1, blk2, blk3, blk4]
    have a0 : (outsAt0 m c (n + 1 - 1) (Nat.lt_of_le_of_lt (Nat.sub_le _ _) h)).2.2.2.1 = accv (A0 m c) (A1 m c) (A2 m c) (A4 m c) n :=
      congrArg (·.2.2.2.1) (holds hx hu ha hb hw n (Nat.lt_of_succ_lt h))
    have w0 : (outsAt0 m c (n + 1 - 1) (Nat.lt_of_le_of_lt (Nat.sub_le _ _) h)).2.2.2.2 = (A4 m c) :=
      congrArg (·.2.2.2.2) (holds hx hu ha hb hw n (Nat.lt_of_succ_lt h))
    rw [a0, w0]
    exact congrArg₂ Prod.mk (pay5 (hx := hx) (hu := hu) (ha := ha) (hb := hb) (hw := hw) ..) (congrArg₂ Prod.mk (pay6 (hx := hx) (hu := hu) ..) (congrArg₂ Prod.mk (pay1 (hx := hx) (hu := hu) ..) (congrArg₂ Prod.mk (accB ..) (rfl))))

/-- The last grid point. -/
def tLast : Fin cfg0.N := ⟨31, lt_of_lt_of_eq (by decide) N_0.symm⟩
/-- The result of window 5 is the reference's. -/
theorem arr5
    (hx : ∀ j, Re (val_main_v5 (F := Ideal) (A1 m c) (A2 m c) (A4 m c) j)) (hu : ∀ j, Re (val_main_v30 (F := Ideal) (A0 m c) (A3 m c) j)) (ha : ∀ j, Re (A1 m c j)) (hb : ∀ j, Re (A2 m c j)) (hw : ∀ j, Re (A4 m c j)) : (dats m 0 c).arrAt 5 cfg0.N = val_main_v49 (F := Ideal) (A0 m c) (A1 m c) (A2 m c) (A3 m c) (A4 m c) := by
  refine (dats m 0 c).arrAt_eq_of_covers 5 _ (by decide +kernel) fun t hf y => ?_
  blk_simp
  rw [after0_5, holds m c hx hu ha hb hw]
  refine (tile_of t.val (lt t) (val_main_v49 (F := Ideal) (A0 m c) (A1 m c) (A2 m c) (A3 m c) (A4 m c)) y _ ?_ ?_).symm <;> blk_simp [ix_5 t] <;> simp only [Nat.zero_mul, Nat.zero_add, Nat.mul_comm _ 512]
/-- The result of window 6 is the reference's. -/
theorem arr6
    (hx : ∀ j, Re (val_main_v5 (F := Ideal) (A1 m c) (A2 m c) (A4 m c) j)) (hu : ∀ j, Re (val_main_v30 (F := Ideal) (A0 m c) (A3 m c) j)) (ha : ∀ j, Re (A1 m c j)) (hb : ∀ j, Re (A2 m c j)) (hw : ∀ j, Re (A4 m c j)) : (dats m 0 c).arrAt 6 cfg0.N = val_main_v50 (F := Ideal) (A0 m c) (A1 m c) (A2 m c) (A3 m c) (A4 m c) := by
  refine (dats m 0 c).arrAt_eq_of_covers 6 _ (by decide +kernel) fun t hf y => ?_
  blk_simp
  rw [after0_6, holds m c hx hu ha hb hw]
  refine (tile_of t.val (lt t) (val_main_v50 (F := Ideal) (A0 m c) (A1 m c) (A2 m c) (A3 m c) (A4 m c)) y _ ?_ ?_).symm <;> blk_simp [ix_6 t] <;> simp only [Nat.zero_mul, Nat.zero_add, Nat.mul_comm _ 512]
/-- The result of window 7 is the reference's. -/
theorem arr7
    (hx : ∀ j, Re (val_main_v5 (F := Ideal) (A1 m c) (A2 m c) (A4 m c) j)) (hu : ∀ j, Re (val_main_v30 (F := Ideal) (A0 m c) (A3 m c) j)) (ha : ∀ j, Re (A1 m c j)) (hb : ∀ j, Re (A2 m c j)) (hw : ∀ j, Re (A4 m c j)) : (dats m 0 c).arrAt 7 cfg0.N = val_main_v51 (F := Ideal) (A0 m c) (A1 m c) (A2 m c) (A3 m c) (A4 m c) := by
  refine (dats m 0 c).arrAt_eq_of_covers 7 _ (by decide +kernel) fun t hf y => ?_
  blk_simp
  rw [after0_7, holds m c hx hu ha hb hw]
  refine (tile_of t.val (lt t) (val_main_v51 (F := Ideal) (A0 m c) (A1 m c) (A2 m c) (A3 m c) (A4 m c)) y _ ?_ ?_).symm <;> blk_simp [ix_7 t] <;> simp only [Nat.zero_mul, Nat.zero_add, Nat.mul_comm _ 512]
/-- The result of window 8 is the reference's. -/
theorem arr8
    (hx : ∀ j, Re (val_main_v5 (F := Ideal) (A1 m c) (A2 m c) (A4 m c) j)) (hu : ∀ j, Re (val_main_v30 (F := Ideal) (A0 m c) (A3 m c) j)) (ha : ∀ j, Re (A1 m c j)) (hb : ∀ j, Re (A2 m c j)) (hw : ∀ j, Re (A4 m c j)) : (dats m 0 c).arrAt 8 cfg0.N = val_main_v28 (F := Ideal) (A0 m c) (A1 m c) (A2 m c) (A4 m c) := by
  refine (dats m 0 c).arrAt_eq_of_after_last 8 tLast (by decide +kernel) _ fun j => ?_
  blk_simp
  rw [after0_8, holds m c hx hu ha hb hw]
  exact acc_all ..
end kernel

section claims
open Cert.PostIdeal

theorem algebraic : Cert.algebraic_PostIdeal_RefPostIdeal_pre_finite_post (hPostIdeal := Cert.PostIdeal.Gen.facts) (hRefPostIdeal := Cert.RefPostIdeal.Gen.facts) (hPre_finite_post := Cert.Pre_finite_post.Gen.facts) := by
  intro m ρ m' ρ' hpre hag
  have f0 (c : Dev nD) (j) : Re (A0 m c j) := re_of_finite _ (congrFun (hpre c).1 j)
  have f1 (c : Dev nD) (j) : Re (A1 m c j) := re_of_finite _ (congrFun (hpre c).2.1 j)
  have f2 (c : Dev nD) (j) : Re (A2 m c j) := re_of_finite _ (congrFun (hpre c).2.2.1 j)
  have f3 (c : Dev nD) (j) : Re (A3 m c j) := re_of_finite _ (congrFun (hpre c).2.2.2.1 j)
  have f4 (c : Dev nD) (j) : Re (A4 m c j) := re_of_finite _ (congrFun (hpre c).2.2.2.2 j)
  refine ⟨fun c => val_main_v49 (F := Ideal) (A0 m c) (A1 m c) (A2 m c) (A3 m c) (A4 m c), fun c => val_main_v50 (F := Ideal) (A0 m c) (A1 m c) (A2 m c) (A3 m c) (A4 m c), fun c => val_main_v51 (F := Ideal) (A0 m c) (A1 m c) (A2 m c) (A3 m c) (A4 m c), fun c => val_main_v28 (F := Ideal) (A0 m c) (A1 m c) (A2 m c) (A4 m c), ?_, ?_⟩
  · refine (θ_run Cert.PostIdeal.defs _ _).mono (fun r h c => ?_) (Cert.PostIdeal.Value.run_blocks m ρ)
    obtain ⟨k0, k1, k2, k3, hk⟩ := h c
    have hx := (fun j => re_x (A1 m c) (A2 m c) (A4 m c) (f1 c) (f2 c) (f4 c) j)
    have hu := (fun j => re_u (A0 m c) (A3 m c) (f0 c) (f3 c) j)
    have ha := f1 c
    have hb := f2 c
    have hw := f4 c
    exact ⟨k0.trans (arr5 m c hx hu ha hb hw), k1.trans (arr6 m c hx hu ha hb hw), k2.trans (arr7 m c hx hu ha hb hw), k3.trans (arr8 m c hx hu ha hb hw), hk⟩
  · refine (θ_run Cert.RefPostIdeal.defs _ _).mono (fun r h c => ?_) (Cert.RefPostIdeal.Value.run (F := Ideal) m' ρ')
    obtain ⟨k0, k1, k2, k3, hk⟩ := h c
    obtain ⟨a0, a1, a2, a3, a4⟩ := hag c
    exact ⟨k0.trans ((val_main_v49_eq (F := Ideal) ..).trans (by rw [a0, a1, a2, a3, a4])),
      k1.trans ((val_main_v50_eq (F := Ideal) ..).trans (by rw [a0, a1, a2, a3, a4])),
      k2.trans ((val_main_v51_eq (F := Ideal) ..).trans (by rw [a0, a1, a2, a3, a4])),
      k3.trans ((val_main_v28_eq (F := Ideal) ..).trans (by rw [a0, a1, a2, a4])), hk⟩
end claims

/-- The reference leaves its arguments as they were, and no counter behind. -/
theorem frame_reference : Cert.quiescent_RefPostIdeal (hRefPostIdeal := Cert.RefPostIdeal.Gen.facts) := fun m ρ _ =>
  (θ_run Cert.RefPostIdeal.defs _ _).mono (fun r h => ⟨fun c => (h c).2.2.2.2,
      Idealize.ShloMosaic.sem_eq_zero_of_no_sems (by decide) r.2⟩)
    (Cert.RefPostIdeal.Value.run (F := Ideal) m ρ)

end Cert.PostEq

end
-- ==== Proof.MixBackOut.lean ====
/- What each case of the body leaves in each output block: the gradient of the mixer output product and of its norm. -/
module

public import proofs.«01_k».proof.Proof.Rows
public import proofs.«01_k».proof.Proof.Gen.MixBackIdeal.Value

@[expose] public section

set_option maxRecDepth 16384

noncomputable section

namespace Cert.MixBackEq

open Idealize.ShloMosaic Idealize.ShloMosaic.TcCoe Idealize.ShloMosaic.StableHlo Idealize.SL.Sem Cert.Rows
open Idealize.ShloMosaic.Pipeline (Dat)
open Cert.MixBackIdeal Cert.MixBackIdeal.Gen Cert.MixBackIdeal.Value

/-- A block stored a third of its columns at a time. -/
def dzm3 (p q r : Vec Ideal S512x1024 .bf16) : Vec Ideal S512x3072 .bf16 :=
  View.canon (Val := Elt Ideal) [⟨Rect.unit (s := S512x3072) ![0, 2048] S512x1024.size inb_S512x3072_S512x1024_0_2048, p⟩, ⟨Rect.unit (s := S512x3072) ![0, 1024] S512x1024.size inb_S512x3072_S512x1024_0_1024, q⟩, ⟨Rect.unit (s := S512x3072) ![0, 0] S512x1024.size inb_S512x3072_S512x1024_0_0, r⟩]
section
variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S512x1024 .bf16) (h3 : a3.IsWhole)
  (a4 : Memref sig .tc .vmem S512x1024 .bf16) (h4 : a4.IsWhole)
  (a5 : Memref sig .tc .vmem S512x1024 .bf16) (h5 : a5.IsWhole)
  (a6 : Memref sig .tc .vmem S512x3072 .bf16) (h6 : a6.IsWhole)
  (a7 : Memref sig .tc .vmem S1x1024 .f32) (h7 : a7.IsWhole)
  (a9 : Memref sig .tc .vmem S512x1024 .bf16) (h9 : a9.IsWhole)
  (a10 : Memref sig .tc .vmem S512x1024 .bf16) (h10 : a10.IsWhole)
  (a11 : Memref sig .tc .vmem S512x1024 .bf16) (h11 : a11.IsWhole)
  (a12 : Memref sig .tc .vmem S512x1024 .bf16) (h12 : a12.IsWhole)
  (a13 : Memref sig .tc .vmem S512x3072 .bf16) (h13 : a13.IsWhole)
  (a14 : Memref sig .tc .vmem S1x1024 .f32) (h14 : a14.IsWhole)
  (a15 : Memref sig .tc .vmem S1024x1024 .bf16) (h15 : a15.IsWhole)
  (x0 : Vec Ideal S512x1024 .f32)
  (x1 : Vec Ideal S512x1024 .f32)
  (x2 : Vec Ideal S512x1024 .bf16)
  (x3 : Vec Ideal S512x1024 .bf16)
  (x4 : Vec Ideal S512x1024 .bf16)
  (x5 : Vec Ideal S512x3072 .bf16)
  (x6 : Vec Ideal S1x1024 .f32)
  (fh0 : HbBuf0 (F := Ideal) c hbM0_0)
  (xo12 : Vec Ideal S1x1024 .f32)
  (xs0 : Vec Ideal S1024x1024 .bf16)
theorem outA7 (hc : cond0_0 i) : out0_A_7 c i a1 h1 a2 h2 a3 h3 a4 h4 a5 h5 a6 h6 a7 h7 a9 h9 a10 h10 a11 h11 a12 h12 a13 h13 a14 h14 a15 h15 hc x0 x1 x2 x3 x4 x5 x6 fh0 = k0_pay9 (F := Ideal) x0 x1 x6 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA8 (hc : cond0_0 i) : out0_A_8 c i a1 h1 a2 h2 a3 h3 a4 h4 a5 h5 a6 h6 a7 h7 a9 h9 a10 h10 a11 h11 a12 h12 a13 h13 a14 h14 a15 h15 hc x0 x1 x2 x3 x4 x5 x6 fh0 = k0_pay13 (F := Ideal) (k0_pay9 (F := Ideal) x0 x1 x6) (fh0) x5 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA9 (hc : cond0_0 i) : out0_A_9 c i a1 h1 a2 h2 a3 h3 a4 h4 a5 h5 a6 h6 a7 h7 a9 h9 a10 h10 a11 h11 a12 h12 a13 h13 a14 h14 a15 h15 hc x0 x1 x2 x3 x4 x5 x6 fh0 = k0_pay16 (F := Ideal) (k0_pay9 (F := Ideal) x0 x1 x6) (fh0) x5 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA10 (hc : cond0_0 i) : out0_A_10 c i a1 h1 a2 h2 a3 h3 a4 h4 a5 h5 a6 h6 a7 h7 a9 h9 a10 h10 a11 h11 a12 h12 a13 h13 a14 h14 a15 h15 hc x0 x1 x2 x3 x4 x5 x6 fh0 = k0_pay3 (F := Ideal) (k0_pay10 (F := Ideal) (k0_pay9 (F := Ideal) x0 x1 x6) (fh0)) (k0_pay11 (F := Ideal) x5) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA11 (hc : cond0_0 i) : out0_A_11 c i a1 h1 a2 h2 a3 h3 a4 h4 a5 h5 a6 h6 a7 h7 a9 h9 a10 h10 a11 h11 a12 h12 a13 h13 a14 h14 a15 h15 hc x0 x1 x2 x3 x4 x5 x6 fh0 = dzm3 (k0_pay4 (F := Ideal) (k0_pay10 (F := Ideal) (k0_pay9 (F := Ideal) x0 x1 x6) (fh0)) (k0_pay11 (F := Ideal) x5) x4) (k0_pay1 (F := Ideal) (k0_pay17 (F := Ideal) (k0_pay9 (F := Ideal) x0 x1 x6) (fh0) x5 x3)) (k0_pay14 (F := Ideal) (k0_pay9 (F := Ideal) x0 x1 x6) (fh0) x5 x2) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outA12 (hc : cond0_0 i) : out0_A_12 c i a1 h1 a2 h2 a3 h3 a4 h4 a5 h5 a6 h6 a7 h7 a9 h9 a10 h10 a11 h11 a12 h12 a13 h13 a14 h14 a15 h15 hc x0 x1 x2 x3 x4 x5 x6 fh0 = k0_pay8 (F := Ideal) x0 x1 (k0_pay5 (F := Ideal)) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB7 (hc : ¬cond0_0 i) : out0_B_7 c i a1 h1 a2 h2 a3 h3 a4 h4 a5 h5 a6 h6 a7 h7 a9 h9 a10 h10 a11 h11 a12 h12 a13 h13 a14 h14 a15 h15 hc x0 x1 x2 x3 x4 x5 x6 xo12 xs0 fh0 = k0_pay9 (F := Ideal) x0 x1 x6 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB8 (hc : ¬cond0_0 i) : out0_B_8 c i a1 h1 a2 h2 a3 h3 a4 h4 a5 h5 a6 h6 a7 h7 a9 h9 a10 h10 a11 h11 a12 h12 a13 h13 a14 h14 a15 h15 hc x0 x1 x2 x3 x4 x5 x6 xo12 xs0 fh0 = k0_pay13 (F := Ideal) (k0_pay9 (F := Ideal) x0 x1 x6) xs0 x5 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB9 (hc : ¬cond0_0 i) : out0_B_9 c i a1 h1 a2 h2 a3 h3 a4 h4 a5 h5 a6 h6 a7 h7 a9 h9 a10 h10 a11 h11 a12 h12 a13 h13 a14 h14 a15 h15 hc x0 x1 x2 x3 x4 x5 x6 xo12 xs0 fh0 = k0_pay16 (F := Ideal) (k0_pay9 (F := Ideal) x0 x1 x6) xs0 x5 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB10 (hc : ¬cond0_0 i) : out0_B_10 c i a1 h1 a2 h2 a3 h3 a4 h4 a5 h5 a6 h6 a7 h7 a9 h9 a10 h10 a11 h11 a12 h12 a13 h13 a14 h14 a15 h15 hc x0 x1 x2 x3 x4 x5 x6 xo12 xs0 fh0 = k0_pay3 (F := Ideal) (k0_pay10 (F := Ideal) (k0_pay9 (F := Ideal) x0 x1 x6) xs0) (k0_pay11 (F := Ideal) x5) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB11 (hc : ¬cond0_0 i) : out0_B_11 c i a1 h1 a2 h2 a3 h3 a4 h4 a5 h5 a6 h6 a7 h7 a9 h9 a10 h10 a11 h11 a12 h12 a13 h13 a14 h14 a15 h15 hc x0 x1 x2 x3 x4 x5 x6 xo12 xs0 fh0 = dzm3 (k0_pay4 (F := Ideal) (k0_pay10 (F := Ideal) (k0_pay9 (F := Ideal) x0 x1 x6) xs0) (k0_pay11 (F := Ideal) x5) x4) (k0_pay1 (F := Ideal) (k0_pay17 (F := Ideal) (k0_pay9 (F := Ideal) x0 x1 x6) xs0 x5 x3)) (k0_pay14 (F := Ideal) (k0_pay9 (F := Ideal) x0 x1 x6) xs0 x5 x2) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem outB12 (hc : ¬cond0_0 i) : out0_B_12 c i a1 h1 a2 h2 a3 h3 a4 h4 a5 h5 a6 h6 a7 h7 a9 h9 a10 h10 a11 h11 a12 h12 a13 h13 a14 h14 a15 h15 hc x0 x1 x2 x3 x4 x5 x6 xo12 xs0 fh0 = k0_pay8 (F := Ideal) x0 x1 xo12 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
theorem soutA0 (hc : cond0_0 i) : sout0_A_0 c i a1 h1 a2 h2 a3 h3 a4 h4 a5 h5 a6 h6 a7 h7 a9 h9 a10 h10 a11 h11 a12 h12 a13 h13 a14 h14 a15 h15 hc x0 x1 x2 x3 x4 x5 x6 fh0 = fh0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try simp (disch := decide) only [canon_whole, readCov_landed]
  try rfl
end

end Cert.MixBackEq

end
-- ==== Proof.MixBackEq.lean ====
/- The gradient of the mixer output product and of its norm: what the kernel leaves tile by tile is what the reference computes. -/
module

public import proofs.«01_k».proof.Proof.MixBackOut
public import proofs.«01_k».proof.Proof.Sig
public import proofs.«01_k».proof.Proof.Rms
public import proofs.«01_k».proof.Proof.Gen.Pre_finite_mixback
public import proofs.«01_k».proof.Proof.Gen.RefMixBackIdeal.Run
public import proofs.«01_k».proof.Proof.Gen.RefMixBackIdeal.Read
public import proofs.«01_k».proof.Defs

@[expose] public section

set_option maxRecDepth 16384

noncomputable section

namespace Cert.MixBackEq

open Idealize.ShloMosaic Idealize.ShloMosaic.TcCoe Idealize.ShloMosaic.StableHlo Idealize.SL.Sem Cert.Rows
open Idealize.ShloMosaic.Pipeline (Dat)
open Finset (range)
open Cert.RefMixBackIdeal.Read

/-! One tile: each payload on a tile of the arguments is the tile of the reference's stage. -/

section pay
open Cert.MixBackIdeal Cert.MixBackIdeal.Gen
variable (n : ℕ) (h : n < 32) (x0 : S16384x1024.Idx → EReal) (x1 : S16384x1024.Idx → EReal) (x2 : S16384x1024.Idx → EReal) (x3 : S16384x1024.Idx → EReal) (x4 : S16384x1024.Idx → EReal) (x5 : S16384x3072.Idx → EReal) (x6 : S1024.Idx → EReal) (x7 : S1024x1024.Idx → EReal)

/-- The norm's scale of each row. -/
theorem pay6 (y : S512x1.Idx) : (k0_pay6 (F := Ideal) (tile n h x1) y : EReal) = rrms fun q => x1 (ix2 (row n h (y 0)) q) := by
  pointwise [k0_pay6]
  rfl
/-- The normed rows. -/
theorem pay7 (y : S512x1024.Idx) : (k0_pay7 (F := Ideal) (tile n h x1) y : EReal) = x1 (ix2 (row n h (y 0)) (y 1)) * rrms fun q => x1 (ix2 (row n h (y 0)) q) := by
  pointwise [k0_pay7]
  rw [pay6]
  rfl
/-- The reference's scale of each row. -/
theorem ref_scale (i : Fin 16384) : (val_main_v13 (F := Ideal) x1 (ix2 i 0) : EReal) = rrms fun q => x1 (ix2 i q) := by
  pointwise [val_main_v13, val_main_v12, val_main_v11, val_main_v10, val_main_v9, val_main_v8, val_main_v7, val_main_v6, val_main_cst, val_main_cst_0, val_main_cst_1]
  rfl
/-- The reference's gradient of the normed rows, with the cotangent of the scaled rows as it stands. -/
theorem ref_dx (i : Fin 16384) (k : Fin 1024) : (val_main_v39 (F := Ideal) x0 x1 x6 (ix2 i k) : EReal)
    = val_main_v25 (F := Ideal) x0 x6 (ix2 i k) * rrms (fun q => x1 (ix2 i q))
      + x1 (ix2 i k) * coeff (fun q => x1 (ix2 i q)) (fun q => val_main_v25 (F := Ideal) x0 x6 (ix2 i q))
      + coeff (fun q => x1 (ix2 i q)) (fun q => val_main_v25 (F := Ideal) x0 x6 (ix2 i q)) * x1 (ix2 i k) := by
  pointwise [val_main_v39, val_main_v38, val_main_v37, val_main_v36, val_main_v35, val_main_v34, val_main_v33, val_main_v32, val_main_v31, val_main_v30, val_main_v29, val_main_v28, val_main_v27, val_main_v26, val_main_v16, val_main_v15, val_main_v14, val_main_v13, val_main_v12, val_main_v11, val_main_v10, val_main_v9, val_main_v8, val_main_v7, val_main_v6, val_main_cst, val_main_cst_0, val_main_cst_1, val_main_cst_2, val_main_cst_4, val_main_cst_5, val_main_cst_6]
  simp only [Finset.sum_const, Finset.card_univ, Fintype.card_fin, one_smul]
  rfl
/-- The gradient of the normed rows. -/
theorem pay9 (hx : ∀ j, Re (x1 j)) (hu : ∀ j, Re (val_main_v25 (F := Ideal) x0 x6 j)) : ((k0_pay9 (F := Ideal) (tile n h x0) (tile n h x1) (gain x6)) : S512x1024.Idx → EReal) = tile n h (val_main_v79 (F := Ideal) x0 x1 x6) := by
  funext y
  refine Eq.trans ?_ ((rms_bwd (fun q => x1 (ix2 (row n h (y 0)) q)) (fun q => val_main_v25 (F := Ideal) x0 x6 (ix2 (row n h (y 0)) q))
    (fun q => hx _) (fun q => hu _) (y 1)).trans (ref_dx x0 x1 x6 (row n h (y 0)) (y 1)).symm)
  pointwise [k0_pay9, val_main_v25, val_main_v24, val_main_v5]
  simp only [pay6, pay7]
  rfl
/-- Its product with the transposed weights. -/
theorem pay10 (hx : ∀ j, Re (x1 j)) (hu : ∀ j, Re (val_main_v25 (F := Ideal) x0 x6 j)) : ((k0_pay10 (F := Ideal) (k0_pay9 (F := Ideal) (tile n h x0) (tile n h x1) (gain x6)) x7) : S512x1024.Idx → EReal) = tile n h (val_main_v62 (F := Ideal) x0 x1 x6 x7) := by
  funext y
  rw [tile]
  pointwise [k0_pay10, val_main_v62, val_main_v4]
  rw [pay9 (hx := hx) (hu := hu)]
  rfl
/-- The logistic function of the gates. -/
theorem pay11  : ((k0_pay11 (F := Ideal) (tile n h x5)) : S512x3072.Idx → EReal) = tile n h (val_main_v45 (F := Ideal) x5) := by
  funext y
  rw [tile]
  pointwise [k0_pay11, val_main_v45, val_main_v44, val_main_v43, val_main_v42, val_main_v41, val_main_v40, val_main_cst_7, val_main_cst_8, val_main_v3]
  rw [half_word, sigmoid_eq]
  rfl
/-- The reference's gate 0 is a third of the columns of all three. -/
theorem ref_gate0 (i : Fin 16384) (k : Fin 1024) : (val_main_v51 (F := Ideal) x5 (ix2 i k) : EReal) = val_main_v45 (F := Ideal) x5 (ix2 i ⟨k.val, Nat.lt_of_lt_of_le k.isLt (by decide)⟩) := by
  pointwise [val_main_v51, val_main_v50, val_main_v49]
/-- The cotangent of part 0 of the mix. -/
theorem pay13 (hx : ∀ j, Re (x1 j)) (hu : ∀ j, Re (val_main_v25 (F := Ideal) x0 x6 j)) : (k0_pay13 (F := Ideal) (k0_pay9 (F := Ideal) (tile n h x0) (tile n h x1) (gain x6)) x7 (tile n h x5) : S512x1024.Idx → EReal) = tile n h (val_main_v80 (F := Ideal) x0 x1 x5 x6 x7) := by
  funext y
  rw [tile]
  pointwise [k0_pay13, k0_pay12, val_main_v80, val_main_v72]
  rw [pay10 (hx := hx) (hu := hu), pay11]
  exact (mul_comm _ _).trans (congrArg₂ (· * ·) (ref_gate0 x5 (row n h (y 0)) (y 1)).symm rfl)
/-- The reference's gate 1 is a third of the columns of all three. -/
theorem ref_gate1 (i : Fin 16384) (k : Fin 1024) : (val_main_v54 (F := Ideal) x5 (ix2 i k) : EReal) = val_main_v45 (F := Ideal) x5 (ix2 i ⟨1024 + k.val, Nat.lt_of_lt_of_le (Nat.add_lt_add_left k.isLt _) (by decide)⟩) := by
  pointwise [val_main_v54, val_main_v53, val_main_v49]
/-- The cotangent of part 1 of the mix. -/
theorem pay16 (hx : ∀ j, Re (x1 j)) (hu : ∀ j, Re (val_main_v25 (F := Ideal) x0 x6 j)) : (k0_pay16 (F := Ideal) (k0_pay9 (F := Ideal) (tile n h x0) (tile n h x1) (gain x6)) x7 (tile n h x5) : S512x1024.Idx → EReal) = tile n h (val_main_v81 (F := Ideal) x0 x1 x5 x6 x7) := by
  funext y
  rw [tile]
  pointwise [k0_pay16, k0_pay15, val_main_v81, val_main_v67]
  rw [pay10 (hx := hx) (hu := hu), pay11]
  exact (mul_comm _ _).trans (congrArg₂ (· * ·) (ref_gate1 x5 (row n h (y 0)) (y 1)).symm rfl)
/-- The reference's gate 2 is a third of the columns of all three. -/
theorem ref_gate2 (i : Fin 16384) (k : Fin 1024) : (val_main_v58 (F := Ideal) x5 (ix2 i k) : EReal) = val_main_v45 (F := Ideal) x5 (ix2 i ⟨2048 + k.val, Nat.lt_of_lt_of_le (Nat.add_lt_add_left k.isLt _) (by decide)⟩) := by
  pointwise [val_main_v58, val_main_v57, val_main_v49]
/-- The cotangent of part 2 of the mix. -/
theorem pay3 (hx : ∀ j, Re (x1 j)) (hu : ∀ j, Re (val_main_v25 (F := Ideal) x0 x6 j)) : (k0_pay3 (F := Ideal) (k0_pay10 (F := Ideal) (k0_pay9 (F := Ideal) (tile n h x0) (tile n h x1) (gain x6)) x7) (k0_pay11 (F := Ideal) (tile n h x5)) : S512x1024.Idx → EReal) = tile n h (val_main_v82 (F := Ideal) x0 x1 x5 x6 x7) := by
  funext y
  rw [tile]
  pointwise [k0_pay3, k0_pay2, val_main_v82, val_main_v63]
  rw [pay10 (hx := hx) (hu := hu), pay11]
  exact (mul_comm _ _).trans (congrArg₂ (· * ·) (ref_gate2 x5 (row n h (y 0)) (y 1)).symm rfl)
/-- The last of three alternatives. -/
theorem dite3 {p q r : Prop} [Decidable p] [Decidable q] [Decidable r] (a : p → EReal) (b : q → EReal) (c : r → EReal) (hp : ¬p) (hq : ¬q) (hr : r) :
    ((if h : p then a h else 0) + (if h : q then b h else 0)) + (if h : r then c h else 0) = c hr := by
  rw [dif_neg hp, dif_neg hq, dif_pos hr, zero_add, zero_add]
/-- The reference's cotangent of the gates' outputs, a third of the columns at a time. -/
theorem ref_part0 (i : Fin 16384) (k : Fin 1024) (k3 : Fin 3072) (e : k3.val = k.val) : (val_main_v77 (F := Ideal) x0 x1 x2 x3 x4 x6 x7 (ix2 i k3) : EReal)
    = val_main_v62 (F := Ideal) x0 x1 x6 x7 (ix2 i k) * x2 (ix2 i k) := by
  pointwise [val_main_v77, val_main_v76, val_main_v75, val_main_v74, val_main_v73, val_main_v71, val_main_v70, val_main_v69, val_main_v68, val_main_v66, val_main_v65, val_main_v64, val_main_v2, val_main_v1, val_main_v0, val_main_cst_10, val_main_cst_11, val_main_cst_12]
  refine (dite3 _ _ _ ?_ ?_ ?_).trans ?_
  iterate 2
    · exact fun hc => by
        have h1 := hc.1.1
        rw [e, Nat.div_eq_of_lt k.isLt] at h1
        exact absurd h1 (by decide)
  · exact ⟨by rw [e, Nat.div_eq_of_lt k.isLt]; decide, Nat.mod_lt _ (by decide)⟩
  · exact congrArg (fun z => val_main_v62 (F := Ideal) x0 x1 x6 x7 (ix2 i z) * x2 (ix2 i z)) (Fin.ext ((congrArg (· % 1024) e).trans (Nat.mod_eq_of_lt k.isLt)))
theorem ref_part1 (i : Fin 16384) (k : Fin 1024) : (val_main_v77 (F := Ideal) x0 x1 x2 x3 x4 x6 x7 (ix2 i ⟨1024 + k.val, Nat.lt_of_lt_of_le (Nat.add_lt_add_left k.isLt _) (by decide)⟩) : EReal)
    = val_main_v62 (F := Ideal) x0 x1 x6 x7 (ix2 i k) * x3 (ix2 i k) := by
  pointwise [val_main_v77, val_main_v76, val_main_v75, val_main_v74, val_main_v73, val_main_v71, val_main_v70, val_main_v69, val_main_v68, val_main_v66, val_main_v65, val_main_v64, val_main_v2, val_main_v1, val_main_v0, val_main_cst_10, val_main_cst_11, val_main_cst_12]
  have hk := k.isLt
  rw [dif_neg (by omega), dif_pos (by omega), dif_neg (by omega), zero_add, add_zero]
theorem ref_part2 (i : Fin 16384) (k : Fin 1024) : (val_main_v77 (F := Ideal) x0 x1 x2 x3 x4 x6 x7 (ix2 i ⟨2048 + k.val, Nat.lt_of_lt_of_le (Nat.add_lt_add_left k.isLt _) (by decide)⟩) : EReal)
    = val_main_v62 (F := Ideal) x0 x1 x6 x7 (ix2 i k) * x4 (ix2 i k) := by
  pointwise [val_main_v77, val_main_v76, val_main_v75, val_main_v74, val_main_v73, val_main_v71, val_main_v70, val_main_v69, val_main_v68, val_main_v66, val_main_v65, val_main_v64, val_main_v2, val_main_v1, val_main_v0, val_main_cst_10, val_main_cst_11, val_main_cst_12]
  have hk := k.isLt
  rw [dif_pos (by omega), dif_neg (by omega), dif_neg (by omega), add_zero, add_zero]
/-- A column of a third of the gates' cotangents. -/
theorem dz (t g : S16384x3072.Idx → EReal) (d w : S16384x1024.Idx → EReal) (x : S512x1024.Idx) (y : S512x3072.Idx) (k : Fin 3072)
    (e0 : (y 0).val = (x 0).val) (e1 : (y 1).val = k.val) (hp : t (ix2 (row n h (x 0)) k) = d (ix2 (row n h (x 0)) (x 1)) * w (ix2 (row n h (x 0)) (x 1))) :
    tile n h d x * tile n h w x * tile n h g (ix2 (x 0) k) * (1 - tile n h g (ix2 (x 0) k))
      = t (ix2 (row n h (y 0)) (y 1)) * (g (ix2 (row n h (y 0)) (y 1)) * (1 - g (ix2 (row n h (y 0)) (y 1)))) := by
  have e : (ix2 (row n h (y 0)) (y 1) : S16384x3072.Idx) = ix2 (row n h (x 0)) k :=
    congrArg₂ ix2 (congrArg (row n h) (Fin.ext e0)) (Fin.ext e1)
  rw [e, hp]
  exact mul_assoc _ _ _
/-- The cotangent of the gates, stored a third of the columns at a time. -/
theorem pay_dzm (hx : ∀ j, Re (x1 j)) (hu : ∀ j, Re (val_main_v25 (F := Ideal) x0 x6 j)) : (dzm3 (k0_pay4 (F := Ideal) (k0_pay10 (F := Ideal) (k0_pay9 (F := Ideal) (tile n h x0) (tile n h x1) (gain x6)) x7) (k0_pay11 (F := Ideal) (tile n h x5)) (tile n h x4)) (k0_pay1 (F := Ideal) (k0_pay17 (F := Ideal) (k0_pay9 (F := Ideal) (tile n h x0) (tile n h x1) (gain x6)) x7 (tile n h x5) (tile n h x3))) (k0_pay14 (F := Ideal) (k0_pay9 (F := Ideal) (tile n h x0) (tile n h x1) (gain x6)) x7 (tile n h x5) (tile n h x2)) : S512x3072.Idx → EReal) = tile n h (val_main_v83 (F := Ideal) x0 x1 x2 x3 x4 x5 x6 x7) := by
  funext y
  rw [tile, dzm3]
  canon_tiles z hz
  all_goals
    pointwise [k0_pay4, k0_pay2, k0_pay1, k0_pay17, k0_pay15, k0_pay14, k0_pay12, val_main_v83, val_main_v78, val_main_v48, val_main_v47, val_main_v46, val_main_cst_9]
    rw [pay10 (hx := hx) (hu := hu), pay11]
  · exact dz n h _ _ _ _ z y _ hz0 hz1 (ref_part2 x0 x1 x2 x3 x4 x6 x7 _ _)
  · exact dz n h _ _ _ _ z y _ hz0 hz1 (ref_part1 x0 x1 x2 x3 x4 x6 x7 _ _)
  · exact dz n h _ _ _ _ z y _ hz0 hz1 (ref_part0 x0 x1 x2 x3 x4 x6 x7 _ _ _ rfl)
/-- One tile's part of the gain's gradient. -/
theorem acc (a : S1x1024.Idx → EReal) (y : S1x1024.Idx) : (k0_pay8 (F := Ideal) (tile n h x0) (tile n h x1) a y : EReal)
    = a y + ∑ r : Fin 512, ent (val_main_v21 (F := Ideal) x0 x1) (512 * n + r.val) (y 1).val := by
  pointwise [k0_pay8]
  simp only [pay7]
  refine congrArg₂ (· + ·) (by rfl) (Finset.sum_congr rfl fun r _ => Eq.trans ?_ (ent_of _ (ix2 (row n h r) (y 1)) _ _ rfl rfl))
  pointwise [val_main_v21, val_main_v18, val_main_v17]
  rw [ref_scale]
  exact mul_comm _ _
/-- The cotangent of the scaled rows is real. -/
theorem re_u (h0 : ∀ j, Re (x0 j)) (h6 : ∀ j, Re (x6 j)) (j : S16384x1024.Idx) : Re (val_main_v25 (F := Ideal) x0 x6 j) := by
  pointwise [val_main_v25, val_main_v24, val_main_v5]
  exact (h0 _).mul (h6 _)

/-- The sum over the rows of the first `n + 1` tiles. -/
def accv (n : ℕ) : S1x1024.Idx → EReal := fun j => ∑ s ∈ range (n + 1), ∑ r : Fin 512, ent (val_main_v21 (F := Ideal) x0 x1) (512 * s + r.val) (j 1).val
theorem accA (h : 0 < 32) : (k0_pay8 (F := Ideal) (tile 0 h x0) (tile 0 h x1) (k0_pay5 (F := Ideal)) : S1x1024.Idx → EReal) = accv x0 x1 0 := by
  funext y
  rw [acc, show (k0_pay5 (F := Ideal) y : EReal) = 0 by pointwise [k0_pay5], zero_add, accv, Finset.sum_range_one]
theorem accB (h : n + 1 < 32) : (k0_pay8 (F := Ideal) (tile (n + 1) h x0) (tile (n + 1) h x1) (accv x0 x1 n) : S1x1024.Idx → EReal) = accv x0 x1 (n + 1) := by
  funext y
  rw [acc]
  exact (Finset.sum_range_succ _ _).symm
theorem acc_all (y : S1x1024.Idx) : accv x0 x1 31 y = val_main_v23 (F := Ideal) x0 x1 y := by
  refine (sum_tiles 32 512 (fun r => ent (val_main_v21 (F := Ideal) x0 x1) r (y 1).val)).trans ?_
  pointwise [val_main_v23, val_main_v22, val_main_cst_3]
  exact Finset.sum_congr rfl fun r _ => (ent_of _ (ix2 r (y 1)) _ _ rfl rfl).symm
end pay

section kernel
open Cert.MixBackIdeal Cert.MixBackIdeal.Gen Cert.MixBackIdeal.Value
variable (m : (ℓ : Loc nD τ sig) → Buf (Elt Ideal) ℓ) (c : Dev nD)

/-- Argument 0. -/
abbrev A0 : S16384x1024.Idx → EReal := m ((c : Thread nD τ).loc main_arg0)
/-- Argument 1. -/
abbrev A1 : S16384x1024.Idx → EReal := m ((c : Thread nD τ).loc main_arg1)
/-- Argument 2. -/
abbrev A2 : S16384x1024.Idx → EReal := m ((c : Thread nD τ).loc main_arg2)
/-- Argument 3. -/
abbrev A3 : S16384x1024.Idx → EReal := m ((c : Thread nD τ).loc main_arg3)
/-- Argument 4. -/
abbrev A4 : S16384x1024.Idx → EReal := m ((c : Thread nD τ).loc main_arg4)
/-- Argument 5. -/
abbrev A5 : S16384x3072.Idx → EReal := m ((c : Thread nD τ).loc main_arg5)
/-- Argument 6. -/
abbrev A6 : S1024.Idx → EReal := m ((c : Thread nD τ).loc main_arg6)
/-- Argument 7. -/
abbrev A7 : S1024x1024.Idx → EReal := m ((c : Thread nD τ).loc main_arg7)

theorem lt (t : Fin cfg0.N) : t.val < 32 := lt_of_lt_of_eq t.isLt N_0
theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = t.val ∧ win0_4.index t 1 = 0 := by decide +kernel
theorem ix_5 : ∀ t : Fin grid0.N, win0_5.index t 0 = t.val ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = t.val ∧ win0_7.index t 1 = 0 := by decide +kernel
theorem ix_8 : ∀ t : Fin grid0.N, win0_8.index t 0 = t.val ∧ win0_8.index t 1 = 0 := by decide +kernel
theorem ix_9 : ∀ t : Fin grid0.N, win0_9.index t 0 = t.val ∧ win0_9.index t 1 = 0 := by decide +kernel
theorem ix_10 : ∀ t : Fin grid0.N, win0_10.index t 0 = t.val ∧ win0_10.index t 1 = 0 := by decide +kernel
theorem ix_11 : ∀ t : Fin grid0.N, win0_11.index t 0 = t.val ∧ win0_11.index t 1 = 0 := by decide +kernel

theorem blk0 (t : Fin cfg0.N) : (iblk m c 0 t : S512x1024.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
theorem blk1 (t : Fin cfg0.N) : (iblk m c 1 t : S512x1024.Idx → EReal) = tile t.val (lt t) (A1 m c) := by
  funext y
  blk_simp [iblk]
  rw [V_main_arg1]
  refine tile_of _ _ _ _ _ ?_ ?_ <;> blk_simp [ix_1 t] <;> simp only [Nat.zero_mul, Nat.zero_add, Nat.mul_comm _ 512]
theorem blk2 (t : Fin cfg0.N) : (iblk m c 2 t : S512x1024.Idx → EReal) = tile t.val (lt t) (A2 m c) := by
  funext y
  blk_simp [iblk]
  rw [V_main_arg2]
  refine tile_of _ _ _ _ _ ?_ ?_ <;> blk_simp [ix_2 t] <;> simp only [Nat.zero_mul, Nat.zero_add, Nat.mul_comm _ 512]
theorem blk3 (t : Fin cfg0.N) : (iblk m c 3 t : S512x1024.Idx → EReal) = tile t.val (lt t) (A3 m c) := by
  funext y
  blk_simp [iblk]
  rw [V_main_arg3]
  refine tile_of _ _ _ _ _ ?_ ?_ <;> blk_simp [ix_3 t] <;> simp only [Nat.zero_mul, Nat.zero_add, Nat.mul_comm _ 512]
theorem blk4 (t : Fin cfg0.N) : (iblk m c 4 t : S512x1024.Idx → EReal) = tile t.val (lt t) (A4 m c) := by
  funext y
  blk_simp [iblk]
  rw [V_main_arg4]
  refine tile_of _ _ _ _ _ ?_ ?_ <;> blk_simp [ix_4 t] <;> simp only [Nat.zero_mul, Nat.zero_add, Nat.mul_comm _ 512]
theorem blk5 (t : Fin cfg0.N) : (iblk m c 5 t : S512x3072.Idx → EReal) = tile t.val (lt t) (A5 m c) := by
  funext y
  blk_simp [iblk]
  rw [V_main_arg5]
  refine tile_of _ _ _ _ _ ?_ ?_ <;> blk_simp [ix_5 t] <;> simp only [Nat.zero_mul, Nat.zero_add, Nat.mul_comm _ 512]
theorem blk6 (t : Fin cfg0.N) : (iblk m c 6 t : S1x1024.Idx → EReal) = gain (A6 m c) := by
  funext y
  blk_simp [iblk]
  show V m c main_v0 _ = _
  unfold_abbrev_sides
  after_results
  pointwise []
  refine congrArg (fun z => A6 m c (ix1 z)) (Fin.ext ?_)
  blk_simp [ix_6 t]

/-- What a point leaves in the outputs and in the copies of the weights. -/
theorem holds
    (hx : ∀ j, Re (A1 m c j)) (hu : ∀ j, Re (val_main_v25 (F := Ideal) (A0 m c) (A6 m c) j)) : ∀ (n : ℕ) (h : n < cfg0.N), outsAt0 m c n h =
    (tile n (lt ⟨n, h⟩) (val_main_v79 (F := Ideal) (A0 m c) (A1 m c) (A6 m c)),
      tile n (lt ⟨n, h⟩) (val_main_v80 (F := Ideal) (A0 m c) (A1 m c) (A5 m c) (A6 m c) (A7 m c)),
      tile n (lt ⟨n, h⟩) (val_main_v81 (F := Ideal) (A0 m c) (A1 m c) (A5 m c) (A6 m c) (A7 m c)),
      tile n (lt ⟨n, h⟩) (val_main_v82 (F := Ideal) (A0 m c) (A1 m c) (A5 m c) (A6 m c) (A7 m c)),
      tile n (lt ⟨n, h⟩) (val_main_v83 (F := Ideal) (A0 m c) (A1 m c) (A2 m c) (A3 m c) (A4 m c) (A5 m c) (A6 m c) (A7 m c)),
      accv (A0 m c) (A1 m c) n,
      (A7 m c))
  | 0, h => (outsAt0_A m c ⟨0, h⟩ rfl).trans (by
    rw [outA7, outA8, outA9, outA10, outA11, outA12, soutA0, blk0, blk1, blk2, blk3, blk4, blk5, blk6, V_main_arg7]
    exact congrArg₂ Prod.mk (pay9 (hx := hx) (hu := hu) ..) (congrArg₂ Prod.mk (pay13 (hx := hx) (hu := hu) ..) (congrArg₂ Prod.mk (pay16 (hx := hx) (hu := hu) ..) (congrArg₂ Prod.mk (pay3 (hx := hx) (hu := hu) ..) (congrArg₂ Prod.mk (pay_dzm (hx := hx) (hu := hu) ..) (congrArg₂ Prod.mk (accA ..) (rfl)))))))
  | n + 1, h => by
    have hN : n + 1 < 32 := lt_of_lt_of_eq h N_0
    refine (outsAt0_B m c ⟨n + 1, h⟩ (by dsimp only; omega)).trans ?_
    rw [outB7, outB8, outB9, outB10, outB11, outB12, blk0, blk1, blk2, blk3, blk4, blk5, blk6]
    have a0 : (outsAt0 m c (n + 1 - 1) (Nat.lt_of_le_of_lt (Nat.sub_le _ _) h)).2.2.2.2.2.1 = accv (A0 m c) (A1 m c) n :=
      congrArg (·.2.2.2.2.2.1) (holds hx hu n (Nat.lt_of_succ_lt h))
    have w0 : (outsAt0 m c (n + 1 - 1) (Nat.lt_of_le_of_lt (Nat.sub_le _ _) h)).2.2.2.2.2.2 = (A7 m c) :=
      congrArg (·.2.2.2.2.2.2) (holds hx hu n (Nat.lt_of_succ_lt h))
    rw [a0, w0]
    exact congrArg₂ Prod.mk (pay9 (hx := hx) (hu := hu) ..) (congrArg₂ Prod.mk (pay13 (hx := hx) (hu := hu) ..) (congrArg₂ Prod.mk (pay16 (hx := hx) (hu := hu) ..) (congrArg₂ Prod.mk (pay3 (hx := hx) (hu := hu) ..) (congrArg₂ Prod.mk (pay_dzm (hx := hx) (hu := hu) ..) (congrArg₂ Prod.mk (accB ..) (rfl))))))

/-- The last grid point. -/
def tLast : Fin cfg0.N := ⟨31, lt_of_lt_of_eq (by decide) N_0.symm⟩
/-- The result of window 7 is the reference's. -/
theorem arr7
    (hx : ∀ j, Re (A1 m c j)) (hu : ∀ j, Re (val_main_v25 (F := Ideal) (A0 m c) (A6 m c) j)) : (dats m 0 c).arrAt 7 cfg0.N = val_main_v79 (F := Ideal) (A0 m c) (A1 m c) (A6 m c) := by
  refine (dats m 0 c).arrAt_eq_of_covers 7 _ (by decide +kernel) fun t hf y => ?_
  blk_simp
  rw [after0_7, holds m c hx hu]
  refine (tile_of t.val (lt t) (val_main_v79 (F := Ideal) (A0 m c) (A1 m c) (A6 m c)) y _ ?_ ?_).symm <;> blk_simp [ix_7 t] <;> simp only [Nat.zero_mul, Nat.zero_add, Nat.mul_comm _ 512]
/-- The result of window 8 is the reference's. -/
theorem arr8
    (hx : ∀ j, Re (A1 m c j)) (hu : ∀ j, Re (val_main_v25 (F := Ideal) (A0 m c) (A6 m c) j)) : (dats m 0 c).arrAt 8 cfg0.N = val_main_v80 (F := Ideal) (A0 m c) (A1 m c) (A5 m c) (A6 m c) (A7 m c) := by
  refine (dats m 0 c).arrAt_eq_of_covers 8 _ (by decide +kernel) fun t hf y => ?_
  blk_simp
  rw [after0_8, holds m c hx hu]
  refine (tile_of t.val (lt t) (val_main_v80 (F := Ideal) (A0 m c) (A1 m c) (A5 m c) (A6 m c) (A7 m c)) y _ ?_ ?_).symm <;> blk_simp [ix_8 t] <;> simp only [Nat.zero_mul, Nat.zero_add, Nat.mul_comm _ 512]
/-- The result of window 9 is the reference's. -/
theorem arr9
    (hx : ∀ j, Re (A1 m c j)) (hu : ∀ j, Re (val_main_v25 (F := Ideal) (A0 m c) (A6 m c) j)) : (dats m 0 c).arrAt 9 cfg0.N = val_main_v81 (F := Ideal) (A0 m c) (A1 m c) (A5 m c) (A6 m c) (A7 m c) := by
  refine (dats m 0 c).arrAt_eq_of_covers 9 _ (by decide +kernel) fun t hf y => ?_
  blk_simp
  rw [after0_9, holds m c hx hu]
  refine (tile_of t.val (lt t) (val_main_v81 (F := Ideal) (A0 m c) (A1 m c) (A5 m c) (A6 m c) (A7 m c)) y _ ?_ ?_).symm <;> blk_simp [ix_9 t] <;> simp only [Nat.zero_mul, Nat.zero_add, Nat.mul_comm _ 512]
/-- The result of window 10 is the reference's. -/
theorem arr10
    (hx : ∀ j, Re (A1 m c j)) (hu : ∀ j, Re (val_main_v25 (F := Ideal) (A0 m c) (A6 m c) j)) : (dats m 0 c).arrAt 10 cfg0.N = val_main_v82 (F := Ideal) (A0 m c) (A1 m c) (A5 m c) (A6 m c) (A7 m c) := by
  refine (dats m 0 c).arrAt_eq_of_covers 10 _ (by decide +kernel) fun t hf y => ?_
  blk_simp
  rw [after0_10, holds m c hx hu]
  refine (tile_of t.val (lt t) (val_main_v82 (F := Ideal) (A0 m c) (A1 m c) (A5 m c) (A6 m c) (A7 m c)) y _ ?_ ?_).symm <;> blk_simp [ix_10 t] <;> simp only [Nat.zero_mul, Nat.zero_add, Nat.mul_comm _ 512]
/-- The result of window 11 is the reference's. -/
theorem arr11
    (hx : ∀ j, Re (A1 m c j)) (hu : ∀ j, Re (val_main_v25 (F := Ideal) (A0 m c) (A6 m c) j)) : (dats m 0 c).arrAt 11 cfg0.N = val_main_v83 (F := Ideal) (A0 m c) (A1 m c) (A2 m c) (A3 m c) (A4 m c) (A5 m c) (A6 m c) (A7 m c) := by
  refine (dats m 0 c).arrAt_eq_of_covers 11 _ (by decide +kernel) fun t hf y => ?_
  blk_simp
  rw [after0_11, holds m c hx hu]
  refine (tile_of t.val (lt t) (val_main_v83 (F := Ideal) (A0 m c) (A1 m c) (A2 m c) (A3 m c) (A4 m c) (A5 m c) (A6 m c) (A7 m c)) y _ ?_ ?_).symm <;> blk_simp [ix_11 t] <;> simp only [Nat.zero_mul, Nat.zero_add, Nat.mul_comm _ 512]
/-- The result of window 12 is the reference's. -/
theorem arr12
    (hx : ∀ j, Re (A1 m c j)) (hu : ∀ j, Re (val_main_v25 (F := Ideal) (A0 m c) (A6 m c) j)) : (dats m 0 c).arrAt 12 cfg0.N = val_main_v23 (F := Ideal) (A0 m c) (A1 m c) := by
  refine (dats m 0 c).arrAt_eq_of_after_last 12 tLast (by decide +kernel) _ fun j => ?_
  blk_simp
  rw [after0_12, holds m c hx hu]
  exact acc_all ..
end kernel

section claims
open Cert.MixBackIdeal

theorem algebraic : Cert.algebraic_MixBackIdeal_RefMixBackIdeal_pre_finite_mixback (hMixBackIdeal := Cert.MixBackIdeal.Gen.facts) (hRefMixBackIdeal := Cert.RefMixBackIdeal.Gen.facts) (hPre_finite_mixback := Cert.Pre_finite_mixback.Gen.facts) := by
  intro m ρ m' ρ' hpre hag
  have f0 (c : Dev nD) (j) : Re (A0 m c j) := re_of_finite _ (congrFun (hpre c).1 j)
  have f1 (c : Dev nD) (j) : Re (A1 m c j) := re_of_finite _ (congrFun (hpre c).2.1 j)
  have f6 (c : Dev nD) (j) : Re (A6 m c j) := re_of_finite _ (congrFun (hpre c).2.2 j)
  refine ⟨fun c => val_main_v79 (F := Ideal) (A0 m c) (A1 m c) (A6 m c), fun c => val_main_v80 (F := Ideal) (A0 m c) (A1 m c) (A5 m c) (A6 m c) (A7 m c), fun c => val_main_v81 (F := Ideal) (A0 m c) (A1 m c) (A5 m c) (A6 m c) (A7 m c), fun c => val_main_v82 (F := Ideal) (A0 m c) (A1 m c) (A5 m c) (A6 m c) (A7 m c), fun c => val_main_v83 (F := Ideal) (A0 m c) (A1 m c) (A2 m c) (A3 m c) (A4 m c) (A5 m c) (A6 m c) (A7 m c), fun c => val_main_v23 (F := Ideal) (A0 m c) (A1 m c), ?_, ?_⟩
  · refine (θ_run Cert.MixBackIdeal.defs _ _).mono (fun r h c => ?_) (Cert.MixBackIdeal.Value.run_blocks m ρ)
    obtain ⟨k0, k1, k2, k3, k4, k5, hk⟩ := h c
    have hx := (f1 c)
    have hu := (fun j => re_u (A0 m c) (A6 m c) (f0 c) (f6 c) j)
    exact ⟨k0.trans (arr7 m c hx hu), k1.trans (arr8 m c hx hu), k2.trans (arr9 m c hx hu), k3.trans (arr10 m c hx hu), k4.trans (arr11 m c hx hu), k5.trans (arr12 m c hx hu), hk⟩
  · refine (θ_run Cert.RefMixBackIdeal.defs _ _).mono (fun r h c => ?_) (Cert.RefMixBackIdeal.Value.run (F := Ideal) m' ρ')
    obtain ⟨k0, k1, k2, k3, k4, k5, hk⟩ := h c
    obtain ⟨a0, a1, a2, a3, a4, a5, a6, a7⟩ := hag c
    exact ⟨k0.trans ((val_main_v79_eq (F := Ideal) ..).trans (by rw [a0, a1, a6])),
      k1.trans ((val_main_v80_eq (F := Ideal) ..).trans (by rw [a0, a1, a5, a6, a7])),
      k2.trans ((val_main_v81_eq (F := Ideal) ..).trans (by rw [a0, a1, a5, a6, a7])),
      k3.trans ((val_main_v82_eq (F := Ideal) ..).trans (by rw [a0, a1, a5, a6, a7])),
      k4.trans ((val_main_v83_eq (F := Ideal) ..).trans (by rw [a0, a1, a2, a3, a4, a5, a6, a7])),
      k5.trans ((val_main_v23_eq (F := Ideal) ..).trans (by rw [a0, a1])), hk⟩
end claims

/-- The reference leaves its arguments as they were, and no counter behind. -/
theorem frame_reference : Cert.quiescent_RefMixBackIdeal (hRefMixBackIdeal := Cert.RefMixBackIdeal.Gen.facts) := fun m ρ _ =>
  (θ_run Cert.RefMixBackIdeal.defs _ _).mono (fun r h => ⟨fun c => (h c).2.2.2.2.2.2,
      Idealize.ShloMosaic.sem_eq_zero_of_no_sems (by decide) r.2⟩)
    (Cert.RefMixBackIdeal.Value.run (F := Ideal) m ρ)

end Cert.MixBackEq

end
-- ==== Proof.Adam.lean ====
/- The optimiser's step at one entry, and tables taken a tile of rows at a time. -/
module

public import proofs.«01_k».proof.Proof.Rows

@[expose] public section

noncomputable section

namespace Cert.Rows

open Idealize.ShloMosaic

/-- The first moment after the step. -/
def mom (g m : EReal) : EReal := Ideal.ofBits .f32 0x3F666666#32 * m + Ideal.ofBits .f32 0x3DCCCCCD#32 * g
/-- The second moment after the step. -/
def sqm (g v : EReal) : EReal := Ideal.ofBits .f32 0x3F7FBE77#32 * v + Ideal.ofBits .f32 0x3A83126F#32 * (g * g)
/-- The weight's change. -/
def delta (w g m v : EReal) : EReal :=
  Ideal.ofBits .f32 0xBA83126F#32 * (Ideal.div (Ideal.div (mom g m) (Ideal.ofBits .f32 0x3F26BD02#32))
    (Ideal.sqrt (Ideal.div (sqm g v) (Ideal.ofBits .f32 0x3C231ACC#32)) + Ideal.ofBits .f32 0x322BCC77#32) + Ideal.ofBits .f32 0x3C23D70A#32 * w)

end Cert.Rows

end
-- ==== Proof.UpdUpEq.lean ====
/- The optimiser's step of one of the feed-forward's first matrices. -/
module

public import proofs.«01_k».proof.Proof.Adam
public import proofs.«01_k».proof.Proof.Gen.UpdUpIdeal.Value
public import proofs.«01_k».proof.Proof.Gen.RefUpdUpIdeal.Run
public import proofs.«01_k».proof.Proof.Gen.RefUpdUpIdeal.Read
public import proofs.«01_k».proof.Defs

@[expose] public section

set_option maxRecDepth 16384

noncomputable section

namespace Cert.UpdUpEq

open Idealize.ShloMosaic Idealize.ShloMosaic.TcCoe Idealize.ShloMosaic.StableHlo Idealize.SL.Sem Cert.Rows
open Cert.RefUpdUpIdeal.Read Cert.UpdUpIdeal Cert.UpdUpIdeal.Gen Cert.UpdUpIdeal.Value

/-- An entry of the weight's change that the reference writes. -/
theorem ref_delta (x0 x1 x2 x3 : S4x1024x352.Idx → EReal) (j : S4x1024x352.Idx) :
    (val_main_v23 (F := Ideal) x0 x1 x2 x3 j : EReal) = delta (x0 j) (x1 j) (x2 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the first moment that the reference writes. -/
theorem ref_mom (x1 x2 : S4x1024x352.Idx → EReal) (j : S4x1024x352.Idx) : (val_main_v4 (F := Ideal) x1 x2 j : EReal) = mom (x1 j) (x2 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the second moment that the reference writes. -/
theorem ref_sqm (x1 x3 : S4x1024x352.Idx → EReal) (j : S4x1024x352.Idx) : (val_main_v10 (F := Ideal) x1 x3 j : EReal) = sqm (x1 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

/-- An entry of the block of the weight's change that the kernel writes. -/
theorem out_delta (x0 x1 x2 x3 : Vec Ideal S512x352 .f32) (y : S512x352.Idx) : (out0_4 x0 x1 x2 x3 y : EReal) = delta (x0 y) (x1 y) (x2 y) (x3 y) := by
  unfold out0_4
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the first moment that the kernel writes. -/
theorem out_mom (x0 x1 x2 x3 : Vec Ideal S512x352 .f32) (y : S512x352.Idx) : (out0_5 x0 x1 x2 x3 y : EReal) = mom (x1 y) (x2 y) := by
  unfold out0_5
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the second moment that the kernel writes. -/
theorem out_sqm (x0 x1 x2 x3 : Vec Ideal S512x352 .f32) (y : S512x352.Idx) : (out0_6 x0 x1 x2 x3 y : EReal) = sqm (x1 y) (x3 y) := by
  unfold out0_6
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl

variable (m : (ℓ : Loc nD τ sig) → Buf (Elt Ideal) ℓ) (c : Dev nD)

/-- The first argument: the weight. -/
abbrev A0 : S4x1024x352.Idx → EReal := m ((c : Thread nD τ).loc main_arg0)
/-- The second argument: its gradient. -/
abbrev A1 : S4x1024x352.Idx → EReal := m ((c : Thread nD τ).loc main_arg1)
/-- The third argument: the first moment. -/
abbrev A2 : S4x1024x352.Idx → EReal := m ((c : Thread nD τ).loc main_arg2)
/-- The fourth argument: the second moment. -/
abbrev A3 : S4x1024x352.Idx → EReal := m ((c : Thread nD τ).loc main_arg3)

/-- The weight, as the host's rows. -/
theorem rows0 : (V m c main_v0 : S4096x352.Idx → EReal) = shapeCast S4096x352 (A0 m c) Cert.UpdUpIdeal.Gen.facts.shapeCasts_S4x1024x352_S4096x352 := by
  unfold_abbrev_sides
  after_results
  rfl
/-- The gradient, as the host's rows. -/
theorem rows1 : (V m c main_v1 : S4096x352.Idx → EReal) = shapeCast S4096x352 (A1 m c) Cert.UpdUpIdeal.Gen.facts.shapeCasts_S4x1024x352_S4096x352 := by
  unfold_abbrev_sides
  after_results
  rfl
/-- The first moment, as the host's rows. -/
theorem rows2 : (V m c main_v2 : S4096x352.Idx → EReal) = shapeCast S4096x352 (A2 m c) Cert.UpdUpIdeal.Gen.facts.shapeCasts_S4x1024x352_S4096x352 := by
  unfold_abbrev_sides
  after_results
  rfl
/-- The second moment, as the host's rows. -/
theorem rows3 : (V m c main_v3 : S4096x352.Idx → EReal) = shapeCast S4096x352 (A3 m c) Cert.UpdUpIdeal.Gen.facts.shapeCasts_S4x1024x352_S4096x352 := by
  unfold_abbrev_sides
  after_results
  rfl
/-- The weight's change, as the host's rows: a function of the rows the call is given. -/
theorem host_delta (j : S4096x352.Idx) : (val_main_v24 (F := Ideal) (A0 m c) (A1 m c) (A2 m c) (A3 m c) j : EReal) = delta (V m c main_v0 j) (V m c main_v1 j) (V m c main_v2 j) (V m c main_v3 j) := by
  rw [rows0, rows1, rows2, rows3]
  exact congrArg (fun q : S4x1024x352.Idx → EReal => (shapeCast S4096x352 q Cert.UpdUpIdeal.Gen.facts.shapeCasts_S4x1024x352_S4096x352 : S4096x352.Idx → EReal) j) (funext fun i => ref_delta _ _ _ _ i)
/-- The weight's change that the kernel ends with is the reference's. -/
theorem arr_delta : (dats m 0 c).arrAt 4 cfg0.N = val_main_v24 (F := Ideal) (A0 m c) (A1 m c) (A2 m c) (A3 m c) := by
  refine (dats m 0 c).arrAt_eq_of_covers 4 _ (by decide +kernel) fun t hf y => ?_
  blk_simp
  rw [after0_4, out_delta, host_delta]
  rfl
/-- The first moment, as the host's rows: a function of the rows the call is given. -/
theorem host_mom (j : S4096x352.Idx) : (val_main_v25 (F := Ideal) (A1 m c) (A2 m c) j : EReal) = mom (V m c main_v1 j) (V m c main_v2 j) := by
  rw [rows1, rows2]
  exact congrArg (fun q : S4x1024x352.Idx → EReal => (shapeCast S4096x352 q Cert.UpdUpIdeal.Gen.facts.shapeCasts_S4x1024x352_S4096x352 : S4096x352.Idx → EReal) j) (funext fun i => ref_mom _ _ i)
/-- The first moment that the kernel ends with is the reference's. -/
theorem arr_mom : (dats m 0 c).arrAt 5 cfg0.N = val_main_v25 (F := Ideal) (A1 m c) (A2 m c) := by
  refine (dats m 0 c).arrAt_eq_of_covers 5 _ (by decide +kernel) fun t hf y => ?_
  blk_simp
  rw [after0_5, out_mom, host_mom]
  rfl
/-- The second moment, as the host's rows: a function of the rows the call is given. -/
theorem host_sqm (j : S4096x352.Idx) : (val_main_v26 (F := Ideal) (A1 m c) (A3 m c) j : EReal) = sqm (V m c main_v1 j) (V m c main_v3 j) := by
  rw [rows1, rows3]
  exact congrArg (fun q : S4x1024x352.Idx → EReal => (shapeCast S4096x352 q Cert.UpdUpIdeal.Gen.facts.shapeCasts_S4x1024x352_S4096x352 : S4096x352.Idx → EReal) j) (funext fun i => ref_sqm _ _ i)
/-- The second moment that the kernel ends with is the reference's. -/
theorem arr_sqm : (dats m 0 c).arrAt 6 cfg0.N = val_main_v26 (F := Ideal) (A1 m c) (A3 m c) := by
  refine (dats m 0 c).arrAt_eq_of_covers 6 _ (by decide +kernel) fun t hf y => ?_
  blk_simp
  rw [after0_6, out_sqm, host_sqm]
  rfl

/-- The kernel and the reference end with the same values, over the extended reals. -/
theorem algebraic : Cert.algebraic_UpdUpIdeal_RefUpdUpIdeal (hUpdUpIdeal := Cert.UpdUpIdeal.Gen.facts) (hRefUpdUpIdeal := Cert.RefUpdUpIdeal.Gen.facts) := by
  intro m ρ m' ρ' _ hag
  refine ⟨fun c => val_main_v24 (F := Ideal) (A0 m c) (A1 m c) (A2 m c) (A3 m c), fun c => val_main_v25 (F := Ideal) (A1 m c) (A2 m c),
    fun c => val_main_v26 (F := Ideal) (A1 m c) (A3 m c), ?_, ?_⟩
  · refine (θ_run Cert.UpdUpIdeal.defs _ _).mono (fun r h c => ?_) (Cert.UpdUpIdeal.Value.run_blocks m ρ)
    obtain ⟨k0, k1, k2, hk⟩ := h c
    exact ⟨k0.trans (arr_delta m c), k1.trans (arr_mom m c), k2.trans (arr_sqm m c), hk⟩
  · refine (θ_run Cert.RefUpdUpIdeal.defs _ _).mono (fun r h c => ?_) (Cert.RefUpdUpIdeal.Value.run (F := Ideal) m' ρ')
    obtain ⟨k0, k1, k2, hk⟩ := h c
    obtain ⟨a0, a1, a2, a3⟩ := hag c
    exact ⟨k0.trans ((val_main_v24_eq (F := Ideal) _ _ _ _).trans (by rw [a0, a1, a2, a3])),
      k1.trans ((val_main_v25_eq (F := Ideal) _ _).trans (by rw [a1, a2])),
      k2.trans ((val_main_v26_eq (F := Ideal) _ _).trans (by rw [a1, a3])), hk⟩

/-- The reference leaves its arguments as they were, and no counter behind. -/
theorem frame_reference : Cert.quiescent_RefUpdUpIdeal (hRefUpdUpIdeal := Cert.RefUpdUpIdeal.Gen.facts) := fun m ρ _ =>
  (θ_run Cert.RefUpdUpIdeal.defs _ _).mono (fun r h => ⟨fun c => (h c).2.2.2,
      Idealize.ShloMosaic.sem_eq_zero_of_no_sems (by decide) r.2⟩)
    (Cert.RefUpdUpIdeal.Value.run (F := Ideal) m ρ)

end Cert.UpdUpEq

end
-- ==== Proof.UpdDownEq.lean ====
/- The optimiser's step of one of the feed-forward's last matrices. -/
module

public import proofs.«01_k».proof.Proof.Adam
public import proofs.«01_k».proof.Proof.Gen.UpdDownIdeal.Value
public import proofs.«01_k».proof.Proof.Gen.RefUpdDownIdeal.Run
public import proofs.«01_k».proof.Proof.Gen.RefUpdDownIdeal.Read
public import proofs.«01_k».proof.Defs

@[expose] public section

set_option maxRecDepth 16384

noncomputable section

namespace Cert.UpdDownEq

open Idealize.ShloMosaic Idealize.ShloMosaic.TcCoe Idealize.ShloMosaic.StableHlo Idealize.SL.Sem Cert.Rows
open Cert.RefUpdDownIdeal.Read Cert.UpdDownIdeal Cert.UpdDownIdeal.Gen Cert.UpdDownIdeal.Value

/-- An entry of the weight's change that the reference writes. -/
theorem ref_delta (x0 x1 x2 x3 : S4x352x1024.Idx → EReal) (j : S4x352x1024.Idx) :
    (val_main_v23 (F := Ideal) x0 x1 x2 x3 j : EReal) = delta (x0 j) (x1 j) (x2 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the first moment that the reference writes. -/
theorem ref_mom (x1 x2 : S4x352x1024.Idx → EReal) (j : S4x352x1024.Idx) : (val_main_v4 (F := Ideal) x1 x2 j : EReal) = mom (x1 j) (x2 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the second moment that the reference writes. -/
theorem ref_sqm (x1 x3 : S4x352x1024.Idx → EReal) (j : S4x352x1024.Idx) : (val_main_v10 (F := Ideal) x1 x3 j : EReal) = sqm (x1 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

/-- An entry of the block of the weight's change that the kernel writes. -/
theorem out_delta (x0 x1 x2 x3 : Vec Ideal S176x1024 .f32) (y : S176x1024.Idx) : (out0_4 x0 x1 x2 x3 y : EReal) = delta (x0 y) (x1 y) (x2 y) (x3 y) := by
  unfold out0_4
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the first moment that the kernel writes. -/
theorem out_mom (x0 x1 x2 x3 : Vec Ideal S176x1024 .f32) (y : S176x1024.Idx) : (out0_5 x0 x1 x2 x3 y : EReal) = mom (x1 y) (x2 y) := by
  unfold out0_5
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the second moment that the kernel writes. -/
theorem out_sqm (x0 x1 x2 x3 : Vec Ideal S176x1024 .f32) (y : S176x1024.Idx) : (out0_6 x0 x1 x2 x3 y : EReal) = sqm (x1 y) (x3 y) := by
  unfold out0_6
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl

variable (m : (ℓ : Loc nD τ sig) → Buf (Elt Ideal) ℓ) (c : Dev nD)

/-- The first argument: the weight. -/
abbrev A0 : S4x352x1024.Idx → EReal := m ((c : Thread nD τ).loc main_arg0)
/-- The second argument: its gradient. -/
abbrev A1 : S4x352x1024.Idx → EReal := m ((c : Thread nD τ).loc main_arg1)
/-- The third argument: the first moment. -/
abbrev A2 : S4x352x1024.Idx → EReal := m ((c : Thread nD τ).loc main_arg2)
/-- The fourth argument: the second moment. -/
abbrev A3 : S4x352x1024.Idx → EReal := m ((c : Thread nD τ).loc main_arg3)

/-- The weight, as the host's rows. -/
theorem rows0 : (V m c main_v0 : S1408x1024.Idx → EReal) = shapeCast S1408x1024 (A0 m c) Cert.UpdDownIdeal.Gen.facts.shapeCasts_S4x352x1024_S1408x1024 := by
  unfold_abbrev_sides
  after_results
  rfl
/-- The gradient, as the host's rows. -/
theorem rows1 : (V m c main_v1 : S1408x1024.Idx → EReal) = shapeCast S1408x1024 (A1 m c) Cert.UpdDownIdeal.Gen.facts.shapeCasts_S4x352x1024_S1408x1024 := by
  unfold_abbrev_sides
  after_results
  rfl
/-- The first moment, as the host's rows. -/
theorem rows2 : (V m c main_v2 : S1408x1024.Idx → EReal) = shapeCast S1408x1024 (A2 m c) Cert.UpdDownIdeal.Gen.facts.shapeCasts_S4x352x1024_S1408x1024 := by
  unfold_abbrev_sides
  after_results
  rfl
/-- The second moment, as the host's rows. -/
theorem rows3 : (V m c main_v3 : S1408x1024.Idx → EReal) = shapeCast S1408x1024 (A3 m c) Cert.UpdDownIdeal.Gen.facts.shapeCasts_S4x352x1024_S1408x1024 := by
  unfold_abbrev_sides
  after_results
  rfl
/-- The weight's change, as the host's rows: a function of the rows the call is given. -/
theorem host_delta (j : S1408x1024.Idx) : (val_main_v24 (F := Ideal) (A0 m c) (A1 m c) (A2 m c) (A3 m c) j : EReal) = delta (V m c main_v0 j) (V m c main_v1 j) (V m c main_v2 j) (V m c main_v3 j) := by
  rw [rows0, rows1, rows2, rows3]
  exact congrArg (fun q : S4x352x1024.Idx → EReal => (shapeCast S1408x1024 q Cert.UpdDownIdeal.Gen.facts.shapeCasts_S4x352x1024_S1408x1024 : S1408x1024.Idx → EReal) j) (funext fun i => ref_delta _ _ _ _ i)
/-- The weight's change that the kernel ends with is the reference's. -/
theorem arr_delta : (dats m 0 c).arrAt 4 cfg0.N = val_main_v24 (F := Ideal) (A0 m c) (A1 m c) (A2 m c) (A3 m c) := by
  refine (dats m 0 c).arrAt_eq_of_covers 4 _ (by decide +kernel) fun t hf y => ?_
  blk_simp
  rw [after0_4, out_delta, host_delta]
  rfl
/-- The first moment, as the host's rows: a function of the rows the call is given. -/
theorem host_mom (j : S1408x1024.Idx) : (val_main_v25 (F := Ideal) (A1 m c) (A2 m c) j : EReal) = mom (V m c main_v1 j) (V m c main_v2 j) := by
  rw [rows1, rows2]
  exact congrArg (fun q : S4x352x1024.Idx → EReal => (shapeCast S1408x1024 q Cert.UpdDownIdeal.Gen.facts.shapeCasts_S4x352x1024_S1408x1024 : S1408x1024.Idx → EReal) j) (funext fun i => ref_mom _ _ i)
/-- The first moment that the kernel ends with is the reference's. -/
theorem arr_mom : (dats m 0 c).arrAt 5 cfg0.N = val_main_v25 (F := Ideal) (A1 m c) (A2 m c) := by
  refine (dats m 0 c).arrAt_eq_of_covers 5 _ (by decide +kernel) fun t hf y => ?_
  blk_simp
  rw [after0_5, out_mom, host_mom]
  rfl
/-- The second moment, as the host's rows: a function of the rows the call is given. -/
theorem host_sqm (j : S1408x1024.Idx) : (val_main_v26 (F := Ideal) (A1 m c) (A3 m c) j : EReal) = sqm (V m c main_v1 j) (V m c main_v3 j) := by
  rw [rows1, rows3]
  exact congrArg (fun q : S4x352x1024.Idx → EReal => (shapeCast S1408x1024 q Cert.UpdDownIdeal.Gen.facts.shapeCasts_S4x352x1024_S1408x1024 : S1408x1024.Idx → EReal) j) (funext fun i => ref_sqm _ _ i)
/-- The second moment that the kernel ends with is the reference's. -/
theorem arr_sqm : (dats m 0 c).arrAt 6 cfg0.N = val_main_v26 (F := Ideal) (A1 m c) (A3 m c) := by
  refine (dats m 0 c).arrAt_eq_of_covers 6 _ (by decide +kernel) fun t hf y => ?_
  blk_simp
  rw [after0_6, out_sqm, host_sqm]
  rfl

/-- The kernel and the reference end with the same values, over the extended reals. -/
theorem algebraic : Cert.algebraic_UpdDownIdeal_RefUpdDownIdeal (hUpdDownIdeal := Cert.UpdDownIdeal.Gen.facts) (hRefUpdDownIdeal := Cert.RefUpdDownIdeal.Gen.facts) := by
  intro m ρ m' ρ' _ hag
  refine ⟨fun c => val_main_v24 (F := Ideal) (A0 m c) (A1 m c) (A2 m c) (A3 m c), fun c => val_main_v25 (F := Ideal) (A1 m c) (A2 m c),
    fun c => val_main_v26 (F := Ideal) (A1 m c) (A3 m c), ?_, ?_⟩
  · refine (θ_run Cert.UpdDownIdeal.defs _ _).mono (fun r h c => ?_) (Cert.UpdDownIdeal.Value.run_blocks m ρ)
    obtain ⟨k0, k1, k2, hk⟩ := h c
    exact ⟨k0.trans (arr_delta m c), k1.trans (arr_mom m c), k2.trans (arr_sqm m c), hk⟩
  · refine (θ_run Cert.RefUpdDownIdeal.defs _ _).mono (fun r h c => ?_) (Cert.RefUpdDownIdeal.Value.run (F := Ideal) m' ρ')
    obtain ⟨k0, k1, k2, hk⟩ := h c
    obtain ⟨a0, a1, a2, a3⟩ := hag c
    exact ⟨k0.trans ((val_main_v24_eq (F := Ideal) _ _ _ _).trans (by rw [a0, a1, a2, a3])),
      k1.trans ((val_main_v25_eq (F := Ideal) _ _).trans (by rw [a1, a2])),
      k2.trans ((val_main_v26_eq (F := Ideal) _ _).trans (by rw [a1, a3])), hk⟩

/-- The reference leaves its arguments as they were, and no counter behind. -/
theorem frame_reference : Cert.quiescent_RefUpdDownIdeal (hRefUpdDownIdeal := Cert.RefUpdDownIdeal.Gen.facts) := fun m ρ _ =>
  (θ_run Cert.RefUpdDownIdeal.defs _ _).mono (fun r h => ⟨fun c => (h c).2.2.2,
      Idealize.ShloMosaic.sem_eq_zero_of_no_sems (by decide) r.2⟩)
    (Cert.RefUpdDownIdeal.Value.run (F := Ideal) m ρ)

end Cert.UpdDownEq

end
-- ==== Proof.UpdInEq.lean ====
/- The optimiser's step of the mixing's matrix at the way in. -/
module

public import proofs.«01_k».proof.Proof.Adam
public import proofs.«01_k».proof.Proof.Gen.UpdInIdeal.Value
public import proofs.«01_k».proof.Proof.Gen.RefUpdInIdeal.Run
public import proofs.«01_k».proof.Proof.Gen.RefUpdInIdeal.Read
public import proofs.«01_k».proof.Defs

@[expose] public section

set_option maxRecDepth 16384

noncomputable section

namespace Cert.UpdInEq

open Idealize.ShloMosaic Idealize.ShloMosaic.TcCoe Idealize.ShloMosaic.StableHlo Idealize.SL.Sem Cert.Rows
open Cert.RefUpdInIdeal.Read Cert.UpdInIdeal Cert.UpdInIdeal.Gen Cert.UpdInIdeal.Value

/-- An entry of the weight's change that the reference writes. -/
theorem ref_delta (x0 x1 x2 x3 : S4x1024x960.Idx → EReal) (j : S4x1024x960.Idx) :
    (val_main_v23 (F := Ideal) x0 x1 x2 x3 j : EReal) = delta (x0 j) (x1 j) (x2 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the first moment that the reference writes. -/
theorem ref_mom (x1 x2 : S4x1024x960.Idx → EReal) (j : S4x1024x960.Idx) : (val_main_v4 (F := Ideal) x1 x2 j : EReal) = mom (x1 j) (x2 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the second moment that the reference writes. -/
theorem ref_sqm (x1 x3 : S4x1024x960.Idx → EReal) (j : S4x1024x960.Idx) : (val_main_v10 (F := Ideal) x1 x3 j : EReal) = sqm (x1 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

/-- An entry of the block of the weight's change that the kernel writes. -/
theorem out_delta (x0 x1 x2 x3 : Vec Ideal S256x960 .f32) (y : S256x960.Idx) : (out0_4 x0 x1 x2 x3 y : EReal) = delta (x0 y) (x1 y) (x2 y) (x3 y) := by
  unfold out0_4
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the first moment that the kernel writes. -/
theorem out_mom (x0 x1 x2 x3 : Vec Ideal S256x960 .f32) (y : S256x960.Idx) : (out0_5 x0 x1 x2 x3 y : EReal) = mom (x1 y) (x2 y) := by
  unfold out0_5
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the second moment that the kernel writes. -/
theorem out_sqm (x0 x1 x2 x3 : Vec Ideal S256x960 .f32) (y : S256x960.Idx) : (out0_6 x0 x1 x2 x3 y : EReal) = sqm (x1 y) (x3 y) := by
  unfold out0_6
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl

variable (m : (ℓ : Loc nD τ sig) → Buf (Elt Ideal) ℓ) (c : Dev nD)

/-- The first argument: the weight. -/
abbrev A0 : S4x1024x960.Idx → EReal := m ((c : Thread nD τ).loc main_arg0)
/-- The second argument: its gradient. -/
abbrev A1 : S4x1024x960.Idx → EReal := m ((c : Thread nD τ).loc main_arg1)
/-- The third argument: the first moment. -/
abbrev A2 : S4x1024x960.Idx → EReal := m ((c : Thread nD τ).loc main_arg2)
/-- The fourth argument: the second moment. -/
abbrev A3 : S4x1024x960.Idx → EReal := m ((c : Thread nD τ).loc main_arg3)

/-- The weight, as the host's rows. -/
theorem rows0 : (V m c main_v0 : S4096x960.Idx → EReal) = shapeCast S4096x960 (A0 m c) Cert.UpdInIdeal.Gen.facts.shapeCasts_S4x1024x960_S4096x960 := by
  unfold_abbrev_sides
  after_results
  rfl
/-- The gradient, as the host's rows. -/
theorem rows1 : (V m c main_v1 : S4096x960.Idx → EReal) = shapeCast S4096x960 (A1 m c) Cert.UpdInIdeal.Gen.facts.shapeCasts_S4x1024x960_S4096x960 := by
  unfold_abbrev_sides
  after_results
  rfl
/-- The first moment, as the host's rows. -/
theorem rows2 : (V m c main_v2 : S4096x960.Idx → EReal) = shapeCast S4096x960 (A2 m c) Cert.UpdInIdeal.Gen.facts.shapeCasts_S4x1024x960_S4096x960 := by
  unfold_abbrev_sides
  after_results
  rfl
/-- The second moment, as the host's rows. -/
theorem rows3 : (V m c main_v3 : S4096x960.Idx → EReal) = shapeCast S4096x960 (A3 m c) Cert.UpdInIdeal.Gen.facts.shapeCasts_S4x1024x960_S4096x960 := by
  unfold_abbrev_sides
  after_results
  rfl
/-- The weight's change, as the host's rows: a function of the rows the call is given. -/
theorem host_delta (j : S4096x960.Idx) : (val_main_v24 (F := Ideal) (A0 m c) (A1 m c) (A2 m c) (A3 m c) j : EReal) = delta (V m c main_v0 j) (V m c main_v1 j) (V m c main_v2 j) (V m c main_v3 j) := by
  rw [rows0, rows1, rows2, rows3]
  exact congrArg (fun q : S4x1024x960.Idx → EReal => (shapeCast S4096x960 q Cert.UpdInIdeal.Gen.facts.shapeCasts_S4x1024x960_S4096x960 : S4096x960.Idx → EReal) j) (funext fun i => ref_delta _ _ _ _ i)
/-- The weight's change that the kernel ends with is the reference's. -/
theorem arr_delta : (dats m 0 c).arrAt 4 cfg0.N = val_main_v24 (F := Ideal) (A0 m c) (A1 m c) (A2 m c) (A3 m c) := by
  refine (dats m 0 c).arrAt_eq_of_covers 4 _ (by decide +kernel) fun t hf y => ?_
  blk_simp
  rw [after0_4, out_delta, host_delta]
  rfl
/-- The first moment, as the host's rows: a function of the rows the call is given. -/
theorem host_mom (j : S4096x960.Idx) : (val_main_v25 (F := Ideal) (A1 m c) (A2 m c) j : EReal) = mom (V m c main_v1 j) (V m c main_v2 j) := by
  rw [rows1, rows2]
  exact congrArg (fun q : S4x1024x960.Idx → EReal => (shapeCast S4096x960 q Cert.UpdInIdeal.Gen.facts.shapeCasts_S4x1024x960_S4096x960 : S4096x960.Idx → EReal) j) (funext fun i => ref_mom _ _ i)
/-- The first moment that the kernel ends with is the reference's. -/
theorem arr_mom : (dats m 0 c).arrAt 5 cfg0.N = val_main_v25 (F := Ideal) (A1 m c) (A2 m c) := by
  refine (dats m 0 c).arrAt_eq_of_covers 5 _ (by decide +kernel) fun t hf y => ?_
  blk_simp
  rw [after0_5, out_mom, host_mom]
  rfl
/-- The second moment, as the host's rows: a function of the rows the call is given. -/
theorem host_sqm (j : S4096x960.Idx) : (val_main_v26 (F := Ideal) (A1 m c) (A3 m c) j : EReal) = sqm (V m c main_v1 j) (V m c main_v3 j) := by
  rw [rows1, rows3]
  exact congrArg (fun q : S4x1024x960.Idx → EReal => (shapeCast S4096x960 q Cert.UpdInIdeal.Gen.facts.shapeCasts_S4x1024x960_S4096x960 : S4096x960.Idx → EReal) j) (funext fun i => ref_sqm _ _ i)
/-- The second moment that the kernel ends with is the reference's. -/
theorem arr_sqm : (dats m 0 c).arrAt 6 cfg0.N = val_main_v26 (F := Ideal) (A1 m c) (A3 m c) := by
  refine (dats m 0 c).arrAt_eq_of_covers 6 _ (by decide +kernel) fun t hf y => ?_
  blk_simp
  rw [after0_6, out_sqm, host_sqm]
  rfl

/-- The kernel and the reference end with the same values, over the extended reals. -/
theorem algebraic : Cert.algebraic_UpdInIdeal_RefUpdInIdeal (hUpdInIdeal := Cert.UpdInIdeal.Gen.facts) (hRefUpdInIdeal := Cert.RefUpdInIdeal.Gen.facts) := by
  intro m ρ m' ρ' _ hag
  refine ⟨fun c => val_main_v24 (F := Ideal) (A0 m c) (A1 m c) (A2 m c) (A3 m c), fun c => val_main_v25 (F := Ideal) (A1 m c) (A2 m c),
    fun c => val_main_v26 (F := Ideal) (A1 m c) (A3 m c), ?_, ?_⟩
  · refine (θ_run Cert.UpdInIdeal.defs _ _).mono (fun r h c => ?_) (Cert.UpdInIdeal.Value.run_blocks m ρ)
    obtain ⟨k0, k1, k2, hk⟩ := h c
    exact ⟨k0.trans (arr_delta m c), k1.trans (arr_mom m c), k2.trans (arr_sqm m c), hk⟩
  · refine (θ_run Cert.RefUpdInIdeal.defs _ _).mono (fun r h c => ?_) (Cert.RefUpdInIdeal.Value.run (F := Ideal) m' ρ')
    obtain ⟨k0, k1, k2, hk⟩ := h c
    obtain ⟨a0, a1, a2, a3⟩ := hag c
    exact ⟨k0.trans ((val_main_v24_eq (F := Ideal) _ _ _ _).trans (by rw [a0, a1, a2, a3])),
      k1.trans ((val_main_v25_eq (F := Ideal) _ _).trans (by rw [a1, a2])),
      k2.trans ((val_main_v26_eq (F := Ideal) _ _).trans (by rw [a1, a3])), hk⟩

/-- The reference leaves its arguments as they were, and no counter behind. -/
theorem frame_reference : Cert.quiescent_RefUpdInIdeal (hRefUpdInIdeal := Cert.RefUpdInIdeal.Gen.facts) := fun m ρ _ =>
  (θ_run Cert.RefUpdInIdeal.defs _ _).mono (fun r h => ⟨fun c => (h c).2.2.2,
      Idealize.ShloMosaic.sem_eq_zero_of_no_sems (by decide) r.2⟩)
    (Cert.RefUpdInIdeal.Value.run (F := Ideal) m ρ)

end Cert.UpdInEq

end
-- ==== Proof.UpdGateEq.lean ====
/- The optimiser's step of the recurrence's gate matrices. -/
module

public import proofs.«01_k».proof.Proof.Adam
public import proofs.«01_k».proof.Proof.Gen.UpdGateIdeal.Value
public import proofs.«01_k».proof.Proof.Gen.RefUpdGateIdeal.Run
public import proofs.«01_k».proof.Proof.Gen.RefUpdGateIdeal.Read
public import proofs.«01_k».proof.Defs

@[expose] public section

set_option maxRecDepth 16384

noncomputable section

namespace Cert.UpdGateEq

open Idealize.ShloMosaic Idealize.ShloMosaic.TcCoe Idealize.ShloMosaic.StableHlo Idealize.SL.Sem Cert.Rows
open Cert.RefUpdGateIdeal.Read Cert.UpdGateIdeal Cert.UpdGateIdeal.Gen Cert.UpdGateIdeal.Value

/-- An entry of the weight's change that the reference writes. -/
theorem ref_delta (x0 x1 x2 x3 : S4x2x4x32x256.Idx → EReal) (j : S4x2x4x32x256.Idx) :
    (val_main_v23 (F := Ideal) x0 x1 x2 x3 j : EReal) = delta (x0 j) (x1 j) (x2 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the first moment that the reference writes. -/
theorem ref_mom (x1 x2 : S4x2x4x32x256.Idx → EReal) (j : S4x2x4x32x256.Idx) : (val_main_v4 (F := Ideal) x1 x2 j : EReal) = mom (x1 j) (x2 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the second moment that the reference writes. -/
theorem ref_sqm (x1 x3 : S4x2x4x32x256.Idx → EReal) (j : S4x2x4x32x256.Idx) : (val_main_v10 (F := Ideal) x1 x3 j : EReal) = sqm (x1 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

/-- An entry of the block of the weight's change that the kernel writes. -/
theorem out_delta (x0 x1 x2 x3 : Vec Ideal S1024x256 .f32) (y : S1024x256.Idx) : (out0_4 x0 x1 x2 x3 y : EReal) = delta (x0 y) (x1 y) (x2 y) (x3 y) := by
  unfold out0_4
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the first moment that the kernel writes. -/
theorem out_mom (x0 x1 x2 x3 : Vec Ideal S1024x256 .f32) (y : S1024x256.Idx) : (out0_5 x0 x1 x2 x3 y : EReal) = mom (x1 y) (x2 y) := by
  unfold out0_5
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the second moment that the kernel writes. -/
theorem out_sqm (x0 x1 x2 x3 : Vec Ideal S1024x256 .f32) (y : S1024x256.Idx) : (out0_6 x0 x1 x2 x3 y : EReal) = sqm (x1 y) (x3 y) := by
  unfold out0_6
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl

variable (m : (ℓ : Loc nD τ sig) → Buf (Elt Ideal) ℓ) (c : Dev nD)

/-- The first argument: the weight. -/
abbrev A0 : S4x2x4x32x256.Idx → EReal := m ((c : Thread nD τ).loc main_arg0)
/-- The second argument: its gradient. -/
abbrev A1 : S4x2x4x32x256.Idx → EReal := m ((c : Thread nD τ).loc main_arg1)
/-- The third argument: the first moment. -/
abbrev A2 : S4x2x4x32x256.Idx → EReal := m ((c : Thread nD τ).loc main_arg2)
/-- The fourth argument: the second moment. -/
abbrev A3 : S4x2x4x32x256.Idx → EReal := m ((c : Thread nD τ).loc main_arg3)

/-- The weight, as the host's rows. -/
theorem rows0 : (V m c main_v0 : S1024x256.Idx → EReal) = shapeCast S1024x256 (A0 m c) Cert.UpdGateIdeal.Gen.facts.shapeCasts_S4x2x4x32x256_S1024x256 := by
  unfold_abbrev_sides
  after_results
  rfl
/-- The gradient, as the host's rows. -/
theorem rows1 : (V m c main_v1 : S1024x256.Idx → EReal) = shapeCast S1024x256 (A1 m c) Cert.UpdGateIdeal.Gen.facts.shapeCasts_S4x2x4x32x256_S1024x256 := by
  unfold_abbrev_sides
  after_results
  rfl
/-- The first moment, as the host's rows. -/
theorem rows2 : (V m c main_v2 : S1024x256.Idx → EReal) = shapeCast S1024x256 (A2 m c) Cert.UpdGateIdeal.Gen.facts.shapeCasts_S4x2x4x32x256_S1024x256 := by
  unfold_abbrev_sides
  after_results
  rfl
/-- The second moment, as the host's rows. -/
theorem rows3 : (V m c main_v3 : S1024x256.Idx → EReal) = shapeCast S1024x256 (A3 m c) Cert.UpdGateIdeal.Gen.facts.shapeCasts_S4x2x4x32x256_S1024x256 := by
  unfold_abbrev_sides
  after_results
  rfl
/-- The weight's change, as the host's rows: a function of the rows the call is given. -/
theorem host_delta (j : S1024x256.Idx) : (val_main_v24 (F := Ideal) (A0 m c) (A1 m c) (A2 m c) (A3 m c) j : EReal) = delta (V m c main_v0 j) (V m c main_v1 j) (V m c main_v2 j) (V m c main_v3 j) := by
  rw [rows0, rows1, rows2, rows3]
  exact congrArg (fun q : S4x2x4x32x256.Idx → EReal => (shapeCast S1024x256 q Cert.UpdGateIdeal.Gen.facts.shapeCasts_S4x2x4x32x256_S1024x256 : S1024x256.Idx → EReal) j) (funext fun i => ref_delta _ _ _ _ i)
/-- The weight's change that the kernel ends with is the reference's. -/
theorem arr_delta : (dats m 0 c).arrAt 4 cfg0.N = val_main_v24 (F := Ideal) (A0 m c) (A1 m c) (A2 m c) (A3 m c) := by
  refine (dats m 0 c).arrAt_eq_of_covers 4 _ (by decide +kernel) fun t hf y => ?_
  blk_simp
  rw [after0_4, out_delta, host_delta]
  rfl
/-- The first moment, as the host's rows: a function of the rows the call is given. -/
theorem host_mom (j : S1024x256.Idx) : (val_main_v25 (F := Ideal) (A1 m c) (A2 m c) j : EReal) = mom (V m c main_v1 j) (V m c main_v2 j) := by
  rw [rows1, rows2]
  exact congrArg (fun q : S4x2x4x32x256.Idx → EReal => (shapeCast S1024x256 q Cert.UpdGateIdeal.Gen.facts.shapeCasts_S4x2x4x32x256_S1024x256 : S1024x256.Idx → EReal) j) (funext fun i => ref_mom _ _ i)
/-- The first moment that the kernel ends with is the reference's. -/
theorem arr_mom : (dats m 0 c).arrAt 5 cfg0.N = val_main_v25 (F := Ideal) (A1 m c) (A2 m c) := by
  refine (dats m 0 c).arrAt_eq_of_covers 5 _ (by decide +kernel) fun t hf y => ?_
  blk_simp
  rw [after0_5, out_mom, host_mom]
  rfl
/-- The second moment, as the host's rows: a function of the rows the call is given. -/
theorem host_sqm (j : S1024x256.Idx) : (val_main_v26 (F := Ideal) (A1 m c) (A3 m c) j : EReal) = sqm (V m c main_v1 j) (V m c main_v3 j) := by
  rw [rows1, rows3]
  exact congrArg (fun q : S4x2x4x32x256.Idx → EReal => (shapeCast S1024x256 q Cert.UpdGateIdeal.Gen.facts.shapeCasts_S4x2x4x32x256_S1024x256 : S1024x256.Idx → EReal) j) (funext fun i => ref_sqm _ _ i)
/-- The second moment that the kernel ends with is the reference's. -/
theorem arr_sqm : (dats m 0 c).arrAt 6 cfg0.N = val_main_v26 (F := Ideal) (A1 m c) (A3 m c) := by
  refine (dats m 0 c).arrAt_eq_of_covers 6 _ (by decide +kernel) fun t hf y => ?_
  blk_simp
  rw [after0_6, out_sqm, host_sqm]
  rfl

/-- The kernel and the reference end with the same values, over the extended reals. -/
theorem algebraic : Cert.algebraic_UpdGateIdeal_RefUpdGateIdeal (hUpdGateIdeal := Cert.UpdGateIdeal.Gen.facts) (hRefUpdGateIdeal := Cert.RefUpdGateIdeal.Gen.facts) := by
  intro m ρ m' ρ' _ hag
  refine ⟨fun c => val_main_v24 (F := Ideal) (A0 m c) (A1 m c) (A2 m c) (A3 m c), fun c => val_main_v25 (F := Ideal) (A1 m c) (A2 m c),
    fun c => val_main_v26 (F := Ideal) (A1 m c) (A3 m c), ?_, ?_⟩
  · refine (θ_run Cert.UpdGateIdeal.defs _ _).mono (fun r h c => ?_) (Cert.UpdGateIdeal.Value.run_blocks m ρ)
    obtain ⟨k0, k1, k2, hk⟩ := h c
    exact ⟨k0.trans (arr_delta m c), k1.trans (arr_mom m c), k2.trans (arr_sqm m c), hk⟩
  · refine (θ_run Cert.RefUpdGateIdeal.defs _ _).mono (fun r h c => ?_) (Cert.RefUpdGateIdeal.Value.run (F := Ideal) m' ρ')
    obtain ⟨k0, k1, k2, hk⟩ := h c
    obtain ⟨a0, a1, a2, a3⟩ := hag c
    exact ⟨k0.trans ((val_main_v24_eq (F := Ideal) _ _ _ _).trans (by rw [a0, a1, a2, a3])),
      k1.trans ((val_main_v25_eq (F := Ideal) _ _).trans (by rw [a1, a2])),
      k2.trans ((val_main_v26_eq (F := Ideal) _ _).trans (by rw [a1, a3])), hk⟩

/-- The reference leaves its arguments as they were, and no counter behind. -/
theorem frame_reference : Cert.quiescent_RefUpdGateIdeal (hRefUpdGateIdeal := Cert.RefUpdGateIdeal.Gen.facts) := fun m ρ _ =>
  (θ_run Cert.RefUpdGateIdeal.defs _ _).mono (fun r h => ⟨fun c => (h c).2.2.2,
      Idealize.ShloMosaic.sem_eq_zero_of_no_sems (by decide) r.2⟩)
    (Cert.RefUpdGateIdeal.Value.run (F := Ideal) m ρ)

end Cert.UpdGateEq

end
-- ==== Proof.UpdOutEq.lean ====
/- The optimiser's step of the mixing's matrix at the way out. -/
module

public import proofs.«01_k».proof.Proof.Adam
public import proofs.«01_k».proof.Proof.Gen.UpdOutIdeal.Value
public import proofs.«01_k».proof.Proof.Gen.RefUpdOutIdeal.Run
public import proofs.«01_k».proof.Proof.Gen.RefUpdOutIdeal.Read
public import proofs.«01_k».proof.Defs

@[expose] public section

set_option maxRecDepth 16384

noncomputable section

namespace Cert.UpdOutEq

open Idealize.ShloMosaic Idealize.ShloMosaic.TcCoe Idealize.ShloMosaic.StableHlo Idealize.SL.Sem Cert.Rows
open Cert.RefUpdOutIdeal.Read Cert.UpdOutIdeal Cert.UpdOutIdeal.Gen Cert.UpdOutIdeal.Value

/-- An entry of the weight's change that the reference writes. -/
theorem ref_delta (x0 x1 x2 x3 : S4x128x1024.Idx → EReal) (j : S4x128x1024.Idx) :
    (val_main_v23 (F := Ideal) x0 x1 x2 x3 j : EReal) = delta (x0 j) (x1 j) (x2 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the first moment that the reference writes. -/
theorem ref_mom (x1 x2 : S4x128x1024.Idx → EReal) (j : S4x128x1024.Idx) : (val_main_v4 (F := Ideal) x1 x2 j : EReal) = mom (x1 j) (x2 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the second moment that the reference writes. -/
theorem ref_sqm (x1 x3 : S4x128x1024.Idx → EReal) (j : S4x128x1024.Idx) : (val_main_v10 (F := Ideal) x1 x3 j : EReal) = sqm (x1 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

/-- An entry of the block of the weight's change that the kernel writes. -/
theorem out_delta (x0 x1 x2 x3 : Vec Ideal S256x1024 .f32) (y : S256x1024.Idx) : (out0_4 x0 x1 x2 x3 y : EReal) = delta (x0 y) (x1 y) (x2 y) (x3 y) := by
  unfold out0_4
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the first moment that the kernel writes. -/
theorem out_mom (x0 x1 x2 x3 : Vec Ideal S256x1024 .f32) (y : S256x1024.Idx) : (out0_5 x0 x1 x2 x3 y : EReal) = mom (x1 y) (x2 y) := by
  unfold out0_5
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the second moment that the kernel writes. -/
theorem out_sqm (x0 x1 x2 x3 : Vec Ideal S256x1024 .f32) (y : S256x1024.Idx) : (out0_6 x0 x1 x2 x3 y : EReal) = sqm (x1 y) (x3 y) := by
  unfold out0_6
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl

variable (m : (ℓ : Loc nD τ sig) → Buf (Elt Ideal) ℓ) (c : Dev nD)

/-- The first argument: the weight. -/
abbrev A0 : S4x128x1024.Idx → EReal := m ((c : Thread nD τ).loc main_arg0)
/-- The second argument: its gradient. -/
abbrev A1 : S4x128x1024.Idx → EReal := m ((c : Thread nD τ).loc main_arg1)
/-- The third argument: the first moment. -/
abbrev A2 : S4x128x1024.Idx → EReal := m ((c : Thread nD τ).loc main_arg2)
/-- The fourth argument: the second moment. -/
abbrev A3 : S4x128x1024.Idx → EReal := m ((c : Thread nD τ).loc main_arg3)

/-- The weight, as the host's rows. -/
theorem rows0 : (V m c main_v0 : S512x1024.Idx → EReal) = shapeCast S512x1024 (A0 m c) Cert.UpdOutIdeal.Gen.facts.shapeCasts_S4x128x1024_S512x1024 := by
  unfold_abbrev_sides
  after_results
  rfl
/-- The gradient, as the host's rows. -/
theorem rows1 : (V m c main_v1 : S512x1024.Idx → EReal) = shapeCast S512x1024 (A1 m c) Cert.UpdOutIdeal.Gen.facts.shapeCasts_S4x128x1024_S512x1024 := by
  unfold_abbrev_sides
  after_results
  rfl
/-- The first moment, as the host's rows. -/
theorem rows2 : (V m c main_v2 : S512x1024.Idx → EReal) = shapeCast S512x1024 (A2 m c) Cert.UpdOutIdeal.Gen.facts.shapeCasts_S4x128x1024_S512x1024 := by
  unfold_abbrev_sides
  after_results
  rfl
/-- The second moment, as the host's rows. -/
theorem rows3 : (V m c main_v3 : S512x1024.Idx → EReal) = shapeCast S512x1024 (A3 m c) Cert.UpdOutIdeal.Gen.facts.shapeCasts_S4x128x1024_S512x1024 := by
  unfold_abbrev_sides
  after_results
  rfl
/-- The weight's change, as the host's rows: a function of the rows the call is given. -/
theorem host_delta (j : S512x1024.Idx) : (val_main_v24 (F := Ideal) (A0 m c) (A1 m c) (A2 m c) (A3 m c) j : EReal) = delta (V m c main_v0 j) (V m c main_v1 j) (V m c main_v2 j) (V m c main_v3 j) := by
  rw [rows0, rows1, rows2, rows3]
  exact congrArg (fun q : S4x128x1024.Idx → EReal => (shapeCast S512x1024 q Cert.UpdOutIdeal.Gen.facts.shapeCasts_S4x128x1024_S512x1024 : S512x1024.Idx → EReal) j) (funext fun i => ref_delta _ _ _ _ i)
/-- The weight's change that the kernel ends with is the reference's. -/
theorem arr_delta : (dats m 0 c).arrAt 4 cfg0.N = val_main_v24 (F := Ideal) (A0 m c) (A1 m c) (A2 m c) (A3 m c) := by
  refine (dats m 0 c).arrAt_eq_of_covers 4 _ (by decide +kernel) fun t hf y => ?_
  blk_simp
  rw [after0_4, out_delta, host_delta]
  rfl
/-- The first moment, as the host's rows: a function of the rows the call is given. -/
theorem host_mom (j : S512x1024.Idx) : (val_main_v25 (F := Ideal) (A1 m c) (A2 m c) j : EReal) = mom (V m c main_v1 j) (V m c main_v2 j) := by
  rw [rows1, rows2]
  exact congrArg (fun q : S4x128x1024.Idx → EReal => (shapeCast S512x1024 q Cert.UpdOutIdeal.Gen.facts.shapeCasts_S4x128x1024_S512x1024 : S512x1024.Idx → EReal) j) (funext fun i => ref_mom _ _ i)
/-- The first moment that the kernel ends with is the reference's. -/
theorem arr_mom : (dats m 0 c).arrAt 5 cfg0.N = val_main_v25 (F := Ideal) (A1 m c) (A2 m c) := by
  refine (dats m 0 c).arrAt_eq_of_covers 5 _ (by decide +kernel) fun t hf y => ?_
  blk_simp
  rw [after0_5, out_mom, host_mom]
  rfl
/-- The second moment, as the host's rows: a function of the rows the call is given. -/
theorem host_sqm (j : S512x1024.Idx) : (val_main_v26 (F := Ideal) (A1 m c) (A3 m c) j : EReal) = sqm (V m c main_v1 j) (V m c main_v3 j) := by
  rw [rows1, rows3]
  exact congrArg (fun q : S4x128x1024.Idx → EReal => (shapeCast S512x1024 q Cert.UpdOutIdeal.Gen.facts.shapeCasts_S4x128x1024_S512x1024 : S512x1024.Idx → EReal) j) (funext fun i => ref_sqm _ _ i)
/-- The second moment that the kernel ends with is the reference's. -/
theorem arr_sqm : (dats m 0 c).arrAt 6 cfg0.N = val_main_v26 (F := Ideal) (A1 m c) (A3 m c) := by
  refine (dats m 0 c).arrAt_eq_of_covers 6 _ (by decide +kernel) fun t hf y => ?_
  blk_simp
  rw [after0_6, out_sqm, host_sqm]
  rfl

/-- The kernel and the reference end with the same values, over the extended reals. -/
theorem algebraic : Cert.algebraic_UpdOutIdeal_RefUpdOutIdeal (hUpdOutIdeal := Cert.UpdOutIdeal.Gen.facts) (hRefUpdOutIdeal := Cert.RefUpdOutIdeal.Gen.facts) := by
  intro m ρ m' ρ' _ hag
  refine ⟨fun c => val_main_v24 (F := Ideal) (A0 m c) (A1 m c) (A2 m c) (A3 m c), fun c => val_main_v25 (F := Ideal) (A1 m c) (A2 m c),
    fun c => val_main_v26 (F := Ideal) (A1 m c) (A3 m c), ?_, ?_⟩
  · refine (θ_run Cert.UpdOutIdeal.defs _ _).mono (fun r h c => ?_) (Cert.UpdOutIdeal.Value.run_blocks m ρ)
    obtain ⟨k0, k1, k2, hk⟩ := h c
    exact ⟨k0.trans (arr_delta m c), k1.trans (arr_mom m c), k2.trans (arr_sqm m c), hk⟩
  · refine (θ_run Cert.RefUpdOutIdeal.defs _ _).mono (fun r h c => ?_) (Cert.RefUpdOutIdeal.Value.run (F := Ideal) m' ρ')
    obtain ⟨k0, k1, k2, hk⟩ := h c
    obtain ⟨a0, a1, a2, a3⟩ := hag c
    exact ⟨k0.trans ((val_main_v24_eq (F := Ideal) _ _ _ _).trans (by rw [a0, a1, a2, a3])),
      k1.trans ((val_main_v25_eq (F := Ideal) _ _).trans (by rw [a1, a2])),
      k2.trans ((val_main_v26_eq (F := Ideal) _ _).trans (by rw [a1, a3])), hk⟩

/-- The reference leaves its arguments as they were, and no counter behind. -/
theorem frame_reference : Cert.quiescent_RefUpdOutIdeal (hRefUpdOutIdeal := Cert.RefUpdOutIdeal.Gen.facts) := fun m ρ _ =>
  (θ_run Cert.RefUpdOutIdeal.defs _ _).mono (fun r h => ⟨fun c => (h c).2.2.2,
      Idealize.ShloMosaic.sem_eq_zero_of_no_sems (by decide) r.2⟩)
    (Cert.RefUpdOutIdeal.Value.run (F := Ideal) m ρ)

end Cert.UpdOutEq

end
-- ==== Proof.UpdBranchEq.lean ====
/- The optimiser's step of the small branch's matrices. -/
module

public import proofs.«01_k».proof.Proof.Adam
public import proofs.«01_k».proof.Proof.Gen.UpdBranchIdeal.Value
public import proofs.«01_k».proof.Proof.Gen.RefUpdBranchIdeal.Run
public import proofs.«01_k».proof.Proof.Gen.RefUpdBranchIdeal.Read
public import proofs.«01_k».proof.Defs

@[expose] public section

set_option maxRecDepth 16384

noncomputable section

namespace Cert.UpdBranchEq

open Idealize.ShloMosaic Idealize.ShloMosaic.TcCoe Idealize.ShloMosaic.StableHlo Idealize.SL.Sem Cert.Rows
open Cert.RefUpdBranchIdeal.Read Cert.UpdBranchIdeal Cert.UpdBranchIdeal.Gen Cert.UpdBranchIdeal.Value

/-- An entry of the weight's change that the reference writes. -/
theorem ref_delta (x0 x1 x2 x3 : S4x512x128.Idx → EReal) (j : S4x512x128.Idx) :
    (val_main_v23 (F := Ideal) x0 x1 x2 x3 j : EReal) = delta (x0 j) (x1 j) (x2 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the first moment that the reference writes. -/
theorem ref_mom (x1 x2 : S4x512x128.Idx → EReal) (j : S4x512x128.Idx) : (val_main_v4 (F := Ideal) x1 x2 j : EReal) = mom (x1 j) (x2 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the second moment that the reference writes. -/
theorem ref_sqm (x1 x3 : S4x512x128.Idx → EReal) (j : S4x512x128.Idx) : (val_main_v10 (F := Ideal) x1 x3 j : EReal) = sqm (x1 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

/-- An entry of the block of the weight's change that the kernel writes. -/
theorem out_delta (x0 x1 x2 x3 : Vec Ideal S2048x128 .f32) (y : S2048x128.Idx) : (out0_4 x0 x1 x2 x3 y : EReal) = delta (x0 y) (x1 y) (x2 y) (x3 y) := by
  unfold out0_4
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the first moment that the kernel writes. -/
theorem out_mom (x0 x1 x2 x3 : Vec Ideal S2048x128 .f32) (y : S2048x128.Idx) : (out0_5 x0 x1 x2 x3 y : EReal) = mom (x1 y) (x2 y) := by
  unfold out0_5
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl
/-- An entry of the block of the second moment that the kernel writes. -/
theorem out_sqm (x0 x1 x2 x3 : Vec Ideal S2048x128 .f32) (y : S2048x128.Idx) : (out0_6 x0 x1 x2 x3 y : EReal) = sqm (x1 y) (x3 y) := by
  unfold out0_6
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3, k0_pay4]
  rfl

variable (m : (ℓ : Loc nD τ sig) → Buf (Elt Ideal) ℓ) (c : Dev nD)

/-- The first argument: the weight. -/
abbrev A0 : S4x512x128.Idx → EReal := m ((c : Thread nD τ).loc main_arg0)
/-- The second argument: its gradient. -/
abbrev A1 : S4x512x128.Idx → EReal := m ((c : Thread nD τ).loc main_arg1)
/-- The third argument: the first moment. -/
abbrev A2 : S4x512x128.Idx → EReal := m ((c : Thread nD τ).loc main_arg2)
/-- The fourth argument: the second moment. -/
abbrev A3 : S4x512x128.Idx → EReal := m ((c : Thread nD τ).loc main_arg3)

/-- The weight, as the host's rows. -/
theorem rows0 : (V m c main_v0 : S2048x128.Idx → EReal) = shapeCast S2048x128 (A0 m c) Cert.UpdBranchIdeal.Gen.facts.shapeCasts_S4x512x128_S2048x128 := by
  unfold_abbrev_sides
  after_results
  rfl
/-- The gradient, as the host's rows. -/
theorem rows1 : (V m c main_v1 : S2048x128.Idx → EReal) = shapeCast S2048x128 (A1 m c) Cert.UpdBranchIdeal.Gen.facts.shapeCasts_S4x512x128_S2048x128 := by
  unfold_abbrev_sides
  after_results
  rfl
/-- The first moment, as the host's rows. -/
theorem rows2 : (V m c main_v2 : S2048x128.Idx → EReal) = shapeCast S2048x128 (A2 m c) Cert.UpdBranchIdeal.Gen.facts.shapeCasts_S4x512x128_S2048x128 := by
  unfold_abbrev_sides
  after_results
  rfl
/-- The second moment, as the host's rows. -/
theorem rows3 : (V m c main_v3 : S2048x128.Idx → EReal) = shapeCast S2048x128 (A3 m c) Cert.UpdBranchIdeal.Gen.facts.shapeCasts_S4x512x128_S2048x128 := by
  unfold_abbrev_sides
  after_results
  rfl
/-- The weight's change, as the host's rows: a function of the rows the call is given. -/
theorem host_delta (j : S2048x128.Idx) : (val_main_v24 (F := Ideal) (A0 m c) (A1 m c) (A2 m c) (A3 m c) j : EReal) = delta (V m c main_v0 j) (V m c main_v1 j) (V m c main_v2 j) (V m c main_v3 j) := by
  rw [rows0, rows1, rows2, rows3]
  exact congrArg (fun q : S4x512x128.Idx → EReal => (shapeCast S2048x128 q Cert.UpdBranchIdeal.Gen.facts.shapeCasts_S4x512x128_S2048x128 : S2048x128.Idx → EReal) j) (funext fun i => ref_delta _ _ _ _ i)
/-- The weight's change that the kernel ends with is the reference's. -/
theorem arr_delta : (dats m 0 c).arrAt 4 cfg0.N = val_main_v24 (F := Ideal) (A0 m c) (A1 m c) (A2 m c) (A3 m c) := by
  refine (dats m 0 c).arrAt_eq_of_covers 4 _ (by decide +kernel) fun t hf y => ?_
  blk_simp
  rw [after0_4, out_delta, host_delta]
  rfl
/-- The first moment, as the host's rows: a function of the rows the call is given. -/
theorem host_mom (j : S2048x128.Idx) : (val_main_v25 (F := Ideal) (A1 m c) (A2 m c) j : EReal) = mom (V m c main_v1 j) (V m c main_v2 j) := by
  rw [rows1, rows2]
  exact congrArg (fun q : S4x512x128.Idx → EReal => (shapeCast S2048x128 q Cert.UpdBranchIdeal.Gen.facts.shapeCasts_S4x512x128_S2048x128 : S2048x128.Idx → EReal) j) (funext fun i => ref_mom _ _ i)
/-- The first moment that the kernel ends with is the reference's. -/
theorem arr_mom : (dats m 0 c).arrAt 5 cfg0.N = val_main_v25 (F := Ideal) (A1 m c) (A2 m c) := by
  refine (dats m 0 c).arrAt_eq_of_covers 5 _ (by decide +kernel) fun t hf y => ?_
  blk_simp
  rw [after0_5, out_mom, host_mom]
  rfl
/-- The second moment, as the host's rows: a function of the rows the call is given. -/
theorem host_sqm (j : S2048x128.Idx) : (val_main_v26 (F := Ideal) (A1 m c) (A3 m c) j : EReal) = sqm (V m c main_v1 j) (V m c main_v3 j) := by
  rw [rows1, rows3]
  exact congrArg (fun q : S4x512x128.Idx → EReal => (shapeCast S2048x128 q Cert.UpdBranchIdeal.Gen.facts.shapeCasts_S4x512x128_S2048x128 : S2048x128.Idx → EReal) j) (funext fun i => ref_sqm _ _ i)
/-- The second moment that the kernel ends with is the reference's. -/
theorem arr_sqm : (dats m 0 c).arrAt 6 cfg0.N = val_main_v26 (F := Ideal) (A1 m c) (A3 m c) := by
  refine (dats m 0 c).arrAt_eq_of_covers 6 _ (by decide +kernel) fun t hf y => ?_
  blk_simp
  rw [after0_6, out_sqm, host_sqm]
  rfl

/-- The kernel and the reference end with the same values, over the extended reals. -/
theorem algebraic : Cert.algebraic_UpdBranchIdeal_RefUpdBranchIdeal (hUpdBranchIdeal := Cert.UpdBranchIdeal.Gen.facts) (hRefUpdBranchIdeal := Cert.RefUpdBranchIdeal.Gen.facts) := by
  intro m ρ m' ρ' _ hag
  refine ⟨fun c => val_main_v24 (F := Ideal) (A0 m c) (A1 m c) (A2 m c) (A3 m c), fun c => val_main_v25 (F := Ideal) (A1 m c) (A2 m c),
    fun c => val_main_v26 (F := Ideal) (A1 m c) (A3 m c), ?_, ?_⟩
  · refine (θ_run Cert.UpdBranchIdeal.defs _ _).mono (fun r h c => ?_) (Cert.UpdBranchIdeal.Value.run_blocks m ρ)
    obtain ⟨k0, k1, k2, hk⟩ := h c
    exact ⟨k0.trans (arr_delta m c), k1.trans (arr_mom m c), k2.trans (arr_sqm m c), hk⟩
  · refine (θ_run Cert.RefUpdBranchIdeal.defs _ _).mono (fun r h c => ?_) (Cert.RefUpdBranchIdeal.Value.run (F := Ideal) m' ρ')
    obtain ⟨k0, k1, k2, hk⟩ := h c
    obtain ⟨a0, a1, a2, a3⟩ := hag c
    exact ⟨k0.trans ((val_main_v24_eq (F := Ideal) _ _ _ _).trans (by rw [a0, a1, a2, a3])),
      k1.trans ((val_main_v25_eq (F := Ideal) _ _).trans (by rw [a1, a2])),
      k2.trans ((val_main_v26_eq (F := Ideal) _ _).trans (by rw [a1, a3])), hk⟩

/-- The reference leaves its arguments as they were, and no counter behind. -/
theorem frame_reference : Cert.quiescent_RefUpdBranchIdeal (hRefUpdBranchIdeal := Cert.RefUpdBranchIdeal.Gen.facts) := fun m ρ _ =>
  (θ_run Cert.RefUpdBranchIdeal.defs _ _).mono (fun r h => ⟨fun c => (h c).2.2.2,
      Idealize.ShloMosaic.sem_eq_zero_of_no_sems (by decide) r.2⟩)
    (Cert.RefUpdBranchIdeal.Value.run (F := Ideal) m ρ)

end Cert.UpdBranchEq

end
-- ==== Proof.UpdVecEq.lean ====
/- The optimiser's step of the vectors, packed. -/
module

public import proofs.«01_k».proof.Proof.Adam
public import proofs.«01_k».proof.Proof.Gen.UpdVecIdeal.Value
public import proofs.«01_k».proof.Proof.Gen.RefUpdVecIdeal.Run
public import proofs.«01_k».proof.Proof.Gen.RefUpdVecIdeal.Read
public import proofs.«01_k».proof.Defs

@[expose] public section

set_option maxRecDepth 16384

noncomputable section

namespace Cert.UpdVecEq

open Idealize.ShloMosaic Idealize.ShloMosaic.TcCoe Idealize.ShloMosaic.StableHlo Idealize.SL.Sem Cert.Rows
open Cert.RefUpdVecIdeal.Read Cert.UpdVecIdeal Cert.UpdVecIdeal.Gen Cert.UpdVecIdeal.Value

/-- An entry of the weight's change that the reference writes. -/
theorem ref_delta (x0 x1 x2 x3 : S304x1024.Idx → EReal) (j : S304x1024.Idx) :
    (val_main_v23 (F := Ideal) x0 x1 x2 x3 j : EReal) = delta (x0 j) (x1 j) (x2 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the first moment that the reference writes. -/
theorem ref_mom (x1 x2 : S304x1024.Idx → EReal) (j : S304x1024.Idx) : (val_main_v4 (F := Ideal) x1 x2 j : EReal) = mom (x1 j) (x2 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl
/-- An entry of the second moment that the reference writes. -/
theorem ref_sqm (x1 x3 : S304x1024.Idx → EReal) (j : S304x1024.Idx) : (val_main_v10 (F := Ideal) x1 x3 j : EReal) = sqm (x1 j) (x3 j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  rfl

/-- An entry of the block of the weight's change that the kernel writes. -/
theorem out_delta (x0 x1 x2 x3 : Vec Ideal S304x1024 .f32) (y : S304x1024.Idx) : (out0_5 x0 x1 x2 x3 y : EReal) = delta (x1 y) (x0 y) (x2 y) (x3 y) := by
  unfold out0_5
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3]
  rfl
/-- An entry of the block of the first moment that the kernel writes. -/
theorem out_mom (x0 x1 x2 x3 : Vec Ideal S304x1024 .f32) (y : S304x1024.Idx) : (out0_6 x0 x1 x2 x3 y : EReal) = mom (x0 y) (x2 y) := by
  unfold out0_6
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3]
  rfl
/-- An entry of the block of the second moment that the kernel writes. -/
theorem out_sqm (x0 x1 x2 x3 : Vec Ideal S304x1024 .f32) (y : S304x1024.Idx) : (out0_7 x0 x1 x2 x3 y : EReal) = sqm (x0 y) (x3 y) := by
  unfold out0_7
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1, k0_pay2, k0_pay3]
  rfl

variable (m : (ℓ : Loc nD τ sig) → Buf (Elt Ideal) ℓ) (c : Dev nD)

/-- The first argument: the weight. -/
abbrev A0 : S304x1024.Idx → EReal := m ((c : Thread nD τ).loc main_arg0)
/-- The second argument: its gradient. -/
abbrev A1 : S304x1024.Idx → EReal := m ((c : Thread nD τ).loc main_arg1)
/-- The third argument: the first moment. -/
abbrev A2 : S304x1024.Idx → EReal := m ((c : Thread nD τ).loc main_arg2)
/-- The fourth argument: the second moment. -/
abbrev A3 : S304x1024.Idx → EReal := m ((c : Thread nD τ).loc main_arg3)

/-- The weight's change that the kernel ends with is the reference's. -/
theorem arr_delta : (dats m 0 c).arrAt 5 cfg0.N = val_main_v23 (F := Ideal) (A0 m c) (A1 m c) (A2 m c) (A3 m c) := by
  refine (dats m 0 c).arrAt_eq_of_covers 5 _ (by decide +kernel) fun t hf y => ?_
  blk_simp
  rw [after0_5, out_delta, ref_delta]
  rfl
/-- The first moment that the kernel ends with is the reference's. -/
theorem arr_mom : (dats m 0 c).arrAt 6 cfg0.N = val_main_v4 (F := Ideal) (A1 m c) (A2 m c) := by
  refine (dats m 0 c).arrAt_eq_of_covers 6 _ (by decide +kernel) fun t hf y => ?_
  blk_simp
  rw [after0_6, out_mom, ref_mom]
  rfl
/-- The second moment that the kernel ends with is the reference's. -/
theorem arr_sqm : (dats m 0 c).arrAt 7 cfg0.N = val_main_v10 (F := Ideal) (A1 m c) (A3 m c) := by
  refine (dats m 0 c).arrAt_eq_of_covers 7 _ (by decide +kernel) fun t hf y => ?_
  blk_simp
  rw [after0_7, out_sqm, ref_sqm]
  rfl

/-- The kernel and the reference end with the same values, over the extended reals. -/
theorem algebraic : Cert.algebraic_UpdVecIdeal_RefUpdVecIdeal (hUpdVecIdeal := Cert.UpdVecIdeal.Gen.facts) (hRefUpdVecIdeal := Cert.RefUpdVecIdeal.Gen.facts) := by
  intro m ρ m' ρ' _ hag
  refine ⟨fun c => val_main_v23 (F := Ideal) (A0 m c) (A1 m c) (A2 m c) (A3 m c), fun c => val_main_v4 (F := Ideal) (A1 m c) (A2 m c),
    fun c => val_main_v10 (F := Ideal) (A1 m c) (A3 m c), ?_, ?_⟩
  · refine (θ_run Cert.UpdVecIdeal.defs _ _).mono (fun r h c => ?_) (Cert.UpdVecIdeal.Value.run_blocks m ρ)
    obtain ⟨_, k0, k1, k2, hk⟩ := h c
    exact ⟨k0.trans (arr_delta m c), k1.trans (arr_mom m c), k2.trans (arr_sqm m c), hk⟩
  · refine (θ_run Cert.RefUpdVecIdeal.defs _ _).mono (fun r h c => ?_) (Cert.RefUpdVecIdeal.Value.run (F := Ideal) m' ρ')
    obtain ⟨k0, k1, k2, hk⟩ := h c
    obtain ⟨a0, a1, a2, a3⟩ := hag c
    exact ⟨k0.trans ((val_main_v23_eq (F := Ideal) _ _ _ _).trans (by rw [a0, a1, a2, a3])),
      k1.trans ((val_main_v4_eq (F := Ideal) _ _).trans (by rw [a1, a2])),
      k2.trans ((val_main_v10_eq (F := Ideal) _ _).trans (by rw [a1, a3])), hk⟩

/-- The reference leaves its arguments as they were, and no counter behind. -/
theorem frame_reference : Cert.quiescent_RefUpdVecIdeal (hRefUpdVecIdeal := Cert.RefUpdVecIdeal.Gen.facts) := fun m ρ _ =>
  (θ_run Cert.RefUpdVecIdeal.defs _ _).mono (fun r h => ⟨fun c => (h c).2.2.2,
      Idealize.ShloMosaic.sem_eq_zero_of_no_sems (by decide) r.2⟩)
    (Cert.RefUpdVecIdeal.Value.run (F := Ideal) m ρ)

end Cert.UpdVecEq

end
-- ==== Proof.LossEq.lean ====
/- The loss of one device's rows and its cotangent. -/
module

public import proofs.«01_k».proof.Proof.Rms
public import proofs.«01_k».proof.Proof.Rows
public import proofs.«01_k».proof.Proof.Gen.LossIdeal.Value
public import proofs.«01_k».proof.Proof.Gen.RefLossIdeal.Run
public import proofs.«01_k».proof.Proof.Gen.RefLossIdeal.Read
public import proofs.«01_k».proof.Defs

@[expose] public section

set_option maxRecDepth 16384

noncomputable section

namespace Cert.LossEq

open Idealize.ShloMosaic Idealize.ShloMosaic.TcCoe Idealize.ShloMosaic.StableHlo Idealize.SL.Sem Cert.Rows Finset
open Cert.RefLossIdeal.Read

section blocks
open Cert.LossIdeal Cert.LossIdeal.Gen Cert.LossIdeal.Value
variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S512x1024 .f32) (h3 : a3.IsWhole)
  (a4 : Memref sig .tc .vmem S1x128 .f32) (h4 : a4.IsWhole)
  (x0 x1 : Vec Ideal S512x1024 .f32) (xo : Vec Ideal S1x128 .f32)
theorem outA2 (hc : cond0_0 i) : out0_A_2 c i a1 h1 a2 h2 a3 h3 a4 h4 hc x0 x1 = k0_pay3 (F := Ideal) x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
theorem outA3 (hc : cond0_0 i) : out0_A_3 c i a1 h1 a2 h2 a3 h3 a4 h4 hc x0 x1 = k0_pay4 (F := Ideal) x0 x1 (k0_pay1 (F := Ideal)) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
theorem outB2 (hc : ¬cond0_0 i) : out0_B_2 c i a1 h1 a2 h2 a3 h3 a4 h4 hc x0 x1 xo = k0_pay3 (F := Ideal) x0 x1 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
theorem outB3 (hc : ¬cond0_0 i) : out0_B_3 c i a1 h1 a2 h2 a3 h3 a4 h4 hc x0 x1 xo = k0_pay4 (F := Ideal) x0 x1 xo := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]

theorem word_half : Ideal.ofBits .f32 0x3F000000#32 = ((1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_per : Ideal.ofBits .f32 0x3A800000#32 = ((1 / 1024 : ℝ) : EReal) := by
  simp [Ideal.ofBits, Ideal.ieee, -EReal.coe_mul]; norm_num
theorem word_half_per : Ideal.ofBits .f32 0x3A000000#32 = ((1 / 2048 : ℝ) : EReal) := by
  simp [Ideal.ofBits, Ideal.ieee, -EReal.coe_mul]; norm_num
/-- A nonnegative real factor goes into a sum. -/
theorem mul_sum' {ι : Type*} (s : Finset ι) (f : ι → EReal) (k : ℝ) (hk : 0 ≤ k) : (k : EReal) * ∑ i ∈ s, f i = ∑ i ∈ s, (k : EReal) * f i := by
  classical
  induction s using Finset.induction_on with
  | empty => simp
  | insert a s ha ih => rw [sum_insert ha, sum_insert ha, EReal.left_distrib_of_nonneg_of_ne_top (EReal.coe_nonneg.mpr hk) (EReal.coe_ne_top k), ih]

variable (n : ℕ) (h : n < 32) (u v : S16384x1024.Idx → EReal)
/-- The cotangent of a tile is the tile of the reference's. -/
theorem pay3 : (k0_pay3 (F := Ideal) (tile n h u) (tile n h v) : S512x1024.Idx → EReal) = tile n h (val_main_v14 (F := Ideal) u v) := by
  funext y
  pointwise [k0_pay3, k0_pay2, val_main_v14, val_main_v13, val_main_v12, val_main_v11, val_main_v10, val_main_v9, val_main_v3, val_main_v2, val_main_v0, val_main_cst, val_main_cst_4, val_main_cst_5, val_main_cst_6, tile]
  rw [word_per, word_half, word_two, word_width, Ideal.div_coe (by norm_num), mul_comm, ← mul_assoc, ← EReal.coe_mul, ← EReal.coe_mul]
  norm_num
/-- One tile's part of the loss. -/
theorem acc (a : S1x128.Idx → EReal) (y : S1x128.Idx) : (k0_pay4 (F := Ideal) (tile n h u) (tile n h v) a y : EReal)
    = a y + Ideal.ofBits .f32 0x3A000000#32 * ∑ r : Fin 512, ∑ q : Fin 1024, ent (val_main_v1 (F := Ideal) u v) (512 * n + r.val) q.val := by
  pointwise [k0_pay4, k0_pay2]
  refine congrArg (fun s => a y + Ideal.ofBits .f32 0x3A000000#32 * s) (Finset.sum_congr rfl fun r _ => Finset.sum_congr rfl fun q _ => ?_)
  refine Eq.trans ?_ (ent_of _ (ix2 (row n h r) q) _ _ rfl rfl)
  pointwise [val_main_v1, val_main_v0]
  rfl
/-- The loss of the first `n + 1` tiles, in every lane. -/
def accv (n : ℕ) : S1x128.Idx → EReal := fun _ => ∑ s ∈ range (n + 1), Ideal.ofBits .f32 0x3A000000#32 * ∑ r : Fin 512, ∑ q : Fin 1024, ent (val_main_v1 (F := Ideal) u v) (512 * s + r.val) q.val
theorem accA (h : 0 < 32) : (k0_pay4 (F := Ideal) (tile 0 h u) (tile 0 h v) (k0_pay1 (F := Ideal)) : S1x128.Idx → EReal) = accv u v 0 := by
  funext y
  rw [acc, show (k0_pay1 (F := Ideal) y : EReal) = 0 by pointwise [k0_pay1], zero_add, accv, Finset.sum_range_one]
theorem accB (h : n + 1 < 32) : (k0_pay4 (F := Ideal) (tile (n + 1) h u) (tile (n + 1) h v) (accv u v n) : S1x128.Idx → EReal) = accv u v (n + 1) := by
  funext y
  rw [acc]
  exact (Finset.sum_range_succ _ _).symm
/-- The tiles' parts together are the reference's loss. -/
theorem acc_all (y : S1x128.Idx) : accv u v 31 y = val_main_v15 (F := Ideal) u v y := by
  pointwise [val_main_v15, val_main_v8, val_main_v7, val_main_v6, val_main_v5, val_main_v4, val_main_cst_0, val_main_cst_1, val_main_cst_2, val_main_cst_3]
  rw [accv, word_half, word_width, word_half_per, ← mul_sum' _ _ _ (by norm_num), sum_tiles 32 512 (fun r => ∑ q : Fin 1024, ent (val_main_v1 (F := Ideal) u v) r q.val)]
  rw [mul_sum' _ _ _ (by norm_num), mul_sum' _ _ _ (by norm_num)]
  refine Finset.sum_congr rfl fun r _ => ?_
  rw [Ideal.div_coe (by norm_num), mul_comm (Finset.sum _ _) ((_ : ℝ) : EReal), ← mul_assoc, ← EReal.coe_mul]
  refine congrArg₂ (· * ·) (congrArg _ (by norm_num)) (Finset.sum_congr rfl fun q _ => (ent_of _ (ix2 r q) _ _ rfl rfl).symm)
end blocks

section kernel
open Cert.LossIdeal Cert.LossIdeal.Gen Cert.LossIdeal.Value
variable (m : (ℓ : Loc nD τ sig) → Buf (Elt Ideal) ℓ) (c : Dev nD)

/-- The first argument: the rows. -/
abbrev A0 : S16384x1024.Idx → EReal := m ((c : Thread nD τ).loc main_arg0)
/-- The second argument: their targets. -/
abbrev A1 : S16384x1024.Idx → EReal := m ((c : Thread nD τ).loc main_arg1)
theorem lt (t : Fin cfg0.N) : t.val < 32 := lt_of_lt_of_eq t.isLt N_0
theorem ix_0 : ∀ t : Fin grid0.N, win0_0.index t 0 = t.val ∧ win0_0.index t 1 = 0 := by decide +kernel
theorem ix_1 : ∀ t : Fin grid0.N, win0_1.index t 0 = t.val ∧ win0_1.index t 1 = 0 := by decide +kernel
theorem ix_2 : ∀ t : Fin grid0.N, win0_2.index t 0 = t.val ∧ win0_2.index t 1 = 0 := by decide +kernel
theorem blk0 (t : Fin cfg0.N) : (iblk m c 0 t : S512x1024.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
theorem blk1 (t : Fin cfg0.N) : (iblk m c 1 t : S512x1024.Idx → EReal) = tile t.val (lt t) (A1 m c) := by
  funext y
  blk_simp [iblk]
  rw [V_main_arg1]
  refine tile_of _ _ _ _ _ ?_ ?_ <;> blk_simp [ix_1 t] <;> simp only [Nat.zero_mul, Nat.zero_add, Nat.mul_comm _ 512]

/-- What the output blocks hold after each grid point. -/
theorem holds : (n : ℕ) → (h : n < cfg0.N) → outsAt0 m c n h = (tile n (lt_of_lt_of_eq h N_0) (val_main_v14 (F := Ideal) (A0 m c) (A1 m c)), accv (A0 m c) (A1 m c) n)
  | 0, h => (outsAt0_A m c ⟨0, h⟩ rfl).trans (by
    rw [outA2, outA3, blk0, blk1]
    exact congrArg₂ Prod.mk (pay3 ..) (accA ..))
  | n + 1, h => by
    have hN : n + 1 < 32 := lt_of_lt_of_eq h N_0
    refine (outsAt0_B m c ⟨n + 1, h⟩ (by dsimp only; omega)).trans ?_
    rw [outB2, outB3, blk0, blk1]
    have a0 : (outsAt0 m c (n + 1 - 1) (Nat.lt_of_le_of_lt (Nat.sub_le _ _) h)).2 = accv (A0 m c) (A1 m c) n :=
      congrArg (·.2) (holds n (Nat.lt_of_succ_lt h))
    rw [a0]
    exact congrArg₂ Prod.mk (pay3 ..) (accB ..)

/-- The last grid point. -/
def tLast : Fin cfg0.N := ⟨31, lt_of_lt_of_eq (by decide) N_0.symm⟩
/-- The cotangent is the reference's. -/
theorem arr2 : (dats m 0 c).arrAt 2 cfg0.N = val_main_v14 (F := Ideal) (A0 m c) (A1 m c) := by
  refine (dats m 0 c).arrAt_eq_of_covers 2 _ (by decide +kernel) fun t hf y => ?_
  blk_simp
  rw [after0_2, holds m c]
  refine (tile_of t.val (lt t) (val_main_v14 (F := Ideal) (A0 m c) (A1 m c)) y _ ?_ ?_).symm <;> blk_simp [ix_2 t] <;> simp only [Nat.zero_mul, Nat.zero_add, Nat.mul_comm _ 512]
/-- The loss is the reference's. -/
theorem arr3 : (dats m 0 c).arrAt 3 cfg0.N = val_main_v15 (F := Ideal) (A0 m c) (A1 m c) := by
  refine (dats m 0 c).arrAt_eq_of_after_last 3 tLast (by decide +kernel) _ fun j => ?_
  blk_simp
  rw [after0_3, holds m c]
  exact acc_all ..
end kernel

section claims
open Cert.LossIdeal

/-- The kernel and the reference end with the same values, over the extended reals. -/
theorem algebraic : Cert.algebraic_LossIdeal_RefLossIdeal (hLossIdeal := Cert.LossIdeal.Gen.facts) (hRefLossIdeal := Cert.RefLossIdeal.Gen.facts) := by
  intro m ρ m' ρ' _ hag
  refine ⟨fun c => val_main_v14 (F := Ideal) (A0 m c) (A1 m c), fun c => val_main_v15 (F := Ideal) (A0 m c) (A1 m c), ?_, ?_⟩
  · refine (θ_run Cert.LossIdeal.defs _ _).mono (fun r h c => ?_) (Cert.LossIdeal.Value.run_blocks m ρ)
    obtain ⟨k0, k1, hk⟩ := h c
    exact ⟨k0.trans (arr2 m c), k1.trans (arr3 m c), hk⟩
  · refine (θ_run Cert.RefLossIdeal.defs _ _).mono (fun r h c => ?_) (Cert.RefLossIdeal.Value.run (F := Ideal) m' ρ')
    obtain ⟨k0, k1, hk⟩ := h c
    obtain ⟨a0, a1⟩ := hag c
    exact ⟨k0.trans ((val_main_v14_eq (F := Ideal) _ _).trans (by rw [a0, a1])),
      k1.trans ((val_main_v15_eq (F := Ideal) _ _).trans (by rw [a0, a1])), hk⟩
end claims

/-- The reference leaves its arguments as they were, and no counter behind. -/
theorem frame_reference : Cert.quiescent_RefLossIdeal (hRefLossIdeal := Cert.RefLossIdeal.Gen.facts) := fun m ρ _ =>
  (θ_run Cert.RefLossIdeal.defs _ _).mono (fun r h => ⟨fun c => (h c).2.2,
      Idealize.ShloMosaic.sem_eq_zero_of_no_sems (by decide) r.2⟩)
    (Cert.RefLossIdeal.Value.run (F := Ideal) m ρ)

end Cert.LossEq

end
-- ==== Proof.BcOut.lean ====
/- What one grid point of the kernel leaves in each of its output windows and scratch buffers, as the printed
   payloads composed. -/
module

public import proofs.«01_k».proof.Proof.Gen.KernelIdeal.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F] [Named F]

/-- A load of the whole buffer after stores is what the stores left. -/
theorem readCov_whole {sig : RefSig} {κ : Kind} {sp : Space} {s : Shape} {e : EltTy} (v : View sig κ sp s e) {off : Fin s.rank → ℕ}
    (inb : ∀ a, off a + s.size a ≤ s.size a) (L : List (View.Piece (Elt F) s e)) (h : ∀ a, off a = 0) :
    v.readCov L (Rect.unit off (no_index s.size) inb).toLoadRect = View.canon L := by
  rw [View.readCov_eq_canon']
  exact View.ld_unit_lit inb (View.canon L) h
/-- The convolution's input over the block and its two halos. -/
def qeB (i : grid0.Coords) (x0 : Vec F S256x2560 .bf16) (x1 : Vec F S16x2560 .bf16) (x2 : Vec F S16x2560 .bf16) : FVec F S288x512 .f32 := k0_pay13 i x0 x1 x2
/-- The convolution's cotangent over the block. -/
def dcB (x0 : Vec F S256x2560 .bf16) (x3 : Vec F S256x512 .f32) : FVec F S256x512 .f32 := k0_pay14 x0 x3
/-- The convolution's cotangent over the block and its two halos. -/
def dceB (i : grid0.Coords) (x0 : Vec F S256x2560 .bf16) (x1 : Vec F S16x2560 .bf16) (x2 : Vec F S16x2560 .bf16) (x3 : Vec F S256x512 .f32) (x4 : Vec F S16x512 .f32) (x5 : Vec F S16x512 .f32) : FVec F S288x512 .f32 :=
  k0_pay17 (Scalar.cmpi .eq (BitVec.ofNat 32 (i 0).val) 63#32) (dcB x0 x3) (k0_pay15 x2 x5) (k0_pay16 i x1 x4) (Scalar.ofBits .f32 0x00000000#32)
/-- Two of the three terms of the convolution's transpose. -/
def dq2B (i : grid0.Coords) (x0 : Vec F S256x2560 .bf16) (x1 : Vec F S16x2560 .bf16) (x2 : Vec F S16x2560 .bf16) (x3 : Vec F S256x512 .f32) (x4 : Vec F S16x512 .f32) (x5 : Vec F S16x512 .f32) (x7 : Vec F S3x512 .f32) : FVec F S256x512 .f32 :=
  k0_pay22 (Scalar.cmpi .eq (BitVec.ofNat 32 (i 0).val) 63#32) (dcB x0 x3) (k0_pay15 x2 x5) (k0_pay16 i x1 x4) (Scalar.ofBits .f32 0x00000000#32) x7
/-- The gating values after gelu. -/
def gvB (x0 : Vec F S256x2560 .bf16) : FVec F S256x512 .f32 := k0_pay32 (k0_pay10 x0)
/-- The layernorm's result. -/
def v2B (x0 : Vec F S256x2560 .bf16) (x8 : Vec F S1x512 .f32) (x9 : Vec F S1x512 .f32) : FVec F S256x512 .f32 := k0_pay36 (k0_pay31 x8) (gvB x0) x9
/-- The cotangent of the mixed gate. -/
def dmB (x0 : Vec F S256x2560 .bf16) (x6 : Vec F S256x512 .f32) : FVec F S256x512 .f32 := k0_pay51 (k0_pay9 x0) x6
/-- The mixed gate's scratch: one tile per chunk and head, in the order of the stores, the last first. -/
def mixL (x0 : Vec F S256x2560 .bf16) (x8 : Vec F S1x512 .f32) (x9 : Vec F S1x512 .f32) (x10 : Vec F S4x128x128 .bf16) (x12 : Vec F S128x512 .f32) : List (View.Piece (Elt F) S256x512 .f32) :=
  [⟨Rect.unit (s := S256x512) ![128, 384] S128x128.size inb_S256x512_S128x128_128_384, k0_pay46 (v2B x0 x8 x9) (k0_pay37 x12) (View.ld x10 (Rect.unit (s := S4x128x128) ![3, 0, 0] S1x128x128.size inb_S4x128x128_S1x128x128_3_0_0))⟩, ⟨Rect.unit (s := S256x512) ![128, 256] S128x128.size inb_S256x512_S128x128_128_256, k0_pay45 (v2B x0 x8 x9) (k0_pay37 x12) (View.ld x10 (Rect.unit (s := S4x128x128) ![2, 0, 0] S1x128x128.size inb_S4x128x128_S1x128x128_2_0_0))⟩, ⟨Rect.unit (s := S256x512) ![128, 128] S128x128.size inb_S256x512_S128x128_128_128, k0_pay44 (v2B x0 x8 x9) (k0_pay37 x12) (View.ld x10 (Rect.unit (s := S4x128x128) ![1, 0, 0] S1x128x128.size inb_S4x128x128_S1x128x128_1_0_0))⟩, ⟨Rect.unit (s := S256x512) ![128, 0] S128x128.size inb_S256x512_S128x128_128_0, k0_pay43 (v2B x0 x8 x9) (k0_pay37 x12) (View.ld x10 (Rect.unit (s := S4x128x128) ![0, 0, 0] S1x128x128.size inb_S4x128x128_S1x128x128_0_0_0))⟩, ⟨Rect.unit (s := S256x512) ![0, 384] S128x128.size inb_S256x512_S128x128_0_384, k0_pay42 (v2B x0 x8 x9) (k0_pay37 x12) (View.ld x10 (Rect.unit (s := S4x128x128) ![3, 0, 0] S1x128x128.size inb_S4x128x128_S1x128x128_3_0_0))⟩, ⟨Rect.unit (s := S256x512) ![0, 256] S128x128.size inb_S256x512_S128x128_0_256, k0_pay41 (v2B x0 x8 x9) (k0_pay37 x12) (View.ld x10 (Rect.unit (s := S4x128x128) ![2, 0, 0] S1x128x128.size inb_S4x128x128_S1x128x128_2_0_0))⟩, ⟨Rect.unit (s := S256x512) ![0, 128] S128x128.size inb_S256x512_S128x128_0_128, k0_pay40 (k0_pay39 (k0_pay31 x8) (gvB x0) x9 x12 (View.ld x10 (Rect.unit (s := S4x128x128) ![1, 0, 0] S1x128x128.size inb_S4x128x128_S1x128x128_1_0_0)))⟩, ⟨Rect.unit (s := S256x512) ![0, 0] S128x128.size inb_S256x512_S128x128_0_0, k0_pay38 (k0_pay31 x8) (gvB x0) x9 x12 (View.ld x10 (Rect.unit (s := S4x128x128) ![0, 0, 0] S1x128x128.size inb_S4x128x128_S1x128x128_0_0_0))⟩]
/-- The scratch of the layernorm result's cotangent: one tile per chunk and head, the last stored first. -/
def dv2L (x0 : Vec F S256x2560 .bf16) (x6 : Vec F S256x512 .f32) (x11 : Vec F S4x128x128 .bf16) : List (View.Piece (Elt F) S256x512 .f32) :=
  [⟨Rect.unit (s := S256x512) ![128, 384] S128x128.size inb_S256x512_S128x128_128_384, k0_pay83 (k0_pay80 (dmB x0 x6)) (View.ld x11 (Rect.unit (s := S4x128x128) ![3, 0, 0] S1x128x128.size inb_S4x128x128_S1x128x128_3_0_0))⟩, ⟨Rect.unit (s := S256x512) ![128, 256] S128x128.size inb_S256x512_S128x128_128_256, k0_pay79 (dmB x0 x6) (View.ld x11 (Rect.unit (s := S4x128x128) ![2, 0, 0] S1x128x128.size inb_S4x128x128_S1x128x128_2_0_0))⟩, ⟨Rect.unit (s := S256x512) ![128, 128] S128x128.size inb_S256x512_S128x128_128_128, k0_pay76 (k0_pay72 (dmB x0 x6)) (View.ld x11 (Rect.unit (s := S4x128x128) ![1, 0, 0] S1x128x128.size inb_S4x128x128_S1x128x128_1_0_0))⟩, ⟨Rect.unit (s := S256x512) ![128, 0] S128x128.size inb_S256x512_S128x128_128_0, k0_pay71 (dmB x0 x6) (View.ld x11 (Rect.unit (s := S4x128x128) ![0, 0, 0] S1x128x128.size inb_S4x128x128_S1x128x128_0_0_0))⟩, ⟨Rect.unit (s := S256x512) ![0, 384] S128x128.size inb_S256x512_S128x128_0_384, k0_pay67 (k0_pay64 (dmB x0 x6)) (k0_pay66 (View.ld x11 (Rect.unit (s := S4x128x128) ![3, 0, 0] S1x128x128.size inb_S4x128x128_S1x128x128_3_0_0))) (constant S128x128 .f32 0x00000000#32)⟩, ⟨Rect.unit (s := S256x512) ![0, 256] S128x128.size inb_S256x512_S128x128_0_256, k0_pay63 (dmB x0 x6) (View.ld x11 (Rect.unit (s := S4x128x128) ![2, 0, 0] S1x128x128.size inb_S4x128x128_S1x128x128_2_0_0))⟩, ⟨Rect.unit (s := S256x512) ![0, 128] S128x128.size inb_S256x512_S128x128_0_128, k0_pay60 (k0_pay59 (dmB x0 x6) (View.ld x11 (Rect.unit (s := S4x128x128) ![1, 0, 0] S1x128x128.size inb_S4x128x128_S1x128x128_1_0_0)))⟩, ⟨Rect.unit (s := S256x512) ![0, 0] S128x128.size inb_S256x512_S128x128_0_0, k0_pay56 (k0_pay53 (k0_pay9 x0) x6) (View.ld x11 (Rect.unit (s := S4x128x128) ![0, 0, 0] S1x128x128.size inb_S4x128x128_S1x128x128_0_0_0))⟩]
/-- The mixed gate. -/
def mixB (x0 : Vec F S256x2560 .bf16) (x8 : Vec F S1x512 .f32) (x9 : Vec F S1x512 .f32) (x10 : Vec F S4x128x128 .bf16) (x12 : Vec F S128x512 .f32) : FVec F S256x512 .f32 := View.canon (mixL x0 x8 x9 x10 x12)
/-- The cotangent of the layernorm's result. -/
def dv2B (x0 : Vec F S256x2560 .bf16) (x6 : Vec F S256x512 .f32) (x11 : Vec F S4x128x128 .bf16) : FVec F S256x512 .f32 := View.canon (dv2L x0 x6 x11)

variable (c : Dev nD) (i : grid0.Coords)
variable (a1 : Memref sig .tc .vmem S256x2560 .bf16) (h1 : a1.IsWhole)
variable (a2 : Memref sig .tc .vmem S16x2560 .bf16) (h2 : a2.IsWhole)
variable (a3 : Memref sig .tc .vmem S16x2560 .bf16) (h3 : a3.IsWhole)
variable (a4 : Memref sig .tc .vmem S256x512 .f32) (h4 : a4.IsWhole)
variable (a5 : Memref sig .tc .vmem S16x512 .f32) (h5 : a5.IsWhole)
variable (a6 : Memref sig .tc .vmem S16x512 .f32) (h6 : a6.IsWhole)
variable (a7 : Memref sig .tc .vmem S256x512 .f32) (h7 : a7.IsWhole)
variable (a8 : Memref sig .tc .vmem S3x512 .f32) (h8 : a8.IsWhole)
variable (a9 : Memref sig .tc .vmem S1x512 .f32) (h9 : a9.IsWhole)
variable (a10 : Memref sig .tc .vmem S1x512 .f32) (h10 : a10.IsWhole)
variable (a11 : Memref sig .tc .vmem S4x128x128 .bf16) (h11 : a11.IsWhole)
variable (a12 : Memref sig .tc .vmem S4x128x128 .bf16) (h12 : a12.IsWhole)
variable (a13 : Memref sig .tc .vmem S128x512 .f32) (h13 : a13.IsWhole)
variable (a14 : Memref sig .tc .vmem S256x2560 .bf16) (h14 : a14.IsWhole)
variable (a15 : Memref sig .tc .vmem S3x512 .f32) (h15 : a15.IsWhole)
variable (a16 : Memref sig .tc .vmem S1x512 .f32) (h16 : a16.IsWhole)
variable (a17 : Memref sig .tc .vmem S1x512 .f32) (h17 : a17.IsWhole)
variable (a18 : Memref sig .tc .vmem S4x128x128 .f32) (h18 : a18.IsWhole)
variable (a19 : Memref sig .tc .vmem S128x512 .f32) (h19 : a19.IsWhole)
variable (a20 : Memref sig .tc .vmem S256x512 .f32) (h20 : a20.IsWhole)
variable (a21 : Memref sig .tc .vmem S256x512 .f32) (h21 : a21.IsWhole)

variable (x0 : Vec F S256x2560 .bf16) (x1 : Vec F S16x2560 .bf16) (x2 : Vec F S16x2560 .bf16) (x3 : Vec F S256x512 .f32) (x4 : Vec F S16x512 .f32) (x5 : Vec F S16x512 .f32) (x6 : Vec F S256x512 .f32) (x7 : Vec F S3x512 .f32) (x8 : Vec F S1x512 .f32) (x9 : Vec F S1x512 .f32) (x10 : Vec F S4x128x128 .bf16) (x11 : Vec F S4x128x128 .bf16) (x12 : Vec F S128x512 .f32) (y14 : Vec F S3x512 .f32) (y15 : Vec F S1x512 .f32) (y16 : Vec F S1x512 .f32) (y17 : Vec F S4x128x128 .f32) (y18 : Vec F S128x512 .f32)

/-- The activations' cotangent after a point that is not the first. -/
theorem out13B (hc : ¬cond0_0 i) : out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12 y14 y15 y16 y17 y18 = View.canon
    [⟨Rect.unit (s := S256x2560) ![0, 2048] S256x512.size inb_S256x2560_S256x512_0_2048, k0_pay89 (k0_pay10 x0) (k0_pay34 (gvB x0)) (k0_pay35 (gvB x0)) (k0_pay86 (k0_pay31 x8) (dv2B x0 x6 x11)) (k0_pay87 (k0_pay31 x8) (dv2B x0 x6 x11)) k0_pay88⟩,
     ⟨Rect.unit (s := S256x2560) ![0, 1536] S256x512.size inb_S256x2560_S256x512_0_1536, k0_pay50 (k0_pay9 x0) (k0_pay47 (mixB x0 x8 x9 x10 x12) x6) (k0_pay48 (k0_pay9 x0)) (k0_pay49 (k0_pay9 x0)) (Scalar.ofBits .f32 0x3F4C422A#32)⟩,
     ⟨Rect.unit (s := S256x2560) ![0, 1024] S256x512.size inb_S256x2560_S256x512_0_1024, k0_pay30 (k0_pay7 x0) (dceB i x0 x1 x2 x3 x4 x5) x7 (dq2B i x0 x1 x2 x3 x4 x5 x7)⟩,
     ⟨Rect.unit (s := S256x2560) ![0, 512] S256x512.size inb_S256x2560_S256x512_0_512, k0_pay29 (k0_pay8 x0) (dceB i x0 x1 x2 x3 x4 x5) x7 (dq2B i x0 x1 x2 x3 x4 x5 x7)⟩,
     ⟨Rect.unit (s := S256x2560) ![0, 0] S256x512.size inb_S256x2560_S256x512_0_0, k0_pay28 x3 (k0_pay21 (qeB i x0 x1 x2) x7) (k0_pay25 (qeB i x0 x1 x2) x7)⟩] := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

/-- The taps' gradient after a point that is not the first. -/
theorem out14B (hc : ¬cond0_0 i) : out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12 y14 y15 y16 y17 y18 = View.canon
    [⟨Rect.unit (s := S3x512) ![2, 0] S1x512.size inb_S3x512_S1x512_2_0, k0_pay27 (dcB x0 x3) (k0_pay24 (qeB i x0 x1 x2)) (View.ld y14 (Rect.unit (s := S3x512) ![2, 0] S1x512.size inb_S3x512_S1x512_2_0))⟩,
     ⟨Rect.unit (s := S3x512) ![1, 0] S1x512.size inb_S3x512_S1x512_1_0, k0_pay23 (qeB i x0 x1 x2) (dcB x0 x3) (View.ld y14 (Rect.unit (s := S3x512) ![1, 0] S1x512.size inb_S3x512_S1x512_1_0))⟩,
     ⟨Rect.unit (s := S3x512) ![0, 0] S1x512.size inb_S3x512_S1x512_0_0, k0_pay19 (qeB i x0 x1 x2) (dcB x0 x3) (View.ld y14 (Rect.unit (s := S3x512) ![0, 0] S1x512.size inb_S3x512_S1x512_0_0))⟩] := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

/-- The scale's gradient after a point that is not the first. -/
theorem out15B (hc : ¬cond0_0 i) : out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12 y14 y15 y16 y17 y18 = k0_pay84 (k0_pay35 (gvB x0)) (dv2B x0 x6 x11) y15 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

/-- The shift's gradient after a point that is not the first. -/
theorem out16B (hc : ¬cond0_0 i) : out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12 y14 y15 y16 y17 y18 = k0_pay85 (dv2B x0 x6 x11) y16 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

/-- The mixing matrices' gradient after a point that is not the first. -/
theorem out17B (hc : ¬cond0_0 i) : out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12 y14 y15 y16 y17 y18 = View.canon
    [⟨Rect.unit (s := S4x128x128) ![3, 0, 0] S1x128x128.size inb_S4x128x128_S1x128x128_3_0_0, k0_pay82 (v2B x0 x8 x9) (k0_pay80 (dmB x0 x6)) (k0_pay81 (k0_pay65 (v2B x0 x8 x9) (dmB x0 x6) (View.ld y17 (Rect.unit (s := S4x128x128) ![3, 0, 0] S1x128x128.size inb_S4x128x128_S1x128x128_3_0_0))))⟩,
     ⟨Rect.unit (s := S4x128x128) ![2, 0, 0] S1x128x128.size inb_S4x128x128_S1x128x128_2_0_0, k0_pay78 (v2B x0 x8 x9) (dmB x0 x6) (k0_pay62 (v2B x0 x8 x9) (dmB x0 x6) (View.ld y17 (Rect.unit (s := S4x128x128) ![2, 0, 0] S1x128x128.size inb_S4x128x128_S1x128x128_2_0_0)))⟩,
     ⟨Rect.unit (s := S4x128x128) ![1, 0, 0] S1x128x128.size inb_S4x128x128_S1x128x128_1_0_0, k0_pay75 (k0_pay73 (k0_pay58 (v2B x0 x8 x9) (dmB x0 x6) (View.ld y17 (Rect.unit (s := S4x128x128) ![1, 0, 0] S1x128x128.size inb_S4x128x128_S1x128x128_1_0_0)))) (k0_pay74 (v2B x0 x8 x9) (dmB x0 x6))⟩,
     ⟨Rect.unit (s := S4x128x128) ![0, 0, 0] S1x128x128.size inb_S4x128x128_S1x128x128_0_0_0, k0_pay70 (v2B x0 x8 x9) (dmB x0 x6) (k0_pay55 (v2B x0 x8 x9) (k0_pay53 (k0_pay9 x0) x6) (View.ld y17 (Rect.unit (s := S4x128x128) ![0, 0, 0] S1x128x128.size inb_S4x128x128_S1x128x128_0_0_0)))⟩,
     ⟨Rect.unit (s := S4x128x128) ![3, 0, 0] S1x128x128.size inb_S4x128x128_S1x128x128_3_0_0, k0_pay65 (v2B x0 x8 x9) (dmB x0 x6) (View.ld y17 (Rect.unit (s := S4x128x128) ![3, 0, 0] S1x128x128.size inb_S4x128x128_S1x128x128_3_0_0))⟩,
     ⟨Rect.unit (s := S4x128x128) ![2, 0, 0] S1x128x128.size inb_S4x128x128_S1x128x128_2_0_0, k0_pay62 (v2B x0 x8 x9) (dmB x0 x6) (View.ld y17 (Rect.unit (s := S4x128x128) ![2, 0, 0] S1x128x128.size inb_S4x128x128_S1x128x128_2_0_0))⟩,
     ⟨Rect.unit (s := S4x128x128) ![1, 0, 0] S1x128x128.size inb_S4x128x128_S1x128x128_1_0_0, k0_pay58 (v2B x0 x8 x9) (dmB x0 x6) (View.ld y17 (Rect.unit (s := S4x128x128) ![1, 0, 0] S1x128x128.size inb_S4x128x128_S1x128x128_1_0_0))⟩,
     ⟨Rect.unit (s := S4x128x128) ![0, 0, 0] S1x128x128.size inb_S4x128x128_S1x128x128_0_0_0, k0_pay55 (v2B x0 x8 x9) (k0_pay53 (k0_pay9 x0) x6) (View.ld y17 (Rect.unit (s := S4x128x128) ![0, 0, 0] S1x128x128.size inb_S4x128x128_S1x128x128_0_0_0))⟩] := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

/-- The bias's gradient after a point that is not the first. -/
theorem out18B (hc : ¬cond0_0 i) : out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12 y14 y15 y16 y17 y18 = k0_pay68 (dmB x0 x6) (k0_pay52 (k0_pay9 x0) x6 y18) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

/-- The activations' cotangent after a point that is the first, where the accumulators are filled with zeros. -/
theorem out13A (hc : cond0_0 i) : out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12  = View.canon
    [⟨Rect.unit (s := S256x2560) ![0, 2048] S256x512.size inb_S256x2560_S256x512_0_2048, k0_pay89 (k0_pay10 x0) (k0_pay34 (gvB x0)) (k0_pay35 (gvB x0)) (k0_pay86 (k0_pay31 x8) (dv2B x0 x6 x11)) (k0_pay87 (k0_pay31 x8) (dv2B x0 x6 x11)) k0_pay88⟩,
     ⟨Rect.unit (s := S256x2560) ![0, 1536] S256x512.size inb_S256x2560_S256x512_0_1536, k0_pay50 (k0_pay9 x0) (k0_pay47 (mixB x0 x8 x9 x10 x12) x6) (k0_pay48 (k0_pay9 x0)) (k0_pay49 (k0_pay9 x0)) (Scalar.ofBits .f32 0x3F4C422A#32)⟩,
     ⟨Rect.unit (s := S256x2560) ![0, 1024] S256x512.size inb_S256x2560_S256x512_0_1024, k0_pay30 (k0_pay7 x0) (dceB i x0 x1 x2 x3 x4 x5) x7 (dq2B i x0 x1 x2 x3 x4 x5 x7)⟩,
     ⟨Rect.unit (s := S256x2560) ![0, 512] S256x512.size inb_S256x2560_S256x512_0_512, k0_pay29 (k0_pay8 x0) (dceB i x0 x1 x2 x3 x4 x5) x7 (dq2B i x0 x1 x2 x3 x4 x5 x7)⟩,
     ⟨Rect.unit (s := S256x2560) ![0, 0] S256x512.size inb_S256x2560_S256x512_0_0, k0_pay28 x3 (k0_pay21 (qeB i x0 x1 x2) x7) (k0_pay25 (qeB i x0 x1 x2) x7)⟩] := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

/-- The taps' gradient after a point that is the first, where the accumulators are filled with zeros. -/
theorem out14A (hc : cond0_0 i) : out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12  = View.canon
    [⟨Rect.unit (s := S3x512) ![2, 0] S1x512.size inb_S3x512_S1x512_2_0, k0_pay27 (dcB x0 x3) (k0_pay24 (qeB i x0 x1 x2)) (View.ld (k0_pay1 (F := F)) (Rect.unit (s := S3x512) ![2, 0] S1x512.size inb_S3x512_S1x512_2_0))⟩,
     ⟨Rect.unit (s := S3x512) ![1, 0] S1x512.size inb_S3x512_S1x512_1_0, k0_pay23 (qeB i x0 x1 x2) (dcB x0 x3) (View.ld (k0_pay1 (F := F)) (Rect.unit (s := S3x512) ![1, 0] S1x512.size inb_S3x512_S1x512_1_0))⟩,
     ⟨Rect.unit (s := S3x512) ![0, 0] S1x512.size inb_S3x512_S1x512_0_0, k0_pay19 (qeB i x0 x1 x2) (dcB x0 x3) (View.ld (k0_pay1 (F := F)) (Rect.unit (s := S3x512) ![0, 0] S1x512.size inb_S3x512_S1x512_0_0))⟩, ⟨Rect.unit (s := S3x512) ![0, 0] S3x512.size inb_S3x512_S3x512_0_0, k0_pay1⟩] := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

/-- The scale's gradient after a point that is the first, where the accumulators are filled with zeros. -/
theorem out15A (hc : cond0_0 i) : out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12  = k0_pay84 (k0_pay35 (gvB x0)) (dv2B x0 x6 x11) (k0_pay2 (F := F)) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

/-- The shift's gradient after a point that is the first, where the accumulators are filled with zeros. -/
theorem out16A (hc : cond0_0 i) : out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12  = k0_pay85 (dv2B x0 x6 x11) (k0_pay3 (F := F)) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

/-- The mixing matrices' gradient after a point that is the first, where the accumulators are filled with zeros. -/
theorem out17A (hc : cond0_0 i) : out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12  = View.canon
    [⟨Rect.unit (s := S4x128x128) ![3, 0, 0] S1x128x128.size inb_S4x128x128_S1x128x128_3_0_0, k0_pay82 (v2B x0 x8 x9) (k0_pay80 (dmB x0 x6)) (k0_pay81 (k0_pay65 (v2B x0 x8 x9) (dmB x0 x6) (View.ld (k0_pay4 (F := F)) (Rect.unit (s := S4x128x128) ![3, 0, 0] S1x128x128.size inb_S4x128x128_S1x128x128_3_0_0))))⟩,
     ⟨Rect.unit (s := S4x128x128) ![2, 0, 0] S1x128x128.size inb_S4x128x128_S1x128x128_2_0_0, k0_pay78 (v2B x0 x8 x9) (dmB x0 x6) (k0_pay62 (v2B x0 x8 x9) (dmB x0 x6) (View.ld (k0_pay4 (F := F)) (Rect.unit (s := S4x128x128) ![2, 0, 0] S1x128x128.size inb_S4x128x128_S1x128x128_2_0_0)))⟩,
     ⟨Rect.unit (s := S4x128x128) ![1, 0, 0] S1x128x128.size inb_S4x128x128_S1x128x128_1_0_0, k0_pay75 (k0_pay73 (k0_pay58 (v2B x0 x8 x9) (dmB x0 x6) (View.ld (k0_pay4 (F := F)) (Rect.unit (s := S4x128x128) ![1, 0, 0] S1x128x128.size inb_S4x128x128_S1x128x128_1_0_0)))) (k0_pay74 (v2B x0 x8 x9) (dmB x0 x6))⟩,
     ⟨Rect.unit (s := S4x128x128) ![0, 0, 0] S1x128x128.size inb_S4x128x128_S1x128x128_0_0_0, k0_pay70 (v2B x0 x8 x9) (dmB x0 x6) (k0_pay55 (v2B x0 x8 x9) (k0_pay53 (k0_pay9 x0) x6) (View.ld (k0_pay4 (F := F)) (Rect.unit (s := S4x128x128) ![0, 0, 0] S1x128x128.size inb_S4x128x128_S1x128x128_0_0_0)))⟩,
     ⟨Rect.unit (s := S4x128x128) ![3, 0, 0] S1x128x128.size inb_S4x128x128_S1x128x128_3_0_0, k0_pay65 (v2B x0 x8 x9) (dmB x0 x6) (View.ld (k0_pay4 (F := F)) (Rect.unit (s := S4x128x128) ![3, 0, 0] S1x128x128.size inb_S4x128x128_S1x128x128_3_0_0))⟩,
     ⟨Rect.unit (s := S4x128x128) ![2, 0, 0] S1x128x128.size inb_S4x128x128_S1x128x128_2_0_0, k0_pay62 (v2B x0 x8 x9) (dmB x0 x6) (View.ld (k0_pay4 (F := F)) (Rect.unit (s := S4x128x128) ![2, 0, 0] S1x128x128.size inb_S4x128x128_S1x128x128_2_0_0))⟩,
     ⟨Rect.unit (s := S4x128x128) ![1, 0, 0] S1x128x128.size inb_S4x128x128_S1x128x128_1_0_0, k0_pay58 (v2B x0 x8 x9) (dmB x0 x6) (View.ld (k0_pay4 (F := F)) (Rect.unit (s := S4x128x128) ![1, 0, 0] S1x128x128.size inb_S4x128x128_S1x128x128_1_0_0))⟩,
     ⟨Rect.unit (s := S4x128x128) ![0, 0, 0] S1x128x128.size inb_S4x128x128_S1x128x128_0_0_0, k0_pay55 (v2B x0 x8 x9) (k0_pay53 (k0_pay9 x0) x6) (View.ld (k0_pay4 (F := F)) (Rect.unit (s := S4x128x128) ![0, 0, 0] S1x128x128.size inb_S4x128x128_S1x128x128_0_0_0))⟩, ⟨Rect.unit (s := S4x128x128) ![0, 0, 0] S4x128x128.size inb_S4x128x128_S4x128x128_0_0_0, k0_pay4⟩] := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

/-- The bias's gradient after a point that is the first, where the accumulators are filled with zeros. -/
theorem out18A (hc : cond0_0 i) : out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hc x0 x1 x2 x3 x4 x5 x6 x7 x8 x9 x10 x11 x12  = k0_pay68 (dmB x0 x6) (k0_pay52 (k0_pay9 x0) x6 (k0_pay5 (F := F))) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  try rw [h1.read_unread]
  try rw [h2.read_unread]
  try rw [h3.read_unread]
  try rw [h4.read_unread]
  try rw [h5.read_unread]
  try rw [h6.read_unread]
  try rw [h7.read_unread]
  try rw [h8.read_unread]
  try rw [h9.read_unread]
  try rw [h10.read_unread]
  try rw [h11.read_unread]
  try rw [h12.read_unread]
  try rw [h13.read_unread]
  try rw [show View.ld x0 (Rect.unit (s := S256x2560) ![0, 0] S256x2560.size inb_S256x2560_S256x2560_0_0) = x0 from View.ld_unit_lit' _ _ (by decide)]
  try rw [show View.ld x1 (Rect.unit (s := S16x2560) ![0, 0] S16x2560.size inb_S16x2560_S16x2560_0_0) = x1 from View.ld_unit_lit' _ _ (by decide)]
  try rw [show View.ld x2 (Rect.unit (s := S16x2560) ![0, 0] S16x2560.size inb_S16x2560_S16x2560_0_0) = x2 from View.ld_unit_lit' _ _ (by decide)]
  try rw [show View.ld x3 (Rect.unit (s := S256x512) ![0, 0] S256x512.size inb_S256x512_S256x512_0_0) = x3 from View.ld_unit_lit' _ _ (by decide)]
  try rw [show View.ld x4 (Rect.unit (s := S16x512) ![0, 0] S16x512.size inb_S16x512_S16x512_0_0) = x4 from View.ld_unit_lit' _ _ (by decide)]
  try rw [show View.ld x5 (Rect.unit (s := S16x512) ![0, 0] S16x512.size inb_S16x512_S16x512_0_0) = x5 from View.ld_unit_lit' _ _ (by decide)]
  try rw [show View.ld x6 (Rect.unit (s := S256x512) ![0, 0] S256x512.size inb_S256x512_S256x512_0_0) = x6 from View.ld_unit_lit' _ _ (by decide)]
  try rw [show View.ld x7 (Rect.unit (s := S3x512) ![0, 0] S3x512.size inb_S3x512_S3x512_0_0) = x7 from View.ld_unit_lit' _ _ (by decide)]
  try rw [show View.ld x8 (Rect.unit (s := S1x512) ![0, 0] S1x512.size inb_S1x512_S1x512_0_0) = x8 from View.ld_unit_lit' _ _ (by decide)]
  try rw [show View.ld x9 (Rect.unit (s := S1x512) ![0, 0] S1x512.size inb_S1x512_S1x512_0_0) = x9 from View.ld_unit_lit' _ _ (by decide)]
  try rw [show View.ld x12 (Rect.unit (s := S128x512) ![0, 0] S128x512.size inb_S128x512_S128x512_0_0) = x12 from View.ld_unit_lit' _ _ (by decide)]
  try rw [readCov_whole _ _ _ (by decide)]
  try rw [readCov_whole _ _ _ (by decide)]
  rfl

end Cert.KernelIdeal.Value
end
end
-- ==== Proof.BcPay.lean ====
module

public import proofs.«01_k».proof.Proof.BcMath
public import proofs.«01_k».proof.Proof.BcOut
public import Idealize.ShloMosaic.Lib.Pointwise

@[expose] public section

set_option maxRecDepth 16384

noncomputable section

namespace Cert.KernelIdeal.Block

open Cert.KernelIdeal Cert.KernelIdeal.Gen Cert.KernelIdeal.Value Idealize.ShloMosaic Idealize.ShloMosaic.TcCoe

/-- A block of 256 rows by 512 columns of a real function, from row `R`. -/
def tl (R : ℕ) (f : ℕ → ℕ → ℝ) : S256x512.Idx → EReal := fun j => ((f (R + (j 0).val) (j 1).val : ℝ) : EReal)
/-- A block of 256 rows by 2560 columns. -/
def tz (R : ℕ) (f : ℕ → ℕ → ℝ) : S256x2560.Idx → EReal := fun j => ((f (R + (j 0).val) (j 1).val : ℝ) : EReal)
/-- A halo of 16 rows by 2560 columns. -/
def hz (R : ℕ) (f : ℕ → ℕ → ℝ) : S16x2560.Idx → EReal := fun j => ((f (R + (j 0).val) (j 1).val : ℝ) : EReal)
/-- A halo of 16 rows by 512 columns. -/
def hl (R : ℕ) (f : ℕ → ℕ → ℝ) : S16x512.Idx → EReal := fun j => ((f (R + (j 0).val) (j 1).val : ℝ) : EReal)
/-- A single row of 512 columns. -/
def rw1 (f : ℕ → ℝ) : S1x512.Idx → EReal := fun j => ((f (j 1).val : ℝ) : EReal)
/-- The three rows of taps. -/
def w3 (f : ℕ → ℕ → ℝ) : S3x512.Idx → EReal := fun j => ((f (j 0).val (j 1).val : ℝ) : EReal)
/-- A chunk of the mixing bias. -/
def bl (f : ℕ → ℕ → ℝ) : S128x512.Idx → EReal := fun j => ((f (j 0).val (j 1).val : ℝ) : EReal)
/-- The mixing matrices. -/
def sl (f : ℕ → ℕ → ℕ → ℝ) : S4x128x128.Idx → EReal := fun j => ((f (j 0).val (j 1).val (j 2).val : ℝ) : EReal)
/-- The mixing matrices, each transposed. -/
def st (f : ℕ → ℕ → ℕ → ℝ) : S4x128x128.Idx → EReal := fun j => ((f (j 0).val (j 2).val (j 1).val : ℝ) : EReal)
/-- A column of 256 rows. -/
def cl (R : ℕ) (f : ℕ → ℝ) : S256x1.Idx → EReal := fun j => ((f (R + (j 0).val) : ℝ) : EReal)

theorem lit0 : Ideal.ofBits .f32 0x00000000#32 = ((0 : ℝ) : EReal) := by
  simp [Ideal.ofBits, Ideal.ieee, -EReal.coe_mul]
theorem lit_half : Ideal.ofBits .f32 0x3F000000#32 = ((1 / 2 : ℝ) : EReal) := by
  simp [Ideal.ofBits, Ideal.ieee, -EReal.coe_mul]; norm_num
theorem lit512 : Ideal.ofBits .f32 0x44000000#32 = ((512 : ℝ) : EReal) := by
  simp [Ideal.ofBits, Ideal.ieee, -EReal.coe_mul]; norm_num
theorem litK : Ideal.ofBits .f32 0x3F4C422A#32 = ((Bc.K : ℝ) : EReal) := by
  simp [Ideal.ofBits, Ideal.ieee, -EReal.coe_mul, Bc.K]; norm_num
theorem lit_eps : Ideal.ofBits .f32 0x358637BD#32 = ((Bc.eps : ℝ) : EReal) := by
  simp [Ideal.ofBits, Ideal.ieee, -EReal.coe_mul, Bc.eps]; norm_num
theorem nkc : Named.named (F := Ideal) κ "gelu_kc" (φ := .f32) 0x3D122279#32 = ((Bc.KC : ℝ) : EReal) :=
  IdealRules.named_const.ideal_named_scalar _ _ _ _ rfl
theorem n3kc : Named.named (F := Ideal) κ "gelu_3kc" (φ := .f32) 0x3DDB33B6#32 = ((3 * Bc.KC : ℝ) : EReal) :=
  (IdealRules.named_const.ideal_named_scalar _ _ _ ((241015141496493 / 2251799813685248 : ℝ) : EReal) rfl).trans (by norm_num [Bc.KC])
theorem div512 (x : ℝ) : Ideal.div (x : EReal) ((512 : ℝ) : EReal) = ((x / 512 : ℝ) : EReal) := by
  rw [Ideal.div_coe (by norm_num), ← EReal.coe_mul]; congr 1; ring
theorem rsqrt_pos {x : ℝ} (h : 0 < x) : Ideal.rsqrt (x : EReal) = (((√x)⁻¹ : ℝ) : EReal) := by
  rw [Ideal.rsqrt_coe, if_neg h.not_gt, if_neg h.ne']

theorem sel0 {α : Type} (n : ℕ) (h : n < 64) (a b : α) :
    Scalar.select (Scalar.cmpi .eq (BitVec.ofNat 32 n) 0#32) a b = if n = 0 then a else b := by
  interval_cases n <;> rfl
theorem sel63 {α : Type} (n : ℕ) (h : n < 64) (a b : α) :
    Scalar.select (Scalar.cmpi .eq (BitVec.ofNat 32 n) 63#32) a b = if n = 63 then a else b := by
  interval_cases n <;> rfl

variable (R : ℕ) (f : ℕ → ℕ → ℝ)

theorem pay32 : k0_pay32 (F := Ideal) (tl R f) = tl R fun r c => Bc.gelu (f r c) := by
  funext j
  pointwise [k0_pay32, tl, Bc.gelu, Bc.th]
  simp only [lit_half, litK, nkc, Ideal.tanh_coe, ← EReal.coe_mul, ← EReal.coe_add, ← EReal.coe_one]

theorem pay33 : k0_pay33 (F := Ideal) (tl R f) = tl R fun r c => f r c - (∑ k : Fin 512, f r k) / 512 := by
  funext j
  pointwise [k0_pay33, tl]
  simp only [lit512, Bc.coe_sum, div512, ← EReal.coe_sub]

variable (I : Bc.In)

theorem gv_eq : gvB (F := Ideal) (tz R I.z) = tl R (Bc.gv I) := by
  rw [gvB, show k0_pay10 (F := Ideal) (tz R I.z) = tl R (fun r c => I.z r (2048 + c)) from by
    funext j; pointwise [k0_pay10, k0_pay6, tz, tl]]
  exact pay32 ..

theorem vc_eq : k0_pay33 (F := Ideal) (tl R (Bc.gv I)) = tl R (Bc.vc I) := pay33 ..

theorem rs_eq : k0_pay34 (F := Ideal) (tl R (Bc.gv I)) = cl R (Bc.rs I) := by
  funext j
  pointwise [k0_pay34, vc_eq, tl, cl]
  simp only [lit512, lit_eps, Bc.coe_sum, div512, ← EReal.coe_mul, ← EReal.coe_add]
  exact rsqrt_pos (Bc.var_pos I _)

theorem vn_eq : k0_pay35 (F := Ideal) (tl R (Bc.gv I)) = tl R (Bc.vn I) := by
  funext j
  pointwise [k0_pay35, vc_eq, rs_eq, tl, cl]
  simp only [← EReal.coe_mul]
  rfl

theorem pay31_eq (g : ℕ → ℝ) : k0_pay31 (F := Ideal) (rw1 g) = rw1 g := by
  funext j
  pointwise [k0_pay31, rw1]

theorem v2_eq : v2B (F := Ideal) (tz R I.z) (rw1 I.g) (rw1 I.b) = tl R (Bc.v2 I) := by
  rw [v2B, gv_eq, pay31_eq]
  funext j
  pointwise [k0_pay36, vn_eq, tl, rw1]
  simp only [← EReal.coe_mul, ← EReal.coe_add]
  rfl

theorem u_eq : k0_pay9 (F := Ideal) (tz R I.z) = tl R (fun r c => I.z r (1536 + c)) := by
  funext j; pointwise [k0_pay9, k0_pay6, tz, tl]

theorem dm_eq : dmB (F := Ideal) (tz R I.z) (tl R I.pc) = tl R (Bc.dmix I) := by
  rw [dmB, u_eq]
  funext j
  pointwise [k0_pay51, k0_pay48, k0_pay49, tl, Bc.dmix, Bc.gelu, Bc.th]
  simp only [lit_half, litK, nkc, Ideal.tanh_coe, ← EReal.coe_mul, ← EReal.coe_add, ← EReal.coe_one]
  congr 1; ring

theorem qe_eq (i : grid0.Coords) (P N : ℕ) (hR : R = 256 * (i 0).val) (hP : (i 0).val ≠ 0 → P + 16 = R) (hN : (i 0).val ≠ 63 → N = R + 256)
    (j : S288x512.Idx) (h1 : 15 ≤ (j 0).val) (h2 : (j 0).val ≤ 272) :
    qeB (F := Ideal) i (tz R I.z) (hz P I.z) (hz N I.z) j = ((Bc.qp I (R + (j 0).val - 15) (j 1).val : ℝ) : EReal) := by
  have hi : (i 0).val < 64 := (i 0).isLt
  unfold qeB
  pointwise [k0_pay13, k0_pay7, k0_pay8, k0_pay6, k0_pay11, k0_pay12, tz, hz]
  simp only [sel0 _ hi, sel63 _ hi, ← EReal.coe_mul, ← EReal.coe_zero, dite_eq_ite]
  have hq : ∀ a b c : ℕ, a + 1 = b → Bc.qp I b c = I.z a (512 + c) * I.z a (1024 + c) := by rintro a b c rfl; rfl
  split_ifs with c1 c2 c3 c4
  · rw [show R + (j 0).val - 15 = 0 by omega]; rfl
  · rw [hq _ _ _ (by have := hP c2; omega : P + (j 0).val + 1 = _)]
  · rw [hq _ _ _ (by omega : R + ((j 0).val - 16) + 1 = _)]
  · rw [hq 16384 _ _ (by omega)]; simp [I.z_out]
  · rw [hq _ _ _ (by have := hN c4; omega : N + ((j 0).val - 16 - 256) + 1 = _)]

theorem dc_eq : dcB (F := Ideal) (tz R I.z) (tl R I.pb) = tl R (Bc.dc I) := by
  unfold dcB
  funext j; pointwise [k0_pay14, k0_pay6, tz, tl]
  simp only [← EReal.coe_mul]; rfl

theorem dce_eq (i : grid0.Coords) (P N : ℕ) (hR : R = 256 * (i 0).val) (hP : (i 0).val ≠ 0 → P + 16 = R) (hN : (i 0).val ≠ 63 → N = R + 256)
    (j : S288x512.Idx) (h1 : 15 ≤ (j 0).val) (h2 : (j 0).val ≤ 272) :
    dceB (F := Ideal) i (tz R I.z) (hz P I.z) (hz N I.z) (tl R I.pb) (hl P I.pb) (hl N I.pb) j
      = ((Bc.dcp I (R + (j 0).val - 15) (j 1).val : ℝ) : EReal) := by
  have hi : (i 0).val < 64 := (i 0).isLt
  unfold dceB
  rw [dc_eq]
  pointwise [k0_pay17, k0_pay15, k0_pay16, k0_pay11, k0_pay12, tl, hz, hl]
  simp only [sel0 _ hi, sel63 _ hi, ← EReal.coe_mul, ← EReal.coe_zero, dite_eq_ite]
  have hq : ∀ a b c : ℕ, a + 1 = b → Bc.dcp I b c = I.pb a c * I.z a c := by rintro a b c rfl; rfl
  split_ifs with c1 c2 c3 c4
  · rw [show R + (j 0).val - 15 = 0 by omega]; rfl
  · rw [hq _ _ _ (by have := hP c2; omega : P + (j 0).val + 1 = _)]
  · rw [hq _ _ _ (by omega : R + ((j 0).val - 16) + 1 = _)]; rfl
  · rw [hq 16384 _ _ (by omega)]; simp [I.z_out]
  · rw [hq _ _ _ (by have := hN c4; omega : N + ((j 0).val - 16 - 256) + 1 = _)]

section Shift
variable (E : FVec Ideal S288x512 .f32) (e : ℕ → ℕ → ℝ)
  (hE : ∀ j : S288x512.Idx, 15 ≤ (j 0).val → (j 0).val ≤ 272 → E j = ((e (R + (j 0).val - 15) (j 1).val : ℝ) : EReal))
include hE

theorem pay18_eq : k0_pay18 (F := Ideal) E = tl R e := by
  funext j
  have hj : (j 0).val < 256 := (j 0).isLt
  pointwise [k0_pay18, tl]
  refine (hE _ ?_ ?_).trans ?_ <;> simp only [ix2] <;> try omega
  congr 2 <;> first | omega | (simp; omega) | simp

theorem pay20_eq : k0_pay20 (F := Ideal) E = tl R (fun r => e (r + 1)) := by
  funext j
  have hj : (j 0).val < 256 := (j 0).isLt
  pointwise [k0_pay20, tl]
  refine (hE _ ?_ ?_).trans ?_ <;> simp only [ix2] <;> try omega
  congr 2 <;> first | omega | (simp; omega) | simp

theorem pay24_eq : k0_pay24 (F := Ideal) E = tl R (fun r => e (r + 2)) := by
  funext j
  have hj : (j 0).val < 256 := (j 0).isLt
  pointwise [k0_pay24, tl]
  refine (hE _ ?_ ?_).trans ?_ <;> simp only [ix2] <;> try omega
  congr 2 <;> first | omega | (simp; omega) | simp

theorem pay21_eq (w : ℕ → ℕ → ℝ) : k0_pay21 (F := Ideal) E (w3 w) = tl R (fun r c => e r c * w 0 c + e (r + 1) c * w 1 c) := by
  funext j
  pointwise [k0_pay21, pay18_eq R E e hE, pay20_eq R E e hE, tl, w3]
  simp only [← EReal.coe_mul, ← EReal.coe_add]

theorem pay25_eq (w : ℕ → ℕ → ℝ) : k0_pay25 (F := Ideal) E (w3 w) = tl R (fun r c => e (r + 2) c * w 2 c) := by
  funext j
  pointwise [k0_pay25, pay24_eq R E e hE, tl, w3]
  simp only [← EReal.coe_mul]
end Shift

theorem pay36_eq : k0_pay36 (F := Ideal) (rw1 I.g) (tl R (Bc.gv I)) (rw1 I.b) = tl R (Bc.v2 I) := by
  have := v2_eq R I
  rwa [v2B, gv_eq, pay31_eq] at this

theorem mixed_at (h : R % 128 = 0) (n g : ℕ) (p c : ℕ) (hp : p < 128) (hc : c < 128) :
    ∑ k : Fin 128, ((I.s g p k : ℝ) : EReal) * ((Bc.v2 I (R + (128 * n + k)) (128 * g + c) : ℝ) : EReal) + ((I.bias p (128 * g + c) : ℝ) : EReal)
      = ((Bc.mixed I (R + (128 * n + p)) (128 * g + c) : ℝ) : EReal) := by
  simp only [← EReal.coe_mul, Bc.coe_sum, ← EReal.coe_add]
  rw [Bc.mixed, show (128 * g + c) / 128 = g by omega, show (R + (128 * n + p)) % 128 = p by omega]
  simp only [show ∀ k : ℕ, 128 * ((R + (128 * n + p)) / 128) + k = R + (128 * n + k) from fun k => by omega]

theorem mix_eq (h : R % 128 = 0) : mixB (F := Ideal) (tz R I.z) (rw1 I.g) (rw1 I.b) (sl I.s) (bl I.bias) = tl R (Bc.mixed I) := by
  rw [mixB, mixL, v2_eq, gv_eq, pay31_eq]
  funext y
  canon_tiles x h
  · have e := mixed_at R I h 1 3 _ _ x0_lt x1_lt
    simp only [Nat.reduceMul, Nat.zero_add] at e
    pointwise [k0_pay46, k0_pay37, tl, sl, bl, rw1]
    rw [h0, h1]
    exact e
  · have e := mixed_at R I h 1 2 _ _ x0_lt x1_lt
    simp only [Nat.reduceMul, Nat.zero_add] at e
    pointwise [k0_pay45, k0_pay37, tl, sl, bl, rw1]
    rw [h0, h1]
    exact e
  · have e := mixed_at R I h 1 1 _ _ x0_lt x1_lt
    simp only [Nat.reduceMul, Nat.zero_add] at e
    pointwise [k0_pay44, k0_pay37, tl, sl, bl, rw1]
    rw [h0, h1]
    exact e
  · have e := mixed_at R I h 1 0 _ _ x0_lt x1_lt
    simp only [Nat.reduceMul, Nat.zero_add] at e
    pointwise [k0_pay43, k0_pay37, tl, sl, bl, rw1]
    rw [h0, h1]
    exact e
  · have e := mixed_at R I h 0 3 _ _ x0_lt x1_lt
    simp only [Nat.reduceMul, Nat.zero_add] at e
    pointwise [k0_pay42, k0_pay37, tl, sl, bl, rw1]
    rw [h0, h1]
    exact e
  · have e := mixed_at R I h 0 2 _ _ x0_lt x1_lt
    simp only [Nat.reduceMul, Nat.zero_add] at e
    pointwise [k0_pay41, k0_pay37, tl, sl, bl, rw1]
    rw [h0, h1]
    exact e
  · have e := mixed_at R I h 0 1 _ _ x0_lt x1_lt
    simp only [Nat.reduceMul, Nat.zero_add] at e
    pointwise [k0_pay40, k0_pay39, pay36_eq, k0_pay37, tl, sl, bl, rw1]
    rw [h0, h1]
    exact e
  · have e := mixed_at R I h 0 0 _ _ x0_lt x1_lt
    simp only [Nat.reduceMul, Nat.zero_add] at e
    pointwise [k0_pay38, pay36_eq, k0_pay37, tl, sl, bl, rw1]
    rw [h0, h1]
    exact e

theorem dv2_at (h : R % 128 = 0) (n g : ℕ) (p c : ℕ) (hp : p < 128) (hc : c < 128) :
    ∑ k : Fin 128, ((I.s g k p : ℝ) : EReal) * ((Bc.dmix I (R + (128 * n + k)) (128 * g + c) : ℝ) : EReal)
      = ((Bc.dv2 I (R + (128 * n + p)) (128 * g + c) : ℝ) : EReal) := by
  simp only [← EReal.coe_mul, Bc.coe_sum, ← EReal.coe_add]
  rw [Bc.dv2, show (128 * g + c) / 128 = g by omega, show (R + (128 * n + p)) % 128 = p by omega]
  simp only [show ∀ k : ℕ, 128 * ((R + (128 * n + p)) / 128) + k = R + (128 * n + k) from fun k => by omega]

theorem pay53_eq : k0_pay53 (F := Ideal) (tl R (fun r c => I.z r (1536 + c))) (tl R I.pc) = fun j => ((Bc.dmix I (R + (j 0).val) (j 1).val : ℝ) : EReal) := by
  have hd := dm_eq R I
  rw [dmB, u_eq] at hd
  funext j
  pointwise [k0_pay53, hd, tl]

theorem dv2_eq (h : R % 128 = 0) : dv2B (F := Ideal) (tz R I.z) (tl R I.pc) (st I.s) = tl R (Bc.dv2 I) := by
  rw [dv2B, dv2L, dm_eq, u_eq, pay53_eq]
  funext y
  canon_tiles x h
  · have e := dv2_at R I h 1 3 _ _ x0_lt x1_lt
    simp only [Nat.reduceMul, Nat.zero_add] at e
    pointwise [k0_pay83, k0_pay80, tl, st]
    rw [h0, h1]
    exact e
  · have e := dv2_at R I h 1 2 _ _ x0_lt x1_lt
    simp only [Nat.reduceMul, Nat.zero_add] at e
    pointwise [k0_pay79, k0_pay77, tl, st]
    rw [h0, h1]
    exact e
  · have e := dv2_at R I h 1 1 _ _ x0_lt x1_lt
    simp only [Nat.reduceMul, Nat.zero_add] at e
    pointwise [k0_pay76, k0_pay72, tl, st]
    rw [h0, h1]
    exact e
  · have e := dv2_at R I h 1 0 _ _ x0_lt x1_lt
    simp only [Nat.reduceMul, Nat.zero_add] at e
    pointwise [k0_pay71, k0_pay69, tl, st]
    rw [h0, h1]
    exact e
  · have e := dv2_at R I h 0 3 _ _ x0_lt x1_lt
    simp only [Nat.reduceMul, Nat.zero_add] at e
    pointwise [k0_pay67, k0_pay64, k0_pay66, tl, st]
    rw [h0, h1]
    exact e
  · have e := dv2_at R I h 0 2 _ _ x0_lt x1_lt
    simp only [Nat.reduceMul, Nat.zero_add] at e
    pointwise [k0_pay63, k0_pay61, tl, st]
    rw [h0, h1]
    exact e
  · have e := dv2_at R I h 0 1 _ _ x0_lt x1_lt
    simp only [Nat.reduceMul, Nat.zero_add] at e
    pointwise [k0_pay60, k0_pay59, k0_pay57, tl, st]
    rw [h0, h1]
    exact e
  · have e := dv2_at R I h 0 0 _ _ x0_lt x1_lt
    simp only [Nat.reduceMul, Nat.zero_add] at e
    pointwise [k0_pay56, tl, st]
    rw [h0, h1]
    exact e
end Cert.KernelIdeal.Block
end
end
-- ==== Proof.BcBlock.lean ====
/- What one grid point of the kernel computes from real arguments: each output block as the gradient's rows, and
   each accumulator as what it held plus the point's own sum. -/
module

public import proofs.«01_k».proof.Proof.BcPay

@[expose] public section

set_option maxRecDepth 16384

noncomputable section

namespace Cert.KernelIdeal.Block

open Cert.KernelIdeal Cert.KernelIdeal.Gen Cert.KernelIdeal.Value Idealize.ShloMosaic Idealize.ShloMosaic.TcCoe

/-- Earlier stores do not show where the later ones cover. -/
theorem canon_append_drop {F : FTy → Type} [FloatOps F] {s : Shape} {e : EltTy} (L' : List (View.Piece (Elt F) s e)) :
    ∀ (L : List (View.Piece (Elt F) s e)) (y : s.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_drop L' L y ?_
      obtain ⟨q, hq, hyq⟩ := hy
      rcases List.mem_cons.mp hq with rfl | hq'
      · exact absurd hyq hm
      · exact ⟨q, hq', hyq⟩

variable (R : ℕ) (I : Bc.In) (i : grid0.Coords) (P N : ℕ)

theorem col0 : k0_pay7 (F := Ideal) (tz R I.z) = tl R (fun r c => I.z r (512 + c)) := by
  funext j; pointwise [k0_pay7, k0_pay6, tz, tl]
theorem col1 : k0_pay8 (F := Ideal) (tz R I.z) = tl R (fun r c => I.z r (1024 + c)) := by
  funext j; pointwise [k0_pay8, k0_pay6, tz, tl]
theorem col3 : k0_pay10 (F := Ideal) (tz R I.z) = tl R (fun r c => I.z r (2048 + c)) := by
  funext j; pointwise [k0_pay10, k0_pay6, tz, tl]

section Halo
variable (hR : R = 256 * (i 0).val) (hP : (i 0).val ≠ 0 → P + 16 = R) (hN : (i 0).val ≠ 63 → N = R + 256)
include hR hP hN

theorem dq2_eq : (dq2B (F := Ideal) i (tz R I.z) (hz P I.z) (hz N I.z) (tl R I.pb) (hl P I.pb) (hl N I.pb) (w3 I.w)) = tl R (fun r c => Bc.dcp I (r + 2) c * I.w 0 c + Bc.dcp I (r + 1) c * I.w 1 c) := by
  have e := dce_eq R I i P N hR hP hN
  unfold dceB at e
  unfold dq2B k0_pay22
  generalize k0_pay17 (F := Ideal) _ _ _ _ _ = E at e ⊢
  funext j
  have hj : (j 0).val < 256 := (j 0).isLt
  pointwise [w3, tl]
  rw [e _ (by simp only [ix2]; omega) (by simp only [ix2]; omega), e _ (by simp only [ix2]; omega) (by simp only [ix2]; omega)]
  simp only [← EReal.coe_mul, ← EReal.coe_add]
  simp only [ix2]
  congr 3 <;> first | rfl | (congr 2 <;> first | rfl | (simp; omega) | omega)

theorem dq_eq : k0_pay26 (F := Ideal) (dceB (F := Ideal) i (tz R I.z) (hz P I.z) (hz N I.z) (tl R I.pb) (hl P I.pb) (hl N I.pb)) (w3 I.w) (dq2B (F := Ideal) i (tz R I.z) (hz P I.z) (hz N I.z) (tl R I.pb) (hl P I.pb) (hl N I.pb) (w3 I.w)) = tl R (Bc.dq I) := by
  have e := dce_eq R I i P N hR hP hN
  rw [dq2_eq R I i P N hR hP hN]
  funext j
  have hj : (j 0).val < 256 := (j 0).isLt
  pointwise [k0_pay26, w3, tl]
  rw [e _ (by simp only [ix2]; omega) (by simp only [ix2]; omega)]
  simp only [← EReal.coe_mul, ← EReal.coe_add]
  simp only [ix2, Bc.dq]
  congr 3 <;> first | rfl | (congr 2 <;> first | rfl | (simp; omega) | omega)

theorem pc28 : k0_pay28 (F := Ideal) (tl R I.pb) (k0_pay21 (qeB (F := Ideal) i (tz R I.z) (hz P I.z) (hz N I.z)) (w3 I.w)) (k0_pay25 (qeB (F := Ideal) i (tz R I.z) (hz P I.z) (hz N I.z)) (w3 I.w)) = tl R (fun r c => I.pb r c * Bc.conv I r c) := by
  have e := qe_eq R I i P N hR hP hN
  rw [pay21_eq R _ _ e, pay25_eq R _ _ e]
  funext j
  pointwise [k0_pay28, tl]
  simp only [← EReal.coe_mul, ← EReal.coe_add]
  rfl

theorem pc29 : k0_pay29 (F := Ideal) (k0_pay8 (tz R I.z)) (dceB (F := Ideal) i (tz R I.z) (hz P I.z) (hz N I.z) (tl R I.pb) (hl P I.pb) (hl N I.pb)) (w3 I.w) (dq2B (F := Ideal) i (tz R I.z) (hz P I.z) (hz N I.z) (tl R I.pb) (hl P I.pb) (hl N I.pb) (w3 I.w)) = tl R (fun r c => Bc.dq I r c * I.z r (1024 + c)) := by
  funext j
  pointwise [k0_pay29, dq_eq R I i P N hR hP hN, col1, tl]
  simp only [← EReal.coe_mul]

theorem pc30 : k0_pay30 (F := Ideal) (k0_pay7 (tz R I.z)) (dceB (F := Ideal) i (tz R I.z) (hz P I.z) (hz N I.z) (tl R I.pb) (hl P I.pb) (hl N I.pb)) (w3 I.w) (dq2B (F := Ideal) i (tz R I.z) (hz P I.z) (hz N I.z) (tl R I.pb) (hl P I.pb) (hl N I.pb) (w3 I.w)) = tl R (fun r c => Bc.dq I r c * I.z r (512 + c)) := by
  funext j
  pointwise [k0_pay30, dq_eq R I i P N hR hP hN, col0, tl]
  simp only [← EReal.coe_mul]

/-- The taps' gradient after a point: what it held plus the point's sum over its rows. -/
theorem dw_eq (y : Vec Ideal S3x512 .f32) (j : S3x512.Idx) : ((View.canon (Val := Elt Ideal)
    [⟨Rect.unit (s := S3x512) ![2, 0] S1x512.size inb_S3x512_S1x512_2_0, k0_pay27 (F := Ideal) (dcB (F := Ideal) (tz R I.z) (tl R I.pb)) (k0_pay24 (F := Ideal) (qeB (F := Ideal) i (tz R I.z) (hz P I.z) (hz N I.z))) (View.ld y (Rect.unit (s := S3x512) ![2, 0] S1x512.size inb_S3x512_S1x512_2_0))⟩,
     ⟨Rect.unit (s := S3x512) ![1, 0] S1x512.size inb_S3x512_S1x512_1_0, k0_pay23 (F := Ideal) (qeB (F := Ideal) i (tz R I.z) (hz P I.z) (hz N I.z)) (dcB (F := Ideal) (tz R I.z) (tl R I.pb)) (View.ld y (Rect.unit (s := S3x512) ![1, 0] S1x512.size inb_S3x512_S1x512_1_0))⟩,
     ⟨Rect.unit (s := S3x512) ![0, 0] S1x512.size inb_S3x512_S1x512_0_0, k0_pay19 (F := Ideal) (qeB (F := Ideal) i (tz R I.z) (hz P I.z) (hz N I.z)) (dcB (F := Ideal) (tz R I.z) (tl R I.pb)) (View.ld y (Rect.unit (s := S3x512) ![0, 0] S1x512.size inb_S3x512_S1x512_0_0))⟩]) : Vec Ideal S3x512 .f32) j
    = (y j : EReal) + ((∑ r : Fin 256, Bc.dc I (R + r) (j 1).val * Bc.qp I (R + r + (j 0).val) (j 1).val : ℝ) : EReal) := by
  have e := qe_eq R I i P N hR hP hN
  rw [dc_eq]
  have hy : ∀ j' : S3x512.Idx, (∀ a, (j' a).val = (j a).val) → y j' = y j := fun j' h => congrArg y (funext fun a => Fin.ext (h a))
  canon_tiles x h
  all_goals
    pointwise [k0_pay27, k0_pay23, k0_pay19, pay18_eq R _ _ e, pay20_eq R _ _ e, pay24_eq R _ _ e, tl]
    simp only [← EReal.coe_mul, Bc.coe_sum]
    have hx : (x 0).val = 0 := by omega
    rw [hy _ (fun a => by fin_cases a <;> simp [ix2] <;> omega)]
    simp only [h0, h1, hx]
    try simp only [Nat.add_zero, Nat.add_assoc]
end Halo

theorem pc50 (h : R % 128 = 0) : k0_pay50 (F := Ideal) (k0_pay9 (tz R I.z)) (k0_pay47 (mixB (F := Ideal) (tz R I.z) (rw1 I.g) (rw1 I.b) (sl I.s) (bl I.bias)) (tl R I.pc)) (k0_pay48 (k0_pay9 (tz R I.z)))
    (k0_pay49 (k0_pay9 (tz R I.z))) (Scalar.ofBits .f32 0x3F4C422A#32) = tl R (Bc.du I) := by
  rw [mix_eq R I h, u_eq]
  funext j
  pointwise [k0_pay50, k0_pay47, k0_pay48, k0_pay49, tl]
  simp only [lit_half, litK, nkc, n3kc, Ideal.tanh_coe, ← EReal.coe_mul, ← EReal.coe_add, ← EReal.coe_sub, ← EReal.coe_one]
  simp only [Bc.du, Bc.dgelu, Bc.th]

theorem pc89 (h : R % 128 = 0) : k0_pay89 (F := Ideal) (k0_pay10 (tz R I.z)) (k0_pay34 (gvB (tz R I.z))) (k0_pay35 (gvB (tz R I.z)))
    (k0_pay86 (k0_pay31 (rw1 I.g)) (dv2B (F := Ideal) (tz R I.z) (tl R I.pc) (st I.s))) (k0_pay87 (k0_pay31 (rw1 I.g)) (dv2B (F := Ideal) (tz R I.z) (tl R I.pc) (st I.s))) k0_pay88 = tl R (Bc.dv I) := by
  have e : k0_pay86 (F := Ideal) (rw1 I.g) (tl R (Bc.dv2 I)) = tl R (Bc.dvn I) := by
    funext j
    pointwise [k0_pay86, tl, rw1]
    simp only [← EReal.coe_mul]; rfl
  have e' : k0_pay87 (F := Ideal) (rw1 I.g) (tl R (Bc.dv2 I)) = cl R (fun r => ∑ k : Fin 512, Bc.dvn I r k) := by
    funext j
    pointwise [k0_pay87, e, tl, cl]
    simp only [Bc.coe_sum]
  rw [dv2_eq R I h, pay31_eq, gv_eq, rs_eq, vn_eq, e, e', col3]
  funext j
  pointwise [k0_pay89, k0_pay88, tl, cl]
  simp only [lit_half, litK, lit512, nkc, n3kc, Ideal.tanh_coe, Bc.coe_sum, div512, ← EReal.coe_mul, ← EReal.coe_add, ← EReal.coe_sub, ← EReal.coe_one]
  simp only [Bc.dv, Bc.dv1, Bc.dgelu, Bc.th]

/-- The activations' cotangent that a point writes. -/
theorem dz_eq (hR : R = 256 * (i 0).val) (hP : (i 0).val ≠ 0 → P + 16 = R) (hN : (i 0).val ≠ 63 → N = R + 256) :
    ((View.canon (Val := Elt Ideal)
    [⟨Rect.unit (s := S256x2560) ![0, 2048] S256x512.size inb_S256x2560_S256x512_0_2048, k0_pay89 (F := Ideal) (k0_pay10 (F := Ideal) (tz R I.z)) (k0_pay34 (F := Ideal) (gvB (F := Ideal) (tz R I.z))) (k0_pay35 (F := Ideal) (gvB (F := Ideal) (tz R I.z))) (k0_pay86 (F := Ideal) (k0_pay31 (F := Ideal) (rw1 I.g)) (dv2B (F := Ideal) (tz R I.z) (tl R I.pc) (st I.s))) (k0_pay87 (F := Ideal) (k0_pay31 (F := Ideal) (rw1 I.g)) (dv2B (F := Ideal) (tz R I.z) (tl R I.pc) (st I.s))) (k0_pay88 (F := Ideal))⟩,
     ⟨Rect.unit (s := S256x2560) ![0, 1536] S256x512.size inb_S256x2560_S256x512_0_1536, k0_pay50 (F := Ideal) (k0_pay9 (F := Ideal) (tz R I.z)) (k0_pay47 (F := Ideal) (mixB (F := Ideal) (tz R I.z) (rw1 I.g) (rw1 I.b) (sl I.s) (bl I.bias)) (tl R I.pc)) (k0_pay48 (F := Ideal) (k0_pay9 (F := Ideal) (tz R I.z))) (k0_pay49 (F := Ideal) (k0_pay9 (F := Ideal) (tz R I.z))) (Scalar.ofBits .f32 0x3F4C422A#32)⟩,
     ⟨Rect.unit (s := S256x2560) ![0, 1024] S256x512.size inb_S256x2560_S256x512_0_1024, k0_pay30 (F := Ideal) (k0_pay7 (F := Ideal) (tz R I.z)) (dceB (F := Ideal) i (tz R I.z) (hz P I.z) (hz N I.z) (tl R I.pb) (hl P I.pb) (hl N I.pb)) (w3 I.w) (dq2B (F := Ideal) i (tz R I.z) (hz P I.z) (hz N I.z) (tl R I.pb) (hl P I.pb) (hl N I.pb) (w3 I.w))⟩,
     ⟨Rect.unit (s := S256x2560) ![0, 512] S256x512.size inb_S256x2560_S256x512_0_512, k0_pay29 (F := Ideal) (k0_pay8 (F := Ideal) (tz R I.z)) (dceB (F := Ideal) i (tz R I.z) (hz P I.z) (hz N I.z) (tl R I.pb) (hl P I.pb) (hl N I.pb)) (w3 I.w) (dq2B (F := Ideal) i (tz R I.z) (hz P I.z) (hz N I.z) (tl R I.pb) (hl P I.pb) (hl N I.pb) (w3 I.w))⟩,
     ⟨Rect.unit (s := S256x2560) ![0, 0] S256x512.size inb_S256x2560_S256x512_0_0, k0_pay28 (F := Ideal) (tl R I.pb) (k0_pay21 (F := Ideal) (qeB (F := Ideal) i (tz R I.z) (hz P I.z) (hz N I.z)) (w3 I.w)) (k0_pay25 (F := Ideal) (qeB (F := Ideal) i (tz R I.z) (hz P I.z) (hz N I.z)) (w3 I.w))⟩]) : Vec Ideal S256x2560 .bf16) = tz R (Bc.dz I) := by
  rw [pc28 R I i P N hR hP hN, pc29 R I i P N hR hP hN, pc30 R I i P N hR hP hN, pc50 R I (by omega), pc89 R I (by omega)]
  funext y
  canon_tiles x h
  all_goals
    simp only [tl, tz, Bc.dz, h0, h1]
    congr 1
    split_ifs <;> first
      | omega
      | rfl
      | (simp only [Nat.add_sub_cancel_left]; try congr 2; try omega)

/-- The scale's gradient after a point. -/
theorem dg_eq (h : R % 128 = 0) (y : Vec Ideal S1x512 .f32) (j : S1x512.Idx) : ((k0_pay84 (F := Ideal) (k0_pay35 (F := Ideal) (gvB (F := Ideal) (tz R I.z))) (dv2B (F := Ideal) (tz R I.z) (tl R I.pc) (st I.s)) y) : Vec Ideal S1x512 .f32) j
    = (y j : EReal) + ((∑ r : Fin 256, Bc.dv2 I (R + r) (j 1).val * Bc.vn I (R + r) (j 1).val : ℝ) : EReal) := by
  rw [dv2_eq R I h, gv_eq, vn_eq]
  pointwise [k0_pay84, tl]
  simp only [← EReal.coe_mul, Bc.coe_sum]

/-- The shift's gradient after a point. -/
theorem db_eq (h : R % 128 = 0) (y : Vec Ideal S1x512 .f32) (j : S1x512.Idx) : ((k0_pay85 (F := Ideal) (dv2B (F := Ideal) (tz R I.z) (tl R I.pc) (st I.s)) y) : Vec Ideal S1x512 .f32) j
    = (y j : EReal) + ((∑ r : Fin 256, Bc.dv2 I (R + r) (j 1).val : ℝ) : EReal) := by
  rw [dv2_eq R I h]
  pointwise [k0_pay85, tl]
  simp only [← EReal.coe_mul, Bc.coe_sum]

/-- The bias's gradient after a point. -/
theorem dbias_eq (y : Vec Ideal S128x512 .f32) (j : S128x512.Idx) : ((k0_pay68 (F := Ideal) (dmB (F := Ideal) (tz R I.z) (tl R I.pc)) (k0_pay52 (F := Ideal) (k0_pay9 (F := Ideal) (tz R I.z)) (tl R I.pc) y)) : Vec Ideal S128x512 .f32) j
    = (y j : EReal) + ((Bc.dmix I (R + (j 0).val) (j 1).val + Bc.dmix I (R + (128 + (j 0).val)) (j 1).val : ℝ) : EReal) := by
  have e := dm_eq R I
  have e' := e
  rw [dmB] at e'
  pointwise [k0_pay68, k0_pay52, e, e', tl]
  rw [EReal.coe_add, add_assoc]

/-- The mixing matrices' gradient after a point. -/
theorem ds_eq (y : Vec Ideal S4x128x128 .f32) (j : S4x128x128.Idx) : ((View.canon (Val := Elt Ideal)
    [⟨Rect.unit (s := S4x128x128) ![3, 0, 0] S1x128x128.size inb_S4x128x128_S1x128x128_3_0_0, k0_pay82 (F := Ideal) (v2B (F := Ideal) (tz R I.z) (rw1 I.g) (rw1 I.b)) (k0_pay80 (F := Ideal) (dmB (F := Ideal) (tz R I.z) (tl R I.pc))) (k0_pay81 (F := Ideal) (k0_pay65 (F := Ideal) (v2B (F := Ideal) (tz R I.z) (rw1 I.g) (rw1 I.b)) (dmB (F := Ideal) (tz R I.z) (tl R I.pc)) (View.ld y (Rect.unit (s := S4x128x128) ![3, 0, 0] S1x128x128.size inb_S4x128x128_S1x128x128_3_0_0))))⟩,
     ⟨Rect.unit (s := S4x128x128) ![2, 0, 0] S1x128x128.size inb_S4x128x128_S1x128x128_2_0_0, k0_pay78 (F := Ideal) (v2B (F := Ideal) (tz R I.z) (rw1 I.g) (rw1 I.b)) (dmB (F := Ideal) (tz R I.z) (tl R I.pc)) (k0_pay62 (F := Ideal) (v2B (F := Ideal) (tz R I.z) (rw1 I.g) (rw1 I.b)) (dmB (F := Ideal) (tz R I.z) (tl R I.pc)) (View.ld y (Rect.unit (s := S4x128x128) ![2, 0, 0] S1x128x128.size inb_S4x128x128_S1x128x128_2_0_0)))⟩,
     ⟨Rect.unit (s := S4x128x128) ![1, 0, 0] S1x128x128.size inb_S4x128x128_S1x128x128_1_0_0, k0_pay75 (F := Ideal) (k0_pay73 (F := Ideal) (k0_pay58 (F := Ideal) (v2B (F := Ideal) (tz R I.z) (rw1 I.g) (rw1 I.b)) (dmB (F := Ideal) (tz R I.z) (tl R I.pc)) (View.ld y (Rect.unit (s := S4x128x128) ![1, 0, 0] S1x128x128.size inb_S4x128x128_S1x128x128_1_0_0)))) (k0_pay74 (F := Ideal) (v2B (F := Ideal) (tz R I.z) (rw1 I.g) (rw1 I.b)) (dmB (F := Ideal) (tz R I.z) (tl R I.pc)))⟩,
     ⟨Rect.unit (s := S4x128x128) ![0, 0, 0] S1x128x128.size inb_S4x128x128_S1x128x128_0_0_0, k0_pay70 (F := Ideal) (v2B (F := Ideal) (tz R I.z) (rw1 I.g) (rw1 I.b)) (dmB (F := Ideal) (tz R I.z) (tl R I.pc)) (k0_pay55 (F := Ideal) (v2B (F := Ideal) (tz R I.z) (rw1 I.g) (rw1 I.b)) (k0_pay53 (F := Ideal) (k0_pay9 (F := Ideal) (tz R I.z)) (tl R I.pc)) (View.ld y (Rect.unit (s := S4x128x128) ![0, 0, 0] S1x128x128.size inb_S4x128x128_S1x128x128_0_0_0)))⟩]) : Vec Ideal S4x128x128 .f32) j
    = (y j : EReal) + ((∑ c : Fin 128, Bc.dmix I (R + (j 1).val) (128 * (j 0).val + c) * Bc.v2 I (R + (j 2).val) (128 * (j 0).val + c)
        + ∑ c : Fin 128, Bc.dmix I (R + (128 + (j 1).val)) (128 * (j 0).val + c) * Bc.v2 I (R + (128 + (j 2).val)) (128 * (j 0).val + c) : ℝ) : EReal) := by
  rw [v2_eq, dm_eq, u_eq, pay53_eq]
  have hy : ∀ j' : S4x128x128.Idx, (∀ a, (j' a).val = (j a).val) → y j' = y j := fun j' h => congrArg y (funext fun a => Fin.ext (h a))
  canon_tiles x h
  all_goals
    pointwise [k0_pay82, k0_pay80, k0_pay81, k0_pay65, k0_pay64, k0_pay78, k0_pay77, k0_pay62, k0_pay61, k0_pay75, k0_pay73, k0_pay74, k0_pay72, k0_pay58, k0_pay57, k0_pay70, k0_pay69, k0_pay55, k0_pay54, tl]
    simp only [← EReal.coe_mul, Bc.coe_sum]
    have hx : (x 0).val = 0 := by omega
    rw [hy _ (fun a => by fin_cases a <;> simp [ix3] <;> omega), EReal.coe_add, add_assoc]
    simp only [h0, h1, h2, hx]
    try simp only [Nat.add_zero, Nat.mul_zero, Nat.zero_add]

end Cert.KernelIdeal.Block
end
end
-- ==== Proof.ConvBackEq.lean ====
/- The backward pass of the recurrence's convolution. -/
module

public import proofs.«01_k».proof.Proof.Rms
public import proofs.«01_k».proof.Proof.Rows
public import proofs.«01_k».proof.Proof.BcBlock
public import proofs.«01_k».proof.Proof.Gen.ConvBackIdeal.Value
public import proofs.«01_k».proof.Proof.Gen.RefConvBackIdeal.Run
public import proofs.«01_k».proof.Proof.Gen.RefConvBackIdeal.Read
public import proofs.«01_k».proof.Defs

@[expose] public section

set_option maxRecDepth 16384

noncomputable section

namespace Cert.ConvBackEq

open Idealize.ShloMosaic Idealize.ShloMosaic.TcCoe Idealize.ShloMosaic.StableHlo Idealize.SL.Sem Cert.Rows Finset
open Cert.RefConvBackIdeal.Read

/-- The rows of a table with two rows of zeros before them, and zeros after. -/
def off (x : (⟨2, ![16384, 1024]⟩ : Shape).Idx → EReal) (p c : ℕ) : EReal := if 2 ≤ p then ent x (p - 2) c else 0
theorem ent_out (x : (⟨2, ![16384, 1024]⟩ : Shape).Idx → EReal) (r c : ℕ) (h : 16384 ≤ r) : ent x r c = 0 := dif_neg (fun k => by omega)
theorem off_ent (d : (⟨2, ![16384, 1024]⟩ : Shape).Idx → EReal) (r p c : ℕ) (h : r + 2 = p) : ent d r c = off d p c := by
  unfold off
  rw [if_pos (by omega), ← h, Nat.add_sub_cancel]
theorem off_in (d : (⟨2, ![16384, 1024]⟩ : Shape).Idx → EReal) (j : (⟨2, ![16384, 1024]⟩ : Shape).Idx) (p : ℕ) (h : (j 0).val + 2 = p) : d j = off d p (j 1).val :=
  (ent_of d j _ _ rfl rfl).trans (off_ent d _ _ _ h)
theorem off_out (d : (⟨2, ![16384, 1024]⟩ : Shape).Idx → EReal) (p k : ℕ) (h : p < 2 ∨ 16386 ≤ p) : off d p k = 0 := by
  unfold off
  split_ifs
  · exact ent_out _ _ _ (by omega)
  · rfl

section blocks
open Cert.ConvBackIdeal Cert.ConvBackIdeal.Gen Cert.ConvBackIdeal.Value
/-- What a later point leaves in the taps' gradient: the four rows, each with its part added. -/
def dwB (v : Vec Ideal S544x1024 .f32) (u : Vec Ideal S512x1024 .f32) (y : Vec Ideal S4x1024 .f32) : Vec Ideal S4x1024 .f32 := View.canon (Val := Elt Ideal)
    [⟨Rect.unit (s := S4x1024) ![3, 0] S1x1024.size inb_S4x1024_S1x1024_3_0, k0_pay1 (F := Ideal) v u (View.ld y (Rect.unit (s := S4x1024) ![3, 0] S1x1024.size inb_S4x1024_S1x1024_3_0))⟩,
    ⟨Rect.unit (s := S4x1024) ![2, 0] S1x1024.size inb_S4x1024_S1x1024_2_0, k0_pay12 (F := Ideal) v u (View.ld y (Rect.unit (s := S4x1024) ![2, 0] S1x1024.size inb_S4x1024_S1x1024_2_0))⟩,
    ⟨Rect.unit (s := S4x1024) ![1, 0] S1x1024.size inb_S4x1024_S1x1024_1_0, k0_pay10 (F := Ideal) v u (View.ld y (Rect.unit (s := S4x1024) ![1, 0] S1x1024.size inb_S4x1024_S1x1024_1_0))⟩,
    ⟨Rect.unit (s := S4x1024) ![0, 0] S1x1024.size inb_S4x1024_S1x1024_0_0, k0_pay9 (F := Ideal) v u (View.ld y (Rect.unit (s := S4x1024) ![0, 0] S1x1024.size inb_S4x1024_S1x1024_0_0))⟩]
/-- What the first point leaves there: the same over zeros. -/
def dwA (v : Vec Ideal S544x1024 .f32) (u : Vec Ideal S512x1024 .f32) : Vec Ideal S4x1024 .f32 := View.canon (Val := Elt Ideal)
    [⟨Rect.unit (s := S4x1024) ![3, 0] S1x1024.size inb_S4x1024_S1x1024_3_0, k0_pay1 (F := Ideal) v u (View.ld (k0_pay4 (F := Ideal)) (Rect.unit (s := S4x1024) ![3, 0] S1x1024.size inb_S4x1024_S1x1024_3_0))⟩,
    ⟨Rect.unit (s := S4x1024) ![2, 0] S1x1024.size inb_S4x1024_S1x1024_2_0, k0_pay12 (F := Ideal) v u (View.ld (k0_pay4 (F := Ideal)) (Rect.unit (s := S4x1024) ![2, 0] S1x1024.size inb_S4x1024_S1x1024_2_0))⟩,
    ⟨Rect.unit (s := S4x1024) ![1, 0] S1x1024.size inb_S4x1024_S1x1024_1_0, k0_pay10 (F := Ideal) v u (View.ld (k0_pay4 (F := Ideal)) (Rect.unit (s := S4x1024) ![1, 0] S1x1024.size inb_S4x1024_S1x1024_1_0))⟩,
    ⟨Rect.unit (s := S4x1024) ![0, 0] S1x1024.size inb_S4x1024_S1x1024_0_0, k0_pay9 (F := Ideal) v u (View.ld (k0_pay4 (F := Ideal)) (Rect.unit (s := S4x1024) ![0, 0] S1x1024.size inb_S4x1024_S1x1024_0_0))⟩,
    ⟨Rect.unit (s := S4x1024) ![0, 0] S4x1024.size inb_S4x1024_S4x1024_0_0, k0_pay4 (F := Ideal)⟩]
/-- The cotangent of the convolution's input on a tile. -/
def dzB (v : Vec Ideal S544x1024 .f32) (a : Vec Ideal S4x1024 .f32) (u : Vec Ideal S512x1024 .f32) : Vec Ideal S512x1024 .bf16 :=
  k0_pay3 (F := Ideal) (k0_pay11 (F := Ideal) v a u) (k0_pay13 (F := Ideal) v) (k0_pay14 (F := Ideal) a)
variable (c : Dev nD) (i : grid0.Coords)
  (a1 : Memref sig .tc .vmem S512x1024 .f32) (h1 : a1.IsWhole)
  (a2 : Memref sig .tc .vmem S16x1024 .f32) (h2 : a2.IsWhole)
  (a3 : Memref sig .tc .vmem S16x1024 .f32) (h3 : a3.IsWhole)
  (a4 : Memref sig .tc .vmem S512x1024 .bf16) (h4 : a4.IsWhole)
  (a5 : Memref sig .tc .vmem S16x1024 .bf16) (h5 : a5.IsWhole)
  (a6 : Memref sig .tc .vmem S16x1024 .bf16) (h6 : a6.IsWhole)
  (a7 : Memref sig .tc .vmem S4x1024 .f32) (h7 : a7.IsWhole)
  (a8 : Memref sig .tc .vmem S512x1024 .bf16) (h8 : a8.IsWhole)
  (a9 : Memref sig .tc .vmem S4x1024 .f32) (h9 : a9.IsWhole)
  (a10 : Memref sig .tc .vmem S1x1024 .f32) (h10 : a10.IsWhole)
  (x0 : Vec Ideal S512x1024 .f32)
  (x1 : Vec Ideal S16x1024 .f32)
  (x2 : Vec Ideal S16x1024 .f32)
  (x3 : Vec Ideal S512x1024 .bf16)
  (x4 : Vec Ideal S16x1024 .bf16)
  (x5 : Vec Ideal S16x1024 .bf16)
  (x6 : Vec Ideal S4x1024 .f32)
  (y8 : Vec Ideal S4x1024 .f32) (y9 : Vec Ideal S1x1024 .f32)
theorem outA7 (hc : cond0_0 i) : out0_A_7 c i a1 h1 a2 h2 a3 h3 a4 h4 a5 h5 a6 h6 a7 h7 a8 h8 a9 h9 a10 h10 hc x0 x1 x2 x3 x4 x5 x6 = dzB (k0_pay6 (F := Ideal) i x0 x1 x2) x6 (k0_pay8 (F := Ideal) i x0 x1 x2 x6) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  rfl
theorem outB7 (hc : ¬cond0_0 i) : out0_B_7 c i a1 h1 a2 h2 a3 h3 a4 h4 a5 h5 a6 h6 a7 h7 a8 h8 a9 h9 a10 h10 hc x0 x1 x2 x3 x4 x5 x6 y8 y9 = dzB (k0_pay6 (F := Ideal) i x0 x1 x2) x6 (k0_pay8 (F := Ideal) i x0 x1 x2 x6) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
  rfl
theorem outA8 (hc : cond0_0 i) : out0_A_8 c i a1 h1 a2 h2 a3 h3 a4 h4 a5 h5 a6 h6 a7 h7 a8 h8 a9 h9 a10 h10 hc x0 x1 x2 x3 x4 x5 x6 = dwA (k0_pay7 (F := Ideal) i x3 x4 x5) x0 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
theorem outB8 (hc : ¬cond0_0 i) : out0_B_8 c i a1 h1 a2 h2 a3 h3 a4 h4 a5 h5 a6 h6 a7 h7 a8 h8 a9 h9 a10 h10 hc x0 x1 x2 x3 x4 x5 x6 y8 y9 = dwB (k0_pay7 (F := Ideal) i x3 x4 x5) x0 y8 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
theorem outA9 (hc : cond0_0 i) : out0_A_9 c i a1 h1 a2 h2 a3 h3 a4 h4 a5 h5 a6 h6 a7 h7 a8 h8 a9 h9 a10 h10 hc x0 x1 x2 x3 x4 x5 x6 = k0_pay2 (F := Ideal) x0 (k0_pay5 (F := Ideal)) := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]
theorem outB9 (hc : ¬cond0_0 i) : out0_B_9 c i a1 h1 a2 h2 a3 h3 a4 h4 a5 h5 a6 h6 a7 h7 a8 h8 a9 h9 a10 h10 hc x0 x1 x2 x3 x4 x5 x6 y8 y9 = k0_pay2 (F := Ideal) x0 y9 := by
  frame_open
  simp (disch := decide) only [↓View.readCov_skip, ↓View.readCov_fill, View.read_writes_junk_eq_canon, View.canon_cons_unit_lit',
    View.ld_unit_lit', View.readCov_unit_lit', View.readCov_cons_unit_lit', View.readAt_eq_ld, View.readCov_cons_toLoadRect, Memref.IsWhole.read_unread]

/-- The halo rows before a tile. -/
def hp (n : ℕ) (x : S16384x1024.Idx → EReal) : S16x1024.Idx → EReal := fun y => ent x (16 * (32 * n - 1) + (y 0).val) (y 1).val
/-- The halo rows after a tile. -/
def hn (n : ℕ) (x : S16384x1024.Idx → EReal) : S16x1024.Idx → EReal := fun y => ent x (16 * min (32 * (n + 1)) 1023 + (y 0).val) (y 1).val
theorem sel0 (k : ℕ) (hk : k < 32) (a b : EReal) : Scalar.select (Scalar.cmpi .eq (BitVec.ofNat 32 k) 0#32) a b = if k = 0 then a else b := by
  interval_cases k <;> rfl
theorem sel31 (k : ℕ) (hk : k < 32) (a b : EReal) : Scalar.select (Scalar.cmpi .eq (BitVec.ofNat 32 k) 31#32) a b = if k = 31 then a else b := by
  interval_cases k <;> rfl

variable (n : ℕ) (h : n < 32) (hi : (i 0).val = n) (d z : S16384x1024.Idx → EReal) (a : S4x1024.Idx → EReal)
include hi
/-- The concatenated rows are the table's rows around the tile. -/
theorem pay6_eq (q : Fin 544) (k : Fin 1024) (p : ℕ) (hp' : p + 14 = 512 * n + q.val) (hq : 14 ≤ q.val) : (k0_pay6 (F := Ideal) i (tile n h d) (hp n d) (hn n d) (ix2 q k) : EReal) = off d p k.val := by
  pointwise [k0_pay6]
  rw [hi]
  simp only [sel0 n h, sel31 n h, hp, hn, tile]
  have hq' : q.val < 544 := q.isLt
  by_cases h0 : q.val < 16
  · rw [dif_pos h0]
    by_cases h1 : n = 0
    · rw [if_pos h1]
      exact (off_out d _ _ (by omega)).symm
    · rw [if_neg h1]
      exact off_ent d (16 * (32 * n - 1) + q.val) _ _ (by omega)
  · rw [dif_neg h0]
    by_cases h2 : q.val - 16 < 512
    · rw [dif_pos h2]
      exact off_in d (ix2 (row n h ⟨q.val - 16, h2⟩) k) _ (by show 512 * n + (q.val - 16) + 2 = p; omega)
    · rw [dif_neg h2]
      by_cases h1 : n = 31
      · rw [if_pos h1]
        exact (off_out d _ _ (by omega)).symm
      · rw [if_neg h1]
        exact off_ent d (16 * min (32 * (n + 1)) 1023 + (q.val - 16 - 512)) _ _ (by omega)
theorem pay7_eq (q : Fin 544) (k : Fin 1024) (p : ℕ) (hp' : p + 14 = 512 * n + q.val) (hq : 14 ≤ q.val) : (k0_pay7 (F := Ideal) i (tile n h d) (hp n d) (hn n d) (ix2 q k) : EReal) = off d p k.val := by
  pointwise [k0_pay7]
  rw [hi]
  simp only [sel0 n h, sel31 n h, hp, hn, tile]
  have hq' : q.val < 544 := q.isLt
  by_cases h0 : q.val < 16
  · rw [dif_pos h0]
    by_cases h1 : n = 0
    · rw [if_pos h1]
      exact (off_out d _ _ (by omega)).symm
    · rw [if_neg h1]
      exact off_ent d (16 * (32 * n - 1) + q.val) _ _ (by omega)
  · rw [dif_neg h0]
    by_cases h2 : q.val - 16 < 512
    · rw [dif_pos h2]
      exact off_in d (ix2 (row n h ⟨q.val - 16, h2⟩) k) _ (by show 512 * n + (q.val - 16) + 2 = p; omega)
    · rw [dif_neg h2]
      by_cases h1 : n = 31
      · rw [if_pos h1]
        exact (off_out d _ _ (by omega)).symm
      · rw [if_neg h1]
        exact off_ent d (16 * min (32 * (n + 1)) 1023 + (q.val - 16 - 512)) _ _ (by omega)
omit hi
variable (v : S544x1024.Idx → EReal) (u : S512x1024.Idx → EReal)
theorem dz_form (hv : ∀ (q : Fin 544) (k : Fin 1024) (p : ℕ), p + 14 = 512 * n + q.val → 14 ≤ q.val → v (ix2 q k) = off d p k.val) (y : S512x1024.Idx) : (dzB v a u y : EReal) = u y
    + off d (512 * n + (y 0).val + 3) (y 1).val * a (ix2 1 (y 1)) + off d (512 * n + (y 0).val + 2) (y 1).val * a (ix2 2 (y 1)) + off d (512 * n + (y 0).val + 1) (y 1).val * a (ix2 3 (y 1)) := by
  have hy : (y 0).val < 512 := (y 0).isLt
  unfold dzB
  pointwise [k0_pay3, k0_pay11, k0_pay13, k0_pay14]
  exact congrArg₂ (· + ·) (congrArg₂ (· + ·) (congrArg (u y + ·) (congrArg (· * a (ix2 1 (y 1))) (hv _ _ _ (by dsimp only; omega) (by dsimp only; omega)))) (congrArg (· * a (ix2 2 (y 1))) (hv _ _ _ (by dsimp only; omega) (by dsimp only; omega))))
    (congrArg (· * a (ix2 3 (y 1))) (hv _ _ _ (by dsimp only; omega) (by dsimp only; omega)))
include hi
theorem first_form (y : S512x1024.Idx) : (k0_pay8 (F := Ideal) i (tile n h d) (hp n d) (hn n d) a y : EReal) = off d (512 * n + (y 0).val + 4) (y 1).val * a (ix2 0 (y 1)) := by
  have hy : (y 0).val < 512 := (y 0).isLt
  pointwise [k0_pay8]
  exact congrArg (· * a (ix2 0 (y 1))) (pay6_eq i n h hi d _ _ _ (by dsimp only; omega) (by dsimp only; omega))
omit hi
theorem dw_form (hv : ∀ (q : Fin 544) (k : Fin 1024) (p : ℕ), p + 14 = 512 * n + q.val → 14 ≤ q.val → v (ix2 q k) = off z p k.val) (y : S4x1024.Idx → EReal) (j : S4x1024.Idx) :
    (dwB v (tile n h d) y j : EReal) = y j + ∑ r : Fin 512, ent d (512 * n + r.val) (j 1).val * off z (512 * n + r.val + (j 0).val) (j 1).val := by
  unfold dwB
  have hy : ∀ j' : S4x1024.Idx, (∀ a, (j' a).val = (j a).val) → y j' = y j := fun j' h => congrArg y (funext fun a => Fin.ext (h a))
  canon_tiles x h
  all_goals
    pointwise [k0_pay9, k0_pay10, k0_pay12, k0_pay1, tile]
    have hx : (x 0).val < 1 := (x 0).isLt
    refine congrArg₂ (· + ·) (hy _ (fun a => by fin_cases a <;> simp [ix2] <;> omega)) (Finset.sum_congr rfl fun r _ => ?_)
    have hr : r.val < 512 := r.isLt
    refine congrArg₂ (· * ·) (ent_of _ _ _ _ rfl (by dsimp only [ix2] <;> omega)) ((hv _ _ (512 * n + r.val + (j 0).val) (by dsimp only; omega) (by dsimp only; omega)).trans (congrArg (off z _) (by omega)))
theorem dwA_eq (u : S512x1024.Idx → EReal) : dwA v u = dwB v u (k0_pay4 (F := Ideal)) := by
  funext j
  exact Cert.KernelIdeal.Block.canon_append_drop (F := Ideal) [_] [_, _, _, _] j (View.cover_of_tiledBy _ ![1, 1024] (by sl_kernel_rfl) j)
theorem db_form (b : S1x1024.Idx → EReal) (j : S1x1024.Idx) : (k0_pay2 (F := Ideal) (tile n h d) b j : EReal) = b j + ∑ r : Fin 512, ent d (512 * n + r.val) (j 1).val := by
  pointwise [k0_pay2]
  exact congrArg (b j + ·) (Finset.sum_congr rfl fun r _ => (tile_ix2 ..).trans (ent_of d (ix2 (row n h r) (j 1)) _ _ rfl rfl))
end blocks

section ref
open Cert.RefConvBackIdeal
variable (d z : S16384x1024.Idx → EReal) (w : S4x1024.Idx → EReal)
/-- A term of the convolution's pullback is in place or zero. -/
theorem tap {P : Prop} [Decidable P] (f : P → S16384x1024.Idx) (p : ℕ) (k : Fin 1024) (a : EReal) (h0 : ∀ h, (f h 0).val + 2 = p) (h1 : ∀ h, f h 1 = k) (hn : ¬P → p < 2 ∨ 16386 ≤ p) :
    (if h : P then d (f h) * a else 0) = off d p k.val * a := by
  split_ifs with h
  · rw [off_in d (f h) p (h0 h), h1 h]
  · rw [off_out d p _ (hn h), zero_mul]
theorem v40 : val_main_v40 (F := Ideal) d = d := by
  funext y
  pointwise [val_main_v40]
theorem v4 (y : S16387x1024.Idx) : (val_main_v4 (F := Ideal) z y : EReal) = off z (y 0).val (y 1).val := by
  pointwise [val_main_v4, val_main_v2, val_main_v3, val_main_v0, val_main_cst, val_main_cst_0, val_main_cst_1, val_main_cst_2]
  by_cases h : (y 0).val < 2
  · rw [dif_pos h]
    exact (off_out z _ _ (Or.inl h)).symm
  · rw [dif_neg h]
    by_cases h' : (y 0).val - 2 < 16384
    · rw [dif_pos h']
      exact off_in z (ix2 ⟨(y 0).val - 2, h'⟩ (y 1)) _ (by show (y 0).val - 2 + 2 = _; omega)
    · rw [dif_neg h']
      exact (off_out z _ _ (Or.inr (by omega))).symm
theorem t53 (y : S16387x1024.Idx) (r : ℕ) (hr : r < 16384) (hy : (y 0).val = 2 + r) : (val_main_v53 (F := Ideal) d w y : EReal) = off d (r + 1) (y 1).val * w (ix2 3 (y 1)) := by
  pointwise [val_main_v53, val_main_v49, val_main_v48, val_main_v32, val_main_v31, val_main_v30, val_main_v40, val_main_cst_10]
  exact tap d _ _ _ _ (fun h => by dsimp only [ix2] <;> omega) (fun h => rfl) (fun h => by omega)
theorem t63 (y : S16387x1024.Idx) (r : ℕ) (hr : r < 16384) (hy : (y 0).val = 2 + r) : (val_main_v63 (F := Ideal) d w y : EReal) = off d (r + 2) (y 1).val * w (ix2 2 (y 1)) := by
  pointwise [val_main_v63, val_main_v58, val_main_v57, val_main_v25, val_main_v24, val_main_v23, val_main_v40, val_main_cst_14]
  exact tap d _ _ _ _ (fun h => by dsimp only [ix2] <;> omega) (fun h => rfl) (fun h => by omega)
theorem t74 (y : S16387x1024.Idx) (r : ℕ) (hr : r < 16384) (hy : (y 0).val = 2 + r) : (val_main_v74 (F := Ideal) d w y : EReal) = off d (r + 3) (y 1).val * w (ix2 1 (y 1)) := by
  pointwise [val_main_v74, val_main_v69, val_main_v68, val_main_v18, val_main_v17, val_main_v16, val_main_v40, val_main_cst_18]
  exact tap d _ _ _ _ (fun h => by dsimp only [ix2] <;> omega) (fun h => rfl) (fun h => by omega)
theorem t85 (y : S16387x1024.Idx) (r : ℕ) (hr : r < 16384) (hy : (y 0).val = 2 + r) : (val_main_v85 (F := Ideal) d w y : EReal) = off d (r + 4) (y 1).val * w (ix2 0 (y 1)) := by
  pointwise [val_main_v85, val_main_v80, val_main_v79, val_main_v10, val_main_v9, val_main_v8, val_main_v40, val_main_cst_22]
  exact tap d _ _ _ _ (fun h => by dsimp only [ix2] <;> omega) (fun h => rfl) (fun h => by omega)
/-- The input's cotangent, as the four taps of the output's. -/
theorem ref_dz (y : S16384x1024.Idx) : (val_main_v90 (F := Ideal) d w y : EReal) = off d ((y 0).val + 4) (y 1).val * w (ix2 0 (y 1)) + off d ((y 0).val + 3) (y 1).val * w (ix2 1 (y 1))
    + off d ((y 0).val + 2) (y 1).val * w (ix2 2 (y 1)) + off d ((y 0).val + 1) (y 1).val * w (ix2 3 (y 1)) := by
  have hr : (y 0).val < 16384 := (y 0).isLt
  pointwise [val_main_v90, val_main_v88, val_main_v86, val_main_v75, val_main_v64]
  refine (congrArg₂ (· + ·) (congrArg₂ (· + ·) (congrArg₂ (· + ·) (t53 d w _ _ hr rfl) (t63 d w _ _ hr rfl)) (t74 d w _ _ hr rfl)) (t85 d w _ _ hr rfl)).trans ?_
  dsimp only [ix2]
  ac_rfl
/-- The taps' gradient, one row of it. -/
def wsum (k c : ℕ) : EReal := ∑ x : Fin (32 * 512), ent d x.val c * off z (x.val + k) c
theorem row_eq {P : Prop} [Decidable P] (f : P → Fin 1 → Fin 16384 → S16387x1024.Idx) (k : ℕ) (c : Fin 1024) (y : ℕ) (hk : P ↔ y = k) (h0 : ∀ h o x, (f h o x 0).val = x.val + k) (h1 : ∀ h o x, f h o x 1 = c) :
    (if h : P then ∑ o : Fin 1, ∑ x : Fin 16384, (val_main_v4 (F := Ideal) z (f h o x) : EReal) * (val_main_v40 (F := Ideal) d (ix2 x c) : EReal) else 0) = if y = k then wsum d z k c.val else 0 := by
  by_cases h : P
  · rw [dif_pos h, if_pos (hk.mp h), Fin.sum_univ_one]
    refine Finset.sum_congr rfl fun x _ => ?_
    rw [v40, v4, h0, h1, mul_comm]
    exact congrArg (· * _) (ent_of _ _ _ _ rfl rfl)
  · rw [dif_neg h, if_neg (fun e => h (hk.mpr e))]
theorem t52 (y : S4x1024.Idx) : (val_main_v52 (F := Ideal) d z y : EReal) = if (y 0).val = 3 then wsum d z 3 (y 1).val else 0 := by
  have hy : (y 0).val < 4 := (y 0).isLt
  pointwise [val_main_v52, val_main_v51, val_main_v50, val_main_v47, val_main_v46, val_main_v45, val_main_v29, val_main_cst_9, val_main_cst_8, val_main_cst_7]
  exact row_eq d z _ 3 _ _ (by omega) (fun h o x => by dsimp only [ix2] <;> omega) (fun h o x => rfl)
theorem t61 (y : S4x1024.Idx) : (val_main_v61 (F := Ideal) d z y : EReal) = if (y 0).val = 2 then wsum d z 2 (y 1).val else 0 := by
  have hy : (y 0).val < 4 := (y 0).isLt
  pointwise [val_main_v61, val_main_v60, val_main_v59, val_main_v56, val_main_v55, val_main_v54, val_main_v22, val_main_cst_13, val_main_cst_12, val_main_cst_11]
  exact row_eq d z _ 2 _ _ (by omega) (fun h o x => by dsimp only [ix2] <;> omega) (fun h o x => rfl)
theorem t72 (y : S4x1024.Idx) : (val_main_v72 (F := Ideal) d z y : EReal) = if (y 0).val = 1 then wsum d z 1 (y 1).val else 0 := by
  have hy : (y 0).val < 4 := (y 0).isLt
  pointwise [val_main_v72, val_main_v71, val_main_v70, val_main_v67, val_main_v66, val_main_v65, val_main_v15, val_main_cst_17, val_main_cst_16, val_main_cst_15]
  exact row_eq d z _ 1 _ _ (by omega) (fun h o x => by dsimp only [ix2] <;> omega) (fun h o x => rfl)
theorem t83 (y : S4x1024.Idx) : (val_main_v83 (F := Ideal) d z y : EReal) = if (y 0).val = 0 then wsum d z 0 (y 1).val else 0 := by
  have hy : (y 0).val < 4 := (y 0).isLt
  pointwise [val_main_v83, val_main_v82, val_main_v81, val_main_v78, val_main_v77, val_main_v76, val_main_v7, val_main_cst_21, val_main_cst_20, val_main_cst_19]
  exact row_eq d z _ 0 _ _ (by omega) (fun h o x => by dsimp only [ix2] <;> omega) (fun h o x => rfl)
theorem ref_dw (y : S4x1024.Idx) : (val_main_v84 (F := Ideal) d z y : EReal) = wsum d z (y 0).val (y 1).val := by
  have hy : (y 0).val < 4 := (y 0).isLt
  pointwise [val_main_v84, val_main_v73, val_main_v62]
  rw [t52, t61, t72, t83]
  generalize (y 0).val = k at hy
  interval_cases k <;> simp
theorem ref_db (y : S1x1024.Idx) : (val_main_v44 (F := Ideal) d y : EReal) = ∑ x : Fin (32 * 512), ent d x.val (y 1).val := by
  pointwise [val_main_v44, val_main_v43, val_main_v42, val_main_v41, val_main_cst_5, val_main_cst_6]
  rw [Fin.sum_univ_one]
  exact Finset.sum_congr rfl fun x _ => ent_of _ _ _ _ rfl rfl
end ref

section sums
open Cert.ConvBackIdeal Cert.ConvBackIdeal.Gen Cert.ConvBackIdeal.Value
variable (i : grid0.Coords) (n : ℕ) (h : n < 32) (hi : (i 0).val = n) (d z : S16384x1024.Idx → EReal) (w : S4x1024.Idx → EReal)
include hi
/-- The input's cotangent on a tile is the tile of the reference's. -/
theorem dz_tile : (dzB (k0_pay6 (F := Ideal) i (tile n h d) (hp n d) (hn n d)) w (k0_pay8 (F := Ideal) i (tile n h d) (hp n d) (hn n d) w) : S512x1024.Idx → EReal) = tile n h (val_main_v90 (F := Ideal) d w) := by
  funext y
  refine (dz_form n d w _ _ (pay6_eq i n h hi d) y).trans ?_
  rw [first_form i n h hi d w y]
  exact (ref_dz d w (ix2 (row n h (y 0)) (y 1))).symm
/-- The taps' gradient over the first `n + 1` tiles. -/
def accw (n : ℕ) : S4x1024.Idx → EReal := fun j => ∑ s ∈ range (n + 1), ∑ r : Fin 512, ent d (512 * s + r.val) (j 1).val * off z (512 * s + r.val + (j 0).val) (j 1).val
/-- The bias's gradient over the first `n + 1` tiles. -/
def accb (n : ℕ) : S1x1024.Idx → EReal := fun j => ∑ s ∈ range (n + 1), ∑ r : Fin 512, ent d (512 * s + r.val) (j 1).val
omit hi
theorem accw_A (h : 0 < 32) (hi : (i 0).val = 0) : (dwA (k0_pay7 (F := Ideal) i (tile 0 h z) (hp 0 z) (hn 0 z)) (tile 0 h d) : S4x1024.Idx → EReal) = accw d z 0 := by
  funext j
  rw [dwA_eq, dw_form 0 h d z _ (pay7_eq i 0 h hi z), show (k0_pay4 (F := Ideal) j : EReal) = 0 by pointwise [k0_pay4], zero_add, accw, Finset.sum_range_one]
theorem accw_B (h : n + 1 < 32) (hi : (i 0).val = n + 1) : (dwB (k0_pay7 (F := Ideal) i (tile (n + 1) h z) (hp (n + 1) z) (hn (n + 1) z)) (tile (n + 1) h d) (accw d z n) : S4x1024.Idx → EReal) = accw d z (n + 1) := by
  funext j
  rw [dw_form (n + 1) h d z _ (pay7_eq i (n + 1) h hi z)]
  exact (Finset.sum_range_succ _ _).symm
theorem accb_A (h : 0 < 32) : (k0_pay2 (F := Ideal) (tile 0 h d) (k0_pay5 (F := Ideal)) : S1x1024.Idx → EReal) = accb d 0 := by
  funext j
  rw [db_form, show (k0_pay5 (F := Ideal) j : EReal) = 0 by pointwise [k0_pay5], zero_add, accb, Finset.sum_range_one]
theorem accb_B (h : n + 1 < 32) : (k0_pay2 (F := Ideal) (tile (n + 1) h d) (accb d n) : S1x1024.Idx → EReal) = accb d (n + 1) := by
  funext j
  rw [db_form]
  exact (Finset.sum_range_succ _ _).symm
theorem accw_all (j : S4x1024.Idx) : accw d z 31 j = val_main_v84 (F := Ideal) d z j :=
  (sum_tiles 32 512 (fun r => ent d r (j 1).val * off z (r + (j 0).val) (j 1).val)).trans (ref_dw d z j).symm
theorem accb_all (j : S1x1024.Idx) : accb d 31 j = val_main_v44 (F := Ideal) d j :=
  (sum_tiles 32 512 (fun r => ent d r (j 1).val)).trans (ref_db d j).symm
end sums

section kernel
open Cert.ConvBackIdeal Cert.ConvBackIdeal.Gen Cert.ConvBackIdeal.Value
variable (m : (ℓ : Loc nD τ sig) → Buf (Elt Ideal) ℓ) (c : Dev nD)
/-- The first argument: the cotangent of the convolution. -/
abbrev A0 : S16384x1024.Idx → EReal := m ((c : Thread nD τ).loc main_arg0)
/-- The second argument: the convolution's input. -/
abbrev A1 : S16384x1024.Idx → EReal := m ((c : Thread nD τ).loc main_arg1)
/-- The third argument: the taps. -/
abbrev A2 : S4x1024.Idx → EReal := m ((c : Thread nD τ).loc main_arg2)
theorem lt (t : Fin cfg0.N) : t.val < 32 := lt_of_lt_of_eq t.isLt N_0
theorem coord0 : ∀ t : Fin grid0.N, (grid0.coords t 0).val = t.val := by decide +kernel
theorem ix_0 : ∀ t : Fin grid0.N, win0_0.index t 0 = t.val ∧ win0_0.index t 1 = 0 := by decide +kernel
theorem ix_1 : ∀ t : Fin grid0.N, win0_1.index t 0 = 32 * t.val - 1 ∧ win0_1.index t 1 = 0 := by decide +kernel
theorem ix_2 : ∀ t : Fin grid0.N, win0_2.index t 0 = min (32 * (t.val + 1)) 1023 ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = 32 * t.val - 1 ∧ win0_4.index t 1 = 0 := by decide +kernel
theorem ix_5 : ∀ t : Fin grid0.N, win0_5.index t 0 = min (32 * (t.val + 1)) 1023 ∧ win0_5.index t 1 = 0 := by decide +kernel
theorem ix_6 : ∀ t : Fin grid0.N, win0_6.index t 0 = 0 ∧ win0_6.index t 1 = 0 := by decide +kernel
theorem ix_7 : ∀ t : Fin grid0.N, win0_7.index t 0 = t.val ∧ win0_7.index t 1 = 0 := by decide +kernel
theorem blk0 (t : Fin cfg0.N) : (iblk m c 0 t : S512x1024.Idx → EReal) = tile t.val (lt t) (A0 m c) := by
  funext y
  blk_simp [iblk]
  rw [V_main_arg0]
  refine tile_of _ _ _ _ _ ?_ ?_ <;> blk_simp [ix_0 t] <;> simp only [Nat.zero_mul, Nat.zero_add, Nat.mul_comm _ 512]
theorem blk1 (t : Fin cfg0.N) : (iblk m c 1 t : S16x1024.Idx → EReal) = hp t.val (A0 m c) := by
  funext y
  blk_simp [iblk]
  rw [V_main_arg0]
  refine ent_of _ _ _ _ ?_ ?_ <;> blk_simp [ix_1 t] <;> simp only [Nat.zero_mul, Nat.zero_add, Nat.mul_comm _ 16]
theorem blk2 (t : Fin cfg0.N) : (iblk m c 2 t : S16x1024.Idx → EReal) = hn t.val (A0 m c) := by
  funext y
  blk_simp [iblk]
  rw [V_main_arg0]
  refine ent_of _ _ _ _ ?_ ?_ <;> blk_simp [ix_2 t] <;> simp only [Nat.zero_mul, Nat.zero_add, Nat.mul_comm _ 16]
theorem blk3 (t : Fin cfg0.N) : (iblk m c 3 t : S512x1024.Idx → EReal) = tile t.val (lt t) (A1 m c) := by
  funext y
  blk_simp [iblk]
  rw [V_main_arg1]
  refine tile_of _ _ _ _ _ ?_ ?_ <;> blk_simp [ix_3 t] <;> simp only [Nat.zero_mul, Nat.zero_add, Nat.mul_comm _ 512]
theorem blk4 (t : Fin cfg0.N) : (iblk m c 4 t : S16x1024.Idx → EReal) = hp t.val (A1 m c) := by
  funext y
  blk_simp [iblk]
  rw [V_main_arg1]
  refine ent_of _ _ _ _ ?_ ?_ <;> blk_simp [ix_4 t] <;> simp only [Nat.zero_mul, Nat.zero_add, Nat.mul_comm _ 16]
theorem blk5 (t : Fin cfg0.N) : (iblk m c 5 t : S16x1024.Idx → EReal) = hn t.val (A1 m c) := by
  funext y
  blk_simp [iblk]
  rw [V_main_arg1]
  refine ent_of _ _ _ _ ?_ ?_ <;> blk_simp [ix_5 t] <;> simp only [Nat.zero_mul, Nat.zero_add, Nat.mul_comm _ 16]
theorem blk6 (t : Fin cfg0.N) : (iblk m c 6 t : S4x1024.Idx → EReal) = A2 m c := by
  funext y
  blk_simp [iblk]
  rw [V_main_arg2]
  refine congrArg (A2 m c) (funext fun a => ?_)
  fin_cases a <;> refine Fin.ext ?_ <;> blk_simp [ix_6 t] <;> simp only [Nat.zero_mul, Nat.zero_add]
/-- What the output blocks hold after each grid point. -/
theorem holds : (n : ℕ) → (h : n < cfg0.N) → outsAt0 m c n h = (tile n (lt_of_lt_of_eq h N_0) (val_main_v90 (F := Ideal) (A0 m c) (A2 m c)), accw (A0 m c) (A1 m c) n, accb (A0 m c) n)
  | 0, h => (outsAt0_A m c ⟨0, h⟩ rfl).trans (by
    rw [outA7, outA8, outA9, blk0, blk1, blk2, blk3, blk4, blk5, blk6]
    exact congrArg₂ Prod.mk (dz_tile _ _ _ (coord0 _) ..) (congrArg₂ Prod.mk (accw_A _ _ _ _ (coord0 _)) (accb_A ..)))
  | n + 1, h => by
    have hN : n + 1 < 32 := lt_of_lt_of_eq h N_0
    refine (outsAt0_B m c ⟨n + 1, h⟩ (by dsimp only; omega)).trans ?_
    rw [outB7, outB8, outB9, blk0, blk1, blk2, blk3, blk4, blk5, blk6]
    have a0 : (outsAt0 m c (n + 1 - 1) (Nat.lt_of_le_of_lt (Nat.sub_le _ _) h)).2.1 = accw (A0 m c) (A1 m c) n :=
      congrArg (·.2.1) (holds n (Nat.lt_of_succ_lt h))
    have a1 : (outsAt0 m c (n + 1 - 1) (Nat.lt_of_le_of_lt (Nat.sub_le _ _) h)).2.2 = accb (A0 m c) n :=
      congrArg (·.2.2) (holds n (Nat.lt_of_succ_lt h))
    rw [a0, a1]
    exact congrArg₂ Prod.mk (dz_tile _ _ _ (coord0 _) ..) (congrArg₂ Prod.mk (accw_B _ _ _ _ _ (coord0 _)) (accb_B ..))

/-- The last grid point. -/
def tLast : Fin cfg0.N := ⟨31, lt_of_lt_of_eq (by decide) N_0.symm⟩
/-- The input's cotangent is the reference's. -/
theorem arr7 : (dats m 0 c).arrAt 7 cfg0.N = val_main_v90 (F := Ideal) (A0 m c) (A2 m c) := by
  refine (dats m 0 c).arrAt_eq_of_covers 7 _ (by decide +kernel) fun t hf y => ?_
  blk_simp
  rw [after0_7, holds m c]
  refine (tile_of t.val (lt t) (val_main_v90 (F := Ideal) (A0 m c) (A2 m c)) y _ ?_ ?_).symm <;> blk_simp [ix_7 t] <;> simp only [Nat.zero_mul, Nat.zero_add, Nat.mul_comm _ 512]
/-- The taps' gradient is the reference's. -/
theorem arr8 : (dats m 0 c).arrAt 8 cfg0.N = val_main_v84 (F := Ideal) (A0 m c) (A1 m c) := by
  refine (dats m 0 c).arrAt_eq_of_after_last 8 tLast (by decide +kernel) _ fun j => ?_
  blk_simp
  rw [after0_8, holds m c]
  exact accw_all ..
/-- The bias's gradient is the reference's. -/
theorem arr9 : (dats m 0 c).arrAt 9 cfg0.N = val_main_v44 (F := Ideal) (A0 m c) := by
  refine (dats m 0 c).arrAt_eq_of_after_last 9 tLast (by decide +kernel) _ fun j => ?_
  blk_simp
  rw [after0_9, holds m c]
  exact accb_all ..
end kernel

section claims
open Cert.ConvBackIdeal

/-- The kernel and the reference end with the same values, over the extended reals. -/
theorem algebraic : Cert.algebraic_ConvBackIdeal_RefConvBackIdeal (hConvBackIdeal := Cert.ConvBackIdeal.Gen.facts) (hRefConvBackIdeal := Cert.RefConvBackIdeal.Gen.facts) := by
  intro m ρ m' ρ' _ hag
  refine ⟨fun c => val_main_v90 (F := Ideal) (A0 m c) (A2 m c), fun c => val_main_v84 (F := Ideal) (A0 m c) (A1 m c), fun c => val_main_v44 (F := Ideal) (A0 m c), ?_, ?_⟩
  · refine (θ_run Cert.ConvBackIdeal.defs _ _).mono (fun r h c => ?_) (Cert.ConvBackIdeal.Value.run_blocks m ρ)
    obtain ⟨k0, k1, k2, hk⟩ := h c
    exact ⟨k0.trans (arr7 m c), k1.trans (arr8 m c), k2.trans (arr9 m c), hk⟩
  · refine (θ_run Cert.RefConvBackIdeal.defs _ _).mono (fun r h c => ?_) (Cert.RefConvBackIdeal.Value.run (F := Ideal) m' ρ')
    obtain ⟨k0, k1, k2, hk⟩ := h c
    obtain ⟨a0, a1, a2⟩ := hag c
    refine ⟨k0.trans ?_, k1.trans ?_, k2.trans ?_, hk⟩
    · exact (val_main_v90_eq (F := Ideal) _ _).trans (by rw [a0, a2])
    · exact (val_main_v84_eq (F := Ideal) m' c).trans (by rw [a0, a1])
    · exact (val_main_v44_eq (F := Ideal) _).trans (by rw [a0])
end claims

/-- The reference leaves its arguments as they were, and no counter behind. -/
theorem frame_reference : Cert.quiescent_RefConvBackIdeal (hRefConvBackIdeal := Cert.RefConvBackIdeal.Gen.facts) := fun m ρ _ =>
  (θ_run Cert.RefConvBackIdeal.defs _ _).mono (fun r h => ⟨fun c => (h c).2.2.2,
      Idealize.ShloMosaic.sem_eq_zero_of_no_sems (by decide) r.2⟩)
    (Cert.RefConvBackIdeal.Value.run (F := Ideal) m ρ)

end Cert.ConvBackEq

end
-- ==== Proof.SumPartsEq.lean ====
/- The sum of the eight devices' parts of the vectors' gradients. -/
module

public import proofs.«01_k».proof.Proof.Adam
public import proofs.«01_k».proof.Proof.Gen.SumPartsIdeal.Value
public import proofs.«01_k».proof.Proof.Gen.RefSumPartsIdeal.Run
public import proofs.«01_k».proof.Proof.Gen.RefSumPartsIdeal.Read
public import proofs.«01_k».proof.Defs

@[expose] public section

set_option maxRecDepth 16384

noncomputable section

namespace Cert.SumPartsEq

open Idealize.ShloMosaic Idealize.ShloMosaic.TcCoe Idealize.ShloMosaic.StableHlo Idealize.SL.Sem Cert.Rows
open Cert.RefSumPartsIdeal.Read Cert.SumPartsIdeal Cert.SumPartsIdeal.Gen Cert.SumPartsIdeal.Value

/-- An entry's place in the block of one part. -/
def up (y : S336x1024.Idx) : S1x336x1024.Idx := ix3 0 (y 0) (y 1)
/-- An entry of the block that the kernel writes: the eight parts' entries, summed. -/
theorem out_sum (x0 x1 x2 x3 x4 x5 x6 x7 : Vec Ideal S1x336x1024 .f32) (y : S336x1024.Idx) : (out0_8 x0 x1 x2 x3 x4 x5 x6 x7 y : EReal)
    = x0 (up y) + x1 (up y) + x2 (up y) + x3 (up y) + x4 (up y) + x5 (up y) + x6 (up y) + x7 (up y) := by
  unfold out0_8
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1]
  rfl
/-- An entry of the sum that the reference writes. -/
theorem ref_sum (x : S8x336x1024.Idx → EReal) (j : S336x1024.Idx) : (val_main_v0 (F := Ideal) x j : EReal)
    = x (idx_main_v0 j 0) + x (idx_main_v0 j 1) + x (idx_main_v0 j 2) + x (idx_main_v0 j 3) + x (idx_main_v0 j 4) + x (idx_main_v0 j 5) + x (idx_main_v0 j 6) + x (idx_main_v0 j 7) := by
  rw [val_main_v0_apply, Fin.sum_univ_eight, show (val_main_cst (F := Ideal) (Shape.Idx.first Cert.RefSumPartsIdeal.Gen.h_S_) : EReal) = 0 by pointwise [val_main_cst], zero_add]

variable (m : (ℓ : Loc nD τ sig) → Buf (Elt Ideal) ℓ) (c : Dev nD)

/-- The argument: the eight devices' parts. -/
abbrev A0 : S8x336x1024.Idx → EReal := m ((c : Thread nD τ).loc main_arg0)

/-- An entry of a part is known by its coordinates. -/
theorem entry_of (x : S8x336x1024.Idx → EReal) (i : S8x336x1024.Idx) (j : S336x1024.Idx) (k : Fin 8) (h0 : (i 0).val = k.val) (h1 : (i 1).val = (j 0).val) (h2 : (i 2).val = (j 1).val) : x i = x (idx_main_v0 j k) :=
  congrArg x (funext fun a => Fin.ext (by match a with | ⟨0, _⟩ => exact h0 | ⟨1, _⟩ => exact h1 | ⟨2, _⟩ => exact h2))
/-- Where the grid's points put the result. -/
theorem ix_8 : ∀ t : Fin grid0.N, win0_8.index t 0 = 0 ∧ win0_8.index t 1 = 0 := by decide +kernel
/-- The entry of the first part that a point reads, and so on for each of the eight. -/
theorem part_0 (t : Fin cfg0.N) (y : S336x1024.Idx) : (iblk m c 0 t (up y) : EReal) = A0 m c (idx_main_v0 ((win0_8.blk t).view.emb y) 0) := by
  have ix : ∀ t : Fin grid0.N, win0_0.index t 0 = 0 ∧ win0_0.index t 1 = 0 ∧ win0_0.index t 2 = 0 := by decide +kernel
  blk_simp [iblk]
  rw [V_main_arg0]
  refine entry_of _ _ _ _ ?_ ?_ ?_ <;> blk_simp [ix t, ix_8 t, up] <;> rfl
theorem part_1 (t : Fin cfg0.N) (y : S336x1024.Idx) : (iblk m c 1 t (up y) : EReal) = A0 m c (idx_main_v0 ((win0_8.blk t).view.emb y) 1) := by
  have ix : ∀ t : Fin grid0.N, win0_1.index t 0 = 1 ∧ win0_1.index t 1 = 0 ∧ win0_1.index t 2 = 0 := by decide +kernel
  blk_simp [iblk]
  rw [V_main_arg0]
  refine entry_of _ _ _ _ ?_ ?_ ?_ <;> blk_simp [ix t, ix_8 t, up] <;> rfl
theorem part_2 (t : Fin cfg0.N) (y : S336x1024.Idx) : (iblk m c 2 t (up y) : EReal) = A0 m c (idx_main_v0 ((win0_8.blk t).view.emb y) 2) := by
  have ix : ∀ t : Fin grid0.N, win0_2.index t 0 = 2 ∧ win0_2.index t 1 = 0 ∧ win0_2.index t 2 = 0 := by decide +kernel
  blk_simp [iblk]
  rw [V_main_arg0]
  refine entry_of _ _ _ _ ?_ ?_ ?_ <;> blk_simp [ix t, ix_8 t, up] <;> rfl
theorem part_3 (t : Fin cfg0.N) (y : S336x1024.Idx) : (iblk m c 3 t (up y) : EReal) = A0 m c (idx_main_v0 ((win0_8.blk t).view.emb y) 3) := by
  have ix : ∀ t : Fin grid0.N, win0_3.index t 0 = 3 ∧ win0_3.index t 1 = 0 ∧ win0_3.index t 2 = 0 := by decide +kernel
  blk_simp [iblk]
  rw [V_main_arg0]
  refine entry_of _ _ _ _ ?_ ?_ ?_ <;> blk_simp [ix t, ix_8 t, up] <;> rfl
theorem part_4 (t : Fin cfg0.N) (y : S336x1024.Idx) : (iblk m c 4 t (up y) : EReal) = A0 m c (idx_main_v0 ((win0_8.blk t).view.emb y) 4) := by
  have ix : ∀ t : Fin grid0.N, win0_4.index t 0 = 4 ∧ win0_4.index t 1 = 0 ∧ win0_4.index t 2 = 0 := by decide +kernel
  blk_simp [iblk]
  rw [V_main_arg0]
  refine entry_of _ _ _ _ ?_ ?_ ?_ <;> blk_simp [ix t, ix_8 t, up] <;> rfl
theorem part_5 (t : Fin cfg0.N) (y : S336x1024.Idx) : (iblk m c 5 t (up y) : EReal) = A0 m c (idx_main_v0 ((win0_8.blk t).view.emb y) 5) := by
  have ix : ∀ t : Fin grid0.N, win0_5.index t 0 = 5 ∧ win0_5.index t 1 = 0 ∧ win0_5.index t 2 = 0 := by decide +kernel
  blk_simp [iblk]
  rw [V_main_arg0]
  refine entry_of _ _ _ _ ?_ ?_ ?_ <;> blk_simp [ix t, ix_8 t, up] <;> rfl
theorem part_6 (t : Fin cfg0.N) (y : S336x1024.Idx) : (iblk m c 6 t (up y) : EReal) = A0 m c (idx_main_v0 ((win0_8.blk t).view.emb y) 6) := by
  have ix : ∀ t : Fin grid0.N, win0_6.index t 0 = 6 ∧ win0_6.index t 1 = 0 ∧ win0_6.index t 2 = 0 := by decide +kernel
  blk_simp [iblk]
  rw [V_main_arg0]
  refine entry_of _ _ _ _ ?_ ?_ ?_ <;> blk_simp [ix t, ix_8 t, up] <;> rfl
theorem part_7 (t : Fin cfg0.N) (y : S336x1024.Idx) : (iblk m c 7 t (up y) : EReal) = A0 m c (idx_main_v0 ((win0_8.blk t).view.emb y) 7) := by
  have ix : ∀ t : Fin grid0.N, win0_7.index t 0 = 7 ∧ win0_7.index t 1 = 0 ∧ win0_7.index t 2 = 0 := by decide +kernel
  blk_simp [iblk]
  rw [V_main_arg0]
  refine entry_of _ _ _ _ ?_ ?_ ?_ <;> blk_simp [ix t, ix_8 t, up] <;> rfl
/-- The sum that the kernel ends with is the reference's. -/
theorem arr_sum : (dats m 0 c).arrAt 8 cfg0.N = val_main_v0 (F := Ideal) (A0 m c) := by
  refine (dats m 0 c).arrAt_eq_of_covers 8 _ (by decide +kernel) fun t hf y => ?_
  blk_simp
  rw [after0_8, out_sum, ref_sum, part_0, part_1, part_2, part_3, part_4, part_5, part_6, part_7]

/-- The kernel and the reference end with the same values, over the extended reals. -/
theorem algebraic : Cert.algebraic_SumPartsIdeal_RefSumPartsIdeal (hSumPartsIdeal := Cert.SumPartsIdeal.Gen.facts) (hRefSumPartsIdeal := Cert.RefSumPartsIdeal.Gen.facts) := by
  intro m ρ m' ρ' _ hag
  refine ⟨fun c => val_main_v0 (F := Ideal) (A0 m c), ?_, ?_⟩
  · refine (θ_run Cert.SumPartsIdeal.defs _ _).mono (fun r h c => ?_) (Cert.SumPartsIdeal.Value.run_blocks m ρ)
    obtain ⟨k0, hk⟩ := h c
    exact ⟨k0.trans (arr_sum m c), hk⟩
  · refine (θ_run Cert.RefSumPartsIdeal.defs _ _).mono (fun r h c => ?_) (Cert.RefSumPartsIdeal.Value.run (F := Ideal) m' ρ')
    obtain ⟨k0, hk⟩ := h c
    have a0 := hag c
    exact ⟨k0.trans ((val_main_v0_eq (F := Ideal) _).trans (by rw [a0])), hk⟩

/-- The reference leaves its arguments as they were, and no counter behind. -/
theorem frame_reference : Cert.quiescent_RefSumPartsIdeal (hRefSumPartsIdeal := Cert.RefSumPartsIdeal.Gen.facts) := fun m ρ _ =>
  (θ_run Cert.RefSumPartsIdeal.defs _ _).mono (fun r h => ⟨fun c => (h c).2,
      Idealize.ShloMosaic.sem_eq_zero_of_no_sems (by decide) r.2⟩)
    (Cert.RefSumPartsIdeal.Value.run (F := Ideal) m ρ)

end Cert.SumPartsEq

end
-- ==== Proof.PairSumEq.lean ====
/- The sum of a chip's two cores' gradients. -/
module

public import proofs.«01_k».proof.Proof.Adam
public import proofs.«01_k».proof.Proof.Gen.PairSumIdeal.Value
public import proofs.«01_k».proof.Proof.Gen.RefPairSumIdeal.Run
public import proofs.«01_k».proof.Proof.Gen.RefPairSumIdeal.Read
public import proofs.«01_k».proof.Defs

@[expose] public section

set_option maxRecDepth 16384

noncomputable section

namespace Cert.PairSumEq

open Idealize.ShloMosaic Idealize.ShloMosaic.TcCoe Idealize.ShloMosaic.StableHlo Idealize.SL.Sem Cert.Rows
open Cert.RefPairSumIdeal.Read Cert.PairSumIdeal Cert.PairSumIdeal.Gen Cert.PairSumIdeal.Value

/-- An entry of the block that the kernel writes: the two cores' entries, summed. -/
theorem out_sum (x0 : Vec Ideal S1x1x512x1024 .f32) (x1 : Vec Ideal S1x512x1024 .f32) (y : S1x512x1024.Idx) : (out0_2 x0 x1 y : EReal) = x0 (ix4 0 0 (y 1) (y 2)) + x1 y := by
  unfold out0_2
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1]
/-- An entry of the sum that the reference writes. -/
theorem ref_sum (x : S4x2x3584x1024.Idx → EReal) (o : S4x3584x1024.Idx → EReal) (n : S1.Idx → BitVec 32) (j : S4x3584x1024.Idx) : (val_main_v3 (F := Ideal) x o n j : EReal)
    = (val_main_v0 (F := Ideal) x n : S4x1x3584x1024.Idx → EReal) (ix4 (j 0) 0 (j 1) (j 2)) + o j := by
  have d : (val_main_v1 (F := Ideal) x n j : EReal) = (val_main_v0 (F := Ideal) x n : S4x1x3584x1024.Idx → EReal) (ix4 (j 0) 0 (j 1) (j 2)) := by
    unfold val_main_v1
    generalize (val_main_v0 (F := Ideal) x n : S4x1x3584x1024.Idx → EReal) = z
    pointwise []
  exact Eq.trans (show (val_main_v3 (F := Ideal) x o n j : EReal) = (val_main_v1 (F := Ideal) x n j : EReal) + o j from rfl) (congrArg (· + o j) d)

variable (m : (ℓ : Loc nD τ sig) → Buf (Elt Ideal) ℓ) (c : Dev nD)

/-- The first argument: the core's gradients, for the four chips' two cores. -/
abbrev A0 : S4x2x3584x1024.Idx → EReal := m ((c : Thread nD τ).loc main_arg0)
/-- The second argument: what the chip's other core sent. -/
abbrev A1 : S4x3584x1024.Idx → EReal := m ((c : Thread nD τ).loc main_arg1)
/-- The third argument: the core's number. -/
abbrev A2 : S1.Idx → BitVec 32 := m ((c : Thread nD τ).loc main_arg2)

/-- The core's own blocks, as the host takes them. -/
theorem mine : (V m c main_v0 : S4x1x3584x1024.Idx → EReal) = val_main_v0 (F := Ideal) (A0 m c) (A2 m c) := by
  unfold_abbrev_sides
  after_results
  rfl
/-- The points' blocks: chip `t / 7`, rows from `512 * (t % 7)`. -/
theorem ix_2 : ∀ t : Fin grid0.N, win0_2.index t 0 = t.val / 7 ∧ win0_2.index t 1 = t.val % 7 ∧ win0_2.index t 2 = 0 := by decide +kernel
/-- The entry of the core's own blocks that a point reads. -/
theorem part_0 (t : Fin cfg0.N) (y : S1x512x1024.Idx) : (iblk m c 0 t (ix4 0 0 (y 1) (y 2)) : EReal) = (val_main_v0 (F := Ideal) (A0 m c) (A2 m c) : S4x1x3584x1024.Idx → EReal) (ix4 ((win0_2.blk t).view.emb y 0) 0 ((win0_2.blk t).view.emb y 1) ((win0_2.blk t).view.emb y 2)) := by
  have ix : ∀ t : Fin grid0.N, win0_0.index t 0 = t.val / 7 ∧ win0_0.index t 1 = 0 ∧ win0_0.index t 2 = t.val % 7 ∧ win0_0.index t 3 = 0 := by decide +kernel
  have y0 : (y 0).val = 0 := Nat.lt_one_iff.mp (y 0).isLt
  rw [← mine]
  blk_simp [iblk]
  refine congrArg (V m c main_v0 : S4x1x3584x1024.Idx → EReal) (funext fun a => Fin.ext ?_)
  match a with
  | ⟨0, _⟩ => blk_simp [ix t, ix_2 t, y0] <;> rfl
  | ⟨1, _⟩ => blk_simp [ix t] <;> rfl
  | ⟨2, _⟩ => blk_simp [ix t, ix_2 t] <;> rfl
  | ⟨3, _⟩ => blk_simp [ix t, ix_2 t] <;> rfl
/-- The entry of what the other core sent that a point reads. -/
theorem part_1 (t : Fin cfg0.N) (y : S1x512x1024.Idx) : (iblk m c 1 t y : EReal) = A1 m c ((win0_2.blk t).view.emb y) := by
  have ix : ∀ t : Fin grid0.N, win0_1.index t 0 = t.val / 7 ∧ win0_1.index t 1 = t.val % 7 ∧ win0_1.index t 2 = 0 := by decide +kernel
  have y0 : (y 0).val = 0 := Nat.lt_one_iff.mp (y 0).isLt
  blk_simp [iblk]
  rw [V_main_arg1]
  refine congrArg (A1 m c) (funext fun a => Fin.ext ?_)
  match a with
  | ⟨0, _⟩ => blk_simp [ix t, ix_2 t, y0] <;> rfl
  | ⟨1, _⟩ => blk_simp [ix t, ix_2 t] <;> rfl
  | ⟨2, _⟩ => blk_simp [ix t, ix_2 t] <;> rfl
/-- The sums that the kernel ends with are the reference's. -/
theorem arr_sum : (dats m 0 c).arrAt 2 cfg0.N = val_main_v3 (F := Ideal) (A0 m c) (A1 m c) (A2 m c) := by
  refine (dats m 0 c).arrAt_eq_of_covers 2 _ (by decide +kernel) fun t hf y => ?_
  blk_simp
  rw [after0_2, out_sum, ref_sum, part_0, part_1]

/-- The kernel and the reference end with the same values, over the extended reals. -/
theorem algebraic : Cert.algebraic_PairSumIdeal_RefPairSumIdeal (hPairSumIdeal := Cert.PairSumIdeal.Gen.facts) (hRefPairSumIdeal := Cert.RefPairSumIdeal.Gen.facts) := by
  intro m ρ m' ρ' _ hag
  refine ⟨fun c => val_main_v3 (F := Ideal) (A0 m c) (A1 m c) (A2 m c), ?_, ?_⟩
  · refine (θ_run Cert.PairSumIdeal.defs _ _).mono (fun r h c => ?_) (Cert.PairSumIdeal.Value.run_blocks m ρ)
    obtain ⟨k0, hk⟩ := h c
    exact ⟨k0.trans (arr_sum m c), hk⟩
  · refine (θ_run Cert.RefPairSumIdeal.defs _ _).mono (fun r h c => ?_) (Cert.RefPairSumIdeal.Value.run (F := Ideal) m' ρ')
    obtain ⟨k0, hk⟩ := h c
    obtain ⟨a0, a1, a2⟩ := hag c
    exact ⟨k0.trans ((val_main_v3_eq (F := Ideal) _ _ _).trans (by rw [a0, a1, a2])), hk⟩

/-- The reference leaves its arguments as they were, and no counter behind. -/
theorem frame_reference : Cert.quiescent_RefPairSumIdeal (hRefPairSumIdeal := Cert.RefPairSumIdeal.Gen.facts) := fun m ρ _ =>
  (θ_run Cert.RefPairSumIdeal.defs _ _).mono (fun r h => ⟨fun c => (h c).2,
      Idealize.ShloMosaic.sem_eq_zero_of_no_sems (by decide) r.2⟩)
    (Cert.RefPairSumIdeal.Value.run (F := Ideal) m ρ)

end Cert.PairSumEq

end
-- ==== Proof.ChipSumEq.lean ====
/- The weights' gradients: the sum of the four chips' parts. -/
module

public import proofs.«01_k».proof.Proof.Adam
public import proofs.«01_k».proof.Proof.Gen.ChipSumIdeal.Value
public import proofs.«01_k».proof.Proof.Gen.RefChipSumIdeal.Run
public import proofs.«01_k».proof.Proof.Gen.RefChipSumIdeal.Read
public import proofs.«01_k».proof.Defs

@[expose] public section

set_option maxRecDepth 16384

noncomputable section

namespace Cert.ChipSumEq

open Idealize.ShloMosaic Idealize.ShloMosaic.TcCoe Idealize.ShloMosaic.StableHlo Idealize.SL.Sem Cert.Rows
open Cert.RefChipSumIdeal.Read Cert.ChipSumIdeal Cert.ChipSumIdeal.Gen Cert.ChipSumIdeal.Value

/-- An entry's place in the block of one chip. -/
def up (y : S512x1024.Idx) : S1x512x1024.Idx := ix3 0 (y 0) (y 1)
/-- An entry of the block that the kernel writes: the chip's own entry and the three others', summed. -/
theorem out_sum (x0 x1 x2 x3 : Vec Ideal S1x512x1024 .bf16) (y : S512x1024.Idx) : (out0_4 x0 x1 x2 x3 y : EReal) = x0 (up y) + x1 (up y) + x2 (up y) + x3 (up y) := by
  unfold out0_4
  frame_open
  simp (disch := decide) only [↓View.readCov_skip, ↓View.readCov_fill, View.read_writes_junk_eq_canon, View.canon_cons_unit_lit', View.ld_unit_lit', View.readCov_unit_lit', View.readCov_cons_unit_lit', View.readAt_eq_ld, View.readCov_cons_toLoadRect, Memref.IsWhole.read_unread]
  pointwise [k0_pay1]
  rfl
/-- An entry of the sum that the reference writes. -/
theorem ref_sum (x : S4x3584x1024.Idx → EReal) (o : S3x3584x1024.Idx → EReal) (n : S1.Idx → BitVec 32) (j : S3584x1024.Idx) : (val_main_v5 (F := Ideal) x o n j : EReal)
    = (val_main_v0 (F := Ideal) x n : S1x3584x1024.Idx → EReal) (ix3 0 (j 0) (j 1)) + o (idx_main_v4 j 0) + o (idx_main_v4 j 1) + o (idx_main_v4 j 2) := by
  have e : (val_main_v4 (F := Ideal) o j : EReal) = o (idx_main_v4 j 0) + o (idx_main_v4 j 1) + o (idx_main_v4 j 2) := by
    rw [val_main_v4_apply, Fin.sum_univ_three, show (val_main_cst (F := Ideal) (Shape.Idx.first Cert.RefChipSumIdeal.Gen.h_S_) : EReal) = 0 by pointwise [val_main_cst], zero_add]
    rfl
  have d : (val_main_v1 (F := Ideal) x n j : EReal) = (val_main_v0 (F := Ideal) x n : S1x3584x1024.Idx → EReal) (ix3 0 (j 0) (j 1)) := by
    unfold val_main_v1
    generalize (val_main_v0 (F := Ideal) x n : S1x3584x1024.Idx → EReal) = z
    pointwise []
  refine Eq.trans (show (val_main_v5 (F := Ideal) x o n j : EReal) = (val_main_v1 (F := Ideal) x n j : EReal) + (val_main_v4 (F := Ideal) o j : EReal) from rfl) ?_
  rw [d, e, ← add_assoc, ← add_assoc]

variable (m : (ℓ : Loc nD τ sig) → Buf (Elt Ideal) ℓ) (c : Dev nD)

/-- The first argument: the sums of the chip's own cores, for the four chips. -/
abbrev A0 : S4x3584x1024.Idx → EReal := m ((c : Thread nD τ).loc main_arg0)
/-- The second argument: the sums that the three other chips sent. -/
abbrev A1 : S3x3584x1024.Idx → EReal := m ((c : Thread nD τ).loc main_arg1)
/-- The third argument: the chip's number. -/
abbrev A2 : S1.Idx → BitVec 32 := m ((c : Thread nD τ).loc main_arg2)

/-- The chip's own block, as the host takes it. -/
theorem mine : (V m c main_v0 : S1x3584x1024.Idx → EReal) = val_main_v0 (F := Ideal) (A0 m c) (A2 m c) := by
  unfold_abbrev_sides
  after_results
  rfl
/-- An entry of the blocks sent is known by its coordinates. -/
theorem entry_of (x : S3x3584x1024.Idx → EReal) (i : S3x3584x1024.Idx) (j : S3584x1024.Idx) (k : Fin 3) (h0 : (i 0).val = k.val) (h1 : (i 1).val = (j 0).val) (h2 : (i 2).val = (j 1).val) : x i = x (idx_main_v4 j k) :=
  congrArg x (funext fun a => Fin.ext (by match a with | ⟨0, _⟩ => exact h0 | ⟨1, _⟩ => exact h1 | ⟨2, _⟩ => exact h2))
/-- Where the grid's points put the result. -/
theorem ix_4 : ∀ t : Fin grid0.N, win0_4.index t 0 = t.val ∧ win0_4.index t 1 = 0 := by decide +kernel
/-- The entry of the chip's own block that a point reads. -/
theorem part_0 (t : Fin cfg0.N) (y : S512x1024.Idx) : (iblk m c 0 t (up y) : EReal) = (val_main_v0 (F := Ideal) (A0 m c) (A2 m c) : S1x3584x1024.Idx → EReal) (ix3 0 ((win0_4.blk t).view.emb y 0) ((win0_4.blk t).view.emb y 1)) := by
  have ix : ∀ t : Fin grid0.N, win0_0.index t 0 = 0 ∧ win0_0.index t 1 = t.val ∧ win0_0.index t 2 = 0 := by decide +kernel
  rw [← mine]
  blk_simp [iblk]
  refine congrArg (V m c main_v0 : S1x3584x1024.Idx → EReal) (funext fun a => Fin.ext ?_)
  match a with
  | ⟨0, _⟩ => blk_simp [ix t, up] <;> rfl
  | ⟨1, _⟩ => blk_simp [ix t, ix_4 t, up] <;> rfl
  | ⟨2, _⟩ => blk_simp [ix t, ix_4 t, up] <;> rfl
/-- The entry of the first block sent that a point reads, and so on for each of the three. -/
theorem part_1 (t : Fin cfg0.N) (y : S512x1024.Idx) : (iblk m c 1 t (up y) : EReal) = A1 m c (idx_main_v4 ((win0_4.blk t).view.emb y) 0) := by
  have ix : ∀ t : Fin grid0.N, win0_1.index t 0 = 0 ∧ win0_1.index t 1 = t.val ∧ win0_1.index t 2 = 0 := by decide +kernel
  blk_simp [iblk]
  rw [V_main_arg1]
  refine entry_of _ _ _ _ ?_ ?_ ?_ <;> blk_simp [ix t, ix_4 t, up] <;> rfl
theorem part_2 (t : Fin cfg0.N) (y : S512x1024.Idx) : (iblk m c 2 t (up y) : EReal) = A1 m c (idx_main_v4 ((win0_4.blk t).view.emb y) 1) := by
  have ix : ∀ t : Fin grid0.N, win0_2.index t 0 = 1 ∧ win0_2.index t 1 = t.val ∧ win0_2.index t 2 = 0 := by decide +kernel
  blk_simp [iblk]
  rw [V_main_arg1]
  refine entry_of _ _ _ _ ?_ ?_ ?_ <;> blk_simp [ix t, ix_4 t, up] <;> rfl
theorem part_3 (t : Fin cfg0.N) (y : S512x1024.Idx) : (iblk m c 3 t (up y) : EReal) = A1 m c (idx_main_v4 ((win0_4.blk t).view.emb y) 2) := by
  have ix : ∀ t : Fin grid0.N, win0_3.index t 0 = 2 ∧ win0_3.index t 1 = t.val ∧ win0_3.index t 2 = 0 := by decide +kernel
  blk_simp [iblk]
  rw [V_main_arg1]
  refine entry_of _ _ _ _ ?_ ?_ ?_ <;> blk_simp [ix t, ix_4 t, up] <;> rfl
/-- The sum that the kernel ends with is the reference's. -/
theorem arr_sum : (dats m 0 c).arrAt 4 cfg0.N = val_main_v5 (F := Ideal) (A0 m c) (A1 m c) (A2 m c) := by
  refine (dats m 0 c).arrAt_eq_of_covers 4 _ (by decide +kernel) fun t hf y => ?_
  blk_simp
  rw [after0_4, out_sum, ref_sum, part_0, part_1, part_2, part_3]

/-- The kernel and the reference end with the same values, over the extended reals. -/
theorem algebraic : Cert.algebraic_ChipSumIdeal_RefChipSumIdeal (hChipSumIdeal := Cert.ChipSumIdeal.Gen.facts) (hRefChipSumIdeal := Cert.RefChipSumIdeal.Gen.facts) := by
  intro m ρ m' ρ' _ hag
  refine ⟨fun c => val_main_v5 (F := Ideal) (A0 m c) (A1 m c) (A2 m c), ?_, ?_⟩
  · refine (θ_run Cert.ChipSumIdeal.defs _ _).mono (fun r h c => ?_) (Cert.ChipSumIdeal.Value.run_blocks m ρ)
    obtain ⟨k0, hk⟩ := h c
    exact ⟨k0.trans (arr_sum m c), hk⟩
  · refine (θ_run Cert.RefChipSumIdeal.defs _ _).mono (fun r h c => ?_) (Cert.RefChipSumIdeal.Value.run (F := Ideal) m' ρ')
    obtain ⟨k0, hk⟩ := h c
    obtain ⟨a0, a1, a2⟩ := hag c
    exact ⟨k0.trans ((val_main_v5_eq (F := Ideal) _ _ _).trans (by rw [a0, a1, a2])), hk⟩

/-- The reference leaves its arguments as they were, and no counter behind. -/
theorem frame_reference : Cert.quiescent_RefChipSumIdeal (hRefChipSumIdeal := Cert.RefChipSumIdeal.Gen.facts) := fun m ρ _ =>
  (θ_run Cert.RefChipSumIdeal.defs _ _).mono (fun r h => ⟨fun c => (h c).2,
      Idealize.ShloMosaic.sem_eq_zero_of_no_sems (by decide) r.2⟩)
    (Cert.RefChipSumIdeal.Value.run (F := Ideal) m ρ)

end Cert.ChipSumEq

end
-- ==== Proof.BcTiles.lean ====
/- The kernel's input blocks as tiles of the real arrays that its arguments hold. -/
module

public import proofs.«01_k».proof.Proof.BcBlock
public import proofs.«01_k».proof.Proof.Gen.KernelIdeal.Value
public import Idealize.ShloMosaic.Lib.Pipeline.ValueKit

@[expose] public section

set_option maxRecDepth 16384

noncomputable section

namespace Cert.KernelIdeal.Array

open Cert.KernelIdeal Cert.KernelIdeal.Gen Cert.KernelIdeal.Value Cert.KernelIdeal.Block Idealize.ShloMosaic Idealize.ShloMosaic.TcCoe Idealize.SL.Sem
open Idealize.ShloMosaic.Pipeline (Dat)

variable (m : (ℓ : Loc nD τ sig) → Buf (Elt Ideal) ℓ) (c : Dev nD) (I : Bc.In)

/-- The arguments in memory are the real arrays `I`. -/
structure Fits : Prop where
  z : ∀ j : S16384x2560.Idx, m ((c : Thread nD τ).loc main_arg0) j = ((I.z (j 0).val (j 1).val : ℝ) : EReal)
  pb : ∀ j : S16384x512.Idx, m ((c : Thread nD τ).loc main_arg1) j = ((I.pb (j 0).val (j 1).val : ℝ) : EReal)
  pc : ∀ j : S16384x512.Idx, m ((c : Thread nD τ).loc main_arg2) j = ((I.pc (j 0).val (j 1).val : ℝ) : EReal)
  w : ∀ j : S3x512.Idx, m ((c : Thread nD τ).loc main_arg3) j = ((I.w (j 0).val (j 1).val : ℝ) : EReal)
  g : ∀ j : S512.Idx, m ((c : Thread nD τ).loc main_arg4) j = ((I.g (j 0).val : ℝ) : EReal)
  b : ∀ j : S512.Idx, m ((c : Thread nD τ).loc main_arg5) j = ((I.b (j 0).val : ℝ) : EReal)
  s : ∀ j : S4x128x128.Idx, m ((c : Thread nD τ).loc main_arg6) j = ((I.s (j 0).val (j 1).val (j 2).val : ℝ) : EReal)
  bias : ∀ (j : S4x128.Idx) (k : ℕ), k < 128 → m ((c : Thread nD τ).loc main_arg7) j = ((I.bias (j 1).val (128 * (j 0).val + k) : ℝ) : EReal)

variable {m c I} (f : Fits m c I)
section Host
include f

theorem Vws : ∀ j : S4x128x128.Idx, V m c main_v0 j = ((I.s (j 0).val (j 1).val (j 2).val : ℝ) : EReal) := by
  intro j
  rw [← f.s]
  unfold_abbrev_sides
  after_results
  rfl
theorem Vwst : ∀ j : S4x128x128.Idx, V m c main_v2 j = ((I.s (j 0).val (j 2).val (j 1).val : ℝ) : EReal) := by
  intro j
  rw [show ((I.s (j 0).val (j 2).val (j 1).val : ℝ) : EReal) = _ from (f.s (ix3 (j 0) (j 2) (j 1))).symm]
  unfold_abbrev_sides
  after_results
  pointwise []
theorem Vg : ∀ j : S1x512.Idx, V m c main_v6 j = ((I.g (j 1).val : ℝ) : EReal) := by
  intro j
  rw [show ((I.g (j 1).val : ℝ) : EReal) = _ from (f.g (ix1 (j 1))).symm]
  unfold_abbrev_sides
  after_results
  pointwise []
theorem Vb : ∀ j : S1x512.Idx, V m c main_v7 j = ((I.b (j 1).val : ℝ) : EReal) := by
  intro j
  rw [show ((I.b (j 1).val : ℝ) : EReal) = _ from (f.b (ix1 (j 1))).symm]
  unfold_abbrev_sides
  after_results
  pointwise []
theorem Vbias : ∀ j : S128x512.Idx, V m c main_v5 j = ((I.bias (j 0).val (j 1).val : ℝ) : EReal) := by
  intro j
  have h1 := (j 1).isLt
  have e := f.bias (ix2 ⟨(j 1).val / 128, by have : (j 1).val < 512 := h1; omega⟩ (j 0)) ((j 1).val % 128) (Nat.mod_lt _ (by decide))
  have e' : ((I.bias (j 0).val (j 1).val : ℝ) : EReal) = _ := (e.trans (by
    show ((I.bias (j 0).val (128 * ((j 1).val / 128) + (j 1).val % 128) : ℝ) : EReal) = ((I.bias (j 0).val (j 1).val : ℝ) : EReal)
    rw [Nat.div_add_mod])).symm
  refine Eq.trans ?_ e'.symm
  show V m c main_v5 j = _
  unfold_abbrev_sides
  after_results
  pointwise []

end Host
theorem coord0 : ∀ t : Fin grid0.N, (grid0.coords t 0).val = t.val := by decide +kernel
theorem ix_0 : ∀ t : Fin grid0.N, win0_0.index t 0 = t.val ∧ win0_0.index t 1 = 0 := by decide +kernel
theorem ix_1 : ∀ t : Fin grid0.N, win0_1.index t 0 = 16 * t.val - 1 ∧ win0_1.index t 1 = 0 := by decide +kernel
theorem ix_2 : ∀ t : Fin grid0.N, win0_2.index t 0 = min (16 * (t.val + 1)) 1023 ∧ win0_2.index t 1 = 0 := by decide +kernel
theorem ix_3 : ∀ t : Fin grid0.N, win0_3.index t 0 = t.val ∧ win0_3.index t 1 = 0 := by decide +kernel
theorem ix_4 : ∀ t : Fin grid0.N, win0_4.index t 0 = 16 * t.val - 1 ∧ win0_4.index t 1 = 0 := by decide +kernel
theorem ix_5 : ∀ t : Fin grid0.N, win0_5.index t 0 = min (16 * (t.val + 1)) 1023 ∧ win0_5.index t 1 = 0 := by decide +kernel
theorem ix_6 : ∀ t : Fin grid0.N, win0_6.index t 0 = t.val ∧ win0_6.index t 1 = 0 := by decide +kernel
theorem ix_7 : ∀ t : Fin grid0.N, win0_7.index t 0 = 0 ∧ win0_7.index t 1 = 0 := by decide +kernel
theorem ix_8 : ∀ t : Fin grid0.N, win0_8.index t 0 = 0 ∧ win0_8.index t 1 = 0 := by decide +kernel
theorem ix_9 : ∀ t : Fin grid0.N, win0_9.index t 0 = 0 ∧ win0_9.index t 1 = 0 := by decide +kernel
theorem ix_12 : ∀ t : Fin grid0.N, win0_12.index t 0 = 0 ∧ win0_12.index t 1 = 0 := by decide +kernel
theorem ix_14 : ∀ t : Fin grid0.N, win0_14.index t 0 = 0 ∧ win0_14.index t 1 = 0 := by decide +kernel
theorem ix_15 : ∀ t : Fin grid0.N, win0_15.index t 0 = 0 ∧ win0_15.index t 1 = 0 := by decide +kernel
theorem ix_16 : ∀ t : Fin grid0.N, win0_16.index t 0 = 0 ∧ win0_16.index t 1 = 0 := by decide +kernel
theorem ix_18 : ∀ t : Fin grid0.N, win0_18.index t 0 = 0 ∧ win0_18.index t 1 = 0 := by decide +kernel
theorem ix_13 : ∀ t : Fin grid0.N, win0_13.index t 0 = t.val ∧ win0_13.index t 1 = 0 := by decide +kernel
theorem ix_10 : ∀ t : Fin grid0.N, win0_10.index t 0 = 0 ∧ win0_10.index t 1 = 0 ∧ win0_10.index t 2 = 0 := by decide +kernel
theorem ix_11 : ∀ t : Fin grid0.N, win0_11.index t 0 = 0 ∧ win0_11.index t 1 = 0 ∧ win0_11.index t 2 = 0 := by decide +kernel
theorem ix_17 : ∀ t : Fin grid0.N, win0_17.index t 0 = 0 ∧ win0_17.index t 1 = 0 ∧ win0_17.index t 2 = 0 := by decide +kernel

variable (t : Fin cfg0.N)
include f
theorem blk0 : iblk m c 0 t = tz (256 * t.val) I.z := by
  funext x
  rw [tz]
  blk_simp [iblk]
  rw [V_main_arg0, f.z]
  blk_simp [ix_0 t]
  simp only [Nat.zero_mul, Nat.zero_add, Nat.mul_comm _ 256, Nat.mul_comm _ 16]
theorem blk1 : iblk m c 1 t = hz (16 * (16 * t.val - 1)) I.z := by
  funext x
  rw [hz]
  blk_simp [iblk]
  rw [V_main_arg0, f.z]
  blk_simp [ix_1 t]
  simp only [Nat.zero_mul, Nat.zero_add, Nat.mul_comm _ 256, Nat.mul_comm _ 16]
theorem blk2 : iblk m c 2 t = hz (16 * min (16 * (t.val + 1)) 1023) I.z := by
  funext x
  rw [hz]
  blk_simp [iblk]
  rw [V_main_arg0, f.z]
  blk_simp [ix_2 t]
  simp only [Nat.zero_mul, Nat.zero_add, Nat.mul_comm _ 256, Nat.mul_comm _ 16]
theorem blk3 : iblk m c 3 t = tl (256 * t.val) I.pb := by
  funext x
  rw [tl]
  blk_simp [iblk]
  rw [V_main_arg1, f.pb]
  blk_simp [ix_3 t]
  simp only [Nat.zero_mul, Nat.zero_add, Nat.mul_comm _ 256, Nat.mul_comm _ 16]
theorem blk4 : iblk m c 4 t = hl (16 * (16 * t.val - 1)) I.pb := by
  funext x
  rw [hl]
  blk_simp [iblk]
  rw [V_main_arg1, f.pb]
  blk_simp [ix_4 t]
  simp only [Nat.zero_mul, Nat.zero_add, Nat.mul_comm _ 256, Nat.mul_comm _ 16]
theorem blk5 : iblk m c 5 t = hl (16 * min (16 * (t.val + 1)) 1023) I.pb := by
  funext x
  rw [hl]
  blk_simp [iblk]
  rw [V_main_arg1, f.pb]
  blk_simp [ix_5 t]
  simp only [Nat.zero_mul, Nat.zero_add, Nat.mul_comm _ 256, Nat.mul_comm _ 16]
theorem blk6 : iblk m c 6 t = tl (256 * t.val) I.pc := by
  funext x
  rw [tl]
  blk_simp [iblk]
  rw [V_main_arg2, f.pc]
  blk_simp [ix_6 t]
  simp only [Nat.zero_mul, Nat.zero_add, Nat.mul_comm _ 256, Nat.mul_comm _ 16]
theorem blk7 : iblk m c 7 t = w3 I.w := by
  funext x
  rw [w3]
  blk_simp [iblk]
  rw [V_main_arg3, f.w]
  blk_simp [ix_7 t]
theorem blk8 : iblk m c 8 t = rw1 I.g := by
  funext x
  rw [rw1]
  blk_simp [iblk]
  rw [Vg f]
  blk_simp [ix_8 t]
theorem blk9 : iblk m c 9 t = rw1 I.b := by
  funext x
  rw [rw1]
  blk_simp [iblk]
  rw [Vb f]
  blk_simp [ix_9 t]
theorem blk10 : iblk m c 10 t = sl I.s := by
  funext x
  rw [sl]
  blk_simp [iblk]
  rw [Vws f]
  blk_simp [ix_10 t]
theorem blk11 : iblk m c 11 t = st I.s := by
  funext x
  rw [st]
  blk_simp [iblk]
  rw [Vwst f]
  blk_simp [ix_11 t]
theorem blk12 : iblk m c 12 t = bl I.bias := by
  funext x
  rw [bl]
  blk_simp [iblk]
  rw [Vbias f]
  blk_simp [ix_12 t]
end Cert.KernelIdeal.Array
end
end
-- ==== Proof.BcAcc.lean ====
/- The kernel's output blocks after every grid point: the rows that the point wrote, and the running sums. -/
module

public import proofs.«01_k».proof.Proof.BcTiles

@[expose] public section

set_option maxRecDepth 16384

noncomputable section

namespace Cert.KernelIdeal.Array

open Cert.KernelIdeal Cert.KernelIdeal.Gen Cert.KernelIdeal.Value Cert.KernelIdeal.Block Idealize.ShloMosaic Idealize.ShloMosaic.TcCoe Idealize.SL.Sem
open Idealize.ShloMosaic.Pipeline (Dat)
open Finset (range)

variable (m : (ℓ : Loc nD τ sig) → Buf (Elt Ideal) ℓ) (c : Dev nD) (I : Bc.In)

/-- A point's term of the taps' gradient. -/
def tw (s k j : ℕ) : ℝ := ∑ r : Fin 256, Bc.dc I (256 * s + r) j * Bc.qp I (256 * s + r + k) j
/-- A point's term of the scale's gradient. -/
def tg (s j : ℕ) : ℝ := ∑ r : Fin 256, Bc.dv2 I (256 * s + r) j * Bc.vn I (256 * s + r) j
/-- A point's term of the shift's gradient. -/
def tb (s j : ℕ) : ℝ := ∑ r : Fin 256, Bc.dv2 I (256 * s + r) j
/-- A point's term of the mixing matrices' gradient. -/
def ts (s h p k : ℕ) : ℝ :=
  ∑ c : Fin 128, Bc.dmix I (256 * s + p) (128 * h + c) * Bc.v2 I (256 * s + k) (128 * h + c)
    + ∑ c : Fin 128, Bc.dmix I (256 * s + (128 + p)) (128 * h + c) * Bc.v2 I (256 * s + (128 + k)) (128 * h + c)
/-- A point's term of the bias's gradient. -/
def ti (s p j : ℕ) : ℝ := Bc.dmix I (256 * s + p) j + Bc.dmix I (256 * s + (128 + p)) j

/-- What the output blocks hold after point `n`. -/
structure Holds (n : ℕ) (o : Vec Ideal S256x2560 .bf16 × Vec Ideal S3x512 .f32 × Vec Ideal S1x512 .f32 × Vec Ideal S1x512 .f32 × Vec Ideal S4x128x128 .f32 × Vec Ideal S128x512 .f32) : Prop where
  z : o.1 = tz (256 * n) (Bc.dz I)
  w : ∀ j, o.2.1 j = ((∑ s ∈ range (n + 1), tw I s (j 0).val (j 1).val : ℝ) : EReal)
  g : ∀ j, o.2.2.1 j = ((∑ s ∈ range (n + 1), tg I s (j 1).val : ℝ) : EReal)
  b : ∀ j, o.2.2.2.1 j = ((∑ s ∈ range (n + 1), tb I s (j 1).val : ℝ) : EReal)
  s : ∀ j, o.2.2.2.2.1 j = ((∑ s ∈ range (n + 1), ts I s (j 0).val (j 1).val (j 2).val : ℝ) : EReal)
  i : ∀ j, o.2.2.2.2.2 j = ((∑ s ∈ range (n + 1), ti I s (j 0).val (j 1).val : ℝ) : EReal)

theorem canon_drop3 {S : Shape} (a b d : View.Piece (Elt Ideal) S .f32) (L : List (View.Piece (Elt Ideal) S .f32)) (y : S.Idx)
    (h : ∃ p ∈ [a, b, d], y ∈ p.1.set) : View.canon (a :: b :: d :: L) y = View.canon [a, b, d] y :=
  canon_append_drop (F := Ideal) L [a, b, d] y h
theorem canon_drop4 {S : Shape} (a b d e : View.Piece (Elt Ideal) S .f32) (L : List (View.Piece (Elt Ideal) S .f32)) (y : S.Idx)
    (h : ∃ p ∈ [a, b, d, e], y ∈ p.1.set) : View.canon (a :: b :: d :: e :: L) y = View.canon [a, b, d, e] y :=
  canon_append_drop (F := Ideal) L [a, b, d, e] y h
theorem z1 (j : S3x512.Idx) : (k0_pay1 (F := Ideal) j : EReal) = ((0 : ℝ) : EReal) := lit0
theorem z2 (j : S1x512.Idx) : (k0_pay2 (F := Ideal) j : EReal) = ((0 : ℝ) : EReal) := lit0
theorem z3 (j : S1x512.Idx) : (k0_pay3 (F := Ideal) j : EReal) = ((0 : ℝ) : EReal) := lit0
theorem z4 (j : S4x128x128.Idx) : (k0_pay4 (F := Ideal) j : EReal) = ((0 : ℝ) : EReal) := lit0
theorem z5 (j : S128x512.Idx) : (k0_pay5 (F := Ideal) j : EReal) = ((0 : ℝ) : EReal) := lit0

variable {m c I} (f : Fits m c I) (t : Fin cfg0.N)

theorem hR : 256 * t.val = 256 * (grid0.coords t 0).val := by rw [coord0]
theorem hP : (grid0.coords t 0).val ≠ 0 → 16 * (16 * t.val - 1) + 16 = 256 * t.val := by rw [coord0]; omega
theorem hN : (grid0.coords t 0).val ≠ 63 → 16 * min (16 * (t.val + 1)) 1023 = 256 * t.val + 256 := by
  have h : t.val < 64 := lt_of_lt_of_eq t.isLt N_0
  rw [coord0]; omega
theorem hM : 256 * t.val % 128 = 0 := by omega

include f

/-- After the first point. -/
theorem holds_A (h0 : t.val % 64 = 0) : Holds I t.val (outsAt0 m c t.val t.isLt) := by
  have ht : t.val = 0 := by have h : t.val < 64 := lt_of_lt_of_eq t.isLt N_0; omega
  rw [outsAt0_A m c t h0, out13A, out14A, out15A, out16A, out17A, out18A, blk0 f t, blk1 f t, blk2 f t, blk3 f t, blk4 f t, blk5 f t, blk6 f t, blk7 f t, blk8 f t, blk9 f t, blk10 f t, blk11 f t, blk12 f t]
  refine ⟨?_, fun j => ?_, fun j => ?_, fun j => ?_, fun j => ?_, fun j => ?_⟩ <;> dsimp only
  · exact dz_eq _ I _ _ _ (hR t) (hP t) (hN t)
  · refine (canon_drop3 _ _ _ _ j ?_).trans ?_
    · exact View.cover_of_tiledBy _ ![1, 512] (by sl_kernel_rfl) j
    refine (dw_eq _ I _ _ _ (hR t) (hP t) (hN t) _ j).trans ?_
    rw [z1, ht, ← EReal.coe_add]
    simp [tw]
  · refine (dg_eq _ I (hM t) _ j).trans ?_
    rw [z2, ht, ← EReal.coe_add]
    simp [tg]
  · refine (db_eq _ I (hM t) _ j).trans ?_
    rw [z3, ht, ← EReal.coe_add]
    simp [tb]
  · refine (canon_drop4 _ _ _ _ _ j ?_).trans ?_
    · exact View.cover_of_tiledBy _ ![1, 128, 128] (by sl_kernel_rfl) j
    refine (ds_eq _ I _ j).trans ?_
    rw [ z4, ht, ← EReal.coe_add]
    simp [ts]
  · refine (dbias_eq _ I _ j).trans ?_
    rw [z5, ht, ← EReal.coe_add]
    simp [ti]

/-- After a later point. -/
theorem holds_B (h0 : ¬t.val % 64 = 0) (h : Holds I (t.val - 1) (outsAt0 m c (t.val - 1) (Nat.lt_of_le_of_lt (Nat.sub_le _ _) t.isLt))) :
    Holds I t.val (outsAt0 m c t.val t.isLt) := by
  have ht : t.val - 1 + 1 = t.val := by omega
  obtain ⟨_, hw, hg, hb, hs, hi⟩ := h
  rw [ht] at hw hg hb hs hi
  rw [outsAt0_B m c t h0, out13B, out14B, out15B, out16B, out17B, out18B, blk0 f t, blk1 f t, blk2 f t, blk3 f t, blk4 f t, blk5 f t, blk6 f t, blk7 f t, blk8 f t, blk9 f t, blk10 f t, blk11 f t, blk12 f t]
  refine ⟨?_, fun j => ?_, fun j => ?_, fun j => ?_, fun j => ?_, fun j => ?_⟩ <;> dsimp only
  · exact dz_eq _ I _ _ _ (hR t) (hP t) (hN t)
  · refine (dw_eq _ I _ _ _ (hR t) (hP t) (hN t) _ j).trans ?_
    rw [hw, ← EReal.coe_add, Finset.sum_range_succ]
    rfl
  · refine (dg_eq _ I (hM t) _ j).trans ?_
    rw [hg, ← EReal.coe_add, Finset.sum_range_succ]
    rfl
  · refine (db_eq _ I (hM t) _ j).trans ?_
    rw [hb, ← EReal.coe_add, Finset.sum_range_succ]
    rfl
  · refine (canon_drop4 _ _ _ _ _ j ?_).trans ?_
    · exact View.cover_of_tiledBy _ ![1, 128, 128] (by sl_kernel_rfl) j
    refine (ds_eq _ I _ j).trans ?_
    rw [ hs, ← EReal.coe_add, Finset.sum_range_succ]
    rfl
  · refine (dbias_eq _ I _ j).trans ?_
    rw [hi, ← EReal.coe_add, Finset.sum_range_succ]
    rfl

omit t in
/-- After every point. -/
theorem holds : ∀ (n : ℕ) (h : n < cfg0.N), Holds I n (outsAt0 m c n h)
  | 0, h => holds_A f ⟨0, h⟩ rfl
  | n + 1, h => by
    have hN : cfg0.N = 64 := N_0
    have h' : ¬(⟨n + 1, h⟩ : Fin cfg0.N).val % 64 = 0 := by dsimp only; omega
    exact holds_B f ⟨n + 1, h⟩ h' (holds n (Nat.lt_of_succ_lt h))

end Cert.KernelIdeal.Array
end
end
-- ==== Proof.BcArray.lean ====
/- The kernel's result arrays, at the extended reals, as functions of the real arrays that its arguments hold. -/
module

public import proofs.«01_k».proof.Proof.BcAcc

@[expose] public section

set_option maxRecDepth 16384

noncomputable section

namespace Cert.KernelIdeal.Array

open Cert.KernelIdeal Cert.KernelIdeal.Gen Cert.KernelIdeal.Value Cert.KernelIdeal.Block Idealize.ShloMosaic Idealize.ShloMosaic.TcCoe Idealize.SL.Sem
open Idealize.ShloMosaic.Pipeline (Dat)
open Finset (range)

/-- A sum over all rows, taken tile by tile. -/
theorem sum_tiles (n k : ℕ) (a : ℕ → ℝ) : ∑ s ∈ range n, ∑ r : Fin k, a (k * s + r) = ∑ r : Fin (n * k), a r := by
  rw [Finset.sum_range, ← Fintype.sum_prod_type', ← finProdFinEquiv.sum_comp]
  refine Fintype.sum_congr _ _ fun x => ?_
  simp [finProdFinEquiv, add_comm]

theorem sum_pairs (n : ℕ) (a : ℕ → ℝ) : ∑ s ∈ range n, (a (2 * s) + a (2 * s + 1)) = ∑ r : Fin (2 * n), a r := by
  rw [← Finset.sum_range]
  induction n with
  | zero => simp
  | succ n ih => rw [Finset.sum_range_succ, ih, show 2 * (n + 1) = 2 * n + 1 + 1 by ring, Finset.sum_range_succ, Finset.sum_range_succ]; ring

variable (I : Bc.In)
theorem tw_sum (k j : ℕ) : ∑ s ∈ range 64, tw I s k j = Bc.dw I k j := sum_tiles 64 256 (fun r => Bc.dc I r j * Bc.qp I (r + k) j)
theorem tg_sum (j : ℕ) : ∑ s ∈ range 64, tg I s j = Bc.dg I j := sum_tiles 64 256 (fun r => Bc.dv2 I r j * Bc.vn I r j)
theorem tb_sum (j : ℕ) : ∑ s ∈ range 64, tb I s j = Bc.db I j := sum_tiles 64 256 (fun r => Bc.dv2 I r j)
theorem ts_sum (h p k : ℕ) : ∑ s ∈ range 64, ts I s h p k = Bc.ds I h p k := by
  refine Eq.trans (Finset.sum_congr rfl fun s _ => ?_) (sum_pairs 64 (fun n => ∑ c : Fin 128, Bc.dmix I (128 * n + p) (128 * h + c) * Bc.v2 I (128 * n + k) (128 * h + c)))
  simp only [ts, show ∀ a, 256 * s + (128 + a) = 128 * (2 * s + 1) + a from fun a => by omega]
  simp only [show 256 * s = 128 * (2 * s) by omega]
theorem ti_sum (p j : ℕ) : ∑ s ∈ range 64, ti I s p j = Bc.dbias I p j := by
  refine Eq.trans (Finset.sum_congr rfl fun s _ => ?_) (sum_pairs 64 (fun n => Bc.dmix I (128 * n + p) j))
  simp only [ti, show ∀ a, 256 * s + (128 + a) = 128 * (2 * s + 1) + a from fun a => by omega]
  simp only [show 256 * s = 128 * (2 * s) by omega]

/-- The last grid point. -/
def tLast : Fin cfg0.N := ⟨63, lt_of_lt_of_eq (by decide) N_0.symm⟩

variable {m : (ℓ : Loc nD τ sig) → Buf (Elt Ideal) ℓ} {c : Dev nD} {I : Bc.In} (f : Fits m c I)
include f

theorem arr13 : (dats m 0 c).arrAt 13 cfg0.N = fun j : S16384x2560.Idx => ((Bc.dz I (j 0).val (j 1).val : ℝ) : EReal) := by
  refine (dats m 0 c).arrAt_eq_of_covers 13 _ (by decide +kernel) fun t hf y => ?_
  blk_simp [ix_13 t]
  rw [after0_13, (holds f t.val t.isLt).z, tz]
  simp only [Nat.zero_add, Nat.zero_mul, Nat.mul_comm _ 256]
theorem arr14 : (dats m 0 c).arrAt 14 cfg0.N = fun j : S3x512.Idx => ((Bc.dw I (j 0).val (j 1).val : ℝ) : EReal) := by
  refine (dats m 0 c).arrAt_eq_of_after_last 14 tLast (by decide +kernel) _ fun j => ?_
  blk_simp
  rw [after0_14, (holds f tLast.val tLast.isLt).w]
  exact congrArg _ (tw_sum I _ _)
theorem arr15 : (dats m 0 c).arrAt 15 cfg0.N = fun j : S1x512.Idx => ((Bc.dg I (j 1).val : ℝ) : EReal) := by
  refine (dats m 0 c).arrAt_eq_of_after_last 15 tLast (by decide +kernel) _ fun j => ?_
  blk_simp
  rw [after0_15, (holds f tLast.val tLast.isLt).g]
  exact congrArg _ (tg_sum I _)
theorem arr16 : (dats m 0 c).arrAt 16 cfg0.N = fun j : S1x512.Idx => ((Bc.db I (j 1).val : ℝ) : EReal) := by
  refine (dats m 0 c).arrAt_eq_of_after_last 16 tLast (by decide +kernel) _ fun j => ?_
  blk_simp
  rw [after0_16, (holds f tLast.val tLast.isLt).b]
  exact congrArg _ (tb_sum I _)
theorem arr17 : (dats m 0 c).arrAt 17 cfg0.N = fun j : S4x128x128.Idx => ((Bc.ds I (j 0).val (j 1).val (j 2).val : ℝ) : EReal) := by
  refine (dats m 0 c).arrAt_eq_of_after_last 17 tLast (by decide +kernel) _ fun j => ?_
  blk_simp
  rw [after0_17, (holds f tLast.val tLast.isLt).s]
  exact congrArg _ (ts_sum I _ _ _)
theorem arr18 : (dats m 0 c).arrAt 18 cfg0.N = fun j : S128x512.Idx => ((Bc.dbias I (j 0).val (j 1).val : ℝ) : EReal) := by
  refine (dats m 0 c).arrAt_eq_of_after_last 18 tLast (by decide +kernel) _ fun j => ?_
  blk_simp
  rw [after0_18, (holds f tLast.val tLast.isLt).i]
  exact congrArg _ (ti_sum I _ _)

end Cert.KernelIdeal.Array
end
end
-- ==== Proof.BcRef.lean ====
/- The reference's arrays, at the extended reals, as functions of the real arrays that its arguments hold. -/
module

public import proofs.«01_k».proof.Proof.BcPay
public import proofs.«01_k».proof.Proof.Gen.ReferenceIdeal.Read
public import Idealize.ShloMosaic.Lib.Pointwise

@[expose] public section

set_option maxRecDepth 16384

noncomputable section

namespace Cert.ReferenceIdeal.Math

open Cert.ReferenceIdeal Cert.ReferenceIdeal.Gen Cert.ReferenceIdeal.Read Idealize.ShloMosaic Idealize.ShloMosaic.TcCoe
open Cert.KernelIdeal.Block (lit0 lit_half lit512 litK lit_eps div512 rsqrt_pos)

/-- Every row of 512 columns of a real function. -/
def fl (f : ℕ → ℕ → ℝ) : S16384x512.Idx → EReal := fun j => ((f (j 0).val (j 1).val : ℝ) : EReal)
/-- Every row of 2560 columns. -/
def fz (f : ℕ → ℕ → ℝ) : S16384x2560.Idx → EReal := fun j => ((f (j 0).val (j 1).val : ℝ) : EReal)
/-- Every row and two more. -/
def fp (f : ℕ → ℕ → ℝ) : S16386x512.Idx → EReal := fun j => ((f (j 0).val (j 1).val : ℝ) : EReal)
/-- A column. -/
def fcl (f : ℕ → ℝ) : S16384x1.Idx → EReal := fun j => ((f (j 0).val : ℝ) : EReal)
/-- The three rows of taps. -/
def f3 (f : ℕ → ℕ → ℝ) : S3x512.Idx → EReal := fun j => ((f (j 0).val (j 1).val : ℝ) : EReal)
/-- A vector of 512. -/
def f1 (f : ℕ → ℝ) : S512.Idx → EReal := fun j => ((f (j 0).val : ℝ) : EReal)
/-- The mixing matrices. -/
def fs (f : ℕ → ℕ → ℕ → ℝ) : S4x128x128.Idx → EReal := fun j => ((f (j 0).val (j 1).val (j 2).val : ℝ) : EReal)
/-- The mixing bias, one row per head. -/
def fb (f : ℕ → ℕ → ℝ) : S4x128.Idx → EReal := fun j => ((f (j 1).val (128 * (j 0).val) : ℝ) : EReal)
/-- A chunk of 128 rows. -/
def fbi (f : ℕ → ℕ → ℝ) : S128x512.Idx → EReal := fun j => ((f (j 0).val (j 1).val : ℝ) : EReal)
/-- A single row. -/
def fr (f : ℕ → ℝ) : S1x512.Idx → EReal := fun j => ((f (j 1).val : ℝ) : EReal)
/-- Rows by chunk and columns by head. -/
def f4 (f : ℕ → ℕ → ℝ) : S128x128x4x128.Idx → EReal :=
  fun j => ((f (128 * (j 0).val + (j 1).val) (128 * (j 2).val + (j 3).val) : ℝ) : EReal)

theorem lit2 : Ideal.ofBits .f32 0x40000000#32 = ((2 : ℝ) : EReal) := by
  simp [Ideal.ofBits, Ideal.ieee, -EReal.coe_mul]; norm_num
theorem lit3 : Ideal.ofBits .f32 0x40400000#32 = ((3 : ℝ) : EReal) := by
  simp [Ideal.ofBits, Ideal.ieee, -EReal.coe_mul]; norm_num
theorem lit_negh : Ideal.ofBits .f32 0xBF000000#32 = ((-1 / 2 : ℝ) : EReal) := by
  simp [Ideal.ofBits, Ideal.ieee, -EReal.coe_mul]; norm_num
/-- The cubic coefficient of gelu's approximation, the rational of its float. -/
def C : ℝ := 12003091 / 268435456
theorem litC : Ideal.ofBits .f32 0x3D372713#32 = ((C : ℝ) : EReal) := by
  simp [Ideal.ofBits, Ideal.ieee, -EReal.coe_mul, C]; norm_num
theorem KC_eq : Bc.KC = Bc.K * C := by norm_num [Bc.KC, Bc.K, C]

variable (I : Bc.In)

theorem r8 : val_main_v8 (F := Ideal) (fz I.z) = fl (fun r c => I.z r (c)) := by
  funext j
  pointwise [val_main_v8, val_main_v7, fz, fl, fcl, f3, f1, fs, fb, f4]

theorem r9 : val_main_v9 (F := Ideal) (fz I.z) = fl (fun r c => I.z r (512 + c)) := by
  funext j
  pointwise [val_main_v9, val_main_v7, fz, fl, fcl, f3, f1, fs, fb, f4]

theorem r10 : val_main_v10 (F := Ideal) (fz I.z) = fl (fun r c => I.z r (1024 + c)) := by
  funext j
  pointwise [val_main_v10, val_main_v7, fz, fl, fcl, f3, f1, fs, fb, f4]

theorem r11 : val_main_v11 (F := Ideal) (fz I.z) = fl (fun r c => I.z r (1536 + c)) := by
  funext j
  pointwise [val_main_v11, val_main_v7, fz, fl, fcl, f3, f1, fs, fb, f4]

theorem r12 : val_main_v12 (F := Ideal) (fz I.z) = fl (fun r c => I.z r (2048 + c)) := by
  funext j
  pointwise [val_main_v12, val_main_v7, fz, fl, fcl, f3, f1, fs, fb, f4]

theorem r13 : val_main_v13 (F := Ideal) (fz I.z) = fl (Bc.q I) := by
  funext j
  pointwise [val_main_v13, r9 I, r10 I, fz, fl, fcl, f3, f1, fs, fb, f4]
  simp only [← EReal.coe_mul]
  rfl

theorem r15 : val_main_v15 (F := Ideal) (fz I.z) = fp (Bc.qp I) := by
  funext j
  pointwise [val_main_v15, val_main_v14, val_main_cst, r13 I, fz, fl, fcl, f3, f1, fs, fb, f4, fp]
  split_ifs with c1 c2
  · rw [show (j 0).val = 0 by omega]; rfl
  · obtain ⟨a, ha⟩ : ∃ a, (j 0).val = a + 1 := ⟨(j 0).val - 1, by omega⟩
    rw [ha, Nat.add_sub_cancel]; rfl
  · obtain ⟨a, ha⟩ : ∃ a, (j 0).val = a + 1 := ⟨(j 0).val - 1, by omega⟩
    rw [ha]; exact (congrArg (fun x : ℝ => (x : EReal)) (Bc.q_out I a _ (by omega))).symm

theorem r18 : val_main_v18 (F := Ideal) (fz I.z) = fl (fun r c => Bc.qp I r c) := by
  funext j
  pointwise [val_main_v18, r15 I, fz, fl, fcl, f3, f1, fs, fb, f4, fp]

theorem r26 : val_main_v26 (F := Ideal) (fz I.z) = fl (fun r c => Bc.qp I (r + 1) c) := by
  funext j
  pointwise [val_main_v26, r15 I, fz, fl, fcl, f3, f1, fs, fb, f4, fp]
  simp only [Nat.add_comm]

theorem r33 : val_main_v33 (F := Ideal) (fz I.z) = fl (fun r c => Bc.qp I (r + 2) c) := by
  funext j
  pointwise [val_main_v33, r15 I, fz, fl, fcl, f3, f1, fs, fb, f4, fp]
  simp only [Nat.add_comm]

theorem r39 : val_main_v39 (F := Ideal) (fz I.z) (f3 I.w) = fl (Bc.conv I) := by
  funext j
  pointwise [val_main_v39, val_main_v32, val_main_v25, val_main_v24, val_main_cst_2, val_main_v23, val_main_v22, val_main_v21, val_main_v20, val_main_v19, val_main_v31, val_main_v30, val_main_v29, val_main_v28, val_main_v27, val_main_v38, val_main_v37, val_main_v36, val_main_v35, val_main_v34, r18 I, r26 I, r33 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Bc.conv]

theorem r51 : val_main_v51 (F := Ideal) (fz I.z) = fl (fun r c => Bc.th (I.z r (1536 + c))) := by
  funext j
  pointwise [val_main_v51, val_main_v50, val_main_v49, val_main_cst_5, val_main_v48, val_main_v47, val_main_v46, val_main_cst_4, val_main_v42, val_main_v41, r11 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Bc.th, KC_eq]
  congr 2
  ring

theorem r60 : val_main_v60 (F := Ideal) (fz I.z) = fl (fun r c => 1 / 2 * (1 + Bc.th (I.z r (1536 + c)))) := by
  funext j
  pointwise [val_main_v60, val_main_v59, val_main_cst_9, val_main_v58, val_main_v57, val_main_cst_8, r51 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]

theorem r61 : val_main_v61 (F := Ideal) (fz I.z) = fl (fun r c => Bc.gelu (I.z r (1536 + c))) := by
  funext j
  pointwise [val_main_v61, r11 I, r60 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Bc.gelu]
  congr 1
  ring

theorem r56 : val_main_v56 (F := Ideal) (fz I.z) = fl (fun r c => (1 + Bc.th (I.z r (1536 + c))) * (1 - Bc.th (I.z r (1536 + c)))) := by
  funext j
  pointwise [val_main_v56, val_main_v53, val_main_v52, val_main_cst_6, val_main_v55, val_main_v54, val_main_cst_7, r51 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]

theorem r72 : val_main_v72 (F := Ideal) (fz I.z) = fl (fun r c => Bc.th (I.z r (2048 + c))) := by
  funext j
  pointwise [val_main_v72, val_main_v71, val_main_v70, val_main_cst_12, val_main_v69, val_main_v68, val_main_v67, val_main_cst_11, val_main_v63, val_main_v62, r12 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Bc.th, KC_eq]
  congr 2
  ring

theorem r81 : val_main_v81 (F := Ideal) (fz I.z) = fl (fun r c => 1 / 2 * (1 + Bc.th (I.z r (2048 + c)))) := by
  funext j
  pointwise [val_main_v81, val_main_v80, val_main_cst_16, val_main_v79, val_main_v78, val_main_cst_15, r72 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]

theorem r82 : val_main_v82 (F := Ideal) (fz I.z) = fl (fun r c => Bc.gelu (I.z r (2048 + c))) := by
  funext j
  pointwise [val_main_v82, r12 I, r81 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Bc.gelu]
  congr 1
  ring

theorem r77 : val_main_v77 (F := Ideal) (fz I.z) = fl (fun r c => (1 + Bc.th (I.z r (2048 + c))) * (1 - Bc.th (I.z r (2048 + c)))) := by
  funext j
  pointwise [val_main_v77, val_main_v74, val_main_v73, val_main_cst_13, val_main_v76, val_main_v75, val_main_cst_14, r72 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]

theorem r86 : val_main_v86 (F := Ideal) (fz I.z) = fcl (Bc.mu I) := by
  funext j
  pointwise [val_main_v86, val_main_v84, val_main_v83, val_main_cst_17, val_main_v85, val_main_cst_18, r82 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rfl

theorem r88 : val_main_v88 (F := Ideal) (fz I.z) = fl (Bc.vc I) := by
  funext j
  pointwise [val_main_v88, val_main_v87, r82 I, r86 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rfl

theorem r97 : val_main_v97 (F := Ideal) (fz I.z) = fl (Bc.vc I) := by
  funext j
  pointwise [val_main_v97, val_main_v96, r82 I, r86 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rfl

theorem r99 : val_main_v99 (F := Ideal) (fz I.z) = fcl (Bc.var I) := by
  funext j
  pointwise [val_main_v99, val_main_v95, val_main_v93, val_main_v92, val_main_v89, val_main_cst_20, val_main_v94, val_main_cst_21, val_main_v98, val_main_cst_22, r88 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rfl

theorem r100 : val_main_v100 (F := Ideal) (fz I.z) = fcl (Bc.rs I) := by
  funext j
  pointwise [val_main_v100, r99 I, fz, fl, fcl, f3, f1, fs, fb, f4]
  exact rsqrt_pos (Bc.var_pos I _)

theorem r105 : val_main_v105 (F := Ideal) (fz I.z) = fl (Bc.vn I) := by
  funext j
  pointwise [val_main_v105, val_main_v104, r97 I, r100 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rfl

theorem r109 : val_main_v109 (F := Ideal) (fz I.z) (f1 I.g) (f1 I.b) = fl (Bc.v2 I) := by
  funext j
  pointwise [val_main_v109, val_main_v107, val_main_v106, val_main_v5, val_main_v108, val_main_v6, r105 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rfl

theorem r110 : val_main_v110 (F := Ideal) (fz I.z) (f1 I.g) (f1 I.b) = f4 (Bc.v2 I) := by
  funext j
  pointwise [val_main_v110, r109 I, fz, fl, fcl, f3, f1, fs, fb, f4]
  simp only [Nat.mul_comm]

theorem r117 : val_main_v117 (F := Ideal) (fz I.z) (f1 I.g) (f1 I.b) (fs I.s) (fb I.bias) = fl (Bc.mixed I) := by
  funext j
  pointwise [val_main_v117, val_main_v116, val_main_v112, val_main_v111, val_main_v115, val_main_v114, val_main_v113, val_main_v4, val_main_v3, val_main_v1, val_main_v0, r110 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Nat.div_add_mod, I.bias_head, Bc.mixed]
  congr 2
  exact Finset.sum_congr rfl fun k _ => mul_comm _ _

theorem r119 : val_main_v119 (F := Ideal) (fz I.z) (fl I.pc) = fl (Bc.dmix I) := by
  funext j
  pointwise [val_main_v119, r61 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rfl

theorem r121 : val_main_v121 (F := Ideal) (fz I.z) (fl I.pc) = f4 (Bc.dmix I) := by
  funext j
  pointwise [val_main_v121, r119 I, fz, fl, fcl, f3, f1, fs, fb, f4]
  simp only [Nat.mul_comm]

theorem r125 : val_main_v125 (F := Ideal) (fz I.z) (fl I.pc) = fbi (Bc.dbias I) := by
  funext j
  pointwise [val_main_v125, val_main_v124, val_main_v123, val_main_v122, val_main_cst_24, val_main_cst_25, r121 I, fz, fl, fcl, f3, f1, fs, fb, f4, fbi]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Nat.div_add_mod, Bc.dbias, Finset.univ_unique, Finset.sum_const, Finset.card_singleton, one_smul]

theorem r127 : val_main_v127 (F := Ideal) (fz I.z) (fl I.pc) (f1 I.g) (f1 I.b) = fs (Bc.ds I) := by
  funext j
  pointwise [val_main_v127, val_main_v126, r121 I, r110 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rfl

theorem r130 : val_main_v130 (F := Ideal) (fz I.z) (fl I.pc) (fs I.s) = fl (Bc.dv2 I) := by
  funext j
  pointwise [val_main_v130, val_main_v129, val_main_v128, val_main_v126, r121 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Nat.div_add_mod, Bc.dv2]
  congr 1
  exact Finset.sum_congr rfl fun k _ => mul_comm _ _

theorem r132 : val_main_v132 (F := Ideal) (fz I.z) (fl I.pc) (fs I.s) = fr (Bc.db I) := by
  funext j
  pointwise [val_main_v132, val_main_v131, val_main_cst_26, r130 I, fz, fl, fcl, f3, f1, fs, fb, f4, fr]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rfl

theorem r135 : val_main_v135 (F := Ideal) (fz I.z) (fl I.pc) (fs I.s) = fr (Bc.dg I) := by
  funext j
  pointwise [val_main_v135, val_main_v134, val_main_v133, val_main_cst_27, r105 I, r130 I, fz, fl, fcl, f3, f1, fs, fb, f4, fr]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  exact congrArg (fun x : ℝ => (x : EReal)) (Finset.sum_congr rfl fun k _ => mul_comm _ _)

theorem r137 : val_main_v137 (F := Ideal) (fz I.z) (fl I.pc) (f1 I.g) (fs I.s) = fl (Bc.dvn I) := by
  funext j
  pointwise [val_main_v137, val_main_v136, val_main_v5, r130 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rfl

theorem r103 : val_main_v103 (F := Ideal) (fz I.z) = fcl (fun r => -1 / 2 * (Bc.rs I r / Bc.var I r)) := by
  funext j
  pointwise [val_main_v103, val_main_v102, val_main_cst_23, val_main_v101, r100 I, r99 I, fz, fl, fcl, f3, f1, fs, fb, f4]
  rw [Ideal.div_coe (Bc.var_pos I _).ne']
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  congr 2
  ring

theorem r142 : val_main_v142 (F := Ideal) (fz I.z) (fl I.pc) (f1 I.g) (fs I.s) = fl (fun r c => Bc.dvn I r c * Bc.rs I r) := by
  funext j
  pointwise [val_main_v142, val_main_v141, r137 I, r100 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]

theorem r150 : val_main_v150 (F := Ideal) (fz I.z) (fl I.pc) (f1 I.g) (fs I.s) = fl (fun r c => (∑ k : Fin 512, Bc.vc I r k * Bc.dvn I r k) * (-1 / 2 * (Bc.rs I r / Bc.var I r)) / 512) := by
  funext j
  pointwise [val_main_v150, val_main_v149, val_main_v148, val_main_v143, val_main_v140, val_main_v139, val_main_v138, val_main_cst_28, val_main_v147, val_main_cst_30, val_main_cst_31, r97 I, r137 I, r103 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Finset.univ_unique, Finset.sum_const, Finset.card_singleton, one_smul]

theorem r91 : val_main_v91 (F := Ideal) (fz I.z) = fl (fun r c => 2 * Bc.vc I r c) := by
  funext j
  pointwise [val_main_v91, val_main_v90, val_main_cst_19, r88 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]

theorem r151 : val_main_v151 (F := Ideal) (fz I.z) (fl I.pc) (f1 I.g) (fs I.s) = fl (fun r c => -(Bc.rs I r * (Bc.vn I r c * ((∑ k : Fin 512, Bc.dvn I r k * Bc.vn I r k) / 512)))) := by
  funext j
  pointwise [val_main_v151, r150 I, r91 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rw [show (∑ x : Fin 512, Bc.dvn I (j 0).val x * Bc.vn I (j 0).val x) = (∑ x : Fin 512, Bc.vc I (j 0).val x * Bc.dvn I (j 0).val x) * Bc.rs I (j 0).val from by
    rw [Finset.sum_mul]; exact Finset.sum_congr rfl fun k _ => by rw [Bc.vn]; ring]
  rw [div_eq_mul_inv (Bc.rs I (j 0).val), ← Bc.rs_sq, Bc.vn]
  congr 1
  ring

theorem r161 : val_main_v161 (F := Ideal) (fz I.z) (fl I.pc) (f1 I.g) (fs I.s) = fl (Bc.dv1 I) := by
  funext j
  pointwise [val_main_v161, val_main_v155, val_main_v160, val_main_v159, val_main_v158, val_main_v156, val_main_v146, val_main_v145, val_main_v144, val_main_cst_29, val_main_v154, val_main_v153, val_main_v152, val_main_cst_32, val_main_v157, val_main_cst_33, val_main_cst_34, r142 I, r151 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  generalize hA : (∑ x : Fin 512, Bc.dvn I (j 0).val x * Bc.vn I (j 0).val x) / 512 = A
  have h1 : ∑ k : Fin 512, -(Bc.dvn I (j 0).val k * Bc.rs I (j 0).val) = -((∑ k : Fin 512, Bc.dvn I (j 0).val k) * Bc.rs I (j 0).val) := by
    rw [Finset.sum_neg_distrib, Finset.sum_mul]
  have h2 : ∑ k : Fin 512, - -(Bc.rs I (j 0).val * (Bc.vn I (j 0).val k * A)) = 0 := by
    rw [Finset.sum_congr rfl fun k _ => show _ = Bc.vc I (j 0).val (k : Fin 512) * (Bc.rs I (j 0).val * Bc.rs I (j 0).val * A) from by rw [Bc.vn]; ring,
      ← Finset.sum_mul, Bc.vc_sum, zero_mul]
  rw [h1, h2, Bc.dv1, hA]
  simp only [Finset.univ_unique, Finset.sum_const, Finset.card_singleton, one_smul]
  congr 1
  ring

theorem r173 : val_main_v173 (F := Ideal) (fz I.z) (fl I.pc) (f1 I.g) (fs I.s) = fl (Bc.dv I) := by
  funext j
  pointwise [val_main_v173, val_main_v169, val_main_v163, val_main_v168, val_main_v167, val_main_cst_36, val_main_v166, val_main_v165, val_main_v164, val_main_cst_35, val_main_v162, val_main_v172, val_main_v171, val_main_v170, val_main_cst_37, val_main_v66, val_main_v65, val_main_cst_10, val_main_v64, r161 I, r81 I, r12 I, r77 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Bc.dv, Bc.dgelu, KC_eq]
  congr 1
  ring

theorem r185 : val_main_v185 (F := Ideal) (fz I.z) (fl I.pc) (f1 I.g) (f1 I.b) (fs I.s) (fb I.bias) = fl (Bc.du I) := by
  funext j
  pointwise [val_main_v185, val_main_v181, val_main_v175, val_main_v120, val_main_v180, val_main_v179, val_main_cst_39, val_main_v178, val_main_v177, val_main_v176, val_main_cst_38, val_main_v174, val_main_v184, val_main_v183, val_main_v182, val_main_cst_40, val_main_v45, val_main_v44, val_main_cst_3, val_main_v43, r117 I, r60 I, r11 I, r56 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Bc.du, Bc.dgelu, KC_eq]
  congr 1
  ring

theorem r186 : val_main_v186 (F := Ideal) (fz I.z) (fl I.pb) = fl (Bc.dc I) := by
  funext j
  pointwise [val_main_v186, r8 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  rw [mul_comm]
  rfl

theorem r187 : val_main_v187 (F := Ideal) (fz I.z) (fl I.pb) (f3 I.w) = fl (fun r c => I.pb r c * Bc.conv I r c) := by
  funext j
  pointwise [val_main_v187, r39 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]

theorem r216 : val_main_v216 (F := Ideal) (fz I.z) (fl I.pb) = f3 (Bc.dw I) := by
  funext j
  pointwise [val_main_v216, val_main_v205, val_main_v195, val_main_v194, val_main_v193, val_main_v190, val_main_v189, val_main_v188, val_main_cst_41, val_main_cst_42, val_main_cst_43, val_main_v204, val_main_v203, val_main_v202, val_main_v199, val_main_v198, val_main_v197, val_main_cst_45, val_main_cst_46, val_main_cst_47, val_main_v215, val_main_v214, val_main_v213, val_main_v210, val_main_v209, val_main_v208, val_main_cst_49, val_main_cst_50, val_main_cst_51, r33 I, r186 I, r26 I, r18 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  simp only [Finset.univ_unique, Finset.sum_const, Finset.card_singleton, one_smul]
  have h3 : (j 0).val < 3 := (j 0).isLt
  have hw : ∀ k0 : ℕ, (j 0).val = k0 → (∑ k : Fin 16384, Bc.qp I (k.val + k0) (j 1).val * Bc.dc I k (j 1).val) = Bc.dw I (j 0).val (j 1).val := by
    rintro _ rfl
    rw [Bc.dw]
    exact Finset.sum_congr rfl fun k _ => mul_comm _ _
  have hw0 : (j 0).val = 0 → (∑ k : Fin 16384, Bc.qp I k.val (j 1).val * Bc.dc I k (j 1).val) = Bc.dw I (j 0).val (j 1).val := fun h => by
    rw [← hw 0 h]; simp only [Nat.add_zero]
  split_ifs
  all_goals first
    | omega
    | (simp only [← EReal.coe_add, add_zero, zero_add]
       first
         | rw [(hw0 (by omega))]
         | rw [(hw 1 (by omega))]
         | rw [(hw 2 (by omega))])

theorem r220 : val_main_v220 (F := Ideal) (fz I.z) (fl I.pb) (f3 I.w) = fl (Bc.dq I) := by
  funext j
  pointwise [val_main_v220, val_main_v218, val_main_v207, val_main_v196, val_main_v192, val_main_v191, val_main_v36, val_main_v35, val_main_v34, val_main_cst_44, val_main_v206, val_main_v201, val_main_v200, val_main_v29, val_main_v28, val_main_v27, val_main_cst_48, val_main_v217, val_main_v212, val_main_v211, val_main_v21, val_main_v20, val_main_v19, val_main_cst_52, r186 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  have e0 : (if h : 1 + (j 0).val < 16384 then ((Bc.dc I (1 + (j 0).val) (j 1).val * I.w 0 (j 1).val : ℝ) : EReal) else ((0 : ℝ) : EReal))
      = ((Bc.dcp I ((j 0).val + 2) (j 1).val * I.w 0 (j 1).val : ℝ) : EReal) := by
    split_ifs
    · rw [Nat.add_comm 1]; rfl
    · rw [show Bc.dcp I ((j 0).val + 2) (j 1).val = 0 from Bc.dc_out I _ _ (by omega), zero_mul]
  have e2 : (if h : 2 ≤ 1 + (j 0).val ∧ 1 + (j 0).val - 2 < 16384 then ((Bc.dc I (1 + (j 0).val - 2) (j 1).val * I.w 2 (j 1).val : ℝ) : EReal) else ((0 : ℝ) : EReal))
      = ((Bc.dcp I (j 0).val (j 1).val * I.w 2 (j 1).val : ℝ) : EReal) := by
    have hj : (j 0).val < 16384 := (j 0).isLt
    split_ifs
    · obtain ⟨a, ha⟩ : ∃ a, (j 0).val = a + 1 := ⟨(j 0).val - 1, by omega⟩
      rw [ha, show 1 + (a + 1) - 2 = a by omega]; rfl
    · rw [show (j 0).val = 0 by omega, show Bc.dcp I 0 (j 1).val = 0 from rfl, zero_mul]
  rw [e0, e2, ← EReal.coe_add, ← EReal.coe_add, Bc.dq]
  congr 1
  simp only [show Bc.dcp I ((j 0).val + 1) (j 1).val = Bc.dc I (j 0).val (j 1).val from rfl]
  ring

theorem r225 : val_main_v225 (F := Ideal) (fz I.z) (fl I.pb) (fl I.pc) (f3 I.w) (f1 I.g) (f1 I.b) (fs I.s) (fb I.bias) = fz (Bc.dz I) := by
  funext j
  pointwise [val_main_v225, val_main_v224, val_main_v223, val_main_v222, r187 I, r220 I, r10 I, r9 I, r185 I, r173 I, fz, fl, fcl, f3, f1, fs, fb, f4]
  simp only [lit_half, lit_negh, lit3, litC, litK, lit_eps, lit512, lit2, Ideal.tanh_coe, Bc.coe_sum, div512, ← EReal.coe_mul, ← EReal.coe_add, ← EReal.coe_sub, ← EReal.coe_neg, ← EReal.coe_one, ← EReal.coe_zero]
  have hj : (j 1).val < 2560 := (j 1).isLt
  rw [Bc.dz]
  split_ifs
  all_goals first
    | omega
    | rfl
    | rw [show 1024 + ((j 1).val - 512) = (j 1).val + 512 by omega]
    | rw [mul_comm, show 512 + ((j 1).val - 512 - 512) = (j 1).val - 512 by omega]; rfl
end Cert.ReferenceIdeal.Math
end
end
-- ==== Proof.BcEq.lean ====
module

public import proofs.«01_k».proof.Defs
public import proofs.«01_k».proof.Proof.BcArray
public import proofs.«01_k».proof.Proof.BcRef
public import Idealize.ShloMosaic.Lib.KernelVsHost
public import proofs.«01_k».proof.Proof.Gen.Pre_finite
public import proofs.«01_k».proof.Proof.Gen.ReferenceIdeal.Run

@[expose] public section

noncomputable section

/-! The two programs at the extended reals: real arrays read off finite arguments, the kernel's six results and the
    reference's six results as the same real arrays. -/

namespace Cert.BcEq

open Idealize.ShloMosaic Idealize.ShloMosaic.TcCoe Idealize.SL.Sem Idealize.ShloMosaic.StableHlo
open Cert.KernelIdeal.Array (Fits)
open Cert.ReferenceIdeal.Math
attribute [local instance] Cert.Pre_finite.Gen.facts

variable (m : (ℓ : Loc Cert.KernelIdeal.nD Cert.KernelIdeal.τ Cert.KernelIdeal.sig) → Buf (Elt Ideal) ℓ) (c : Dev Cert.KernelIdeal.nD)

/-- The real entry of a table at a pair of positions, zero outside the table. -/
def at2 (R C : ℕ) (f : Fin R → Fin C → EReal) (r c : ℕ) : ℝ :=
  if h : r < R ∧ c < C then (f ⟨r, h.1⟩ ⟨c, h.2⟩).toReal else 0
/-- The real entry of a row at a position, zero outside the row. -/
def at1 (R : ℕ) (f : Fin R → EReal) (r : ℕ) : ℝ := if h : r < R then (f ⟨r, h⟩).toReal else 0
/-- The real entry of a stack of tables at three positions, zero outside. -/
def at3 (A R C : ℕ) (f : Fin A → Fin R → Fin C → EReal) (a r c : ℕ) : ℝ :=
  if h : a < A ∧ r < R ∧ c < C then (f ⟨a, h.1⟩ ⟨r, h.2.1⟩ ⟨c, h.2.2⟩).toReal else 0

theorem at2_out (R C : ℕ) (f : Fin R → Fin C → EReal) (r c : ℕ) (h : R ≤ r) : at2 R C f r c = 0 :=
  dif_neg (by omega)

/-- The real arrays that the arguments in memory hold. -/
def reals : Bc.In where
  z := at2 16384 2560 fun r k => m ((c : Thread Cert.KernelIdeal.nD Cert.KernelIdeal.τ).loc Cert.KernelIdeal.main_arg0) (ix2 r k)
  pb := at2 16384 512 fun r k => m ((c : Thread Cert.KernelIdeal.nD Cert.KernelIdeal.τ).loc Cert.KernelIdeal.main_arg1) (ix2 r k)
  pc := at2 16384 512 fun r k => m ((c : Thread Cert.KernelIdeal.nD Cert.KernelIdeal.τ).loc Cert.KernelIdeal.main_arg2) (ix2 r k)
  w := at2 3 512 fun r k => m ((c : Thread Cert.KernelIdeal.nD Cert.KernelIdeal.τ).loc Cert.KernelIdeal.main_arg3) (ix2 r k)
  g := at1 512 fun r => m ((c : Thread Cert.KernelIdeal.nD Cert.KernelIdeal.τ).loc Cert.KernelIdeal.main_arg4) (ix1 r)
  b := at1 512 fun r => m ((c : Thread Cert.KernelIdeal.nD Cert.KernelIdeal.τ).loc Cert.KernelIdeal.main_arg5) (ix1 r)
  s := at3 4 128 128 fun a r k => m ((c : Thread Cert.KernelIdeal.nD Cert.KernelIdeal.τ).loc Cert.KernelIdeal.main_arg6) (ix3 a r k)
  bias p j := at2 4 128 (fun a r => m ((c : Thread Cert.KernelIdeal.nD Cert.KernelIdeal.τ).loc Cert.KernelIdeal.main_arg7) (ix2 a r)) (j / 128) p
  z_out r k h := at2_out _ _ _ _ _ h
  bias_head p j := by rw [Nat.mul_div_cancel_left _ (by omega)]

/-- A number whose absolute value compares below infinity is a real number. -/
theorem coe_of_finite (x : Ideal .f32)
    (h : FloatOps.cmpf .olt (FloatOps.hostAbsf x) (FloatOps.ofBits (F := Ideal) .f32 0x7F800000#32) = 1#1) :
    (((x : EReal).toReal : ℝ) : EReal) = x := by
  rw [← Idealize.ShloMosaic.Ideal.xori_weird_eq_hostAbsf_olt_inf] at h
  have hn : ¬ ((x : EReal) = ⊤ ∨ (x : EReal) = ⊥) := by
    intro hx
    have h' : IntOp.xori (BitVec.ofBool (decide ((x : EReal) = ⊤ ∨ (x : EReal) = ⊥))) 1#1 = 1#1 := h
    simp [hx, IntOp.xori] at h'
  exact EReal.coe_toReal (fun hx => hn (.inl hx)) fun hx => hn (.inr hx)

theorem at2_coe (R C : ℕ) (f : Fin R → Fin C → EReal) (r : Fin R) (k : Fin C) :
    at2 R C f r.val k.val = (f r k).toReal := dif_pos ⟨r.isLt, k.isLt⟩
theorem at1_coe (R : ℕ) (f : Fin R → EReal) (r : Fin R) : at1 R f r.val = (f r).toReal := dif_pos r.isLt
theorem at3_coe (A R C : ℕ) (f : Fin A → Fin R → Fin C → EReal) (a : Fin A) (r : Fin R) (k : Fin C) :
    at3 A R C f a.val r.val k.val = (f a r k).toReal := dif_pos ⟨a.isLt, r.isLt, k.isLt⟩

/-- Finite arguments are the real arrays read off them. -/
theorem fits (h : Cert.Pre_KernelIdeal_finite m) : Fits m c (reals m c) := by
  have hc := h c
  obtain ⟨h0, h1, h2, h3, h4, h5, h6, h7⟩ := hc
  constructor
  case z =>
    intro j
    refine (coe_of_finite (m ((c : Thread Cert.KernelIdeal.nD Cert.KernelIdeal.τ).loc Cert.KernelIdeal.main_arg0) j) (congrFun h0 j)).symm.trans (congrArg (fun r : ℝ => (r : EReal)) ?_)
    refine Eq.trans ?_ (at2_coe 16384 2560 (fun r k => m ((c : Thread Cert.KernelIdeal.nD Cert.KernelIdeal.τ).loc Cert.KernelIdeal.main_arg0) (ix2 r k)) (j 0) (j 1)).symm
    exact congrArg (fun i => EReal.toReal (m ((c : Thread Cert.KernelIdeal.nD Cert.KernelIdeal.τ).loc Cert.KernelIdeal.main_arg0) i)) (funext fun a => by fin_cases a <;> rfl)
  case pb =>
    intro j
    refine (coe_of_finite (m ((c : Thread Cert.KernelIdeal.nD Cert.KernelIdeal.τ).loc Cert.KernelIdeal.main_arg1) j) (congrFun h1 j)).symm.trans (congrArg (fun r : ℝ => (r : EReal)) ?_)
    refine Eq.trans ?_ (at2_coe 16384 512 (fun r k => m ((c : Thread Cert.KernelIdeal.nD Cert.KernelIdeal.τ).loc Cert.KernelIdeal.main_arg1) (ix2 r k)) (j 0) (j 1)).symm
    exact congrArg (fun i => EReal.toReal (m ((c : Thread Cert.KernelIdeal.nD Cert.KernelIdeal.τ).loc Cert.KernelIdeal.main_arg1) i)) (funext fun a => by fin_cases a <;> rfl)
  case pc =>
    intro j
    refine (coe_of_finite (m ((c : Thread Cert.KernelIdeal.nD Cert.KernelIdeal.τ).loc Cert.KernelIdeal.main_arg2) j) (congrFun h2 j)).symm.trans (congrArg (fun r : ℝ => (r : EReal)) ?_)
    refine Eq.trans ?_ (at2_coe 16384 512 (fun r k => m ((c : Thread Cert.KernelIdeal.nD Cert.KernelIdeal.τ).loc Cert.KernelIdeal.main_arg2) (ix2 r k)) (j 0) (j 1)).symm
    exact congrArg (fun i => EReal.toReal (m ((c : Thread Cert.KernelIdeal.nD Cert.KernelIdeal.τ).loc Cert.KernelIdeal.main_arg2) i)) (funext fun a => by fin_cases a <;> rfl)
  case w =>
    intro j
    refine (coe_of_finite (m ((c : Thread Cert.KernelIdeal.nD Cert.KernelIdeal.τ).loc Cert.KernelIdeal.main_arg3) j) (congrFun h3 j)).symm.trans (congrArg (fun r : ℝ => (r : EReal)) ?_)
    refine Eq.trans ?_ (at2_coe 3 512 (fun r k => m ((c : Thread Cert.KernelIdeal.nD Cert.KernelIdeal.τ).loc Cert.KernelIdeal.main_arg3) (ix2 r k)) (j 0) (j 1)).symm
    exact congrArg (fun i => EReal.toReal (m ((c : Thread Cert.KernelIdeal.nD Cert.KernelIdeal.τ).loc Cert.KernelIdeal.main_arg3) i)) (funext fun a => by fin_cases a <;> rfl)
  case g =>
    intro j
    refine (coe_of_finite (m ((c : Thread Cert.KernelIdeal.nD Cert.KernelIdeal.τ).loc Cert.KernelIdeal.main_arg4) j) (congrFun h4 j)).symm.trans (congrArg (fun r : ℝ => (r : EReal)) ?_)
    refine Eq.trans ?_ (at1_coe 512 (fun r => m ((c : Thread Cert.KernelIdeal.nD Cert.KernelIdeal.τ).loc Cert.KernelIdeal.main_arg4) (ix1 r)) (j 0)).symm
    exact congrArg (fun i => EReal.toReal (m ((c : Thread Cert.KernelIdeal.nD Cert.KernelIdeal.τ).loc Cert.KernelIdeal.main_arg4) i)) (funext fun a => by fin_cases a <;> rfl)
  case b =>
    intro j
    refine (coe_of_finite (m ((c : Thread Cert.KernelIdeal.nD Cert.KernelIdeal.τ).loc Cert.KernelIdeal.main_arg5) j) (congrFun h5 j)).symm.trans (congrArg (fun r : ℝ => (r : EReal)) ?_)
    refine Eq.trans ?_ (at1_coe 512 (fun r => m ((c : Thread Cert.KernelIdeal.nD Cert.KernelIdeal.τ).loc Cert.KernelIdeal.main_arg5) (ix1 r)) (j 0)).symm
    exact congrArg (fun i => EReal.toReal (m ((c : Thread Cert.KernelIdeal.nD Cert.KernelIdeal.τ).loc Cert.KernelIdeal.main_arg5) i)) (funext fun a => by fin_cases a <;> rfl)
  case s =>
    intro j
    refine (coe_of_finite (m ((c : Thread Cert.KernelIdeal.nD Cert.KernelIdeal.τ).loc Cert.KernelIdeal.main_arg6) j) (congrFun h6 j)).symm.trans (congrArg (fun r : ℝ => (r : EReal)) ?_)
    refine Eq.trans ?_ (at3_coe 4 128 128 (fun a r k => m ((c : Thread Cert.KernelIdeal.nD Cert.KernelIdeal.τ).loc Cert.KernelIdeal.main_arg6) (ix3 a r k)) (j 0) (j 1) (j 2)).symm
    exact congrArg (fun i => EReal.toReal (m ((c : Thread Cert.KernelIdeal.nD Cert.KernelIdeal.τ).loc Cert.KernelIdeal.main_arg6) i)) (funext fun a => by fin_cases a <;> rfl)
  case bias =>
    intro j k hk
    refine (coe_of_finite (m ((c : Thread Cert.KernelIdeal.nD Cert.KernelIdeal.τ).loc Cert.KernelIdeal.main_arg7) j) (congrFun h7 j)).symm.trans (congrArg (fun r : ℝ => (r : EReal)) ?_)
    show _ = at2 4 128 (fun r k => m ((c : Thread Cert.KernelIdeal.nD Cert.KernelIdeal.τ).loc Cert.KernelIdeal.main_arg7) (ix2 r k)) ((128 * (j 0).val + k) / 128) (j 1).val
    rw [show (128 * (j 0).val + k) / 128 = (j 0).val by omega]
    refine Eq.trans ?_ (at2_coe 4 128 (fun r k => m ((c : Thread Cert.KernelIdeal.nD Cert.KernelIdeal.τ).loc Cert.KernelIdeal.main_arg7) (ix2 r k)) (j 0) (j 1)).symm
    exact congrArg (fun i => EReal.toReal (m ((c : Thread Cert.KernelIdeal.nD Cert.KernelIdeal.τ).loc Cert.KernelIdeal.main_arg7) i)) (funext fun a => by fin_cases a <;> rfl)

/-- `BC`: the kernel and the reference, from finite arguments that agree, end with the same six arrays. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hp hag
  have hf : ∀ c, Fits m c (reals m c) := fun c => fits m c hp
  refine ⟨fun c => fz (Bc.dz (reals m c)), fun c => f3 (Bc.dw (reals m c)), fun c => fr (Bc.dg (reals m c)), fun c => fr (Bc.db (reals m c)), fun c => fs (Bc.ds (reals m c)), fun c => fbi (Bc.dbias (reals m c)), ?_, ?_⟩
  · refine (θ_run Cert.KernelIdeal.defs _ _).mono (fun r h c => ?_) (Cert.KernelIdeal.Value.run_blocks m ρ)
    obtain ⟨k0, k1, k2, k3, k4, k5, hk⟩ := h c
    exact ⟨k0.trans (Cert.KernelIdeal.Array.arr13 (hf c)), k1.trans (Cert.KernelIdeal.Array.arr14 (hf c)), k2.trans (Cert.KernelIdeal.Array.arr15 (hf c)), k3.trans (Cert.KernelIdeal.Array.arr16 (hf c)), k4.trans (Cert.KernelIdeal.Array.arr17 (hf c)), k5.trans (Cert.KernelIdeal.Array.arr18 (hf c)), hk⟩
  · refine (θ_run Cert.ReferenceIdeal.defs _ _).mono (fun r h c => ?_) (Cert.ReferenceIdeal.Value.run (F := Ideal) m' ρ')
    obtain ⟨k0, k1, k2, k3, k4, k5, hk⟩ := h c
    obtain ⟨a0, a1, a2, a3, a4, a5, a6, a7⟩ := hag c
    have e0 : launchContents m' c (Proc.devRef .tc Cert.ReferenceIdeal.main_arg0) = fz (reals m c).z := (launchContents_devRef m' c _).trans (a0.trans (funext fun j => (hf c).z j))
    have e1 : launchContents m' c (Proc.devRef .tc Cert.ReferenceIdeal.main_arg1) = fl (reals m c).pb := (launchContents_devRef m' c _).trans (a1.trans (funext fun j => (hf c).pb j))
    have e2 : launchContents m' c (Proc.devRef .tc Cert.ReferenceIdeal.main_arg2) = fl (reals m c).pc := (launchContents_devRef m' c _).trans (a2.trans (funext fun j => (hf c).pc j))
    have e3 : launchContents m' c (Proc.devRef .tc Cert.ReferenceIdeal.main_arg3) = f3 (reals m c).w := (launchContents_devRef m' c _).trans (a3.trans (funext fun j => (hf c).w j))
    have e4 : launchContents m' c (Proc.devRef .tc Cert.ReferenceIdeal.main_arg4) = f1 (reals m c).g := (launchContents_devRef m' c _).trans (a4.trans (funext fun j => (hf c).g j))
    have e5 : launchContents m' c (Proc.devRef .tc Cert.ReferenceIdeal.main_arg5) = f1 (reals m c).b := (launchContents_devRef m' c _).trans (a5.trans (funext fun j => (hf c).b j))
    have e6 : launchContents m' c (Proc.devRef .tc Cert.ReferenceIdeal.main_arg6) = fs (reals m c).s := (launchContents_devRef m' c _).trans (a6.trans (funext fun j => (hf c).s j))
    have e7 : launchContents m' c (Proc.devRef .tc Cert.ReferenceIdeal.main_arg7) = fb (reals m c).bias := (launchContents_devRef m' c _).trans (a7.trans (funext fun j => (hf c).bias j 0 (by decide)))
    have q0 := (Cert.ReferenceIdeal.Read.val_main_v225_eq (F := Ideal) (launchContents m' c)).trans (show _ = fz (Bc.dz (reals m c)) by rw [e0, e1, e2, e3, e4, e5, e6, e7, r225])
    have q1 := (Cert.ReferenceIdeal.Read.val_main_v216_eq (F := Ideal) (launchContents m' c)).trans (show _ = f3 (Bc.dw (reals m c)) by rw [e0, e1, r216])
    have q2 := (Cert.ReferenceIdeal.Read.val_main_v135_eq (F := Ideal) (launchContents m' c)).trans (show _ = fr (Bc.dg (reals m c)) by rw [e0, e2, e6, r135])
    have q3 := (Cert.ReferenceIdeal.Read.val_main_v132_eq (F := Ideal) (launchContents m' c)).trans (show _ = fr (Bc.db (reals m c)) by rw [e0, e2, e6, r132])
    have q4 := (Cert.ReferenceIdeal.Read.val_main_v127_eq (F := Ideal) (launchContents m' c)).trans (show _ = fs (Bc.ds (reals m c)) by rw [e0, e2, e4, e5, r127])
    have q5 := (Cert.ReferenceIdeal.Read.val_main_v125_eq (F := Ideal) (launchContents m' c)).trans (show _ = fbi (Bc.dbias (reals m c)) by rw [e0, e2, r125])
    exact ⟨k0.trans q0, k1.trans q1, k2.trans q2, k3.trans q3, k4.trans q4, k5.trans q5, hk⟩

/-- The reference leaves its arguments as they were, and no counter behind. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The two names given to rounded constants stand for the values stated. -/
theorem preserves : Cert.preserves_Kernel_KernelIdeal :=
  ⟨IdealRules.named_const.statement _ _ _ _ _ rfl, IdealRules.named_const.statement _ _ _ _ _ rfl⟩

end Cert.BcEq

end
-- ==== Proof.lean ====
module

public import proofs.«01_k».proof.Proof.Gen.DwUp.Frame
public import proofs.«01_k».proof.Proof.Gen.DwUpIdeal.Value
public import proofs.«01_k».proof.Proof.Gen.RefDwUpIdeal.Run
public import proofs.«01_k».proof.Proof.Gen.RefDwUpIdeal.Read
public import proofs.«01_k».proof.Proof.DwUpEq
public import proofs.«01_k».proof.Proof.Gen.DwDown.Frame
public import proofs.«01_k».proof.Proof.Gen.DwDownIdeal.Value
public import proofs.«01_k».proof.Proof.Gen.RefDwDownIdeal.Run
public import proofs.«01_k».proof.Proof.Gen.RefDwDownIdeal.Read
public import proofs.«01_k».proof.Proof.DwDownEq
public import proofs.«01_k».proof.Proof.Gen.DwGate.Frame
public import proofs.«01_k».proof.Proof.Gen.DwGateIdeal.Value
public import proofs.«01_k».proof.Proof.Gen.RefDwGateIdeal.Run
public import proofs.«01_k».proof.Proof.Gen.RefDwGateIdeal.Read
public import proofs.«01_k».proof.Proof.DwGateEq
public import proofs.«01_k».proof.Proof.Gen.DwMid.Frame
public import proofs.«01_k».proof.Proof.Gen.DwMidIdeal.Value
public import proofs.«01_k».proof.Proof.Gen.RefDwMidIdeal.Run
public import proofs.«01_k».proof.Proof.Gen.RefDwMidIdeal.Read
public import proofs.«01_k».proof.Proof.DwMidEq
public import proofs.«01_k».proof.Proof.Gen.DwMerge.Frame
public import proofs.«01_k».proof.Proof.Gen.DwMergeIdeal.Value
public import proofs.«01_k».proof.Proof.Gen.RefDwMergeIdeal.Run
public import proofs.«01_k».proof.Proof.Gen.RefDwMergeIdeal.Read
public import proofs.«01_k».proof.Proof.DwMergeEq
public import proofs.«01_k».proof.Proof.Gen.DwOut.Frame
public import proofs.«01_k».proof.Proof.Gen.DwOutIdeal.Value
public import proofs.«01_k».proof.Proof.Gen.RefDwOutIdeal.Run
public import proofs.«01_k».proof.Proof.Gen.RefDwOutIdeal.Read
public import proofs.«01_k».proof.Proof.DwOutEq
public import proofs.«01_k».proof.Proof.Gen.DwSmall.Frame
public import proofs.«01_k».proof.Proof.Gen.DwSmallIdeal.Value
public import proofs.«01_k».proof.Proof.Gen.RefDwSmallIdeal.Run
public import proofs.«01_k».proof.Proof.Gen.RefDwSmallIdeal.Read
public import proofs.«01_k».proof.Proof.DwSmallEq
public import proofs.«01_k».proof.Proof.Gen.Up.Frame
public import proofs.«01_k».proof.Proof.Gen.UpIdeal.Value
public import proofs.«01_k».proof.Proof.Gen.RefUpIdeal.Run
public import proofs.«01_k».proof.Proof.Gen.RefUpIdeal.Read
public import proofs.«01_k».proof.Proof.UpEq
public import proofs.«01_k».proof.Proof.Gen.Down.Frame
public import proofs.«01_k».proof.Proof.Gen.DownIdeal.Value
public import proofs.«01_k».proof.Proof.Gen.RefDownIdeal.Run
public import proofs.«01_k».proof.Proof.Gen.RefDownIdeal.Read
public import proofs.«01_k».proof.Proof.DownEq
public import proofs.«01_k».proof.Proof.Gen.MixIn.Frame
public import proofs.«01_k».proof.Proof.Gen.MixInIdeal.Value
public import proofs.«01_k».proof.Proof.Gen.RefMixInIdeal.Run
public import proofs.«01_k».proof.Proof.Gen.RefMixInIdeal.Read
public import proofs.«01_k».proof.Proof.MixInEq
public import proofs.«01_k».proof.Proof.Gen.MixProj.Frame
public import proofs.«01_k».proof.Proof.Gen.MixProjIdeal.Value
public import proofs.«01_k».proof.Proof.Gen.RefMixProjIdeal.Run
public import proofs.«01_k».proof.Proof.Gen.RefMixProjIdeal.Read
public import proofs.«01_k».proof.Proof.MixProjEq
public import proofs.«01_k».proof.Proof.Gen.MixOut.Frame
public import proofs.«01_k».proof.Proof.Gen.MixOutIdeal.Value
public import proofs.«01_k».proof.Proof.Gen.RefMixOutIdeal.Run
public import proofs.«01_k».proof.Proof.Gen.RefMixOutIdeal.Read
public import proofs.«01_k».proof.Proof.MixOutEq
public import proofs.«01_k».proof.Proof.Gen.BackProj.Frame
public import proofs.«01_k».proof.Proof.Gen.BackProjIdeal.Value
public import proofs.«01_k».proof.Proof.Gen.RefBackProjIdeal.Run
public import proofs.«01_k».proof.Proof.Gen.RefBackProjIdeal.Read
public import proofs.«01_k».proof.Proof.BackProjEq
public import proofs.«01_k».proof.Proof.Gen.Pre.Frame
public import proofs.«01_k».proof.Proof.Gen.PreIdeal.Value
public import proofs.«01_k».proof.Proof.Gen.RefPreIdeal.Run
public import proofs.«01_k».proof.Proof.Gen.RefPreIdeal.Read
public import proofs.«01_k».proof.Proof.Gen.Pre_finite_pre
public import proofs.«01_k».proof.Proof.PreEq
public import proofs.«01_k».proof.Proof.Gen.BackIn.Frame
public import proofs.«01_k».proof.Proof.Gen.BackInIdeal.Value
public import proofs.«01_k».proof.Proof.Gen.RefBackInIdeal.Run
public import proofs.«01_k».proof.Proof.Gen.RefBackInIdeal.Read
public import proofs.«01_k».proof.Proof.Gen.Pre_finite_backin
public import proofs.«01_k».proof.Proof.BackInEq
public import proofs.«01_k».proof.Proof.Gen.Post.Frame
public import proofs.«01_k».proof.Proof.Gen.PostIdeal.Value
public import proofs.«01_k».proof.Proof.Gen.RefPostIdeal.Run
public import proofs.«01_k».proof.Proof.Gen.RefPostIdeal.Read
public import proofs.«01_k».proof.Proof.Gen.Pre_finite_post
public import proofs.«01_k».proof.Proof.PostEq
public import proofs.«01_k».proof.Proof.Gen.MixBack.Frame
public import proofs.«01_k».proof.Proof.Gen.MixBackIdeal.Value
public import proofs.«01_k».proof.Proof.Gen.RefMixBackIdeal.Run
public import proofs.«01_k».proof.Proof.Gen.RefMixBackIdeal.Read
public import proofs.«01_k».proof.Proof.Gen.Pre_finite_mixback
public import proofs.«01_k».proof.Proof.MixBackEq
public import proofs.«01_k».proof.Proof.Gen.UpdUp.Frame
public import proofs.«01_k».proof.Proof.Gen.UpdUpIdeal.Value
public import proofs.«01_k».proof.Proof.Gen.RefUpdUpIdeal.Run
public import proofs.«01_k».proof.Proof.Gen.RefUpdUpIdeal.Read
public import proofs.«01_k».proof.Proof.UpdUpEq
public import proofs.«01_k».proof.Proof.Gen.UpdDown.Frame
public import proofs.«01_k».proof.Proof.Gen.UpdDownIdeal.Value
public import proofs.«01_k».proof.Proof.Gen.RefUpdDownIdeal.Run
public import proofs.«01_k».proof.Proof.Gen.RefUpdDownIdeal.Read
public import proofs.«01_k».proof.Proof.UpdDownEq
public import proofs.«01_k».proof.Proof.Gen.UpdIn.Frame
public import proofs.«01_k».proof.Proof.Gen.UpdInIdeal.Value
public import proofs.«01_k».proof.Proof.Gen.RefUpdInIdeal.Run
public import proofs.«01_k».proof.Proof.Gen.RefUpdInIdeal.Read
public import proofs.«01_k».proof.Proof.UpdInEq
public import proofs.«01_k».proof.Proof.Gen.UpdGate.Frame
public import proofs.«01_k».proof.Proof.Gen.UpdGateIdeal.Value
public import proofs.«01_k».proof.Proof.Gen.RefUpdGateIdeal.Run
public import proofs.«01_k».proof.Proof.Gen.RefUpdGateIdeal.Read
public import proofs.«01_k».proof.Proof.UpdGateEq
public import proofs.«01_k».proof.Proof.Gen.UpdOut.Frame
public import proofs.«01_k».proof.Proof.Gen.UpdOutIdeal.Value
public import proofs.«01_k».proof.Proof.Gen.RefUpdOutIdeal.Run
public import proofs.«01_k».proof.Proof.Gen.RefUpdOutIdeal.Read
public import proofs.«01_k».proof.Proof.UpdOutEq
public import proofs.«01_k».proof.Proof.Gen.UpdBranch.Frame
public import proofs.«01_k».proof.Proof.Gen.UpdBranchIdeal.Value
public import proofs.«01_k».proof.Proof.Gen.RefUpdBranchIdeal.Run
public import proofs.«01_k».proof.Proof.Gen.RefUpdBranchIdeal.Read
public import proofs.«01_k».proof.Proof.UpdBranchEq
public import proofs.«01_k».proof.Proof.Gen.UpdVec.Frame
public import proofs.«01_k».proof.Proof.Gen.UpdVecIdeal.Value
public import proofs.«01_k».proof.Proof.Gen.RefUpdVecIdeal.Run
public import proofs.«01_k».proof.Proof.Gen.RefUpdVecIdeal.Read
public import proofs.«01_k».proof.Proof.UpdVecEq
public import proofs.«01_k».proof.Proof.Gen.Loss.Frame
public import proofs.«01_k».proof.Proof.Gen.LossIdeal.Value
public import proofs.«01_k».proof.Proof.Gen.RefLossIdeal.Run
public import proofs.«01_k».proof.Proof.Gen.RefLossIdeal.Read
public import proofs.«01_k».proof.Proof.LossEq
public import proofs.«01_k».proof.Proof.Gen.ConvBack.Frame
public import proofs.«01_k».proof.Proof.Gen.ConvBackIdeal.Value
public import proofs.«01_k».proof.Proof.Gen.RefConvBackIdeal.Run
public import proofs.«01_k».proof.Proof.Gen.RefConvBackIdeal.Read
public import proofs.«01_k».proof.Proof.ConvBackEq
public import proofs.«01_k».proof.Proof.Gen.SumParts.Frame
public import proofs.«01_k».proof.Proof.Gen.SumPartsIdeal.Value
public import proofs.«01_k».proof.Proof.Gen.RefSumPartsIdeal.Run
public import proofs.«01_k».proof.Proof.Gen.RefSumPartsIdeal.Read
public import proofs.«01_k».proof.Proof.SumPartsEq
public import proofs.«01_k».proof.Proof.Gen.PairSum.Frame
public import proofs.«01_k».proof.Proof.Gen.PairSumIdeal.Value
public import proofs.«01_k».proof.Proof.Gen.RefPairSumIdeal.Run
public import proofs.«01_k».proof.Proof.Gen.RefPairSumIdeal.Read
public import proofs.«01_k».proof.Proof.PairSumEq
public import proofs.«01_k».proof.Proof.Gen.ChipSum.Frame
public import proofs.«01_k».proof.Proof.Gen.ChipSumIdeal.Value
public import proofs.«01_k».proof.Proof.Gen.RefChipSumIdeal.Run
public import proofs.«01_k».proof.Proof.Gen.RefChipSumIdeal.Read
public import proofs.«01_k».proof.Proof.ChipSumEq
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.BcEq
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.ReferenceIdeal.Gen.facts,
    Cert.DwUp.Gen.facts,
    Cert.DwUpIdeal.Gen.facts,
    Cert.RefDwUpIdeal.Gen.facts,
    Cert.DwDown.Gen.facts,
    Cert.DwDownIdeal.Gen.facts,
    Cert.RefDwDownIdeal.Gen.facts,
    Cert.DwGate.Gen.facts,
    Cert.DwGateIdeal.Gen.facts,
    Cert.RefDwGateIdeal.Gen.facts,
    Cert.DwMid.Gen.facts,
    Cert.DwMidIdeal.Gen.facts,
    Cert.RefDwMidIdeal.Gen.facts,
    Cert.DwMerge.Gen.facts,
    Cert.DwMergeIdeal.Gen.facts,
    Cert.RefDwMergeIdeal.Gen.facts,
    Cert.DwOut.Gen.facts,
    Cert.DwOutIdeal.Gen.facts,
    Cert.RefDwOutIdeal.Gen.facts,
    Cert.DwSmall.Gen.facts,
    Cert.DwSmallIdeal.Gen.facts,
    Cert.RefDwSmallIdeal.Gen.facts,
    Cert.Up.Gen.facts,
    Cert.UpIdeal.Gen.facts,
    Cert.RefUpIdeal.Gen.facts,
    Cert.Down.Gen.facts,
    Cert.DownIdeal.Gen.facts,
    Cert.RefDownIdeal.Gen.facts,
    Cert.MixIn.Gen.facts,
    Cert.MixInIdeal.Gen.facts,
    Cert.RefMixInIdeal.Gen.facts,
    Cert.MixProj.Gen.facts,
    Cert.MixProjIdeal.Gen.facts,
    Cert.RefMixProjIdeal.Gen.facts,
    Cert.MixOut.Gen.facts,
    Cert.MixOutIdeal.Gen.facts,
    Cert.RefMixOutIdeal.Gen.facts,
    Cert.BackProj.Gen.facts,
    Cert.BackProjIdeal.Gen.facts,
    Cert.RefBackProjIdeal.Gen.facts,
    Cert.Pre.Gen.facts,
    Cert.PreIdeal.Gen.facts,
    Cert.RefPreIdeal.Gen.facts,
    Cert.BackIn.Gen.facts,
    Cert.BackInIdeal.Gen.facts,
    Cert.RefBackInIdeal.Gen.facts,
    Cert.Post.Gen.facts,
    Cert.PostIdeal.Gen.facts,
    Cert.RefPostIdeal.Gen.facts,
    Cert.MixBack.Gen.facts,
    Cert.MixBackIdeal.Gen.facts,
    Cert.RefMixBackIdeal.Gen.facts,
    Cert.UpdUp.Gen.facts,
    Cert.UpdUpIdeal.Gen.facts,
    Cert.RefUpdUpIdeal.Gen.facts,
    Cert.UpdDown.Gen.facts,
    Cert.UpdDownIdeal.Gen.facts,
    Cert.RefUpdDownIdeal.Gen.facts,
    Cert.UpdIn.Gen.facts,
    Cert.UpdInIdeal.Gen.facts,
    Cert.RefUpdInIdeal.Gen.facts,
    Cert.UpdGate.Gen.facts,
    Cert.UpdGateIdeal.Gen.facts,
    Cert.RefUpdGateIdeal.Gen.facts,
    Cert.UpdOut.Gen.facts,
    Cert.UpdOutIdeal.Gen.facts,
    Cert.RefUpdOutIdeal.Gen.facts,
    Cert.UpdBranch.Gen.facts,
    Cert.UpdBranchIdeal.Gen.facts,
    Cert.RefUpdBranchIdeal.Gen.facts,
    Cert.UpdVec.Gen.facts,
    Cert.UpdVecIdeal.Gen.facts,
    Cert.RefUpdVecIdeal.Gen.facts,
    Cert.Loss.Gen.facts,
    Cert.LossIdeal.Gen.facts,
    Cert.RefLossIdeal.Gen.facts,
    Cert.ConvBack.Gen.facts,
    Cert.ConvBackIdeal.Gen.facts,
    Cert.RefConvBackIdeal.Gen.facts,
    Cert.SumParts.Gen.facts,
    Cert.SumPartsIdeal.Gen.facts,
    Cert.RefSumPartsIdeal.Gen.facts,
    Cert.PairSum.Gen.facts,
    Cert.PairSumIdeal.Gen.facts,
    Cert.RefPairSumIdeal.Gen.facts,
    Cert.ChipSum.Gen.facts,
    Cert.ChipSumIdeal.Gen.facts,
    Cert.RefChipSumIdeal.Gen.facts,
    Cert.Pre_finite.Gen.facts,
    Cert.Pre_finite_pre.Gen.facts,
    Cert.Pre_finite_backin.Gen.facts,
    Cert.Pre_finite_post.Gen.facts,
    Cert.Pre_finite_mixback.Gen.facts,
    fun m ρ _ => Cert.Kernel.Gen.frame m ρ,
    fun m ρ _ => Cert.KernelIdeal.Gen.frame m ρ,
    fun m ρ _ => Cert.KernelIdeal.Gen.frame m ρ,
    Cert.BcEq.frame_reference,
    fun m ρ _ => Cert.BcEq.frame_reference m ρ trivial,
    fun m ρ _ => Cert.DwUp.Gen.frame m ρ,
    fun m ρ _ => Cert.DwUpIdeal.Gen.frame m ρ,
    Cert.DwUpEq.frame_reference,
    fun m ρ _ => Cert.DwDown.Gen.frame m ρ,
    fun m ρ _ => Cert.DwDownIdeal.Gen.frame m ρ,
    Cert.DwDownEq.frame_reference,
    fun m ρ _ => Cert.DwGate.Gen.frame m ρ,
    fun m ρ _ => Cert.DwGateIdeal.Gen.frame m ρ,
    Cert.DwGateEq.frame_reference,
    fun m ρ _ => Cert.DwMid.Gen.frame m ρ,
    fun m ρ _ => Cert.DwMidIdeal.Gen.frame m ρ,
    Cert.DwMidEq.frame_reference,
    fun m ρ _ => Cert.DwMerge.Gen.frame m ρ,
    fun m ρ _ => Cert.DwMergeIdeal.Gen.frame m ρ,
    Cert.DwMergeEq.frame_reference,
    fun m ρ _ => Cert.DwOut.Gen.frame m ρ,
    fun m ρ _ => Cert.DwOutIdeal.Gen.frame m ρ,
    Cert.DwOutEq.frame_reference,
    fun m ρ _ => Cert.DwSmall.Gen.frame m ρ,
    fun m ρ _ => Cert.DwSmallIdeal.Gen.frame m ρ,
    Cert.DwSmallEq.frame_reference,
    fun m ρ _ => Cert.Up.Gen.frame m ρ,
    fun m ρ _ => Cert.UpIdeal.Gen.frame m ρ,
    Cert.UpEq.frame_reference,
    fun m ρ _ => Cert.Down.Gen.frame m ρ,
    fun m ρ _ => Cert.DownIdeal.Gen.frame m ρ,
    Cert.DownEq.frame_reference,
    fun m ρ _ => Cert.MixIn.Gen.frame m ρ,
    fun m ρ _ => Cert.MixInIdeal.Gen.frame m ρ,
    Cert.MixInEq.frame_reference,
    fun m ρ _ => Cert.MixProj.Gen.frame m ρ,
    fun m ρ _ => Cert.MixProjIdeal.Gen.frame m ρ,
    Cert.MixProjEq.frame_reference,
    fun m ρ _ => Cert.MixOut.Gen.frame m ρ,
    fun m ρ _ => Cert.MixOutIdeal.Gen.frame m ρ,
    Cert.MixOutEq.frame_reference,
    fun m ρ _ => Cert.BackProj.Gen.frame m ρ,
    fun m ρ _ => Cert.BackProjIdeal.Gen.frame m ρ,
    Cert.BackProjEq.frame_reference,
    fun m ρ _ => Cert.Pre.Gen.frame m ρ,
    fun m ρ _ => Cert.PreIdeal.Gen.frame m ρ,
    fun m ρ _ => Cert.PreIdeal.Gen.frame m ρ,
    Cert.PreEq.frame_reference,
    fun m ρ _ => Cert.PreEq.frame_reference m ρ trivial,
    fun m ρ _ => Cert.BackIn.Gen.frame m ρ,
    fun m ρ _ => Cert.BackInIdeal.Gen.frame m ρ,
    fun m ρ _ => Cert.BackInIdeal.Gen.frame m ρ,
    Cert.BackInEq.frame_reference,
    fun m ρ _ => Cert.BackInEq.frame_reference m ρ trivial,
    fun m ρ _ => Cert.Post.Gen.frame m ρ,
    fun m ρ _ => Cert.PostIdeal.Gen.frame m ρ,
    fun m ρ _ => Cert.PostIdeal.Gen.frame m ρ,
    Cert.PostEq.frame_reference,
    fun m ρ _ => Cert.PostEq.frame_reference m ρ trivial,
    fun m ρ _ => Cert.MixBack.Gen.frame m ρ,
    fun m ρ _ => Cert.MixBackIdeal.Gen.frame m ρ,
    fun m ρ _ => Cert.MixBackIdeal.Gen.frame m ρ,
    Cert.MixBackEq.frame_reference,
    fun m ρ _ => Cert.MixBackEq.frame_reference m ρ trivial,
    fun m ρ _ => Cert.UpdUp.Gen.frame m ρ,
    fun m ρ _ => Cert.UpdUpIdeal.Gen.frame m ρ,
    Cert.UpdUpEq.frame_reference,
    fun m ρ _ => Cert.UpdDown.Gen.frame m ρ,
    fun m ρ _ => Cert.UpdDownIdeal.Gen.frame m ρ,
    Cert.UpdDownEq.frame_reference,
    fun m ρ _ => Cert.UpdIn.Gen.frame m ρ,
    fun m ρ _ => Cert.UpdInIdeal.Gen.frame m ρ,
    Cert.UpdInEq.frame_reference,
    fun m ρ _ => Cert.UpdGate.Gen.frame m ρ,
    fun m ρ _ => Cert.UpdGateIdeal.Gen.frame m ρ,
    Cert.UpdGateEq.frame_reference,
    fun m ρ _ => Cert.UpdOut.Gen.frame m ρ,
    fun m ρ _ => Cert.UpdOutIdeal.Gen.frame m ρ,
    Cert.UpdOutEq.frame_reference,
    fun m ρ _ => Cert.UpdBranch.Gen.frame m ρ,
    fun m ρ _ => Cert.UpdBranchIdeal.Gen.frame m ρ,
    Cert.UpdBranchEq.frame_reference,
    fun m ρ _ => Cert.UpdVec.Gen.frame m ρ,
    fun m ρ _ => Cert.UpdVecIdeal.Gen.frame m ρ,
    Cert.UpdVecEq.frame_reference,
    fun m ρ _ => Cert.Loss.Gen.frame m ρ,
    fun m ρ _ => Cert.LossIdeal.Gen.frame m ρ,
    Cert.LossEq.frame_reference,
    fun m ρ _ => Cert.ConvBack.Gen.frame m ρ,
    fun m ρ _ => Cert.ConvBackIdeal.Gen.frame m ρ,
    Cert.ConvBackEq.frame_reference,
    fun m ρ _ => Cert.SumParts.Gen.frame m ρ,
    fun m ρ _ => Cert.SumPartsIdeal.Gen.frame m ρ,
    Cert.SumPartsEq.frame_reference,
    fun m ρ _ => Cert.PairSum.Gen.frame m ρ,
    fun m ρ _ => Cert.PairSumIdeal.Gen.frame m ρ,
    Cert.PairSumEq.frame_reference,
    fun m ρ _ => Cert.ChipSum.Gen.frame m ρ,
    fun m ρ _ => Cert.ChipSumIdeal.Gen.frame m ρ,
    Cert.ChipSumEq.frame_reference,
    Cert.BcEq.preserves,
    Cert.BcEq.algebraic,
    trivial,
    Cert.DwUpEq.algebraic,
    trivial,
    Cert.DwDownEq.algebraic,
    trivial,
    Cert.DwGateEq.algebraic,
    trivial,
    Cert.DwMidEq.algebraic,
    trivial,
    Cert.DwMergeEq.algebraic,
    trivial,
    Cert.DwOutEq.algebraic,
    trivial,
    Cert.DwSmallEq.algebraic,
    trivial,
    Cert.UpEq.algebraic,
    trivial,
    Cert.DownEq.algebraic,
    trivial,
    Cert.MixInEq.algebraic,
    trivial,
    Cert.MixProjEq.algebraic,
    trivial,
    Cert.MixOutEq.algebraic,
    trivial,
    Cert.BackProjEq.algebraic,
    trivial,
    Cert.PreEq.algebraic,
    trivial,
    Cert.BackInEq.algebraic,
    trivial,
    Cert.PostEq.algebraic,
    trivial,
    Cert.MixBackEq.algebraic,
    trivial,
    Cert.UpdUpEq.algebraic,
    trivial,
    Cert.UpdDownEq.algebraic,
    trivial,
    Cert.UpdInEq.algebraic,
    trivial,
    Cert.UpdGateEq.algebraic,
    trivial,
    Cert.UpdOutEq.algebraic,
    trivial,
    Cert.UpdBranchEq.algebraic,
    trivial,
    Cert.UpdVecEq.algebraic,
    trivial,
    Cert.LossEq.algebraic,
    trivial,
    Cert.ConvBackEq.algebraic,
    trivial,
    Cert.SumPartsEq.algebraic,
    trivial,
    Cert.PairSumEq.algebraic,
    trivial,
    Cert.ChipSumEq.algebraic⟩

end Cert.Proof

end
